-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4)
      ∧ r.2.mem ((c.tc : Thread Cert.InEven.nD Cert.InEven.τ).loc Cert.InEven.main_arg5) = m ((c.tc : Thread Cert.InEven.nD Cert.InEven.τ).loc Cert.InEven.main_arg5))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
      ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3)
      ∧ r.2.mem ((c.tc : Thread Cert.InEvenRefIdeal.nD Cert.InEvenRefIdeal.τ).loc Cert.InEvenRefIdeal.main_arg4) = m ((c.tc : Thread Cert.InEvenRefIdeal.nD Cert.InEvenRefIdeal.τ).loc Cert.InEvenRefIdeal.main_arg4)
      ∧ r.2.mem ((c.tc : Thread Cert.InEvenRefIdeal.nD Cert.InEvenRefIdeal.τ).loc Cert.InEvenRefIdeal.main_arg5) = m ((c.tc : Thread Cert.InEvenRefIdeal.nD Cert.InEvenRefIdeal.τ).loc Cert.InEvenRefIdeal.main_arg5))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3)
      ∧ r.2.mem ((c.tc : Thread Cert.InOdd.nD Cert.InOdd.τ).loc Cert.InOdd.main_arg4) = m ((c.tc : Thread Cert.InOdd.nD Cert.InOdd.τ).loc Cert.InOdd.main_arg4)
      ∧ r.2.mem ((c.tc : Thread Cert.InOdd.nD Cert.InOdd.τ).loc Cert.InOdd.main_arg5) = m ((c.tc : Thread Cert.InOdd.nD Cert.InOdd.τ).loc Cert.InOdd.main_arg5))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
      ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4)
      ∧ r.2.mem ((c.tc : Thread Cert.InOddIdeal.nD Cert.InOddIdeal.τ).loc Cert.InOddIdeal.main_arg5) = m ((c.tc : Thread Cert.InOddIdeal.nD Cert.InOddIdeal.τ).loc Cert.InOddIdeal.main_arg5))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3)
      ∧ r.2.mem ((c.tc : Thread Cert.InOddRefIdeal.nD Cert.InOddRefIdeal.τ).loc Cert.InOddRefIdeal.main_arg4) = m ((c.tc : Thread Cert.InOddRefIdeal.nD Cert.InOddRefIdeal.τ).loc Cert.InOddRefIdeal.main_arg4)
      ∧ r.2.mem ((c.tc : Thread Cert.InOddRefIdeal.nD Cert.InOddRefIdeal.τ).loc Cert.InOddRefIdeal.main_arg5) = m ((c.tc : Thread Cert.InOddRefIdeal.nD Cert.InOddRefIdeal.τ).loc Cert.InOddRefIdeal.main_arg5))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1)
      ∧ r.2.mem ((c.tc : Thread Cert.InGate.nD Cert.InGate.τ).loc Cert.InGate.main_arg2) = m ((c.tc : Thread Cert.InGate.nD Cert.InGate.τ).loc Cert.InGate.main_arg2)
      ∧ r.2.mem ((c.tc : Thread Cert.InGate.nD Cert.InGate.τ).loc Cert.InGate.main_arg3) = m ((c.tc : Thread Cert.InGate.nD Cert.InGate.τ).loc Cert.InGate.main_arg3)
      ∧ r.2.mem ((c.tc : Thread Cert.InGate.nD Cert.InGate.τ).loc Cert.InGate.main_arg4) = m ((c.tc : Thread Cert.InGate.nD Cert.InGate.τ).loc Cert.InGate.main_arg4)
      ∧ r.2.mem ((c.tc : Thread Cert.InGate.nD Cert.InGate.τ).loc Cert.InGate.main_arg5) = m ((c.tc : Thread Cert.InGate.nD Cert.InGate.τ).loc Cert.InGate.main_arg5))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1)
      ∧ r.2.mem ((c.tc : Thread Cert.InGateIdeal.nD Cert.InGateIdeal.τ).loc Cert.InGateIdeal.main_arg2) = m ((c.tc : Thread Cert.InGateIdeal.nD Cert.InGateIdeal.τ).loc Cert.InGateIdeal.main_arg2)
      ∧ r.2.mem ((c.tc : Thread Cert.InGateIdeal.nD Cert.InGateIdeal.τ).loc Cert.InGateIdeal.main_arg3) = m ((c.tc : Thread Cert.InGateIdeal.nD Cert.InGateIdeal.τ).loc Cert.InGateIdeal.main_arg3)
      ∧ r.2.mem ((c.tc : Thread Cert.InGateIdeal.nD Cert.InGateIdeal.τ).loc Cert.InGateIdeal.main_arg4) = m ((c.tc : Thread Cert.InGateIdeal.nD Cert.InGateIdeal.τ).loc Cert.InGateIdeal.main_arg4)
      ∧ r.2.mem ((c.tc : Thread Cert.InGateIdeal.nD Cert.InGateIdeal.τ).loc Cert.InGateIdeal.main_arg5) = m ((c.tc : Thread Cert.InGateIdeal.nD Cert.InGateIdeal.τ).loc Cert.InGateIdeal.main_arg5))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1)
      ∧ r.2.mem ((c.tc : Thread Cert.InGateRefIdeal.nD Cert.InGateRefIdeal.τ).loc Cert.InGateRefIdeal.main_arg2) = m ((c.tc : Thread Cert.InGateRefIdeal.nD Cert.InGateRefIdeal.τ).loc Cert.InGateRefIdeal.main_arg2)
      ∧ r.2.mem ((c.tc : Thread Cert.InGateRefIdeal.nD Cert.InGateRefIdeal.τ).loc Cert.InGateRefIdeal.main_arg3) = m ((c.tc : Thread Cert.InGateRefIdeal.nD Cert.InGateRefIdeal.τ).loc Cert.InGateRefIdeal.main_arg3)
      ∧ r.2.mem ((c.tc : Thread Cert.InGateRefIdeal.nD Cert.InGateRefIdeal.τ).loc Cert.InGateRefIdeal.main_arg4) = m ((c.tc : Thread Cert.InGateRefIdeal.nD Cert.InGateRefIdeal.τ).loc Cert.InGateRefIdeal.main_arg4)
      ∧ r.2.mem ((c.tc : Thread Cert.InGateRefIdeal.nD Cert.InGateRefIdeal.τ).loc Cert.InGateRefIdeal.main_arg5) = m ((c.tc : Thread Cert.InGateRefIdeal.nD Cert.InGateRefIdeal.τ).loc Cert.InGateRefIdeal.main_arg5))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5)
      ∧ r.2.mem ((c.tc : Thread Cert.OutEven.nD Cert.OutEven.τ).loc Cert.OutEven.main_arg6) = m ((c.tc : Thread Cert.OutEven.nD Cert.OutEven.τ).loc Cert.OutEven.main_arg6)
      ∧ r.2.mem ((c.tc : Thread Cert.OutEven.nD Cert.OutEven.τ).loc Cert.OutEven.main_arg7) = m ((c.tc : Thread Cert.OutEven.nD Cert.OutEven.τ).loc Cert.OutEven.main_arg7))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
      ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
      ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4)
      ∧ r.2.mem ((c.tc : Thread Cert.OutEvenRefIdeal.nD Cert.OutEvenRefIdeal.τ).loc Cert.OutEvenRefIdeal.main_arg5) = m ((c.tc : Thread Cert.OutEvenRefIdeal.nD Cert.OutEvenRefIdeal.τ).loc Cert.OutEvenRefIdeal.main_arg5)
      ∧ r.2.mem ((c.tc : Thread Cert.OutEvenRefIdeal.nD Cert.OutEvenRefIdeal.τ).loc Cert.OutEvenRefIdeal.main_arg6) = m ((c.tc : Thread Cert.OutEvenRefIdeal.nD Cert.OutEvenRefIdeal.τ).loc Cert.OutEvenRefIdeal.main_arg6)
      ∧ r.2.mem ((c.tc : Thread Cert.OutEvenRefIdeal.nD Cert.OutEvenRefIdeal.τ).loc Cert.OutEvenRefIdeal.main_arg7) = m ((c.tc : Thread Cert.OutEvenRefIdeal.nD Cert.OutEvenRefIdeal.τ).loc Cert.OutEvenRefIdeal.main_arg7))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4)
      ∧ r.2.mem ((c.tc : Thread Cert.OutOdd.nD Cert.OutOdd.τ).loc Cert.OutOdd.main_arg5) = m ((c.tc : Thread Cert.OutOdd.nD Cert.OutOdd.τ).loc Cert.OutOdd.main_arg5)
      ∧ r.2.mem ((c.tc : Thread Cert.OutOdd.nD Cert.OutOdd.τ).loc Cert.OutOdd.main_arg6) = m ((c.tc : Thread Cert.OutOdd.nD Cert.OutOdd.τ).loc Cert.OutOdd.main_arg6)
      ∧ r.2.mem ((c.tc : Thread Cert.OutOdd.nD Cert.OutOdd.τ).loc Cert.OutOdd.main_arg7) = m ((c.tc : Thread Cert.OutOdd.nD Cert.OutOdd.τ).loc Cert.OutOdd.main_arg7)
      ∧ r.2.mem ((c.tc : Thread Cert.OutOdd.nD Cert.OutOdd.τ).loc Cert.OutOdd.main_arg8) = m ((c.tc : Thread Cert.OutOdd.nD Cert.OutOdd.τ).loc Cert.OutOdd.main_arg8)
      ∧ r.2.mem ((c.tc : Thread Cert.OutOdd.nD Cert.OutOdd.τ).loc Cert.OutOdd.main_arg9) = m ((c.tc : Thread Cert.OutOdd.nD Cert.OutOdd.τ).loc Cert.OutOdd.main_arg9))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
      ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5)
      ∧ r.2.mem ((c.tc : Thread Cert.OutOddIdeal.nD Cert.OutOddIdeal.τ).loc Cert.OutOddIdeal.main_arg6) = m ((c.tc : Thread Cert.OutOddIdeal.nD Cert.OutOddIdeal.τ).loc Cert.OutOddIdeal.main_arg6)
      ∧ r.2.mem ((c.tc : Thread Cert.OutOddIdeal.nD Cert.OutOddIdeal.τ).loc Cert.OutOddIdeal.main_arg7) = m ((c.tc : Thread Cert.OutOddIdeal.nD Cert.OutOddIdeal.τ).loc Cert.OutOddIdeal.main_arg7)
      ∧ r.2.mem ((c.tc : Thread Cert.OutOddIdeal.nD Cert.OutOddIdeal.τ).loc Cert.OutOddIdeal.main_arg8) = m ((c.tc : Thread Cert.OutOddIdeal.nD Cert.OutOddIdeal.τ).loc Cert.OutOddIdeal.main_arg8)
      ∧ r.2.mem ((c.tc : Thread Cert.OutOddIdeal.nD Cert.OutOddIdeal.τ).loc Cert.OutOddIdeal.main_arg9) = m ((c.tc : Thread Cert.OutOddIdeal.nD Cert.OutOddIdeal.τ).loc Cert.OutOddIdeal.main_arg9))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)
      ∧ r.2.mem ((c.tc : Thread Cert.OutOddRefIdeal.nD Cert.OutOddRefIdeal.τ).loc Cert.OutOddRefIdeal.main_arg4) = m ((c.tc : Thread Cert.OutOddRefIdeal.nD Cert.OutOddRefIdeal.τ).loc Cert.OutOddRefIdeal.main_arg4)
      ∧ r.2.mem ((c.tc : Thread Cert.OutOddRefIdeal.nD Cert.OutOddRefIdeal.τ).loc Cert.OutOddRefIdeal.main_arg5) = m ((c.tc : Thread Cert.OutOddRefIdeal.nD Cert.OutOddRefIdeal.τ).loc Cert.OutOddRefIdeal.main_arg5)
      ∧ r.2.mem ((c.tc : Thread Cert.OutOddRefIdeal.nD Cert.OutOddRefIdeal.τ).loc Cert.OutOddRefIdeal.main_arg6) = m ((c.tc : Thread Cert.OutOddRefIdeal.nD Cert.OutOddRefIdeal.τ).loc Cert.OutOddRefIdeal.main_arg6)
      ∧ r.2.mem ((c.tc : Thread Cert.OutOddRefIdeal.nD Cert.OutOddRefIdeal.τ).loc Cert.OutOddRefIdeal.main_arg7) = m ((c.tc : Thread Cert.OutOddRefIdeal.nD Cert.OutOddRefIdeal.τ).loc Cert.OutOddRefIdeal.main_arg7)
      ∧ r.2.mem ((c.tc : Thread Cert.OutOddRefIdeal.nD Cert.OutOddRefIdeal.τ).loc Cert.OutOddRefIdeal.main_arg8) = m ((c.tc : Thread Cert.OutOddRefIdeal.nD Cert.OutOddRefIdeal.τ).loc Cert.OutOddRefIdeal.main_arg8)
      ∧ r.2.mem ((c.tc : Thread Cert.OutOddRefIdeal.nD Cert.OutOddRefIdeal.τ).loc Cert.OutOddRefIdeal.main_arg9) = m ((c.tc : Thread Cert.OutOddRefIdeal.nD Cert.OutOddRefIdeal.τ).loc Cert.OutOddRefIdeal.main_arg9))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)
      ∧ m' ((c.tc : Thread Cert.InEvenRefIdeal.nD Cert.InEvenRefIdeal.τ).loc Cert.InEvenRefIdeal.main_arg4) = m ((c.tc : Thread Cert.InEvenIdeal.nD Cert.InEvenIdeal.τ).loc Cert.InEvenIdeal.main_arg4)
      ∧ m' ((c.tc : Thread Cert.InEvenRefIdeal.nD Cert.InEvenRefIdeal.τ).loc Cert.InEvenRefIdeal.main_arg5) = m ((c.tc : Thread Cert.InEvenIdeal.nD Cert.InEvenIdeal.τ).loc Cert.InEvenIdeal.main_arg5)) →
    ∃ (v0 : (c : Dev Cert.InEvenIdeal.nD) → Buf (Elt Ideal) ((c.tc : Thread Cert.InEvenIdeal.nD Cert.InEvenIdeal.τ).loc Cert.InEvenIdeal.main_v7)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v7) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
          ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v47) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3)
          ∧ r.2.mem ((c.tc : Thread Cert.InEvenRefIdeal.nD Cert.InEvenRefIdeal.τ).loc Cert.InEvenRefIdeal.main_arg4) = m' ((c.tc : Thread Cert.InEvenRefIdeal.nD Cert.InEvenRefIdeal.τ).loc Cert.InEvenRefIdeal.main_arg4)
          ∧ r.2.mem ((c.tc : Thread Cert.InEvenRefIdeal.nD Cert.InEvenRefIdeal.τ).loc Cert.InEvenRefIdeal.main_arg5) = m' ((c.tc : Thread Cert.InEvenRefIdeal.nD Cert.InEvenRefIdeal.τ).loc Cert.InEvenRefIdeal.main_arg5))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)
      ∧ m' ((c.tc : Thread Cert.InOddRefIdeal.nD Cert.InOddRefIdeal.τ).loc Cert.InOddRefIdeal.main_arg4) = m ((c.tc : Thread Cert.InOddIdeal.nD Cert.InOddIdeal.τ).loc Cert.InOddIdeal.main_arg4)
      ∧ m' ((c.tc : Thread Cert.InOddRefIdeal.nD Cert.InOddRefIdeal.τ).loc Cert.InOddRefIdeal.main_arg5) = m ((c.tc : Thread Cert.InOddIdeal.nD Cert.InOddIdeal.τ).loc Cert.InOddIdeal.main_arg5)) →
    ∃ (v0 : (c : Dev Cert.InOddIdeal.nD) → Buf (Elt Ideal) ((c.tc : Thread Cert.InOddIdeal.nD Cert.InOddIdeal.τ).loc Cert.InOddIdeal.main_v7)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v7) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3)
          ∧ r.2.mem ((c.tc : Thread Cert.InOddIdeal.nD Cert.InOddIdeal.τ).loc Cert.InOddIdeal.main_arg4) = m ((c.tc : Thread Cert.InOddIdeal.nD Cert.InOddIdeal.τ).loc Cert.InOddIdeal.main_arg4)
          ∧ r.2.mem ((c.tc : Thread Cert.InOddIdeal.nD Cert.InOddIdeal.τ).loc Cert.InOddIdeal.main_arg5) = m ((c.tc : Thread Cert.InOddIdeal.nD Cert.InOddIdeal.τ).loc Cert.InOddIdeal.main_arg5))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v48) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3)
          ∧ r.2.mem ((c.tc : Thread Cert.InOddRefIdeal.nD Cert.InOddRefIdeal.τ).loc Cert.InOddRefIdeal.main_arg4) = m' ((c.tc : Thread Cert.InOddRefIdeal.nD Cert.InOddRefIdeal.τ).loc Cert.InOddRefIdeal.main_arg4)
          ∧ r.2.mem ((c.tc : Thread Cert.InOddRefIdeal.nD Cert.InOddRefIdeal.τ).loc Cert.InOddRefIdeal.main_arg5) = m' ((c.tc : Thread Cert.InOddRefIdeal.nD Cert.InOddRefIdeal.τ).loc Cert.InOddRefIdeal.main_arg5))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)
      ∧ m' ((c.tc : Thread Cert.InGateRefIdeal.nD Cert.InGateRefIdeal.τ).loc Cert.InGateRefIdeal.main_arg2) = m ((c.tc : Thread Cert.InGateIdeal.nD Cert.InGateIdeal.τ).loc Cert.InGateIdeal.main_arg2)
      ∧ m' ((c.tc : Thread Cert.InGateRefIdeal.nD Cert.InGateRefIdeal.τ).loc Cert.InGateRefIdeal.main_arg3) = m ((c.tc : Thread Cert.InGateIdeal.nD Cert.InGateIdeal.τ).loc Cert.InGateIdeal.main_arg3)
      ∧ m' ((c.tc : Thread Cert.InGateRefIdeal.nD Cert.InGateRefIdeal.τ).loc Cert.InGateRefIdeal.main_arg4) = m ((c.tc : Thread Cert.InGateIdeal.nD Cert.InGateIdeal.τ).loc Cert.InGateIdeal.main_arg4)
      ∧ m' ((c.tc : Thread Cert.InGateRefIdeal.nD Cert.InGateRefIdeal.τ).loc Cert.InGateRefIdeal.main_arg5) = m ((c.tc : Thread Cert.InGateIdeal.nD Cert.InGateIdeal.τ).loc Cert.InGateIdeal.main_arg5)) →
    ∃ (v0 : (c : Dev Cert.InGateIdeal.nD) → Buf (Elt Ideal) ((c.tc : Thread Cert.InGateIdeal.nD Cert.InGateIdeal.τ).loc Cert.InGateIdeal.main_v7)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v7) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1)
          ∧ r.2.mem ((c.tc : Thread Cert.InGateIdeal.nD Cert.InGateIdeal.τ).loc Cert.InGateIdeal.main_arg2) = m ((c.tc : Thread Cert.InGateIdeal.nD Cert.InGateIdeal.τ).loc Cert.InGateIdeal.main_arg2)
          ∧ r.2.mem ((c.tc : Thread Cert.InGateIdeal.nD Cert.InGateIdeal.τ).loc Cert.InGateIdeal.main_arg3) = m ((c.tc : Thread Cert.InGateIdeal.nD Cert.InGateIdeal.τ).loc Cert.InGateIdeal.main_arg3)
          ∧ r.2.mem ((c.tc : Thread Cert.InGateIdeal.nD Cert.InGateIdeal.τ).loc Cert.InGateIdeal.main_arg4) = m ((c.tc : Thread Cert.InGateIdeal.nD Cert.InGateIdeal.τ).loc Cert.InGateIdeal.main_arg4)
          ∧ r.2.mem ((c.tc : Thread Cert.InGateIdeal.nD Cert.InGateIdeal.τ).loc Cert.InGateIdeal.main_arg5) = m ((c.tc : Thread Cert.InGateIdeal.nD Cert.InGateIdeal.τ).loc Cert.InGateIdeal.main_arg5))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v48) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1)
          ∧ r.2.mem ((c.tc : Thread Cert.InGateRefIdeal.nD Cert.InGateRefIdeal.τ).loc Cert.InGateRefIdeal.main_arg2) = m' ((c.tc : Thread Cert.InGateRefIdeal.nD Cert.InGateRefIdeal.τ).loc Cert.InGateRefIdeal.main_arg2)
          ∧ r.2.mem ((c.tc : Thread Cert.InGateRefIdeal.nD Cert.InGateRefIdeal.τ).loc Cert.InGateRefIdeal.main_arg3) = m' ((c.tc : Thread Cert.InGateRefIdeal.nD Cert.InGateRefIdeal.τ).loc Cert.InGateRefIdeal.main_arg3)
          ∧ r.2.mem ((c.tc : Thread Cert.InGateRefIdeal.nD Cert.InGateRefIdeal.τ).loc Cert.InGateRefIdeal.main_arg4) = m' ((c.tc : Thread Cert.InGateRefIdeal.nD Cert.InGateRefIdeal.τ).loc Cert.InGateRefIdeal.main_arg4)
          ∧ r.2.mem ((c.tc : Thread Cert.InGateRefIdeal.nD Cert.InGateRefIdeal.τ).loc Cert.InGateRefIdeal.main_arg5) = m' ((c.tc : Thread Cert.InGateRefIdeal.nD Cert.InGateRefIdeal.τ).loc Cert.InGateRefIdeal.main_arg5))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)
      ∧ m' ((c.tc : Thread Cert.OutEvenRefIdeal.nD Cert.OutEvenRefIdeal.τ).loc Cert.OutEvenRefIdeal.main_arg5) = m ((c.tc : Thread Cert.OutEvenIdeal.nD Cert.OutEvenIdeal.τ).loc Cert.OutEvenIdeal.main_arg5)
      ∧ m' ((c.tc : Thread Cert.OutEvenRefIdeal.nD Cert.OutEvenRefIdeal.τ).loc Cert.OutEvenRefIdeal.main_arg6) = m ((c.tc : Thread Cert.OutEvenIdeal.nD Cert.OutEvenIdeal.τ).loc Cert.OutEvenIdeal.main_arg6)
      ∧ m' ((c.tc : Thread Cert.OutEvenRefIdeal.nD Cert.OutEvenRefIdeal.τ).loc Cert.OutEvenRefIdeal.main_arg7) = m ((c.tc : Thread Cert.OutEvenIdeal.nD Cert.OutEvenIdeal.τ).loc Cert.OutEvenIdeal.main_arg7)) →
    ∃ (v0 : (c : Dev Cert.OutEvenIdeal.nD) → Buf (Elt Ideal) ((c.tc : Thread Cert.OutEvenIdeal.nD Cert.OutEvenIdeal.τ).loc Cert.OutEvenIdeal.main_v8)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v8) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
          ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
          ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v27) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4)
          ∧ r.2.mem ((c.tc : Thread Cert.OutEvenRefIdeal.nD Cert.OutEvenRefIdeal.τ).loc Cert.OutEvenRefIdeal.main_arg5) = m' ((c.tc : Thread Cert.OutEvenRefIdeal.nD Cert.OutEvenRefIdeal.τ).loc Cert.OutEvenRefIdeal.main_arg5)
          ∧ r.2.mem ((c.tc : Thread Cert.OutEvenRefIdeal.nD Cert.OutEvenRefIdeal.τ).loc Cert.OutEvenRefIdeal.main_arg6) = m' ((c.tc : Thread Cert.OutEvenRefIdeal.nD Cert.OutEvenRefIdeal.τ).loc Cert.OutEvenRefIdeal.main_arg6)
          ∧ r.2.mem ((c.tc : Thread Cert.OutEvenRefIdeal.nD Cert.OutEvenRefIdeal.τ).loc Cert.OutEvenRefIdeal.main_arg7) = m' ((c.tc : Thread Cert.OutEvenRefIdeal.nD Cert.OutEvenRefIdeal.τ).loc Cert.OutEvenRefIdeal.main_arg7))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)
      ∧ m' ((c.tc : Thread Cert.OutOddRefIdeal.nD Cert.OutOddRefIdeal.τ).loc Cert.OutOddRefIdeal.main_arg4) = m ((c.tc : Thread Cert.OutOddIdeal.nD Cert.OutOddIdeal.τ).loc Cert.OutOddIdeal.main_arg4)
      ∧ m' ((c.tc : Thread Cert.OutOddRefIdeal.nD Cert.OutOddRefIdeal.τ).loc Cert.OutOddRefIdeal.main_arg5) = m ((c.tc : Thread Cert.OutOddIdeal.nD Cert.OutOddIdeal.τ).loc Cert.OutOddIdeal.main_arg5)
      ∧ m' ((c.tc : Thread Cert.OutOddRefIdeal.nD Cert.OutOddRefIdeal.τ).loc Cert.OutOddRefIdeal.main_arg6) = m ((c.tc : Thread Cert.OutOddIdeal.nD Cert.OutOddIdeal.τ).loc Cert.OutOddIdeal.main_arg6)
      ∧ m' ((c.tc : Thread Cert.OutOddRefIdeal.nD Cert.OutOddRefIdeal.τ).loc Cert.OutOddRefIdeal.main_arg7) = m ((c.tc : Thread Cert.OutOddIdeal.nD Cert.OutOddIdeal.τ).loc Cert.OutOddIdeal.main_arg7)
      ∧ m' ((c.tc : Thread Cert.OutOddRefIdeal.nD Cert.OutOddRefIdeal.τ).loc Cert.OutOddRefIdeal.main_arg8) = m ((c.tc : Thread Cert.OutOddIdeal.nD Cert.OutOddIdeal.τ).loc Cert.OutOddIdeal.main_arg8)
      ∧ m' ((c.tc : Thread Cert.OutOddRefIdeal.nD Cert.OutOddRefIdeal.τ).loc Cert.OutOddRefIdeal.main_arg9) = m ((c.tc : Thread Cert.OutOddIdeal.nD Cert.OutOddIdeal.τ).loc Cert.OutOddIdeal.main_arg9)) →
    ∃ (v0 : (c : Dev Cert.OutOddIdeal.nD) → Buf (Elt Ideal) ((c.tc : Thread Cert.OutOddIdeal.nD Cert.OutOddIdeal.τ).loc Cert.OutOddIdeal.main_v8)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v8) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
          ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5)
          ∧ r.2.mem ((c.tc : Thread Cert.OutOddIdeal.nD Cert.OutOddIdeal.τ).loc Cert.OutOddIdeal.main_arg6) = m ((c.tc : Thread Cert.OutOddIdeal.nD Cert.OutOddIdeal.τ).loc Cert.OutOddIdeal.main_arg6)
          ∧ r.2.mem ((c.tc : Thread Cert.OutOddIdeal.nD Cert.OutOddIdeal.τ).loc Cert.OutOddIdeal.main_arg7) = m ((c.tc : Thread Cert.OutOddIdeal.nD Cert.OutOddIdeal.τ).loc Cert.OutOddIdeal.main_arg7)
          ∧ r.2.mem ((c.tc : Thread Cert.OutOddIdeal.nD Cert.OutOddIdeal.τ).loc Cert.OutOddIdeal.main_arg8) = m ((c.tc : Thread Cert.OutOddIdeal.nD Cert.OutOddIdeal.τ).loc Cert.OutOddIdeal.main_arg8)
          ∧ r.2.mem ((c.tc : Thread Cert.OutOddIdeal.nD Cert.OutOddIdeal.τ).loc Cert.OutOddIdeal.main_arg9) = m ((c.tc : Thread Cert.OutOddIdeal.nD Cert.OutOddIdeal.τ).loc Cert.OutOddIdeal.main_arg9))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v47) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3)
          ∧ r.2.mem ((c.tc : Thread Cert.OutOddRefIdeal.nD Cert.OutOddRefIdeal.τ).loc Cert.OutOddRefIdeal.main_arg4) = m' ((c.tc : Thread Cert.OutOddRefIdeal.nD Cert.OutOddRefIdeal.τ).loc Cert.OutOddRefIdeal.main_arg4)
          ∧ r.2.mem ((c.tc : Thread Cert.OutOddRefIdeal.nD Cert.OutOddRefIdeal.τ).loc Cert.OutOddRefIdeal.main_arg5) = m' ((c.tc : Thread Cert.OutOddRefIdeal.nD Cert.OutOddRefIdeal.τ).loc Cert.OutOddRefIdeal.main_arg5)
          ∧ r.2.mem ((c.tc : Thread Cert.OutOddRefIdeal.nD Cert.OutOddRefIdeal.τ).loc Cert.OutOddRefIdeal.main_arg6) = m' ((c.tc : Thread Cert.OutOddRefIdeal.nD Cert.OutOddRefIdeal.τ).loc Cert.OutOddRefIdeal.main_arg6)
          ∧ r.2.mem ((c.tc : Thread Cert.OutOddRefIdeal.nD Cert.OutOddRefIdeal.τ).loc Cert.OutOddRefIdeal.main_arg7) = m' ((c.tc : Thread Cert.OutOddRefIdeal.nD Cert.OutOddRefIdeal.τ).loc Cert.OutOddRefIdeal.main_arg7)
          ∧ r.2.mem ((c.tc : Thread Cert.OutOddRefIdeal.nD Cert.OutOddRefIdeal.τ).loc Cert.OutOddRefIdeal.main_arg8) = m' ((c.tc : Thread Cert.OutOddRefIdeal.nD Cert.OutOddRefIdeal.τ).loc Cert.OutOddRefIdeal.main_arg8)
          ∧ r.2.mem ((c.tc : Thread Cert.OutOddRefIdeal.nD Cert.OutOddRefIdeal.τ).loc Cert.OutOddRefIdeal.main_arg9) = m' ((c.tc : Thread Cert.OutOddRefIdeal.nD Cert.OutOddRefIdeal.τ).loc Cert.OutOddRefIdeal.main_arg9))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v6)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v6) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v16) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_Delta_DeltaIdeal : Prop :=
  True

def algebraic_DeltaIdeal_DeltaRefIdeal [hDeltaIdeal : Cert.DeltaIdeal.Facts] [hDeltaRefIdeal : Cert.DeltaRefIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)
      ∧ m' ((c.tc : Thread Cert.DeltaRefIdeal.nD Cert.DeltaRefIdeal.τ).loc Cert.DeltaRefIdeal.main_arg3) = m ((c.tc : Thread Cert.DeltaIdeal.nD Cert.DeltaIdeal.τ).loc Cert.DeltaIdeal.main_arg3)) →
    ∃ (v0 : (c : Dev Cert.DeltaIdeal.nD) → Buf (Elt Ideal) ((c.tc : Thread Cert.DeltaIdeal.nD Cert.DeltaIdeal.τ).loc Cert.DeltaIdeal.main_v3)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v3) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v49) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3))

def Claim : Prop :=
  ∃ (hKernel : Cert.Kernel.Facts) (hKernelIdeal : Cert.KernelIdeal.Facts) (hReferenceIdeal : Cert.ReferenceIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hInGate : Cert.InGate.Facts) (hInGateIdeal : Cert.InGateIdeal.Facts) (hInGateRefIdeal : Cert.InGateRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hPost : Cert.Post.Facts) (hPostIdeal : Cert.PostIdeal.Facts) (hPostRefIdeal : Cert.PostRefIdeal.Facts) (hDelta : Cert.Delta.Facts) (hDeltaIdeal : Cert.DeltaIdeal.Facts) (hDeltaRefIdeal : Cert.DeltaRefIdeal.Facts),
    quiescent_Kernel (hKernel := hKernel)
    ∧ quiescent_KernelIdeal (hKernelIdeal := hKernelIdeal)
    ∧ quiescent_ReferenceIdeal (hReferenceIdeal := hReferenceIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_InGate (hInGate := hInGate)
    ∧ quiescent_InGateIdeal (hInGateIdeal := hInGateIdeal)
    ∧ quiescent_InGateRefIdeal (hInGateRefIdeal := hInGateRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_Post (hPost := hPost)
    ∧ quiescent_PostIdeal (hPostIdeal := hPostIdeal)
    ∧ quiescent_PostRefIdeal (hPostRefIdeal := hPostRefIdeal)
    ∧ quiescent_Delta (hDelta := hDelta)
    ∧ quiescent_DeltaIdeal (hDeltaIdeal := hDeltaIdeal)
    ∧ quiescent_DeltaRefIdeal (hDeltaRefIdeal := hDeltaRefIdeal)
    ∧ preserves_Kernel_KernelIdeal
    ∧ algebraic_KernelIdeal_ReferenceIdeal (hKernelIdeal := hKernelIdeal) (hReferenceIdeal := hReferenceIdeal)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_InGate_InGateIdeal
    ∧ algebraic_InGateIdeal_InGateRefIdeal (hInGateIdeal := hInGateIdeal) (hInGateRefIdeal := hInGateRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_Post_PostIdeal
    ∧ algebraic_PostIdeal_PostRefIdeal (hPostIdeal := hPostIdeal) (hPostRefIdeal := hPostRefIdeal)
    ∧ preserves_Delta_DeltaIdeal
    ∧ algebraic_DeltaIdeal_DeltaRefIdeal (hDeltaIdeal := hDeltaIdeal) (hDeltaRefIdeal := hDeltaRefIdeal)
-- ==== Kernel.lean ====
abbrev S2x8448x6144 : Shape := ⟨3, ![2, 8448, 6144]⟩
abbrev S2x1024 : Shape := ⟨2, ![2, 1024]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S1x256x256 : Shape := ⟨3, ![1, 256, 256]⟩
abbrev S2x256x256 : Shape := ⟨3, ![2, 256, 256]⟩
abbrev S2x1x1024 : Shape := ⟨3, ![2, 1, 1024]⟩
abbrev S2x8448x1024 : Shape := ⟨3, ![2, 8448, 1024]⟩
abbrev S1x256x1024 : Shape := ⟨3, ![1, 256, 1024]⟩
abbrev S1x1x1024 : Shape := ⟨3, ![1, 1, 1024]⟩
abbrev S8x128x128 : Shape := ⟨3, ![8, 128, 128]⟩
abbrev S64x64 : Shape := ⟨2, ![64, 64]⟩
abbrev S1x1x128 : Shape := ⟨3, ![1, 1, 128]⟩
abbrev S1x128 : Shape := ⟨2, ![1, 128]⟩
abbrev S1x256x128 : Shape := ⟨3, ![1, 256, 128]⟩
abbrev S256x128 : Shape := ⟨2, ![256, 128]⟩
abbrev S64x128 : Shape := ⟨2, ![64, 128]⟩
abbrev S1x64x128 : Shape := ⟨3, ![1, 64, 128]⟩
abbrev S1x128x128 : Shape := ⟨3, ![1, 128, 128]⟩
abbrev S128x128 : Shape := ⟨2, ![128, 128]⟩
abbrev S128x64 : Shape := ⟨2, ![128, 64]⟩

abbrev nBuf : Space → Nat
  | .hbm => 102
  | .vmem => 11
  | .smem => 0
  | _ => 0

abbrev bufTy : (tb : Table) → Fin (tcTables nBuf tb) → BufTy
  | .hbm, ⟨0, _⟩ => ⟨S2x8448x6144, .f32⟩
  | .hbm, ⟨1, _⟩ => ⟨S2x1024, .f32⟩
  | .hbm, ⟨2, _⟩ => ⟨S256, .i32⟩
  | .hbm, ⟨3, _⟩ => ⟨S256x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S_, .i32⟩
  | .hbm, ⟨26, _⟩ => ⟨S1x256, .i32⟩
  | .hbm, ⟨27, _⟩ => ⟨S1x256, .i32⟩
  | .hbm, ⟨28, _⟩ => ⟨S1x256, .i32⟩
  | .hbm, ⟨29, _⟩ => ⟨S_, .i32⟩
  | .hbm, ⟨30, _⟩ => ⟨S1x256, .i32⟩
  | .hbm, ⟨31, _⟩ => ⟨S1x256, .i1⟩
  | .hbm, ⟨32, _⟩ => ⟨S1x256, .i32⟩
  | .hbm, ⟨33, _⟩ => ⟨S1x256, .i32⟩
  | .hbm, ⟨34, _⟩ => ⟨S_, .i32⟩
  | .hbm, ⟨35, _⟩ => ⟨S1x256, .i32⟩
  | .hbm, ⟨36, _⟩ => ⟨S1x256, .i1⟩
  | .hbm, ⟨37, _⟩ => ⟨S1x256, .i1⟩
  | .hbm, ⟨38, _⟩ => ⟨S_, .i32⟩
  | .hbm, ⟨39, _⟩ => ⟨S1x256, .i32⟩
  | .hbm, ⟨40, _⟩ => ⟨S1x256, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S256x256, .i1⟩
  | .hbm, ⟨49, _⟩ => ⟨S256, .i32⟩
  | .hbm, ⟨50, _⟩ => ⟨S256x1, .i32⟩
  | .hbm, ⟨51, _⟩ => ⟨S256, .i32⟩
  | .hbm, ⟨52, _⟩ => ⟨S1x256, .i32⟩
  | .hbm, ⟨53, _⟩ => ⟨S_, .i32⟩
  | .hbm, ⟨54, _⟩ => ⟨S_, .i32⟩
  | .hbm, ⟨55, _⟩ => ⟨S256x1, .i32⟩
  | .hbm, ⟨56, _⟩ => ⟨S256x1, .i32⟩
  | .hbm, ⟨57, _⟩ => ⟨S256x1, .i32⟩
  | .hbm, ⟨58, _⟩ => ⟨S_, .i32⟩
  | .hbm, ⟨59, _⟩ => ⟨S256x1, .i32⟩
  | .hbm, ⟨60, _⟩ => ⟨S256x1, .i1⟩
  | .hbm, ⟨61, _⟩ => ⟨S256x1, .i32⟩
  | .hbm, ⟨62, _⟩ => ⟨S256x1, .i32⟩
  | .hbm, ⟨63, _⟩ => ⟨S_, .i32⟩
  | .hbm, ⟨64, _⟩ => ⟨S256x1, .i32⟩
  | .hbm, ⟨65, _⟩ => ⟨S256x1, .i1⟩
  | .hbm, ⟨66, _⟩ => ⟨S256x1, .i1⟩
  | .hbm, ⟨67, _⟩ => ⟨S_, .i32⟩
  | .hbm, ⟨68, _⟩ => ⟨S256x1, .i32⟩
  | .hbm, ⟨69, _⟩ => ⟨S256x1, .i32⟩
  | .hbm, ⟨70, _⟩ => ⟨S256x1, .i32⟩
  | .hbm, ⟨71, _⟩ => ⟨S_, .i32⟩
  | .hbm, ⟨72, _⟩ => ⟨S_, .i32⟩
  | .hbm, ⟨73, _⟩ => ⟨S1x256, .i32⟩
  | .hbm, ⟨74, _⟩ => ⟨S1x256, .i32⟩
  | .hbm, ⟨75, _⟩ => ⟨S1x256, .i32⟩
  | .hbm, ⟨76, _⟩ => ⟨S_, .i32⟩
  | .hbm, ⟨77, _⟩ => ⟨S1x256, .i32⟩
  | .hbm, ⟨78, _⟩ => ⟨S1x256, .i1⟩
  | .hbm, ⟨79, _⟩ => ⟨S1x256, .i32⟩
  | .hbm, ⟨80, _⟩ => ⟨S1x256, .i32⟩
  | .hbm, ⟨81, _⟩ => ⟨S_, .i32⟩
  | .hbm, ⟨82, _⟩ => ⟨S1x256, .i32⟩
  | .hbm, ⟨83, _⟩ => ⟨S1x256, .i1⟩
  | .hbm, ⟨84, _⟩ => ⟨S1x256, .i1⟩
  | .hbm, ⟨85, _⟩ => ⟨S_, .i32⟩
  | .hbm, ⟨86, _⟩ => ⟨S1x256, .i32⟩
  | .hbm, ⟨87, _⟩ => ⟨S1x256, .i32⟩
  | .hbm, ⟨88, _⟩ => ⟨S1x256, .i32⟩
  | .hbm, ⟨89, _⟩ => ⟨S256x256, .i32⟩
  | .hbm, ⟨90, _⟩ => ⟨S256x256, .i32⟩
  | .hbm, ⟨91, _⟩ => ⟨S256x256, .i1⟩
  | .hbm, ⟨92, _⟩ => ⟨S256x256, .i32⟩
  | .hbm, ⟨93, _⟩ => ⟨S256x256, .i32⟩
  | .hbm, ⟨94, _⟩ => ⟨S256x256, .i1⟩
  | .hbm, ⟨95, _⟩ => ⟨S256x256, .i1⟩
  | .hbm, ⟨96, _⟩ => ⟨S1x256x256, .i1⟩
  | .hbm, ⟨97, _⟩ => ⟨S1x256x256, .i1⟩
  | .hbm, ⟨98, _⟩ => ⟨S2x256x256, .i1⟩
  | .hbm, ⟨99, _⟩ => ⟨S2x256x256, .f32⟩
  | .hbm, ⟨100, _⟩ => ⟨S2x1x1024, .f32⟩
  | .hbm, ⟨101, _⟩ => ⟨S2x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x256x256, .f32⟩
  | .local _ .vmem, ⟨8, _⟩ => ⟨S1x256x1024, .f32⟩
  | .local _ .vmem, ⟨9, _⟩ => ⟨S1x256x1024, .f32⟩
  | .local _ .vmem, ⟨10, _⟩ => ⟨S8x128x128, .f32⟩
  | _, _ => ⟨S2x8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_c_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v17 : Ref sig .tc := ⟨.hbm, 70, rfl⟩
abbrev main_c_2 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_c : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_0 : Ref sig .tc := ⟨.hbm, 85, rfl⟩
abbrev main_call3_v12 : Ref sig .tc := ⟨.hbm, 86, rfl⟩
abbrev main_call3_v13 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 33], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8448x6144 : Shape := ⟨3, ![2, 8448, 6144]⟩
abbrev S2x1024 : Shape := ⟨2, ![2, 1024]⟩
abbrev S2x8448x5120 : Shape := ⟨3, ![2, 8448, 5120]⟩
abbrev S2x8448x1024 : Shape := ⟨3, ![2, 8448, 1024]⟩
abbrev S2x8448x8x128 : Shape := ⟨4, ![2, 8448, 8, 128]⟩
abbrev S1x1024 : Shape := ⟨2, ![1, 1024]⟩
abbrev S1024 : Shape := ⟨1, ![1024]⟩
abbrev S8x128 : Shape := ⟨2, ![8, 128]⟩
abbrev S_ : Shape := ⟨0, ![]⟩
abbrev S1x1x8x128 : Shape := ⟨4, ![1, 1, 8, 128]⟩
abbrev S2x132x64x8x128 : Shape := ⟨5, ![2, 132, 64, 8, 128]⟩
abbrev S2x8x132x64x128 : Shape := ⟨5, ![2, 8, 132, 64, 128]⟩
abbrev S2x8x132x1x128 : Shape := ⟨5, ![2, 8, 132, 1, 128]⟩
abbrev S2x8x132x64x64 : Shape := ⟨5, ![2, 8, 132, 64, 64]⟩
abbrev S64x64 : Shape := ⟨2, ![64, 64]⟩
abbrev S2x8x132x128 : Shape := ⟨4, ![2, 8, 132, 128]⟩
abbrev S2x8x132x128x128 : Shape := ⟨5, ![2, 8, 132, 128, 128]⟩
abbrev S2x8x128x128 : Shape := ⟨4, ![2, 8, 128, 128]⟩
abbrev S132x2x8x128 : Shape := ⟨4, ![132, 2, 8, 128]⟩
abbrev S132x2x8x128x128 : Shape := ⟨5, ![132, 2, 8, 128, 128]⟩
abbrev S132x2x8x64x128 : Shape := ⟨5, ![132, 2, 8, 64, 128]⟩
abbrev S1x2x8x128 : Shape := ⟨4, ![1, 2, 8, 128]⟩
abbrev S2x8x128 : Shape := ⟨3, ![2, 8, 128]⟩
abbrev S1x2x8x128x128 : Shape := ⟨5, ![1, 2, 8, 128, 128]⟩
abbrev S1x2x8x64x128 : Shape := ⟨5, ![1, 2, 8, 64, 128]⟩
abbrev S2x8x64x128 : Shape := ⟨4, ![2, 8, 64, 128]⟩
abbrev S2x8x128x1 : Shape := ⟨4, ![2, 8, 128, 1]⟩

abbrev nBuf : Space → Nat
  | .hbm => 143
  | .vmem => 0
  | .smem => 0
  | _ => 0

abbrev hbmTy0_0 (i : Nat) : BufTy := match i % 128 with
  | 0 => ⟨S2x8448x6144, .f32⟩
  | 1 => ⟨S2x1024, .f32⟩
  | 2 => ⟨S2x8448x5120, .f32⟩
  | 3 => ⟨S2x8448x1024, .f32⟩
  | 4 => ⟨S2x8448x1024, .f32⟩
  | 5 => ⟨S2x8448x1024, .f32⟩
  | 6 => ⟨S2x8448x1024, .f32⟩
  | 7 => ⟨S2x8448x1024, .f32⟩
  | 8 => ⟨S2x8448x8x128, .f32⟩
  | 9 => ⟨S2x8448x8x128, .f32⟩
  | 10 => ⟨S1x1024, .f32⟩
  | 11 => ⟨S1024, .f32⟩
  | 12 => ⟨S8x128, .f32⟩
  | 13 => ⟨S_, .f32⟩
  | 14 => ⟨S8x128, .f32⟩
  | 15 => ⟨S8x128, .f32⟩
  | 16 => ⟨S2x8448x8x128, .f32⟩
  | 17 => ⟨S2x8448x8x128, .f32⟩
  | 18 => ⟨S2x8448x8x128, .f32⟩
  | 19 => ⟨S_, .f32⟩
  | 20 => ⟨S2x8448x8x128, .f32⟩
  | 21 => ⟨S2x8448x8x128, .f32⟩
  | 22 => ⟨S_, .f32⟩
  | 23 => ⟨S2x8448x8x128, .f32⟩
  | 24 => ⟨S2x8448x8x128, .f32⟩
  | 25 => ⟨S1x1x8x128, .f32⟩
  | 26 => ⟨S2x8448x8x128, .f32⟩
  | 27 => ⟨S2x8448x8x128, .f32⟩
  | 28 => ⟨S1x1x8x128, .f32⟩
  | 29 => ⟨S2x8448x8x128, .f32⟩
  | 30 => ⟨S2x8448x8x128, .f32⟩
  | 31 => ⟨S_, .f32⟩
  | 32 => ⟨S2x8448x8x128, .f32⟩
  | 33 => ⟨S2x8448x8x128, .f32⟩
  | 34 => ⟨S2x8448x8x128, .f32⟩
  | 35 => ⟨S2x132x64x8x128, .f32⟩
  | 36 => ⟨S2x8x132x64x128, .f32⟩
  | 37 => ⟨S2x132x64x8x128, .f32⟩
  | 38 => ⟨S2x8x132x64x128, .f32⟩
  | 39 => ⟨S2x132x64x8x128, .f32⟩
  | 40 => ⟨S2x8x132x64x128, .f32⟩
  | 41 => ⟨S2x132x64x8x128, .f32⟩
  | 42 => ⟨S2x8x132x64x128, .f32⟩
  | 43 => ⟨S_, .f32⟩
  | 44 => ⟨S_, .f32⟩
  | 45 => ⟨S2x8x132x64x128, .f32⟩
  | 46 => ⟨S2x8x132x1x128, .f32⟩
  | 47 => ⟨S2x8x132x64x128, .f32⟩
  | 48 => ⟨S2x8x132x64x128, .f32⟩
  | 49 => ⟨S2x8x132x64x128, .f32⟩
  | 50 => ⟨S2x8x132x64x128, .f32⟩
  | 51 => ⟨S2x8x132x64x128, .f32⟩
  | 52 => ⟨S2x8x132x64x128, .f32⟩
  | 53 => ⟨S2x8x132x64x128, .f32⟩
  | 54 => ⟨S2x8x132x64x128, .f32⟩
  | 55 => ⟨S2x8x132x64x64, .f32⟩
  | 56 => ⟨S_, .i1⟩
  | 57 => ⟨S64x64, .i1⟩
  | 58 => ⟨S64x64, .i32⟩
  | 59 => ⟨S_, .i32⟩
  | 60 => ⟨S64x64, .i32⟩
  | 61 => ⟨S64x64, .i32⟩
  | 62 => ⟨S64x64, .i32⟩
  | 63 => ⟨S64x64, .i1⟩
  | 64 => ⟨S_, .i1⟩
  | 65 => ⟨S64x64, .i1⟩
  | 66 => ⟨S64x64, .i1⟩
  | 67 => ⟨S_, .f32⟩
  | 68 => ⟨S_, .f32⟩
  | 69 => ⟨S2x8x132x64x64, .i1⟩
  | 70 => ⟨S2x8x132x64x64, .f32⟩
  | 71 => ⟨S2x8x132x64x64, .f32⟩
  | 72 => ⟨S2x8x132x1x128, .f32⟩
  | 73 => ⟨S2x8x132x128, .f32⟩
  | 74 => ⟨S2x8x132x1x128, .f32⟩
  | 75 => ⟨S2x8x132x64x128, .f32⟩
  | 76 => ⟨S2x8x132x64x128, .f32⟩
  | 77 => ⟨S2x8x132x64x128, .f32⟩
  | 78 => ⟨S2x8x132x64x128, .f32⟩
  | 79 => ⟨S2x8x132x128x128, .f32⟩
  | 80 => ⟨S2x8x132x64x128, .f32⟩
  | 81 => ⟨S2x8x132x64x128, .f32⟩
  | 82 => ⟨S2x8x132x64x128, .f32⟩
  | 83 => ⟨S_, .f32⟩
  | 84 => ⟨S2x8x128x128, .f32⟩
  | 85 => ⟨S2x8x132x128, .f32⟩
  | 86 => ⟨S132x2x8x128, .f32⟩
  | 87 => ⟨S132x2x8x128x128, .f32⟩
  | 88 => ⟨S132x2x8x64x128, .f32⟩
  | 89 => ⟨S132x2x8x64x128, .f32⟩
  | 90 => ⟨S_, .f32⟩
  | 91 => ⟨S132x2x8x64x128, .f32⟩
  | 92 => ⟨S_, .i32⟩
  | 93 => ⟨S132x2x8x128, .f32⟩
  | 94 => ⟨S132x2x8x128x128, .f32⟩
  | 95 => ⟨S132x2x8x64x128, .f32⟩
  | 96 => ⟨S132x2x8x64x128, .f32⟩
  | 97 => ⟨S_, .i32⟩
  | 98 => ⟨S2x8x128x128, .f32⟩
  | 99 => ⟨S132x2x8x64x128, .f32⟩
  | 100 => ⟨S_, .i32⟩
  | 101 => ⟨S_, .i1⟩
  | 102 => ⟨S_, .i32⟩
  | 103 => ⟨S_, .i32⟩
  | 104 => ⟨S_, .i32⟩
  | 105 => ⟨S1x2x8x128, .f32⟩
  | 106 => ⟨S2x8x128, .f32⟩
  | 107 => ⟨S_, .i32⟩
  | 108 => ⟨S_, .i32⟩
  | 109 => ⟨S_, .i32⟩
  | 110 => ⟨S_, .i32⟩
  | 111 => ⟨S1x2x8x128x128, .f32⟩
  | 112 => ⟨S2x8x128x128, .f32⟩
  | 113 => ⟨S_, .i32⟩
  | 114 => ⟨S_, .i32⟩
  | 115 => ⟨S_, .i32⟩
  | 116 => ⟨S_, .i32⟩
  | 117 => ⟨S1x2x8x64x128, .f32⟩
  | 118 => ⟨S2x8x64x128, .f32⟩
  | 119 => ⟨S_, .i32⟩
  | 120 => ⟨S_, .i32⟩
  | 121 => ⟨S_, .i32⟩
  | 122 => ⟨S_, .i32⟩
  | 123 => ⟨S1x2x8x64x128, .f32⟩
  | 124 => ⟨S2x8x64x128, .f32⟩
  | 125 => ⟨S2x8x64x128, .f32⟩
  | 126 => ⟨S2x8x64x128, .f32⟩
  | 127 => ⟨S2x8x128x1, .f32⟩
  | _ => ⟨S2x8448x6144, .f32⟩

abbrev hbmTy0_1 (i : Nat) : BufTy := match i % 128 with
  | 0 => ⟨S2x8x128x128, .f32⟩
  | 1 => ⟨S2x8x128x128, .f32⟩
  | 2 => ⟨S2x8x128x128, .f32⟩
  | 3 => ⟨S1x2x8x64x128, .f32⟩
  | 4 => ⟨S_, .i32⟩
  | 5 => ⟨S_, .i32⟩
  | 6 => ⟨S_, .i32⟩
  | 7 => ⟨S_, .i32⟩
  | 8 => ⟨S132x2x8x64x128, .f32⟩
  | 9 => ⟨S_, .i32⟩
  | 10 => ⟨S_, .i32⟩
  | 11 => ⟨S2x8x132x64x128, .f32⟩
  | 12 => ⟨S2x132x64x8x128, .f32⟩
  | 13 => ⟨S2x8448x8x128, .f32⟩
  | 14 => ⟨S2x8448x1024, .f32⟩
  | _ => ⟨S2x8448x6144, .f32⟩

abbrev hbmTy (i : Nat) : BufTy := match i / 128 with
  | 0 => hbmTy0_0 i
  | 1 => hbmTy0_1 i
  | _ => ⟨S2x8448x6144, .f32⟩

abbrev bufTy : (tb : Table) → Fin (tcTables nBuf tb) → BufTy
  | .hbm, ⟨i, _⟩ => hbmTy i
  | _, _ => ⟨S2x8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_call0_call0_cst : Ref sig .tc := ⟨.hbm, 43, rfl⟩
abbrev main_call0_call0_v0 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c : Ref sig .tc := ⟨.hbm, 56, rfl⟩
abbrev main_v48 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_0 : Ref sig .tc := ⟨.hbm, 64, rfl⟩
abbrev main_call1_v5 : Ref sig .tc := ⟨.hbm, 65, rfl⟩
abbrev main_v49 : Ref sig .tc := ⟨.hbm, 66, rfl⟩
abbrev main_cst_3 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_4 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_5 : Ref sig .tc := ⟨.hbm, 90, rfl⟩
abbrev main_v68 : Ref sig .tc := ⟨.hbm, 91, rfl⟩
abbrev main_c_6 : Ref sig .tc := ⟨.hbm, 92, rfl⟩
abbrev main_v69_0 : Ref sig .tc := ⟨.hbm, 93, rfl⟩
abbrev main_v69_1 : Ref sig .tc := ⟨.hbm, 94, rfl⟩
abbrev main_v69_2 : Ref sig .tc := ⟨.hbm, 95, rfl⟩
abbrev main_v69_3 : Ref sig .tc := ⟨.hbm, 96, rfl⟩
abbrev main_v69_4 : Ref sig .tc := ⟨.hbm, 97, rfl⟩
abbrev main_v69_5 : Ref sig .tc := ⟨.hbm, 98, rfl⟩
abbrev main_v69_6 : Ref sig .tc := ⟨.hbm, 99, rfl⟩
abbrev main_while0c_c_13 : Ref sig .tc := ⟨.hbm, 100, rfl⟩
abbrev main_while0c_v74 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_call3_c_1 : Ref sig .tc := ⟨.hbm, 104, rfl⟩
abbrev main_while0b_call3_v0 : Ref sig .tc := ⟨.hbm, 105, rfl⟩
abbrev main_while0b_v74 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_c_2 : Ref sig .tc := ⟨.hbm, 110, rfl⟩
abbrev main_while0b_call4_v0 : Ref sig .tc := ⟨.hbm, 111, rfl⟩
abbrev main_while0b_v75 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_c_2 : Ref sig .tc := ⟨.hbm, 116, rfl⟩
abbrev main_while0b_call5_v0 : Ref sig .tc := ⟨.hbm, 117, rfl⟩
abbrev main_while0b_v76 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_c_1 : Ref sig .tc := ⟨.hbm, 121, rfl⟩
abbrev main_while0b_call6_c_2 : Ref sig .tc := ⟨.hbm, 122, rfl⟩
abbrev main_while0b_call6_v0 : Ref sig .tc := ⟨.hbm, 123, rfl⟩
abbrev main_while0b_v77 : Ref sig .tc := ⟨.hbm, 124, rfl⟩
abbrev main_while0b_v78 : Ref sig .tc := ⟨.hbm, 125, rfl⟩
abbrev main_while0b_v79 : Ref sig .tc := ⟨.hbm, 126, rfl⟩
abbrev main_while0b_v80 : Ref sig .tc := ⟨.hbm, 127, rfl⟩
abbrev main_while0b_v81 : Ref sig .tc := ⟨.hbm, 128, rfl⟩
abbrev main_while0b_v82 : Ref sig .tc := ⟨.hbm, 129, rfl⟩
abbrev main_while0b_v83 : Ref sig .tc := ⟨.hbm, 130, rfl⟩
abbrev main_while0b_call7_v0 : Ref sig .tc := ⟨.hbm, 131, rfl⟩
abbrev main_while0b_call7_c : Ref sig .tc := ⟨.hbm, 132, rfl⟩
abbrev main_while0b_call7_c_0 : Ref sig .tc := ⟨.hbm, 133, rfl⟩
abbrev main_while0b_call7_c_1 : Ref sig .tc := ⟨.hbm, 134, rfl⟩
abbrev main_while0b_call7_c_2 : Ref sig .tc := ⟨.hbm, 135, rfl⟩
abbrev main_while0b_v84 : Ref sig .tc := ⟨.hbm, 136, rfl⟩
abbrev main_while0b_c_13 : Ref sig .tc := ⟨.hbm, 137, rfl⟩
abbrev main_while0b_v85 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩

abbrev nD : Nat := 1
abbrev τ : Topo := Topo.v7x

variable {F : FTy → Type} [FloatOps F]

abbrev main_while0_count : Scf.Loop 32 := ⟨0#32, 132#32, 1#32⟩
-- ==== InEven.lean ====
abbrev S2x8192x2048 : Shape := ⟨3, ![2, 8192, 2048]⟩
abbrev S2x256x2048 : Shape := ⟨3, ![2, 256, 2048]⟩
abbrev S2x6x2048 : Shape := ⟨3, ![2, 6, 2048]⟩
abbrev S6x2048 : Shape := ⟨2, ![6, 2048]⟩
abbrev S2048 : Shape := ⟨1, ![2048]⟩
abbrev S2048x6144 : Shape := ⟨2, ![2048, 6144]⟩
abbrev S2x8448x2048 : Shape := ⟨3, ![2, 8448, 2048]⟩
abbrev S2x1x6x2048 : Shape := ⟨4, ![2, 1, 6, 2048]⟩
abbrev S2x2x6x2048 : Shape := ⟨4, ![2, 2, 6, 2048]⟩
abbrev S1x2048 : Shape := ⟨2, ![1, 2048]⟩
abbrev S2x8448x6144 : Shape := ⟨3, ![2, 8448, 6144]⟩
abbrev S1x768x2048 : Shape := ⟨3, ![1, 768, 2048]⟩
abbrev S1x2x6x2048 : Shape := ⟨4, ![1, 2, 6, 2048]⟩
abbrev S2048x1024 : Shape := ⟨2, ![2048, 1024]⟩
abbrev S1x768x1024 : Shape := ⟨3, ![1, 768, 1024]⟩
abbrev S768x2048 : Shape := ⟨2, ![768, 2048]⟩
abbrev S768 : Shape := ⟨1, ![768]⟩
abbrev S768x1 : Shape := ⟨2, ![768, 1]⟩
abbrev S1x1x1x2048 : Shape := ⟨4, ![1, 1, 1, 2048]⟩
abbrev S768x1024 : Shape := ⟨2, ![768, 1024]⟩

abbrev nBuf : Space → Nat
  | .hbm => 14
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2x6x2048, .f32⟩
  | .hbm, ⟨3, _⟩ => ⟨S6x2048, .f32⟩
  | .hbm, ⟨4, _⟩ => ⟨S2048, .f32⟩
  | .hbm, ⟨5, _⟩ => ⟨S2048x6144, .f32⟩
  | .hbm, ⟨6, _⟩ => ⟨S2x8448x2048, .f32⟩
  | .hbm, ⟨7, _⟩ => ⟨S2x6x2048, .f32⟩
  | .hbm, ⟨8, _⟩ => ⟨S2x1x6x2048, .f32⟩
  | .hbm, ⟨9, _⟩ => ⟨S2x1x6x2048, .f32⟩
  | .hbm, ⟨10, _⟩ => ⟨S2x2x6x2048, .f32⟩
  | .hbm, ⟨11, _⟩ => ⟨S2048x6144, .bf16⟩
  | .hbm, ⟨12, _⟩ => ⟨S1x2048, .f32⟩
  | .hbm, ⟨13, _⟩ => ⟨S2x8448x6144, .f32⟩
  | .local _ .vmem, ⟨0, _⟩ => ⟨S1x768x2048, .f32⟩
  | .local _ .vmem, ⟨1, _⟩ => ⟨S1x768x2048, .f32⟩
  | .local _ .vmem, ⟨2, _⟩ => ⟨S1x2048, .f32⟩
  | .local _ .vmem, ⟨3, _⟩ => ⟨S1x2x6x2048, .f32⟩
  | .local _ .vmem, ⟨4, _⟩ => ⟨S1x2x6x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x768x1024, .f32⟩
  | .local _ .vmem, ⟨8, _⟩ => ⟨S1x768x1024, .f32⟩
  | .local _ .vmem, ⟨9, _⟩ => ⟨S768x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 11, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InEvenRefIdeal.lean ====
abbrev S2x8192x2048 : Shape := ⟨3, ![2, 8192, 2048]⟩
abbrev S2x256x2048 : Shape := ⟨3, ![2, 256, 2048]⟩
abbrev S2x6x2048 : Shape := ⟨3, ![2, 6, 2048]⟩
abbrev S6x2048 : Shape := ⟨2, ![6, 2048]⟩
abbrev S2048 : Shape := ⟨1, ![2048]⟩
abbrev S2048x6144 : Shape := ⟨2, ![2048, 6144]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048 : Shape := ⟨2, ![1, 2048]⟩
abbrev S2x8192 : Shape := ⟨2, ![2, 8192]⟩
abbrev S2x8192x1 : Shape := ⟨3, ![2, 8192, 1]⟩
abbrev S2x1x2048 : Shape := ⟨3, ![2, 1, 2048]⟩
abbrev S2x8448x2048 : Shape := ⟨3, ![2, 8448, 2048]⟩
abbrev S2x8448x6144 : Shape := ⟨3, ![2, 8448, 6144]⟩

abbrev nBuf : Space → Nat
  | .hbm => 62
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2x6x2048, .f32⟩
  | .hbm, ⟨3, _⟩ => ⟨S6x2048, .f32⟩
  | .hbm, ⟨4, _⟩ => ⟨S2048, .f32⟩
  | .hbm, ⟨5, _⟩ => ⟨S2048x6144, .f32⟩
  | .hbm, ⟨6, _⟩ => ⟨S2x256x2048, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x2048, .f32⟩
  | .hbm, ⟨18, _⟩ => ⟨S2x256x2048, .f32⟩
  | .hbm, ⟨19, _⟩ => ⟨S1x1x2048, .f32⟩
  | .hbm, ⟨20, _⟩ => ⟨S2x256x2048, .f32⟩
  | .hbm, ⟨21, _⟩ => ⟨S2x256x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x1x2048, .f32⟩
  | .hbm, ⟨30, _⟩ => ⟨S2x256x2048, .f32⟩
  | .hbm, ⟨31, _⟩ => ⟨S2x256x2048, .f32⟩
  | .hbm, ⟨32, _⟩ => ⟨S1x1x2048, .f32⟩
  | .hbm, ⟨33, _⟩ => ⟨S2x256x2048, .f32⟩
  | .hbm, ⟨34, _⟩ => ⟨S2x256x2048, .f32⟩
  | .hbm, ⟨35, _⟩ => ⟨S2x8192x2048, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x2048, .f32⟩
  | .hbm, ⟨47, _⟩ => ⟨S2x8192x2048, .f32⟩
  | .hbm, ⟨48, _⟩ => ⟨S1x1x2048, .f32⟩
  | .hbm, ⟨49, _⟩ => ⟨S2x8192x2048, .f32⟩
  | .hbm, ⟨50, _⟩ => ⟨S2x8192x2048, .f32⟩
  | .hbm, ⟨51, _⟩ => ⟨S2x1x2048, .f32⟩
  | .hbm, ⟨52, _⟩ => ⟨S2x1x2048, .f32⟩
  | .hbm, ⟨53, _⟩ => ⟨S_, .f32⟩
  | .hbm, ⟨54, _⟩ => ⟨S2x1x2048, .f32⟩
  | .hbm, ⟨55, _⟩ => ⟨S2x1x2048, .f32⟩
  | .hbm, ⟨56, _⟩ => ⟨S2x8192x2048, .f32⟩
  | .hbm, ⟨57, _⟩ => ⟨S2x8192x2048, .f32⟩
  | .hbm, ⟨58, _⟩ => ⟨S2x8192x2048, .f32⟩
  | .hbm, ⟨59, _⟩ => ⟨S2x8192x2048, .f32⟩
  | .hbm, ⟨60, _⟩ => ⟨S2x8448x2048, .f32⟩
  | .hbm, ⟨61, _⟩ => ⟨S2x8448x6144, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== InOdd.lean ====
abbrev S2x8192x2048 : Shape := ⟨3, ![2, 8192, 2048]⟩
abbrev S2x256x2048 : Shape := ⟨3, ![2, 256, 2048]⟩
abbrev S2x6x2048 : Shape := ⟨3, ![2, 6, 2048]⟩
abbrev S6x2048 : Shape := ⟨2, ![6, 2048]⟩
abbrev S2048 : Shape := ⟨1, ![2048]⟩
abbrev S2048x12416 : Shape := ⟨2, ![2048, 12416]⟩
abbrev S2x8448x2048 : Shape := ⟨3, ![2, 8448, 2048]⟩
abbrev S2x1x6x2048 : Shape := ⟨4, ![2, 1, 6, 2048]⟩
abbrev S2x2x6x2048 : Shape := ⟨4, ![2, 2, 6, 2048]⟩
abbrev S1x2048 : Shape := ⟨2, ![1, 2048]⟩
abbrev S2x8448x12288 : Shape := ⟨3, ![2, 8448, 12288]⟩
abbrev S1x768x2048 : Shape := ⟨3, ![1, 768, 2048]⟩
abbrev S1x2x6x2048 : Shape := ⟨4, ![1, 2, 6, 2048]⟩
abbrev S2048x1024 : Shape := ⟨2, ![2048, 1024]⟩
abbrev S1x768x1024 : Shape := ⟨3, ![1, 768, 1024]⟩
abbrev S768x2048 : Shape := ⟨2, ![768, 2048]⟩
abbrev S768 : Shape := ⟨1, ![768]⟩
abbrev S768x1 : Shape := ⟨2, ![768, 1]⟩
abbrev S1x1x1x2048 : Shape := ⟨4, ![1, 1, 1, 2048]⟩
abbrev S768x1024 : Shape := ⟨2, ![768, 1024]⟩

abbrev nBuf : Space → Nat
  | .hbm => 14
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2x6x2048, .f32⟩
  | .hbm, ⟨3, _⟩ => ⟨S6x2048, .f32⟩
  | .hbm, ⟨4, _⟩ => ⟨S2048, .f32⟩
  | .hbm, ⟨5, _⟩ => ⟨S2048x12416, .f32⟩
  | .hbm, ⟨6, _⟩ => ⟨S2x8448x2048, .f32⟩
  | .hbm, ⟨7, _⟩ => ⟨S2x6x2048, .f32⟩
  | .hbm, ⟨8, _⟩ => ⟨S2x1x6x2048, .f32⟩
  | .hbm, ⟨9, _⟩ => ⟨S2x1x6x2048, .f32⟩
  | .hbm, ⟨10, _⟩ => ⟨S2x2x6x2048, .f32⟩
  | .hbm, ⟨11, _⟩ => ⟨S2048x12416, .bf16⟩
  | .hbm, ⟨12, _⟩ => ⟨S1x2048, .f32⟩
  | .hbm, ⟨13, _⟩ => ⟨S2x8448x12288, .f32⟩
  | .local _ .vmem, ⟨0, _⟩ => ⟨S1x768x2048, .f32⟩
  | .local _ .vmem, ⟨1, _⟩ => ⟨S1x768x2048, .f32⟩
  | .local _ .vmem, ⟨2, _⟩ => ⟨S1x2048, .f32⟩
  | .local _ .vmem, ⟨3, _⟩ => ⟨S1x2x6x2048, .f32⟩
  | .local _ .vmem, ⟨4, _⟩ => ⟨S1x2x6x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x768x1024, .f32⟩
  | .local _ .vmem, ⟨8, _⟩ => ⟨S1x768x1024, .f32⟩
  | .local _ .vmem, ⟨9, _⟩ => ⟨S768x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 11, 12], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InOddRefIdeal.lean ====
abbrev S2x8192x2048 : Shape := ⟨3, ![2, 8192, 2048]⟩
abbrev S2x256x2048 : Shape := ⟨3, ![2, 256, 2048]⟩
abbrev S2x6x2048 : Shape := ⟨3, ![2, 6, 2048]⟩
abbrev S6x2048 : Shape := ⟨2, ![6, 2048]⟩
abbrev S2048 : Shape := ⟨1, ![2048]⟩
abbrev S2048x12416 : Shape := ⟨2, ![2048, 12416]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048 : Shape := ⟨2, ![1, 2048]⟩
abbrev S2x8192 : Shape := ⟨2, ![2, 8192]⟩
abbrev S2x8192x1 : Shape := ⟨3, ![2, 8192, 1]⟩
abbrev S2x1x2048 : Shape := ⟨3, ![2, 1, 2048]⟩
abbrev S2x8448x2048 : Shape := ⟨3, ![2, 8448, 2048]⟩
abbrev S2048x12288 : Shape := ⟨2, ![2048, 12288]⟩
abbrev S2x8448x12288 : Shape := ⟨3, ![2, 8448, 12288]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2x6x2048, .f32⟩
  | .hbm, ⟨3, _⟩ => ⟨S6x2048, .f32⟩
  | .hbm, ⟨4, _⟩ => ⟨S2048, .f32⟩
  | .hbm, ⟨5, _⟩ => ⟨S2048x12416, .f32⟩
  | .hbm, ⟨6, _⟩ => ⟨S2x256x2048, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x2048, .f32⟩
  | .hbm, ⟨18, _⟩ => ⟨S2x256x2048, .f32⟩
  | .hbm, ⟨19, _⟩ => ⟨S1x1x2048, .f32⟩
  | .hbm, ⟨20, _⟩ => ⟨S2x256x2048, .f32⟩
  | .hbm, ⟨21, _⟩ => ⟨S2x256x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x1x2048, .f32⟩
  | .hbm, ⟨30, _⟩ => ⟨S2x256x2048, .f32⟩
  | .hbm, ⟨31, _⟩ => ⟨S2x256x2048, .f32⟩
  | .hbm, ⟨32, _⟩ => ⟨S1x1x2048, .f32⟩
  | .hbm, ⟨33, _⟩ => ⟨S2x256x2048, .f32⟩
  | .hbm, ⟨34, _⟩ => ⟨S2x256x2048, .f32⟩
  | .hbm, ⟨35, _⟩ => ⟨S2x8192x2048, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x2048, .f32⟩
  | .hbm, ⟨47, _⟩ => ⟨S2x8192x2048, .f32⟩
  | .hbm, ⟨48, _⟩ => ⟨S1x1x2048, .f32⟩
  | .hbm, ⟨49, _⟩ => ⟨S2x8192x2048, .f32⟩
  | .hbm, ⟨50, _⟩ => ⟨S2x8192x2048, .f32⟩
  | .hbm, ⟨51, _⟩ => ⟨S2x1x2048, .f32⟩
  | .hbm, ⟨52, _⟩ => ⟨S2x1x2048, .f32⟩
  | .hbm, ⟨53, _⟩ => ⟨S_, .f32⟩
  | .hbm, ⟨54, _⟩ => ⟨S2x1x2048, .f32⟩
  | .hbm, ⟨55, _⟩ => ⟨S2x1x2048, .f32⟩
  | .hbm, ⟨56, _⟩ => ⟨S2x8192x2048, .f32⟩
  | .hbm, ⟨57, _⟩ => ⟨S2x8192x2048, .f32⟩
  | .hbm, ⟨58, _⟩ => ⟨S2x8192x2048, .f32⟩
  | .hbm, ⟨59, _⟩ => ⟨S2x8192x2048, .f32⟩
  | .hbm, ⟨60, _⟩ => ⟨S2x8448x2048, .f32⟩
  | .hbm, ⟨61, _⟩ => ⟨S2048x12288, .f32⟩
  | .hbm, ⟨62, _⟩ => ⟨S2x8448x12288, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== InGate.lean ====
abbrev S2x8192x2048 : Shape := ⟨3, ![2, 8192, 2048]⟩
abbrev S2x256x2048 : Shape := ⟨3, ![2, 256, 2048]⟩
abbrev S2x6x2048 : Shape := ⟨3, ![2, 6, 2048]⟩
abbrev S6x2048 : Shape := ⟨2, ![6, 2048]⟩
abbrev S2048 : Shape := ⟨1, ![2048]⟩
abbrev S2048x12416 : Shape := ⟨2, ![2048, 12416]⟩
abbrev S2x8448x2048 : Shape := ⟨3, ![2, 8448, 2048]⟩
abbrev S2x1x6x2048 : Shape := ⟨4, ![2, 1, 6, 2048]⟩
abbrev S2x2x6x2048 : Shape := ⟨4, ![2, 2, 6, 2048]⟩
abbrev S1x2048 : Shape := ⟨2, ![1, 2048]⟩
abbrev S2x8448x128 : Shape := ⟨3, ![2, 8448, 128]⟩
abbrev S1x768x2048 : Shape := ⟨3, ![1, 768, 2048]⟩
abbrev S1x2x6x2048 : Shape := ⟨4, ![1, 2, 6, 2048]⟩
abbrev S2048x128 : Shape := ⟨2, ![2048, 128]⟩
abbrev S1x768x128 : Shape := ⟨3, ![1, 768, 128]⟩
abbrev S768x2048 : Shape := ⟨2, ![768, 2048]⟩
abbrev S768 : Shape := ⟨1, ![768]⟩
abbrev S768x1 : Shape := ⟨2, ![768, 1]⟩
abbrev S1x1x1x2048 : Shape := ⟨4, ![1, 1, 1, 2048]⟩
abbrev S768x128 : Shape := ⟨2, ![768, 128]⟩

abbrev nBuf : Space → Nat
  | .hbm => 14
  | .vmem => 9
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2x6x2048, .f32⟩
  | .hbm, ⟨3, _⟩ => ⟨S6x2048, .f32⟩
  | .hbm, ⟨4, _⟩ => ⟨S2048, .f32⟩
  | .hbm, ⟨5, _⟩ => ⟨S2048x12416, .f32⟩
  | .hbm, ⟨6, _⟩ => ⟨S2x8448x2048, .f32⟩
  | .hbm, ⟨7, _⟩ => ⟨S2x6x2048, .f32⟩
  | .hbm, ⟨8, _⟩ => ⟨S2x1x6x2048, .f32⟩
  | .hbm, ⟨9, _⟩ => ⟨S2x1x6x2048, .f32⟩
  | .hbm, ⟨10, _⟩ => ⟨S2x2x6x2048, .f32⟩
  | .hbm, ⟨11, _⟩ => ⟨S2048x12416, .bf16⟩
  | .hbm, ⟨12, _⟩ => ⟨S1x2048, .f32⟩
  | .hbm, ⟨13, _⟩ => ⟨S2x8448x128, .f32⟩
  | .local _ .vmem, ⟨0, _⟩ => ⟨S1x768x2048, .f32⟩
  | .local _ .vmem, ⟨1, _⟩ => ⟨S1x768x2048, .f32⟩
  | .local _ .vmem, ⟨2, _⟩ => ⟨S1x2048, .f32⟩
  | .local _ .vmem, ⟨3, _⟩ => ⟨S1x2x6x2048, .f32⟩
  | .local _ .vmem, ⟨4, _⟩ => ⟨S1x2x6x2048, .f32⟩
  | .local _ .vmem, ⟨5, _⟩ => ⟨S2048x128, .bf16⟩
  | .local _ .vmem, ⟨6, _⟩ => ⟨S1x768x128, .f32⟩
  | .local _ .vmem, ⟨7, _⟩ => ⟨S1x768x128, .f32⟩
  | .local _ .vmem, ⟨8, _⟩ => ⟨S768x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c96_i32 : BitVec 32 := 96#32
  let v0 : BitVec 32 := Scalar.addi c96_i32 arg2
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InGateRefIdeal.lean ====
abbrev S2x8192x2048 : Shape := ⟨3, ![2, 8192, 2048]⟩
abbrev S2x256x2048 : Shape := ⟨3, ![2, 256, 2048]⟩
abbrev S2x6x2048 : Shape := ⟨3, ![2, 6, 2048]⟩
abbrev S6x2048 : Shape := ⟨2, ![6, 2048]⟩
abbrev S2048 : Shape := ⟨1, ![2048]⟩
abbrev S2048x12416 : Shape := ⟨2, ![2048, 12416]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048 : Shape := ⟨2, ![1, 2048]⟩
abbrev S2x8192 : Shape := ⟨2, ![2, 8192]⟩
abbrev S2x8192x1 : Shape := ⟨3, ![2, 8192, 1]⟩
abbrev S2x1x2048 : Shape := ⟨3, ![2, 1, 2048]⟩
abbrev S2x8448x2048 : Shape := ⟨3, ![2, 8448, 2048]⟩
abbrev S2048x128 : Shape := ⟨2, ![2048, 128]⟩
abbrev S2x8448x128 : Shape := ⟨3, ![2, 8448, 128]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2x6x2048, .f32⟩
  | .hbm, ⟨3, _⟩ => ⟨S6x2048, .f32⟩
  | .hbm, ⟨4, _⟩ => ⟨S2048, .f32⟩
  | .hbm, ⟨5, _⟩ => ⟨S2048x12416, .f32⟩
  | .hbm, ⟨6, _⟩ => ⟨S2x256x2048, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x2048, .f32⟩
  | .hbm, ⟨18, _⟩ => ⟨S2x256x2048, .f32⟩
  | .hbm, ⟨19, _⟩ => ⟨S1x1x2048, .f32⟩
  | .hbm, ⟨20, _⟩ => ⟨S2x256x2048, .f32⟩
  | .hbm, ⟨21, _⟩ => ⟨S2x256x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x1x2048, .f32⟩
  | .hbm, ⟨30, _⟩ => ⟨S2x256x2048, .f32⟩
  | .hbm, ⟨31, _⟩ => ⟨S2x256x2048, .f32⟩
  | .hbm, ⟨32, _⟩ => ⟨S1x1x2048, .f32⟩
  | .hbm, ⟨33, _⟩ => ⟨S2x256x2048, .f32⟩
  | .hbm, ⟨34, _⟩ => ⟨S2x256x2048, .f32⟩
  | .hbm, ⟨35, _⟩ => ⟨S2x8192x2048, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x2048, .f32⟩
  | .hbm, ⟨47, _⟩ => ⟨S2x8192x2048, .f32⟩
  | .hbm, ⟨48, _⟩ => ⟨S1x1x2048, .f32⟩
  | .hbm, ⟨49, _⟩ => ⟨S2x8192x2048, .f32⟩
  | .hbm, ⟨50, _⟩ => ⟨S2x8192x2048, .f32⟩
  | .hbm, ⟨51, _⟩ => ⟨S2x1x2048, .f32⟩
  | .hbm, ⟨52, _⟩ => ⟨S2x1x2048, .f32⟩
  | .hbm, ⟨53, _⟩ => ⟨S_, .f32⟩
  | .hbm, ⟨54, _⟩ => ⟨S2x1x2048, .f32⟩
  | .hbm, ⟨55, _⟩ => ⟨S2x1x2048, .f32⟩
  | .hbm, ⟨56, _⟩ => ⟨S2x8192x2048, .f32⟩
  | .hbm, ⟨57, _⟩ => ⟨S2x8192x2048, .f32⟩
  | .hbm, ⟨58, _⟩ => ⟨S2x8192x2048, .f32⟩
  | .hbm, ⟨59, _⟩ => ⟨S2x8192x2048, .f32⟩
  | .hbm, ⟨60, _⟩ => ⟨S2x8448x2048, .f32⟩
  | .hbm, ⟨61, _⟩ => ⟨S2048x128, .f32⟩
  | .hbm, ⟨62, _⟩ => ⟨S2x8448x128, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== OutEven.lean ====
abbrev S2x8448x1024 : Shape := ⟨3, ![2, 8448, 1024]⟩
abbrev S2048x2048 : Shape := ⟨2, ![2048, 2048]⟩
abbrev S2x8192x2048 : Shape := ⟨3, ![2, 8192, 2048]⟩
abbrev S2x256x2048 : Shape := ⟨3, ![2, 256, 2048]⟩
abbrev S2048 : Shape := ⟨1, ![2048]⟩
abbrev S2x6x2048 : Shape := ⟨3, ![2, 6, 2048]⟩
abbrev S6x2048 : Shape := ⟨2, ![6, 2048]⟩
abbrev S2x8448x2048 : Shape := ⟨3, ![2, 8448, 2048]⟩
abbrev S2x1x6x2048 : Shape := ⟨4, ![2, 1, 6, 2048]⟩
abbrev S2x2x6x2048 : Shape := ⟨4, ![2, 2, 6, 2048]⟩
abbrev S1x2048 : Shape := ⟨2, ![1, 2048]⟩
abbrev S1x384x1024 : Shape := ⟨3, ![1, 384, 1024]⟩
abbrev S1x384x2048 : Shape := ⟨3, ![1, 384, 2048]⟩
abbrev S1x2x6x2048 : Shape := ⟨4, ![1, 2, 6, 2048]⟩
abbrev S384x1024 : Shape := ⟨2, ![384, 1024]⟩
abbrev S384x2048 : Shape := ⟨2, ![384, 2048]⟩
abbrev S384 : Shape := ⟨1, ![384]⟩
abbrev S384x1 : Shape := ⟨2, ![384, 1]⟩
abbrev S1x1x1x2048 : Shape := ⟨4, ![1, 1, 1, 2048]⟩

abbrev nBuf : Space → Nat
  | .hbm => 17
  | .vmem => 12
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2048x2048, .f32⟩
  | .hbm, ⟨3, _⟩ => ⟨S2x8192x2048, .f32⟩
  | .hbm, ⟨4, _⟩ => ⟨S2x256x2048, .f32⟩
  | .hbm, ⟨5, _⟩ => ⟨S2048, .f32⟩
  | .hbm, ⟨6, _⟩ => ⟨S2x6x2048, .f32⟩
  | .hbm, ⟨7, _⟩ => ⟨S6x2048, .f32⟩
  | .hbm, ⟨8, _⟩ => ⟨S2x8448x2048, .f32⟩
  | .hbm, ⟨9, _⟩ => ⟨S2x8448x1024, .bf16⟩
  | .hbm, ⟨10, _⟩ => ⟨S2048x2048, .bf16⟩
  | .hbm, ⟨11, _⟩ => ⟨S2x6x2048, .f32⟩
  | .hbm, ⟨12, _⟩ => ⟨S2x1x6x2048, .f32⟩
  | .hbm, ⟨13, _⟩ => ⟨S2x1x6x2048, .f32⟩
  | .hbm, ⟨14, _⟩ => ⟨S2x2x6x2048, .f32⟩
  | .hbm, ⟨15, _⟩ => ⟨S1x2048, .f32⟩
  | .hbm, ⟨16, _⟩ => ⟨S2x8448x2048, .f32⟩
  | .local _ .vmem, ⟨0, _⟩ => ⟨S1x384x1024, .bf16⟩
  | .local _ .vmem, ⟨1, _⟩ => ⟨S1x384x1024, .bf16⟩
  | .local _ .vmem, ⟨2, _⟩ => ⟨S1x384x1024, .f32⟩
  | .local _ .vmem, ⟨3, _⟩ => ⟨S1x384x1024, .f32⟩
  | .local _ .vmem, ⟨4, _⟩ => ⟨S2048x2048, .bf16⟩
  | .local _ .vmem, ⟨5, _⟩ => ⟨S1x384x2048, .f32⟩
  | .local _ .vmem, ⟨6, _⟩ => ⟨S1x384x2048, .f32⟩
  | .local _ .vmem, ⟨7, _⟩ => ⟨S1x2048, .f32⟩
  | .local _ .vmem, ⟨8, _⟩ => ⟨S1x2x6x2048, .f32⟩
  | .local _ .vmem, ⟨9, _⟩ => ⟨S1x2x6x2048, .f32⟩
  | .local _ .vmem, ⟨10, _⟩ => ⟨S1x384x2048, .f32⟩
  | .local _ .vmem, ⟨11, _⟩ => ⟨S1x384x2048, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 22], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x384x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutEvenRefIdeal.lean ====
abbrev S2x8448x1024 : Shape := ⟨3, ![2, 8448, 1024]⟩
abbrev S2048x2048 : Shape := ⟨2, ![2048, 2048]⟩
abbrev S2x8192x2048 : Shape := ⟨3, ![2, 8192, 2048]⟩
abbrev S2x256x2048 : Shape := ⟨3, ![2, 256, 2048]⟩
abbrev S2048 : Shape := ⟨1, ![2048]⟩
abbrev S2x6x2048 : Shape := ⟨3, ![2, 6, 2048]⟩
abbrev S6x2048 : Shape := ⟨2, ![6, 2048]⟩
abbrev S2x8448x2048 : Shape := ⟨3, ![2, 8448, 2048]⟩
abbrev S_ : Shape := ⟨0, ![]⟩
abbrev S2x8448 : Shape := ⟨2, ![2, 8448]⟩
abbrev S2x8448x1 : Shape := ⟨3, ![2, 8448, 1]⟩
abbrev S1x1x2048 : Shape := ⟨3, ![1, 1, 2048]⟩
abbrev S1x2048 : Shape := ⟨2, ![1, 2048]⟩
abbrev S2x1x2048 : Shape := ⟨3, ![2, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2048x2048, .f32⟩
  | .hbm, ⟨3, _⟩ => ⟨S2x8192x2048, .f32⟩
  | .hbm, ⟨4, _⟩ => ⟨S2x256x2048, .f32⟩
  | .hbm, ⟨5, _⟩ => ⟨S2048, .f32⟩
  | .hbm, ⟨6, _⟩ => ⟨S2x6x2048, .f32⟩
  | .hbm, ⟨7, _⟩ => ⟨S6x2048, .f32⟩
  | .hbm, ⟨8, _⟩ => ⟨S2x8448x2048, .f32⟩
  | .hbm, ⟨9, _⟩ => ⟨S2x8448x2048, .f32⟩
  | .hbm, ⟨10, _⟩ => ⟨S2x8448x2048, .f32⟩
  | .hbm, ⟨11, _⟩ => ⟨S_, .f32⟩
  | .hbm, ⟨12, _⟩ => ⟨S2x8448, .f32⟩
  | .hbm, ⟨13, _⟩ => ⟨S2x8448x1, .f32⟩
  | .hbm, ⟨14, _⟩ => ⟨S_, .f32⟩
  | .hbm, ⟨15, _⟩ => ⟨S2x8448x1, .f32⟩
  | .hbm, ⟨16, _⟩ => ⟨S2x8448x1, .f32⟩
  | .hbm, ⟨17, _⟩ => ⟨S_, .f32⟩
  | .hbm, ⟨18, _⟩ => ⟨S2x8448x1, .f32⟩
  | .hbm, ⟨19, _⟩ => ⟨S2x8448x1, .f32⟩
  | .hbm, ⟨20, _⟩ => ⟨S2x8448x1, .f32⟩
  | .hbm, ⟨21, _⟩ => ⟨S2x8448x2048, .f32⟩
  | .hbm, ⟨22, _⟩ => ⟨S2x8448x2048, .f32⟩
  | .hbm, ⟨23, _⟩ => ⟨S1x1x2048, .f32⟩
  | .hbm, ⟨24, _⟩ => ⟨S2x8448x2048, .f32⟩
  | .hbm, ⟨25, _⟩ => ⟨S2x8448x2048, .f32⟩
  | .hbm, ⟨26, _⟩ => ⟨S1x2048, .f32⟩
  | .hbm, ⟨27, _⟩ => ⟨S2048, .f32⟩
  | .hbm, ⟨28, _⟩ => ⟨S2x256x2048, .f32⟩
  | .hbm, ⟨29, _⟩ => ⟨S1x1x2048, .f32⟩
  | .hbm, ⟨30, _⟩ => ⟨S2x256x2048, .f32⟩
  | .hbm, ⟨31, _⟩ => ⟨S2x256x2048, .f32⟩
  | .hbm, ⟨32, _⟩ => ⟨S2x256x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8448x2048, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== OutOdd.lean ====
abbrev S2x8448x4096 : Shape := ⟨3, ![2, 8448, 4096]⟩
abbrev S2x8448x12288 : Shape := ⟨3, ![2, 8448, 12288]⟩
abbrev S128 : Shape := ⟨1, ![128]⟩
abbrev S4096x2048 : Shape := ⟨2, ![4096, 2048]⟩
abbrev S2x8192x2048 : Shape := ⟨3, ![2, 8192, 2048]⟩
abbrev S2x256x2048 : Shape := ⟨3, ![2, 256, 2048]⟩
abbrev S2048 : Shape := ⟨1, ![2048]⟩
abbrev S2x6x2048 : Shape := ⟨3, ![2, 6, 2048]⟩
abbrev S6x2048 : Shape := ⟨2, ![6, 2048]⟩
abbrev S2x8448x2048 : Shape := ⟨3, ![2, 8448, 2048]⟩
abbrev S2x1x6x2048 : Shape := ⟨4, ![2, 1, 6, 2048]⟩
abbrev S2x2x6x2048 : Shape := ⟨4, ![2, 2, 6, 2048]⟩
abbrev S1x128 : Shape := ⟨2, ![1, 128]⟩
abbrev S1x2048 : Shape := ⟨2, ![1, 2048]⟩
abbrev S1x384x1024 : Shape := ⟨3, ![1, 384, 1024]⟩
abbrev S1024x2048 : Shape := ⟨2, ![1024, 2048]⟩
abbrev S1x384x2048 : Shape := ⟨3, ![1, 384, 2048]⟩
abbrev S1x2x6x2048 : Shape := ⟨4, ![1, 2, 6, 2048]⟩
abbrev S384x2048 : Shape := ⟨2, ![384, 2048]⟩
abbrev S1x384x128 : Shape := ⟨3, ![1, 384, 128]⟩
abbrev S384x128 : Shape := ⟨2, ![384, 128]⟩
abbrev S384 : Shape := ⟨1, ![384]⟩
abbrev S384x1 : Shape := ⟨2, ![384, 1]⟩
abbrev S384x1024 : Shape := ⟨2, ![384, 1024]⟩
abbrev S1x1x1x2048 : Shape := ⟨4, ![1, 1, 1, 2048]⟩

abbrev nBuf : Space → Nat
  | .hbm => 19
  | .vmem => 17
  | .smem => 0
  | _ => 0

abbrev bufTy : (tb : Table) → Fin (tcTables nBuf tb) → BufTy
  | .hbm, ⟨0, _⟩ => ⟨S2x8448x4096, .f32⟩
  | .hbm, ⟨1, _⟩ => ⟨S2x8448x4096, .f32⟩
  | .hbm, ⟨2, _⟩ => ⟨S2x8448x12288, .f32⟩
  | .hbm, ⟨3, _⟩ => ⟨S128, .f32⟩
  | .hbm, ⟨4, _⟩ => ⟨S4096x2048, .f32⟩
  | .hbm, ⟨5, _⟩ => ⟨S2x8192x2048, .f32⟩
  | .hbm, ⟨6, _⟩ => ⟨S2x256x2048, .f32⟩
  | .hbm, ⟨7, _⟩ => ⟨S2048, .f32⟩
  | .hbm, ⟨8, _⟩ => ⟨S2x6x2048, .f32⟩
  | .hbm, ⟨9, _⟩ => ⟨S6x2048, .f32⟩
  | .hbm, ⟨10, _⟩ => ⟨S2x8448x2048, .f32⟩
  | .hbm, ⟨11, _⟩ => ⟨S4096x2048, .bf16⟩
  | .hbm, ⟨12, _⟩ => ⟨S2x6x2048, .f32⟩
  | .hbm, ⟨13, _⟩ => ⟨S2x1x6x2048, .f32⟩
  | .hbm, ⟨14, _⟩ => ⟨S2x1x6x2048, .f32⟩
  | .hbm, ⟨15, _⟩ => ⟨S2x2x6x2048, .f32⟩
  | .hbm, ⟨16, _⟩ => ⟨S1x128, .f32⟩
  | .hbm, ⟨17, _⟩ => ⟨S1x2048, .f32⟩
  | .hbm, ⟨18, _⟩ => ⟨S2x8448x2048, .f32⟩
  | .local _ .vmem, ⟨0, _⟩ => ⟨S1x384x1024, .f32⟩
  | .local _ .vmem, ⟨1, _⟩ => ⟨S1x384x1024, .f32⟩
  | .local _ .vmem, ⟨2, _⟩ => ⟨S1x384x1024, .f32⟩
  | .local _ .vmem, ⟨3, _⟩ => ⟨S1x384x1024, .f32⟩
  | .local _ .vmem, ⟨4, _⟩ => ⟨S1x384x1024, .f32⟩
  | .local _ .vmem, ⟨5, _⟩ => ⟨S1x384x1024, .f32⟩
  | .local _ .vmem, ⟨6, _⟩ => ⟨S1x128, .f32⟩
  | .local _ .vmem, ⟨7, _⟩ => ⟨S1024x2048, .bf16⟩
  | .local _ .vmem, ⟨8, _⟩ => ⟨S1024x2048, .bf16⟩
  | .local _ .vmem, ⟨9, _⟩ => ⟨S1x384x2048, .f32⟩
  | .local _ .vmem, ⟨10, _⟩ => ⟨S1x384x2048, .f32⟩
  | .local _ .vmem, ⟨11, _⟩ => ⟨S1x2048, .f32⟩
  | .local _ .vmem, ⟨12, _⟩ => ⟨S1x2x6x2048, .f32⟩
  | .local _ .vmem, ⟨13, _⟩ => ⟨S1x2x6x2048, .f32⟩
  | .local _ .vmem, ⟨14, _⟩ => ⟨S1x384x2048, .f32⟩
  | .local _ .vmem, ⟨15, _⟩ => ⟨S1x384x2048, .f32⟩
  | .local _ .vmem, ⟨16, _⟩ => ⟨S384x2048, .f32⟩
  | _, _ => ⟨S2x8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 22, 4], ![false, false, false]⟩

def k0_cond2 (i : grid0.Coords) : BitVec 1 :=
  let arg2 : BitVec 32 := BitVec.ofNat 32 (i 2).val
  let c3_i32 : BitVec 32 := 3#32
  let v212 : BitVec 1 := Scalar.cmpi .eq arg2 c3_i32
  let v213 : BitVec 32 := Scalar.extui v212
  let c0_i32_111 : BitVec 32 := 0#32
  let v214 : BitVec 1 := Scalar.cmpi .ne v213 c0_i32_111
  v214

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x384x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== OutOddRefIdeal.lean ====
abbrev S2x8448x4096 : Shape := ⟨3, ![2, 8448, 4096]⟩
abbrev S2x8448x12288 : Shape := ⟨3, ![2, 8448, 12288]⟩
abbrev S128 : Shape := ⟨1, ![128]⟩
abbrev S4096x2048 : Shape := ⟨2, ![4096, 2048]⟩
abbrev S2x8192x2048 : Shape := ⟨3, ![2, 8192, 2048]⟩
abbrev S2x256x2048 : Shape := ⟨3, ![2, 256, 2048]⟩
abbrev S2048 : Shape := ⟨1, ![2048]⟩
abbrev S2x6x2048 : Shape := ⟨3, ![2, 6, 2048]⟩
abbrev S6x2048 : Shape := ⟨2, ![6, 2048]⟩
abbrev S2x8448x32x128 : Shape := ⟨4, ![2, 8448, 32, 128]⟩
abbrev S_ : Shape := ⟨0, ![]⟩
abbrev S2x8448x32 : Shape := ⟨3, ![2, 8448, 32]⟩
abbrev S2x8448x32x1 : Shape := ⟨4, ![2, 8448, 32, 1]⟩
abbrev S1x1x1x128 : Shape := ⟨4, ![1, 1, 1, 128]⟩
abbrev S2x8448x2048 : Shape := ⟨3, ![2, 8448, 2048]⟩
abbrev S2x8448 : Shape := ⟨2, ![2, 8448]⟩
abbrev S2x8448x1 : Shape := ⟨3, ![2, 8448, 1]⟩
abbrev S1x1x2048 : Shape := ⟨3, ![1, 1, 2048]⟩
abbrev S1x2048 : Shape := ⟨2, ![1, 2048]⟩
abbrev S2x1x2048 : Shape := ⟨3, ![2, 1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2x8448x4096, .f32⟩
  | .hbm, ⟨1, _⟩ => ⟨S2x8448x4096, .f32⟩
  | .hbm, ⟨2, _⟩ => ⟨S2x8448x12288, .f32⟩
  | .hbm, ⟨3, _⟩ => ⟨S128, .f32⟩
  | .hbm, ⟨4, _⟩ => ⟨S4096x2048, .f32⟩
  | .hbm, ⟨5, _⟩ => ⟨S2x8192x2048, .f32⟩
  | .hbm, ⟨6, _⟩ => ⟨S2x256x2048, .f32⟩
  | .hbm, ⟨7, _⟩ => ⟨S2048, .f32⟩
  | .hbm, ⟨8, _⟩ => ⟨S2x6x2048, .f32⟩
  | .hbm, ⟨9, _⟩ => ⟨S6x2048, .f32⟩
  | .hbm, ⟨10, _⟩ => ⟨S2x8448x32x128, .f32⟩
  | .hbm, ⟨11, _⟩ => ⟨S2x8448x32x128, .f32⟩
  | .hbm, ⟨12, _⟩ => ⟨S2x8448x32x128, .f32⟩
  | .hbm, ⟨13, _⟩ => ⟨S2x8448x32x128, .f32⟩
  | .hbm, ⟨14, _⟩ => ⟨S_, .f32⟩
  | .hbm, ⟨15, _⟩ => ⟨S2x8448x32, .f32⟩
  | .hbm, ⟨16, _⟩ => ⟨S2x8448x32x1, .f32⟩
  | .hbm, ⟨17, _⟩ => ⟨S_, .f32⟩
  | .hbm, ⟨18, _⟩ => ⟨S2x8448x32x1, .f32⟩
  | .hbm, ⟨19, _⟩ => ⟨S2x8448x32x1, .f32⟩
  | .hbm, ⟨20, _⟩ => ⟨S_, .f32⟩
  | .hbm, ⟨21, _⟩ => ⟨S2x8448x32x1, .f32⟩
  | .hbm, ⟨22, _⟩ => ⟨S2x8448x32x1, .f32⟩
  | .hbm, ⟨23, _⟩ => ⟨S2x8448x32x1, .f32⟩
  | .hbm, ⟨24, _⟩ => ⟨S2x8448x32x128, .f32⟩
  | .hbm, ⟨25, _⟩ => ⟨S2x8448x32x128, .f32⟩
  | .hbm, ⟨26, _⟩ => ⟨S1x1x1x128, .f32⟩
  | .hbm, ⟨27, _⟩ => ⟨S2x8448x32x128, .f32⟩
  | .hbm, ⟨28, _⟩ => ⟨S2x8448x32x128, .f32⟩
  | .hbm, ⟨29, _⟩ => ⟨S2x8448x4096, .f32⟩
  | .hbm, ⟨30, _⟩ => ⟨S2x8448x32x128, .f32⟩
  | .hbm, ⟨31, _⟩ => ⟨S2x8448x32x128, .f32⟩
  | .hbm, ⟨32, _⟩ => ⟨S2x8448x32x128, .f32⟩
  | .hbm, ⟨33, _⟩ => ⟨S_, .f32⟩
  | .hbm, ⟨34, _⟩ => ⟨S2x8448x32x128, .f32⟩
  | .hbm, ⟨35, _⟩ => ⟨S2x8448x32x128, .f32⟩
  | .hbm, ⟨36, _⟩ => ⟨S_, .f32⟩
  | .hbm, ⟨37, _⟩ => ⟨S2x8448x32x128, .f32⟩
  | .hbm, ⟨38, _⟩ => ⟨S2x8448x32x128, .f32⟩
  | .hbm, ⟨39, _⟩ => ⟨S2x8448x32x128, .f32⟩
  | .hbm, ⟨40, _⟩ => ⟨S2x8448x32x128, .f32⟩
  | .hbm, ⟨41, _⟩ => ⟨S2x8448x4096, .f32⟩
  | .hbm, ⟨42, _⟩ => ⟨S2x8448x2048, .f32⟩
  | .hbm, ⟨43, _⟩ => ⟨S2x8448x2048, .f32⟩
  | .hbm, ⟨44, _⟩ => ⟨S_, .f32⟩
  | .hbm, ⟨45, _⟩ => ⟨S2x8448, .f32⟩
  | .hbm, ⟨46, _⟩ => ⟨S2x8448x1, .f32⟩
  | .hbm, ⟨47, _⟩ => ⟨S_, .f32⟩
  | .hbm, ⟨48, _⟩ => ⟨S2x8448x1, .f32⟩
  | .hbm, ⟨49, _⟩ => ⟨S2x8448x1, .f32⟩
  | .hbm, ⟨50, _⟩ => ⟨S_, .f32⟩
  | .hbm, ⟨51, _⟩ => ⟨S2x8448x1, .f32⟩
  | .hbm, ⟨52, _⟩ => ⟨S2x8448x1, .f32⟩
  | .hbm, ⟨53, _⟩ => ⟨S2x8448x1, .f32⟩
  | .hbm, ⟨54, _⟩ => ⟨S2x8448x2048, .f32⟩
  | .hbm, ⟨55, _⟩ => ⟨S2x8448x2048, .f32⟩
  | .hbm, ⟨56, _⟩ => ⟨S1x1x2048, .f32⟩
  | .hbm, ⟨57, _⟩ => ⟨S2x8448x2048, .f32⟩
  | .hbm, ⟨58, _⟩ => ⟨S2x8448x2048, .f32⟩
  | .hbm, ⟨59, _⟩ => ⟨S1x2048, .f32⟩
  | .hbm, ⟨60, _⟩ => ⟨S2048, .f32⟩
  | .hbm, ⟨61, _⟩ => ⟨S2x256x2048, .f32⟩
  | .hbm, ⟨62, _⟩ => ⟨S1x1x2048, .f32⟩
  | .hbm, ⟨63, _⟩ => ⟨S2x256x2048, .f32⟩
  | .hbm, ⟨64, _⟩ => ⟨S2x256x2048, .f32⟩
  | .hbm, ⟨65, _⟩ => ⟨S2x256x2048, .f32⟩
  | .hbm, ⟨66, _⟩ => ⟨S2x1x2048, .f32⟩
  | .hbm, ⟨67, _⟩ => ⟨S2x8192x2048, .f32⟩
  | .hbm, ⟨68, _⟩ => ⟨S2x8192x2048, .f32⟩
  | .hbm, ⟨69, _⟩ => ⟨S2x8192x2048, .f32⟩
  | .hbm, ⟨70, _⟩ => ⟨S2x8192x2048, .f32⟩
  | .hbm, ⟨71, _⟩ => ⟨S2x8448x2048, .f32⟩
  | _, _ => ⟨S2x8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Post.lean ====
abbrev S2x8192x2048 : Shape := ⟨3, ![2, 8192, 2048]⟩
abbrev S2x256x2048 : Shape := ⟨3, ![2, 256, 2048]⟩
abbrev S2048 : Shape := ⟨1, ![2048]⟩
abbrev S2x6x2048 : Shape := ⟨3, ![2, 6, 2048]⟩
abbrev S6x2048 : Shape := ⟨2, ![6, 2048]⟩
abbrev S2x8448x2048 : Shape := ⟨3, ![2, 8448, 2048]⟩
abbrev S2x1x6x2048 : Shape := ⟨4, ![2, 1, 6, 2048]⟩
abbrev S2x2x6x2048 : Shape := ⟨4, ![2, 2, 6, 2048]⟩
abbrev S1x2048 : Shape := ⟨2, ![1, 2048]⟩
abbrev S1x256x2048 : Shape := ⟨3, ![1, 256, 2048]⟩
abbrev S1x2x6x2048 : Shape := ⟨4, ![1, 2, 6, 2048]⟩
abbrev S256x2048 : Shape := ⟨2, ![256, 2048]⟩
abbrev S256 : Shape := ⟨1, ![256]⟩
abbrev S256x1 : Shape := ⟨2, ![256, 1]⟩
abbrev S1x1x1x2048 : Shape := ⟨4, ![1, 1, 1, 2048]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2x8192x2048, .f32⟩
  | .hbm, ⟨3, _⟩ => ⟨S2048, .f32⟩
  | .hbm, ⟨4, _⟩ => ⟨S2x6x2048, .f32⟩
  | .hbm, ⟨5, _⟩ => ⟨S6x2048, .f32⟩
  | .hbm, ⟨6, _⟩ => ⟨S2x8448x2048, .f32⟩
  | .hbm, ⟨7, _⟩ => ⟨S2x6x2048, .f32⟩
  | .hbm, ⟨8, _⟩ => ⟨S2x1x6x2048, .f32⟩
  | .hbm, ⟨9, _⟩ => ⟨S2x1x6x2048, .f32⟩
  | .hbm, ⟨10, _⟩ => ⟨S2x2x6x2048, .f32⟩
  | .hbm, ⟨11, _⟩ => ⟨S1x2048, .f32⟩
  | .hbm, ⟨12, _⟩ => ⟨S2x8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x2048, .f32⟩
  | .local _ .vmem, ⟨7, _⟩ => ⟨S1x2x6x2048, .f32⟩
  | .local _ .vmem, ⟨8, _⟩ => ⟨S1x2x6x2048, .f32⟩
  | .local _ .vmem, ⟨9, _⟩ => ⟨S1x256x2048, .f32⟩
  | .local _ .vmem, ⟨10, _⟩ => ⟨S1x256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PostRefIdeal.lean ====
abbrev S2x8192x2048 : Shape := ⟨3, ![2, 8192, 2048]⟩
abbrev S2x256x2048 : Shape := ⟨3, ![2, 256, 2048]⟩
abbrev S2048 : Shape := ⟨1, ![2048]⟩
abbrev S2x6x2048 : Shape := ⟨3, ![2, 6, 2048]⟩
abbrev S6x2048 : Shape := ⟨2, ![6, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S2x8192x2048, .f32⟩
  | .hbm, ⟨3, _⟩ => ⟨S2048, .f32⟩
  | .hbm, ⟨4, _⟩ => ⟨S2x6x2048, .f32⟩
  | .hbm, ⟨5, _⟩ => ⟨S6x2048, .f32⟩
  | .hbm, ⟨6, _⟩ => ⟨S2x1x2048, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Delta.lean ====
abbrev S2x8448x8192 : Shape := ⟨3, ![2, 8448, 8192]⟩
abbrev S2x8448x2048 : Shape := ⟨3, ![2, 8448, 2048]⟩
abbrev S2x8448x128 : Shape := ⟨3, ![2, 8448, 128]⟩
abbrev S2x8448x4096 : Shape := ⟨3, ![2, 8448, 4096]⟩
abbrev S1x256x4096 : Shape := ⟨3, ![1, 256, 4096]⟩
abbrev S1x256x1024 : Shape := ⟨3, ![1, 256, 1024]⟩
abbrev S1x256x128 : Shape := ⟨3, ![1, 256, 128]⟩
abbrev S1x256x2048 : Shape := ⟨3, ![1, 256, 2048]⟩
abbrev S16x128x128 : Shape := ⟨3, ![16, 128, 128]⟩
abbrev S1x64x128 : Shape := ⟨3, ![1, 64, 128]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S1x1 : Shape := ⟨2, ![1, 1]⟩
abbrev S1x128x128 : Shape := ⟨3, ![1, 128, 128]⟩
abbrev S128x128 : Shape := ⟨2, ![128, 128]⟩
abbrev S1x64x64 : Shape := ⟨3, ![1, 64, 64]⟩
abbrev S64x64 : Shape := ⟨2, ![64, 64]⟩
abbrev S128x64 : Shape := ⟨2, ![128, 64]⟩

abbrev nBuf : Space → Nat
  | .hbm => 8
  | .vmem => 13
  | .smem => 0
  | _ => 0

abbrev bufTy : (tb : Table) → Fin (tcTables nBuf tb) → BufTy
  | .hbm, ⟨0, _⟩ => ⟨S2x8448x8192, .f32⟩
  | .hbm, ⟨1, _⟩ => ⟨S2x8448x2048, .f32⟩
  | .hbm, ⟨2, _⟩ => ⟨S2x8448x8192, .f32⟩
  | .hbm, ⟨3, _⟩ => ⟨S2x8448x128, .f32⟩
  | .hbm, ⟨4, _⟩ => ⟨S2x8448x8192, .bf16⟩
  | .hbm, ⟨5, _⟩ => ⟨S2x8448x2048, .bf16⟩
  | .hbm, ⟨6, _⟩ => ⟨S2x8448x8192, .bf16⟩
  | .hbm, ⟨7, _⟩ => ⟨S2x8448x4096, .f32⟩
  | .local _ .vmem, ⟨0, _⟩ => ⟨S1x256x4096, .bf16⟩
  | .local _ .vmem, ⟨1, _⟩ => ⟨S1x256x4096, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x256x2048, .f32⟩
  | .local _ .vmem, ⟨11, _⟩ => ⟨S1x256x2048, .f32⟩
  | .local _ .vmem, ⟨12, _⟩ => ⟨S16x128x128, .f32⟩
  | _, _ => ⟨S2x8448x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 33], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DeltaRefIdeal.lean ====
abbrev S2x8448x8192 : Shape := ⟨3, ![2, 8448, 8192]⟩
abbrev S2x8448x2048 : Shape := ⟨3, ![2, 8448, 2048]⟩
abbrev S2x8448x128 : Shape := ⟨3, ![2, 8448, 128]⟩
abbrev S2x8448x16x128 : Shape := ⟨4, ![2, 8448, 16, 128]⟩
abbrev S2x8448x16x2x128 : Shape := ⟨5, ![2, 8448, 16, 2, 128]⟩
abbrev S2x8448x32x128 : Shape := ⟨4, ![2, 8448, 32, 128]⟩
abbrev S2x8448x32x256 : Shape := ⟨4, ![2, 8448, 32, 256]⟩
abbrev S2x132x64x32x128 : Shape := ⟨5, ![2, 132, 64, 32, 128]⟩
abbrev S2x32x132x64x128 : Shape := ⟨5, ![2, 32, 132, 64, 128]⟩
abbrev S2x8448x32x64 : Shape := ⟨4, ![2, 8448, 32, 64]⟩
abbrev S2x132x64x32x64 : Shape := ⟨5, ![2, 132, 64, 32, 64]⟩
abbrev S2x32x132x64x64 : Shape := ⟨5, ![2, 32, 132, 64, 64]⟩
abbrev S2x8448x32 : Shape := ⟨3, ![2, 8448, 32]⟩
abbrev S2x132x64x32 : Shape := ⟨4, ![2, 132, 64, 32]⟩
abbrev S2x32x132x64 : Shape := ⟨4, ![2, 32, 132, 64]⟩
abbrev S2x32x132x64x1 : Shape := ⟨5, ![2, 32, 132, 64, 1]⟩
abbrev S2x32x132x1 : Shape := ⟨4, ![2, 32, 132, 1]⟩
abbrev S2x32x132 : Shape := ⟨3, ![2, 32, 132]⟩
abbrev S132x2x32x64x128 : Shape := ⟨5, ![132, 2, 32, 64, 128]⟩
abbrev S132x2x32x64x64 : Shape := ⟨5, ![132, 2, 32, 64, 64]⟩
abbrev S132x2x32 : Shape := ⟨3, ![132, 2, 32]⟩
abbrev S_ : Shape := ⟨0, ![]⟩
abbrev S2x32x128x128 : Shape := ⟨4, ![2, 32, 128, 128]⟩
abbrev S1x2x32x64x128 : Shape := ⟨5, ![1, 2, 32, 64, 128]⟩
abbrev S2x32x64x128 : Shape := ⟨4, ![2, 32, 64, 128]⟩
abbrev S1x2x32x64x64 : Shape := ⟨5, ![1, 2, 32, 64, 64]⟩
abbrev S2x32x64x64 : Shape := ⟨4, ![2, 32, 64, 64]⟩
abbrev S1x2x32 : Shape := ⟨3, ![1, 2, 32]⟩
abbrev S2x32 : Shape := ⟨2, ![2, 32]⟩
abbrev S2x32x1x1 : Shape := ⟨4, ![2, 32, 1, 1]⟩
abbrev S2x8448x4096 : Shape := ⟨3, ![2, 8448, 4096]⟩

abbrev nBuf : Space → Nat
  | .hbm => 119
  | .vmem => 0
  | .smem => 0
  | _ => 0

abbrev bufTy : (tb : Table) → Fin (tcTables nBuf tb) → BufTy
  | .hbm, ⟨0, _⟩ => ⟨S2x8448x8192, .f32⟩
  | .hbm, ⟨1, _⟩ => ⟨S2x8448x2048, .f32⟩
  | .hbm, ⟨2, _⟩ => ⟨S2x8448x8192, .f32⟩
  | .hbm, ⟨3, _⟩ => ⟨S2x8448x128, .f32⟩
  | .hbm, ⟨4, _⟩ => ⟨S2x8448x2048, .f32⟩
  | .hbm, ⟨5, _⟩ => ⟨S2x8448x16x128, .f32⟩
  | .hbm, ⟨6, _⟩ => ⟨S2x8448x16x2x128, .f32⟩
  | .hbm, ⟨7, _⟩ => ⟨S2x8448x32x128, .f32⟩
  | .hbm, ⟨8, _⟩ => ⟨S2x8448x2048, .f32⟩
  | .hbm, ⟨9, _⟩ => ⟨S2x8448x16x128, .f32⟩
  | .hbm, ⟨10, _⟩ => ⟨S2x8448x16x2x128, .f32⟩
  | .hbm, ⟨11, _⟩ => ⟨S2x8448x32x128, .f32⟩
  | .hbm, ⟨12, _⟩ => ⟨S2x8448x32x256, .f32⟩
  | .hbm, ⟨13, _⟩ => ⟨S2x132x64x32x128, .f32⟩
  | .hbm, ⟨14, _⟩ => ⟨S2x32x132x64x128, .f32⟩
  | .hbm, ⟨15, _⟩ => ⟨S2x132x64x32x128, .f32⟩
  | .hbm, ⟨16, _⟩ => ⟨S2x32x132x64x128, .f32⟩
  | .hbm, ⟨17, _⟩ => ⟨S2x8448x32x128, .f32⟩
  | .hbm, ⟨18, _⟩ => ⟨S2x132x64x32x128, .f32⟩
  | .hbm, ⟨19, _⟩ => ⟨S2x32x132x64x128, .f32⟩
  | .hbm, ⟨20, _⟩ => ⟨S2x8448x32x128, .f32⟩
  | .hbm, ⟨21, _⟩ => ⟨S2x132x64x32x128, .f32⟩
  | .hbm, ⟨22, _⟩ => ⟨S2x32x132x64x128, .f32⟩
  | .hbm, ⟨23, _⟩ => ⟨S2x8448x32x64, .f32⟩
  | .hbm, ⟨24, _⟩ => ⟨S2x132x64x32x64, .f32⟩
  | .hbm, ⟨25, _⟩ => ⟨S2x32x132x64x64, .f32⟩
  | .hbm, ⟨26, _⟩ => ⟨S2x8448x32, .f32⟩
  | .hbm, ⟨27, _⟩ => ⟨S2x132x64x32, .f32⟩
  | .hbm, ⟨28, _⟩ => ⟨S2x32x132x64, .f32⟩
  | .hbm, ⟨29, _⟩ => ⟨S2x32x132x64, .f32⟩
  | .hbm, ⟨30, _⟩ => ⟨S2x32x132x64x1, .f32⟩
  | .hbm, ⟨31, _⟩ => ⟨S2x32x132x64x128, .f32⟩
  | .hbm, ⟨32, _⟩ => ⟨S2x32x132x64x128, .f32⟩
  | .hbm, ⟨33, _⟩ => ⟨S2x32x132x1, .f32⟩
  | .hbm, ⟨34, _⟩ => ⟨S2x32x132x64, .f32⟩
  | .hbm, ⟨35, _⟩ => ⟨S2x32x132x64, .f32⟩
  | .hbm, ⟨36, _⟩ => ⟨S2x32x132x64, .f32⟩
  | .hbm, ⟨37, _⟩ => ⟨S2x32x132x64x1, .f32⟩
  | .hbm, ⟨38, _⟩ => ⟨S2x32x132x64x128, .f32⟩
  | .hbm, ⟨39, _⟩ => ⟨S2x32x132x64x128, .f32⟩
  | .hbm, ⟨40, _⟩ => ⟨S2x32x132x1, .f32⟩
  | .hbm, ⟨41, _⟩ => ⟨S2x32x132, .f32⟩
  | .hbm, ⟨42, _⟩ => ⟨S2x32x132, .f32⟩
  | .hbm, ⟨43, _⟩ => ⟨S132x2x32x64x128, .f32⟩
  | .hbm, ⟨44, _⟩ => ⟨S132x2x32x64x128, .f32⟩
  | .hbm, ⟨45, _⟩ => ⟨S132x2x32x64x64, .f32⟩
  | .hbm, ⟨46, _⟩ => ⟨S132x2x32x64x128, .f32⟩
  | .hbm, ⟨47, _⟩ => ⟨S132x2x32x64x128, .f32⟩
  | .hbm, ⟨48, _⟩ => ⟨S132x2x32, .f32⟩
  | .hbm, ⟨49, _⟩ => ⟨S_, .f32⟩
  | .hbm, ⟨50, _⟩ => ⟨S2x32x128x128, .f32⟩
  | .hbm, ⟨51, _⟩ => ⟨S_, .f32⟩
  | .hbm, ⟨52, _⟩ => ⟨S132x2x32x64x128, .f32⟩
  | .hbm, ⟨53, _⟩ => ⟨S_, .i32⟩
  | .hbm, ⟨54, _⟩ => ⟨S132x2x32x64x128, .f32⟩
  | .hbm, ⟨55, _⟩ => ⟨S132x2x32x64x128, .f32⟩
  | .hbm, ⟨56, _⟩ => ⟨S132x2x32x64x64, .f32⟩
  | .hbm, ⟨57, _⟩ => ⟨S132x2x32x64x128, .f32⟩
  | .hbm, ⟨58, _⟩ => ⟨S132x2x32x64x128, .f32⟩
  | .hbm, ⟨59, _⟩ => ⟨S132x2x32, .f32⟩
  | .hbm, ⟨60, _⟩ => ⟨S_, .i32⟩
  | .hbm, ⟨61, _⟩ => ⟨S2x32x128x128, .f32⟩
  | .hbm, ⟨62, _⟩ => ⟨S132x2x32x64x128, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x2x32x64x128, .f32⟩
  | .hbm, ⟨70, _⟩ => ⟨S2x32x64x128, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x2x32x64x128, .f32⟩
  | .hbm, ⟨76, _⟩ => ⟨S2x32x64x128, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x2x32x64x64, .f32⟩
  | .hbm, ⟨82, _⟩ => ⟨S2x32x64x64, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S1x2x32x64x128, .f32⟩
  | .hbm, ⟨88, _⟩ => ⟨S2x32x64x128, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S1x2x32x64x128, .f32⟩
  | .hbm, ⟨94, _⟩ => ⟨S2x32x64x128, .f32⟩
  | .hbm, ⟨95, _⟩ => ⟨S_, .i32⟩
  | .hbm, ⟨96, _⟩ => ⟨S_, .i32⟩
  | .hbm, ⟨97, _⟩ => ⟨S1x2x32, .f32⟩
  | .hbm, ⟨98, _⟩ => ⟨S2x32, .f32⟩
  | .hbm, ⟨99, _⟩ => ⟨S2x32x64x128, .f32⟩
  | .hbm, ⟨100, _⟩ => ⟨S2x32x64x128, .f32⟩
  | .hbm, ⟨101, _⟩ => ⟨S2x32x64x128, .f32⟩
  | .hbm, ⟨102, _⟩ => ⟨S2x32x64x128, .f32⟩
  | .hbm, ⟨103, _⟩ => ⟨S2x32x64x128, .f32⟩
  | .hbm, ⟨104, _⟩ => ⟨S2x32x1x1, .f32⟩
  | .hbm, ⟨105, _⟩ => ⟨S2x32x128x128, .f32⟩
  | .hbm, ⟨106, _⟩ => ⟨S2x32x128x128, .f32⟩
  | .hbm, ⟨107, _⟩ => ⟨S2x32x128x128, .f32⟩
  | .hbm, ⟨108, _⟩ => ⟨S2x32x128x128, .f32⟩
  | .hbm, ⟨109, _⟩ => ⟨S1x2x32x64x128, .f32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S132x2x32x64x128, .f32⟩
  | .hbm, ⟨115, _⟩ => ⟨S_, .i32⟩
  | .hbm, ⟨116, _⟩ => ⟨S_, .i32⟩
  | .hbm, ⟨117, _⟩ => ⟨S2x132x64x32x128, .f32⟩
  | .hbm, ⟨118, _⟩ => ⟨S2x8448x4096, .f32⟩
  | _, _ => ⟨S2x8448x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst : Ref sig .tc := ⟨.hbm, 49, rfl⟩
abbrev main_v45 : Ref sig .tc := ⟨.hbm, 50, rfl⟩
abbrev main_cst_0 : Ref sig .tc := ⟨.hbm, 51, rfl⟩
abbrev main_v46 : Ref sig .tc := ⟨.hbm, 52, rfl⟩
abbrev main_c : Ref sig .tc := ⟨.hbm, 53, rfl⟩
abbrev main_v47_0 : Ref sig .tc := ⟨.hbm, 54, rfl⟩
abbrev main_v47_1 : Ref sig .tc := ⟨.hbm, 55, rfl⟩
abbrev main_v47_2 : Ref sig .tc := ⟨.hbm, 56, rfl⟩
abbrev main_v47_3 : Ref sig .tc := ⟨.hbm, 57, rfl⟩
abbrev main_v47_4 : Ref sig .tc := ⟨.hbm, 58, rfl⟩
abbrev main_v47_5 : Ref sig .tc := ⟨.hbm, 59, rfl⟩
abbrev main_v47_6 : Ref sig .tc := ⟨.hbm, 60, rfl⟩
abbrev main_v47_7 : Ref sig .tc := ⟨.hbm, 61, rfl⟩
abbrev main_v47_8 : Ref sig .tc := ⟨.hbm, 62, rfl⟩
abbrev main_while0c_c_9 : Ref sig .tc := ⟨.hbm, 63, rfl⟩
abbrev main_while0c_v50 : Ref sig .tc := ⟨.hbm, 64, rfl⟩
abbrev main_while0b_call0_c : Ref sig .tc := ⟨.hbm, 65, rfl⟩
abbrev main_while0b_call0_c_0 : Ref sig .tc := ⟨.hbm, 66, rfl⟩
abbrev main_while0b_call0_c_1 : Ref sig .tc := ⟨.hbm, 67, rfl⟩
abbrev main_while0b_call0_c_2 : Ref sig .tc := ⟨.hbm, 68, rfl⟩
abbrev main_while0b_call0_v0 : Ref sig .tc := ⟨.hbm, 69, rfl⟩
abbrev main_while0b_v50 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_c_2 : Ref sig .tc := ⟨.hbm, 74, rfl⟩
abbrev main_while0b_call1_v0 : Ref sig .tc := ⟨.hbm, 75, rfl⟩
abbrev main_while0b_v51 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v52 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v53 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v54 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_v0 : Ref sig .tc := ⟨.hbm, 97, rfl⟩
abbrev main_while0b_v55 : Ref sig .tc := ⟨.hbm, 98, rfl⟩
abbrev main_while0b_v56 : Ref sig .tc := ⟨.hbm, 99, rfl⟩
abbrev main_while0b_v57 : Ref sig .tc := ⟨.hbm, 100, rfl⟩
abbrev main_while0b_v58 : Ref sig .tc := ⟨.hbm, 101, rfl⟩
abbrev main_while0b_v59 : Ref sig .tc := ⟨.hbm, 102, rfl⟩
abbrev main_while0b_v60 : Ref sig .tc := ⟨.hbm, 103, rfl⟩
abbrev main_while0b_v61 : Ref sig .tc := ⟨.hbm, 104, rfl⟩
abbrev main_while0b_v62 : Ref sig .tc := ⟨.hbm, 105, rfl⟩
abbrev main_while0b_v63 : Ref sig .tc := ⟨.hbm, 106, rfl⟩
abbrev main_while0b_v64 : Ref sig .tc := ⟨.hbm, 107, rfl⟩
abbrev main_while0b_v65 : Ref sig .tc := ⟨.hbm, 108, rfl⟩
abbrev main_while0b_call6_v0 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_v66 : Ref sig .tc := ⟨.hbm, 114, rfl⟩
abbrev main_while0b_c_9 : Ref sig .tc := ⟨.hbm, 115, rfl⟩
abbrev main_while0b_v67 : Ref sig .tc := ⟨.hbm, 116, rfl⟩
abbrev main_v48 : Ref sig .tc := ⟨.hbm, 117, rfl⟩
abbrev main_v49 : Ref sig .tc := ⟨.hbm, 118, rfl⟩

abbrev nD : Nat := 1
abbrev τ : Topo := Topo.v7x

variable {F : FTy → Type} [FloatOps F]

abbrev main_while0_count : Scf.Loop 32 := ⟨0#32, 132#32, 1#32⟩
-- ==== Proof.ScanMath.lean ====
module

public import Idealize.ShloMosaic.Lib.Pointwise

/-! One chunk of one head of the gated recurrence, on the extended reals: the forget gate, the decays summed along the
chunk, the attention within the chunk, the chunk's outputs and the state it leaves. -/

@[expose] public section

noncomputable section

namespace Cert.Scan

open Idealize.ShloMosaic

section
variable (LB : Fin 128 → EReal) (Z Q V : Fin 64 → Fin 128 → EReal) (S : Fin 128 → Fin 128 → EReal)

/-- The forget gate of row `t`, lane `d`. -/
def gate (t : Fin 64) (d : Fin 128) : EReal := LB d + (1 - LB d) * Ideal.logistic (Z t d)

/-- The decay at row `t`: the logarithms of the gates of the rows up to it. -/
def cum (t : Fin 64) (d : Fin 128) : EReal := ∑ s, if s ≤ t then Ideal.log (gate LB Z s d) else 0

/-- The attention of row `t` to row `s`, none to a later row. -/
def att (t s : Fin 64) : EReal :=
  if s ≤ t then ∑ d, Q t d * Ideal.exp (cum LB Z t d - cum LB Z ⟨31, by omega⟩ d)
    * ((1 - gate LB Z s d) * Ideal.exp (cum LB Z ⟨31, by omega⟩ d - cum LB Z s d)) else 0

/-- The chunk's outputs: what its rows attend to, and what the state before the chunk gives. -/
def chunkOut (t : Fin 64) (e : Fin 128) : EReal :=
  ∑ s, att LB Z Q t s * V s e + ∑ d, Q t d * Ideal.exp (cum LB Z t d) * S e d

/-- The state after the chunk, value lane first. -/
def chunkState (e d : Fin 128) : EReal :=
  S e d * Ideal.exp (cum LB Z ⟨63, by omega⟩ d)
    + ∑ s, V s e * ((1 - gate LB Z s d) * Ideal.exp (cum LB Z ⟨63, by omega⟩ d - cum LB Z s d))

end

/-- A sum over a super-chunk's 256 rows of a term that vanishes off chunk `c` is the sum over that chunk's rows. -/
theorem sum_rows (c : Fin 4) (f : Fin 256 → EReal) (h : ∀ r : Fin 256, (r : ℕ) / 64 ≠ c → f r = 0) :
    ∑ r, f r = ∑ s : Fin 64, f ⟨64 * c.val + s.val, by omega⟩ := by
  symm
  refine Finset.sum_of_injOn (fun s : Fin 64 => (⟨64 * c.val + s.val, by omega⟩ : Fin 256)) ?_ ?_ ?_ ?_
  · intro a _ b _ hab
    simp only [Fin.mk.injEq] at hab
    exact Fin.ext (by omega)
  · intro a _
    simp
  · intro r _ hr
    refine h r fun hc => hr ⟨⟨r.val % 64, by omega⟩, by simp, Fin.ext ?_⟩
    simp only
    omega
  · intro s _
    rfl

end Cert.Scan

end
-- ==== Proof.ScanBlock.lean ====
module

public import proofs.«01_k».proof.Proof.Gen.KernelIdeal.Skeleton
public import proofs.«01_k».proof.Proof.ScanMath
public import Idealize.ShloMosaic.Lib.Pointwise

@[expose] public section

set_option maxRecDepth 16384

noncomputable section

namespace Cert.Scan

open Idealize.ShloMosaic Idealize.SL.Sem
open Cert.KernelIdeal Cert.KernelIdeal.Gen

variable {F : FTy → Type} [FloatOps F]

/-- A head's forget gate on a super-chunk's rows: `lb + (1 - lb) · σ(z)`. -/
def gateT (lb : Vec F S1x1x128 .f32) (z : Vec F S1x256x128 .f32) : FVec F S256x128 .f32 :=
  addf (broadcastTo S256x128 (shapeCast S1x128 lb shapeCasts_S1x1x128_S1x128) broadcasts_S1x128_S256x128)
    (mulf (broadcastTo S256x128 (subf (broadcast S1x128 (Scalar.ofBits .f32 0x3F800000#32)) (shapeCast S1x128 lb shapeCasts_S1x1x128_S1x128)) broadcasts_S1x128_S256x128)
      (logistic (shapeCast S256x128 z shapeCasts_S1x256x128_S256x128)))

/-- A head's keys: one minus its forget gate. -/
def keyT (lb : Vec F S1x1x128 .f32) (z : Vec F S1x256x128 .f32) : FVec F S256x128 .f32 :=
  subf (broadcast S256x128 (Scalar.ofBits .f32 0x3F800000#32)) (gateT lb z)

/-- A head's decays: the triangular matrix against the logarithm of its forget gate. -/
def decayT (tri : Vec F S1x256x256 .f32) (lb : Vec F S1x1x128 .f32) (z : Vec F S1x256x128 .f32) : FVec F S256x128 .f32 :=
  matmul dot_S256x256_S256x128_S256x128_1_0_0_1_n_n (some .fp32) (shapeCast S256x256 tri shapeCasts_S1x256x256_S256x256)
    (log (gateT lb z)) (constant S256x128 .f32 0x00000000#32)

/-- A chunk's 64 rows of a super-chunk, from row `r0`. -/
def rowsT (r0 : ℕ) (hs : S256x128.Slices ![r0, 0] S64x128) (x : FVec F S256x128 .f32) : FVec F S64x128 .f32 :=
  extractStridedSlice S64x128 ![r0, 0] x hs

/-- One chunk of one head: its rows of the output. -/
def outT (r0 : ℕ) (hs : S256x128.Slices ![r0, 0] S64x128) (tri : Vec F S1x256x256 .f32) (lb : Vec F S1x1x128 .f32) (z q : Vec F S1x256x128 .f32)
    (v : Vec F S1x64x128 .f32) (st : Vec F S1x128x128 .f32) : FVec F S1x64x128 .f32 :=
  let b := rowsT r0 hs (decayT tri lb z)
  let k := rowsT r0 hs (keyT lb z)
  let qr := rowsT r0 hs (shapeCast S256x128 q shapeCasts_S1x256x128_S256x128)
  let ref := broadcastTo S64x128 (extractStridedSlice S1x128 ![31, 0] b slices_S64x128_o31_0_S1x128) broadcasts_S1x128_S64x128
  let att := mulf (matmul dot_S64x128_S64x128_S64x64_1_1_0_0_n_n none (truncf .bf16 (mulf qr (exp (subf b ref))) bitsLt_bf16_f32)
    (truncf .bf16 (mulf k (exp (subf ref b))) bitsLt_bf16_f32) (constant S64x64 .f32 0x00000000#32))
    (extractStridedSlice S64x64 ![0, 0] (shapeCast S256x256 tri shapeCasts_S1x256x256_S256x256) slices_S256x256_o0_0_S64x64)
  shapeCast S1x64x128 (addf
    (matmul dot_S64x64_S64x128_S64x128_1_0_0_1_n_n none (truncf .bf16 att bitsLt_bf16_f32)
      (truncf .bf16 (shapeCast S64x128 v shapeCasts_S1x64x128_S64x128) bitsLt_bf16_f32) (constant S64x128 .f32 0x00000000#32))
    (matmul dot_S64x128_S128x128_S64x128_1_1_0_0_n_n none (truncf .bf16 (mulf qr (exp b)) bitsLt_bf16_f32)
      (truncf .bf16 (shapeCast S128x128 st shapeCasts_S1x128x128_S128x128) bitsLt_bf16_f32) (constant S64x128 .f32 0x00000000#32)))
    shapeCasts_S64x128_S1x64x128

/-- One chunk of one head: the recurrent state after it. -/
def stateT (r0 : ℕ) (hs : S256x128.Slices ![r0, 0] S64x128) (tri : Vec F S1x256x256 .f32) (lb : Vec F S1x1x128 .f32) (z : Vec F S1x256x128 .f32)
    (v : Vec F S1x64x128 .f32) (st : Vec F S1x128x128 .f32) : FVec F S1x128x128 .f32 :=
  let b := rowsT r0 hs (decayT tri lb z)
  let k := rowsT r0 hs (keyT lb z)
  let last := extractStridedSlice S1x128 ![63, 0] b slices_S64x128_o63_0_S1x128
  shapeCast S1x128x128 (addf
    (mulf (shapeCast S128x128 st shapeCasts_S1x128x128_S128x128) (broadcastTo S128x128 (exp last) broadcasts_S1x128_S128x128))
    (matmul dot_S128x64_S64x128_S128x128_1_0_0_1_n_n none
      (truncf .bf16 (transpose S128x64 [1, 0] (shapeCast S64x128 v shapeCasts_S1x64x128_S64x128) transposes_S64x128_p1_0_S128x64) bitsLt_bf16_f32)
      (truncf .bf16 (mulf k (exp (subf (broadcastTo S64x128 last broadcasts_S1x128_S64x128) b))) bitsLt_bf16_f32) (constant S128x128 .f32 0x00000000#32)))
    shapeCasts_S128x128_S1x128x128

/-! ## Read at an index -/

/-- The triangular operand of a super-chunk: ones where the column is a row of the same chunk, not a later one. -/
def IsTri (tri : FVec Ideal S1x256x256 .f32) : Prop :=
  ∀ r s : Fin 256, tri (ix3 0 r s) = if (r : ℕ) / 64 = (s : ℕ) / 64 ∧ (s : ℕ) ≤ (r : ℕ) then 1 else 0

/-- Row `t` of chunk `c` of a super-chunk. -/
abbrev row (c : Fin 4) (t : Fin 64) : Fin 256 := ⟨64 * c.val + t.val, by omega⟩

section
variable {tri : FVec Ideal S1x256x256 .f32} {lb : FVec Ideal S1x1x128 .f32} {z q : FVec Ideal S1x256x128 .f32}
  {v : FVec Ideal S1x64x128 .f32} {st : FVec Ideal S1x128x128 .f32}
  {LB : Fin 128 → EReal} {Z Q V : Fin 64 → Fin 128 → EReal} {S : Fin 128 → Fin 128 → EReal} {c : Fin 4}

/-- The gate at an index. -/
theorem gateT_apply (hlb : ∀ d, lb (ix3 0 0 d) = LB d) (hz : ∀ t d, z (ix3 0 (row c t) d) = Z t d) (t : Fin 64) (d : Fin 128) :
    gateT (F := Ideal) lb z (ix2 (row c t) d) = gate LB Z t d := by
  pointwise [gateT]
  unfold gate
  rw [← hlb, ← hz]

/-- The keys at an index. -/
theorem keyT_apply (hlb : ∀ d, lb (ix3 0 0 d) = LB d) (hz : ∀ t d, z (ix3 0 (row c t) d) = Z t d) (t : Fin 64) (d : Fin 128) :
    keyT (F := Ideal) lb z (ix2 (row c t) d) = 1 - gate LB Z t d := by
  pointwise [keyT]
  rw [gateT_apply hlb hz]

/-- The decays at an index: the sum of the chunk's logarithms so far. -/
theorem decayT_apply (ht : IsTri tri) (hlb : ∀ d, lb (ix3 0 0 d) = LB d) (hz : ∀ t d, z (ix3 0 (row c t) d) = Z t d) (t : Fin 64) (d : Fin 128) :
    decayT (F := Ideal) tri lb z (ix2 (row c t) d) = cum LB Z t d := by
  pointwise [decayT]
  unfold cum
  rw [sum_rows c]
  · refine Finset.sum_congr rfl fun s _ => ?_
    rw [ht, gateT_apply hlb hz]
    by_cases h : s ≤ t
    · have h1 : (s : ℕ) ≤ t := h
      rw [if_pos h, if_pos (by constructor <;> simp only [row] <;> omega), one_mul]
    · have h1 : ¬ (s : ℕ) ≤ t := h
      rw [if_neg h, if_neg (by simp only [row]; omega), zero_mul]
  · intro r hr
    rw [ht, if_neg, zero_mul]
    simp only [row]
    omega

/-- One chunk of one head, at an index: its rows of the output. -/
theorem outT_apply (r0 : ℕ) (hr : r0 = 64 * c.val) (hs : S256x128.Slices ![r0, 0] S64x128) (ht : IsTri tri)
    (hlb : ∀ d, lb (ix3 0 0 d) = LB d) (hz : ∀ t d, z (ix3 0 (row c t) d) = Z t d) (hq : ∀ t d, q (ix3 0 (row c t) d) = Q t d)
    (hv : ∀ t d, v (ix3 0 t d) = V t d) (hst : ∀ e d, st (ix3 0 e d) = S e d) (t : Fin 64) (e : Fin 128) :
    outT (F := Ideal) r0 hs tri lb z q v st (ix3 0 t e) = chunkOut LB Z Q V S t e := by
  subst hr
  pointwise [outT, rowsT]
  unfold chunkOut att
  have hd := decayT_apply ht hlb hz
  have hk := keyT_apply hlb hz
  congr 1
  · refine Finset.sum_congr rfl fun s _ => ?_
    rw [hv, ht]
    congr 1
    by_cases h : s ≤ t
    · have h1 : (s : ℕ) ≤ t := h
      rw [if_pos h, if_pos (by constructor <;> simp only <;> omega), mul_one]
      refine Finset.sum_congr rfl fun d _ => ?_
      rw [← hd t d, ← hd s d, ← hd ⟨31, by omega⟩ d, ← hk s d, ← hq t d]
    · have h1 : ¬ (s : ℕ) ≤ t := h
      rw [if_neg h, if_neg (by simp only; omega), mul_zero]
  · refine Finset.sum_congr rfl fun d _ => ?_
    rw [← hd t d, ← hq t d, ← hst e d]

/-- One chunk of one head, at an index: the recurrent state after it. -/
theorem stateT_apply (r0 : ℕ) (hr : r0 = 64 * c.val) (hs : S256x128.Slices ![r0, 0] S64x128) (ht : IsTri tri)
    (hlb : ∀ d, lb (ix3 0 0 d) = LB d) (hz : ∀ t d, z (ix3 0 (row c t) d) = Z t d)
    (hv : ∀ t d, v (ix3 0 t d) = V t d) (hst : ∀ e d, st (ix3 0 e d) = S e d) (e d : Fin 128) :
    stateT (F := Ideal) r0 hs tri lb z v st (ix3 0 e d) = chunkState LB Z V S e d := by
  subst hr
  pointwise [stateT, rowsT]
  unfold chunkState
  have hd := decayT_apply ht hlb hz
  have hk := keyT_apply hlb hz
  rw [← hst e d, ← hd ⟨63, by omega⟩ d]
  congr 1
  refine Finset.sum_congr rfl fun s _ => ?_
  rw [← hd s d, ← hk s d, ← hv s e]

end

end Cert.Scan
end
-- ==== Proof.ScanPoint.lean ====
module

public import proofs.«01_k».proof.Proof.ScanBlock
public import proofs.«01_k».proof.Proof.Gen.KernelIdeal.Frame
public import Idealize.ShloMosaic.Lib.Pipeline.ValueKit
public import Idealize.ShloMosaic.Lib.Pipeline.ReadBack

/-! One grid point of the scan: four chunks of eight heads, each head's state passed from chunk to chunk. -/

@[expose] public section

set_option maxRecDepth 16384

noncomputable section

namespace Cert.Scan

open Idealize.ShloMosaic Idealize.ShloMosaic.TcCoe Idealize.SL.Sem
open Cert.KernelIdeal Cert.KernelIdeal.Gen

/-- Lane `d` of head `h` in a block's 1024 columns. -/
abbrev lane (h : Fin 8) (d : Fin 128) : Fin 1024 := ⟨128 * h.val + d.val, by omega⟩

/-- A head's lower bounds, of the block of them. -/
def lbOf (x : FVec Ideal S1x1x1024 .f32) (h : Fin 8) (d : Fin 128) : EReal := x (ix3 0 0 (lane h d))

/-- A head's rows of chunk `c`, of a super-chunk's block. -/
def rowsOf (x : FVec Ideal S1x256x1024 .f32) (c : Fin 4) (h : Fin 8) (t : Fin 64) (d : Fin 128) : EReal := x (ix3 0 (row c t) (lane h d))

/-- A head's state before chunk `n` of the super-chunk, from the state `s` before its first. -/
def chain (z v : FVec Ideal S1x256x1024 .f32) (lb : FVec Ideal S1x1x1024 .f32) (s : Fin 8 → Fin 128 → Fin 128 → EReal) (h : Fin 8) :
    ℕ → Fin 128 → Fin 128 → EReal
  | 0 => s h
  | n + 1 => chunkState (lbOf lb h) (rowsOf z (Fin.ofNat 4 n) h) (rowsOf v (Fin.ofNat 4 n) h) (chain z v lb s h n)

section
variable {a b c : ℕ}

/-- A load of a rectangle of unit strides reads the block at the offset index. -/
theorem load_at {S : Shape} {e : EltTy} (m : Memref sig .tc .vmem S e) (hm : m.IsWhole) (x : Vec Ideal S e) (r : Rect S) (i : r.shape.Idx) :
    View.readAt (Elt Ideal) m.view r.toLoadRect (hm.unread x) i = x (r.emb i) := by
  rw [View.readAt_eq_ld, hm.read_unread]
  rfl

/-- A head's lower bounds, loaded. -/
theorem load_lb (m : Memref sig .tc .vmem S1x1x1024 .f32) (hm : m.IsWhole) (x : FVec Ideal S1x1x1024 .f32) (h : Fin 8) (o : ℕ) (ho : o = 128 * h.val)
    (inb : ∀ k, (![0, 0, o] : Fin 3 → ℕ) k + S1x1x128.size k ≤ S1x1x1024.size k) (d : Fin 128) :
    View.readAt (Elt Ideal) m.view (Rect.unit (s := S1x1x1024) ![0, 0, o] S1x1x128.size inb).toLoadRect (hm.unread x) (ix3 (0 : Fin 1) (0 : Fin 1) d : S1x1x128.Idx) = lbOf x h d := by
  subst ho
  rw [load_at]
  unfold lbOf
  blk_ext

/-- A head's rows of a chunk, loaded with the super-chunk's. -/
theorem load_rows (m : Memref sig .tc .vmem S1x256x1024 .f32) (hm : m.IsWhole) (x : FVec Ideal S1x256x1024 .f32) (c : Fin 4) (h : Fin 8) (o : ℕ) (ho : o = 128 * h.val)
    (inb : ∀ k, (![0, 0, o] : Fin 3 → ℕ) k + S1x256x128.size k ≤ S1x256x1024.size k) (t : Fin 64) (d : Fin 128) :
    View.readAt (Elt Ideal) m.view (Rect.unit (s := S1x256x1024) ![0, 0, o] S1x256x128.size inb).toLoadRect (hm.unread x) (ix3 (0 : Fin 1) (row c t) d : S1x256x128.Idx) = rowsOf x c h t d := by
  subst ho
  rw [load_at]
  unfold rowsOf
  blk_ext

/-- A head's rows of a chunk, loaded alone. -/
theorem load_chunk (m : Memref sig .tc .vmem S1x256x1024 .f32) (hm : m.IsWhole) (x : FVec Ideal S1x256x1024 .f32) (c : Fin 4) (h : Fin 8) (r o : ℕ) (hr : r = 64 * c.val) (ho : o = 128 * h.val)
    (inb : ∀ k, (![0, r, o] : Fin 3 → ℕ) k + S1x64x128.size k ≤ S1x256x1024.size k) (t : Fin 64) (d : Fin 128) :
    View.readAt (Elt Ideal) m.view (Rect.unit (s := S1x256x1024) ![0, r, o] S1x64x128.size inb).toLoadRect (hm.unread x) (ix3 (0 : Fin 1) t d : S1x64x128.Idx) = rowsOf x c h t d := by
  subst ho
  subst hr
  rw [load_at]
  unfold rowsOf
  blk_ext

/-- A head's state, loaded from the carried one. -/
theorem load_state (m : Memref sig .tc .vmem S8x128x128 .f32) (hm : m.IsWhole) (x : FVec Ideal S8x128x128 .f32) (h : Fin 8) (o : ℕ) (ho : o = h.val)
    (inb : ∀ k, (![o, 0, 0] : Fin 3 → ℕ) k + S1x128x128.size k ≤ S8x128x128.size k) (e d : Fin 128) :
    View.readAt (Elt Ideal) m.view (Rect.unit (s := S8x128x128) ![o, 0, 0] S1x128x128.size inb).toLoadRect (hm.unread x) (ix3 (0 : Fin 1) e d : S1x128x128.Idx) = x (ix3 h e d) := by
  subst ho
  rw [load_at]
  blk_ext

/-- The triangular operand, loaded. -/
theorem load_tri (m : Memref sig .tc .vmem S1x256x256 .f32) (hm : m.IsWhole) (x : FVec Ideal S1x256x256 .f32) (hx : IsTri x)
    (inb : ∀ k, (![0, 0, 0] : Fin 3 → ℕ) k + S1x256x256.size k ≤ S1x256x256.size k) :
    IsTri (View.readAt (Elt Ideal) m.view (Rect.unit (s := S1x256x256) ![0, 0, 0] S1x256x256.size inb).toLoadRect (hm.unread x)) := by
  intro r s
  rw [← hx r s, load_at]
  blk_ext

end

/-- What a point leaves in its block of the output: row `64 c + t`, lane `128 h + e` is chunk `c`'s output of head `h`. -/
def pointOut (q z v : FVec Ideal S1x256x1024 .f32) (lb : FVec Ideal S1x1x1024 .f32) (s : Fin 8 → Fin 128 → Fin 128 → EReal) (y : S1x256x1024.Idx) : EReal :=
  let c : Fin 4 := ⟨(y 1).val / 64, by have := (y 1).isLt; change (y 1).val < 256 at this; omega⟩
  let h : Fin 8 := ⟨(y 2).val / 128, by have := (y 2).isLt; change (y 2).val < 1024 at this; omega⟩
  chunkOut (lbOf lb h) (rowsOf z c h) (rowsOf q c h) (rowsOf v c h) (chain z v lb s h c.val) ⟨(y 1).val % 64, by omega⟩ ⟨(y 2).val % 128, by omega⟩

/-- A stored piece that holds one chunk's output of one head is a block of `pointOut`. -/
theorem piece_out {q z v : FVec Ideal S1x256x1024 .f32} {lb : FVec Ideal S1x1x1024 .f32} {s : Fin 8 → Fin 128 → Fin 128 → EReal}
    (c : Fin 4) (h : Fin 8) (r o : ℕ) (hr : r = 64 * c.val) (ho : o = 128 * h.val)
    (inb : ∀ k, (![0, r, o] : Fin 3 → ℕ) k + S1x64x128.size k ≤ S1x256x1024.size k) (w : S1x64x128.Idx → EReal)
    (hw : ∀ t e, w (ix3 0 t e) = chunkOut (lbOf lb h) (rowsOf z c h) (rowsOf q c h) (rowsOf v c h) (chain z v lb s h c.val) t e) (x : S1x64x128.Idx) :
    w x = pointOut q z v lb s ((Rect.unit (s := S1x256x1024) ![0, r, o] S1x64x128.size inb).emb x) := by
  subst hr ho
  obtain ⟨a, t, e, rfl⟩ : ∃ a t e, x = ix3 a t e := ⟨x 0, x 1, x 2, by funext k; fin_cases k <;> rfl⟩
  obtain rfl : a = 0 := Subsingleton.elim _ _
  rw [hw]
  have e1 : (((Rect.unit (s := S1x256x1024) ![0, 64 * c.val, 128 * h.val] S1x64x128.size inb).emb (ix3 0 t e)) 1).val = 64 * c.val + t.val := by
    blk_simp
  have e2 : (((Rect.unit (s := S1x256x1024) ![0, 64 * c.val, 128 * h.val] S1x64x128.size inb).emb (ix3 0 t e)) 2).val = 128 * h.val + e.val := by
    blk_simp
  unfold pointOut
  simp only [e1, e2]
  have h1 : (64 * c.val + t.val) / 64 = c.val := by omega
  have h2 : (64 * c.val + t.val) % 64 = t.val := by omega
  have h3 : (128 * h.val + e.val) / 128 = h.val := by omega
  have h4 : (128 * h.val + e.val) % 128 = e.val := by omega
  simp only [h1, h2, h3, h4]

/-- The carried state read at a head is the stores' list loaded through the head's rectangle. -/
theorem canon_head (L : List (View.Piece (Elt Ideal) S8x128x128 .f32)) (h : Fin 8) (o : ℕ) (ho : o = h.val)
    (inb : ∀ k, (![o, 0, 0] : Fin 3 → ℕ) k + S1x128x128.size k ≤ S8x128x128.size k) (e d : Fin 128) :
    View.canon L (ix3 h e d) = VS0_0.readCov L (Rect.unit (s := S8x128x128) ![o, 0, 0] S1x128x128.size inb).toLoadRect (ix3 (0 : Fin 1) e d : S1x128x128.Idx) := by
  subst ho
  rw [View.readCov_eq_canon']
  show _ = View.canon L _
  congr 1
  funext k
  fin_cases k <;> (apply Fin.ext; simp [Rect.unit])

end Cert.Scan

end
-- ==== Proof.ScanEntry.lean ====
module

public import proofs.«01_k».proof.Proof.ScanPoint
public import Idealize.ShloMosaic.Lib.Claim

@[expose] public section

set_option maxRecDepth 16384

noncomputable section

namespace Cert.Scan

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The windows' blocks at a grid point. -/
theorem idx : ∀ t : Fin cfg0.N, win0_0.index t = ![t.val / 33, t.val % 33, 0] ∧ win0_1.index t = ![t.val / 33, t.val % 33, 1]
    ∧ win0_2.index t = ![t.val / 33, t.val % 33, 3] ∧ win0_3.index t = ![0, 0, 0] ∧ win0_4.index t = ![0, 0, 0]
    ∧ win0_5.index t = ![t.val / 33, t.val % 33, 0] := (by decide +kernel : ∀ t : Fin grid0.N, _)

theorem lb_block (t : Fin cfg0.N) (j : S1x1x1024.Idx) : iblk m c 3 t j = V m c main_v30 (ix3 0 0 (j 2)) := by
  blk_ext [iblk, idx t]

theorem tri_block (t : Fin cfg0.N) (r s : Fin 256) : iblk m c 4 t (ix3 0 r s) = V m c main_v29 (ix3 0 r s) := by
  blk_ext [iblk, idx t]

theorem lb_entry (d) : V m c main_v30 (ix3 0 0 d) = m ((c : Thread nD τ).loc main_arg1) (ix2 0 d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise

/-- The row number's chunk, as the host computes it: a signed quotient rounded towards minus infinity. -/
def quot64 (x : BitVec 32) : BitVec 32 :=
  Scalar.select
    (IntOp.andi
      (IntOp.cmpi CmpIPredicate.ne (if x = 0 then 0 else if x.msb = true then -1 else 1 : BitVec 32)
        (if 64#32 = 0 then 0 else if (64#32).msb = true then -1 else 1 : BitVec 32))
      (IntOp.cmpi CmpIPredicate.ne (IntOp.remsi ArithUnit.host x 64#32) 0#32))
    (IntOp.subi (IntOp.divsi ArithUnit.host x 64#32) 1#32)
    (IntOp.divsi ArithUnit.host x 64#32)

theorem quot64_eq : ∀ r : Fin 256, quot64 (BitVec.ofNat 32 r.val) = BitVec.ofNat 32 (r.val / 64) := by decide +kernel

theorem same_chunk : ∀ a b : Fin 4, IntOp.cmpi CmpIPredicate.eq (BitVec.ofNat 32 a.val) (BitVec.ofNat 32 b.val)
    = if a.val = b.val then 1#1 else 0#1 := by decide +kernel

theorem not_later : ∀ r s : Fin 256, IntOp.cmpi CmpIPredicate.sge (BitVec.ofNat 32 r.val) (BitVec.ofNat 32 s.val)
    = if s.val ≤ r.val then 1#1 else 0#1 := by decide +kernel

theorem tri_word (r s : Fin 256) :
    (FloatOps.uitofp (F := Ideal) FTy.f32
      (IntOp.andi (IntOp.cmpi CmpIPredicate.eq (quot64 (BitVec.ofNat 32 r.val)) (quot64 (BitVec.ofNat 32 s.val)))
        (IntOp.cmpi CmpIPredicate.sge (BitVec.ofNat 32 r.val) (BitVec.ofNat 32 s.val))))
      = (if r.val / 64 = s.val / 64 ∧ s.val ≤ r.val then 1 else 0 : EReal) := by
  rw [quot64_eq, quot64_eq, not_later, same_chunk ⟨r.val / 64, by omega⟩ ⟨s.val / 64, by omega⟩]
  by_cases h : r.val / 64 = s.val / 64 <;> by_cases h' : s.val ≤ r.val <;>
    simp [h, h', IntOp.andi, FloatOps.uitofp]

/-- The mask's first plane: 1 where a row and a column lie in one chunk of 64 and the column is not the later. -/
theorem tri_entry (r s : Fin 256) : V m c main_v29 (ix3 0 r s) = (if r.val / 64 = s.val / 64 ∧ s.val ≤ r.val then 1 else 0 : EReal) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  simp -implicitDefEqProofs only [StableHlo.TRef.toBuf, StableHlo.TRef.ofBuf, cast_cast, cast_eq]
  pointwise
  exact tri_word r s

end Cert.Scan
end
-- ==== Proof.ScanFirst.lean ====
module

public import proofs.«01_k».proof.Proof.Gen.KernelIdeal.Frame
public import proofs.«01_k».proof.Proof.ScanPoint

/-! A grid point at the first super-chunk of a batch: what its chunks read as each head's state is `chain`, from zero. -/

@[expose] public section

set_option maxRecDepth 16384

noncomputable section

namespace Cert.Scan.First

open Idealize.ShloMosaic Idealize.ShloMosaic.TcCoe Idealize.SL.Sem
open Cert.KernelIdeal Cert.KernelIdeal.Gen Cert.KernelIdeal.Gen.kernelRun0_A

variable (c : Dev nD) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1x1024 .f32) (harg6 : arg6.IsWhole) (arg7 : Memref sig .tc .vmem S1x256x256 .f32) (harg7 : arg7.IsWhole) (arg9 : Memref sig .tc .vmem S8x128x128 .f32) (harg9 : arg9.IsWhole)
  (x1 x2 : FVec Ideal S1x256x1024 .f32) (x3 : FVec Ideal S1x1x1024 .f32) (x4 : FVec Ideal S1x256x256 .f32)

/-- Head 0's state before chunk 0. -/
theorem s0_0 (e d : Fin 128) :
    sl.v366 (F := Ideal) c arg9 (ix3 (0 : Fin 1) e d : S1x128x128.Idx) = chain x1 x2 x3 (fun _ _ _ => 0) 0 0 e d := by
  unfold sl.v366 sl.HS0_1
  rw [View.readCov_fill _ _ _ _ _ (by decide)]
  show k0_pay3 (F := Ideal) _ = 0
  pointwise [k0_pay3]

/-- Head 1's state before chunk 0. -/
theorem s0_1 (e d : Fin 128) :
    sl.v386 (F := Ideal) c arg4 harg4 arg5 harg5 arg6 harg6 arg7 harg7 arg9 x1 x2 x3 x4 (ix3 (0 : Fin 1) e d : S1x128x128.Idx) = chain x1 x2 x3 (fun _ _ _ => 0) 1 0 e d := by
  unfold sl.v386 sl.HS0_2 sl.HS0_1
  rw [View.readCov_skip _ _ _ _ _ (by decide), View.readCov_fill _ _ _ _ _ (by decide)]
  show k0_pay3 (F := Ideal) _ = 0
  pointwise [k0_pay3]

/-- Head 2's state before chunk 0. -/
theorem s0_2 (e d : Fin 128) :
    sl.v406 (F := Ideal) c arg4 harg4 arg5 harg5 arg6 harg6 arg7 harg7 arg9 x1 x2 x3 x4 (ix3 (0 : Fin 1) e d : S1x128x128.Idx) = chain x1 x2 x3 (fun _ _ _ => 0) 2 0 e d := by
  unfold sl.v406 sl.HS0_3 sl.HS0_2 sl.HS0_1
  rw [View.readCov_skip _ _ _ _ _ (by decide), View.readCov_skip _ _ _ _ _ (by decide), View.readCov_fill _ _ _ _ _ (by decide)]
  show k0_pay3 (F := Ideal) _ = 0
  pointwise [k0_pay3]

/-- Head 3's state before chunk 0. -/
theorem s0_3 (e d : Fin 128) :
    sl.v426 (F := Ideal) c arg4 harg4 arg5 harg5 arg6 harg6 arg7 harg7 arg9 x1 x2 x3 x4 (ix3 (0 : Fin 1) e d : S1x128x128.Idx) = chain x1 x2 x3 (fun _ _ _ => 0) 3 0 e d := by
  unfold sl.v426 sl.HS0_4 sl.HS0_3 sl.HS0_2 sl.HS0_1
  rw [View.readCov_skip _ _ _ _ _ (by decide), View.readCov_skip _ _ _ _ _ (by decide), View.readCov_skip _ _ _ _ _ (by decide), View.readCov_fill _ _ _ _ _ (by decide)]
  show k0_pay3 (F := Ideal) _ = 0
  pointwise [k0_pay3]

/-- Head 4's state before chunk 0. -/
theorem s0_4 (e d : Fin 128) :
    sl.v446 (F := Ideal) c arg4 harg4 arg5 harg5 arg6 harg6 arg7 harg7 arg9 x1 x2 x3 x4 (ix3 (0 : Fin 1) e d : S1x128x128.Idx) = chain x1 x2 x3 (fun _ _ _ => 0) 4 0 e d := by
  unfold sl.v446 sl.HS0_5 sl.HS0_4 sl.HS0_3 sl.HS0_2 sl.HS0_1
  rw [View.readCov_skip _ _ _ _ _ (by decide), View.readCov_skip _ _ _ _ _ (by decide), View.readCov_skip _ _ _ _ _ (by decide), View.readCov_skip _ _ _ _ _ (by decide), View.readCov_fill _ _ _ _ _ (by decide)]
  show k0_pay3 (F := Ideal) _ = 0
  pointwise [k0_pay3]

/-- Head 5's state before chunk 0. -/
theorem s0_5 (e d : Fin 128) :
    sl.v466 (F := Ideal) c arg4 harg4 arg5 harg5 arg6 harg6 arg7 harg7 arg9 x1 x2 x3 x4 (ix3 (0 : Fin 1) e d : S1x128x128.Idx) = chain x1 x2 x3 (fun _ _ _ => 0) 5 0 e d := by
  unfold sl.v466 sl.HS0_6 sl.HS0_5 sl.HS0_4 sl.HS0_3 sl.HS0_2 sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  show k0_pay3 (F := Ideal) _ = 0
  pointwise [k0_pay3]

/-- Head 6's state before chunk 0. -/
theorem s0_6 (e d : Fin 128) :
    sl.v486 (F := Ideal) c arg4 harg4 arg5 harg5 arg6 harg6 arg7 harg7 arg9 x1 x2 x3 x4 (ix3 (0 : Fin 1) e d : S1x128x128.Idx) = chain x1 x2 x3 (fun _ _ _ => 0) 6 0 e d := by
  unfold sl.v486 sl.HS0_7 sl.HS0_6 sl.HS0_5 sl.HS0_4 sl.HS0_3 sl.HS0_2 sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  show k0_pay3 (F := Ideal) _ = 0
  pointwise [k0_pay3]

/-- Head 7's state before chunk 0. -/
theorem s0_7 (e d : Fin 128) :
    sl.v506 (F := Ideal) c arg4 harg4 arg5 harg5 arg6 harg6 arg7 harg7 arg9 x1 x2 x3 x4 (ix3 (0 : Fin 1) e d : S1x128x128.Idx) = chain x1 x2 x3 (fun _ _ _ => 0) 7 0 e d := by
  unfold sl.v506 sl.HS0_8 sl.HS0_7 sl.HS0_6 sl.HS0_5 sl.HS0_4 sl.HS0_3 sl.HS0_2 sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  show k0_pay3 (F := Ideal) _ = 0
  pointwise [k0_pay3]

/-- Head 0's state before chunk 1. -/
theorem s1_0 (hx : IsTri x4) (e d : Fin 128) :
    sl.v750 (F := Ideal) c arg4 harg4 arg5 harg5 arg6 harg6 arg7 harg7 arg9 x1 x2 x3 x4 (ix3 (0 : Fin 1) e d : S1x128x128.Idx) = chain x1 x2 x3 (fun _ _ _ => 0) 0 1 e d := by
  unfold sl.v750 sl.HS0_9 sl.HS0_8 sl.HS0_7 sl.HS0_6 sl.HS0_5 sl.HS0_4 sl.HS0_3 sl.HS0_2
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 0 0 rfl _)
    (load_rows _ harg4 x1 0 0 0 rfl _) (load_chunk _ harg5 x2 0 0 0 0 rfl rfl _)
    (s0_0 c arg9 x1 x2 x3) e d

/-- Head 1's state before chunk 1. -/
theorem s1_1 (hx : IsTri x4) (e d : Fin 128) :
    sl.v770 (F := Ideal) c arg4 harg4 arg5 harg5 arg6 harg6 arg7 harg7 arg9 x1 x2 x3 x4 (ix3 (0 : Fin 1) e d : S1x128x128.Idx) = chain x1 x2 x3 (fun _ _ _ => 0) 1 1 e d := by
  unfold sl.v770 sl.HS0_10 sl.HS0_9 sl.HS0_8 sl.HS0_7 sl.HS0_6 sl.HS0_5 sl.HS0_4 sl.HS0_3
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 1 128 rfl _)
    (load_rows _ harg4 x1 0 1 128 rfl _) (load_chunk _ harg5 x2 0 1 0 128 rfl rfl _)
    (s0_1 c arg4 harg4 arg5 harg5 arg6 harg6 arg7 harg7 arg9 x1 x2 x3 x4) e d

/-- Head 2's state before chunk 1. -/
theorem s1_2 (hx : IsTri x4) (e d : Fin 128) :
    sl.v790 (F := Ideal) c arg4 harg4 arg5 harg5 arg6 harg6 arg7 harg7 arg9 x1 x2 x3 x4 (ix3 (0 : Fin 1) e d : S1x128x128.Idx) = chain x1 x2 x3 (fun _ _ _ => 0) 2 1 e d := by
  unfold sl.v790 sl.HS0_11 sl.HS0_10 sl.HS0_9 sl.HS0_8 sl.HS0_7 sl.HS0_6 sl.HS0_5 sl.HS0_4
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 2 256 rfl _)
    (load_rows _ harg4 x1 0 2 256 rfl _) (load_chunk _ harg5 x2 0 2 0 256 rfl rfl _)
    (s0_2 c arg4 harg4 arg5 harg5 arg6 harg6 arg7 harg7 arg9 x1 x2 x3 x4) e d

/-- Head 3's state before chunk 1. -/
theorem s1_3 (hx : IsTri x4) (e d : Fin 128) :
    sl.v810 (F := Ideal) c arg4 harg4 arg5 harg5 arg6 harg6 arg7 harg7 arg9 x1 x2 x3 x4 (ix3 (0 : Fin 1) e d : S1x128x128.Idx) = chain x1 x2 x3 (fun _ _ _ => 0) 3 1 e d := by
  unfold sl.v810 sl.HS0_12 sl.HS0_11 sl.HS0_10 sl.HS0_9 sl.HS0_8 sl.HS0_7 sl.HS0_6 sl.HS0_5
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 3 384 rfl _)
    (load_rows _ harg4 x1 0 3 384 rfl _) (load_chunk _ harg5 x2 0 3 0 384 rfl rfl _)
    (s0_3 c arg4 harg4 arg5 harg5 arg6 harg6 arg7 harg7 arg9 x1 x2 x3 x4) e d

/-- Head 4's state before chunk 1. -/
theorem s1_4 (hx : IsTri x4) (e d : Fin 128) :
    sl.v830 (F := Ideal) c arg4 harg4 arg5 harg5 arg6 harg6 arg7 harg7 arg9 x1 x2 x3 x4 (ix3 (0 : Fin 1) e d : S1x128x128.Idx) = chain x1 x2 x3 (fun _ _ _ => 0) 4 1 e d := by
  unfold sl.v830 sl.HS0_13 sl.HS0_12 sl.HS0_11 sl.HS0_10 sl.HS0_9 sl.HS0_8 sl.HS0_7 sl.HS0_6
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 4 512 rfl _)
    (load_rows _ harg4 x1 0 4 512 rfl _) (load_chunk _ harg5 x2 0 4 0 512 rfl rfl _)
    (s0_4 c arg4 harg4 arg5 harg5 arg6 harg6 arg7 harg7 arg9 x1 x2 x3 x4) e d

/-- Head 5's state before chunk 1. -/
theorem s1_5 (hx : IsTri x4) (e d : Fin 128) :
    sl.v850 (F := Ideal) c arg4 harg4 arg5 harg5 arg6 harg6 arg7 harg7 arg9 x1 x2 x3 x4 (ix3 (0 : Fin 1) e d : S1x128x128.Idx) = chain x1 x2 x3 (fun _ _ _ => 0) 5 1 e d := by
  unfold sl.v850 sl.HS0_14 sl.HS0_13 sl.HS0_12 sl.HS0_11 sl.HS0_10 sl.HS0_9 sl.HS0_8 sl.HS0_7
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 5 640 rfl _)
    (load_rows _ harg4 x1 0 5 640 rfl _) (load_chunk _ harg5 x2 0 5 0 640 rfl rfl _)
    (s0_5 c arg4 harg4 arg5 harg5 arg6 harg6 arg7 harg7 arg9 x1 x2 x3 x4) e d

/-- Head 6's state before chunk 1. -/
theorem s1_6 (hx : IsTri x4) (e d : Fin 128) :
    sl.v870 (F := Ideal) c arg4 harg4 arg5 harg5 arg6 harg6 arg7 harg7 arg9 x1 x2 x3 x4 (ix3 (0 : Fin 1) e d : S1x128x128.Idx) = chain x1 x2 x3 (fun _ _ _ => 0) 6 1 e d := by
  unfold sl.v870 sl.HS0_15 sl.HS0_14 sl.HS0_13 sl.HS0_12 sl.HS0_11 sl.HS0_10 sl.HS0_9 sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 6 768 rfl _)
    (load_rows _ harg4 x1 0 6 768 rfl _) (load_chunk _ harg5 x2 0 6 0 768 rfl rfl _)
    (s0_6 c arg4 harg4 arg5 harg5 arg6 harg6 arg7 harg7 arg9 x1 x2 x3 x4) e d

/-- Head 7's state before chunk 1. -/
theorem s1_7 (hx : IsTri x4) (e d : Fin 128) :
    sl.v890 (F := Ideal) c arg4 harg4 arg5 harg5 arg6 harg6 arg7 harg7 arg9 x1 x2 x3 x4 (ix3 (0 : Fin 1) e d : S1x128x128.Idx) = chain x1 x2 x3 (fun _ _ _ => 0) 7 1 e d := by
  unfold sl.v890 sl.HS0_16 sl.HS0_15 sl.HS0_14 sl.HS0_13 sl.HS0_12 sl.HS0_11 sl.HS0_10 sl.HS0_9
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 7 896 rfl _)
    (load_rows _ harg4 x1 0 7 896 rfl _) (load_chunk _ harg5 x2 0 7 0 896 rfl rfl _)
    (s0_7 c arg4 harg4 arg5 harg5 arg6 harg6 arg7 harg7 arg9 x1 x2 x3 x4) e d

/-- Head 0's state before chunk 2. -/
theorem s2_0 (hx : IsTri x4) (e d : Fin 128) :
    sl.v1134 (F := Ideal) c arg4 harg4 arg5 harg5 arg6 harg6 arg7 harg7 arg9 x1 x2 x3 x4 (ix3 (0 : Fin 1) e d : S1x128x128.Idx) = chain x1 x2 x3 (fun _ _ _ => 0) 0 2 e d := by
  unfold sl.v1134 sl.HS0_17 sl.HS0_16 sl.HS0_15 sl.HS0_14 sl.HS0_13 sl.HS0_12 sl.HS0_11 sl.HS0_10
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 0 0 rfl _)
    (load_rows _ harg4 x1 1 0 0 rfl _) (load_chunk _ harg5 x2 1 0 64 0 rfl rfl _)
    (s1_0 c arg4 harg4 arg5 harg5 arg6 harg6 arg7 harg7 arg9 x1 x2 x3 x4 hx) e d

/-- Head 1's state before chunk 2. -/
theorem s2_1 (hx : IsTri x4) (e d : Fin 128) :
    sl.v1154 (F := Ideal) c arg4 harg4 arg5 harg5 arg6 harg6 arg7 harg7 arg9 x1 x2 x3 x4 (ix3 (0 : Fin 1) e d : S1x128x128.Idx) = chain x1 x2 x3 (fun _ _ _ => 0) 1 2 e d := by
  unfold sl.v1154 sl.HS0_18 sl.HS0_17 sl.HS0_16 sl.HS0_15 sl.HS0_14 sl.HS0_13 sl.HS0_12 sl.HS0_11
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 1 128 rfl _)
    (load_rows _ harg4 x1 1 1 128 rfl _) (load_chunk _ harg5 x2 1 1 64 128 rfl rfl _)
    (s1_1 c arg4 harg4 arg5 harg5 arg6 harg6 arg7 harg7 arg9 x1 x2 x3 x4 hx) e d

/-- Head 2's state before chunk 2. -/
theorem s2_2 (hx : IsTri x4) (e d : Fin 128) :
    sl.v1174 (F := Ideal) c arg4 harg4 arg5 harg5 arg6 harg6 arg7 harg7 arg9 x1 x2 x3 x4 (ix3 (0 : Fin 1) e d : S1x128x128.Idx) = chain x1 x2 x3 (fun _ _ _ => 0) 2 2 e d := by
  unfold sl.v1174 sl.HS0_19 sl.HS0_18 sl.HS0_17 sl.HS0_16 sl.HS0_15 sl.HS0_14 sl.HS0_13 sl.HS0_12
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 2 256 rfl _)
    (load_rows _ harg4 x1 1 2 256 rfl _) (load_chunk _ harg5 x2 1 2 64 256 rfl rfl _)
    (s1_2 c arg4 harg4 arg5 harg5 arg6 harg6 arg7 harg7 arg9 x1 x2 x3 x4 hx) e d

/-- Head 3's state before chunk 2. -/
theorem s2_3 (hx : IsTri x4) (e d : Fin 128) :
    sl.v1194 (F := Ideal) c arg4 harg4 arg5 harg5 arg6 harg6 arg7 harg7 arg9 x1 x2 x3 x4 (ix3 (0 : Fin 1) e d : S1x128x128.Idx) = chain x1 x2 x3 (fun _ _ _ => 0) 3 2 e d := by
  unfold sl.v1194 sl.HS0_20 sl.HS0_19 sl.HS0_18 sl.HS0_17 sl.HS0_16 sl.HS0_15 sl.HS0_14 sl.HS0_13
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 3 384 rfl _)
    (load_rows _ harg4 x1 1 3 384 rfl _) (load_chunk _ harg5 x2 1 3 64 384 rfl rfl _)
    (s1_3 c arg4 harg4 arg5 harg5 arg6 harg6 arg7 harg7 arg9 x1 x2 x3 x4 hx) e d

/-- Head 4's state before chunk 2. -/
theorem s2_4 (hx : IsTri x4) (e d : Fin 128) :
    sl.v1214 (F := Ideal) c arg4 harg4 arg5 harg5 arg6 harg6 arg7 harg7 arg9 x1 x2 x3 x4 (ix3 (0 : Fin 1) e d : S1x128x128.Idx) = chain x1 x2 x3 (fun _ _ _ => 0) 4 2 e d := by
  unfold sl.v1214 sl.HS0_21 sl.HS0_20 sl.HS0_19 sl.HS0_18 sl.HS0_17 sl.HS0_16 sl.HS0_15 sl.HS0_14
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 4 512 rfl _)
    (load_rows _ harg4 x1 1 4 512 rfl _) (load_chunk _ harg5 x2 1 4 64 512 rfl rfl _)
    (s1_4 c arg4 harg4 arg5 harg5 arg6 harg6 arg7 harg7 arg9 x1 x2 x3 x4 hx) e d

/-- Head 5's state before chunk 2. -/
theorem s2_5 (hx : IsTri x4) (e d : Fin 128) :
    sl.v1234 (F := Ideal) c arg4 harg4 arg5 harg5 arg6 harg6 arg7 harg7 arg9 x1 x2 x3 x4 (ix3 (0 : Fin 1) e d : S1x128x128.Idx) = chain x1 x2 x3 (fun _ _ _ => 0) 5 2 e d := by
  unfold sl.v1234 sl.HS0_22 sl.HS0_21 sl.HS0_20 sl.HS0_19 sl.HS0_18 sl.HS0_17 sl.HS0_16 sl.HS0_15
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 5 640 rfl _)
    (load_rows _ harg4 x1 1 5 640 rfl _) (load_chunk _ harg5 x2 1 5 64 640 rfl rfl _)
    (s1_5 c arg4 harg4 arg5 harg5 arg6 harg6 arg7 harg7 arg9 x1 x2 x3 x4 hx) e d

/-- Head 6's state before chunk 2. -/
theorem s2_6 (hx : IsTri x4) (e d : Fin 128) :
    sl.v1254 (F := Ideal) c arg4 harg4 arg5 harg5 arg6 harg6 arg7 harg7 arg9 x1 x2 x3 x4 (ix3 (0 : Fin 1) e d : S1x128x128.Idx) = chain x1 x2 x3 (fun _ _ _ => 0) 6 2 e d := by
  unfold sl.v1254 sl.HS0_23 sl.HS0_22 sl.HS0_21 sl.HS0_20 sl.HS0_19 sl.HS0_18 sl.HS0_17 sl.HS0_16
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 6 768 rfl _)
    (load_rows _ harg4 x1 1 6 768 rfl _) (load_chunk _ harg5 x2 1 6 64 768 rfl rfl _)
    (s1_6 c arg4 harg4 arg5 harg5 arg6 harg6 arg7 harg7 arg9 x1 x2 x3 x4 hx) e d

/-- Head 7's state before chunk 2. -/
theorem s2_7 (hx : IsTri x4) (e d : Fin 128) :
    sl.v1274 (F := Ideal) c arg4 harg4 arg5 harg5 arg6 harg6 arg7 harg7 arg9 x1 x2 x3 x4 (ix3 (0 : Fin 1) e d : S1x128x128.Idx) = chain x1 x2 x3 (fun _ _ _ => 0) 7 2 e d := by
  unfold sl.v1274 sl.HS0_24 sl.HS0_23 sl.HS0_22 sl.HS0_21 sl.HS0_20 sl.HS0_19 sl.HS0_18 sl.HS0_17
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 7 896 rfl _)
    (load_rows _ harg4 x1 1 7 896 rfl _) (load_chunk _ harg5 x2 1 7 64 896 rfl rfl _)
    (s1_7 c arg4 harg4 arg5 harg5 arg6 harg6 arg7 harg7 arg9 x1 x2 x3 x4 hx) e d

/-- Head 0's state before chunk 3. -/
theorem s3_0 (hx : IsTri x4) (e d : Fin 128) :
    sl.v1518 (F := Ideal) c arg4 harg4 arg5 harg5 arg6 harg6 arg7 harg7 arg9 x1 x2 x3 x4 (ix3 (0 : Fin 1) e d : S1x128x128.Idx) = chain x1 x2 x3 (fun _ _ _ => 0) 0 3 e d := by
  unfold sl.v1518 sl.HS0_25 sl.HS0_24 sl.HS0_23 sl.HS0_22 sl.HS0_21 sl.HS0_20 sl.HS0_19 sl.HS0_18
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 0 0 rfl _)
    (load_rows _ harg4 x1 2 0 0 rfl _) (load_chunk _ harg5 x2 2 0 128 0 rfl rfl _)
    (s2_0 c arg4 harg4 arg5 harg5 arg6 harg6 arg7 harg7 arg9 x1 x2 x3 x4 hx) e d

/-- Head 1's state before chunk 3. -/
theorem s3_1 (hx : IsTri x4) (e d : Fin 128) :
    sl.v1538 (F := Ideal) c arg4 harg4 arg5 harg5 arg6 harg6 arg7 harg7 arg9 x1 x2 x3 x4 (ix3 (0 : Fin 1) e d : S1x128x128.Idx) = chain x1 x2 x3 (fun _ _ _ => 0) 1 3 e d := by
  unfold sl.v1538 sl.HS0_26 sl.HS0_25 sl.HS0_24 sl.HS0_23 sl.HS0_22 sl.HS0_21 sl.HS0_20 sl.HS0_19
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 1 128 rfl _)
    (load_rows _ harg4 x1 2 1 128 rfl _) (load_chunk _ harg5 x2 2 1 128 128 rfl rfl _)
    (s2_1 c arg4 harg4 arg5 harg5 arg6 harg6 arg7 harg7 arg9 x1 x2 x3 x4 hx) e d

/-- Head 2's state before chunk 3. -/
theorem s3_2 (hx : IsTri x4) (e d : Fin 128) :
    sl.v1558 (F := Ideal) c arg4 harg4 arg5 harg5 arg6 harg6 arg7 harg7 arg9 x1 x2 x3 x4 (ix3 (0 : Fin 1) e d : S1x128x128.Idx) = chain x1 x2 x3 (fun _ _ _ => 0) 2 3 e d := by
  unfold sl.v1558 sl.HS0_27 sl.HS0_26 sl.HS0_25 sl.HS0_24 sl.HS0_23 sl.HS0_22 sl.HS0_21 sl.HS0_20
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 2 256 rfl _)
    (load_rows _ harg4 x1 2 2 256 rfl _) (load_chunk _ harg5 x2 2 2 128 256 rfl rfl _)
    (s2_2 c arg4 harg4 arg5 harg5 arg6 harg6 arg7 harg7 arg9 x1 x2 x3 x4 hx) e d

/-- Head 3's state before chunk 3. -/
theorem s3_3 (hx : IsTri x4) (e d : Fin 128) :
    sl.v1578 (F := Ideal) c arg4 harg4 arg5 harg5 arg6 harg6 arg7 harg7 arg9 x1 x2 x3 x4 (ix3 (0 : Fin 1) e d : S1x128x128.Idx) = chain x1 x2 x3 (fun _ _ _ => 0) 3 3 e d := by
  unfold sl.v1578 sl.HS0_28 sl.HS0_27 sl.HS0_26 sl.HS0_25 sl.HS0_24 sl.HS0_23 sl.HS0_22 sl.HS0_21
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 3 384 rfl _)
    (load_rows _ harg4 x1 2 3 384 rfl _) (load_chunk _ harg5 x2 2 3 128 384 rfl rfl _)
    (s2_3 c arg4 harg4 arg5 harg5 arg6 harg6 arg7 harg7 arg9 x1 x2 x3 x4 hx) e d

/-- Head 4's state before chunk 3. -/
theorem s3_4 (hx : IsTri x4) (e d : Fin 128) :
    sl.v1598 (F := Ideal) c arg4 harg4 arg5 harg5 arg6 harg6 arg7 harg7 arg9 x1 x2 x3 x4 (ix3 (0 : Fin 1) e d : S1x128x128.Idx) = chain x1 x2 x3 (fun _ _ _ => 0) 4 3 e d := by
  unfold sl.v1598 sl.HS0_29 sl.HS0_28 sl.HS0_27 sl.HS0_26 sl.HS0_25 sl.HS0_24 sl.HS0_23 sl.HS0_22
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 4 512 rfl _)
    (load_rows _ harg4 x1 2 4 512 rfl _) (load_chunk _ harg5 x2 2 4 128 512 rfl rfl _)
    (s2_4 c arg4 harg4 arg5 harg5 arg6 harg6 arg7 harg7 arg9 x1 x2 x3 x4 hx) e d

/-- Head 5's state before chunk 3. -/
theorem s3_5 (hx : IsTri x4) (e d : Fin 128) :
    sl.v1618 (F := Ideal) c arg4 harg4 arg5 harg5 arg6 harg6 arg7 harg7 arg9 x1 x2 x3 x4 (ix3 (0 : Fin 1) e d : S1x128x128.Idx) = chain x1 x2 x3 (fun _ _ _ => 0) 5 3 e d := by
  unfold sl.v1618 sl.HS0_30 sl.HS0_29 sl.HS0_28 sl.HS0_27 sl.HS0_26 sl.HS0_25 sl.HS0_24 sl.HS0_23
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 5 640 rfl _)
    (load_rows _ harg4 x1 2 5 640 rfl _) (load_chunk _ harg5 x2 2 5 128 640 rfl rfl _)
    (s2_5 c arg4 harg4 arg5 harg5 arg6 harg6 arg7 harg7 arg9 x1 x2 x3 x4 hx) e d

/-- Head 6's state before chunk 3. -/
theorem s3_6 (hx : IsTri x4) (e d : Fin 128) :
    sl.v1638 (F := Ideal) c arg4 harg4 arg5 harg5 arg6 harg6 arg7 harg7 arg9 x1 x2 x3 x4 (ix3 (0 : Fin 1) e d : S1x128x128.Idx) = chain x1 x2 x3 (fun _ _ _ => 0) 6 3 e d := by
  unfold sl.v1638 sl.HS0_31 sl.HS0_30 sl.HS0_29 sl.HS0_28 sl.HS0_27 sl.HS0_26 sl.HS0_25 sl.HS0_24
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 6 768 rfl _)
    (load_rows _ harg4 x1 2 6 768 rfl _) (load_chunk _ harg5 x2 2 6 128 768 rfl rfl _)
    (s2_6 c arg4 harg4 arg5 harg5 arg6 harg6 arg7 harg7 arg9 x1 x2 x3 x4 hx) e d

/-- Head 7's state before chunk 3. -/
theorem s3_7 (hx : IsTri x4) (e d : Fin 128) :
    sl.v1658 (F := Ideal) c arg4 harg4 arg5 harg5 arg6 harg6 arg7 harg7 arg9 x1 x2 x3 x4 (ix3 (0 : Fin 1) e d : S1x128x128.Idx) = chain x1 x2 x3 (fun _ _ _ => 0) 7 3 e d := by
  unfold sl.v1658 sl.HS0_32 sl.HS0_31 sl.HS0_30 sl.HS0_29 sl.HS0_28 sl.HS0_27 sl.HS0_26 sl.HS0_25
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 7 896 rfl _)
    (load_rows _ harg4 x1 2 7 896 rfl _) (load_chunk _ harg5 x2 2 7 128 896 rfl rfl _)
    (s2_7 c arg4 harg4 arg5 harg5 arg6 harg6 arg7 harg7 arg9 x1 x2 x3 x4 hx) e d

variable (i : grid0.Coords) (arg8 : Memref sig .tc .vmem S1x256x1024 .f32) (harg8 : arg8.IsWhole) (hc0 : cond0_0 i) (x0 : FVec Ideal S1x256x1024 .f32)

/-- The store of head 0's chunk 0 is a block of the point's outputs. -/
theorem p0_0 (hx : IsTri x4) (x : S1x64x128.Idx) : k0_pay121 (F := Ideal) (sl.r_31 (F := Ideal) c arg3 harg3 arg4 harg4 arg6 harg6 arg7 harg7 x0 x1 x3 x4) (sl.r_32 (F := Ideal) c arg3 harg3 arg4 harg4 arg6 harg6 arg7 harg7 x0 x1 x3 x4) (sl.r_35 (F := Ideal) c arg5 harg5 x2) (sl.v366 (F := Ideal) c arg9) x
    = pointOut x0 x1 x2 x3 (fun _ _ _ => 0) ((Rect.unit (s := S1x256x1024) ![0, 0, 0] S1x64x128.size (by decide)).emb x) :=
  piece_out 0 0 0 0 rfl rfl _ _ (outT_apply (c := 0) 0 rfl slices_S256x128_o0_0_S64x128 (load_tri _ harg7 x4 hx _) (load_lb _ harg6 x3 0 0 rfl _)
    (load_rows _ harg4 x1 0 0 0 rfl _) (load_rows _ harg3 x0 0 0 0 rfl _) (load_chunk _ harg5 x2 0 0 0 0 rfl rfl _)
    (s0_0 c arg9 x1 x2 x3)) x

/-- The store of head 1's chunk 0 is a block of the point's outputs. -/
theorem p0_1 (hx : IsTri x4) (x : S1x64x128.Idx) : k0_pay124 (F := Ideal) (sl.r_39 (F := Ideal) c arg3 harg3 arg4 harg4 arg6 harg6 arg7 harg7 x0 x1 x3 x4) (sl.r_40 (F := Ideal) c arg3 harg3 arg4 harg4 arg6 harg6 arg7 harg7 x0 x1 x3 x4) (sl.r_43 (F := Ideal) c arg5 harg5 x2) (sl.v386 (F := Ideal) c arg4 harg4 arg5 harg5 arg6 harg6 arg7 harg7 arg9 x1 x2 x3 x4) x
    = pointOut x0 x1 x2 x3 (fun _ _ _ => 0) ((Rect.unit (s := S1x256x1024) ![0, 0, 128] S1x64x128.size (by decide)).emb x) :=
  piece_out 0 1 0 128 rfl rfl _ _ (outT_apply (c := 0) 0 rfl slices_S256x128_o0_0_S64x128 (load_tri _ harg7 x4 hx _) (load_lb _ harg6 x3 1 128 rfl _)
    (load_rows _ harg4 x1 0 1 128 rfl _) (load_rows _ harg3 x0 0 1 128 rfl _) (load_chunk _ harg5 x2 0 1 0 128 rfl rfl _)
    (s0_1 c arg4 harg4 arg5 harg5 arg6 harg6 arg7 harg7 arg9 x1 x2 x3 x4)) x

/-- The store of head 2's chunk 0 is a block of the point's outputs. -/
theorem p0_2 (hx : IsTri x4) (x : S1x64x128.Idx) : k0_pay128 (F := Ideal) (sl.r_91 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 0, 256] S1x64x128.size (by decide)).emb x) :=
  piece_out 0 2 0 256 rfl rfl _ _ (outT_apply (c := 0) 0 rfl slices_S256x128_o0_0_S64x128 (load_tri _ harg7 x4 hx _) (load_lb _ harg6 x3 2 256 rfl _)
    (load_rows _ harg4 x1 0 2 256 rfl _) (load_rows _ harg3 x0 0 2 256 rfl _) (load_chunk _ harg5 x2 0 2 0 256 rfl rfl _)
    (s0_2 c arg4 harg4 arg5 harg5 arg6 harg6 arg7 harg7 arg9 x1 x2 x3 x4)) x

/-- The store of head 3's chunk 0 is a block of the point's outputs. -/
theorem p0_3 (hx : IsTri x4) (x : S1x64x128.Idx) : k0_pay131 (F := Ideal) (sl.r_54 (F := Ideal) c arg3 harg3 arg4 harg4 arg6 harg6 arg7 harg7 x0 x1 x3 x4) (sl.r_55 (F := Ideal) c arg3 harg3 arg4 harg4 arg6 harg6 arg7 harg7 x0 x1 x3 x4) (sl.r_58 (F := Ideal) c arg5 harg5 x2) (sl.v426 (F := Ideal) c arg4 harg4 arg5 harg5 arg6 harg6 arg7 harg7 arg9 x1 x2 x3 x4) x
    = pointOut x0 x1 x2 x3 (fun _ _ _ => 0) ((Rect.unit (s := S1x256x1024) ![0, 0, 384] S1x64x128.size (by decide)).emb x) :=
  piece_out 0 3 0 384 rfl rfl _ _ (outT_apply (c := 0) 0 rfl slices_S256x128_o0_0_S64x128 (load_tri _ harg7 x4 hx _) (load_lb _ harg6 x3 3 384 rfl _)
    (load_rows _ harg4 x1 0 3 384 rfl _) (load_rows _ harg3 x0 0 3 384 rfl _) (load_chunk _ harg5 x2 0 3 0 384 rfl rfl _)
    (s0_3 c arg4 harg4 arg5 harg5 arg6 harg6 arg7 harg7 arg9 x1 x2 x3 x4)) x

/-- The store of head 4's chunk 0 is a block of the point's outputs. -/
theorem p0_4 (hx : IsTri x4) (x : S1x64x128.Idx) : k0_pay136 (F := Ideal) (sl.r_92 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 0, 512] S1x64x128.size (by decide)).emb x) :=
  piece_out 0 4 0 512 rfl rfl _ _ (outT_apply (c := 0) 0 rfl slices_S256x128_o0_0_S64x128 (load_tri _ harg7 x4 hx _) (load_lb _ harg6 x3 4 512 rfl _)
    (load_rows _ harg4 x1 0 4 512 rfl _) (load_rows _ harg3 x0 0 4 512 rfl _) (load_chunk _ harg5 x2 0 4 0 512 rfl rfl _)
    (s0_4 c arg4 harg4 arg5 harg5 arg6 harg6 arg7 harg7 arg9 x1 x2 x3 x4)) x

/-- The store of head 5's chunk 0 is a block of the point's outputs. -/
theorem p0_5 (hx : IsTri x4) (x : S1x64x128.Idx) : k0_pay139 (F := Ideal) (sl.r_70 (F := Ideal) c arg3 harg3 arg4 harg4 arg6 harg6 arg7 harg7 x0 x1 x3 x4) (sl.r_71 (F := Ideal) c arg3 harg3 arg4 harg4 arg6 harg6 arg7 harg7 x0 x1 x3 x4) (sl.r_74 (F := Ideal) c arg5 harg5 x2) (sl.v466 (F := Ideal) c arg4 harg4 arg5 harg5 arg6 harg6 arg7 harg7 arg9 x1 x2 x3 x4) x
    = pointOut x0 x1 x2 x3 (fun _ _ _ => 0) ((Rect.unit (s := S1x256x1024) ![0, 0, 640] S1x64x128.size (by decide)).emb x) :=
  piece_out 0 5 0 640 rfl rfl _ _ (outT_apply (c := 0) 0 rfl slices_S256x128_o0_0_S64x128 (load_tri _ harg7 x4 hx _) (load_lb _ harg6 x3 5 640 rfl _)
    (load_rows _ harg4 x1 0 5 640 rfl _) (load_rows _ harg3 x0 0 5 640 rfl _) (load_chunk _ harg5 x2 0 5 0 640 rfl rfl _)
    (s0_5 c arg4 harg4 arg5 harg5 arg6 harg6 arg7 harg7 arg9 x1 x2 x3 x4)) x

/-- The store of head 6's chunk 0 is a block of the point's outputs. -/
theorem p0_6 (hx : IsTri x4) (x : S1x64x128.Idx) : k0_pay143 (F := Ideal) (sl.r_95 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 0, 768] S1x64x128.size (by decide)).emb x) :=
  piece_out 0 6 0 768 rfl rfl _ _ (outT_apply (c := 0) 0 rfl slices_S256x128_o0_0_S64x128 (load_tri _ harg7 x4 hx _) (load_lb _ harg6 x3 6 768 rfl _)
    (load_rows _ harg4 x1 0 6 768 rfl _) (load_rows _ harg3 x0 0 6 768 rfl _) (load_chunk _ harg5 x2 0 6 0 768 rfl rfl _)
    (s0_6 c arg4 harg4 arg5 harg5 arg6 harg6 arg7 harg7 arg9 x1 x2 x3 x4)) x

/-- The store of head 7's chunk 0 is a block of the point's outputs. -/
theorem p0_7 (hx : IsTri x4) (x : S1x64x128.Idx) : k0_pay146 (F := Ideal) (sl.r_86 (F := Ideal) c arg3 harg3 arg4 harg4 arg6 harg6 arg7 harg7 x0 x1 x3 x4) (sl.r_87 (F := Ideal) c arg3 harg3 arg4 harg4 arg6 harg6 arg7 harg7 x0 x1 x3 x4) (sl.r_90 (F := Ideal) c arg5 harg5 x2) (sl.v506 (F := Ideal) c arg4 harg4 arg5 harg5 arg6 harg6 arg7 harg7 arg9 x1 x2 x3 x4) x
    = pointOut x0 x1 x2 x3 (fun _ _ _ => 0) ((Rect.unit (s := S1x256x1024) ![0, 0, 896] S1x64x128.size (by decide)).emb x) :=
  piece_out 0 7 0 896 rfl rfl _ _ (outT_apply (c := 0) 0 rfl slices_S256x128_o0_0_S64x128 (load_tri _ harg7 x4 hx _) (load_lb _ harg6 x3 7 896 rfl _)
    (load_rows _ harg4 x1 0 7 896 rfl _) (load_rows _ harg3 x0 0 7 896 rfl _) (load_chunk _ harg5 x2 0 7 0 896 rfl rfl _)
    (s0_7 c arg4 harg4 arg5 harg5 arg6 harg6 arg7 harg7 arg9 x1 x2 x3 x4)) x

/-- The store of head 0's chunk 1 is a block of the point's outputs. -/
theorem p1_0 (hx : IsTri x4) (x : S1x64x128.Idx) : k0_pay223 (F := Ideal) (sl.r_101 (F := Ideal) c arg3 harg3 arg4 harg4 arg6 harg6 arg7 harg7 x0 x1 x3 x4) (sl.r_102 (F := Ideal) c arg3 harg3 arg4 harg4 arg6 harg6 arg7 harg7 x0 x1 x3 x4) (sl.r_105 (F := Ideal) c arg5 harg5 x2) (sl.v750 (F := Ideal) c arg4 harg4 arg5 harg5 arg6 harg6 arg7 harg7 arg9 x1 x2 x3 x4) x
    = pointOut x0 x1 x2 x3 (fun _ _ _ => 0) ((Rect.unit (s := S1x256x1024) ![0, 64, 0] S1x64x128.size (by decide)).emb x) :=
  piece_out 1 0 64 0 rfl rfl _ _ (outT_apply (c := 1) 64 rfl slices_S256x128_o64_0_S64x128 (load_tri _ harg7 x4 hx _) (load_lb _ harg6 x3 0 0 rfl _)
    (load_rows _ harg4 x1 1 0 0 rfl _) (load_rows _ harg3 x0 1 0 0 rfl _) (load_chunk _ harg5 x2 1 0 64 0 rfl rfl _)
    (s1_0 c arg4 harg4 arg5 harg5 arg6 harg6 arg7 harg7 arg9 x1 x2 x3 x4 hx)) x

/-- The store of head 1's chunk 1 is a block of the point's outputs. -/
theorem p1_1 (hx : IsTri x4) (x : S1x64x128.Idx) : k0_pay228 (F := Ideal) (sl.r_147 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 64, 128] S1x64x128.size (by decide)).emb x) :=
  piece_out 1 1 64 128 rfl rfl _ _ (outT_apply (c := 1) 64 rfl slices_S256x128_o64_0_S64x128 (load_tri _ harg7 x4 hx _) (load_lb _ harg6 x3 1 128 rfl _)
    (load_rows _ harg4 x1 1 1 128 rfl _) (load_rows _ harg3 x0 1 1 128 rfl _) (load_chunk _ harg5 x2 1 1 64 128 rfl rfl _)
    (s1_1 c arg4 harg4 arg5 harg5 arg6 harg6 arg7 harg7 arg9 x1 x2 x3 x4 hx)) x

/-- The store of head 2's chunk 1 is a block of the point's outputs. -/
theorem p1_2 (hx : IsTri x4) (x : S1x64x128.Idx) : k0_pay231 (F := Ideal) (sl.r_112 (F := Ideal) c arg3 harg3 arg4 harg4 arg6 harg6 arg7 harg7 x0 x1 x3 x4) (sl.r_113 (F := Ideal) c arg3 harg3 arg4 harg4 arg6 harg6 arg7 harg7 x0 x1 x3 x4) (sl.r_116 (F := Ideal) c arg5 harg5 x2) (sl.v790 (F := Ideal) c arg4 harg4 arg5 harg5 arg6 harg6 arg7 harg7 arg9 x1 x2 x3 x4) x
    = pointOut x0 x1 x2 x3 (fun _ _ _ => 0) ((Rect.unit (s := S1x256x1024) ![0, 64, 256] S1x64x128.size (by decide)).emb x) :=
  piece_out 1 2 64 256 rfl rfl _ _ (outT_apply (c := 1) 64 rfl slices_S256x128_o64_0_S64x128 (load_tri _ harg7 x4 hx _) (load_lb _ harg6 x3 2 256 rfl _)
    (load_rows _ harg4 x1 1 2 256 rfl _) (load_rows _ harg3 x0 1 2 256 rfl _) (load_chunk _ harg5 x2 1 2 64 256 rfl rfl _)
    (s1_2 c arg4 harg4 arg5 harg5 arg6 harg6 arg7 harg7 arg9 x1 x2 x3 x4 hx)) x

/-- The store of head 3's chunk 1 is a block of the point's outputs. -/
theorem p1_3 (hx : IsTri x4) (x : S1x64x128.Idx) : k0_pay236 (F := Ideal) (sl.r_118 (F := Ideal) c arg3 harg3 arg4 harg4 arg6 harg6 arg7 harg7 x0 x1 x3 x4) (sl.r_149 (F := Ideal) c arg4 harg4 arg5 harg5 arg6 harg6 arg7 harg7 arg9 x1 x2 x3 x4) (sl.r_150 (F := Ideal) c arg5 harg5 x2) (sl.r_151 (F := Ideal) c arg3 harg3 arg4 harg4 arg6 harg6 arg7 harg7 x0 x1 x3 x4) x
    = pointOut x0 x1 x2 x3 (fun _ _ _ => 0) ((Rect.unit (s := S1x256x1024) ![0, 64, 384] S1x64x128.size (by decide)).emb x) :=
  piece_out 1 3 64 384 rfl rfl _ _ (outT_apply (c := 1) 64 rfl slices_S256x128_o64_0_S64x128 (load_tri _ harg7 x4 hx _) (load_lb _ harg6 x3 3 384 rfl _)
    (load_rows _ harg4 x1 1 3 384 rfl _) (load_rows _ harg3 x0 1 3 384 rfl _) (load_chunk _ harg5 x2 1 3 64 384 rfl rfl _)
    (s1_3 c arg4 harg4 arg5 harg5 arg6 harg6 arg7 harg7 arg9 x1 x2 x3 x4 hx)) x

/-- The store of head 4's chunk 1 is a block of the point's outputs. -/
theorem p1_4 (hx : IsTri x4) (x : S1x64x128.Idx) : sl.r_152 (F := Ideal) c arg3 harg3 arg4 harg4 arg5 harg5 arg6 harg6 arg7 harg7 arg9 x0 x1 x2 x3 x4 x
    = pointOut x0 x1 x2 x3 (fun _ _ _ => 0) ((Rect.unit (s := S1x256x1024) ![0, 64, 512] S1x64x128.size (by decide)).emb x) :=
  piece_out 1 4 64 512 rfl rfl _ _ (outT_apply (c := 1) 64 rfl slices_S256x128_o64_0_S64x128 (load_tri _ harg7 x4 hx _) (load_lb _ harg6 x3 4 512 rfl _)
    (load_rows _ harg4 x1 1 4 512 rfl _) (load_rows _ harg3 x0 1 4 512 rfl _) (load_chunk _ harg5 x2 1 4 64 512 rfl rfl _)
    (s1_4 c arg4 harg4 arg5 harg5 arg6 harg6 arg7 harg7 arg9 x1 x2 x3 x4 hx)) x

/-- The store of head 5's chunk 1 is a block of the point's outputs. -/
theorem p1_5 (hx : IsTri x4) (x : S1x64x128.Idx) : k0_pay242 (F := Ideal) (sl.r_128 (F := Ideal) c arg3 harg3 arg4 harg4 arg6 harg6 arg7 harg7 x0 x1 x3 x4) (sl.r_129 (F := Ideal) c arg3 harg3 arg4 harg4 arg6 harg6 arg7 harg7 x0 x1 x3 x4) (sl.r_133 (F := Ideal) c arg5 harg5 x2) (sl.v850 (F := Ideal) c arg4 harg4 arg5 harg5 arg6 harg6 arg7 harg7 arg9 x1 x2 x3 x4) x
    = pointOut x0 x1 x2 x3 (fun _ _ _ => 0) ((Rect.unit (s := S1x256x1024) ![0, 64, 640] S1x64x128.size (by decide)).emb x) :=
  piece_out 1 5 64 640 rfl rfl _ _ (outT_apply (c := 1) 64 rfl slices_S256x128_o64_0_S64x128 (load_tri _ harg7 x4 hx _) (load_lb _ harg6 x3 5 640 rfl _)
    (load_rows _ harg4 x1 1 5 640 rfl _) (load_rows _ harg3 x0 1 5 640 rfl _) (load_chunk _ harg5 x2 1 5 64 640 rfl rfl _)
    (s1_5 c arg4 harg4 arg5 harg5 arg6 harg6 arg7 harg7 arg9 x1 x2 x3 x4 hx)) x

/-- The store of head 6's chunk 1 is a block of the point's outputs. -/
theorem p1_6 (hx : IsTri x4) (x : S1x64x128.Idx) : k0_pay247 (F := Ideal) (sl.r_153 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 64, 768] S1x64x128.size (by decide)).emb x) :=
  piece_out 1 6 64 768 rfl rfl _ _ (outT_apply (c := 1) 64 rfl slices_S256x128_o64_0_S64x128 (load_tri _ harg7 x4 hx _) (load_lb _ harg6 x3 6 768 rfl _)
    (load_rows _ harg4 x1 1 6 768 rfl _) (load_rows _ harg3 x0 1 6 768 rfl _) (load_chunk _ harg5 x2 1 6 64 768 rfl rfl _)
    (s1_6 c arg4 harg4 arg5 harg5 arg6 harg6 arg7 harg7 arg9 x1 x2 x3 x4 hx)) x

/-- The store of head 7's chunk 1 is a block of the point's outputs. -/
theorem p1_7 (hx : IsTri x4) (x : S1x64x128.Idx) : k0_pay250 (F := Ideal) (sl.r_142 (F := Ideal) c arg3 harg3 arg4 harg4 arg6 harg6 arg7 harg7 x0 x1 x3 x4) (sl.r_143 (F := Ideal) c arg3 harg3 arg4 harg4 arg6 harg6 arg7 harg7 x0 x1 x3 x4) (sl.r_146 (F := Ideal) c arg5 harg5 x2) (sl.v890 (F := Ideal) c arg4 harg4 arg5 harg5 arg6 harg6 arg7 harg7 arg9 x1 x2 x3 x4) x
    = pointOut x0 x1 x2 x3 (fun _ _ _ => 0) ((Rect.unit (s := S1x256x1024) ![0, 64, 896] S1x64x128.size (by decide)).emb x) :=
  piece_out 1 7 64 896 rfl rfl _ _ (outT_apply (c := 1) 64 rfl slices_S256x128_o64_0_S64x128 (load_tri _ harg7 x4 hx _) (load_lb _ harg6 x3 7 896 rfl _)
    (load_rows _ harg4 x1 1 7 896 rfl _) (load_rows _ harg3 x0 1 7 896 rfl _) (load_chunk _ harg5 x2 1 7 64 896 rfl rfl _)
    (s1_7 c arg4 harg4 arg5 harg5 arg6 harg6 arg7 harg7 arg9 x1 x2 x3 x4 hx)) x

/-- The store of head 0's chunk 2 is a block of the point's outputs. -/
theorem p2_0 (hx : IsTri x4) (x : S1x64x128.Idx) : k0_pay332 (F := Ideal) (sl.r_160 (F := Ideal) c arg3 harg3 arg4 harg4 arg6 harg6 arg7 harg7 x0 x1 x3 x4) (sl.r_161 (F := Ideal) c arg3 harg3 arg4 harg4 arg6 harg6 arg7 harg7 x0 x1 x3 x4) (sl.r_164 (F := Ideal) c arg5 harg5 x2) (sl.v1134 (F := Ideal) c arg4 harg4 arg5 harg5 arg6 harg6 arg7 harg7 arg9 x1 x2 x3 x4) x
    = pointOut x0 x1 x2 x3 (fun _ _ _ => 0) ((Rect.unit (s := S1x256x1024) ![0, 128, 0] S1x64x128.size (by decide)).emb x) :=
  piece_out 2 0 128 0 rfl rfl _ _ (outT_apply (c := 2) 128 rfl slices_S256x128_o128_0_S64x128 (load_tri _ harg7 x4 hx _) (load_lb _ harg6 x3 0 0 rfl _)
    (load_rows _ harg4 x1 2 0 0 rfl _) (load_rows _ harg3 x0 2 0 0 rfl _) (load_chunk _ harg5 x2 2 0 128 0 rfl rfl _)
    (s2_0 c arg4 harg4 arg5 harg5 arg6 harg6 arg7 harg7 arg9 x1 x2 x3 x4 hx)) x

/-- The store of head 1's chunk 2 is a block of the point's outputs. -/
theorem p2_1 (hx : IsTri x4) (x : S1x64x128.Idx) : k0_pay336 (F := Ideal) (sl.r_217 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 128, 128] S1x64x128.size (by decide)).emb x) :=
  piece_out 2 1 128 128 rfl rfl _ _ (outT_apply (c := 2) 128 rfl slices_S256x128_o128_0_S64x128 (load_tri _ harg7 x4 hx _) (load_lb _ harg6 x3 1 128 rfl _)
    (load_rows _ harg4 x1 2 1 128 rfl _) (load_rows _ harg3 x0 2 1 128 rfl _) (load_chunk _ harg5 x2 2 1 128 128 rfl rfl _)
    (s2_1 c arg4 harg4 arg5 harg5 arg6 harg6 arg7 harg7 arg9 x1 x2 x3 x4 hx)) x

/-- The store of head 2's chunk 2 is a block of the point's outputs. -/
theorem p2_2 (hx : IsTri x4) (x : S1x64x128.Idx) : k0_pay339 (F := Ideal) (sl.r_176 (F := Ideal) c arg3 harg3 arg4 harg4 arg6 harg6 arg7 harg7 x0 x1 x3 x4) (sl.r_177 (F := Ideal) c arg3 harg3 arg4 harg4 arg6 harg6 arg7 harg7 x0 x1 x3 x4) (sl.r_180 (F := Ideal) c arg5 harg5 x2) (sl.v1174 (F := Ideal) c arg4 harg4 arg5 harg5 arg6 harg6 arg7 harg7 arg9 x1 x2 x3 x4) x
    = pointOut x0 x1 x2 x3 (fun _ _ _ => 0) ((Rect.unit (s := S1x256x1024) ![0, 128, 256] S1x64x128.size (by decide)).emb x) :=
  piece_out 2 2 128 256 rfl rfl _ _ (outT_apply (c := 2) 128 rfl slices_S256x128_o128_0_S64x128 (load_tri _ harg7 x4 hx _) (load_lb _ harg6 x3 2 256 rfl _)
    (load_rows _ harg4 x1 2 2 256 rfl _) (load_rows _ harg3 x0 2 2 256 rfl _) (load_chunk _ harg5 x2 2 2 128 256 rfl rfl _)
    (s2_2 c arg4 harg4 arg5 harg5 arg6 harg6 arg7 harg7 arg9 x1 x2 x3 x4 hx)) x

/-- The store of head 3's chunk 2 is a block of the point's outputs. -/
theorem p2_3 (hx : IsTri x4) (x : S1x64x128.Idx) : k0_pay345 (F := Ideal) (sl.r_218 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 128, 384] S1x64x128.size (by decide)).emb x) :=
  piece_out 2 3 128 384 rfl rfl _ _ (outT_apply (c := 2) 128 rfl slices_S256x128_o128_0_S64x128 (load_tri _ harg7 x4 hx _) (load_lb _ harg6 x3 3 384 rfl _)
    (load_rows _ harg4 x1 2 3 384 rfl _) (load_rows _ harg3 x0 2 3 384 rfl _) (load_chunk _ harg5 x2 2 3 128 384 rfl rfl _)
    (s2_3 c arg4 harg4 arg5 harg5 arg6 harg6 arg7 harg7 arg9 x1 x2 x3 x4 hx)) x

/-- The store of head 4's chunk 2 is a block of the point's outputs. -/
theorem p2_4 (hx : IsTri x4) (x : S1x64x128.Idx) : k0_pay348 (F := Ideal) (sl.r_192 (F := Ideal) c arg3 harg3 arg4 harg4 arg6 harg6 arg7 harg7 x0 x1 x3 x4) (sl.r_193 (F := Ideal) c arg3 harg3 arg4 harg4 arg6 harg6 arg7 harg7 x0 x1 x3 x4) (sl.r_196 (F := Ideal) c arg5 harg5 x2) (sl.v1214 (F := Ideal) c arg4 harg4 arg5 harg5 arg6 harg6 arg7 harg7 arg9 x1 x2 x3 x4) x
    = pointOut x0 x1 x2 x3 (fun _ _ _ => 0) ((Rect.unit (s := S1x256x1024) ![0, 128, 512] S1x64x128.size (by decide)).emb x) :=
  piece_out 2 4 128 512 rfl rfl _ _ (outT_apply (c := 2) 128 rfl slices_S256x128_o128_0_S64x128 (load_tri _ harg7 x4 hx _) (load_lb _ harg6 x3 4 512 rfl _)
    (load_rows _ harg4 x1 2 4 512 rfl _) (load_rows _ harg3 x0 2 4 512 rfl _) (load_chunk _ harg5 x2 2 4 128 512 rfl rfl _)
    (s2_4 c arg4 harg4 arg5 harg5 arg6 harg6 arg7 harg7 arg9 x1 x2 x3 x4 hx)) x

/-- The store of head 5's chunk 2 is a block of the point's outputs. -/
theorem p2_5 (hx : IsTri x4) (x : S1x64x128.Idx) : k0_pay353 (F := Ideal) (sl.r_198 (F := Ideal) c arg3 harg3 arg4 harg4 arg6 harg6 arg7 harg7 x0 x1 x3 x4) (sl.r_222 (F := Ideal) c arg3 harg3 arg4 harg4 arg5 harg5 arg6 harg6 arg7 harg7 x0 x1 x2 x3 x4) (sl.r_223 (F := Ideal) c arg4 harg4 arg5 harg5 arg6 harg6 arg7 harg7 arg9 x1 x2 x3 x4) (sl.cst_435 (F := Ideal)) x
    = pointOut x0 x1 x2 x3 (fun _ _ _ => 0) ((Rect.unit (s := S1x256x1024) ![0, 128, 640] S1x64x128.size (by decide)).emb x) :=
  piece_out 2 5 128 640 rfl rfl _ _ (outT_apply (c := 2) 128 rfl slices_S256x128_o128_0_S64x128 (load_tri _ harg7 x4 hx _) (load_lb _ harg6 x3 5 640 rfl _)
    (load_rows _ harg4 x1 2 5 640 rfl _) (load_rows _ harg3 x0 2 5 640 rfl _) (load_chunk _ harg5 x2 2 5 128 640 rfl rfl _)
    (s2_5 c arg4 harg4 arg5 harg5 arg6 harg6 arg7 harg7 arg9 x1 x2 x3 x4 hx)) x

/-- The store of head 6's chunk 2 is a block of the point's outputs. -/
theorem p2_6 (hx : IsTri x4) (x : S1x64x128.Idx) : k0_pay356 (F := Ideal) (sl.r_207 (F := Ideal) c arg3 harg3 arg4 harg4 arg6 harg6 arg7 harg7 x0 x1 x3 x4) (sl.r_208 (F := Ideal) c arg3 harg3 arg4 harg4 arg6 harg6 arg7 harg7 x0 x1 x3 x4) (sl.r_211 (F := Ideal) c arg5 harg5 x2) (sl.v1254 (F := Ideal) c arg4 harg4 arg5 harg5 arg6 harg6 arg7 harg7 arg9 x1 x2 x3 x4) x
    = pointOut x0 x1 x2 x3 (fun _ _ _ => 0) ((Rect.unit (s := S1x256x1024) ![0, 128, 768] S1x64x128.size (by decide)).emb x) :=
  piece_out 2 6 128 768 rfl rfl _ _ (outT_apply (c := 2) 128 rfl slices_S256x128_o128_0_S64x128 (load_tri _ harg7 x4 hx _) (load_lb _ harg6 x3 6 768 rfl _)
    (load_rows _ harg4 x1 2 6 768 rfl _) (load_rows _ harg3 x0 2 6 768 rfl _) (load_chunk _ harg5 x2 2 6 128 768 rfl rfl _)
    (s2_6 c arg4 harg4 arg5 harg5 arg6 harg6 arg7 harg7 arg9 x1 x2 x3 x4 hx)) x

/-- The store of head 7's chunk 2 is a block of the point's outputs. -/
theorem p2_7 (hx : IsTri x4) (x : S1x64x128.Idx) : k0_pay359 (F := Ideal) (sl.r_212 (F := Ideal) c arg3 harg3 arg4 harg4 arg6 harg6 arg7 harg7 x0 x1 x3 x4) (sl.r_213 (F := Ideal) c arg3 harg3 arg4 harg4 arg6 harg6 arg7 harg7 x0 x1 x3 x4) (sl.r_216 (F := Ideal) c arg5 harg5 x2) (sl.v1274 (F := Ideal) c arg4 harg4 arg5 harg5 arg6 harg6 arg7 harg7 arg9 x1 x2 x3 x4) x
    = pointOut x0 x1 x2 x3 (fun _ _ _ => 0) ((Rect.unit (s := S1x256x1024) ![0, 128, 896] S1x64x128.size (by decide)).emb x) :=
  piece_out 2 7 128 896 rfl rfl _ _ (outT_apply (c := 2) 128 rfl slices_S256x128_o128_0_S64x128 (load_tri _ harg7 x4 hx _) (load_lb _ harg6 x3 7 896 rfl _)
    (load_rows _ harg4 x1 2 7 896 rfl _) (load_rows _ harg3 x0 2 7 896 rfl _) (load_chunk _ harg5 x2 2 7 128 896 rfl rfl _)
    (s2_7 c arg4 harg4 arg5 harg5 arg6 harg6 arg7 harg7 arg9 x1 x2 x3 x4 hx)) x

/-- The store of head 0's chunk 3 is a block of the point's outputs. -/
theorem p3_0 (hx : IsTri x4) (x : S1x64x128.Idx) : k0_pay437 (F := Ideal) (sl.r_275 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 192, 0] S1x64x128.size (by decide)).emb x) :=
  piece_out 3 0 192 0 rfl rfl _ _ (outT_apply (c := 3) 192 rfl slices_S256x128_o192_0_S64x128 (load_tri _ harg7 x4 hx _) (load_lb _ harg6 x3 0 0 rfl _)
    (load_rows _ harg4 x1 3 0 0 rfl _) (load_rows _ harg3 x0 3 0 0 rfl _) (load_chunk _ harg5 x2 3 0 192 0 rfl rfl _)
    (s3_0 c arg4 harg4 arg5 harg5 arg6 harg6 arg7 harg7 arg9 x1 x2 x3 x4 hx)) x

/-- The store of head 1's chunk 3 is a block of the point's outputs. -/
theorem p3_1 (hx : IsTri x4) (x : S1x64x128.Idx) : k0_pay440 (F := Ideal) (sl.r_229 (F := Ideal) c arg3 harg3 arg4 harg4 arg6 harg6 arg7 harg7 x0 x1 x3 x4) (sl.r_230 (F := Ideal) c arg3 harg3 arg4 harg4 arg6 harg6 arg7 harg7 x0 x1 x3 x4) (sl.r_233 (F := Ideal) c arg5 harg5 x2) (sl.v1538 (F := Ideal) c arg4 harg4 arg5 harg5 arg6 harg6 arg7 harg7 arg9 x1 x2 x3 x4) x
    = pointOut x0 x1 x2 x3 (fun _ _ _ => 0) ((Rect.unit (s := S1x256x1024) ![0, 192, 128] S1x64x128.size (by decide)).emb x) :=
  piece_out 3 1 192 128 rfl rfl _ _ (outT_apply (c := 3) 192 rfl slices_S256x128_o192_0_S64x128 (load_tri _ harg7 x4 hx _) (load_lb _ harg6 x3 1 128 rfl _)
    (load_rows _ harg4 x1 3 1 128 rfl _) (load_rows _ harg3 x0 3 1 128 rfl _) (load_chunk _ harg5 x2 3 1 192 128 rfl rfl _)
    (s3_1 c arg4 harg4 arg5 harg5 arg6 harg6 arg7 harg7 arg9 x1 x2 x3 x4 hx)) x

/-- The store of head 2's chunk 3 is a block of the point's outputs. -/
theorem p3_2 (hx : IsTri x4) (x : S1x64x128.Idx) : k0_pay443 (F := Ideal) (sl.r_235 (F := Ideal) c arg3 harg3 arg4 harg4 arg6 harg6 arg7 harg7 x0 x1 x3 x4) (sl.r_236 (F := Ideal) c arg3 harg3 arg4 harg4 arg6 harg6 arg7 harg7 x0 x1 x3 x4) (sl.r_240 (F := Ideal) c arg5 harg5 x2) (sl.r_276 (F := Ideal) c arg4 harg4 arg5 harg5 arg6 harg6 arg7 harg7 arg9 x1 x2 x3 x4) x
    = pointOut x0 x1 x2 x3 (fun _ _ _ => 0) ((Rect.unit (s := S1x256x1024) ![0, 192, 256] S1x64x128.size (by decide)).emb x) :=
  piece_out 3 2 192 256 rfl rfl _ _ (outT_apply (c := 3) 192 rfl slices_S256x128_o192_0_S64x128 (load_tri _ harg7 x4 hx _) (load_lb _ harg6 x3 2 256 rfl _)
    (load_rows _ harg4 x1 3 2 256 rfl _) (load_rows _ harg3 x0 3 2 256 rfl _) (load_chunk _ harg5 x2 3 2 192 256 rfl rfl _)
    (s3_2 c arg4 harg4 arg5 harg5 arg6 harg6 arg7 harg7 arg9 x1 x2 x3 x4 hx)) x

/-- The store of head 3's chunk 3 is a block of the point's outputs. -/
theorem p3_3 (hx : IsTri x4) (x : S1x64x128.Idx) : k0_pay447 (F := Ideal) (sl.r_277 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 192, 384] S1x64x128.size (by decide)).emb x) :=
  piece_out 3 3 192 384 rfl rfl _ _ (outT_apply (c := 3) 192 rfl slices_S256x128_o192_0_S64x128 (load_tri _ harg7 x4 hx _) (load_lb _ harg6 x3 3 384 rfl _)
    (load_rows _ harg4 x1 3 3 384 rfl _) (load_rows _ harg3 x0 3 3 384 rfl _) (load_chunk _ harg5 x2 3 3 192 384 rfl rfl _)
    (s3_3 c arg4 harg4 arg5 harg5 arg6 harg6 arg7 harg7 arg9 x1 x2 x3 x4 hx)) x

/-- The store of head 4's chunk 3 is a block of the point's outputs. -/
theorem p3_4 (hx : IsTri x4) (x : S1x64x128.Idx) : k0_pay450 (F := Ideal) (sl.r_249 (F := Ideal) c arg3 harg3 arg4 harg4 arg6 harg6 arg7 harg7 x0 x1 x3 x4) (sl.r_250 (F := Ideal) c arg3 harg3 arg4 harg4 arg6 harg6 arg7 harg7 x0 x1 x3 x4) (sl.r_253 (F := Ideal) c arg5 harg5 x2) (sl.v1598 (F := Ideal) c arg4 harg4 arg5 harg5 arg6 harg6 arg7 harg7 arg9 x1 x2 x3 x4) x
    = pointOut x0 x1 x2 x3 (fun _ _ _ => 0) ((Rect.unit (s := S1x256x1024) ![0, 192, 512] S1x64x128.size (by decide)).emb x) :=
  piece_out 3 4 192 512 rfl rfl _ _ (outT_apply (c := 3) 192 rfl slices_S256x128_o192_0_S64x128 (load_tri _ harg7 x4 hx _) (load_lb _ harg6 x3 4 512 rfl _)
    (load_rows _ harg4 x1 3 4 512 rfl _) (load_rows _ harg3 x0 3 4 512 rfl _) (load_chunk _ harg5 x2 3 4 192 512 rfl rfl _)
    (s3_4 c arg4 harg4 arg5 harg5 arg6 harg6 arg7 harg7 arg9 x1 x2 x3 x4 hx)) x

/-- The store of head 5's chunk 3 is a block of the point's outputs. -/
theorem p3_5 (hx : IsTri x4) (x : S1x64x128.Idx) : k0_pay455 (F := Ideal) (sl.r_278 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 192, 640] S1x64x128.size (by decide)).emb x) :=
  piece_out 3 5 192 640 rfl rfl _ _ (outT_apply (c := 3) 192 rfl slices_S256x128_o192_0_S64x128 (load_tri _ harg7 x4 hx _) (load_lb _ harg6 x3 5 640 rfl _)
    (load_rows _ harg4 x1 3 5 640 rfl _) (load_rows _ harg3 x0 3 5 640 rfl _) (load_chunk _ harg5 x2 3 5 192 640 rfl rfl _)
    (s3_5 c arg4 harg4 arg5 harg5 arg6 harg6 arg7 harg7 arg9 x1 x2 x3 x4 hx)) x

/-- The store of head 6's chunk 3 is a block of the point's outputs. -/
theorem p3_6 (hx : IsTri x4) (x : S1x64x128.Idx) : k0_pay458 (F := Ideal) (sl.r_264 (F := Ideal) c arg3 harg3 arg4 harg4 arg6 harg6 arg7 harg7 x0 x1 x3 x4) (sl.r_265 (F := Ideal) c arg3 harg3 arg4 harg4 arg6 harg6 arg7 harg7 x0 x1 x3 x4) (sl.r_268 (F := Ideal) c arg5 harg5 x2) (sl.v1638 (F := Ideal) c arg4 harg4 arg5 harg5 arg6 harg6 arg7 harg7 arg9 x1 x2 x3 x4) x
    = pointOut x0 x1 x2 x3 (fun _ _ _ => 0) ((Rect.unit (s := S1x256x1024) ![0, 192, 768] S1x64x128.size (by decide)).emb x) :=
  piece_out 3 6 192 768 rfl rfl _ _ (outT_apply (c := 3) 192 rfl slices_S256x128_o192_0_S64x128 (load_tri _ harg7 x4 hx _) (load_lb _ harg6 x3 6 768 rfl _)
    (load_rows _ harg4 x1 3 6 768 rfl _) (load_rows _ harg3 x0 3 6 768 rfl _) (load_chunk _ harg5 x2 3 6 192 768 rfl rfl _)
    (s3_6 c arg4 harg4 arg5 harg5 arg6 harg6 arg7 harg7 arg9 x1 x2 x3 x4 hx)) x

/-- The store of head 7's chunk 3 is a block of the point's outputs. -/
theorem p3_7 (hx : IsTri x4) (x : S1x64x128.Idx) : k0_pay2 (F := Ideal) (sl.r_280 (F := Ideal) c arg3 harg3 arg4 harg4 arg5 harg5 arg6 harg6 arg7 harg7 arg9 x0 x1 x2 x3 x4) x
    = pointOut x0 x1 x2 x3 (fun _ _ _ => 0) ((Rect.unit (s := S1x256x1024) ![0, 192, 896] S1x64x128.size (by decide)).emb x) :=
  piece_out 3 7 192 896 rfl rfl _ _ (outT_apply (c := 3) 192 rfl slices_S256x128_o192_0_S64x128 (load_tri _ harg7 x4 hx _) (load_lb _ harg6 x3 7 896 rfl _)
    (load_rows _ harg4 x1 3 7 896 rfl _) (load_rows _ harg3 x0 3 7 896 rfl _) (load_chunk _ harg5 x2 3 7 192 896 rfl rfl _)
    (s3_7 c arg4 harg4 arg5 harg5 arg6 harg6 arg7 harg7 arg9 x1 x2 x3 x4 hx)) x

/-- The stores into the output's block, last first. -/
theorem list_eq : (kernelRun0_A (F := Ideal) c i arg3 harg3 arg4 harg4 arg5 harg5 arg6 harg6 arg7 harg7 arg8 harg8 arg9 harg9 hc0 x0 x1 x2 x3 x4).1 =
  [⟨Rect.unit (s := S1x256x1024) ![0, 192, 896] S1x64x128.size (by decide), (k0_pay2 (F := Ideal) (sl.r_280 (F := Ideal) c arg3 harg3 arg4 harg4 arg5 harg5 arg6 harg6 arg7 harg7 arg9 x0 x1 x2 x3 x4))⟩,
  ⟨Rect.unit (s := S1x256x1024) ![0, 192, 768] S1x64x128.size (by decide), (k0_pay458 (F := Ideal) (sl.r_264 (F := Ideal) c arg3 harg3 arg4 harg4 arg6 harg6 arg7 harg7 x0 x1 x3 x4) (sl.r_265 (F := Ideal) c arg3 harg3 arg4 harg4 arg6 harg6 arg7 harg7 x0 x1 x3 x4) (sl.r_268 (F := Ideal) c arg5 harg5 x2) (sl.v1638 (F := Ideal) c arg4 harg4 arg5 harg5 arg6 harg6 arg7 harg7 arg9 x1 x2 x3 x4))⟩,
  ⟨Rect.unit (s := S1x256x1024) ![0, 192, 640] S1x64x128.size (by decide), (k0_pay455 (F := Ideal) (sl.r_278 (F := Ideal) c arg3 harg3 arg4 harg4 arg5 harg5 arg6 harg6 arg7 harg7 arg9 x0 x1 x2 x3 x4))⟩,
  ⟨Rect.unit (s := S1x256x1024) ![0, 192, 512] S1x64x128.size (by decide), (k0_pay450 (F := Ideal) (sl.r_249 (F := Ideal) c arg3 harg3 arg4 harg4 arg6 harg6 arg7 harg7 x0 x1 x3 x4) (sl.r_250 (F := Ideal) c arg3 harg3 arg4 harg4 arg6 harg6 arg7 harg7 x0 x1 x3 x4) (sl.r_253 (F := Ideal) c arg5 harg5 x2) (sl.v1598 (F := Ideal) c arg4 harg4 arg5 harg5 arg6 harg6 arg7 harg7 arg9 x1 x2 x3 x4))⟩,
  ⟨Rect.unit (s := S1x256x1024) ![0, 192, 384] S1x64x128.size (by decide), (k0_pay447 (F := Ideal) (sl.r_277 (F := Ideal) c arg3 harg3 arg4 harg4 arg5 harg5 arg6 harg6 arg7 harg7 arg9 x0 x1 x2 x3 x4))⟩,
  ⟨Rect.unit (s := S1x256x1024) ![0, 192, 256] S1x64x128.size (by decide), (k0_pay443 (F := Ideal) (sl.r_235 (F := Ideal) c arg3 harg3 arg4 harg4 arg6 harg6 arg7 harg7 x0 x1 x3 x4) (sl.r_236 (F := Ideal) c arg3 harg3 arg4 harg4 arg6 harg6 arg7 harg7 x0 x1 x3 x4) (sl.r_240 (F := Ideal) c arg5 harg5 x2) (sl.r_276 (F := Ideal) c arg4 harg4 arg5 harg5 arg6 harg6 arg7 harg7 arg9 x1 x2 x3 x4))⟩,
  ⟨Rect.unit (s := S1x256x1024) ![0, 192, 128] S1x64x128.size (by decide), (k0_pay440 (F := Ideal) (sl.r_229 (F := Ideal) c arg3 harg3 arg4 harg4 arg6 harg6 arg7 harg7 x0 x1 x3 x4) (sl.r_230 (F := Ideal) c arg3 harg3 arg4 harg4 arg6 harg6 arg7 harg7 x0 x1 x3 x4) (sl.r_233 (F := Ideal) c arg5 harg5 x2) (sl.v1538 (F := Ideal) c arg4 harg4 arg5 harg5 arg6 harg6 arg7 harg7 arg9 x1 x2 x3 x4))⟩,
  ⟨Rect.unit (s := S1x256x1024) ![0, 192, 0] S1x64x128.size (by decide), (k0_pay437 (F := Ideal) (sl.r_275 (F := Ideal) c arg3 harg3 arg4 harg4 arg5 harg5 arg6 harg6 arg7 harg7 arg9 x0 x1 x2 x3 x4))⟩,
  ⟨Rect.unit (s := S1x256x1024) ![0, 128, 896] S1x64x128.size (by decide), (k0_pay359 (F := Ideal) (sl.r_212 (F := Ideal) c arg3 harg3 arg4 harg4 arg6 harg6 arg7 harg7 x0 x1 x3 x4) (sl.r_213 (F := Ideal) c arg3 harg3 arg4 harg4 arg6 harg6 arg7 harg7 x0 x1 x3 x4) (sl.r_216 (F := Ideal) c arg5 harg5 x2) (sl.v1274 (F := Ideal) c arg4 harg4 arg5 harg5 arg6 harg6 arg7 harg7 arg9 x1 x2 x3 x4))⟩,
  ⟨Rect.unit (s := S1x256x1024) ![0, 128, 768] S1x64x128.size (by decide), (k0_pay356 (F := Ideal) (sl.r_207 (F := Ideal) c arg3 harg3 arg4 harg4 arg6 harg6 arg7 harg7 x0 x1 x3 x4) (sl.r_208 (F := Ideal) c arg3 harg3 arg4 harg4 arg6 harg6 arg7 harg7 x0 x1 x3 x4) (sl.r_211 (F := Ideal) c arg5 harg5 x2) (sl.v1254 (F := Ideal) c arg4 harg4 arg5 harg5 arg6 harg6 arg7 harg7 arg9 x1 x2 x3 x4))⟩,
  ⟨Rect.unit (s := S1x256x1024) ![0, 128, 640] S1x64x128.size (by decide), (k0_pay353 (F := Ideal) (sl.r_198 (F := Ideal) c arg3 harg3 arg4 harg4 arg6 harg6 arg7 harg7 x0 x1 x3 x4) (sl.r_222 (F := Ideal) c arg3 harg3 arg4 harg4 arg5 harg5 arg6 harg6 arg7 harg7 x0 x1 x2 x3 x4) (sl.r_223 (F := Ideal) c arg4 harg4 arg5 harg5 arg6 harg6 arg7 harg7 arg9 x1 x2 x3 x4) (sl.cst_435 (F := Ideal)))⟩,
  ⟨Rect.unit (s := S1x256x1024) ![0, 128, 512] S1x64x128.size (by decide), (k0_pay348 (F := Ideal) (sl.r_192 (F := Ideal) c arg3 harg3 arg4 harg4 arg6 harg6 arg7 harg7 x0 x1 x3 x4) (sl.r_193 (F := Ideal) c arg3 harg3 arg4 harg4 arg6 harg6 arg7 harg7 x0 x1 x3 x4) (sl.r_196 (F := Ideal) c arg5 harg5 x2) (sl.v1214 (F := Ideal) c arg4 harg4 arg5 harg5 arg6 harg6 arg7 harg7 arg9 x1 x2 x3 x4))⟩,
  ⟨Rect.unit (s := S1x256x1024) ![0, 128, 384] S1x64x128.size (by decide), (k0_pay345 (F := Ideal) (sl.r_218 (F := Ideal) c arg3 harg3 arg4 harg4 arg5 harg5 arg6 harg6 arg7 harg7 arg9 x0 x1 x2 x3 x4))⟩,
  ⟨Rect.unit (s := S1x256x1024) ![0, 128, 256] S1x64x128.size (by decide), (k0_pay339 (F := Ideal) (sl.r_176 (F := Ideal) c arg3 harg3 arg4 harg4 arg6 harg6 arg7 harg7 x0 x1 x3 x4) (sl.r_177 (F := Ideal) c arg3 harg3 arg4 harg4 arg6 harg6 arg7 harg7 x0 x1 x3 x4) (sl.r_180 (F := Ideal) c arg5 harg5 x2) (sl.v1174 (F := Ideal) c arg4 harg4 arg5 harg5 arg6 harg6 arg7 harg7 arg9 x1 x2 x3 x4))⟩,
  ⟨Rect.unit (s := S1x256x1024) ![0, 128, 128] S1x64x128.size (by decide), (k0_pay336 (F := Ideal) (sl.r_217 (F := Ideal) c arg3 harg3 arg4 harg4 arg5 harg5 arg6 harg6 arg7 harg7 arg9 x0 x1 x2 x3 x4))⟩,
  ⟨Rect.unit (s := S1x256x1024) ![0, 128, 0] S1x64x128.size (by decide), (k0_pay332 (F := Ideal) (sl.r_160 (F := Ideal) c arg3 harg3 arg4 harg4 arg6 harg6 arg7 harg7 x0 x1 x3 x4) (sl.r_161 (F := Ideal) c arg3 harg3 arg4 harg4 arg6 harg6 arg7 harg7 x0 x1 x3 x4) (sl.r_164 (F := Ideal) c arg5 harg5 x2) (sl.v1134 (F := Ideal) c arg4 harg4 arg5 harg5 arg6 harg6 arg7 harg7 arg9 x1 x2 x3 x4))⟩,
  ⟨Rect.unit (s := S1x256x1024) ![0, 64, 896] S1x64x128.size (by decide), (k0_pay250 (F := Ideal) (sl.r_142 (F := Ideal) c arg3 harg3 arg4 harg4 arg6 harg6 arg7 harg7 x0 x1 x3 x4) (sl.r_143 (F := Ideal) c arg3 harg3 arg4 harg4 arg6 harg6 arg7 harg7 x0 x1 x3 x4) (sl.r_146 (F := Ideal) c arg5 harg5 x2) (sl.v890 (F := Ideal) c arg4 harg4 arg5 harg5 arg6 harg6 arg7 harg7 arg9 x1 x2 x3 x4))⟩,
  ⟨Rect.unit (s := S1x256x1024) ![0, 64, 768] S1x64x128.size (by decide), (k0_pay247 (F := Ideal) (sl.r_153 (F := Ideal) c arg3 harg3 arg4 harg4 arg5 harg5 arg6 harg6 arg7 harg7 arg9 x0 x1 x2 x3 x4))⟩,
  ⟨Rect.unit (s := S1x256x1024) ![0, 64, 640] S1x64x128.size (by decide), (k0_pay242 (F := Ideal) (sl.r_128 (F := Ideal) c arg3 harg3 arg4 harg4 arg6 harg6 arg7 harg7 x0 x1 x3 x4) (sl.r_129 (F := Ideal) c arg3 harg3 arg4 harg4 arg6 harg6 arg7 harg7 x0 x1 x3 x4) (sl.r_133 (F := Ideal) c arg5 harg5 x2) (sl.v850 (F := Ideal) c arg4 harg4 arg5 harg5 arg6 harg6 arg7 harg7 arg9 x1 x2 x3 x4))⟩,
  ⟨Rect.unit (s := S1x256x1024) ![0, 64, 512] S1x64x128.size (by decide), (sl.r_152 (F := Ideal) c arg3 harg3 arg4 harg4 arg5 harg5 arg6 harg6 arg7 harg7 arg9 x0 x1 x2 x3 x4)⟩,
  ⟨Rect.unit (s := S1x256x1024) ![0, 64, 384] S1x64x128.size (by decide), (k0_pay236 (F := Ideal) (sl.r_118 (F := Ideal) c arg3 harg3 arg4 harg4 arg6 harg6 arg7 harg7 x0 x1 x3 x4) (sl.r_149 (F := Ideal) c arg4 harg4 arg5 harg5 arg6 harg6 arg7 harg7 arg9 x1 x2 x3 x4) (sl.r_150 (F := Ideal) c arg5 harg5 x2) (sl.r_151 (F := Ideal) c arg3 harg3 arg4 harg4 arg6 harg6 arg7 harg7 x0 x1 x3 x4))⟩,
  ⟨Rect.unit (s := S1x256x1024) ![0, 64, 256] S1x64x128.size (by decide), (k0_pay231 (F := Ideal) (sl.r_112 (F := Ideal) c arg3 harg3 arg4 harg4 arg6 harg6 arg7 harg7 x0 x1 x3 x4) (sl.r_113 (F := Ideal) c arg3 harg3 arg4 harg4 arg6 harg6 arg7 harg7 x0 x1 x3 x4) (sl.r_116 (F := Ideal) c arg5 harg5 x2) (sl.v790 (F := Ideal) c arg4 harg4 arg5 harg5 arg6 harg6 arg7 harg7 arg9 x1 x2 x3 x4))⟩,
  ⟨Rect.unit (s := S1x256x1024) ![0, 64, 128] S1x64x128.size (by decide), (k0_pay228 (F := Ideal) (sl.r_147 (F := Ideal) c arg3 harg3 arg4 harg4 arg5 harg5 arg6 harg6 arg7 harg7 arg9 x0 x1 x2 x3 x4))⟩,
  ⟨Rect.unit (s := S1x256x1024) ![0, 64, 0] S1x64x128.size (by decide), (k0_pay223 (F := Ideal) (sl.r_101 (F := Ideal) c arg3 harg3 arg4 harg4 arg6 harg6 arg7 harg7 x0 x1 x3 x4) (sl.r_102 (F := Ideal) c arg3 harg3 arg4 harg4 arg6 harg6 arg7 harg7 x0 x1 x3 x4) (sl.r_105 (F := Ideal) c arg5 harg5 x2) (sl.v750 (F := Ideal) c arg4 harg4 arg5 harg5 arg6 harg6 arg7 harg7 arg9 x1 x2 x3 x4))⟩,
  ⟨Rect.unit (s := S1x256x1024) ![0, 0, 896] S1x64x128.size (by decide), (k0_pay146 (F := Ideal) (sl.r_86 (F := Ideal) c arg3 harg3 arg4 harg4 arg6 harg6 arg7 harg7 x0 x1 x3 x4) (sl.r_87 (F := Ideal) c arg3 harg3 arg4 harg4 arg6 harg6 arg7 harg7 x0 x1 x3 x4) (sl.r_90 (F := Ideal) c arg5 harg5 x2) (sl.v506 (F := Ideal) c arg4 harg4 arg5 harg5 arg6 harg6 arg7 harg7 arg9 x1 x2 x3 x4))⟩,
  ⟨Rect.unit (s := S1x256x1024) ![0, 0, 768] S1x64x128.size (by decide), (k0_pay143 (F := Ideal) (sl.r_95 (F := Ideal) c arg3 harg3 arg4 harg4 arg5 harg5 arg6 harg6 arg7 harg7 arg9 x0 x1 x2 x3 x4))⟩,
  ⟨Rect.unit (s := S1x256x1024) ![0, 0, 640] S1x64x128.size (by decide), (k0_pay139 (F := Ideal) (sl.r_70 (F := Ideal) c arg3 harg3 arg4 harg4 arg6 harg6 arg7 harg7 x0 x1 x3 x4) (sl.r_71 (F := Ideal) c arg3 harg3 arg4 harg4 arg6 harg6 arg7 harg7 x0 x1 x3 x4) (sl.r_74 (F := Ideal) c arg5 harg5 x2) (sl.v466 (F := Ideal) c arg4 harg4 arg5 harg5 arg6 harg6 arg7 harg7 arg9 x1 x2 x3 x4))⟩,
  ⟨Rect.unit (s := S1x256x1024) ![0, 0, 512] S1x64x128.size (by decide), (k0_pay136 (F := Ideal) (sl.r_92 (F := Ideal) c arg3 harg3 arg4 harg4 arg5 harg5 arg6 harg6 arg7 harg7 arg9 x0 x1 x2 x3 x4))⟩,
  ⟨Rect.unit (s := S1x256x1024) ![0, 0, 384] S1x64x128.size (by decide), (k0_pay131 (F := Ideal) (sl.r_54 (F := Ideal) c arg3 harg3 arg4 harg4 arg6 harg6 arg7 harg7 x0 x1 x3 x4) (sl.r_55 (F := Ideal) c arg3 harg3 arg4 harg4 arg6 harg6 arg7 harg7 x0 x1 x3 x4) (sl.r_58 (F := Ideal) c arg5 harg5 x2) (sl.v426 (F := Ideal) c arg4 harg4 arg5 harg5 arg6 harg6 arg7 harg7 arg9 x1 x2 x3 x4))⟩,
  ⟨Rect.unit (s := S1x256x1024) ![0, 0, 256] S1x64x128.size (by decide), (k0_pay128 (F := Ideal) (sl.r_91 (F := Ideal) c arg3 harg3 arg4 harg4 arg5 harg5 arg6 harg6 arg7 harg7 arg9 x0 x1 x2 x3 x4))⟩,
  ⟨Rect.unit (s := S1x256x1024) ![0, 0, 128] S1x64x128.size (by decide), (k0_pay124 (F := Ideal) (sl.r_39 (F := Ideal) c arg3 harg3 arg4 harg4 arg6 harg6 arg7 harg7 x0 x1 x3 x4) (sl.r_40 (F := Ideal) c arg3 harg3 arg4 harg4 arg6 harg6 arg7 harg7 x0 x1 x3 x4) (sl.r_43 (F := Ideal) c arg5 harg5 x2) (sl.v386 (F := Ideal) c arg4 harg4 arg5 harg5 arg6 harg6 arg7 harg7 arg9 x1 x2 x3 x4))⟩,
  ⟨Rect.unit (s := S1x256x1024) ![0, 0, 0] S1x64x128.size (by decide), (k0_pay121 (F := Ideal) (sl.r_31 (F := Ideal) c arg3 harg3 arg4 harg4 arg6 harg6 arg7 harg7 x0 x1 x3 x4) (sl.r_32 (F := Ideal) c arg3 harg3 arg4 harg4 arg6 harg6 arg7 harg7 x0 x1 x3 x4) (sl.r_35 (F := Ideal) c arg5 harg5 x2) (sl.v366 (F := Ideal) c arg9))⟩] := rfl

/-- Every store into the output's block is one chunk's output of one head. -/
theorem pieces (hx : IsTri x4) : View.PiecesOf (pointOut x0 x1 x2 x3 (fun _ _ _ => 0)) (kernelRun0_A (F := Ideal) c i arg3 harg3 arg4 harg4 arg5 harg5 arg6 harg6 arg7 harg7 arg8 harg8 arg9 harg9 hc0 x0 x1 x2 x3 x4).1 := by
  rw [list_eq]
  exact ⟨p3_7 c arg3 harg3 arg4 harg4 arg5 harg5 arg6 harg6 arg7 harg7 arg9 x1 x2 x3 x4 x0 hx,
    p3_6 c arg3 harg3 arg4 harg4 arg5 harg5 arg6 harg6 arg7 harg7 arg9 x1 x2 x3 x4 x0 hx,
    p3_5 c arg3 harg3 arg4 harg4 arg5 harg5 arg6 harg6 arg7 harg7 arg9 x1 x2 x3 x4 x0 hx,
    p3_4 c arg3 harg3 arg4 harg4 arg5 harg5 arg6 harg6 arg7 harg7 arg9 x1 x2 x3 x4 x0 hx,
    p3_3 c arg3 harg3 arg4 harg4 arg5 harg5 arg6 harg6 arg7 harg7 arg9 x1 x2 x3 x4 x0 hx,
    p3_2 c arg3 harg3 arg4 harg4 arg5 harg5 arg6 harg6 arg7 harg7 arg9 x1 x2 x3 x4 x0 hx,
    p3_1 c arg3 harg3 arg4 harg4 arg5 harg5 arg6 harg6 arg7 harg7 arg9 x1 x2 x3 x4 x0 hx,
    p3_0 c arg3 harg3 arg4 harg4 arg5 harg5 arg6 harg6 arg7 harg7 arg9 x1 x2 x3 x4 x0 hx,
    p2_7 c arg3 harg3 arg4 harg4 arg5 harg5 arg6 harg6 arg7 harg7 arg9 x1 x2 x3 x4 x0 hx,
    p2_6 c arg3 harg3 arg4 harg4 arg5 harg5 arg6 harg6 arg7 harg7 arg9 x1 x2 x3 x4 x0 hx,
    p2_5 c arg3 harg3 arg4 harg4 arg5 harg5 arg6 harg6 arg7 harg7 arg9 x1 x2 x3 x4 x0 hx,
    p2_4 c arg3 harg3 arg4 harg4 arg5 harg5 arg6 harg6 arg7 harg7 arg9 x1 x2 x3 x4 x0 hx,
    p2_3 c arg3 harg3 arg4 harg4 arg5 harg5 arg6 harg6 arg7 harg7 arg9 x1 x2 x3 x4 x0 hx,
    p2_2 c arg3 harg3 arg4 harg4 arg5 harg5 arg6 harg6 arg7 harg7 arg9 x1 x2 x3 x4 x0 hx,
    p2_1 c arg3 harg3 arg4 harg4 arg5 harg5 arg6 harg6 arg7 harg7 arg9 x1 x2 x3 x4 x0 hx,
    p2_0 c arg3 harg3 arg4 harg4 arg5 harg5 arg6 harg6 arg7 harg7 arg9 x1 x2 x3 x4 x0 hx,
    p1_7 c arg3 harg3 arg4 harg4 arg5 harg5 arg6 harg6 arg7 harg7 arg9 x1 x2 x3 x4 x0 hx,
    p1_6 c arg3 harg3 arg4 harg4 arg5 harg5 arg6 harg6 arg7 harg7 arg9 x1 x2 x3 x4 x0 hx,
    p1_5 c arg3 harg3 arg4 harg4 arg5 harg5 arg6 harg6 arg7 harg7 arg9 x1 x2 x3 x4 x0 hx,
    p1_4 c arg3 harg3 arg4 harg4 arg5 harg5 arg6 harg6 arg7 harg7 arg9 x1 x2 x3 x4 x0 hx,
    p1_3 c arg3 harg3 arg4 harg4 arg5 harg5 arg6 harg6 arg7 harg7 arg9 x1 x2 x3 x4 x0 hx,
    p1_2 c arg3 harg3 arg4 harg4 arg5 harg5 arg6 harg6 arg7 harg7 arg9 x1 x2 x3 x4 x0 hx,
    p1_1 c arg3 harg3 arg4 harg4 arg5 harg5 arg6 harg6 arg7 harg7 arg9 x1 x2 x3 x4 x0 hx,
    p1_0 c arg3 harg3 arg4 harg4 arg5 harg5 arg6 harg6 arg7 harg7 arg9 x1 x2 x3 x4 x0 hx,
    p0_7 c arg3 harg3 arg4 harg4 arg5 harg5 arg6 harg6 arg7 harg7 arg9 x1 x2 x3 x4 x0 hx,
    p0_6 c arg3 harg3 arg4 harg4 arg5 harg5 arg6 harg6 arg7 harg7 arg9 x1 x2 x3 x4 x0 hx,
    p0_5 c arg3 harg3 arg4 harg4 arg5 harg5 arg6 harg6 arg7 harg7 arg9 x1 x2 x3 x4 x0 hx,
    p0_4 c arg3 harg3 arg4 harg4 arg5 harg5 arg6 harg6 arg7 harg7 arg9 x1 x2 x3 x4 x0 hx,
    p0_3 c arg3 harg3 arg4 harg4 arg5 harg5 arg6 harg6 arg7 harg7 arg9 x1 x2 x3 x4 x0 hx,
    p0_2 c arg3 harg3 arg4 harg4 arg5 harg5 arg6 harg6 arg7 harg7 arg9 x1 x2 x3 x4 x0 hx,
    p0_1 c arg3 harg3 arg4 harg4 arg5 harg5 arg6 harg6 arg7 harg7 arg9 x1 x2 x3 x4 x0 hx,
    p0_0 c arg3 harg3 arg4 harg4 arg5 harg5 arg6 harg6 arg7 harg7 arg9 x1 x2 x3 x4 x0 hx, trivial⟩

/-- What the point leaves in the output's block. -/
theorem out_eq (hx : IsTri x4) : out0_A_5 (F := Ideal) c i arg3 harg3 arg4 harg4 arg5 harg5 arg6 harg6 arg7 harg7 arg8 harg8 arg9 harg9 hc0 x0 x1 x2 x3 x4 = pointOut x0 x1 x2 x3 (fun _ _ _ => 0) := by
  unfold out0_A_5
  rw [View.read_writes_junk_eq_canon]
  funext y
  have h := cover0_A_5 (F := Ideal) c i arg3 harg3 arg4 harg4 arg5 harg5 arg6 harg6 arg7 harg7 arg8 harg8 arg9 harg9 hc0 x0 x1 x2 x3 x4 y
  have h2 := pieces c arg3 harg3 arg4 harg4 arg5 harg5 arg6 harg6 arg7 harg7 arg9 harg9 x1 x2 x3 x4 i arg8 harg8 hc0 x0 hx
  generalize (kernelRun0_A (F := Ideal) c i arg3 harg3 arg4 harg4 arg5 harg5 arg6 harg6 arg7 harg7 arg8 harg8 arg9 harg9 hc0 x0 x1 x2 x3 x4).1 = L at h h2 ⊢
  exact View.canon_apply_of_pieces _ L (View.PiecesOf.mem h2) y h

/-- Head 0's state after the point. -/
theorem s4_0 (hx : IsTri x4) (e d : Fin 128) :
    sout0_A_0 (F := Ideal) c i arg3 harg3 arg4 harg4 arg5 harg5 arg6 harg6 arg7 harg7 arg8 harg8 arg9 harg9 hc0 x0 x1 x2 x3 x4 (ix3 0 e d) = chain x1 x2 x3 (fun _ _ _ => 0) 0 4 e d := by
  unfold sout0_A_0
  rw [View.read_writes_junk_eq_canon, canon_head _ 0 0 rfl (by decide)]
  show View.readCov VS0_0 (⟨_, _⟩ :: sl.HS0_32 (F := Ideal) c arg4 harg4 arg5 harg5 arg6 harg6 arg7 harg7 arg9 x1 x2 x3 x4) _ _ = _
  unfold sl.HS0_32 sl.HS0_31 sl.HS0_30 sl.HS0_29 sl.HS0_28 sl.HS0_27 sl.HS0_26
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 0 0 rfl _)
    (load_rows _ harg4 x1 3 0 0 rfl _) (load_chunk _ harg5 x2 3 0 192 0 rfl rfl _)
    (s3_0 c arg4 harg4 arg5 harg5 arg6 harg6 arg7 harg7 arg9 x1 x2 x3 x4 hx) e d

/-- Head 1's state after the point. -/
theorem s4_1 (hx : IsTri x4) (e d : Fin 128) :
    sout0_A_0 (F := Ideal) c i arg3 harg3 arg4 harg4 arg5 harg5 arg6 harg6 arg7 harg7 arg8 harg8 arg9 harg9 hc0 x0 x1 x2 x3 x4 (ix3 1 e d) = chain x1 x2 x3 (fun _ _ _ => 0) 1 4 e d := by
  unfold sout0_A_0
  rw [View.read_writes_junk_eq_canon, canon_head _ 1 1 rfl (by decide)]
  show View.readCov VS0_0 (⟨_, _⟩ :: sl.HS0_32 (F := Ideal) c arg4 harg4 arg5 harg5 arg6 harg6 arg7 harg7 arg9 x1 x2 x3 x4) _ _ = _
  unfold sl.HS0_32 sl.HS0_31 sl.HS0_30 sl.HS0_29 sl.HS0_28 sl.HS0_27
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 1 128 rfl _)
    (load_rows _ harg4 x1 3 1 128 rfl _) (load_chunk _ harg5 x2 3 1 192 128 rfl rfl _)
    (s3_1 c arg4 harg4 arg5 harg5 arg6 harg6 arg7 harg7 arg9 x1 x2 x3 x4 hx) e d

/-- Head 2's state after the point. -/
theorem s4_2 (hx : IsTri x4) (e d : Fin 128) :
    sout0_A_0 (F := Ideal) c i arg3 harg3 arg4 harg4 arg5 harg5 arg6 harg6 arg7 harg7 arg8 harg8 arg9 harg9 hc0 x0 x1 x2 x3 x4 (ix3 2 e d) = chain x1 x2 x3 (fun _ _ _ => 0) 2 4 e d := by
  unfold sout0_A_0
  rw [View.read_writes_junk_eq_canon, canon_head _ 2 2 rfl (by decide)]
  show View.readCov VS0_0 (⟨_, _⟩ :: sl.HS0_32 (F := Ideal) c arg4 harg4 arg5 harg5 arg6 harg6 arg7 harg7 arg9 x1 x2 x3 x4) _ _ = _
  unfold sl.HS0_32 sl.HS0_31 sl.HS0_30 sl.HS0_29 sl.HS0_28
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 2 256 rfl _)
    (load_rows _ harg4 x1 3 2 256 rfl _) (load_chunk _ harg5 x2 3 2 192 256 rfl rfl _)
    (s3_2 c arg4 harg4 arg5 harg5 arg6 harg6 arg7 harg7 arg9 x1 x2 x3 x4 hx) e d

/-- Head 3's state after the point. -/
theorem s4_3 (hx : IsTri x4) (e d : Fin 128) :
    sout0_A_0 (F := Ideal) c i arg3 harg3 arg4 harg4 arg5 harg5 arg6 harg6 arg7 harg7 arg8 harg8 arg9 harg9 hc0 x0 x1 x2 x3 x4 (ix3 3 e d) = chain x1 x2 x3 (fun _ _ _ => 0) 3 4 e d := by
  unfold sout0_A_0
  rw [View.read_writes_junk_eq_canon, canon_head _ 3 3 rfl (by decide)]
  show View.readCov VS0_0 (⟨_, _⟩ :: sl.HS0_32 (F := Ideal) c arg4 harg4 arg5 harg5 arg6 harg6 arg7 harg7 arg9 x1 x2 x3 x4) _ _ = _
  unfold sl.HS0_32 sl.HS0_31 sl.HS0_30 sl.HS0_29
  rw [View.readCov_skip _ _ _ _ _ (by decide), View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 3 384 rfl _)
    (load_rows _ harg4 x1 3 3 384 rfl _) (load_chunk _ harg5 x2 3 3 192 384 rfl rfl _)
    (s3_3 c arg4 harg4 arg5 harg5 arg6 harg6 arg7 harg7 arg9 x1 x2 x3 x4 hx) e d

/-- Head 4's state after the point. -/
theorem s4_4 (hx : IsTri x4) (e d : Fin 128) :
    sout0_A_0 (F := Ideal) c i arg3 harg3 arg4 harg4 arg5 harg5 arg6 harg6 arg7 harg7 arg8 harg8 arg9 harg9 hc0 x0 x1 x2 x3 x4 (ix3 4 e d) = chain x1 x2 x3 (fun _ _ _ => 0) 4 4 e d := by
  unfold sout0_A_0
  rw [View.read_writes_junk_eq_canon, canon_head _ 4 4 rfl (by decide)]
  show View.readCov VS0_0 (⟨_, _⟩ :: sl.HS0_32 (F := Ideal) c arg4 harg4 arg5 harg5 arg6 harg6 arg7 harg7 arg9 x1 x2 x3 x4) _ _ = _
  unfold sl.HS0_32 sl.HS0_31 sl.HS0_30
  rw [View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 4 512 rfl _)
    (load_rows _ harg4 x1 3 4 512 rfl _) (load_chunk _ harg5 x2 3 4 192 512 rfl rfl _)
    (s3_4 c arg4 harg4 arg5 harg5 arg6 harg6 arg7 harg7 arg9 x1 x2 x3 x4 hx) e d

/-- Head 5's state after the point. -/
theorem s4_5 (hx : IsTri x4) (e d : Fin 128) :
    sout0_A_0 (F := Ideal) c i arg3 harg3 arg4 harg4 arg5 harg5 arg6 harg6 arg7 harg7 arg8 harg8 arg9 harg9 hc0 x0 x1 x2 x3 x4 (ix3 5 e d) = chain x1 x2 x3 (fun _ _ _ => 0) 5 4 e d := by
  unfold sout0_A_0
  rw [View.read_writes_junk_eq_canon, canon_head _ 5 5 rfl (by decide)]
  show View.readCov VS0_0 (⟨_, _⟩ :: sl.HS0_32 (F := Ideal) c arg4 harg4 arg5 harg5 arg6 harg6 arg7 harg7 arg9 x1 x2 x3 x4) _ _ = _
  unfold sl.HS0_32 sl.HS0_31
  rw [View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 5 640 rfl _)
    (load_rows _ harg4 x1 3 5 640 rfl _) (load_chunk _ harg5 x2 3 5 192 640 rfl rfl _)
    (s3_5 c arg4 harg4 arg5 harg5 arg6 harg6 arg7 harg7 arg9 x1 x2 x3 x4 hx) e d

/-- Head 6's state after the point. -/
theorem s4_6 (hx : IsTri x4) (e d : Fin 128) :
    sout0_A_0 (F := Ideal) c i arg3 harg3 arg4 harg4 arg5 harg5 arg6 harg6 arg7 harg7 arg8 harg8 arg9 harg9 hc0 x0 x1 x2 x3 x4 (ix3 6 e d) = chain x1 x2 x3 (fun _ _ _ => 0) 6 4 e d := by
  unfold sout0_A_0
  rw [View.read_writes_junk_eq_canon, canon_head _ 6 6 rfl (by decide)]
  show View.readCov VS0_0 (⟨_, _⟩ :: sl.HS0_32 (F := Ideal) c arg4 harg4 arg5 harg5 arg6 harg6 arg7 harg7 arg9 x1 x2 x3 x4) _ _ = _
  unfold sl.HS0_32
  rw [View.readCov_skip _ _ _ _ _ (by decide), View.readCov_cons_toLoadRect]
  exact stateT_apply (c := 3) 192 rfl slices_S256x128_o192_0_S64x128 (load_tri _ harg7 x4 hx _) (load_lb _ harg6 x3 6 768 rfl _)
    (load_rows _ harg4 x1 3 6 768 rfl _) (load_chunk _ harg5 x2 3 6 192 768 rfl rfl _)
    (s3_6 c arg4 harg4 arg5 harg5 arg6 harg6 arg7 harg7 arg9 x1 x2 x3 x4 hx) e d

/-- Head 7's state after the point. -/
theorem s4_7 (hx : IsTri x4) (e d : Fin 128) :
    sout0_A_0 (F := Ideal) c i arg3 harg3 arg4 harg4 arg5 harg5 arg6 harg6 arg7 harg7 arg8 harg8 arg9 harg9 hc0 x0 x1 x2 x3 x4 (ix3 7 e d) = chain x1 x2 x3 (fun _ _ _ => 0) 7 4 e d := by
  unfold sout0_A_0
  rw [View.read_writes_junk_eq_canon, canon_head _ 7 7 rfl (by decide)]
  show View.readCov VS0_0 (⟨_, _⟩ :: sl.HS0_32 (F := Ideal) c arg4 harg4 arg5 harg5 arg6 harg6 arg7 harg7 arg9 x1 x2 x3 x4) _ _ = _
  rw [View.readCov_cons_toLoadRect]
  exact stateT_apply (c := 3) 192 rfl slices_S256x128_o192_0_S64x128 (load_tri _ harg7 x4 hx _) (load_lb _ harg6 x3 7 896 rfl _)
    (load_rows _ harg4 x1 3 7 896 rfl _) (load_chunk _ harg5 x2 3 7 192 896 rfl rfl _)
    (s3_7 c arg4 harg4 arg5 harg5 arg6 harg6 arg7 harg7 arg9 x1 x2 x3 x4 hx) e d

/-- What the point leaves in the carried state. -/
theorem state_eq (hx : IsTri x4) (h : Fin 8) (e d : Fin 128) :
    sout0_A_0 (F := Ideal) c i arg3 harg3 arg4 harg4 arg5 harg5 arg6 harg6 arg7 harg7 arg8 harg8 arg9 harg9 hc0 x0 x1 x2 x3 x4 (ix3 h e d) = chain x1 x2 x3 (fun _ _ _ => 0) h 4 e d := by
  fin_cases h
  · exact s4_0 c arg3 harg3 arg4 harg4 arg5 harg5 arg6 harg6 arg7 harg7 arg9 harg9 x1 x2 x3 x4 i arg8 harg8 hc0 x0 hx e d
  · exact s4_1 c arg3 harg3 arg4 harg4 arg5 harg5 arg6 harg6 arg7 harg7 arg9 harg9 x1 x2 x3 x4 i arg8 harg8 hc0 x0 hx e d
  · exact s4_2 c arg3 harg3 arg4 harg4 arg5 harg5 arg6 harg6 arg7 harg7 arg9 harg9 x1 x2 x3 x4 i arg8 harg8 hc0 x0 hx e d
  · exact s4_3 c arg3 harg3 arg4 harg4 arg5 harg5 arg6 harg6 arg7 harg7 arg9 harg9 x1 x2 x3 x4 i arg8 harg8 hc0 x0 hx e d
  · exact s4_4 c arg3 harg3 arg4 harg4 arg5 harg5 arg6 harg6 arg7 harg7 arg9 harg9 x1 x2 x3 x4 i arg8 harg8 hc0 x0 hx e d
  · exact s4_5 c arg3 harg3 arg4 harg4 arg5 harg5 arg6 harg6 arg7 harg7 arg9 harg9 x1 x2 x3 x4 i arg8 harg8 hc0 x0 hx e d
  · exact s4_6 c arg3 harg3 arg4 harg4 arg5 harg5 arg6 harg6 arg7 harg7 arg9 harg9 x1 x2 x3 x4 i arg8 harg8 hc0 x0 hx e d
  · exact s4_7 c arg3 harg3 arg4 harg4 arg5 harg5 arg6 harg6 arg7 harg7 arg9 harg9 x1 x2 x3 x4 i arg8 harg8 hc0 x0 hx e d

end Cert.Scan.First

end
-- ==== Proof.ScanLater.lean ====
module

public import proofs.«01_k».proof.Proof.Gen.KernelIdeal.Frame
public import proofs.«01_k».proof.Proof.ScanPoint

/-! A grid point after the first of a batch: what its chunks read as each head's state is `chain`, from the carried state. -/

@[expose] public section

set_option maxRecDepth 16384

noncomputable section

namespace Cert.Scan.Later

open Idealize.ShloMosaic Idealize.ShloMosaic.TcCoe Idealize.SL.Sem
open Cert.KernelIdeal Cert.KernelIdeal.Gen Cert.KernelIdeal.Gen.kernelRun0_B

variable (c : Dev nD) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x1x1024 .f32) (harg6 : arg6.IsWhole) (arg7 : Memref sig .tc .vmem S1x256x256 .f32) (harg7 : arg7.IsWhole) (arg9 : Memref sig .tc .vmem S8x128x128 .f32) (harg9 : arg9.IsWhole)
  (x1 x2 : FVec Ideal S1x256x1024 .f32) (x3 : FVec Ideal S1x1x1024 .f32) (x4 : FVec Ideal S1x256x256 .f32) (xs0 : FVec Ideal S8x128x128 .f32)

/-- Head 1's state before chunk 0. -/
theorem s0_1 (e d : Fin 128) :
    sl.v386 (F := Ideal) c arg9 harg9 xs0 (ix3 (0 : Fin 1) e d : S1x128x128.Idx) = chain x1 x2 x3 (fun h e d => xs0 (ix3 h e d)) 1 0 e d := by
  unfold sl.v386
  exact load_state _ harg9 xs0 1 1 rfl _ e d

/-- Head 2's state before chunk 0. -/
theorem s0_2 (e d : Fin 128) :
    sl.v406 (F := Ideal) c arg9 harg9 xs0 (ix3 (0 : Fin 1) e d : S1x128x128.Idx) = chain x1 x2 x3 (fun h e d => xs0 (ix3 h e d)) 2 0 e d := by
  unfold sl.v406
  exact load_state _ harg9 xs0 2 2 rfl _ e d

/-- Head 3's state before chunk 0. -/
theorem s0_3 (e d : Fin 128) :
    sl.v426 (F := Ideal) c arg9 harg9 xs0 (ix3 (0 : Fin 1) e d : S1x128x128.Idx) = chain x1 x2 x3 (fun h e d => xs0 (ix3 h e d)) 3 0 e d := by
  unfold sl.v426
  exact load_state _ harg9 xs0 3 3 rfl _ e d

/-- Head 4's state before chunk 0. -/
theorem s0_4 (e d : Fin 128) :
    sl.v446 (F := Ideal) c arg9 harg9 xs0 (ix3 (0 : Fin 1) e d : S1x128x128.Idx) = chain x1 x2 x3 (fun h e d => xs0 (ix3 h e d)) 4 0 e d := by
  unfold sl.v446
  exact load_state _ harg9 xs0 4 4 rfl _ e d

/-- Head 5's state before chunk 0. -/
theorem s0_5 (e d : Fin 128) :
    sl.v466 (F := Ideal) c arg9 harg9 xs0 (ix3 (0 : Fin 1) e d : S1x128x128.Idx) = chain x1 x2 x3 (fun h e d => xs0 (ix3 h e d)) 5 0 e d := by
  unfold sl.v466
  exact load_state _ harg9 xs0 5 5 rfl _ e d

/-- Head 6's state before chunk 0. -/
theorem s0_6 (e d : Fin 128) :
    sl.v486 (F := Ideal) c arg9 harg9 xs0 (ix3 (0 : Fin 1) e d : S1x128x128.Idx) = chain x1 x2 x3 (fun h e d => xs0 (ix3 h e d)) 6 0 e d := by
  unfold sl.v486
  exact load_state _ harg9 xs0 6 6 rfl _ e d

/-- Head 7's state before chunk 0. -/
theorem s0_7 (e d : Fin 128) :
    sl.v506 (F := Ideal) c arg9 harg9 xs0 (ix3 (0 : Fin 1) e d : S1x128x128.Idx) = chain x1 x2 x3 (fun h e d => xs0 (ix3 h e d)) 7 0 e d := by
  unfold sl.v506
  exact load_state _ harg9 xs0 7 7 rfl _ e d

/-- Head 0's state before chunk 1. -/
theorem s1_0 (hx : IsTri x4) (e d : Fin 128) :
    sl.v750 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 0 1 e d := by
  unfold sl.v750 sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 0 0 rfl _)
    (load_rows _ harg4 x1 0 0 0 rfl _) (load_chunk _ harg5 x2 0 0 0 0 rfl rfl _)
    (load_state _ harg9 xs0 0 0 rfl _) e d

/-- Head 1's state before chunk 1. -/
theorem s1_1 (hx : IsTri x4) (e d : Fin 128) :
    sl.v770 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 1 1 e d := by
  unfold sl.v770 sl.HS0_9 sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 1 128 rfl _)
    (load_rows _ harg4 x1 0 1 128 rfl _) (load_chunk _ harg5 x2 0 1 0 128 rfl rfl _)
    (s0_1 c arg9 harg9 x1 x2 x3 xs0) e d

/-- Head 2's state before chunk 1. -/
theorem s1_2 (hx : IsTri x4) (e d : Fin 128) :
    sl.v790 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 2 1 e d := by
  unfold sl.v790 sl.HS0_10 sl.HS0_9 sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 2 256 rfl _)
    (load_rows _ harg4 x1 0 2 256 rfl _) (load_chunk _ harg5 x2 0 2 0 256 rfl rfl _)
    (s0_2 c arg9 harg9 x1 x2 x3 xs0) e d

/-- Head 3's state before chunk 1. -/
theorem s1_3 (hx : IsTri x4) (e d : Fin 128) :
    sl.v810 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 3 1 e d := by
  unfold sl.v810 sl.HS0_11 sl.HS0_10 sl.HS0_9 sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 3 384 rfl _)
    (load_rows _ harg4 x1 0 3 384 rfl _) (load_chunk _ harg5 x2 0 3 0 384 rfl rfl _)
    (s0_3 c arg9 harg9 x1 x2 x3 xs0) e d

/-- Head 4's state before chunk 1. -/
theorem s1_4 (hx : IsTri x4) (e d : Fin 128) :
    sl.v830 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 4 1 e d := by
  unfold sl.v830 sl.HS0_12 sl.HS0_11 sl.HS0_10 sl.HS0_9 sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 4 512 rfl _)
    (load_rows _ harg4 x1 0 4 512 rfl _) (load_chunk _ harg5 x2 0 4 0 512 rfl rfl _)
    (s0_4 c arg9 harg9 x1 x2 x3 xs0) e d

/-- Head 5's state before chunk 1. -/
theorem s1_5 (hx : IsTri x4) (e d : Fin 128) :
    sl.v850 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 5 1 e d := by
  unfold sl.v850 sl.HS0_13 sl.HS0_12 sl.HS0_11 sl.HS0_10 sl.HS0_9 sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 5 640 rfl _)
    (load_rows _ harg4 x1 0 5 640 rfl _) (load_chunk _ harg5 x2 0 5 0 640 rfl rfl _)
    (s0_5 c arg9 harg9 x1 x2 x3 xs0) e d

/-- Head 6's state before chunk 1. -/
theorem s1_6 (hx : IsTri x4) (e d : Fin 128) :
    sl.v870 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 6 1 e d := by
  unfold sl.v870 sl.HS0_14 sl.HS0_13 sl.HS0_12 sl.HS0_11 sl.HS0_10 sl.HS0_9 sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 6 768 rfl _)
    (load_rows _ harg4 x1 0 6 768 rfl _) (load_chunk _ harg5 x2 0 6 0 768 rfl rfl _)
    (s0_6 c arg9 harg9 x1 x2 x3 xs0) e d

/-- Head 7's state before chunk 1. -/
theorem s1_7 (hx : IsTri x4) (e d : Fin 128) :
    sl.v890 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 7 1 e d := by
  unfold sl.v890 sl.HS0_15 sl.HS0_14 sl.HS0_13 sl.HS0_12 sl.HS0_11 sl.HS0_10 sl.HS0_9 sl.HS0_8
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 0) 0 rfl slices_S256x128_o0_0_S64x128 (load_tri _ harg7 x4 hx _) (load_lb _ harg6 x3 7 896 rfl _)
    (load_rows _ harg4 x1 0 7 896 rfl _) (load_chunk _ harg5 x2 0 7 0 896 rfl rfl _)
    (s0_7 c arg9 harg9 x1 x2 x3 xs0) e d

/-- Head 0's state before chunk 2. -/
theorem s2_0 (hx : IsTri x4) (e d : Fin 128) :
    sl.v1134 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 0 2 e d := by
  unfold sl.v1134 sl.HS0_16 sl.HS0_15 sl.HS0_14 sl.HS0_13 sl.HS0_12 sl.HS0_11 sl.HS0_10 sl.HS0_9
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 0 0 rfl _)
    (load_rows _ harg4 x1 1 0 0 rfl _) (load_chunk _ harg5 x2 1 0 64 0 rfl rfl _)
    (s1_0 c arg4 harg4 arg5 harg5 arg6 harg6 arg7 harg7 arg9 harg9 x1 x2 x3 x4 xs0 hx) e d

/-- Head 1's state before chunk 2. -/
theorem s2_1 (hx : IsTri x4) (e d : Fin 128) :
    sl.v1154 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 1 2 e d := by
  unfold sl.v1154 sl.HS0_17 sl.HS0_16 sl.HS0_15 sl.HS0_14 sl.HS0_13 sl.HS0_12 sl.HS0_11 sl.HS0_10
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 1 128 rfl _)
    (load_rows _ harg4 x1 1 1 128 rfl _) (load_chunk _ harg5 x2 1 1 64 128 rfl rfl _)
    (s1_1 c arg4 harg4 arg5 harg5 arg6 harg6 arg7 harg7 arg9 harg9 x1 x2 x3 x4 xs0 hx) e d

/-- Head 2's state before chunk 2. -/
theorem s2_2 (hx : IsTri x4) (e d : Fin 128) :
    sl.v1174 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 2 2 e d := by
  unfold sl.v1174 sl.HS0_18 sl.HS0_17 sl.HS0_16 sl.HS0_15 sl.HS0_14 sl.HS0_13 sl.HS0_12 sl.HS0_11
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 2 256 rfl _)
    (load_rows _ harg4 x1 1 2 256 rfl _) (load_chunk _ harg5 x2 1 2 64 256 rfl rfl _)
    (s1_2 c arg4 harg4 arg5 harg5 arg6 harg6 arg7 harg7 arg9 harg9 x1 x2 x3 x4 xs0 hx) e d

/-- Head 3's state before chunk 2. -/
theorem s2_3 (hx : IsTri x4) (e d : Fin 128) :
    sl.v1194 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 3 2 e d := by
  unfold sl.v1194 sl.HS0_19 sl.HS0_18 sl.HS0_17 sl.HS0_16 sl.HS0_15 sl.HS0_14 sl.HS0_13 sl.HS0_12
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 3 384 rfl _)
    (load_rows _ harg4 x1 1 3 384 rfl _) (load_chunk _ harg5 x2 1 3 64 384 rfl rfl _)
    (s1_3 c arg4 harg4 arg5 harg5 arg6 harg6 arg7 harg7 arg9 harg9 x1 x2 x3 x4 xs0 hx) e d

/-- Head 4's state before chunk 2. -/
theorem s2_4 (hx : IsTri x4) (e d : Fin 128) :
    sl.v1214 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 4 2 e d := by
  unfold sl.v1214 sl.HS0_20 sl.HS0_19 sl.HS0_18 sl.HS0_17 sl.HS0_16 sl.HS0_15 sl.HS0_14 sl.HS0_13
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 4 512 rfl _)
    (load_rows _ harg4 x1 1 4 512 rfl _) (load_chunk _ harg5 x2 1 4 64 512 rfl rfl _)
    (s1_4 c arg4 harg4 arg5 harg5 arg6 harg6 arg7 harg7 arg9 harg9 x1 x2 x3 x4 xs0 hx) e d

/-- Head 5's state before chunk 2. -/
theorem s2_5 (hx : IsTri x4) (e d : Fin 128) :
    sl.v1234 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 5 2 e d := by
  unfold sl.v1234 sl.HS0_21 sl.HS0_20 sl.HS0_19 sl.HS0_18 sl.HS0_17 sl.HS0_16 sl.HS0_15 sl.HS0_14
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 5 640 rfl _)
    (load_rows _ harg4 x1 1 5 640 rfl _) (load_chunk _ harg5 x2 1 5 64 640 rfl rfl _)
    (s1_5 c arg4 harg4 arg5 harg5 arg6 harg6 arg7 harg7 arg9 harg9 x1 x2 x3 x4 xs0 hx) e d

/-- Head 6's state before chunk 2. -/
theorem s2_6 (hx : IsTri x4) (e d : Fin 128) :
    sl.v1254 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 6 2 e d := by
  unfold sl.v1254 sl.HS0_22 sl.HS0_21 sl.HS0_20 sl.HS0_19 sl.HS0_18 sl.HS0_17 sl.HS0_16 sl.HS0_15
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 6 768 rfl _)
    (load_rows _ harg4 x1 1 6 768 rfl _) (load_chunk _ harg5 x2 1 6 64 768 rfl rfl _)
    (s1_6 c arg4 harg4 arg5 harg5 arg6 harg6 arg7 harg7 arg9 harg9 x1 x2 x3 x4 xs0 hx) e d

/-- Head 7's state before chunk 2. -/
theorem s2_7 (hx : IsTri x4) (e d : Fin 128) :
    sl.v1274 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 7 2 e d := by
  unfold sl.v1274 sl.HS0_23 sl.HS0_22 sl.HS0_21 sl.HS0_20 sl.HS0_19 sl.HS0_18 sl.HS0_17 sl.HS0_16
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 1) 64 rfl slices_S256x128_o64_0_S64x128 (load_tri _ harg7 x4 hx _) (load_lb _ harg6 x3 7 896 rfl _)
    (load_rows _ harg4 x1 1 7 896 rfl _) (load_chunk _ harg5 x2 1 7 64 896 rfl rfl _)
    (s1_7 c arg4 harg4 arg5 harg5 arg6 harg6 arg7 harg7 arg9 harg9 x1 x2 x3 x4 xs0 hx) e d

/-- Head 0's state before chunk 3. -/
theorem s3_0 (hx : IsTri x4) (e d : Fin 128) :
    sl.v1518 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 0 3 e d := by
  unfold sl.v1518 sl.HS0_24 sl.HS0_23 sl.HS0_22 sl.HS0_21 sl.HS0_20 sl.HS0_19 sl.HS0_18 sl.HS0_17
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 0 0 rfl _)
    (load_rows _ harg4 x1 2 0 0 rfl _) (load_chunk _ harg5 x2 2 0 128 0 rfl rfl _)
    (s2_0 c arg4 harg4 arg5 harg5 arg6 harg6 arg7 harg7 arg9 harg9 x1 x2 x3 x4 xs0 hx) e d

/-- Head 1's state before chunk 3. -/
theorem s3_1 (hx : IsTri x4) (e d : Fin 128) :
    sl.v1538 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 1 3 e d := by
  unfold sl.v1538 sl.HS0_25 sl.HS0_24 sl.HS0_23 sl.HS0_22 sl.HS0_21 sl.HS0_20 sl.HS0_19 sl.HS0_18
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 1 128 rfl _)
    (load_rows _ harg4 x1 2 1 128 rfl _) (load_chunk _ harg5 x2 2 1 128 128 rfl rfl _)
    (s2_1 c arg4 harg4 arg5 harg5 arg6 harg6 arg7 harg7 arg9 harg9 x1 x2 x3 x4 xs0 hx) e d

/-- Head 2's state before chunk 3. -/
theorem s3_2 (hx : IsTri x4) (e d : Fin 128) :
    sl.v1558 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 2 3 e d := by
  unfold sl.v1558 sl.HS0_26 sl.HS0_25 sl.HS0_24 sl.HS0_23 sl.HS0_22 sl.HS0_21 sl.HS0_20 sl.HS0_19
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 2 256 rfl _)
    (load_rows _ harg4 x1 2 2 256 rfl _) (load_chunk _ harg5 x2 2 2 128 256 rfl rfl _)
    (s2_2 c arg4 harg4 arg5 harg5 arg6 harg6 arg7 harg7 arg9 harg9 x1 x2 x3 x4 xs0 hx) e d

/-- Head 3's state before chunk 3. -/
theorem s3_3 (hx : IsTri x4) (e d : Fin 128) :
    sl.v1578 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 3 3 e d := by
  unfold sl.v1578 sl.HS0_27 sl.HS0_26 sl.HS0_25 sl.HS0_24 sl.HS0_23 sl.HS0_22 sl.HS0_21 sl.HS0_20
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 3 384 rfl _)
    (load_rows _ harg4 x1 2 3 384 rfl _) (load_chunk _ harg5 x2 2 3 128 384 rfl rfl _)
    (s2_3 c arg4 harg4 arg5 harg5 arg6 harg6 arg7 harg7 arg9 harg9 x1 x2 x3 x4 xs0 hx) e d

/-- Head 4's state before chunk 3. -/
theorem s3_4 (hx : IsTri x4) (e d : Fin 128) :
    sl.v1598 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 4 3 e d := by
  unfold sl.v1598 sl.HS0_28 sl.HS0_27 sl.HS0_26 sl.HS0_25 sl.HS0_24 sl.HS0_23 sl.HS0_22 sl.HS0_21
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 4 512 rfl _)
    (load_rows _ harg4 x1 2 4 512 rfl _) (load_chunk _ harg5 x2 2 4 128 512 rfl rfl _)
    (s2_4 c arg4 harg4 arg5 harg5 arg6 harg6 arg7 harg7 arg9 harg9 x1 x2 x3 x4 xs0 hx) e d

/-- Head 5's state before chunk 3. -/
theorem s3_5 (hx : IsTri x4) (e d : Fin 128) :
    sl.v1618 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 5 3 e d := by
  unfold sl.v1618 sl.HS0_29 sl.HS0_28 sl.HS0_27 sl.HS0_26 sl.HS0_25 sl.HS0_24 sl.HS0_23 sl.HS0_22
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 5 640 rfl _)
    (load_rows _ harg4 x1 2 5 640 rfl _) (load_chunk _ harg5 x2 2 5 128 640 rfl rfl _)
    (s2_5 c arg4 harg4 arg5 harg5 arg6 harg6 arg7 harg7 arg9 harg9 x1 x2 x3 x4 xs0 hx) e d

/-- Head 6's state before chunk 3. -/
theorem s3_6 (hx : IsTri x4) (e d : Fin 128) :
    sl.v1638 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 6 3 e d := by
  unfold sl.v1638 sl.HS0_30 sl.HS0_29 sl.HS0_28 sl.HS0_27 sl.HS0_26 sl.HS0_25 sl.HS0_24 sl.HS0_23
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 6 768 rfl _)
    (load_rows _ harg4 x1 2 6 768 rfl _) (load_chunk _ harg5 x2 2 6 128 768 rfl rfl _)
    (s2_6 c arg4 harg4 arg5 harg5 arg6 harg6 arg7 harg7 arg9 harg9 x1 x2 x3 x4 xs0 hx) e d

/-- Head 7's state before chunk 3. -/
theorem s3_7 (hx : IsTri x4) (e d : Fin 128) :
    sl.v1658 (F := Ideal) c arg4 harg4 arg5 harg5 arg6 harg6 arg7 harg7 arg9 harg9 x1 x2 x3 x4 xs0 (ix3 (0 : Fin 1) e d : S1x128x128.Idx) = chain x1 x2 x3 (fun h e d => xs0 (ix3 h e d)) 7 3 e d := by
  unfold sl.v1658 sl.HS0_31 sl.HS0_30 sl.HS0_29 sl.HS0_28 sl.HS0_27 sl.HS0_26 sl.HS0_25 sl.HS0_24
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 2) 128 rfl slices_S256x128_o128_0_S64x128 (load_tri _ harg7 x4 hx _) (load_lb _ harg6 x3 7 896 rfl _)
    (load_rows _ harg4 x1 2 7 896 rfl _) (load_chunk _ harg5 x2 2 7 128 896 rfl rfl _)
    (s2_7 c arg4 harg4 arg5 harg5 arg6 harg6 arg7 harg7 arg9 harg9 x1 x2 x3 x4 xs0 hx) e d

variable (i : grid0.Coords) (arg8 : Memref sig .tc .vmem S1x256x1024 .f32) (harg8 : arg8.IsWhole) (hc0 : ¬cond0_0 i) (x0 : FVec Ideal S1x256x1024 .f32)

/-- The store of head 0's chunk 0 is a block of the point's outputs. -/
theorem p0_0 (hx : IsTri x4) (x : S1x64x128.Idx) : k0_pay121 (F := Ideal) (sl.r_31 (F := Ideal) c arg3 harg3 arg4 harg4 arg6 harg6 arg7 harg7 x0 x1 x3 x4) (sl.r_32 (F := Ideal) c arg3 harg3 arg4 harg4 arg6 harg6 arg7 harg7 x0 x1 x3 x4) (sl.r_35 (F := Ideal) c arg5 harg5 x2) (View.readAt (Elt Ideal) arg9.view (Rect.unit (s := S8x128x128) ![0, 0, 0] S1x128x128.size (by decide)).toLoadRect (harg9.unread xs0)) x
    = pointOut x0 x1 x2 x3 (fun h e d => xs0 (ix3 h e d)) ((Rect.unit (s := S1x256x1024) ![0, 0, 0] S1x64x128.size (by decide)).emb x) :=
  piece_out 0 0 0 0 rfl rfl _ _ (outT_apply (c := 0) 0 rfl slices_S256x128_o0_0_S64x128 (load_tri _ harg7 x4 hx _) (load_lb _ harg6 x3 0 0 rfl _)
    (load_rows _ harg4 x1 0 0 0 rfl _) (load_rows _ harg3 x0 0 0 0 rfl _) (load_chunk _ harg5 x2 0 0 0 0 rfl rfl _)
    (load_state _ harg9 xs0 0 0 rfl _)) x

/-- The store of head 1's chunk 0 is a block of the point's outputs. -/
theorem p0_1 (hx : IsTri x4) (x : S1x64x128.Idx) : k0_pay124 (F := Ideal) (sl.r_39 (F := Ideal) c arg3 harg3 arg4 harg4 arg6 harg6 arg7 harg7 x0 x1 x3 x4) (sl.r_40 (F := Ideal) c arg3 harg3 arg4 harg4 arg6 harg6 arg7 harg7 x0 x1 x3 x4) (sl.r_43 (F := Ideal) c arg5 harg5 x2) (sl.v386 (F := Ideal) c arg9 harg9 xs0) x
    = pointOut x0 x1 x2 x3 (fun h e d => xs0 (ix3 h e d)) ((Rect.unit (s := S1x256x1024) ![0, 0, 128] S1x64x128.size (by decide)).emb x) :=
  piece_out 0 1 0 128 rfl rfl _ _ (outT_apply (c := 0) 0 rfl slices_S256x128_o0_0_S64x128 (load_tri _ harg7 x4 hx _) (load_lb _ harg6 x3 1 128 rfl _)
    (load_rows _ harg4 x1 0 1 128 rfl _) (load_rows _ harg3 x0 0 1 128 rfl _) (load_chunk _ harg5 x2 0 1 0 128 rfl rfl _)
    (s0_1 c arg9 harg9 x1 x2 x3 xs0)) x

/-- The store of head 2's chunk 0 is a block of the point's outputs. -/
theorem p0_2 (hx : IsTri x4) (x : S1x64x128.Idx) : k0_pay128 (F := Ideal) (sl.r_91 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 0, 256] S1x64x128.size (by decide)).emb x) :=
  piece_out 0 2 0 256 rfl rfl _ _ (outT_apply (c := 0) 0 rfl slices_S256x128_o0_0_S64x128 (load_tri _ harg7 x4 hx _) (load_lb _ harg6 x3 2 256 rfl _)
    (load_rows _ harg4 x1 0 2 256 rfl _) (load_rows _ harg3 x0 0 2 256 rfl _) (load_chunk _ harg5 x2 0 2 0 256 rfl rfl _)
    (s0_2 c arg9 harg9 x1 x2 x3 xs0)) x

/-- The store of head 3's chunk 0 is a block of the point's outputs. -/
theorem p0_3 (hx : IsTri x4) (x : S1x64x128.Idx) : k0_pay131 (F := Ideal) (sl.r_54 (F := Ideal) c arg3 harg3 arg4 harg4 arg6 harg6 arg7 harg7 x0 x1 x3 x4) (sl.r_55 (F := Ideal) c arg3 harg3 arg4 harg4 arg6 harg6 arg7 harg7 x0 x1 x3 x4) (sl.r_58 (F := Ideal) c arg5 harg5 x2) (sl.v426 (F := Ideal) c arg9 harg9 xs0) x
    = pointOut x0 x1 x2 x3 (fun h e d => xs0 (ix3 h e d)) ((Rect.unit (s := S1x256x1024) ![0, 0, 384] S1x64x128.size (by decide)).emb x) :=
  piece_out 0 3 0 384 rfl rfl _ _ (outT_apply (c := 0) 0 rfl slices_S256x128_o0_0_S64x128 (load_tri _ harg7 x4 hx _) (load_lb _ harg6 x3 3 384 rfl _)
    (load_rows _ harg4 x1 0 3 384 rfl _) (load_rows _ harg3 x0 0 3 384 rfl _) (load_chunk _ harg5 x2 0 3 0 384 rfl rfl _)
    (s0_3 c arg9 harg9 x1 x2 x3 xs0)) x

/-- The store of head 4's chunk 0 is a block of the point's outputs. -/
theorem p0_4 (hx : IsTri x4) (x : S1x64x128.Idx) : k0_pay136 (F := Ideal) (sl.r_92 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 0, 512] S1x64x128.size (by decide)).emb x) :=
  piece_out 0 4 0 512 rfl rfl _ _ (outT_apply (c := 0) 0 rfl slices_S256x128_o0_0_S64x128 (load_tri _ harg7 x4 hx _) (load_lb _ harg6 x3 4 512 rfl _)
    (load_rows _ harg4 x1 0 4 512 rfl _) (load_rows _ harg3 x0 0 4 512 rfl _) (load_chunk _ harg5 x2 0 4 0 512 rfl rfl _)
    (s0_4 c arg9 harg9 x1 x2 x3 xs0)) x

/-- The store of head 5's chunk 0 is a block of the point's outputs. -/
theorem p0_5 (hx : IsTri x4) (x : S1x64x128.Idx) : k0_pay139 (F := Ideal) (sl.r_70 (F := Ideal) c arg3 harg3 arg4 harg4 arg6 harg6 arg7 harg7 x0 x1 x3 x4) (sl.r_71 (F := Ideal) c arg3 harg3 arg4 harg4 arg6 harg6 arg7 harg7 x0 x1 x3 x4) (sl.r_74 (F := Ideal) c arg5 harg5 x2) (sl.v466 (F := Ideal) c arg9 harg9 xs0) x
    = pointOut x0 x1 x2 x3 (fun h e d => xs0 (ix3 h e d)) ((Rect.unit (s := S1x256x1024) ![0, 0, 640] S1x64x128.size (by decide)).emb x) :=
  piece_out 0 5 0 640 rfl rfl _ _ (outT_apply (c := 0) 0 rfl slices_S256x128_o0_0_S64x128 (load_tri _ harg7 x4 hx _) (load_lb _ harg6 x3 5 640 rfl _)
    (load_rows _ harg4 x1 0 5 640 rfl _) (load_rows _ harg3 x0 0 5 640 rfl _) (load_chunk _ harg5 x2 0 5 0 640 rfl rfl _)
    (s0_5 c arg9 harg9 x1 x2 x3 xs0)) x

/-- The store of head 6's chunk 0 is a block of the point's outputs. -/
theorem p0_6 (hx : IsTri x4) (x : S1x64x128.Idx) : k0_pay143 (F := Ideal) (sl.r_95 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 0, 768] S1x64x128.size (by decide)).emb x) :=
  piece_out 0 6 0 768 rfl rfl _ _ (outT_apply (c := 0) 0 rfl slices_S256x128_o0_0_S64x128 (load_tri _ harg7 x4 hx _) (load_lb _ harg6 x3 6 768 rfl _)
    (load_rows _ harg4 x1 0 6 768 rfl _) (load_rows _ harg3 x0 0 6 768 rfl _) (load_chunk _ harg5 x2 0 6 0 768 rfl rfl _)
    (s0_6 c arg9 harg9 x1 x2 x3 xs0)) x

/-- The store of head 7's chunk 0 is a block of the point's outputs. -/
theorem p0_7 (hx : IsTri x4) (x : S1x64x128.Idx) : k0_pay146 (F := Ideal) (sl.r_86 (F := Ideal) c arg3 harg3 arg4 harg4 arg6 harg6 arg7 harg7 x0 x1 x3 x4) (sl.r_87 (F := Ideal) c arg3 harg3 arg4 harg4 arg6 harg6 arg7 harg7 x0 x1 x3 x4) (sl.r_90 (F := Ideal) c arg5 harg5 x2) (sl.v506 (F := Ideal) c arg9 harg9 xs0) x
    = pointOut x0 x1 x2 x3 (fun h e d => xs0 (ix3 h e d)) ((Rect.unit (s := S1x256x1024) ![0, 0, 896] S1x64x128.size (by decide)).emb x) :=
  piece_out 0 7 0 896 rfl rfl _ _ (outT_apply (c := 0) 0 rfl slices_S256x128_o0_0_S64x128 (load_tri _ harg7 x4 hx _) (load_lb _ harg6 x3 7 896 rfl _)
    (load_rows _ harg4 x1 0 7 896 rfl _) (load_rows _ harg3 x0 0 7 896 rfl _) (load_chunk _ harg5 x2 0 7 0 896 rfl rfl _)
    (s0_7 c arg9 harg9 x1 x2 x3 xs0)) x

/-- The store of head 0's chunk 1 is a block of the point's outputs. -/
theorem p1_0 (hx : IsTri x4) (x : S1x64x128.Idx) : k0_pay223 (F := Ideal) (sl.r_101 (F := Ideal) c arg3 harg3 arg4 harg4 arg6 harg6 arg7 harg7 x0 x1 x3 x4) (sl.r_102 (F := Ideal) c arg3 harg3 arg4 harg4 arg6 harg6 arg7 harg7 x0 x1 x3 x4) (sl.r_105 (F := Ideal) c arg5 harg5 x2) (sl.v750 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 64, 0] S1x64x128.size (by decide)).emb x) :=
  piece_out 1 0 64 0 rfl rfl _ _ (outT_apply (c := 1) 64 rfl slices_S256x128_o64_0_S64x128 (load_tri _ harg7 x4 hx _) (load_lb _ harg6 x3 0 0 rfl _)
    (load_rows _ harg4 x1 1 0 0 rfl _) (load_rows _ harg3 x0 1 0 0 rfl _) (load_chunk _ harg5 x2 1 0 64 0 rfl rfl _)
    (s1_0 c arg4 harg4 arg5 harg5 arg6 harg6 arg7 harg7 arg9 harg9 x1 x2 x3 x4 xs0 hx)) x

/-- The store of head 1's chunk 1 is a block of the point's outputs. -/
theorem p1_1 (hx : IsTri x4) (x : S1x64x128.Idx) : k0_pay228 (F := Ideal) (sl.r_147 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 64, 128] S1x64x128.size (by decide)).emb x) :=
  piece_out 1 1 64 128 rfl rfl _ _ (outT_apply (c := 1) 64 rfl slices_S256x128_o64_0_S64x128 (load_tri _ harg7 x4 hx _) (load_lb _ harg6 x3 1 128 rfl _)
    (load_rows _ harg4 x1 1 1 128 rfl _) (load_rows _ harg3 x0 1 1 128 rfl _) (load_chunk _ harg5 x2 1 1 64 128 rfl rfl _)
    (s1_1 c arg4 harg4 arg5 harg5 arg6 harg6 arg7 harg7 arg9 harg9 x1 x2 x3 x4 xs0 hx)) x

/-- The store of head 2's chunk 1 is a block of the point's outputs. -/
theorem p1_2 (hx : IsTri x4) (x : S1x64x128.Idx) : k0_pay231 (F := Ideal) (sl.r_112 (F := Ideal) c arg3 harg3 arg4 harg4 arg6 harg6 arg7 harg7 x0 x1 x3 x4) (sl.r_113 (F := Ideal) c arg3 harg3 arg4 harg4 arg6 harg6 arg7 harg7 x0 x1 x3 x4) (sl.r_116 (F := Ideal) c arg5 harg5 x2) (sl.v790 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 64, 256] S1x64x128.size (by decide)).emb x) :=
  piece_out 1 2 64 256 rfl rfl _ _ (outT_apply (c := 1) 64 rfl slices_S256x128_o64_0_S64x128 (load_tri _ harg7 x4 hx _) (load_lb _ harg6 x3 2 256 rfl _)
    (load_rows _ harg4 x1 1 2 256 rfl _) (load_rows _ harg3 x0 1 2 256 rfl _) (load_chunk _ harg5 x2 1 2 64 256 rfl rfl _)
    (s1_2 c arg4 harg4 arg5 harg5 arg6 harg6 arg7 harg7 arg9 harg9 x1 x2 x3 x4 xs0 hx)) x

/-- The store of head 3's chunk 1 is a block of the point's outputs. -/
theorem p1_3 (hx : IsTri x4) (x : S1x64x128.Idx) : k0_pay236 (F := Ideal) (sl.r_118 (F := Ideal) c arg3 harg3 arg4 harg4 arg6 harg6 arg7 harg7 x0 x1 x3 x4) (sl.r_149 (F := Ideal) c arg4 harg4 arg5 harg5 arg6 harg6 arg7 harg7 arg9 harg9 x1 x2 x3 x4 xs0) (sl.r_150 (F := Ideal) c arg5 harg5 x2) (sl.r_151 (F := Ideal) c arg3 harg3 arg4 harg4 arg6 harg6 arg7 harg7 x0 x1 x3 x4) x
    = pointOut x0 x1 x2 x3 (fun h e d => xs0 (ix3 h e d)) ((Rect.unit (s := S1x256x1024) ![0, 64, 384] S1x64x128.size (by decide)).emb x) :=
  piece_out 1 3 64 384 rfl rfl _ _ (outT_apply (c := 1) 64 rfl slices_S256x128_o64_0_S64x128 (load_tri _ harg7 x4 hx _) (load_lb _ harg6 x3 3 384 rfl _)
    (load_rows _ harg4 x1 1 3 384 rfl _) (load_rows _ harg3 x0 1 3 384 rfl _) (load_chunk _ harg5 x2 1 3 64 384 rfl rfl _)
    (s1_3 c arg4 harg4 arg5 harg5 arg6 harg6 arg7 harg7 arg9 harg9 x1 x2 x3 x4 xs0 hx)) x

/-- The store of head 4's chunk 1 is a block of the point's outputs. -/
theorem p1_4 (hx : IsTri x4) (x : S1x64x128.Idx) : sl.r_152 (F := Ideal) c arg3 harg3 arg4 harg4 arg5 harg5 arg6 harg6 arg7 harg7 arg9 harg9 x0 x1 x2 x3 x4 xs0 x
    = pointOut x0 x1 x2 x3 (fun h e d => xs0 (ix3 h e d)) ((Rect.unit (s := S1x256x1024) ![0, 64, 512] S1x64x128.size (by decide)).emb x) :=
  piece_out 1 4 64 512 rfl rfl _ _ (outT_apply (c := 1) 64 rfl slices_S256x128_o64_0_S64x128 (load_tri _ harg7 x4 hx _) (load_lb _ harg6 x3 4 512 rfl _)
    (load_rows _ harg4 x1 1 4 512 rfl _) (load_rows _ harg3 x0 1 4 512 rfl _) (load_chunk _ harg5 x2 1 4 64 512 rfl rfl _)
    (s1_4 c arg4 harg4 arg5 harg5 arg6 harg6 arg7 harg7 arg9 harg9 x1 x2 x3 x4 xs0 hx)) x

/-- The store of head 5's chunk 1 is a block of the point's outputs. -/
theorem p1_5 (hx : IsTri x4) (x : S1x64x128.Idx) : k0_pay242 (F := Ideal) (sl.r_128 (F := Ideal) c arg3 harg3 arg4 harg4 arg6 harg6 arg7 harg7 x0 x1 x3 x4) (sl.r_129 (F := Ideal) c arg3 harg3 arg4 harg4 arg6 harg6 arg7 harg7 x0 x1 x3 x4) (sl.r_133 (F := Ideal) c arg5 harg5 x2) (sl.v850 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 64, 640] S1x64x128.size (by decide)).emb x) :=
  piece_out 1 5 64 640 rfl rfl _ _ (outT_apply (c := 1) 64 rfl slices_S256x128_o64_0_S64x128 (load_tri _ harg7 x4 hx _) (load_lb _ harg6 x3 5 640 rfl _)
    (load_rows _ harg4 x1 1 5 640 rfl _) (load_rows _ harg3 x0 1 5 640 rfl _) (load_chunk _ harg5 x2 1 5 64 640 rfl rfl _)
    (s1_5 c arg4 harg4 arg5 harg5 arg6 harg6 arg7 harg7 arg9 harg9 x1 x2 x3 x4 xs0 hx)) x

/-- The store of head 6's chunk 1 is a block of the point's outputs. -/
theorem p1_6 (hx : IsTri x4) (x : S1x64x128.Idx) : k0_pay247 (F := Ideal) (sl.r_153 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 64, 768] S1x64x128.size (by decide)).emb x) :=
  piece_out 1 6 64 768 rfl rfl _ _ (outT_apply (c := 1) 64 rfl slices_S256x128_o64_0_S64x128 (load_tri _ harg7 x4 hx _) (load_lb _ harg6 x3 6 768 rfl _)
    (load_rows _ harg4 x1 1 6 768 rfl _) (load_rows _ harg3 x0 1 6 768 rfl _) (load_chunk _ harg5 x2 1 6 64 768 rfl rfl _)
    (s1_6 c arg4 harg4 arg5 harg5 arg6 harg6 arg7 harg7 arg9 harg9 x1 x2 x3 x4 xs0 hx)) x

/-- The store of head 7's chunk 1 is a block of the point's outputs. -/
theorem p1_7 (hx : IsTri x4) (x : S1x64x128.Idx) : k0_pay250 (F := Ideal) (sl.r_142 (F := Ideal) c arg3 harg3 arg4 harg4 arg6 harg6 arg7 harg7 x0 x1 x3 x4) (sl.r_143 (F := Ideal) c arg3 harg3 arg4 harg4 arg6 harg6 arg7 harg7 x0 x1 x3 x4) (sl.r_146 (F := Ideal) c arg5 harg5 x2) (sl.v890 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 64, 896] S1x64x128.size (by decide)).emb x) :=
  piece_out 1 7 64 896 rfl rfl _ _ (outT_apply (c := 1) 64 rfl slices_S256x128_o64_0_S64x128 (load_tri _ harg7 x4 hx _) (load_lb _ harg6 x3 7 896 rfl _)
    (load_rows _ harg4 x1 1 7 896 rfl _) (load_rows _ harg3 x0 1 7 896 rfl _) (load_chunk _ harg5 x2 1 7 64 896 rfl rfl _)
    (s1_7 c arg4 harg4 arg5 harg5 arg6 harg6 arg7 harg7 arg9 harg9 x1 x2 x3 x4 xs0 hx)) x

/-- The store of head 0's chunk 2 is a block of the point's outputs. -/
theorem p2_0 (hx : IsTri x4) (x : S1x64x128.Idx) : k0_pay332 (F := Ideal) (sl.r_160 (F := Ideal) c arg3 harg3 arg4 harg4 arg6 harg6 arg7 harg7 x0 x1 x3 x4) (sl.r_161 (F := Ideal) c arg3 harg3 arg4 harg4 arg6 harg6 arg7 harg7 x0 x1 x3 x4) (sl.r_164 (F := Ideal) c arg5 harg5 x2) (sl.v1134 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 128, 0] S1x64x128.size (by decide)).emb x) :=
  piece_out 2 0 128 0 rfl rfl _ _ (outT_apply (c := 2) 128 rfl slices_S256x128_o128_0_S64x128 (load_tri _ harg7 x4 hx _) (load_lb _ harg6 x3 0 0 rfl _)
    (load_rows _ harg4 x1 2 0 0 rfl _) (load_rows _ harg3 x0 2 0 0 rfl _) (load_chunk _ harg5 x2 2 0 128 0 rfl rfl _)
    (s2_0 c arg4 harg4 arg5 harg5 arg6 harg6 arg7 harg7 arg9 harg9 x1 x2 x3 x4 xs0 hx)) x

/-- The store of head 1's chunk 2 is a block of the point's outputs. -/
theorem p2_1 (hx : IsTri x4) (x : S1x64x128.Idx) : k0_pay336 (F := Ideal) (sl.r_217 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 128, 128] S1x64x128.size (by decide)).emb x) :=
  piece_out 2 1 128 128 rfl rfl _ _ (outT_apply (c := 2) 128 rfl slices_S256x128_o128_0_S64x128 (load_tri _ harg7 x4 hx _) (load_lb _ harg6 x3 1 128 rfl _)
    (load_rows _ harg4 x1 2 1 128 rfl _) (load_rows _ harg3 x0 2 1 128 rfl _) (load_chunk _ harg5 x2 2 1 128 128 rfl rfl _)
    (s2_1 c arg4 harg4 arg5 harg5 arg6 harg6 arg7 harg7 arg9 harg9 x1 x2 x3 x4 xs0 hx)) x

/-- The store of head 2's chunk 2 is a block of the point's outputs. -/
theorem p2_2 (hx : IsTri x4) (x : S1x64x128.Idx) : k0_pay339 (F := Ideal) (sl.r_176 (F := Ideal) c arg3 harg3 arg4 harg4 arg6 harg6 arg7 harg7 x0 x1 x3 x4) (sl.r_177 (F := Ideal) c arg3 harg3 arg4 harg4 arg6 harg6 arg7 harg7 x0 x1 x3 x4) (sl.r_180 (F := Ideal) c arg5 harg5 x2) (sl.v1174 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 128, 256] S1x64x128.size (by decide)).emb x) :=
  piece_out 2 2 128 256 rfl rfl _ _ (outT_apply (c := 2) 128 rfl slices_S256x128_o128_0_S64x128 (load_tri _ harg7 x4 hx _) (load_lb _ harg6 x3 2 256 rfl _)
    (load_rows _ harg4 x1 2 2 256 rfl _) (load_rows _ harg3 x0 2 2 256 rfl _) (load_chunk _ harg5 x2 2 2 128 256 rfl rfl _)
    (s2_2 c arg4 harg4 arg5 harg5 arg6 harg6 arg7 harg7 arg9 harg9 x1 x2 x3 x4 xs0 hx)) x

/-- The store of head 3's chunk 2 is a block of the point's outputs. -/
theorem p2_3 (hx : IsTri x4) (x : S1x64x128.Idx) : k0_pay345 (F := Ideal) (sl.r_218 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 128, 384] S1x64x128.size (by decide)).emb x) :=
  piece_out 2 3 128 384 rfl rfl _ _ (outT_apply (c := 2) 128 rfl slices_S256x128_o128_0_S64x128 (load_tri _ harg7 x4 hx _) (load_lb _ harg6 x3 3 384 rfl _)
    (load_rows _ harg4 x1 2 3 384 rfl _) (load_rows _ harg3 x0 2 3 384 rfl _) (load_chunk _ harg5 x2 2 3 128 384 rfl rfl _)
    (s2_3 c arg4 harg4 arg5 harg5 arg6 harg6 arg7 harg7 arg9 harg9 x1 x2 x3 x4 xs0 hx)) x

/-- The store of head 4's chunk 2 is a block of the point's outputs. -/
theorem p2_4 (hx : IsTri x4) (x : S1x64x128.Idx) : k0_pay348 (F := Ideal) (sl.r_192 (F := Ideal) c arg3 harg3 arg4 harg4 arg6 harg6 arg7 harg7 x0 x1 x3 x4) (sl.r_193 (F := Ideal) c arg3 harg3 arg4 harg4 arg6 harg6 arg7 harg7 x0 x1 x3 x4) (sl.r_196 (F := Ideal) c arg5 harg5 x2) (sl.v1214 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 128, 512] S1x64x128.size (by decide)).emb x) :=
  piece_out 2 4 128 512 rfl rfl _ _ (outT_apply (c := 2) 128 rfl slices_S256x128_o128_0_S64x128 (load_tri _ harg7 x4 hx _) (load_lb _ harg6 x3 4 512 rfl _)
    (load_rows _ harg4 x1 2 4 512 rfl _) (load_rows _ harg3 x0 2 4 512 rfl _) (load_chunk _ harg5 x2 2 4 128 512 rfl rfl _)
    (s2_4 c arg4 harg4 arg5 harg5 arg6 harg6 arg7 harg7 arg9 harg9 x1 x2 x3 x4 xs0 hx)) x

/-- The store of head 5's chunk 2 is a block of the point's outputs. -/
theorem p2_5 (hx : IsTri x4) (x : S1x64x128.Idx) : k0_pay353 (F := Ideal) (sl.r_198 (F := Ideal) c arg3 harg3 arg4 harg4 arg6 harg6 arg7 harg7 x0 x1 x3 x4) (sl.r_222 (F := Ideal) c arg3 harg3 arg4 harg4 arg5 harg5 arg6 harg6 arg7 harg7 x0 x1 x2 x3 x4) (sl.r_223 (F := Ideal) c arg4 harg4 arg5 harg5 arg6 harg6 arg7 harg7 arg9 harg9 x1 x2 x3 x4 xs0) (sl.cst_435 (F := Ideal)) x
    = pointOut x0 x1 x2 x3 (fun h e d => xs0 (ix3 h e d)) ((Rect.unit (s := S1x256x1024) ![0, 128, 640] S1x64x128.size (by decide)).emb x) :=
  piece_out 2 5 128 640 rfl rfl _ _ (outT_apply (c := 2) 128 rfl slices_S256x128_o128_0_S64x128 (load_tri _ harg7 x4 hx _) (load_lb _ harg6 x3 5 640 rfl _)
    (load_rows _ harg4 x1 2 5 640 rfl _) (load_rows _ harg3 x0 2 5 640 rfl _) (load_chunk _ harg5 x2 2 5 128 640 rfl rfl _)
    (s2_5 c arg4 harg4 arg5 harg5 arg6 harg6 arg7 harg7 arg9 harg9 x1 x2 x3 x4 xs0 hx)) x

/-- The store of head 6's chunk 2 is a block of the point's outputs. -/
theorem p2_6 (hx : IsTri x4) (x : S1x64x128.Idx) : k0_pay356 (F := Ideal) (sl.r_207 (F := Ideal) c arg3 harg3 arg4 harg4 arg6 harg6 arg7 harg7 x0 x1 x3 x4) (sl.r_208 (F := Ideal) c arg3 harg3 arg4 harg4 arg6 harg6 arg7 harg7 x0 x1 x3 x4) (sl.r_211 (F := Ideal) c arg5 harg5 x2) (sl.v1254 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 128, 768] S1x64x128.size (by decide)).emb x) :=
  piece_out 2 6 128 768 rfl rfl _ _ (outT_apply (c := 2) 128 rfl slices_S256x128_o128_0_S64x128 (load_tri _ harg7 x4 hx _) (load_lb _ harg6 x3 6 768 rfl _)
    (load_rows _ harg4 x1 2 6 768 rfl _) (load_rows _ harg3 x0 2 6 768 rfl _) (load_chunk _ harg5 x2 2 6 128 768 rfl rfl _)
    (s2_6 c arg4 harg4 arg5 harg5 arg6 harg6 arg7 harg7 arg9 harg9 x1 x2 x3 x4 xs0 hx)) x

/-- The store of head 7's chunk 2 is a block of the point's outputs. -/
theorem p2_7 (hx : IsTri x4) (x : S1x64x128.Idx) : k0_pay359 (F := Ideal) (sl.r_212 (F := Ideal) c arg3 harg3 arg4 harg4 arg6 harg6 arg7 harg7 x0 x1 x3 x4) (sl.r_213 (F := Ideal) c arg3 harg3 arg4 harg4 arg6 harg6 arg7 harg7 x0 x1 x3 x4) (sl.r_216 (F := Ideal) c arg5 harg5 x2) (sl.v1274 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 128, 896] S1x64x128.size (by decide)).emb x) :=
  piece_out 2 7 128 896 rfl rfl _ _ (outT_apply (c := 2) 128 rfl slices_S256x128_o128_0_S64x128 (load_tri _ harg7 x4 hx _) (load_lb _ harg6 x3 7 896 rfl _)
    (load_rows _ harg4 x1 2 7 896 rfl _) (load_rows _ harg3 x0 2 7 896 rfl _) (load_chunk _ harg5 x2 2 7 128 896 rfl rfl _)
    (s2_7 c arg4 harg4 arg5 harg5 arg6 harg6 arg7 harg7 arg9 harg9 x1 x2 x3 x4 xs0 hx)) x

/-- The store of head 0's chunk 3 is a block of the point's outputs. -/
theorem p3_0 (hx : IsTri x4) (x : S1x64x128.Idx) : k0_pay437 (F := Ideal) (sl.r_275 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 192, 0] S1x64x128.size (by decide)).emb x) :=
  piece_out 3 0 192 0 rfl rfl _ _ (outT_apply (c := 3) 192 rfl slices_S256x128_o192_0_S64x128 (load_tri _ harg7 x4 hx _) (load_lb _ harg6 x3 0 0 rfl _)
    (load_rows _ harg4 x1 3 0 0 rfl _) (load_rows _ harg3 x0 3 0 0 rfl _) (load_chunk _ harg5 x2 3 0 192 0 rfl rfl _)
    (s3_0 c arg4 harg4 arg5 harg5 arg6 harg6 arg7 harg7 arg9 harg9 x1 x2 x3 x4 xs0 hx)) x

/-- The store of head 1's chunk 3 is a block of the point's outputs. -/
theorem p3_1 (hx : IsTri x4) (x : S1x64x128.Idx) : k0_pay440 (F := Ideal) (sl.r_229 (F := Ideal) c arg3 harg3 arg4 harg4 arg6 harg6 arg7 harg7 x0 x1 x3 x4) (sl.r_230 (F := Ideal) c arg3 harg3 arg4 harg4 arg6 harg6 arg7 harg7 x0 x1 x3 x4) (sl.r_233 (F := Ideal) c arg5 harg5 x2) (sl.v1538 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 192, 128] S1x64x128.size (by decide)).emb x) :=
  piece_out 3 1 192 128 rfl rfl _ _ (outT_apply (c := 3) 192 rfl slices_S256x128_o192_0_S64x128 (load_tri _ harg7 x4 hx _) (load_lb _ harg6 x3 1 128 rfl _)
    (load_rows _ harg4 x1 3 1 128 rfl _) (load_rows _ harg3 x0 3 1 128 rfl _) (load_chunk _ harg5 x2 3 1 192 128 rfl rfl _)
    (s3_1 c arg4 harg4 arg5 harg5 arg6 harg6 arg7 harg7 arg9 harg9 x1 x2 x3 x4 xs0 hx)) x

/-- The store of head 2's chunk 3 is a block of the point's outputs. -/
theorem p3_2 (hx : IsTri x4) (x : S1x64x128.Idx) : k0_pay443 (F := Ideal) (sl.r_235 (F := Ideal) c arg3 harg3 arg4 harg4 arg6 harg6 arg7 harg7 x0 x1 x3 x4) (sl.r_236 (F := Ideal) c arg3 harg3 arg4 harg4 arg6 harg6 arg7 harg7 x0 x1 x3 x4) (sl.r_240 (F := Ideal) c arg5 harg5 x2) (sl.r_276 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 192, 256] S1x64x128.size (by decide)).emb x) :=
  piece_out 3 2 192 256 rfl rfl _ _ (outT_apply (c := 3) 192 rfl slices_S256x128_o192_0_S64x128 (load_tri _ harg7 x4 hx _) (load_lb _ harg6 x3 2 256 rfl _)
    (load_rows _ harg4 x1 3 2 256 rfl _) (load_rows _ harg3 x0 3 2 256 rfl _) (load_chunk _ harg5 x2 3 2 192 256 rfl rfl _)
    (s3_2 c arg4 harg4 arg5 harg5 arg6 harg6 arg7 harg7 arg9 harg9 x1 x2 x3 x4 xs0 hx)) x

/-- The store of head 3's chunk 3 is a block of the point's outputs. -/
theorem p3_3 (hx : IsTri x4) (x : S1x64x128.Idx) : k0_pay447 (F := Ideal) (sl.r_277 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 192, 384] S1x64x128.size (by decide)).emb x) :=
  piece_out 3 3 192 384 rfl rfl _ _ (outT_apply (c := 3) 192 rfl slices_S256x128_o192_0_S64x128 (load_tri _ harg7 x4 hx _) (load_lb _ harg6 x3 3 384 rfl _)
    (load_rows _ harg4 x1 3 3 384 rfl _) (load_rows _ harg3 x0 3 3 384 rfl _) (load_chunk _ harg5 x2 3 3 192 384 rfl rfl _)
    (s3_3 c arg4 harg4 arg5 harg5 arg6 harg6 arg7 harg7 arg9 harg9 x1 x2 x3 x4 xs0 hx)) x

/-- The store of head 4's chunk 3 is a block of the point's outputs. -/
theorem p3_4 (hx : IsTri x4) (x : S1x64x128.Idx) : k0_pay450 (F := Ideal) (sl.r_249 (F := Ideal) c arg3 harg3 arg4 harg4 arg6 harg6 arg7 harg7 x0 x1 x3 x4) (sl.r_250 (F := Ideal) c arg3 harg3 arg4 harg4 arg6 harg6 arg7 harg7 x0 x1 x3 x4) (sl.r_253 (F := Ideal) c arg5 harg5 x2) (sl.v1598 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 192, 512] S1x64x128.size (by decide)).emb x) :=
  piece_out 3 4 192 512 rfl rfl _ _ (outT_apply (c := 3) 192 rfl slices_S256x128_o192_0_S64x128 (load_tri _ harg7 x4 hx _) (load_lb _ harg6 x3 4 512 rfl _)
    (load_rows _ harg4 x1 3 4 512 rfl _) (load_rows _ harg3 x0 3 4 512 rfl _) (load_chunk _ harg5 x2 3 4 192 512 rfl rfl _)
    (s3_4 c arg4 harg4 arg5 harg5 arg6 harg6 arg7 harg7 arg9 harg9 x1 x2 x3 x4 xs0 hx)) x

/-- The store of head 5's chunk 3 is a block of the point's outputs. -/
theorem p3_5 (hx : IsTri x4) (x : S1x64x128.Idx) : k0_pay455 (F := Ideal) (sl.r_278 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 192, 640] S1x64x128.size (by decide)).emb x) :=
  piece_out 3 5 192 640 rfl rfl _ _ (outT_apply (c := 3) 192 rfl slices_S256x128_o192_0_S64x128 (load_tri _ harg7 x4 hx _) (load_lb _ harg6 x3 5 640 rfl _)
    (load_rows _ harg4 x1 3 5 640 rfl _) (load_rows _ harg3 x0 3 5 640 rfl _) (load_chunk _ harg5 x2 3 5 192 640 rfl rfl _)
    (s3_5 c arg4 harg4 arg5 harg5 arg6 harg6 arg7 harg7 arg9 harg9 x1 x2 x3 x4 xs0 hx)) x

/-- The store of head 6's chunk 3 is a block of the point's outputs. -/
theorem p3_6 (hx : IsTri x4) (x : S1x64x128.Idx) : k0_pay458 (F := Ideal) (sl.r_264 (F := Ideal) c arg3 harg3 arg4 harg4 arg6 harg6 arg7 harg7 x0 x1 x3 x4) (sl.r_265 (F := Ideal) c arg3 harg3 arg4 harg4 arg6 harg6 arg7 harg7 x0 x1 x3 x4) (sl.r_268 (F := Ideal) c arg5 harg5 x2) (sl.v1638 (F := Ideal) c arg4 harg4 arg5 harg5 arg6 harg6 arg7 harg7 arg9 harg9 x1 x2 x3 x4 xs0) x
    = pointOut x0 x1 x2 x3 (fun h e d => xs0 (ix3 h e d)) ((Rect.unit (s := S1x256x1024) ![0, 192, 768] S1x64x128.size (by decide)).emb x) :=
  piece_out 3 6 192 768 rfl rfl _ _ (outT_apply (c := 3) 192 rfl slices_S256x128_o192_0_S64x128 (load_tri _ harg7 x4 hx _) (load_lb _ harg6 x3 6 768 rfl _)
    (load_rows _ harg4 x1 3 6 768 rfl _) (load_rows _ harg3 x0 3 6 768 rfl _) (load_chunk _ harg5 x2 3 6 192 768 rfl rfl _)
    (s3_6 c arg4 harg4 arg5 harg5 arg6 harg6 arg7 harg7 arg9 harg9 x1 x2 x3 x4 xs0 hx)) x

/-- The store of head 7's chunk 3 is a block of the point's outputs. -/
theorem p3_7 (hx : IsTri x4) (x : S1x64x128.Idx) : k0_pay2 (F := Ideal) (sl.r_280 (F := Ideal) c arg3 harg3 arg4 harg4 arg5 harg5 arg6 harg6 arg7 harg7 arg9 harg9 x0 x1 x2 x3 x4 xs0) x
    = pointOut x0 x1 x2 x3 (fun h e d => xs0 (ix3 h e d)) ((Rect.unit (s := S1x256x1024) ![0, 192, 896] S1x64x128.size (by decide)).emb x) :=
  piece_out 3 7 192 896 rfl rfl _ _ (outT_apply (c := 3) 192 rfl slices_S256x128_o192_0_S64x128 (load_tri _ harg7 x4 hx _) (load_lb _ harg6 x3 7 896 rfl _)
    (load_rows _ harg4 x1 3 7 896 rfl _) (load_rows _ harg3 x0 3 7 896 rfl _) (load_chunk _ harg5 x2 3 7 192 896 rfl rfl _)
    (s3_7 c arg4 harg4 arg5 harg5 arg6 harg6 arg7 harg7 arg9 harg9 x1 x2 x3 x4 xs0 hx)) x

/-- The stores into the output's block, last first. -/
theorem list_eq : (kernelRun0_B (F := Ideal) c i arg3 harg3 arg4 harg4 arg5 harg5 arg6 harg6 arg7 harg7 arg8 harg8 arg9 harg9 hc0 x0 x1 x2 x3 x4 xs0).1 =
  [⟨Rect.unit (s := S1x256x1024) ![0, 192, 896] S1x64x128.size (by decide), (k0_pay2 (F := Ideal) (sl.r_280 (F := Ideal) c arg3 harg3 arg4 harg4 arg5 harg5 arg6 harg6 arg7 harg7 arg9 harg9 x0 x1 x2 x3 x4 xs0))⟩,
  ⟨Rect.unit (s := S1x256x1024) ![0, 192, 768] S1x64x128.size (by decide), (k0_pay458 (F := Ideal) (sl.r_264 (F := Ideal) c arg3 harg3 arg4 harg4 arg6 harg6 arg7 harg7 x0 x1 x3 x4) (sl.r_265 (F := Ideal) c arg3 harg3 arg4 harg4 arg6 harg6 arg7 harg7 x0 x1 x3 x4) (sl.r_268 (F := Ideal) c arg5 harg5 x2) (sl.v1638 (F := Ideal) c arg4 harg4 arg5 harg5 arg6 harg6 arg7 harg7 arg9 harg9 x1 x2 x3 x4 xs0))⟩,
  ⟨Rect.unit (s := S1x256x1024) ![0, 192, 640] S1x64x128.size (by decide), (k0_pay455 (F := Ideal) (sl.r_278 (F := Ideal) c arg3 harg3 arg4 harg4 arg5 harg5 arg6 harg6 arg7 harg7 arg9 harg9 x0 x1 x2 x3 x4 xs0))⟩,
  ⟨Rect.unit (s := S1x256x1024) ![0, 192, 512] S1x64x128.size (by decide), (k0_pay450 (F := Ideal) (sl.r_249 (F := Ideal) c arg3 harg3 arg4 harg4 arg6 harg6 arg7 harg7 x0 x1 x3 x4) (sl.r_250 (F := Ideal) c arg3 harg3 arg4 harg4 arg6 harg6 arg7 harg7 x0 x1 x3 x4) (sl.r_253 (F := Ideal) c arg5 harg5 x2) (sl.v1598 (F := Ideal) c arg4 harg4 arg5 harg5 arg6 harg6 arg7 harg7 arg9 harg9 x1 x2 x3 x4 xs0))⟩,
  ⟨Rect.unit (s := S1x256x1024) ![0, 192, 384] S1x64x128.size (by decide), (k0_pay447 (F := Ideal) (sl.r_277 (F := Ideal) c arg3 harg3 arg4 harg4 arg5 harg5 arg6 harg6 arg7 harg7 arg9 harg9 x0 x1 x2 x3 x4 xs0))⟩,
  ⟨Rect.unit (s := S1x256x1024) ![0, 192, 256] S1x64x128.size (by decide), (k0_pay443 (F := Ideal) (sl.r_235 (F := Ideal) c arg3 harg3 arg4 harg4 arg6 harg6 arg7 harg7 x0 x1 x3 x4) (sl.r_236 (F := Ideal) c arg3 harg3 arg4 harg4 arg6 harg6 arg7 harg7 x0 x1 x3 x4) (sl.r_240 (F := Ideal) c arg5 harg5 x2) (sl.r_276 (F := Ideal) c arg4 harg4 arg5 harg5 arg6 harg6 arg7 harg7 arg9 harg9 x1 x2 x3 x4 xs0))⟩,
  ⟨Rect.unit (s := S1x256x1024) ![0, 192, 128] S1x64x128.size (by decide), (k0_pay440 (F := Ideal) (sl.r_229 (F := Ideal) c arg3 harg3 arg4 harg4 arg6 harg6 arg7 harg7 x0 x1 x3 x4) (sl.r_230 (F := Ideal) c arg3 harg3 arg4 harg4 arg6 harg6 arg7 harg7 x0 x1 x3 x4) (sl.r_233 (F := Ideal) c arg5 harg5 x2) (sl.v1538 (F := Ideal) c arg4 harg4 arg5 harg5 arg6 harg6 arg7 harg7 arg9 harg9 x1 x2 x3 x4 xs0))⟩,
  ⟨Rect.unit (s := S1x256x1024) ![0, 192, 0] S1x64x128.size (by decide), (k0_pay437 (F := Ideal) (sl.r_275 (F := Ideal) c arg3 harg3 arg4 harg4 arg5 harg5 arg6 harg6 arg7 harg7 arg9 harg9 x0 x1 x2 x3 x4 xs0))⟩,
  ⟨Rect.unit (s := S1x256x1024) ![0, 128, 896] S1x64x128.size (by decide), (k0_pay359 (F := Ideal) (sl.r_212 (F := Ideal) c arg3 harg3 arg4 harg4 arg6 harg6 arg7 harg7 x0 x1 x3 x4) (sl.r_213 (F := Ideal) c arg3 harg3 arg4 harg4 arg6 harg6 arg7 harg7 x0 x1 x3 x4) (sl.r_216 (F := Ideal) c arg5 harg5 x2) (sl.v1274 (F := Ideal) c arg4 harg4 arg5 harg5 arg6 harg6 arg7 harg7 arg9 harg9 x1 x2 x3 x4 xs0))⟩,
  ⟨Rect.unit (s := S1x256x1024) ![0, 128, 768] S1x64x128.size (by decide), (k0_pay356 (F := Ideal) (sl.r_207 (F := Ideal) c arg3 harg3 arg4 harg4 arg6 harg6 arg7 harg7 x0 x1 x3 x4) (sl.r_208 (F := Ideal) c arg3 harg3 arg4 harg4 arg6 harg6 arg7 harg7 x0 x1 x3 x4) (sl.r_211 (F := Ideal) c arg5 harg5 x2) (sl.v1254 (F := Ideal) c arg4 harg4 arg5 harg5 arg6 harg6 arg7 harg7 arg9 harg9 x1 x2 x3 x4 xs0))⟩,
  ⟨Rect.unit (s := S1x256x1024) ![0, 128, 640] S1x64x128.size (by decide), (k0_pay353 (F := Ideal) (sl.r_198 (F := Ideal) c arg3 harg3 arg4 harg4 arg6 harg6 arg7 harg7 x0 x1 x3 x4) (sl.r_222 (F := Ideal) c arg3 harg3 arg4 harg4 arg5 harg5 arg6 harg6 arg7 harg7 x0 x1 x2 x3 x4) (sl.r_223 (F := Ideal) c arg4 harg4 arg5 harg5 arg6 harg6 arg7 harg7 arg9 harg9 x1 x2 x3 x4 xs0) (sl.cst_435 (F := Ideal)))⟩,
  ⟨Rect.unit (s := S1x256x1024) ![0, 128, 512] S1x64x128.size (by decide), (k0_pay348 (F := Ideal) (sl.r_192 (F := Ideal) c arg3 harg3 arg4 harg4 arg6 harg6 arg7 harg7 x0 x1 x3 x4) (sl.r_193 (F := Ideal) c arg3 harg3 arg4 harg4 arg6 harg6 arg7 harg7 x0 x1 x3 x4) (sl.r_196 (F := Ideal) c arg5 harg5 x2) (sl.v1214 (F := Ideal) c arg4 harg4 arg5 harg5 arg6 harg6 arg7 harg7 arg9 harg9 x1 x2 x3 x4 xs0))⟩,
  ⟨Rect.unit (s := S1x256x1024) ![0, 128, 384] S1x64x128.size (by decide), (k0_pay345 (F := Ideal) (sl.r_218 (F := Ideal) c arg3 harg3 arg4 harg4 arg5 harg5 arg6 harg6 arg7 harg7 arg9 harg9 x0 x1 x2 x3 x4 xs0))⟩,
  ⟨Rect.unit (s := S1x256x1024) ![0, 128, 256] S1x64x128.size (by decide), (k0_pay339 (F := Ideal) (sl.r_176 (F := Ideal) c arg3 harg3 arg4 harg4 arg6 harg6 arg7 harg7 x0 x1 x3 x4) (sl.r_177 (F := Ideal) c arg3 harg3 arg4 harg4 arg6 harg6 arg7 harg7 x0 x1 x3 x4) (sl.r_180 (F := Ideal) c arg5 harg5 x2) (sl.v1174 (F := Ideal) c arg4 harg4 arg5 harg5 arg6 harg6 arg7 harg7 arg9 harg9 x1 x2 x3 x4 xs0))⟩,
  ⟨Rect.unit (s := S1x256x1024) ![0, 128, 128] S1x64x128.size (by decide), (k0_pay336 (F := Ideal) (sl.r_217 (F := Ideal) c arg3 harg3 arg4 harg4 arg5 harg5 arg6 harg6 arg7 harg7 arg9 harg9 x0 x1 x2 x3 x4 xs0))⟩,
  ⟨Rect.unit (s := S1x256x1024) ![0, 128, 0] S1x64x128.size (by decide), (k0_pay332 (F := Ideal) (sl.r_160 (F := Ideal) c arg3 harg3 arg4 harg4 arg6 harg6 arg7 harg7 x0 x1 x3 x4) (sl.r_161 (F := Ideal) c arg3 harg3 arg4 harg4 arg6 harg6 arg7 harg7 x0 x1 x3 x4) (sl.r_164 (F := Ideal) c arg5 harg5 x2) (sl.v1134 (F := Ideal) c arg4 harg4 arg5 harg5 arg6 harg6 arg7 harg7 arg9 harg9 x1 x2 x3 x4 xs0))⟩,
  ⟨Rect.unit (s := S1x256x1024) ![0, 64, 896] S1x64x128.size (by decide), (k0_pay250 (F := Ideal) (sl.r_142 (F := Ideal) c arg3 harg3 arg4 harg4 arg6 harg6 arg7 harg7 x0 x1 x3 x4) (sl.r_143 (F := Ideal) c arg3 harg3 arg4 harg4 arg6 harg6 arg7 harg7 x0 x1 x3 x4) (sl.r_146 (F := Ideal) c arg5 harg5 x2) (sl.v890 (F := Ideal) c arg4 harg4 arg5 harg5 arg6 harg6 arg7 harg7 arg9 harg9 x1 x2 x3 x4 xs0))⟩,
  ⟨Rect.unit (s := S1x256x1024) ![0, 64, 768] S1x64x128.size (by decide), (k0_pay247 (F := Ideal) (sl.r_153 (F := Ideal) c arg3 harg3 arg4 harg4 arg5 harg5 arg6 harg6 arg7 harg7 arg9 harg9 x0 x1 x2 x3 x4 xs0))⟩,
  ⟨Rect.unit (s := S1x256x1024) ![0, 64, 640] S1x64x128.size (by decide), (k0_pay242 (F := Ideal) (sl.r_128 (F := Ideal) c arg3 harg3 arg4 harg4 arg6 harg6 arg7 harg7 x0 x1 x3 x4) (sl.r_129 (F := Ideal) c arg3 harg3 arg4 harg4 arg6 harg6 arg7 harg7 x0 x1 x3 x4) (sl.r_133 (F := Ideal) c arg5 harg5 x2) (sl.v850 (F := Ideal) c arg4 harg4 arg5 harg5 arg6 harg6 arg7 harg7 arg9 harg9 x1 x2 x3 x4 xs0))⟩,
  ⟨Rect.unit (s := S1x256x1024) ![0, 64, 512] S1x64x128.size (by decide), (sl.r_152 (F := Ideal) c arg3 harg3 arg4 harg4 arg5 harg5 arg6 harg6 arg7 harg7 arg9 harg9 x0 x1 x2 x3 x4 xs0)⟩,
  ⟨Rect.unit (s := S1x256x1024) ![0, 64, 384] S1x64x128.size (by decide), (k0_pay236 (F := Ideal) (sl.r_118 (F := Ideal) c arg3 harg3 arg4 harg4 arg6 harg6 arg7 harg7 x0 x1 x3 x4) (sl.r_149 (F := Ideal) c arg4 harg4 arg5 harg5 arg6 harg6 arg7 harg7 arg9 harg9 x1 x2 x3 x4 xs0) (sl.r_150 (F := Ideal) c arg5 harg5 x2) (sl.r_151 (F := Ideal) c arg3 harg3 arg4 harg4 arg6 harg6 arg7 harg7 x0 x1 x3 x4))⟩,
  ⟨Rect.unit (s := S1x256x1024) ![0, 64, 256] S1x64x128.size (by decide), (k0_pay231 (F := Ideal) (sl.r_112 (F := Ideal) c arg3 harg3 arg4 harg4 arg6 harg6 arg7 harg7 x0 x1 x3 x4) (sl.r_113 (F := Ideal) c arg3 harg3 arg4 harg4 arg6 harg6 arg7 harg7 x0 x1 x3 x4) (sl.r_116 (F := Ideal) c arg5 harg5 x2) (sl.v790 (F := Ideal) c arg4 harg4 arg5 harg5 arg6 harg6 arg7 harg7 arg9 harg9 x1 x2 x3 x4 xs0))⟩,
  ⟨Rect.unit (s := S1x256x1024) ![0, 64, 128] S1x64x128.size (by decide), (k0_pay228 (F := Ideal) (sl.r_147 (F := Ideal) c arg3 harg3 arg4 harg4 arg5 harg5 arg6 harg6 arg7 harg7 arg9 harg9 x0 x1 x2 x3 x4 xs0))⟩,
  ⟨Rect.unit (s := S1x256x1024) ![0, 64, 0] S1x64x128.size (by decide), (k0_pay223 (F := Ideal) (sl.r_101 (F := Ideal) c arg3 harg3 arg4 harg4 arg6 harg6 arg7 harg7 x0 x1 x3 x4) (sl.r_102 (F := Ideal) c arg3 harg3 arg4 harg4 arg6 harg6 arg7 harg7 x0 x1 x3 x4) (sl.r_105 (F := Ideal) c arg5 harg5 x2) (sl.v750 (F := Ideal) c arg4 harg4 arg5 harg5 arg6 harg6 arg7 harg7 arg9 harg9 x1 x2 x3 x4 xs0))⟩,
  ⟨Rect.unit (s := S1x256x1024) ![0, 0, 896] S1x64x128.size (by decide), (k0_pay146 (F := Ideal) (sl.r_86 (F := Ideal) c arg3 harg3 arg4 harg4 arg6 harg6 arg7 harg7 x0 x1 x3 x4) (sl.r_87 (F := Ideal) c arg3 harg3 arg4 harg4 arg6 harg6 arg7 harg7 x0 x1 x3 x4) (sl.r_90 (F := Ideal) c arg5 harg5 x2) (sl.v506 (F := Ideal) c arg9 harg9 xs0))⟩,
  ⟨Rect.unit (s := S1x256x1024) ![0, 0, 768] S1x64x128.size (by decide), (k0_pay143 (F := Ideal) (sl.r_95 (F := Ideal) c arg3 harg3 arg4 harg4 arg5 harg5 arg6 harg6 arg7 harg7 arg9 harg9 x0 x1 x2 x3 x4 xs0))⟩,
  ⟨Rect.unit (s := S1x256x1024) ![0, 0, 640] S1x64x128.size (by decide), (k0_pay139 (F := Ideal) (sl.r_70 (F := Ideal) c arg3 harg3 arg4 harg4 arg6 harg6 arg7 harg7 x0 x1 x3 x4) (sl.r_71 (F := Ideal) c arg3 harg3 arg4 harg4 arg6 harg6 arg7 harg7 x0 x1 x3 x4) (sl.r_74 (F := Ideal) c arg5 harg5 x2) (sl.v466 (F := Ideal) c arg9 harg9 xs0))⟩,
  ⟨Rect.unit (s := S1x256x1024) ![0, 0, 512] S1x64x128.size (by decide), (k0_pay136 (F := Ideal) (sl.r_92 (F := Ideal) c arg3 harg3 arg4 harg4 arg5 harg5 arg6 harg6 arg7 harg7 arg9 harg9 x0 x1 x2 x3 x4 xs0))⟩,
  ⟨Rect.unit (s := S1x256x1024) ![0, 0, 384] S1x64x128.size (by decide), (k0_pay131 (F := Ideal) (sl.r_54 (F := Ideal) c arg3 harg3 arg4 harg4 arg6 harg6 arg7 harg7 x0 x1 x3 x4) (sl.r_55 (F := Ideal) c arg3 harg3 arg4 harg4 arg6 harg6 arg7 harg7 x0 x1 x3 x4) (sl.r_58 (F := Ideal) c arg5 harg5 x2) (sl.v426 (F := Ideal) c arg9 harg9 xs0))⟩,
  ⟨Rect.unit (s := S1x256x1024) ![0, 0, 256] S1x64x128.size (by decide), (k0_pay128 (F := Ideal) (sl.r_91 (F := Ideal) c arg3 harg3 arg4 harg4 arg5 harg5 arg6 harg6 arg7 harg7 arg9 harg9 x0 x1 x2 x3 x4 xs0))⟩,
  ⟨Rect.unit (s := S1x256x1024) ![0, 0, 128] S1x64x128.size (by decide), (k0_pay124 (F := Ideal) (sl.r_39 (F := Ideal) c arg3 harg3 arg4 harg4 arg6 harg6 arg7 harg7 x0 x1 x3 x4) (sl.r_40 (F := Ideal) c arg3 harg3 arg4 harg4 arg6 harg6 arg7 harg7 x0 x1 x3 x4) (sl.r_43 (F := Ideal) c arg5 harg5 x2) (sl.v386 (F := Ideal) c arg9 harg9 xs0))⟩,
  ⟨Rect.unit (s := S1x256x1024) ![0, 0, 0] S1x64x128.size (by decide), (k0_pay121 (F := Ideal) (sl.r_31 (F := Ideal) c arg3 harg3 arg4 harg4 arg6 harg6 arg7 harg7 x0 x1 x3 x4) (sl.r_32 (F := Ideal) c arg3 harg3 arg4 harg4 arg6 harg6 arg7 harg7 x0 x1 x3 x4) (sl.r_35 (F := Ideal) c arg5 harg5 x2) (View.readAt (Elt Ideal) arg9.view (Rect.unit (s := S8x128x128) ![0, 0, 0] S1x128x128.size (by decide)).toLoadRect (harg9.unread xs0)))⟩] := rfl

/-- Every store into the output's block is one chunk's output of one head. -/
theorem pieces (hx : IsTri x4) : View.PiecesOf (pointOut x0 x1 x2 x3 (fun h e d => xs0 (ix3 h e d))) (kernelRun0_B (F := Ideal) c i arg3 harg3 arg4 harg4 arg5 harg5 arg6 harg6 arg7 harg7 arg8 harg8 arg9 harg9 hc0 x0 x1 x2 x3 x4 xs0).1 := by
  rw [list_eq]
  exact ⟨p3_7 c arg3 harg3 arg4 harg4 arg5 harg5 arg6 harg6 arg7 harg7 arg9 harg9 x1 x2 x3 x4 xs0 x0 hx,
    p3_6 c arg3 harg3 arg4 harg4 arg5 harg5 arg6 harg6 arg7 harg7 arg9 harg9 x1 x2 x3 x4 xs0 x0 hx,
    p3_5 c arg3 harg3 arg4 harg4 arg5 harg5 arg6 harg6 arg7 harg7 arg9 harg9 x1 x2 x3 x4 xs0 x0 hx,
    p3_4 c arg3 harg3 arg4 harg4 arg5 harg5 arg6 harg6 arg7 harg7 arg9 harg9 x1 x2 x3 x4 xs0 x0 hx,
    p3_3 c arg3 harg3 arg4 harg4 arg5 harg5 arg6 harg6 arg7 harg7 arg9 harg9 x1 x2 x3 x4 xs0 x0 hx,
    p3_2 c arg3 harg3 arg4 harg4 arg5 harg5 arg6 harg6 arg7 harg7 arg9 harg9 x1 x2 x3 x4 xs0 x0 hx,
    p3_1 c arg3 harg3 arg4 harg4 arg5 harg5 arg6 harg6 arg7 harg7 arg9 harg9 x1 x2 x3 x4 xs0 x0 hx,
    p3_0 c arg3 harg3 arg4 harg4 arg5 harg5 arg6 harg6 arg7 harg7 arg9 harg9 x1 x2 x3 x4 xs0 x0 hx,
    p2_7 c arg3 harg3 arg4 harg4 arg5 harg5 arg6 harg6 arg7 harg7 arg9 harg9 x1 x2 x3 x4 xs0 x0 hx,
    p2_6 c arg3 harg3 arg4 harg4 arg5 harg5 arg6 harg6 arg7 harg7 arg9 harg9 x1 x2 x3 x4 xs0 x0 hx,
    p2_5 c arg3 harg3 arg4 harg4 arg5 harg5 arg6 harg6 arg7 harg7 arg9 harg9 x1 x2 x3 x4 xs0 x0 hx,
    p2_4 c arg3 harg3 arg4 harg4 arg5 harg5 arg6 harg6 arg7 harg7 arg9 harg9 x1 x2 x3 x4 xs0 x0 hx,
    p2_3 c arg3 harg3 arg4 harg4 arg5 harg5 arg6 harg6 arg7 harg7 arg9 harg9 x1 x2 x3 x4 xs0 x0 hx,
    p2_2 c arg3 harg3 arg4 harg4 arg5 harg5 arg6 harg6 arg7 harg7 arg9 harg9 x1 x2 x3 x4 xs0 x0 hx,
    p2_1 c arg3 harg3 arg4 harg4 arg5 harg5 arg6 harg6 arg7 harg7 arg9 harg9 x1 x2 x3 x4 xs0 x0 hx,
    p2_0 c arg3 harg3 arg4 harg4 arg5 harg5 arg6 harg6 arg7 harg7 arg9 harg9 x1 x2 x3 x4 xs0 x0 hx,
    p1_7 c arg3 harg3 arg4 harg4 arg5 harg5 arg6 harg6 arg7 harg7 arg9 harg9 x1 x2 x3 x4 xs0 x0 hx,
    p1_6 c arg3 harg3 arg4 harg4 arg5 harg5 arg6 harg6 arg7 harg7 arg9 harg9 x1 x2 x3 x4 xs0 x0 hx,
    p1_5 c arg3 harg3 arg4 harg4 arg5 harg5 arg6 harg6 arg7 harg7 arg9 harg9 x1 x2 x3 x4 xs0 x0 hx,
    p1_4 c arg3 harg3 arg4 harg4 arg5 harg5 arg6 harg6 arg7 harg7 arg9 harg9 x1 x2 x3 x4 xs0 x0 hx,
    p1_3 c arg3 harg3 arg4 harg4 arg5 harg5 arg6 harg6 arg7 harg7 arg9 harg9 x1 x2 x3 x4 xs0 x0 hx,
    p1_2 c arg3 harg3 arg4 harg4 arg5 harg5 arg6 harg6 arg7 harg7 arg9 harg9 x1 x2 x3 x4 xs0 x0 hx,
    p1_1 c arg3 harg3 arg4 harg4 arg5 harg5 arg6 harg6 arg7 harg7 arg9 harg9 x1 x2 x3 x4 xs0 x0 hx,
    p1_0 c arg3 harg3 arg4 harg4 arg5 harg5 arg6 harg6 arg7 harg7 arg9 harg9 x1 x2 x3 x4 xs0 x0 hx,
    p0_7 c arg3 harg3 arg4 harg4 arg5 harg5 arg6 harg6 arg7 harg7 arg9 harg9 x1 x2 x3 x4 xs0 x0 hx,
    p0_6 c arg3 harg3 arg4 harg4 arg5 harg5 arg6 harg6 arg7 harg7 arg9 harg9 x1 x2 x3 x4 xs0 x0 hx,
    p0_5 c arg3 harg3 arg4 harg4 arg5 harg5 arg6 harg6 arg7 harg7 arg9 harg9 x1 x2 x3 x4 xs0 x0 hx,
    p0_4 c arg3 harg3 arg4 harg4 arg5 harg5 arg6 harg6 arg7 harg7 arg9 harg9 x1 x2 x3 x4 xs0 x0 hx,
    p0_3 c arg3 harg3 arg4 harg4 arg5 harg5 arg6 harg6 arg7 harg7 arg9 harg9 x1 x2 x3 x4 xs0 x0 hx,
    p0_2 c arg3 harg3 arg4 harg4 arg5 harg5 arg6 harg6 arg7 harg7 arg9 harg9 x1 x2 x3 x4 xs0 x0 hx,
    p0_1 c arg3 harg3 arg4 harg4 arg5 harg5 arg6 harg6 arg7 harg7 arg9 harg9 x1 x2 x3 x4 xs0 x0 hx,
    p0_0 c arg3 harg3 arg4 harg4 arg5 harg5 arg6 harg6 arg7 harg7 arg9 harg9 x1 x2 x3 x4 xs0 x0 hx, trivial⟩

/-- What the point leaves in the output's block. -/
theorem out_eq (hx : IsTri x4) : out0_B_5 (F := Ideal) c i arg3 harg3 arg4 harg4 arg5 harg5 arg6 harg6 arg7 harg7 arg8 harg8 arg9 harg9 hc0 x0 x1 x2 x3 x4 xs0 = pointOut x0 x1 x2 x3 (fun h e d => xs0 (ix3 h e d)) := by
  unfold out0_B_5
  rw [View.read_writes_junk_eq_canon]
  funext y
  have h := cover0_B_5 (F := Ideal) c i arg3 harg3 arg4 harg4 arg5 harg5 arg6 harg6 arg7 harg7 arg8 harg8 arg9 harg9 hc0 x0 x1 x2 x3 x4 xs0 y
  have h2 := pieces c arg3 harg3 arg4 harg4 arg5 harg5 arg6 harg6 arg7 harg7 arg9 harg9 x1 x2 x3 x4 xs0 i arg8 harg8 hc0 x0 hx
  generalize (kernelRun0_B (F := Ideal) c i arg3 harg3 arg4 harg4 arg5 harg5 arg6 harg6 arg7 harg7 arg8 harg8 arg9 harg9 hc0 x0 x1 x2 x3 x4 xs0).1 = L at h h2 ⊢
  exact View.canon_apply_of_pieces _ L (View.PiecesOf.mem h2) y h

/-- Head 0's state after the point. -/
theorem s4_0 (hx : IsTri x4) (e d : Fin 128) :
    sout0_B_0 (F := Ideal) c i arg3 harg3 arg4 harg4 arg5 harg5 arg6 harg6 arg7 harg7 arg8 harg8 arg9 harg9 hc0 x0 x1 x2 x3 x4 xs0 (ix3 0 e d) = chain x1 x2 x3 (fun h e d => xs0 (ix3 h e d)) 0 4 e d := by
  unfold sout0_B_0
  rw [View.read_writes_junk_eq_canon, canon_head _ 0 0 rfl (by decide)]
  show View.readCov VS0_0 (⟨_, _⟩ :: sl.HS0_31 (F := Ideal) c arg4 harg4 arg5 harg5 arg6 harg6 arg7 harg7 arg9 harg9 x1 x2 x3 x4 xs0) _ _ = _
  unfold sl.HS0_31 sl.HS0_30 sl.HS0_29 sl.HS0_28 sl.HS0_27 sl.HS0_26 sl.HS0_25
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 0 0 rfl _)
    (load_rows _ harg4 x1 3 0 0 rfl _) (load_chunk _ harg5 x2 3 0 192 0 rfl rfl _)
    (s3_0 c arg4 harg4 arg5 harg5 arg6 harg6 arg7 harg7 arg9 harg9 x1 x2 x3 x4 xs0 hx) e d

/-- Head 1's state after the point. -/
theorem s4_1 (hx : IsTri x4) (e d : Fin 128) :
    sout0_B_0 (F := Ideal) c i arg3 harg3 arg4 harg4 arg5 harg5 arg6 harg6 arg7 harg7 arg8 harg8 arg9 harg9 hc0 x0 x1 x2 x3 x4 xs0 (ix3 1 e d) = chain x1 x2 x3 (fun h e d => xs0 (ix3 h e d)) 1 4 e d := by
  unfold sout0_B_0
  rw [View.read_writes_junk_eq_canon, canon_head _ 1 1 rfl (by decide)]
  show View.readCov VS0_0 (⟨_, _⟩ :: sl.HS0_31 (F := Ideal) c arg4 harg4 arg5 harg5 arg6 harg6 arg7 harg7 arg9 harg9 x1 x2 x3 x4 xs0) _ _ = _
  unfold sl.HS0_31 sl.HS0_30 sl.HS0_29 sl.HS0_28 sl.HS0_27 sl.HS0_26
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 1 128 rfl _)
    (load_rows _ harg4 x1 3 1 128 rfl _) (load_chunk _ harg5 x2 3 1 192 128 rfl rfl _)
    (s3_1 c arg4 harg4 arg5 harg5 arg6 harg6 arg7 harg7 arg9 harg9 x1 x2 x3 x4 xs0 hx) e d

/-- Head 2's state after the point. -/
theorem s4_2 (hx : IsTri x4) (e d : Fin 128) :
    sout0_B_0 (F := Ideal) c i arg3 harg3 arg4 harg4 arg5 harg5 arg6 harg6 arg7 harg7 arg8 harg8 arg9 harg9 hc0 x0 x1 x2 x3 x4 xs0 (ix3 2 e d) = chain x1 x2 x3 (fun h e d => xs0 (ix3 h e d)) 2 4 e d := by
  unfold sout0_B_0
  rw [View.read_writes_junk_eq_canon, canon_head _ 2 2 rfl (by decide)]
  show View.readCov VS0_0 (⟨_, _⟩ :: sl.HS0_31 (F := Ideal) c arg4 harg4 arg5 harg5 arg6 harg6 arg7 harg7 arg9 harg9 x1 x2 x3 x4 xs0) _ _ = _
  unfold sl.HS0_31 sl.HS0_30 sl.HS0_29 sl.HS0_28 sl.HS0_27
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 2 256 rfl _)
    (load_rows _ harg4 x1 3 2 256 rfl _) (load_chunk _ harg5 x2 3 2 192 256 rfl rfl _)
    (s3_2 c arg4 harg4 arg5 harg5 arg6 harg6 arg7 harg7 arg9 harg9 x1 x2 x3 x4 xs0 hx) e d

/-- Head 3's state after the point. -/
theorem s4_3 (hx : IsTri x4) (e d : Fin 128) :
    sout0_B_0 (F := Ideal) c i arg3 harg3 arg4 harg4 arg5 harg5 arg6 harg6 arg7 harg7 arg8 harg8 arg9 harg9 hc0 x0 x1 x2 x3 x4 xs0 (ix3 3 e d) = chain x1 x2 x3 (fun h e d => xs0 (ix3 h e d)) 3 4 e d := by
  unfold sout0_B_0
  rw [View.read_writes_junk_eq_canon, canon_head _ 3 3 rfl (by decide)]
  show View.readCov VS0_0 (⟨_, _⟩ :: sl.HS0_31 (F := Ideal) c arg4 harg4 arg5 harg5 arg6 harg6 arg7 harg7 arg9 harg9 x1 x2 x3 x4 xs0) _ _ = _
  unfold sl.HS0_31 sl.HS0_30 sl.HS0_29 sl.HS0_28
  rw [View.readCov_skip _ _ _ _ _ (by decide), View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 3 384 rfl _)
    (load_rows _ harg4 x1 3 3 384 rfl _) (load_chunk _ harg5 x2 3 3 192 384 rfl rfl _)
    (s3_3 c arg4 harg4 arg5 harg5 arg6 harg6 arg7 harg7 arg9 harg9 x1 x2 x3 x4 xs0 hx) e d

/-- Head 4's state after the point. -/
theorem s4_4 (hx : IsTri x4) (e d : Fin 128) :
    sout0_B_0 (F := Ideal) c i arg3 harg3 arg4 harg4 arg5 harg5 arg6 harg6 arg7 harg7 arg8 harg8 arg9 harg9 hc0 x0 x1 x2 x3 x4 xs0 (ix3 4 e d) = chain x1 x2 x3 (fun h e d => xs0 (ix3 h e d)) 4 4 e d := by
  unfold sout0_B_0
  rw [View.read_writes_junk_eq_canon, canon_head _ 4 4 rfl (by decide)]
  show View.readCov VS0_0 (⟨_, _⟩ :: sl.HS0_31 (F := Ideal) c arg4 harg4 arg5 harg5 arg6 harg6 arg7 harg7 arg9 harg9 x1 x2 x3 x4 xs0) _ _ = _
  unfold sl.HS0_31 sl.HS0_30 sl.HS0_29
  rw [View.readCov_skip _ _ _ _ _ (by decide), View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 4 512 rfl _)
    (load_rows _ harg4 x1 3 4 512 rfl _) (load_chunk _ harg5 x2 3 4 192 512 rfl rfl _)
    (s3_4 c arg4 harg4 arg5 harg5 arg6 harg6 arg7 harg7 arg9 harg9 x1 x2 x3 x4 xs0 hx) e d

/-- Head 5's state after the point. -/
theorem s4_5 (hx : IsTri x4) (e d : Fin 128) :
    sout0_B_0 (F := Ideal) c i arg3 harg3 arg4 harg4 arg5 harg5 arg6 harg6 arg7 harg7 arg8 harg8 arg9 harg9 hc0 x0 x1 x2 x3 x4 xs0 (ix3 5 e d) = chain x1 x2 x3 (fun h e d => xs0 (ix3 h e d)) 5 4 e d := by
  unfold sout0_B_0
  rw [View.read_writes_junk_eq_canon, canon_head _ 5 5 rfl (by decide)]
  show View.readCov VS0_0 (⟨_, _⟩ :: sl.HS0_31 (F := Ideal) c arg4 harg4 arg5 harg5 arg6 harg6 arg7 harg7 arg9 harg9 x1 x2 x3 x4 xs0) _ _ = _
  unfold sl.HS0_31 sl.HS0_30
  rw [View.readCov_skip _ _ _ _ _ (by decide), View.readCov_skip _ _ _ _ _ (by decide), View.readCov_cons_toLoadRect]
  exact stateT_apply (c := 3) 192 rfl slices_S256x128_o192_0_S64x128 (load_tri _ harg7 x4 hx _) (load_lb _ harg6 x3 5 640 rfl _)
    (load_rows _ harg4 x1 3 5 640 rfl _) (load_chunk _ harg5 x2 3 5 192 640 rfl rfl _)
    (s3_5 c arg4 harg4 arg5 harg5 arg6 harg6 arg7 harg7 arg9 harg9 x1 x2 x3 x4 xs0 hx) e d

/-- Head 6's state after the point. -/
theorem s4_6 (hx : IsTri x4) (e d : Fin 128) :
    sout0_B_0 (F := Ideal) c i arg3 harg3 arg4 harg4 arg5 harg5 arg6 harg6 arg7 harg7 arg8 harg8 arg9 harg9 hc0 x0 x1 x2 x3 x4 xs0 (ix3 6 e d) = chain x1 x2 x3 (fun h e d => xs0 (ix3 h e d)) 6 4 e d := by
  unfold sout0_B_0
  rw [View.read_writes_junk_eq_canon, canon_head _ 6 6 rfl (by decide)]
  show View.readCov VS0_0 (⟨_, _⟩ :: sl.HS0_31 (F := Ideal) c arg4 harg4 arg5 harg5 arg6 harg6 arg7 harg7 arg9 harg9 x1 x2 x3 x4 xs0) _ _ = _
  unfold sl.HS0_31
  rw [View.readCov_skip _ _ _ _ _ (by decide), View.readCov_cons_toLoadRect]
  exact stateT_apply (c := 3) 192 rfl slices_S256x128_o192_0_S64x128 (load_tri _ harg7 x4 hx _) (load_lb _ harg6 x3 6 768 rfl _)
    (load_rows _ harg4 x1 3 6 768 rfl _) (load_chunk _ harg5 x2 3 6 192 768 rfl rfl _)
    (s3_6 c arg4 harg4 arg5 harg5 arg6 harg6 arg7 harg7 arg9 harg9 x1 x2 x3 x4 xs0 hx) e d

/-- Head 7's state after the point. -/
theorem s4_7 (hx : IsTri x4) (e d : Fin 128) :
    sout0_B_0 (F := Ideal) c i arg3 harg3 arg4 harg4 arg5 harg5 arg6 harg6 arg7 harg7 arg8 harg8 arg9 harg9 hc0 x0 x1 x2 x3 x4 xs0 (ix3 7 e d) = chain x1 x2 x3 (fun h e d => xs0 (ix3 h e d)) 7 4 e d := by
  unfold sout0_B_0
  rw [View.read_writes_junk_eq_canon, canon_head _ 7 7 rfl (by decide)]
  show View.readCov VS0_0 (⟨_, _⟩ :: sl.HS0_31 (F := Ideal) c arg4 harg4 arg5 harg5 arg6 harg6 arg7 harg7 arg9 harg9 x1 x2 x3 x4 xs0) _ _ = _
  rw [View.readCov_cons_toLoadRect]
  exact stateT_apply (c := 3) 192 rfl slices_S256x128_o192_0_S64x128 (load_tri _ harg7 x4 hx _) (load_lb _ harg6 x3 7 896 rfl _)
    (load_rows _ harg4 x1 3 7 896 rfl _) (load_chunk _ harg5 x2 3 7 192 896 rfl rfl _)
    (s3_7 c arg4 harg4 arg5 harg5 arg6 harg6 arg7 harg7 arg9 harg9 x1 x2 x3 x4 xs0 hx) e d

/-- What the point leaves in the carried state. -/
theorem state_eq (hx : IsTri x4) (h : Fin 8) (e d : Fin 128) :
    sout0_B_0 (F := Ideal) c i arg3 harg3 arg4 harg4 arg5 harg5 arg6 harg6 arg7 harg7 arg8 harg8 arg9 harg9 hc0 x0 x1 x2 x3 x4 xs0 (ix3 h e d) = chain x1 x2 x3 (fun h e d => xs0 (ix3 h e d)) h 4 e d := by
  fin_cases h
  · exact s4_0 c arg3 harg3 arg4 harg4 arg5 harg5 arg6 harg6 arg7 harg7 arg9 harg9 x1 x2 x3 x4 xs0 i arg8 harg8 hc0 x0 hx e d
  · exact s4_1 c arg3 harg3 arg4 harg4 arg5 harg5 arg6 harg6 arg7 harg7 arg9 harg9 x1 x2 x3 x4 xs0 i arg8 harg8 hc0 x0 hx e d
  · exact s4_2 c arg3 harg3 arg4 harg4 arg5 harg5 arg6 harg6 arg7 harg7 arg9 harg9 x1 x2 x3 x4 xs0 i arg8 harg8 hc0 x0 hx e d
  · exact s4_3 c arg3 harg3 arg4 harg4 arg5 harg5 arg6 harg6 arg7 harg7 arg9 harg9 x1 x2 x3 x4 xs0 i arg8 harg8 hc0 x0 hx e d
  · exact s4_4 c arg3 harg3 arg4 harg4 arg5 harg5 arg6 harg6 arg7 harg7 arg9 harg9 x1 x2 x3 x4 xs0 i arg8 harg8 hc0 x0 hx e d
  · exact s4_5 c arg3 harg3 arg4 harg4 arg5 harg5 arg6 harg6 arg7 harg7 arg9 harg9 x1 x2 x3 x4 xs0 i arg8 harg8 hc0 x0 hx e d
  · exact s4_6 c arg3 harg3 arg4 harg4 arg5 harg5 arg6 harg6 arg7 harg7 arg9 harg9 x1 x2 x3 x4 xs0 i arg8 harg8 hc0 x0 hx e d
  · exact s4_7 c arg3 harg3 arg4 harg4 arg5 harg5 arg6 harg6 arg7 harg7 arg9 harg9 x1 x2 x3 x4 xs0 i arg8 harg8 hc0 x0 hx e d

end Cert.Scan.Later

end
-- ==== Proof.ScanWhole.lean ====
module

public import proofs.«01_k».proof.Proof.ScanMath

/-! The whole recurrence: 132 chunks of each batch and head, one after another, from a zero state. -/

@[expose] public section

noncomputable section

namespace Cert.Scan

open Idealize.ShloMosaic

section
variable (P : Fin 2 → Fin 8448 → Fin 6144 → EReal) (LB : Fin 1024 → EReal)

/-- A head's lower bounds. -/
def lbG (h : Fin 8) (d : Fin 128) : EReal := LB ⟨128 * h.val + d.val, by omega⟩

/-- A head's rows of chunk `n`, in the column group that starts at `o`. -/
def rowsG (o : Fin 4) (b : Fin 2) (n : Fin 132) (h : Fin 8) (t : Fin 64) (d : Fin 128) : EReal :=
  P b ⟨64 * n.val + t.val, by omega⟩ ⟨1024 * o.val + 128 * h.val + d.val, by omega⟩

/-- A head's state before chunk `n`, value lane first: zero before the first chunk. -/
def stateG (b : Fin 2) (h : Fin 8) : ℕ → Fin 128 → Fin 128 → EReal
  | 0 => fun _ _ => 0
  | n + 1 => chunkState (lbG LB h) (rowsG P 1 b (Fin.ofNat 132 n) h) (rowsG P 3 b (Fin.ofNat 132 n) h) (stateG b h n)

/-- The outputs of chunk `n` of a head. -/
def outC (b : Fin 2) (h : Fin 8) (n : Fin 132) (t : Fin 64) (e : Fin 128) : EReal :=
  chunkOut (lbG LB h) (rowsG P 1 b n h) (rowsG P 0 b n h) (rowsG P 3 b n h) (stateG P LB b h n.val) t e

/-- The whole output: row `64 n + t`, lane `128 h + e` is chunk `n`'s output of head `h`. -/
def outG (b : Fin 2) (r : Fin 8448) (l : Fin 1024) : EReal :=
  outC P LB b ⟨l.val / 128, by omega⟩ ⟨r.val / 64, by omega⟩ ⟨r.val % 64, by omega⟩ ⟨l.val % 128, by omega⟩

end

end Cert.Scan
end
-- ==== Proof.ScanFinal.lean ====
module

public import proofs.«01_k».proof.Proof.ScanEntry
public import proofs.«01_k».proof.Proof.ScanFirst
public import proofs.«01_k».proof.Proof.ScanLater
public import proofs.«01_k».proof.Proof.ScanWhole
public import proofs.«01_k».proof.Proof.Gen.KernelIdeal.Value

/-! The grid of the scan: along a batch's 33 points the carried scratch is the recurrence's state, so the output array
is the recurrence's. -/

@[expose] public section

set_option maxRecDepth 16384

noncomputable section

namespace Cert.Scan

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The projections the launch finds. -/
def proj (b : Fin 2) (r : Fin 8448) (l : Fin 6144) : EReal := m ((c : Thread nD τ).loc main_arg0) (ix3 b r l)

/-- The layer's lower bounds the launch finds. -/
def bounds (l : Fin 1024) : EReal := m ((c : Thread nD τ).loc main_arg1) (ix2 0 l)

/-- The batch of a grid point. -/
abbrev bat (t : Fin cfg0.N) : Fin 2 := ⟨t.val / 33, by have := lt_of_lt_of_eq t.isLt (show cfg0.N = 66 from N_0); omega⟩

/-- The number of a grid point's chunk. -/
abbrev chk (t : Fin cfg0.N) (k : Fin 4) : Fin 132 := ⟨4 * (t.val % 33) + k.val, by omega⟩

theorem lb_in (t : Fin cfg0.N) (h : Fin 8) : lbOf (iblk m c 3 t) h = lbG (bounds m c) h := by
  funext d
  unfold lbOf lbG bounds
  rw [lb_block m c t (ix3 0 0 (lane h d))]
  exact lb_entry m c (lane h d)

theorem tri_in (t : Fin cfg0.N) : IsTri (iblk m c 4 t) := by
  intro r s
  rw [tri_block m c t r s, tri_entry m c r s]

theorem q_in (t : Fin cfg0.N) (k : Fin 4) (h : Fin 8) : rowsOf (iblk m c 0 t) k h = rowsG (proj m c) 0 (bat t) (chk t k) h := by
  funext r d
  unfold rowsOf rowsG proj
  blk_ext [iblk, V, idx t]

theorem f_in (t : Fin cfg0.N) (k : Fin 4) (h : Fin 8) : rowsOf (iblk m c 1 t) k h = rowsG (proj m c) 1 (bat t) (chk t k) h := by
  funext r d
  unfold rowsOf rowsG proj
  blk_ext [iblk, V, idx t]

theorem v_in (t : Fin cfg0.N) (k : Fin 4) (h : Fin 8) : rowsOf (iblk m c 2 t) k h = rowsG (proj m c) 3 (bat t) (chk t k) h := by
  funext r d
  unfold rowsOf rowsG proj
  blk_ext [iblk, V, idx t]

/-- Within a grid point the heads' states are the recurrence's, when they are before its first chunk. -/
theorem chain_eq (t : Fin cfg0.N) (h : Fin 8) (s : Fin 8 → Fin 128 → Fin 128 → EReal)
    (hs : s h = stateG (proj m c) (bounds m c) (bat t) h (4 * (t.val % 33))) :
    ∀ k ≤ 4, chain (iblk m c 1 t) (iblk m c 2 t) (iblk m c 3 t) s h k = stateG (proj m c) (bounds m c) (bat t) h (4 * (t.val % 33) + k)
  | 0, _ => hs
  | k + 1, hk => by
    have e : (Fin.ofNat 132 (4 * (t.val % 33) + k)) = chk t (Fin.ofNat 4 k) := by
      apply Fin.ext
      show (4 * (t.val % 33) + k) % 132 = 4 * (t.val % 33) + k % 4
      omega
    rw [← Nat.add_assoc]
    show chunkState _ _ _ (chain _ _ _ s h k) = chunkState _ _ _ (stateG _ _ _ h (4 * (t.val % 33) + k))
    rw [chain_eq t h s hs k (by omega), lb_in, f_in, v_in, e]

set_option maxHeartbeats 2000000 in
/-- What a batch's first point leaves in its output block. -/
theorem out_first (t : Fin cfg0.N) (h0 : t.val % 33 = 0) :
    (outsAt0 m c t.val t.isLt).1 = pointOut (iblk m c 0 t) (iblk m c 1 t) (iblk m c 2 t) (iblk m c 3 t) (fun _ _ _ => 0) := by
  rw [outsAt0_A m c t h0]
  exact First.out_eq c (ms0_0 t) (hs0_0 t) (ms0_1 t) (hs0_1 t) (ms0_2 t) (hs0_2 t) (ms0_3 t) (hs0_3 t) (ms0_4 t) (hs0_4 t) scM0_0 (Memref.isWhole_whole _)
    (iblk m c 1 t) (iblk m c 2 t) (iblk m c 3 t) (iblk m c 4 t) (grid0.coords t) (ms0_5 t) (hs0_5 t) ((hcond0_0 t).mpr h0) (iblk m c 0 t) (tri_in m c t)

set_option maxHeartbeats 2000000 in
/-- What a later point leaves in its output block. -/
theorem out_later (t : Fin cfg0.N) (h0 : ¬ t.val % 33 = 0) :
    (outsAt0 m c t.val t.isLt).1 = pointOut (iblk m c 0 t) (iblk m c 1 t) (iblk m c 2 t) (iblk m c 3 t)
      (fun h e d => (outsAt0 m c (t.val - 1) (Nat.lt_of_le_of_lt (Nat.sub_le _ _) t.isLt)).2 (ix3 h e d)) := by
  rw [outsAt0_B m c t h0]
  exact Later.out_eq c (ms0_0 t) (hs0_0 t) (ms0_1 t) (hs0_1 t) (ms0_2 t) (hs0_2 t) (ms0_3 t) (hs0_3 t) (ms0_4 t) (hs0_4 t) scM0_0 (Memref.isWhole_whole _)
    (iblk m c 1 t) (iblk m c 2 t) (iblk m c 3 t) (iblk m c 4 t) (outsAt0 m c (t.val - 1) (Nat.lt_of_le_of_lt (Nat.sub_le _ _) t.isLt)).2 (grid0.coords t) (ms0_5 t) (hs0_5 t) (fun h => h0 ((hcond0_0 t).mp h)) (iblk m c 0 t) (tri_in m c t)

set_option maxHeartbeats 2000000 in
/-- What a batch's first point leaves in the carried scratch. -/
theorem state_first (t : Fin cfg0.N) (h0 : t.val % 33 = 0) (h : Fin 8) (e d : Fin 128) :
    (outsAt0 m c t.val t.isLt).2 (ix3 h e d) = chain (iblk m c 1 t) (iblk m c 2 t) (iblk m c 3 t) (fun _ _ _ => 0) h 4 e d := by
  rw [outsAt0_A m c t h0]
  exact First.state_eq c (ms0_0 t) (hs0_0 t) (ms0_1 t) (hs0_1 t) (ms0_2 t) (hs0_2 t) (ms0_3 t) (hs0_3 t) (ms0_4 t) (hs0_4 t) scM0_0 (Memref.isWhole_whole _)
    (iblk m c 1 t) (iblk m c 2 t) (iblk m c 3 t) (iblk m c 4 t) (grid0.coords t) (ms0_5 t) (hs0_5 t) ((hcond0_0 t).mpr h0) (iblk m c 0 t) (tri_in m c t) h e d

set_option maxHeartbeats 2000000 in
/-- What a later point leaves in the carried scratch. -/
theorem state_later (t : Fin cfg0.N) (h0 : ¬ t.val % 33 = 0) (h : Fin 8) (e d : Fin 128) :
    (outsAt0 m c t.val t.isLt).2 (ix3 h e d) = chain (iblk m c 1 t) (iblk m c 2 t) (iblk m c 3 t)
      (fun h e d => (outsAt0 m c (t.val - 1) (Nat.lt_of_le_of_lt (Nat.sub_le _ _) t.isLt)).2 (ix3 h e d)) h 4 e d := by
  rw [outsAt0_B m c t h0]
  exact Later.state_eq c (ms0_0 t) (hs0_0 t) (ms0_1 t) (hs0_1 t) (ms0_2 t) (hs0_2 t) (ms0_3 t) (hs0_3 t) (ms0_4 t) (hs0_4 t) scM0_0 (Memref.isWhole_whole _)
    (iblk m c 1 t) (iblk m c 2 t) (iblk m c 3 t) (iblk m c 4 t) (outsAt0 m c (t.val - 1) (Nat.lt_of_le_of_lt (Nat.sub_le _ _) t.isLt)).2 (grid0.coords t) (ms0_5 t) (hs0_5 t) (fun h => h0 ((hcond0_0 t).mp h)) (iblk m c 0 t) (tri_in m c t) h e d

/-- After a grid point the carried scratch is the state after its four chunks. -/
theorem scratch : ∀ (n : ℕ) (hn : n < cfg0.N) (h : Fin 8) (e d : Fin 128),
    (outsAt0 m c n hn).2 (ix3 h e d) = stateG (proj m c) (bounds m c) (bat ⟨n, hn⟩) h (4 * (n % 33) + 4) e d := by
  intro n
  induction n with
  | zero =>
    intro hn h e d
    refine (state_first m c ⟨0, hn⟩ rfl h e d).trans ?_
    rw [chain_eq m c ⟨0, hn⟩ h _ rfl 4 le_rfl]
  | succ n ih =>
    intro hn h e d
    by_cases h0 : (n + 1) % 33 = 0
    · refine (state_first m c ⟨n + 1, hn⟩ h0 h e d).trans ?_
      rw [chain_eq m c ⟨n + 1, hn⟩ h _ (by rw [show (⟨n + 1, hn⟩ : Fin cfg0.N).val = n + 1 from rfl, h0]; rfl) 4 le_rfl]
    · refine (state_later m c ⟨n + 1, hn⟩ h0 h e d).trans ?_
      rw [chain_eq m c ⟨n + 1, hn⟩ h _ ?_ 4 le_rfl]
      funext e d
      refine (ih (Nat.lt_of_succ_lt hn) h e d).trans ?_
      rw [show bat ⟨n, Nat.lt_of_succ_lt hn⟩ = bat ⟨n + 1, hn⟩ from Fin.ext (by show n / 33 = (n + 1) / 33; omega),
        show 4 * (n % 33) + 4 = 4 * ((n + 1) % 33) from by omega]

/-- What a point leaves in its output block, when its heads' states are the recurrence's. -/
theorem block_eq (t : Fin cfg0.N) (s : Fin 8 → Fin 128 → Fin 128 → EReal)
    (hs : ∀ h, s h = stateG (proj m c) (bounds m c) (bat t) h (4 * (t.val % 33))) (r : Fin 256) (l : Fin 1024) :
    pointOut (iblk m c 0 t) (iblk m c 1 t) (iblk m c 2 t) (iblk m c 3 t) s (ix3 0 r l)
      = outG (proj m c) (bounds m c) (bat t) ⟨256 * (t.val % 33) + r.val, by omega⟩ l := by
  have e : (⟨(256 * (t.val % 33) + r.val) / 64, by omega⟩ : Fin 132) = chk t ⟨r.val / 64, by omega⟩ := Fin.ext (by show (256 * (t.val % 33) + r.val) / 64 = 4 * (t.val % 33) + r.val / 64; omega)
  have e' : (⟨(256 * (t.val % 33) + r.val) % 64, by omega⟩ : Fin 64) = ⟨r.val % 64, by omega⟩ := Fin.ext (by show (256 * (t.val % 33) + r.val) % 64 = r.val % 64; omega)
  unfold outG outC
  rw [e, e']
  show chunkOut _ _ _ _ (chain _ _ _ s ⟨l.val / 128, _⟩ (r.val / 64)) _ _ = _
  rw [chain_eq m c t _ s (hs _) (r.val / 64) (by omega), lb_in]
  rw [← q_in, ← f_in, ← v_in]
  rfl

/-- The state a later point finds. -/
theorem found (t : Fin cfg0.N) (h0 : ¬ t.val % 33 = 0) (h : Fin 8) :
    (fun e d => (outsAt0 m c (t.val - 1) (Nat.lt_of_le_of_lt (Nat.sub_le _ _) t.isLt)).2 (ix3 h e d)) = stateG (proj m c) (bounds m c) (bat t) h (4 * (t.val % 33)) := by
  funext e d
  rw [scratch]
  rw [show bat ⟨t.val - 1, Nat.lt_of_le_of_lt (Nat.sub_le _ _) t.isLt⟩ = bat t from Fin.ext (by show (t.val - 1) / 33 = t.val / 33; omega),
    show 4 * ((t.val - 1) % 33) + 4 = 4 * (t.val % 33) from by omega]

/-- What a point leaves in its output block. -/
theorem out_at (t : Fin cfg0.N) (r : Fin 256) (l : Fin 1024) :
    (outsAt0 m c t.val t.isLt).1 (ix3 0 r l) = outG (proj m c) (bounds m c) (bat t) ⟨256 * (t.val % 33) + r.val, by omega⟩ l := by
  by_cases h0 : t.val % 33 = 0
  · rw [out_first m c t h0]
    exact block_eq m c t _ (fun h => by rw [h0]; rfl) r l
  · rw [out_later m c t h0]
    exact block_eq m c t _ (found m c t h0) r l

/-- The recurrence's output, as an array. -/
def W (y : S2x8448x1024.Idx) : EReal := outG (proj m c) (bounds m c) (y 0) (y 1) (y 2)

/-- The kernel's output array is the recurrence's output. -/
theorem final : (dats m 0 c).arrAt 5 cfg0.N = W m c := by
  refine (dats m 0 c).arrAt_eq_of_covers 5 _ (by decide +kernel) fun t _ y => ?_
  blk_simp
  rw [after0_5]
  obtain ⟨a, r, l, rfl⟩ : ∃ a r l, y = ix3 a r l := ⟨y 0, y 1, y 2, by funext k; fin_cases k <;> rfl⟩
  obtain rfl : a = 0 := Subsingleton.elim _ _
  refine (out_at m c t r l).trans ?_
  unfold W
  obtain ⟨_, _, _, _, _, h5⟩ := idx t
  congr 1 <;> (apply Fin.ext; blk_simp [h5])
  · show t.val / 33 = t.val / 33 + 0
    rfl
  · show 256 * (t.val % 33) + r.val = t.val % 33 * 256 + r.val
    omega

end Cert.Scan
end
-- ==== Proof.ScanRef.lean ====
module

public import proofs.«01_k».proof.Proof.ScanWhole
public import proofs.«01_k».proof.Proof.Gen.ReferenceIdeal.Step
public import Idealize.ShloMosaic.Lib.Pipeline.ValueKit

/-! The reference's arrays before its loop, read at an index: gates, decays summed along a chunk, attention. -/

@[expose] public section

set_option maxRecDepth 16384

noncomputable section

namespace Cert.ScanRef

open Idealize.ShloMosaic Idealize.ShloMosaic.TcCoe Idealize.SL.Sem
open Cert.ReferenceIdeal Cert.ReferenceIdeal.Step Cert.Scan

variable (a0 : FVec Ideal S2x8448x6144 .f32) (a1 : FVec Ideal S2x1024 .f32)

/-- The projections by batch, row and column. -/
def P (b : Fin 2) (r : Fin 8448) (l : Fin 6144) : EReal := a0 (ix3 b r l)

/-- The layer's lower bounds. -/
def LB (l : Fin 1024) : EReal := a1 (ix2 0 l)

theorem q_at (b : Fin 2) (h : Fin 8) (n : Fin 132) (t : Fin 64) (d : Fin 128) :
    A_main_v30 (F := Ideal) a0 a1 (ix5 b h n t d) = rowsG (P a0) 0 b n h t d := by
  pointwise [A_main_v30, A_main_v29, A_main_v6, A_main_v1, A_main_v0, rowsG, P]
  congr! 3 <;> omega

theorem v_at (b : Fin 2) (h : Fin 8) (n : Fin 132) (t : Fin 64) (d : Fin 128) :
    A_main_v34 (F := Ideal) a0 a1 (ix5 b h n t d) = rowsG (P a0) 3 b n h t d := by
  pointwise [A_main_v34, A_main_v33, A_main_v7, A_main_v4, A_main_v0, rowsG, P]
  congr! 3 <;> omega

theorem lb_at (h : Fin 8) (d : Fin 128) : A_main_v10 (F := Ideal) a0 a1 (ix2 h d) = lbG (LB a1) h d := by
  pointwise [A_main_v10, A_main_v9, A_main_v8, lbG, LB]
  congr! 3 <;> omega

theorem gate_at (b : Fin 2) (n : Fin 132) (t : Fin 64) (h : Fin 8) (d : Fin 128) :
    A_main_v25 (F := Ideal) a0 a1 (ix4 b ⟨64 * n.val + t.val, by omega⟩ h d) = gate (lbG (LB a1) h) (rowsG (P a0) 1 b n h) t d := by
  pointwise [A_main_v25, A_main_v24, A_main_v23, A_main_v22, A_main_v21, A_main_v20, A_main_v19, A_main_v17, A_main_v15, A_main_v14, A_main_v13, A_main_v12, lb_at,
    A_main_v2, A_main_v0, rowsG, P, K_main_v11, K_main_cst, K_main_v16, K_main_cst_0, K_main_v18, K_main_cst_1, gate]
  simp only [show 1024 + (h.val * 128 + d.val) = 1024 + 128 * h.val + d.val by omega]
  rfl

theorem key_at (b : Fin 2) (h : Fin 8) (n : Fin 132) (t : Fin 64) (d : Fin 128) :
    A_main_v32 (F := Ideal) a0 a1 (ix5 b h n t d) = 1 - gate (lbG (LB a1) h) (rowsG (P a0) 1 b n h) t d := by
  rw [← gate_at]
  pointwise [A_main_v32, A_main_v31, A_main_v27, K_main_v26, K_main_cst_2]
  simp only [Nat.mul_comm n.val 64]

theorem log_at (b : Fin 2) (h : Fin 8) (n : Fin 132) (t : Fin 64) (d : Fin 128) :
    A_main_v36 (F := Ideal) a0 a1 (ix5 b h n t d) = Ideal.log (gate (lbG (LB a1) h) (rowsG (P a0) 1 b n h) t d) := by
  rw [← gate_at]
  pointwise [A_main_v36, A_main_v35, A_main_v28]
  simp only [Nat.mul_comm n.val 64]

/-- A window of 64 rows that ends at row `t`, rows before the first counting nothing, sums the rows up to `t`. -/
theorem window_sum (f : Fin 64 → EReal) (t : Fin 64) :
    (∑ n : Fin 64, if h : 63 ≤ t.val + n.val then f ⟨t.val + n.val - 63, by omega⟩ else 0) = ∑ s, if s ≤ t then f s else 0 := by
  rw [← Finset.sum_filter_add_sum_filter_not Finset.univ (fun n : Fin 64 => 63 ≤ t.val + n.val)]
  rw [← Finset.sum_filter (fun s => s ≤ t) f]
  rw [Finset.sum_eq_zero (s := Finset.univ.filter fun n : Fin 64 => ¬ 63 ≤ t.val + n.val) (fun n hn => dif_neg (Finset.mem_filter.mp hn).2), add_zero]
  refine Finset.sum_bij' (fun n _ => ⟨t.val + n.val - 63, by omega⟩) (fun s hs => ⟨s.val + 63 - t.val, by
      have h := (Finset.mem_filter.mp hs).2
      have h' : s.val ≤ t.val := h
      omega⟩) ?_ ?_ ?_ ?_ ?_
  · intro n hn
    have h := (Finset.mem_filter.mp hn).2
    exact Finset.mem_filter.mpr ⟨Finset.mem_univ _, by show t.val + n.val - 63 ≤ t.val; omega⟩
  · intro s hs
    have h : s.val ≤ t.val := (Finset.mem_filter.mp hs).2
    exact Finset.mem_filter.mpr ⟨Finset.mem_univ _, by show 63 ≤ t.val + (s.val + 63 - t.val); omega⟩
  · intro n hn
    have h := (Finset.mem_filter.mp hn).2
    apply Fin.ext
    show t.val + n.val - 63 + 63 - t.val = n.val
    omega
  · intro s hs
    have h : s.val ≤ t.val := (Finset.mem_filter.mp hs).2
    apply Fin.ext
    show t.val + (s.val + 63 - t.val) - 63 = s.val
    omega
  · intro n hn
    rw [dif_pos (Finset.mem_filter.mp hn).2]

/-- A left fold of additions from zero is the sum. -/
theorem fold_sum (N : ℕ) (g : Fin N → EReal) : (List.finRange N).foldl (fun r n => r + g n) 0 = ∑ n, g n := by
  rw [Fin.sum_univ_def, List.sum_eq_foldl, List.foldl_map]

/-- The shape of the window of 64 rows. -/
abbrev WS : Shape := ⟨5, ![1, 1, 1, 64, 1]⟩

theorem numel_WS : WS.numel = 64 := by decide +kernel

/-- The window's `n`-th position is its `n`-th row. -/
theorem position (n : Fin WS.numel) : (WS.rowMajor.symm n 0).val = 0 ∧ (WS.rowMajor.symm n 1).val = 0 ∧ (WS.rowMajor.symm n 2).val = 0
    ∧ (WS.rowMajor.symm n 3).val = n.val ∧ (WS.rowMajor.symm n 4).val = 0 := by
  obtain ⟨w, rfl⟩ := WS.rowMajor.surjective n
  rw [Equiv.symm_apply_apply]
  have h0 : (w 0).val < 1 := (w 0).isLt
  have h1 : (w 1).val < 1 := (w 1).isLt
  have h2 : (w 2).val < 1 := (w 2).isLt
  have h4 : (w 4).val < 1 := (w 4).isLt
  have e : (WS.rowMajor w).val = ((((w 0).val * 1 + (w 1).val) * 1 + (w 2).val) * 64 + (w 3).val) * 1 + (w 4).val := Shape.rowMajor_val_five w
  refine ⟨by omega, by omega, by omega, ?_, by omega⟩
  omega

/-- The reference's sums over windows of 64 rows that end at a row: the sums of the rows up to it. -/
theorem window_at (x : S2x8x132x64x128.Idx → EReal) (hw : S2x8x132x64x128.ReduceWindows ![1, 1, 1, 64, 1] ![1, 1, 1, 1, 1] ![0, 0, 0, 63, 0] ![0, 0, 0, 0, 0] S2x8x132x64x128)
    (b : Fin 2) (h : Fin 8) (n : Fin 132) (t : Fin 64) (d : Fin 128) :
    Ideal.hostReduceWindowAdd ![1, 1, 1, 64, 1] ![1, 1, 1, 1, 1] ![0, 0, 0, 63, 0] ![0, 0, 0, 0, 0] hw x 0 (ix5 b h n t d)
      = ∑ s, if s ≤ t then x (ix5 b h n s d) else 0 := by
  rw [← window_sum]
  unfold Ideal.hostReduceWindowAdd Host.reduceWindow
  dsimp only
  refine (fold_sum _ _).trans ?_
  refine Fintype.sum_equiv (finCongr numel_WS) _ _ fun k => ?_
  obtain ⟨e0, e1, e2, e3, e4⟩ := position k
  by_cases hk : 63 ≤ t.val + k.val
  · rw [dif_pos (by
      intro a
      fin_cases a
      · show 0 ≤ b.val * 1 + (WS.rowMajor.symm k 0).val ∧ b.val * 1 + (WS.rowMajor.symm k 0).val - 0 < 2
        omega
      · show 0 ≤ h.val * 1 + (WS.rowMajor.symm k 1).val ∧ h.val * 1 + (WS.rowMajor.symm k 1).val - 0 < 8
        omega
      · show 0 ≤ n.val * 1 + (WS.rowMajor.symm k 2).val ∧ n.val * 1 + (WS.rowMajor.symm k 2).val - 0 < 132
        omega
      · show 63 ≤ t.val * 1 + (WS.rowMajor.symm k 3).val ∧ t.val * 1 + (WS.rowMajor.symm k 3).val - 63 < 64
        have := lt_of_lt_of_eq k.isLt numel_WS
        omega
      · show 0 ≤ d.val * 1 + (WS.rowMajor.symm k 4).val ∧ d.val * 1 + (WS.rowMajor.symm k 4).val - 0 < 128
        omega), dif_pos (show 63 ≤ t.val + (finCongr numel_WS k).val from hk)]
    congr 1
    funext a
    apply Fin.ext
    fin_cases a
    · show b.val * 1 + (WS.rowMajor.symm k 0).val - 0 = b.val
      omega
    · show h.val * 1 + (WS.rowMajor.symm k 1).val - 0 = h.val
      omega
    · show n.val * 1 + (WS.rowMajor.symm k 2).val - 0 = n.val
      omega
    · show t.val * 1 + (WS.rowMajor.symm k 3).val - 63 = t.val + k.val - 63
      omega
    · show d.val * 1 + (WS.rowMajor.symm k 4).val - 0 = d.val
      omega
  · rw [dif_neg, dif_neg (show ¬ 63 ≤ t.val + (finCongr numel_WS k).val from hk)]
    intro hin
    have := (hin 3).1
    change 63 ≤ t.val * 1 + (WS.rowMajor.symm k 3).val at this
    omega

theorem cum_at (b : Fin 2) (h : Fin 8) (n : Fin 132) (t : Fin 64) (d : Fin 128) :
    A_main_v37 (F := Ideal) a0 a1 (ix5 b h n t d) = cum (lbG (LB a1) h) (rowsG (P a0) 1 b n h) t d := by
  have hz : ∀ i, K_main_call0_call0_v0 (F := Ideal) i = (0 : EReal) := by
    intro i
    pointwise [K_main_call0_call0_v0, K_main_call0_call0_cst]
  unfold A_main_v37
  refine (congrArg (fun z => Ideal.hostReduceWindowAdd ![1, 1, 1, 64, 1] ![1, 1, 1, 1, 1] ![0, 0, 0, 63, 0] ![0, 0, 0, 0, 0]
    Gen.reduceWindows_S2x8x132x64x128_S2x8x132x64x128_w1s1p0_0_w1s1p0_0_w1s1p0_0_w64s1p63_0_w1s1p0_0 (A_main_v36 (F := Ideal) a0 a1) z (ix5 b h n t d)) (hz (Shape.Idx.first Gen.h_S_))).trans ?_
  refine (window_at _ _ b h n t d).trans ?_
  unfold cum
  simp only [log_at]

theorem tril : ∀ t s : Fin 64, IntOp.cmpi CmpIPredicate.sge (IntOp.addi (BitVec.ofNat 32 t.val) 0#32) (BitVec.ofNat 32 s.val)
    = if s ≤ t then 1#1 else 0#1 := by decide +kernel

theorem att_at (b : Fin 2) (h : Fin 8) (n : Fin 132) (t s : Fin 64) :
    A_main_v50 (F := Ideal) a0 a1 (ix5 b h n t s) = att (lbG (LB a1) h) (rowsG (P a0) 1 b n h) (rowsG (P a0) 0 b n h) t s := by
  pointwise [A_main_v50, A_main_v47, A_main_v46, A_main_v45, A_main_v44, A_main_v43, A_main_v42, A_main_v41, A_main_v40, A_main_v39, A_main_v38, cum_at, q_at, key_at,
    K_main_call2_v1, K_main_v49, K_main_call1_v4, K_main_call1_v2, K_main_call1_v0, K_main_call1_v1, K_main_call1_c, K_main_call1_v3, K_main_v48, K_main_c,
    K_main_call1_v5, K_main_call1_c_0, K_main_call2_v2, K_main_call2_v0, K_main_cst_3, att]
  have hz : (constant (F := Ideal) S_ FTy.f32 0#32) ix0 = (0 : EReal) := by pointwise
  rw [tril, id_eq, hz]
  by_cases hs : s ≤ t <;> simp [hs, Scalar.select]

theorem within_at (n : Fin 132) (b : Fin 2) (h : Fin 8) (t : Fin 64) (e : Fin 128) :
    A_main_v66 (F := Ideal) a0 a1 (ix5 n b h t e)
      = ∑ s, att (lbG (LB a1) h) (rowsG (P a0) 1 b n h) (rowsG (P a0) 0 b n h) t s * rowsG (P a0) 3 b n h s e := by
  pointwise [A_main_v66, A_main_v59, att_at, v_at]

theorem query_at (n : Fin 132) (b : Fin 2) (h : Fin 8) (t : Fin 64) (d : Fin 128) :
    A_main_v67 (F := Ideal) a0 a1 (ix5 n b h t d)
      = rowsG (P a0) 0 b n h t d * Ideal.exp (cum (lbG (LB a1) h) (rowsG (P a0) 1 b n h) t d) := by
  pointwise [A_main_v67, A_main_v61, A_main_v60, q_at, cum_at]

theorem decay_at (n : Fin 132) (b : Fin 2) (h : Fin 8) (d : Fin 128) :
    A_main_v64 (F := Ideal) a0 a1 (ix4 n b h d) = Ideal.exp (cum (lbG (LB a1) h) (rowsG (P a0) 1 b n h) ⟨63, by omega⟩ d) := by
  pointwise [A_main_v64, A_main_v63, A_main_v52, A_main_v51, cum_at]

theorem gain_at (n : Fin 132) (b : Fin 2) (h : Fin 8) (d e : Fin 128) :
    A_main_v65 (F := Ideal) a0 a1 (ix5 n b h d e)
      = ∑ s, ((1 - gate (lbG (LB a1) h) (rowsG (P a0) 1 b n h) s d)
          * Ideal.exp (cum (lbG (LB a1) h) (rowsG (P a0) 1 b n h) ⟨63, by omega⟩ d - cum (lbG (LB a1) h) (rowsG (P a0) 1 b n h) s d))
          * rowsG (P a0) 3 b n h s e := by
  pointwise [A_main_v65, A_main_v58, A_main_v57, A_main_v56, A_main_v55, A_main_v54, A_main_v53, A_main_v52, A_main_v51, cum_at, key_at, v_at]

/-- The sequence of the loop's states. -/
def it : ℕ → State Ideal
  | 0 => init (F := Ideal) a0 a1
  | n + 1 => step n (it n)

/-- The loop keeps the arrays it reads its trips' operands from. -/
theorem it_const (n : ℕ) : (it a0 a1 n).main_v69_0 = A_main_v64 a0 a1 ∧ (it a0 a1 n).main_v69_1 = A_main_v65 a0 a1
    ∧ (it a0 a1 n).main_v69_2 = A_main_v66 a0 a1 ∧ (it a0 a1 n).main_v69_3 = A_main_v67 a0 a1 := by
  induction n with
  | zero => exact ⟨rfl, rfl, rfl, rfl⟩
  | succ n ih => exact ih

end Cert.ScanRef
end
-- ==== Proof.ScanLoop.lean ====
module

public import proofs.«01_k».proof.Proof.ScanRef
public import Idealize.ShloMosaic.Lib.DynamicIndex

/-! The reference's loop: each trip's new state and outputs, and the result it ends with. -/

@[expose] public section

set_option maxRecDepth 16384

noncomputable section

namespace Cert.ScanRef

open Idealize.ShloMosaic Idealize.ShloMosaic.TcCoe Idealize.SL.Sem
open Cert.ReferenceIdeal Cert.ReferenceIdeal.Step Cert.Scan

/-- A trip's number, read as the loop's counter. -/
theorem count (n : Fin 132) : (BitVec.ofNat 32 n.val).toInt = (n.val : Int) := toInt_ofNat_of_lt (by omega)

/-- A trip's starts in an array of five axes. -/
theorem starts5 (n : Fin 132) (i : S_.Idx) : (fun k : Fin 5 => ((![(constantI S_ 32 (BitVec.ofNat 32 n.val)), constantI S_ 32 0#32, constantI S_ 32 0#32, constantI S_ 32 0#32, constantI S_ 32 0#32] : Fin 5 → IVec S_ 32) k i).toInt)
    = fun a => ((![n.val, 0, 0, 0, 0] : Fin 5 → ℕ) a : Int) := by
  funext k
  fin_cases k
  · exact count n
  all_goals rfl

/-- A trip's starts in an array of four axes. -/
theorem starts4 (n : Fin 132) (i : S_.Idx) : (fun k : Fin 4 => ((![(constantI S_ 32 (BitVec.ofNat 32 n.val)), constantI S_ 32 0#32, constantI S_ 32 0#32, constantI S_ 32 0#32] : Fin 4 → IVec S_ 32) k i).toInt)
    = fun a => ((![n.val, 0, 0, 0] : Fin 4 → ℕ) a : Int) := by
  funext k
  fin_cases k
  · exact count n
  all_goals rfl

section
variable {A B : ℕ}

theorem fits5 (n : Fin 132) : (⟨5, ![132, 2, 8, A, B]⟩ : Shape).Slices ![n.val, 0, 0, 0, 0] ⟨5, ![1, 2, 8, A, B]⟩ := by
  refine ⟨rfl, fun a => ?_⟩
  fin_cases a
  · show n.val + 1 ≤ 132
    omega
  · show 0 + 2 ≤ 2
    omega
  · show 0 + 8 ≤ 8
    omega
  · show 0 + A ≤ A
    omega
  · show 0 + B ≤ B
    omega

/-- A block of the trip's number read off an array of five axes. -/
theorem slice5 (x : (⟨5, ![132, 2, 8, A, B]⟩ : Shape).Idx → EReal) (n : Fin 132) (hf : (⟨5, ![132, 2, 8, A, B]⟩ : Shape).Slices (fun _ => 0) ⟨5, ![1, 2, 8, A, B]⟩)
    (b : Fin 2) (h : Fin 8) (i : Fin A) (j : Fin B) :
    Host.dynamicSlice ⟨5, ![1, 2, 8, A, B]⟩ x (fun a => ((![n.val, 0, 0, 0, 0] : Fin 5 → ℕ) a : Int)) hf (ix5 0 b h i j) = x (ix5 n b h i j) := by
  rw [Host.dynamicSlice_eq_extractStridedSlice _ x _ ![n.val, 0, 0, 0, 0] hf (fits5 n) (fun _ => rfl)]
  pointwise
  congr 1
  funext a
  apply Fin.ext
  fin_cases a
  · rfl
  all_goals exact Nat.zero_add _

theorem fits4 (n : Fin 132) : (⟨4, ![132, 2, 8, A]⟩ : Shape).Slices ![n.val, 0, 0, 0] ⟨4, ![1, 2, 8, A]⟩ := by
  refine ⟨rfl, fun a => ?_⟩
  fin_cases a
  · show n.val + 1 ≤ 132
    omega
  · show 0 + 2 ≤ 2
    omega
  · show 0 + 8 ≤ 8
    omega
  · show 0 + A ≤ A
    omega

/-- A block of the trip's number read off an array of four axes. -/
theorem slice4 (x : (⟨4, ![132, 2, 8, A]⟩ : Shape).Idx → EReal) (n : Fin 132) (hf : (⟨4, ![132, 2, 8, A]⟩ : Shape).Slices (fun _ => 0) ⟨4, ![1, 2, 8, A]⟩)
    (b : Fin 2) (h : Fin 8) (i : Fin A) :
    Host.dynamicSlice ⟨4, ![1, 2, 8, A]⟩ x (fun a => ((![n.val, 0, 0, 0] : Fin 4 → ℕ) a : Int)) hf (ix4 0 b h i) = x (ix4 n b h i) := by
  rw [Host.dynamicSlice_eq_extractStridedSlice _ x _ ![n.val, 0, 0, 0] hf (fits4 n) (fun _ => rfl)]
  pointwise
  congr 1
  funext a
  apply Fin.ext
  fin_cases a
  · rfl
  all_goals exact Nat.zero_add _

/-- A block of the trip's number written into an array of five axes. -/
theorem update5 (x : (⟨5, ![132, 2, 8, A, B]⟩ : Shape).Idx → EReal) (u : (⟨5, ![1, 2, 8, A, B]⟩ : Shape).Idx → EReal) (n : Fin 132) (hf : (⟨5, ![132, 2, 8, A, B]⟩ : Shape).Slices (fun _ => 0) ⟨5, ![1, 2, 8, A, B]⟩)
    (n' : Fin 132) (b : Fin 2) (h : Fin 8) (i : Fin A) (j : Fin B) :
    Host.dynamicUpdateSlice x u (fun a => ((![n.val, 0, 0, 0, 0] : Fin 5 → ℕ) a : Int)) hf (ix5 n' b h i j) = if n' = n then u (ix5 0 b h i j) else x (ix5 n' b h i j) := by
  rw [Host.dynamicUpdateSlice_eq_updateSlice x u _ hf ![n.val, 0, 0, 0, 0] (fun a => by have := (fits5 (A := A) (B := B) n).2 a; omega) (fits5 n)]
  pointwise
  by_cases hn : n' = n
  · subst hn
    rw [if_pos rfl, dif_pos ⟨le_refl _, Nat.lt_succ_self _⟩]
    congr 1
    funext a
    apply Fin.ext
    fin_cases a
    · exact Nat.sub_self n'.val
    all_goals rfl
  · rw [if_neg hn, dif_neg (fun h => hn (Fin.ext (by omega)))]

end

/-- A trip's new state. -/
theorem state_step (n : Fin 132) (s : State Ideal) (b : Fin 2) (h : Fin 8) (d e : Fin 128) :
    b28 (F := Ideal) n.val s (ix4 b h d e) = s.main_v69_5 (ix4 b h d e) * s.main_v69_0 (ix4 n b h d) + s.main_v69_1 (ix5 n b h d e) := by
  have h9 : ∀ d e, b9 (F := Ideal) n.val s (ix5 0 b h d e) = s.main_v69_1 (ix5 n b h d e) := by
    intro d e
    unfold b9 b5 b6 b7 b8
    rw [starts5]
    exact slice5 s.main_v69_1 n _ b h d e
  have h3 : ∀ d, b3 (F := Ideal) n.val s (ix4 0 b h d) = s.main_v69_0 (ix4 n b h d) := by
    intro d
    unfold b3 b0 b1 b2
    rw [starts4]
    exact slice4 s.main_v69_0 n _ b h d
  pointwise [b28, b27, b26, b25, b10, b4, h9, h3]

/-- A trip's outputs, written at the trip's number. -/
theorem out_step (n : Fin 132) (s : State Ideal) (n' : Fin 132) (b : Fin 2) (h : Fin 8) (t : Fin 64) (e : Fin 128) :
    b34 (F := Ideal) n.val s (ix5 n' b h t e) = if n' = n then s.main_v69_2 (ix5 n b h t e) + ∑ d, s.main_v69_3 (ix5 n b h t d) * s.main_v69_5 (ix4 b h d e)
      else s.main_v69_6 (ix5 n' b h t e) := by
  have h15 : ∀ t d, b15 (F := Ideal) n.val s (ix5 0 b h t d) = s.main_v69_2 (ix5 n b h t d) := by
    intro t d
    unfold b15 b11 b12 b13 b14
    rw [starts5]
    exact slice5 s.main_v69_2 n _ b h t d
  have h21 : ∀ t d, b21 (F := Ideal) n.val s (ix5 0 b h t d) = s.main_v69_3 (ix5 n b h t d) := by
    intro t d
    unfold b21 b17 b18 b19 b20
    rw [starts5]
    exact slice5 s.main_v69_3 n _ b h t d
  have h29 : b29 (F := Ideal) n.val s (ix5 0 b h t e) = s.main_v69_2 (ix5 n b h t e) + ∑ d, s.main_v69_3 (ix5 n b h t d) * s.main_v69_5 (ix4 b h d e) := by
    pointwise [b29, b24, b23, b22, b16, h15, h21]
  rw [← h29]
  unfold b34 b30 b31 b32 b33
  rw [starts5]
  exact update5 s.main_v69_6 (b29 (F := Ideal) n.val s) n _ n' b h t e

/-- The result of a last state. -/
theorem result_at (s : State Ideal) (b : Fin 2) (r : Fin 8448) (l : Fin 1024) :
    R_main_v73 (F := Ideal) s (ix3 b r l)
      = s.main_v69_6 (ix5 ⟨r.val / 64, by omega⟩ b ⟨l.val / 128, by omega⟩ ⟨r.val % 64, by omega⟩ ⟨l.val % 128, by omega⟩) := by
  pointwise [R_main_v73]

end Cert.ScanRef
end
-- ==== Proof.ScanRefRun.lean ====
module

public import proofs.«01_k».proof.Proof.Gen.ReferenceIdeal.Run
public import proofs.«01_k».proof.Proof.Gen.ReferenceIdeal.Step

/-! The run of the scan's reference as its chunk step iterated: the loop's valuation holds, before trip `j`, the `j`-th
state of the sequence that starts at `init` of the arguments and goes on by `step`. -/

@[expose] public section

noncomputable section

namespace Cert.ScanRef

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The state a valuation of the loop's buffers holds. -/
def held (W : Valuation τ sig (Elt F)) : State F where
  main_v69_5 := W (Proc.devRef .tc main_v69_5)
  main_v69_6 := W (Proc.devRef .tc main_v69_6)
  main_v69_0 := W (Proc.devRef .tc main_v69_0)
  main_v69_1 := W (Proc.devRef .tc main_v69_1)
  main_v69_2 := W (Proc.devRef .tc main_v69_2)
  main_v69_3 := W (Proc.devRef .tc main_v69_3)

/-- The valuation's counter holds the trip's number. -/
def Counts (W : Valuation τ sig (Elt F)) (j : ℕ) : Prop :=
  W (Proc.devRef .tc main_v69_4) = constantI S_ 32 (BitVec.ofNat 32 j)

variable {W : Valuation τ sig (Elt F)} {j : ℕ}

set_option maxRecDepth 8192 in
/-- One trip's new recurrent state is the step's. -/
theorem step_state (h : Counts W j) : Value.step_main_v69_5 W = b28 j (held W) := by
  unfold Counts at h
  unfold Value.step_main_v69_5 b28 b27 b26 b25 b10 b9 b4 b3 b0 b1 b2 b5 b6 b7 b8 held
  rw [h]
  rfl

set_option maxRecDepth 8192 in
/-- One trip's outputs, with its chunk written, are the step's. -/
theorem step_out (h : Counts W j) : Value.step_main_v69_6 W = b34 j (held W) := by
  unfold Counts at h
  unfold Value.step_main_v69_6 b34 b29 b24 b23 b22 b21 b20 b19 b18 b17 b16 b15 b14 b13 b12 b11 b30 b31 b32 b33 held
  rw [h]
  rfl

/-- One trip's counter is the next number. -/
theorem step_count (h : Counts W j) : step_main_v69_4 W = constantI S_ 32 (BitVec.ofNat 32 (j + 1)) := by
  unfold Counts at h
  unfold step_main_v69_4
  rw [h]
  funext i
  show BitVec.ofNat 32 j + 1#32 = BitVec.ofNat 32 (j + 1)
  simp only [BitVec.ofNat_add]

/-- One trip makes `step` of the held state, and counts on. -/
theorem held_step (h : Counts W j) : held (STEP W) = step j (held W) ∧ Counts (STEP W) (j + 1) := by
  refine ⟨?_, (STEP_main_v69_4 W).trans (step_count h)⟩
  unfold step
  rw [← step_state h, ← step_out h]
  unfold held
  rw [STEP_main_v69_0, STEP_main_v69_1, STEP_main_v69_2, STEP_main_v69_3, STEP_main_v69_5, STEP_main_v69_6]

variable (m : (ℓ : Loc nD τ sig) → Buf (Elt F) ℓ) (c : Dev nD)

/-- The state the first trip starts from. -/
abbrev initState : State F :=
  init (m ((c.tc : Thread nD τ).loc main_arg0)) (m ((c.tc : Thread nD τ).loc main_arg1))

set_option maxRecDepth 65536 in
set_option maxHeartbeats 600000 in
/-- The loop is entered at the initial state, counter zero. -/
theorem entry : held (entryContents preI m c) = initState m c ∧ Counts (entryContents preI m c) 0 := by
  constructor
  · unfold held initState init
    congr 1 <;> (simp only [entryContents, afterL_cons, afterL_nil]; after_reads_simp) <;> rfl
  · unfold Counts
    (simp only [entryContents, afterL_cons, afterL_nil]; after_reads_simp) <;> rfl

/-- Before trip `k` the loop holds the `k`-th state. -/
theorem held_iter (it : ℕ → State F) (h0 : it 0 = initState m c) (hs : ∀ n, it (n + 1) = step n (it n)) :
    ∀ k, held (STEP^[k] (entryContents preI m c)) = it k ∧ Counts (STEP^[k] (entryContents preI m c)) k
  | 0 => h0 ▸ entry m c
  | k + 1 => by
    have ih := held_iter it h0 hs k
    have h := held_step ih.2
    rw [Function.iterate_succ_apply', hs k, ← ih.1]
    exact h

/-- The result, read off the loop's last valuation, is read off its state. -/
theorem out_held (W : Valuation τ sig (Elt F)) : out_main_v73 W = R_main_v73 (held W) := by
  unfold out_main_v73 R_main_v73 held
  rfl

/-- Every execution of the reference ends with its result read off the last state of the sequence. -/
theorem run_iter (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v73) = R_main_v73 (it c 132)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2.1, (h c).2.2⟩
    rw [out_held, (held_iter m c (it c) (h0 c) (hs c) 132).1]) (Cert.ReferenceIdeal.Value.run m ρ)

end Cert.ScanRef

end
-- ==== Proof.ScanClaim.lean ====
module

public import proofs.«01_k».proof.Proof.ScanFinal
public import proofs.«01_k».proof.Proof.ScanLoop
public import proofs.«01_k».proof.Proof.ScanRefRun
public import proofs.«01_k».proof.Defs
public import Idealize.ShloMosaic.Lib.Claim

/-! The reference's result is the recurrence's output, so the kernel's output array is the reference's. -/

@[expose] public section

set_option maxRecDepth 16384

noncomputable section

namespace Cert.ScanRef

open Idealize.ShloMosaic Idealize.ShloMosaic.TcCoe Idealize.SL.Sem
open Cert.ReferenceIdeal Cert.ReferenceIdeal.Step Cert.Scan

variable (a0 : FVec Ideal S2x8448x6144 .f32) (a1 : FVec Ideal S2x1024 .f32)

/-- Before trip `n` the loop's state is the recurrence's, key lane first. -/
theorem state_at : ∀ n ≤ 132, ∀ (b : Fin 2) (h : Fin 8) (d e : Fin 128),
    (it a0 a1 n).main_v69_5 (ix4 b h d e) = stateG (P a0) (LB a1) b h n e d
  | 0, _, b, h, d, e => by
    show K_main_v62 (F := Ideal) (ix4 b h d e) = 0
    pointwise [K_main_v62, K_main_cst_4]
  | n + 1, hn, b, h, d, e => by
    obtain ⟨c0, c1, _, _⟩ := it_const a0 a1 n
    show b28 (F := Ideal) n (it a0 a1 n) (ix4 b h d e) = _
    refine (state_step ⟨n, by omega⟩ (it a0 a1 n) b h d e).trans ?_
    rw [state_at n (by omega), c0, c1, decay_at, gain_at]
    show _ = chunkState _ _ _ _ e d
    unfold chunkState
    have en : Fin.ofNat 132 n = ⟨n, by omega⟩ := Fin.ext (Nat.mod_eq_of_lt (by omega))
    rw [en]
    congr 1
    exact Finset.sum_congr rfl fun s _ => mul_comm _ _

/-- After the trips before `n` their outputs are written. -/
theorem out_at : ∀ n ≤ 132, ∀ (k : Fin 132), k.val < n → ∀ (b : Fin 2) (h : Fin 8) (t : Fin 64) (e : Fin 128),
    (it a0 a1 n).main_v69_6 (ix5 k b h t e) = outC (P a0) (LB a1) b h k t e
  | 0, _, k, hk, _, _, _, _ => absurd hk (Nat.not_lt_zero _)
  | n + 1, hn, k, hk, b, h, t, e => by
    obtain ⟨_, _, c2, c3⟩ := it_const a0 a1 n
    show b34 (F := Ideal) n (it a0 a1 n) (ix5 k b h t e) = _
    refine (out_step ⟨n, by omega⟩ (it a0 a1 n) k b h t e).trans ?_
    by_cases hkn : k = ⟨n, by omega⟩
    · rw [if_pos hkn, c2, c3, within_at, hkn]
      simp only [query_at, state_at a0 a1 n (by omega)]
      rfl
    · rw [if_neg hkn]
      exact out_at n (by omega) k (by
        have : k.val ≠ n := fun h => hkn (Fin.ext h)
        omega) b h t e

/-- The reference's result is the recurrence's output. -/
theorem result (b : Fin 2) (r : Fin 8448) (l : Fin 1024) :
    R_main_v73 (F := Ideal) (it a0 a1 132) (ix3 b r l) = outG (P a0) (LB a1) b r l := by
  rw [result_at, out_at a0 a1 132 le_rfl _ (by show r.val / 64 < 132; omega)]
  rfl

end Cert.ScanRef

namespace Cert.Scan

open Idealize.ShloMosaic Idealize.ShloMosaic.TcCoe Idealize.SL.Sem

/-- The kernel's output array is the reference's result, of equal arguments. -/
theorem same (m : (ℓ : Loc KernelIdeal.nD KernelIdeal.τ KernelIdeal.sig) → Buf (Elt Ideal) ℓ) (c : Dev KernelIdeal.nD)
    (a0 : FVec Ideal ReferenceIdeal.S2x8448x6144 .f32) (a1 : FVec Ideal ReferenceIdeal.S2x1024 .f32)
    (h0 : m ((c : Thread KernelIdeal.nD KernelIdeal.τ).loc KernelIdeal.main_arg0) = a0)
    (h1 : m ((c : Thread KernelIdeal.nD KernelIdeal.τ).loc KernelIdeal.main_arg1) = a1) :
    (KernelIdeal.Gen.dats m 0 c).arrAt 5 KernelIdeal.cfg0.N = ReferenceIdeal.Step.R_main_v73 (F := Ideal) (ScanRef.it a0 a1 132) := by
  subst h0 h1
  rw [final]
  funext y
  obtain ⟨b, r, l, rfl⟩ : ∃ b r l, y = ix3 b r l := ⟨y 0, y 1, y 2, by funext k; fin_cases k <;> rfl⟩
  exact (ScanRef.result _ _ b r l).symm

/-- The kernel computes what the reference computes. -/
theorem algebraic : Cert.algebraic_KernelIdeal_ReferenceIdeal := by
  intro m g m' g' _ hagree
  refine ⟨fun c => ReferenceIdeal.Step.R_main_v73 (F := Ideal) (ScanRef.it (m' ((c.tc : Thread ReferenceIdeal.nD ReferenceIdeal.τ).loc ReferenceIdeal.main_arg0))
    (m' ((c.tc : Thread ReferenceIdeal.nD ReferenceIdeal.τ).loc ReferenceIdeal.main_arg1)) 132), ?_, ?_⟩
  · refine (θ_run _ _ _).mono (fun r h c => ?_) (KernelIdeal.Value.run_blocks (F := Ideal) m g)
    obtain ⟨h0, h1, h2⟩ := h c
    exact ⟨h0.trans (same m c _ _ (hagree c).1.symm (hagree c).2.symm), h1, h2⟩
  · exact ScanRef.run_iter m' g' (fun c => ScanRef.it _ _) (fun _ => rfl) (fun _ _ => rfl)

end Cert.Scan
end
-- ==== Proof.Rows.lean ====
module

public import Idealize.ShloMosaic.Lib.Pointwise
public import Idealize.ShloMosaic.Lib.WordCmp

/-! Rows of a layer on the extended reals: the stream of context rows and frame rows, the modulation that differs
between the two, and the RMS norm of a row. -/

@[expose] public section

noncomputable section

namespace Cert.Rows

open Idealize.ShloMosaic

/-- Lane `d` of a row of 2048 lanes divided by its root mean square, times the norm's weight. -/
def rms (v g : Fin 2048 → EReal) (d : Fin 2048) : EReal :=
  v d * Ideal.rsqrt (Ideal.div (∑ k, v k * v k) (Ideal.ofBits .f32 0x45000000#32) + Ideal.ofBits .f32 0x358637BD#32) * g d

/-- A row of the stream: the first 256 rows are the context's, the others the frames'. -/
def stream (ctx : Fin 256 → Fin 2048 → EReal) (x : Fin 8192 → Fin 2048 → EReal) (r : Fin 8448) (d : Fin 2048) : EReal :=
  if h : r.val < 256 then ctx ⟨r.val, h⟩ d else x ⟨r.val - 256, by omega⟩ d

/-- A row normalised and modulated: the norm times `1 + s`, plus `a`. -/
def modulated (v g s a : Fin 2048 → EReal) (d : Fin 2048) : EReal := rms v g d * (1 + s d) + a d

/-- Column `l` of two joined rows of 1024 lanes times a matrix: the first row meets its first 1024 rows, the second the others. -/
def joined (a b : Fin 1024 → EReal) (w : Fin 2048 → Fin 2048 → EReal) (l : Fin 2048) : EReal :=
  ∑ k : Fin 1024, a k * w ⟨k.val, by omega⟩ l + ∑ k : Fin 1024, b k * w ⟨1024 + k.val, by omega⟩ l

/-- Lane `j` of a head of 128 lanes: divided by the head's root mean square, times the norm's weight, gated by the SiLU of `z`. -/
def headOut (v g z : Fin 128 → EReal) (j : Fin 128) : EReal :=
  v j * Ideal.rsqrt (Ideal.div (∑ k, v k * v k) (Ideal.ofBits .f32 0x43000000#32) + Ideal.ofBits .f32 0x358637BD#32) * g j
    * (z j * Ideal.logistic (z j))

theorem headOut_congr {v v' g g' z z' : Fin 128 → EReal} (hv : ∀ k, v k = v' k) (hg : ∀ k, g k = g' k) (hz : ∀ k, z k = z' k) (j : Fin 128) :
    headOut v g z j = headOut v' g' z' j := by
  obtain rfl : v = v' := funext hv
  obtain rfl : g = g' := funext hg
  obtain rfl : z = z' := funext hz
  rfl

theorem rms_congr {v v' g g' : Fin 2048 → EReal} (hv : ∀ k, v k = v' k) (hg : ∀ k, g k = g' k) (d : Fin 2048) : rms v g d = rms v' g' d := by
  obtain rfl : v = v' := funext hv
  obtain rfl : g = g' := funext hg
  rfl

/-- What a row's number chooses: `p` on the context's rows, `q` on the frames'. -/
def onCtx (r : ℕ) (p q : EReal) : EReal := if r < 256 then p else q

/-- Row `r` of row tile `n` of tiles of `S` rows, compared with the number of context rows. -/
theorem select_row (S n r : ℕ) (h : n * S + r < 2 ^ 31) (p q : EReal) :
    Scalar.select (IntOp.cmpi .slt (IntOp.addi (Scalar.muli (BitVec.ofNat 32 n) (BitVec.ofNat 32 S)) (BitVec.ofNat 32 r)) 256#32) p q
      = onCtx (n * S + r) p q := by
  unfold Scalar.muli
  rw [WordCmp.cmpi_slt_mul_add_ofNat n S r 256 h (by decide)]
  unfold onCtx Scalar.select
  by_cases h : n * S + r < 256 <;> simp [h]

end Cert.Rows
end
-- ==== Proof.InEvenValue.lean ====
module

public import proofs.«01_k».proof.Proof.Rows
public import proofs.«01_k».proof.Proof.Gen.InEvenIdeal.Value
public import Idealize.ShloMosaic.Lib.Pipeline.ValueKit
public import Idealize.ShloMosaic.Lib.Pipeline.ReadBack
public import Idealize.ShloMosaic.Lib.Claim

/-! The even layer's input projection: what each grid point computes, and the output array. -/

@[expose] public section

set_option maxRecDepth 16384

noncomputable section

namespace Cert.InEvenIdeal.Layer

open Idealize.ShloMosaic Idealize.ShloMosaic.TcCoe Idealize.SL.Sem
open Cert.InEvenIdeal Cert.InEvenIdeal.Gen Cert.Rows

variable (m : (ℓ : Loc nD τ sig) → Buf (Elt Ideal) ℓ) (c : Dev nD)

/-- The windows' blocks at a grid point. -/
theorem idx : ∀ t : Fin cfg0.N, win0_0.index t = ![t.val / 66, t.val / 6 % 11, 0] ∧ win0_1.index t = ![0, 0]
    ∧ win0_2.index t = ![t.val / 66, 0, 0, 0] ∧ win0_3.index t = ![0, t.val % 6]
    ∧ win0_4.index t = ![t.val / 66, t.val / 6 % 11, t.val % 6] := (by decide +kernel : ∀ t : Fin grid0.N, _)

/-- A grid point's row tile. -/
theorem tile : ∀ t : Fin cfg0.N, (grid0.coords t 1).val = t.val / 6 % 11 := (by decide +kernel : ∀ t : Fin grid0.N, _)

/-- A grid point's normalised and modulated rows. -/
theorem rows_at (n : ℕ) (hn : n < 11) (x : FVec Ideal S1x768x2048 .f32) (g : FVec Ideal S1x2048 .f32)
    (s0 s1 a0 a1 : FVec Ideal S1x1x1x2048 .f32) (r : Fin 768) (d : Fin 2048) :
    k0_pay1 (F := Ideal) (k0_pay3 (F := Ideal) (BitVec.ofNat 32 n) x g s0 s1) (k0_pay4 (BitVec.ofNat 32 n)) k0_pay5 a0 a1 (ix2 r d)
      = modulated (fun k => x (ix3 0 r k)) (fun k => g (ix2 0 k))
          (fun k => onCtx (n * 768 + r.val) (s0 (ix4 0 0 0 k)) (s1 (ix4 0 0 0 k)))
          (fun k => onCtx (n * 768 + r.val) (a0 (ix4 0 0 0 k)) (a1 (ix4 0 0 0 k))) d := by
  pointwise [k0_pay1, k0_pay3, k0_pay4, k0_pay5]
  rw [select_row 768 n r.val (by omega), select_row 768 n r.val (by omega)]
  rfl

/-- The projection of a grid point's rows. -/
theorem dot_at (h : FVec Ideal S768x2048 .bf16) (w : FVec Ideal S2048x1024 .bf16) (r : Fin 768) (l : Fin 1024) :
    k0_pay2 (F := Ideal) h w (ix3 0 r l) = ∑ d, h (ix2 r d) * w (ix2 d l) := by
  pointwise [k0_pay2]

theorem stream_entry (b : Fin 2) (r : Fin 8448) (d : Fin 2048) :
    V m c main_v0 (ix3 b r d) = stream (fun i k => m ((c : Thread nD τ).loc main_arg1) (ix3 b i k)) (fun i k => m ((c : Thread nD τ).loc main_arg0) (ix3 b i k)) r d := by
  unfold V
  entry_read
  pointwise
  rfl

theorem mod_ctx_entry (b : Fin 2) (s : Fin 6) (d : Fin 2048) : V m c main_v4 (ix4 b 0 s d) = m ((c : Thread nD τ).loc main_arg3) (ix2 s d) := by
  unfold V
  entry_read
  pointwise

theorem mod_lat_entry (b : Fin 2) (s : Fin 6) (d : Fin 2048) : V m c main_v4 (ix4 b 1 s d) = m ((c : Thread nD τ).loc main_arg2) (ix3 b s d) := by
  unfold V
  entry_read
  pointwise

theorem weight_entry (d : Fin 2048) (l : Fin 6144) : V m c main_v5 (ix2 d l) = m ((c : Thread nD τ).loc main_arg5) (ix2 d l) := by
  unfold V
  entry_read
  pointwise

theorem norm_entry (d : Fin 2048) : V m c main_v6 (ix2 0 d) = m ((c : Thread nD τ).loc main_arg4) (ix1 d) := by
  unfold V
  entry_read
  pointwise

/-- The batch of a grid point. -/
abbrev bat (t : Fin cfg0.N) : Fin 2 := ⟨t.val / 66, by have := lt_of_lt_of_eq t.isLt (show cfg0.N = 132 from N_0); omega⟩

/-- A row of a grid point's tile, in the stream. -/
abbrev row (t : Fin cfg0.N) (r : Fin 768) : Fin 8448 := ⟨t.val / 6 % 11 * 768 + r.val, by omega⟩

/-- A column of a grid point's tile, in the output. -/
abbrev col (t : Fin cfg0.N) (l : Fin 1024) : Fin 6144 := ⟨t.val % 6 * 1024 + l.val, by omega⟩

/-- A row of the layer's normalised and modulated stream. -/
def hid (b : Fin 2) (r : Fin 8448) (d : Fin 2048) : EReal :=
  modulated (stream (fun i k => m ((c : Thread nD τ).loc main_arg1) (ix3 b i k)) (fun i k => m ((c : Thread nD τ).loc main_arg0) (ix3 b i k)) r)
    (fun k => m ((c : Thread nD τ).loc main_arg4) (ix1 k))
    (fun k => onCtx r.val (m ((c : Thread nD τ).loc main_arg3) (ix2 1 k)) (m ((c : Thread nD τ).loc main_arg2) (ix3 b 1 k)))
    (fun k => onCtx r.val (m ((c : Thread nD τ).loc main_arg3) (ix2 0 k)) (m ((c : Thread nD τ).loc main_arg2) (ix3 b 0 k))) d

/-- The projection: every row of the layer times every column of the weights. -/
def proj (b : Fin 2) (r : Fin 8448) (l : Fin 6144) : EReal := ∑ d, hid m c b r d * m ((c : Thread nD τ).loc main_arg5) (ix2 d l)

theorem stream_block (t : Fin cfg0.N) (r : Fin 768) (d : Fin 2048) : iblk m c 0 t (ix3 0 r d) = V m c main_v0 (ix3 (bat t) (row t r) d) := by
  blk_ext [iblk, idx t]

theorem norm_block (t : Fin cfg0.N) (d : Fin 2048) : iblk m c 1 t (ix2 0 d) = V m c main_v6 (ix2 0 d) := by
  blk_ext [iblk, idx t]

theorem mod_block (t : Fin cfg0.N) (p : Fin 2) (s : Fin 6) (d : Fin 2048) : iblk m c 2 t (ix4 0 p s d) = V m c main_v4 (ix4 (bat t) p s d) := by
  blk_ext [iblk, idx t]

theorem weight_block (t : Fin cfg0.N) (d : Fin 2048) (l : Fin 1024) :
    iblk m c 3 t (ix2 d l) = V m c main_v5 (ix2 d (col t l)) := by
  blk_ext [iblk, idx t]

/-- A loaded row of the modulation's block. -/
theorem mod_load (x : FVec Ideal S1x2x6x2048 .f32) (p : Fin 2) (s : Fin 6) (inb : ∀ k, (![0, p.val, s.val, 0] : Fin 4 → ℕ) k + S1x1x1x2048.size k ≤ S1x2x6x2048.size k)
    (d : Fin 2048) : View.ld (Val := Elt Ideal) (e' := .f32) x (Rect.unit (s := S1x2x6x2048) ![0, p.val, s.val, 0] S1x1x1x2048.size inb) (ix4 0 0 0 d : S1x1x1x2048.Idx) = x (ix4 0 p s d) := by
  refine congrArg x (funext fun k => Fin.ext ?_)
  fin_cases k <;> simp [Rect.emb, ix4]

/-- A grid point's rows are the layer's. -/
theorem rows_hid (t : Fin cfg0.N) (r : Fin 768) (d : Fin 2048)
    (s0 s1 a0 a1 : FVec Ideal S1x1x1x2048 .f32) (hs0 : ∀ k, s0 (ix4 0 0 0 k) = iblk m c 2 t (ix4 0 0 1 k)) (hs1 : ∀ k, s1 (ix4 0 0 0 k) = iblk m c 2 t (ix4 0 1 1 k))
    (ha0 : ∀ k, a0 (ix4 0 0 0 k) = iblk m c 2 t (ix4 0 0 0 k)) (ha1 : ∀ k, a1 (ix4 0 0 0 k) = iblk m c 2 t (ix4 0 1 0 k)) :
    k0_pay1 (F := Ideal) (k0_pay3 (F := Ideal) (BitVec.ofNat 32 (grid0.coords t 1).val) (iblk m c 0 t) (iblk m c 1 t) s0 s1)
        (k0_pay4 (BitVec.ofNat 32 (grid0.coords t 1).val)) k0_pay5 a0 a1 (ix2 r d)
      = hid m c (bat t) (row t r) d := by
  rw [tile t]
  refine (rows_at (t.val / 6 % 11) (by omega) _ _ s0 s1 a0 a1 r d).trans ?_
  unfold hid
  congr 1 <;> funext k
  · exact (stream_block m c t r k).trans (stream_entry m c _ _ _)
  · exact (norm_block m c t k).trans (norm_entry m c k)
  · rw [hs0, hs1, mod_block, mod_block, mod_ctx_entry, mod_lat_entry]
  · rw [ha0, ha1, mod_block, mod_block, mod_ctx_entry, mod_lat_entry]

set_option maxHeartbeats 2000000 in
/-- A row tile's first point leaves its rows in the scratch. -/
theorem scratch_first (t : Fin cfg0.N) (h0 : t.val % 6 = 0) (r : Fin 768) (d : Fin 2048) :
    (outsAt0 m c t.val t.isLt).2 (ix2 r d) = hid m c (bat t) (row t r) d := by
  rw [outsAt0_A m c t h0]
  frame_out
  exact rows_hid m c t r d _ _ _ _ (mod_load _ 0 1 _) (mod_load _ 1 1 _) (mod_load _ 0 0 _) (mod_load _ 1 0 _)

/-- After a grid point the scratch holds the rows of its tile. -/
theorem scratch : ∀ (n : ℕ) (hn : n < cfg0.N) (r : Fin 768) (d : Fin 2048),
    (outsAt0 m c n hn).2 (ix2 r d) = hid m c (bat ⟨n, hn⟩) (row ⟨n, hn⟩ r) d := by
  intro n
  induction n with
  | zero => exact fun hn r d => scratch_first m c ⟨0, hn⟩ rfl r d
  | succ n ih =>
    intro hn r d
    by_cases h0 : (n + 1) % 6 = 0
    · exact scratch_first m c ⟨n + 1, hn⟩ h0 r d
    · have e := congrArg (fun p => p.2 (ix2 r d)) (outsAt0_B m c ⟨n + 1, hn⟩ h0)
      refine e.trans ((ih (Nat.lt_of_succ_lt hn) r d).trans ?_)
      rw [show bat ⟨n, Nat.lt_of_succ_lt hn⟩ = bat ⟨n + 1, hn⟩ from Fin.ext (by show n / 66 = (n + 1) / 66; omega),
        show row ⟨n, Nat.lt_of_succ_lt hn⟩ r = row ⟨n + 1, hn⟩ r from Fin.ext (by show n / 6 % 11 * 768 + r.val = (n + 1) / 6 % 11 * 768 + r.val; omega)]

set_option maxHeartbeats 2000000 in
/-- A grid point's output block: its rows times its columns of the weights. -/
theorem out_at (t : Fin cfg0.N) (r : Fin 768) (l : Fin 1024) :
    (outsAt0 m c t.val t.isLt).1 (ix3 0 r l)
      = proj m c (bat t) (row t r) (col t l) := by
  have key : ∀ h : FVec Ideal S768x2048 .bf16, (∀ d, h (ix2 r d) = hid m c (bat t) (row t r) d) →
      k0_pay2 (F := Ideal) h (iblk m c 3 t) (ix3 0 r l)
        = proj m c (bat t) (row t r) (col t l) := fun h hh => by
    unfold proj
    refine (dot_at h _ r l).trans (Finset.sum_congr rfl fun d _ => ?_)
    rw [hh, weight_block, weight_entry]
  by_cases h0 : t.val % 6 = 0
  · rw [outsAt0_A m c t h0]
    frame_out
    exact key _ fun d => rows_hid m c t r d _ _ _ _ (mod_load _ 0 1 _) (mod_load _ 1 1 _) (mod_load _ 0 0 _) (mod_load _ 1 0 _)
  · rw [outsAt0_B m c t h0]
    frame_out
    refine key _ fun d => (congrFun (Idealize.ShloMosaic.read_unread_whole cc0_scratch0 _ _) (ix2 r d)).trans ((scratch m c (t.val - 1) (Nat.lt_of_le_of_lt (Nat.sub_le _ _) t.isLt) r d).trans ?_)
    rw [show bat ⟨t.val - 1, Nat.lt_of_le_of_lt (Nat.sub_le _ _) t.isLt⟩ = bat t from Fin.ext (by show (t.val - 1) / 66 = t.val / 66; omega),
      show row ⟨t.val - 1, Nat.lt_of_le_of_lt (Nat.sub_le _ _) t.isLt⟩ r = row t r from Fin.ext (by show (t.val - 1) / 6 % 11 * 768 + r.val = t.val / 6 % 11 * 768 + r.val; omega)]

/-- The output array. -/
def W (y : S2x8448x6144.Idx) : EReal := proj m c (y 0) (y 1) (y 2)

theorem proj_congr {b b' : Fin 2} {r r' : Fin 8448} {l l' : Fin 6144} (hb : b.val = b'.val) (hr : r.val = r'.val) (hl : l.val = l'.val) :
    proj m c b r l = proj m c b' r' l' := by
  obtain rfl := Fin.ext hb
  obtain rfl := Fin.ext hr
  obtain rfl := Fin.ext hl
  rfl

theorem final : (dats m 0 c).arrAt 4 cfg0.N = W m c := by
  refine (dats m 0 c).arrAt_eq_of_covers 4 _ (by decide +kernel) fun t _ y => ?_
  blk_simp
  rw [after0_4]
  obtain ⟨a, r, l, rfl⟩ : ∃ a r l, y = ix3 a r l := ⟨y 0, y 1, y 2, by funext k; fin_cases k <;> rfl⟩
  obtain rfl : a = 0 := Subsingleton.elim _ _
  obtain ⟨_, _, _, _, h4⟩ := idx t
  refine (out_at m c t r l).trans (proj_congr m c ?_ ?_ ?_)
  · blk_simp [h4]
    rfl
  · blk_simp [h4]
  · blk_simp [h4]

end Cert.InEvenIdeal.Layer
end
-- ==== Proof.InEvenClaim.lean ====
module

public import proofs.«01_k».proof.Proof.InEvenValue
public import proofs.«01_k».proof.Proof.Gen.InEvenRefIdeal.Read
public import proofs.«01_k».proof.Defs

/-! The even layer's input projection: the reference, and the claim that the kernel computes what it does. -/

@[expose] public section

set_option maxRecDepth 16384

noncomputable section

namespace Cert.InEvenIdeal

open Idealize.ShloMosaic Idealize.ShloMosaic.TcCoe Idealize.SL.Sem
open Cert.Rows Cert.InEvenRefIdeal Cert.InEvenRefIdeal.Read

section
variable (x0 : FVec Ideal S2x8192x2048 .f32) (x1 : FVec Ideal S2x256x2048 .f32) (x2 : FVec Ideal S2x6x2048 .f32) (x3 : FVec Ideal S6x2048 .f32)
  (x4 : FVec Ideal S2048 .f32) (x5 : FVec Ideal S2048x6144 .f32)

/-- The reference's rows of the context. -/
theorem ref_ctx (b : Fin 2) (r : Fin 256) (d : Fin 2048) :
    val_main_v24 (F := Ideal) x1 x3 x4 (ix3 b r d)
      = modulated (fun k => x1 (ix3 b r k)) (fun k => x4 (ix1 k)) (fun k => x3 (ix2 1 k)) (fun k => x3 (ix2 0 k)) d := by
  pointwise [val_main_v0, val_main_cst, val_main_v1, val_main_v2, val_main_cst_0, val_main_v3, val_main_v4, val_main_cst_1, val_main_v5, val_main_v6,
    val_main_v7, val_main_v8, val_main_v9, val_main_v10, val_main_v11, val_main_v12, val_main_v13, val_main_v14, val_main_v15, val_main_v16, val_main_cst_2,
    val_main_v17, val_main_v18, val_main_v19, val_main_v20, val_main_v21, val_main_v22, val_main_v23, val_main_v24]
  try rfl

/-- The reference's rows of the frames. -/
theorem ref_lat (b : Fin 2) (r : Fin 8192) (d : Fin 2048) :
    val_main_v45 (F := Ideal) x0 x2 x4 (ix3 b r d)
      = modulated (fun k => x0 (ix3 b r k)) (fun k => x4 (ix1 k)) (fun k => x2 (ix3 b 1 k)) (fun k => x2 (ix3 b 0 k)) d := by
  pointwise [val_main_v25, val_main_cst_3, val_main_v26, val_main_v27, val_main_cst_4, val_main_v28, val_main_v29, val_main_cst_5, val_main_v30, val_main_v31,
    val_main_v32, val_main_v33, val_main_v34, val_main_v35, val_main_v36, val_main_v37, val_main_v38, val_main_v39, val_main_cst_6, val_main_v40, val_main_v41,
    val_main_v42, val_main_v43, val_main_v44, val_main_v45]
  try rfl

/-- The reference's rows are the layer's. -/
theorem ref_rows (b : Fin 2) (r : Fin 8448) (d : Fin 2048) :
    val_main_v46 (F := Ideal) x0 x1 x2 x3 x4 (ix3 b r d)
      = modulated (stream (fun i k => x1 (ix3 b i k)) (fun i k => x0 (ix3 b i k)) r) (fun k => x4 (ix1 k))
          (fun k => onCtx r.val (x3 (ix2 1 k)) (x2 (ix3 b 1 k))) (fun k => onCtx r.val (x3 (ix2 0 k)) (x2 (ix3 b 0 k))) d := by
  by_cases h : r.val < 256
  · have e : stream (fun i k => x1 (ix3 b i k)) (fun i k => x0 (ix3 b i k)) r = fun k => x1 (ix3 b ⟨r.val, h⟩ k) := by
      funext k; unfold stream; rw [dif_pos h]
    simp only [e, onCtx, if_pos h]
    rw [← ref_ctx]
    unfold val_main_v46
    generalize val_main_v24 (F := Ideal) x1 x3 x4 = p
    generalize val_main_v45 (F := Ideal) x0 x2 x4 = q
    pointwise
    rw [dif_pos h]
  · have e : stream (fun i k => x1 (ix3 b i k)) (fun i k => x0 (ix3 b i k)) r = fun k => x0 (ix3 b ⟨r.val - 256, by omega⟩ k) := by
      funext k; unfold stream; rw [dif_neg h]
    simp only [e, onCtx, if_neg h]
    rw [← ref_lat]
    unfold val_main_v46
    generalize val_main_v24 (F := Ideal) x1 x3 x4 = p
    generalize val_main_v45 (F := Ideal) x0 x2 x4 = q
    pointwise
    rw [dif_neg h]

/-- The reference's projection. -/
theorem ref_at (b : Fin 2) (r : Fin 8448) (l : Fin 6144) :
    val_main_v47 (F := Ideal) x0 x1 x2 x3 x4 x5 (ix3 b r l)
      = ∑ d, modulated (stream (fun i k => x1 (ix3 b i k)) (fun i k => x0 (ix3 b i k)) r) (fun k => x4 (ix1 k))
          (fun k => onCtx r.val (x3 (ix2 1 k)) (x2 (ix3 b 1 k))) (fun k => onCtx r.val (x3 (ix2 0 k)) (x2 (ix3 b 0 k))) d * x5 (ix2 d l) := by
  simp only [← ref_rows]
  unfold val_main_v47
  generalize val_main_v46 (F := Ideal) x0 x1 x2 x3 x4 = p
  pointwise

end

/-- The kernel's output array is the reference's result, of equal arguments. -/
theorem same (m : (ℓ : Loc InEvenIdeal.nD InEvenIdeal.τ InEvenIdeal.sig) → Buf (Elt Ideal) ℓ) (c : Dev InEvenIdeal.nD)
    (x0 : FVec Ideal S2x8192x2048 .f32) (x1 : FVec Ideal S2x256x2048 .f32) (x2 : FVec Ideal S2x6x2048 .f32) (x3 : FVec Ideal S6x2048 .f32)
    (x4 : FVec Ideal S2048 .f32) (x5 : FVec Ideal S2048x6144 .f32)
    (h0 : x0 = m ((c : Thread InEvenIdeal.nD InEvenIdeal.τ).loc InEvenIdeal.main_arg0)) (h1 : x1 = m ((c : Thread InEvenIdeal.nD InEvenIdeal.τ).loc InEvenIdeal.main_arg1))
    (h2 : x2 = m ((c : Thread InEvenIdeal.nD InEvenIdeal.τ).loc InEvenIdeal.main_arg2)) (h3 : x3 = m ((c : Thread InEvenIdeal.nD InEvenIdeal.τ).loc InEvenIdeal.main_arg3))
    (h4 : x4 = m ((c : Thread InEvenIdeal.nD InEvenIdeal.τ).loc InEvenIdeal.main_arg4)) (h5 : x5 = m ((c : Thread InEvenIdeal.nD InEvenIdeal.τ).loc InEvenIdeal.main_arg5)) :
    (InEvenIdeal.Gen.dats m 0 c).arrAt 4 InEvenIdeal.cfg0.N = val_main_v47 (F := Ideal) x0 x1 x2 x3 x4 x5 := by
  subst h0 h1 h2 h3 h4 h5
  rw [Layer.final]
  funext y
  obtain ⟨b, r, l, rfl⟩ : ∃ b r l, y = ix3 b r l := ⟨y 0, y 1, y 2, by funext k; fin_cases k <;> rfl⟩
  exact (ref_at _ _ _ _ _ _ b r l).symm

/-- The kernel computes what the reference computes. -/
theorem algebraic : Cert.algebraic_InEvenIdeal_InEvenRefIdeal := by
  intro m g m' g' _ hagree
  refine ⟨fun c => val_main_v47 (F := Ideal) (m' ((c.tc : Thread InEvenRefIdeal.nD InEvenRefIdeal.τ).loc InEvenRefIdeal.main_arg0))
    (m' ((c.tc : Thread InEvenRefIdeal.nD InEvenRefIdeal.τ).loc InEvenRefIdeal.main_arg1)) (m' ((c.tc : Thread InEvenRefIdeal.nD InEvenRefIdeal.τ).loc InEvenRefIdeal.main_arg2))
    (m' ((c.tc : Thread InEvenRefIdeal.nD InEvenRefIdeal.τ).loc InEvenRefIdeal.main_arg3)) (m' ((c.tc : Thread InEvenRefIdeal.nD InEvenRefIdeal.τ).loc InEvenRefIdeal.main_arg4))
    (m' ((c.tc : Thread InEvenRefIdeal.nD InEvenRefIdeal.τ).loc InEvenRefIdeal.main_arg5)), ?_, ?_⟩
  · refine (θ_run _ _ _).mono (fun r h c => ?_) (InEvenIdeal.Value.run_blocks (F := Ideal) m g)
    obtain ⟨a0, a1, a2, a3, a4, a5⟩ := hagree c
    exact ⟨(h c).1.trans (same m c _ _ _ _ _ _ a0 a1 a2 a3 a4 a5), (h c).2⟩
  · exact InEvenRefIdeal.Value.run (F := Ideal) m' g'

end Cert.InEvenIdeal
end
-- ==== Proof.InOddValue.lean ====
module

public import proofs.«01_k».proof.Proof.InEvenValue
public import proofs.«01_k».proof.Proof.Gen.InOddIdeal.Value
public import Idealize.ShloMosaic.Lib.Pipeline.ValueKit
public import Idealize.ShloMosaic.Lib.Pipeline.ReadBack
public import Idealize.ShloMosaic.Lib.Claim

/-! The odd layer's input projection: what each grid point computes, and the output array. -/

@[expose] public section

set_option maxRecDepth 16384

noncomputable section

namespace Cert.InOddIdeal.Layer

open Idealize.ShloMosaic Idealize.ShloMosaic.TcCoe Idealize.SL.Sem
open Cert.InOddIdeal Cert.InOddIdeal.Gen Cert.Rows

variable (m : (ℓ : Loc nD τ sig) → Buf (Elt Ideal) ℓ) (c : Dev nD)

/-- The windows' blocks at a grid point. -/
theorem idx : ∀ t : Fin cfg0.N, win0_0.index t = ![t.val / 132, t.val / 12 % 11, 0] ∧ win0_1.index t = ![0, 0]
    ∧ win0_2.index t = ![t.val / 132, 0, 0, 0] ∧ win0_3.index t = ![0, t.val % 12]
    ∧ win0_4.index t = ![t.val / 132, t.val / 12 % 11, t.val % 12] := (by decide +kernel : ∀ t : Fin grid0.N, _)

/-- A grid point's row tile. -/
theorem tile : ∀ t : Fin cfg0.N, (grid0.coords t 1).val = t.val / 12 % 11 := (by decide +kernel : ∀ t : Fin grid0.N, _)

/-- A grid point's normalised and modulated rows. -/
theorem rows_at (n : ℕ) (hn : n < 11) (x : FVec Ideal S1x768x2048 .f32) (g : FVec Ideal S1x2048 .f32)
    (s0 s1 a0 a1 : FVec Ideal S1x1x1x2048 .f32) (r : Fin 768) (d : Fin 2048) :
    k0_pay1 (F := Ideal) (k0_pay3 (F := Ideal) (BitVec.ofNat 32 n) x g s0 s1) (k0_pay4 (BitVec.ofNat 32 n)) k0_pay5 a0 a1 (ix2 r d)
      = modulated (fun k => x (ix3 0 r k)) (fun k => g (ix2 0 k))
          (fun k => onCtx (n * 768 + r.val) (s0 (ix4 0 0 0 k)) (s1 (ix4 0 0 0 k)))
          (fun k => onCtx (n * 768 + r.val) (a0 (ix4 0 0 0 k)) (a1 (ix4 0 0 0 k))) d := by
  exact InEvenIdeal.Layer.rows_at n hn x g s0 s1 a0 a1 r d

/-- The projection of a grid point's rows. -/
theorem dot_at (h : FVec Ideal S768x2048 .bf16) (w : FVec Ideal S2048x1024 .bf16) (r : Fin 768) (l : Fin 1024) :
    k0_pay2 (F := Ideal) h w (ix3 0 r l) = ∑ d, h (ix2 r d) * w (ix2 d l) := by
  pointwise [k0_pay2]

theorem stream_entry (b : Fin 2) (r : Fin 8448) (d : Fin 2048) :
    V m c main_v0 (ix3 b r d) = stream (fun i k => m ((c : Thread nD τ).loc main_arg1) (ix3 b i k)) (fun i k => m ((c : Thread nD τ).loc main_arg0) (ix3 b i k)) r d := by
  unfold V
  entry_read
  pointwise
  rfl

theorem mod_ctx_entry (b : Fin 2) (s : Fin 6) (d : Fin 2048) : V m c main_v4 (ix4 b 0 s d) = m ((c : Thread nD τ).loc main_arg3) (ix2 s d) := by
  unfold V
  entry_read
  pointwise

theorem mod_lat_entry (b : Fin 2) (s : Fin 6) (d : Fin 2048) : V m c main_v4 (ix4 b 1 s d) = m ((c : Thread nD τ).loc main_arg2) (ix3 b s d) := by
  unfold V
  entry_read
  pointwise

theorem weight_entry (d : Fin 2048) (l : Fin 12416) : V m c main_v5 (ix2 d l) = m ((c : Thread nD τ).loc main_arg5) (ix2 d l) := by
  unfold V
  entry_read
  pointwise

theorem norm_entry (d : Fin 2048) : V m c main_v6 (ix2 0 d) = m ((c : Thread nD τ).loc main_arg4) (ix1 d) := by
  unfold V
  entry_read
  pointwise

/-- The batch of a grid point. -/
abbrev bat (t : Fin cfg0.N) : Fin 2 := ⟨t.val / 132, by have := lt_of_lt_of_eq t.isLt (show cfg0.N = 264 from N_0); omega⟩

/-- A row of a grid point's tile, in the stream. -/
abbrev row (t : Fin cfg0.N) (r : Fin 768) : Fin 8448 := ⟨t.val / 12 % 11 * 768 + r.val, by omega⟩

/-- A column of a grid point's tile, in the output. -/
abbrev col (t : Fin cfg0.N) (l : Fin 1024) : Fin 12288 := ⟨t.val % 12 * 1024 + l.val, by omega⟩

/-- A row of the layer's normalised and modulated stream. -/
def hid (b : Fin 2) (r : Fin 8448) (d : Fin 2048) : EReal :=
  modulated (stream (fun i k => m ((c : Thread nD τ).loc main_arg1) (ix3 b i k)) (fun i k => m ((c : Thread nD τ).loc main_arg0) (ix3 b i k)) r)
    (fun k => m ((c : Thread nD τ).loc main_arg4) (ix1 k))
    (fun k => onCtx r.val (m ((c : Thread nD τ).loc main_arg3) (ix2 1 k)) (m ((c : Thread nD τ).loc main_arg2) (ix3 b 1 k)))
    (fun k => onCtx r.val (m ((c : Thread nD τ).loc main_arg3) (ix2 0 k)) (m ((c : Thread nD τ).loc main_arg2) (ix3 b 0 k))) d

/-- The projection: every row of the layer times every column of the weights. -/
def proj (b : Fin 2) (r : Fin 8448) (l : Fin 12288) : EReal := ∑ d, hid m c b r d * m ((c : Thread nD τ).loc main_arg5) (ix2 d ⟨l.val, by omega⟩)

theorem stream_block (t : Fin cfg0.N) (r : Fin 768) (d : Fin 2048) : iblk m c 0 t (ix3 0 r d) = V m c main_v0 (ix3 (bat t) (row t r) d) := by
  blk_ext [iblk, idx t]

theorem norm_block (t : Fin cfg0.N) (d : Fin 2048) : iblk m c 1 t (ix2 0 d) = V m c main_v6 (ix2 0 d) := by
  blk_ext [iblk, idx t]

theorem mod_block (t : Fin cfg0.N) (p : Fin 2) (s : Fin 6) (d : Fin 2048) : iblk m c 2 t (ix4 0 p s d) = V m c main_v4 (ix4 (bat t) p s d) := by
  blk_ext [iblk, idx t]

theorem weight_block (t : Fin cfg0.N) (d : Fin 2048) (l : Fin 1024) :
    X0_3 m c t (ix2 d l) = V m c main_v5 (ix2 d ⟨(col t l).val, by omega⟩) := by
  unfold X0_3 Pipeline.Window.fill
  rw [dif_pos (moved0_3 t _)]
  blk_ext [iblk, idx t]

/-- A loaded row of the modulation's block. -/
theorem mod_load (x : FVec Ideal S1x2x6x2048 .f32) (p : Fin 2) (s : Fin 6) (inb : ∀ k, (![0, p.val, s.val, 0] : Fin 4 → ℕ) k + S1x1x1x2048.size k ≤ S1x2x6x2048.size k)
    (d : Fin 2048) : View.ld (Val := Elt Ideal) (e' := .f32) x (Rect.unit (s := S1x2x6x2048) ![0, p.val, s.val, 0] S1x1x1x2048.size inb) (ix4 0 0 0 d : S1x1x1x2048.Idx) = x (ix4 0 p s d) := by
  exact InEvenIdeal.Layer.mod_load x p s inb d

/-- A grid point's rows are the layer's. -/
theorem rows_hid (t : Fin cfg0.N) (r : Fin 768) (d : Fin 2048)
    (s0 s1 a0 a1 : FVec Ideal S1x1x1x2048 .f32) (hs0 : ∀ k, s0 (ix4 0 0 0 k) = iblk m c 2 t (ix4 0 0 1 k)) (hs1 : ∀ k, s1 (ix4 0 0 0 k) = iblk m c 2 t (ix4 0 1 1 k))
    (ha0 : ∀ k, a0 (ix4 0 0 0 k) = iblk m c 2 t (ix4 0 0 0 k)) (ha1 : ∀ k, a1 (ix4 0 0 0 k) = iblk m c 2 t (ix4 0 1 0 k)) :
    k0_pay1 (F := Ideal) (k0_pay3 (F := Ideal) (BitVec.ofNat 32 (grid0.coords t 1).val) (iblk m c 0 t) (iblk m c 1 t) s0 s1)
        (k0_pay4 (BitVec.ofNat 32 (grid0.coords t 1).val)) k0_pay5 a0 a1 (ix2 r d)
      = hid m c (bat t) (row t r) d := by
  rw [tile t]
  refine (rows_at (t.val / 12 % 11) (by omega) _ _ s0 s1 a0 a1 r d).trans ?_
  unfold hid
  congr 1 <;> funext k
  · exact (stream_block m c t r k).trans (stream_entry m c _ _ _)
  · exact (norm_block m c t k).trans (norm_entry m c k)
  · rw [hs0, hs1, mod_block, mod_block, mod_ctx_entry, mod_lat_entry]
  · rw [ha0, ha1, mod_block, mod_block, mod_ctx_entry, mod_lat_entry]

set_option maxHeartbeats 2000000 in
/-- A row tile's first point leaves its rows in the scratch. -/
theorem scratch_first (t : Fin cfg0.N) (h0 : t.val % 12 = 0) (r : Fin 768) (d : Fin 2048) :
    (outsAt0 m c t.val t.isLt).2 (ix2 r d) = hid m c (bat t) (row t r) d := by
  rw [outsAt0_A m c t h0]
  frame_out
  exact rows_hid m c t r d _ _ _ _ (mod_load _ 0 1 _) (mod_load _ 1 1 _) (mod_load _ 0 0 _) (mod_load _ 1 0 _)

/-- After a grid point the scratch holds the rows of its tile. -/
theorem scratch : ∀ (n : ℕ) (hn : n < cfg0.N) (r : Fin 768) (d : Fin 2048),
    (outsAt0 m c n hn).2 (ix2 r d) = hid m c (bat ⟨n, hn⟩) (row ⟨n, hn⟩ r) d := by
  intro n
  induction n with
  | zero => exact fun hn r d => scratch_first m c ⟨0, hn⟩ rfl r d
  | succ n ih =>
    intro hn r d
    by_cases h0 : (n + 1) % 12 = 0
    · exact scratch_first m c ⟨n + 1, hn⟩ h0 r d
    · have e := congrArg (fun p => p.2 (ix2 r d)) (outsAt0_B m c ⟨n + 1, hn⟩ h0)
      refine e.trans ((ih (Nat.lt_of_succ_lt hn) r d).trans ?_)
      rw [show bat ⟨n, Nat.lt_of_succ_lt hn⟩ = bat ⟨n + 1, hn⟩ from Fin.ext (by show n / 132 = (n + 1) / 132; omega),
        show row ⟨n, Nat.lt_of_succ_lt hn⟩ r = row ⟨n + 1, hn⟩ r from Fin.ext (by show n / 12 % 11 * 768 + r.val = (n + 1) / 12 % 11 * 768 + r.val; omega)]

set_option maxHeartbeats 400000 in
/-- A grid point's output block: its rows times its columns of the weights. -/
theorem out_at (t : Fin cfg0.N) (r : Fin 768) (l : Fin 1024) :
    (outsAt0 m c t.val t.isLt).1 (ix3 0 r l)
      = proj m c (bat t) (row t r) (col t l) := by
  have key : ∀ h : FVec Ideal S768x2048 .bf16, (∀ d, h (ix2 r d) = hid m c (bat t) (row t r) d) →
      k0_pay2 (F := Ideal) h (X0_3 m c t) (ix3 0 r l)
        = proj m c (bat t) (row t r) (col t l) := fun h hh => by
    unfold proj
    refine (dot_at h _ r l).trans (Finset.sum_congr rfl fun d _ => ?_)
    rw [hh, weight_block, weight_entry]
  by_cases h0 : t.val % 12 = 0
  · rw [outsAt0_A m c t h0]
    frame_out
    exact key _ fun d => rows_hid m c t r d _ _ _ _ (mod_load _ 0 1 _) (mod_load _ 1 1 _) (mod_load _ 0 0 _) (mod_load _ 1 0 _)
  · rw [outsAt0_B m c t h0]
    frame_out
    refine key _ fun d => (congrFun (Idealize.ShloMosaic.read_unread_whole cc0_scratch0 _ _) (ix2 r d)).trans ((scratch m c (t.val - 1) (Nat.lt_of_le_of_lt (Nat.sub_le _ _) t.isLt) r d).trans ?_)
    rw [show bat ⟨t.val - 1, Nat.lt_of_le_of_lt (Nat.sub_le _ _) t.isLt⟩ = bat t from Fin.ext (by show (t.val - 1) / 132 = t.val / 132; omega),
      show row ⟨t.val - 1, Nat.lt_of_le_of_lt (Nat.sub_le _ _) t.isLt⟩ r = row t r from Fin.ext (by show (t.val - 1) / 12 % 11 * 768 + r.val = t.val / 12 % 11 * 768 + r.val; omega)]

/-- The output array. -/
def W (y : S2x8448x12288.Idx) : EReal := proj m c (y 0) (y 1) (y 2)

theorem proj_congr {b b' : Fin 2} {r r' : Fin 8448} {l l' : Fin 12288} (hb : b.val = b'.val) (hr : r.val = r'.val) (hl : l.val = l'.val) :
    proj m c b r l = proj m c b' r' l' := by
  obtain rfl := Fin.ext hb
  obtain rfl := Fin.ext hr
  obtain rfl := Fin.ext hl
  rfl

theorem final : (dats m 0 c).arrAt 4 cfg0.N = W m c := by
  refine (dats m 0 c).arrAt_eq_of_covers 4 _ (by decide +kernel) fun t _ y => ?_
  blk_simp
  rw [after0_4]
  obtain ⟨a, r, l, rfl⟩ : ∃ a r l, y = ix3 a r l := ⟨y 0, y 1, y 2, by funext k; fin_cases k <;> rfl⟩
  obtain rfl : a = 0 := Subsingleton.elim _ _
  obtain ⟨_, _, _, _, h4⟩ := idx t
  refine (out_at m c t r l).trans (proj_congr m c ?_ ?_ ?_)
  · blk_simp [h4]
    rfl
  · blk_simp [h4]
  · blk_simp [h4]

end Cert.InOddIdeal.Layer
end
-- ==== Proof.InOddClaim.lean ====
module

public import proofs.«01_k».proof.Proof.InEvenClaim
public import proofs.«01_k».proof.Proof.InOddValue
public import proofs.«01_k».proof.Proof.Gen.InOddRefIdeal.Read
public import proofs.«01_k».proof.Defs

/-! The odd layer's input projection: the reference, and the claim that the kernel computes what it does. -/

@[expose] public section

set_option maxRecDepth 16384

noncomputable section

namespace Cert.InOddIdeal

open Idealize.ShloMosaic Idealize.ShloMosaic.TcCoe Idealize.SL.Sem
open Cert.Rows Cert.InOddRefIdeal Cert.InOddRefIdeal.Read

section
variable (x0 : FVec Ideal S2x8192x2048 .f32) (x1 : FVec Ideal S2x256x2048 .f32) (x2 : FVec Ideal S2x6x2048 .f32) (x3 : FVec Ideal S6x2048 .f32)
  (x4 : FVec Ideal S2048 .f32) (x5 : FVec Ideal S2048x12416 .f32)

/-- The reference's rows are the layer's. -/
theorem ref_rows (b : Fin 2) (r : Fin 8448) (d : Fin 2048) :
    val_main_v46 (F := Ideal) x0 x1 x2 x3 x4 (ix3 b r d)
      = modulated (stream (fun i k => x1 (ix3 b i k)) (fun i k => x0 (ix3 b i k)) r) (fun k => x4 (ix1 k))
          (fun k => onCtx r.val (x3 (ix2 1 k)) (x2 (ix3 b 1 k))) (fun k => onCtx r.val (x3 (ix2 0 k)) (x2 (ix3 b 0 k))) d := by
  exact InEvenIdeal.ref_rows x0 x1 x2 x3 x4 b r d

/-- The reference's projection. -/
theorem ref_at (b : Fin 2) (r : Fin 8448) (l : Fin 12288) :
    val_main_v48 (F := Ideal) x0 x1 x2 x3 x4 x5 (ix3 b r l)
      = ∑ d, modulated (stream (fun i k => x1 (ix3 b i k)) (fun i k => x0 (ix3 b i k)) r) (fun k => x4 (ix1 k))
          (fun k => onCtx r.val (x3 (ix2 1 k)) (x2 (ix3 b 1 k))) (fun k => onCtx r.val (x3 (ix2 0 k)) (x2 (ix3 b 0 k))) d * x5 (ix2 d ⟨l.val, by omega⟩) := by
  simp only [← ref_rows]
  unfold val_main_v48
  generalize val_main_v46 (F := Ideal) x0 x1 x2 x3 x4 = p
  pointwise [val_main_v47]

end

/-- The kernel's output array is the reference's result, of equal arguments. -/
theorem same (m : (ℓ : Loc InOddIdeal.nD InOddIdeal.τ InOddIdeal.sig) → Buf (Elt Ideal) ℓ) (c : Dev InOddIdeal.nD)
    (x0 : FVec Ideal S2x8192x2048 .f32) (x1 : FVec Ideal S2x256x2048 .f32) (x2 : FVec Ideal S2x6x2048 .f32) (x3 : FVec Ideal S6x2048 .f32)
    (x4 : FVec Ideal S2048 .f32) (x5 : FVec Ideal S2048x12416 .f32)
    (h0 : x0 = m ((c : Thread InOddIdeal.nD InOddIdeal.τ).loc InOddIdeal.main_arg0)) (h1 : x1 = m ((c : Thread InOddIdeal.nD InOddIdeal.τ).loc InOddIdeal.main_arg1))
    (h2 : x2 = m ((c : Thread InOddIdeal.nD InOddIdeal.τ).loc InOddIdeal.main_arg2)) (h3 : x3 = m ((c : Thread InOddIdeal.nD InOddIdeal.τ).loc InOddIdeal.main_arg3))
    (h4 : x4 = m ((c : Thread InOddIdeal.nD InOddIdeal.τ).loc InOddIdeal.main_arg4)) (h5 : x5 = m ((c : Thread InOddIdeal.nD InOddIdeal.τ).loc InOddIdeal.main_arg5)) :
    (InOddIdeal.Gen.dats m 0 c).arrAt 4 InOddIdeal.cfg0.N = val_main_v48 (F := Ideal) x0 x1 x2 x3 x4 x5 := by
  subst h0 h1 h2 h3 h4 h5
  rw [Layer.final]
  funext y
  obtain ⟨b, r, l, rfl⟩ : ∃ b r l, y = ix3 b r l := ⟨y 0, y 1, y 2, by funext k; fin_cases k <;> rfl⟩
  exact (ref_at _ _ _ _ _ _ b r l).symm

/-- The kernel computes what the reference computes. -/
theorem algebraic : Cert.algebraic_InOddIdeal_InOddRefIdeal := by
  intro m g m' g' _ hagree
  refine ⟨fun c => val_main_v48 (F := Ideal) (m' ((c.tc : Thread InOddRefIdeal.nD InOddRefIdeal.τ).loc InOddRefIdeal.main_arg0))
    (m' ((c.tc : Thread InOddRefIdeal.nD InOddRefIdeal.τ).loc InOddRefIdeal.main_arg1)) (m' ((c.tc : Thread InOddRefIdeal.nD InOddRefIdeal.τ).loc InOddRefIdeal.main_arg2))
    (m' ((c.tc : Thread InOddRefIdeal.nD InOddRefIdeal.τ).loc InOddRefIdeal.main_arg3)) (m' ((c.tc : Thread InOddRefIdeal.nD InOddRefIdeal.τ).loc InOddRefIdeal.main_arg4))
    (m' ((c.tc : Thread InOddRefIdeal.nD InOddRefIdeal.τ).loc InOddRefIdeal.main_arg5)), ?_, ?_⟩
  · refine (θ_run _ _ _).mono (fun r h c => ?_) (InOddIdeal.Value.run_blocks (F := Ideal) m g)
    obtain ⟨a0, a1, a2, a3, a4, a5⟩ := hagree c
    exact ⟨(h c).1.trans (same m c _ _ _ _ _ _ a0 a1 a2 a3 a4 a5), (h c).2⟩
  · exact InOddRefIdeal.Value.run (F := Ideal) m' g'

end Cert.InOddIdeal
end
-- ==== Proof.InGateValue.lean ====
module

public import proofs.«01_k».proof.Proof.InEvenValue
public import proofs.«01_k».proof.Proof.Gen.InGateIdeal.Value
public import Idealize.ShloMosaic.Lib.Pipeline.ValueKit
public import Idealize.ShloMosaic.Lib.Pipeline.ReadBack
public import Idealize.ShloMosaic.Lib.Claim

/-! The odd layer's gate projection: what each grid point computes, and the output array. -/

@[expose] public section

set_option maxRecDepth 16384

noncomputable section

namespace Cert.InGateIdeal.Layer

open Idealize.ShloMosaic Idealize.ShloMosaic.TcCoe Idealize.SL.Sem
open Cert.InGateIdeal Cert.InGateIdeal.Gen Cert.Rows

variable (m : (ℓ : Loc nD τ sig) → Buf (Elt Ideal) ℓ) (c : Dev nD)

/-- The windows' blocks at a grid point. -/
theorem idx : ∀ t : Fin cfg0.N, win0_0.index t = ![t.val / 11, t.val % 11, 0] ∧ win0_1.index t = ![0, 0]
    ∧ win0_2.index t = ![t.val / 11, 0, 0, 0] ∧ win0_3.index t = ![0, 96]
    ∧ win0_4.index t = ![t.val / 11, t.val % 11, 0] := (by decide +kernel : ∀ t : Fin grid0.N, _)

/-- A grid point's row tile. -/
theorem tile : ∀ t : Fin cfg0.N, (grid0.coords t 1).val = t.val % 11 := (by decide +kernel : ∀ t : Fin grid0.N, _)

/-- A grid point's normalised and modulated rows. -/
theorem rows_at (n : ℕ) (hn : n < 11) (x : FVec Ideal S1x768x2048 .f32) (g : FVec Ideal S1x2048 .f32)
    (s0 s1 a0 a1 : FVec Ideal S1x1x1x2048 .f32) (r : Fin 768) (d : Fin 2048) :
    k0_pay1 (F := Ideal) (k0_pay3 (F := Ideal) (BitVec.ofNat 32 n) x g s0 s1) (k0_pay4 (BitVec.ofNat 32 n)) k0_pay5 a0 a1 (ix2 r d)
      = modulated (fun k => x (ix3 0 r k)) (fun k => g (ix2 0 k))
          (fun k => onCtx (n * 768 + r.val) (s0 (ix4 0 0 0 k)) (s1 (ix4 0 0 0 k)))
          (fun k => onCtx (n * 768 + r.val) (a0 (ix4 0 0 0 k)) (a1 (ix4 0 0 0 k))) d := by
  exact InEvenIdeal.Layer.rows_at n hn x g s0 s1 a0 a1 r d

/-- The projection of a grid point's rows. -/
theorem dot_at (h : FVec Ideal S768x2048 .bf16) (w : FVec Ideal S2048x128 .bf16) (r : Fin 768) (l : Fin 128) :
    k0_pay2 (F := Ideal) h w (ix3 0 r l) = ∑ d, h (ix2 r d) * w (ix2 d l) := by
  pointwise [k0_pay2]

theorem stream_entry (b : Fin 2) (r : Fin 8448) (d : Fin 2048) :
    V m c main_v0 (ix3 b r d) = stream (fun i k => m ((c : Thread nD τ).loc main_arg1) (ix3 b i k)) (fun i k => m ((c : Thread nD τ).loc main_arg0) (ix3 b i k)) r d := by
  unfold V
  entry_read
  pointwise
  rfl

theorem mod_ctx_entry (b : Fin 2) (s : Fin 6) (d : Fin 2048) : V m c main_v4 (ix4 b 0 s d) = m ((c : Thread nD τ).loc main_arg3) (ix2 s d) := by
  unfold V
  entry_read
  pointwise

theorem mod_lat_entry (b : Fin 2) (s : Fin 6) (d : Fin 2048) : V m c main_v4 (ix4 b 1 s d) = m ((c : Thread nD τ).loc main_arg2) (ix3 b s d) := by
  unfold V
  entry_read
  pointwise

theorem weight_entry (d : Fin 2048) (l : Fin 12416) : V m c main_v5 (ix2 d l) = m ((c : Thread nD τ).loc main_arg5) (ix2 d l) := by
  unfold V
  entry_read
  pointwise

theorem norm_entry (d : Fin 2048) : V m c main_v6 (ix2 0 d) = m ((c : Thread nD τ).loc main_arg4) (ix1 d) := by
  unfold V
  entry_read
  pointwise

/-- The batch of a grid point. -/
abbrev bat (t : Fin cfg0.N) : Fin 2 := ⟨t.val / 11, by have := lt_of_lt_of_eq t.isLt (show cfg0.N = 22 from N_0); omega⟩

/-- A row of a grid point's tile, in the stream. -/
abbrev row (t : Fin cfg0.N) (r : Fin 768) : Fin 8448 := ⟨t.val % 11 * 768 + r.val, by omega⟩

/-- A column of a grid point's tile, in the output. -/
abbrev col (_ : Fin cfg0.N) (l : Fin 128) : Fin 128 := l

/-- A row of the layer's normalised and modulated stream. -/
def hid (b : Fin 2) (r : Fin 8448) (d : Fin 2048) : EReal :=
  modulated (stream (fun i k => m ((c : Thread nD τ).loc main_arg1) (ix3 b i k)) (fun i k => m ((c : Thread nD τ).loc main_arg0) (ix3 b i k)) r)
    (fun k => m ((c : Thread nD τ).loc main_arg4) (ix1 k))
    (fun k => onCtx r.val (m ((c : Thread nD τ).loc main_arg3) (ix2 1 k)) (m ((c : Thread nD τ).loc main_arg2) (ix3 b 1 k)))
    (fun k => onCtx r.val (m ((c : Thread nD τ).loc main_arg3) (ix2 0 k)) (m ((c : Thread nD τ).loc main_arg2) (ix3 b 0 k))) d

/-- The projection: every row of the layer times every column of the weights. -/
def proj (b : Fin 2) (r : Fin 8448) (l : Fin 128) : EReal := ∑ d, hid m c b r d * m ((c : Thread nD τ).loc main_arg5) (ix2 d ⟨12288 + l.val, by omega⟩)

theorem stream_block (t : Fin cfg0.N) (r : Fin 768) (d : Fin 2048) : iblk m c 0 t (ix3 0 r d) = V m c main_v0 (ix3 (bat t) (row t r) d) := by
  blk_ext [iblk, idx t]

theorem norm_block (t : Fin cfg0.N) (d : Fin 2048) : iblk m c 1 t (ix2 0 d) = V m c main_v6 (ix2 0 d) := by
  blk_ext [iblk, idx t]

theorem mod_block (t : Fin cfg0.N) (p : Fin 2) (s : Fin 6) (d : Fin 2048) : iblk m c 2 t (ix4 0 p s d) = V m c main_v4 (ix4 (bat t) p s d) := by
  blk_ext [iblk, idx t]

theorem weight_block (t : Fin cfg0.N) (d : Fin 2048) (l : Fin 128) :
    iblk m c 3 t (ix2 d l) = V m c main_v5 (ix2 d ⟨12288 + (col t l).val, by omega⟩) := by
  blk_ext [iblk, idx t]

/-- A loaded row of the modulation's block. -/
theorem mod_load (x : FVec Ideal S1x2x6x2048 .f32) (p : Fin 2) (s : Fin 6) (inb : ∀ k, (![0, p.val, s.val, 0] : Fin 4 → ℕ) k + S1x1x1x2048.size k ≤ S1x2x6x2048.size k)
    (d : Fin 2048) : View.ld (Val := Elt Ideal) (e' := .f32) x (Rect.unit (s := S1x2x6x2048) ![0, p.val, s.val, 0] S1x1x1x2048.size inb) (ix4 0 0 0 d : S1x1x1x2048.Idx) = x (ix4 0 p s d) := by
  exact InEvenIdeal.Layer.mod_load x p s inb d

/-- A grid point's rows are the layer's. -/
theorem rows_hid (t : Fin cfg0.N) (r : Fin 768) (d : Fin 2048)
    (s0 s1 a0 a1 : FVec Ideal S1x1x1x2048 .f32) (hs0 : ∀ k, s0 (ix4 0 0 0 k) = iblk m c 2 t (ix4 0 0 1 k)) (hs1 : ∀ k, s1 (ix4 0 0 0 k) = iblk m c 2 t (ix4 0 1 1 k))
    (ha0 : ∀ k, a0 (ix4 0 0 0 k) = iblk m c 2 t (ix4 0 0 0 k)) (ha1 : ∀ k, a1 (ix4 0 0 0 k) = iblk m c 2 t (ix4 0 1 0 k)) :
    k0_pay1 (F := Ideal) (k0_pay3 (F := Ideal) (BitVec.ofNat 32 (grid0.coords t 1).val) (iblk m c 0 t) (iblk m c 1 t) s0 s1)
        (k0_pay4 (BitVec.ofNat 32 (grid0.coords t 1).val)) k0_pay5 a0 a1 (ix2 r d)
      = hid m c (bat t) (row t r) d := by
  rw [tile t]
  refine (rows_at (t.val % 11) (by omega) _ _ s0 s1 a0 a1 r d).trans ?_
  unfold hid
  congr 1 <;> funext k
  · exact (stream_block m c t r k).trans (stream_entry m c _ _ _)
  · exact (norm_block m c t k).trans (norm_entry m c k)
  · rw [hs0, hs1, mod_block, mod_block, mod_ctx_entry, mod_lat_entry]
  · rw [ha0, ha1, mod_block, mod_block, mod_ctx_entry, mod_lat_entry]

set_option maxHeartbeats 400000 in
/-- A grid point's output block: its rows times its columns of the weights. -/
theorem out_at (t : Fin cfg0.N) (r : Fin 768) (l : Fin 128) :
    outsAt0 m c t (ix3 0 r l)
      = proj m c (bat t) (row t r) (col t l) := by
  have key : ∀ h : FVec Ideal S768x2048 .bf16, (∀ d, h (ix2 r d) = hid m c (bat t) (row t r) d) →
      k0_pay2 (F := Ideal) h (iblk m c 3 t) (ix3 0 r l)
        = proj m c (bat t) (row t r) (col t l) := fun h hh => by
    unfold proj
    refine (dot_at h _ r l).trans (Finset.sum_congr rfl fun d _ => ?_)
    rw [hh, weight_block, weight_entry]
  unfold outsAt0
  frame_out
  exact key _ fun d => rows_hid m c t r d _ _ _ _ (mod_load _ 0 1 _) (mod_load _ 1 1 _) (mod_load _ 0 0 _) (mod_load _ 1 0 _)

/-- The output array. -/
def W (y : S2x8448x128.Idx) : EReal := proj m c (y 0) (y 1) (y 2)

theorem proj_congr {b b' : Fin 2} {r r' : Fin 8448} {l l' : Fin 128} (hb : b.val = b'.val) (hr : r.val = r'.val) (hl : l.val = l'.val) :
    proj m c b r l = proj m c b' r' l' := by
  obtain rfl := Fin.ext hb
  obtain rfl := Fin.ext hr
  obtain rfl := Fin.ext hl
  rfl

theorem final : (dats m 0 c).arrAt 4 cfg0.N = W m c := by
  refine (dats m 0 c).arrAt_eq_of_covers 4 _ (by decide +kernel) fun t _ y => ?_
  blk_simp
  rw [after0_4]
  obtain ⟨a, r, l, rfl⟩ : ∃ a r l, y = ix3 a r l := ⟨y 0, y 1, y 2, by funext k; fin_cases k <;> rfl⟩
  obtain rfl : a = 0 := Subsingleton.elim _ _
  obtain ⟨_, _, _, _, h4⟩ := idx t
  refine (out_at m c t r l).trans (proj_congr m c ?_ ?_ ?_)
  · blk_simp [h4]
    rfl
  · blk_simp [h4]
  · blk_simp [h4]

end Cert.InGateIdeal.Layer
end
-- ==== Proof.InGateClaim.lean ====
module

public import proofs.«01_k».proof.Proof.InEvenClaim
public import proofs.«01_k».proof.Proof.InGateValue
public import proofs.«01_k».proof.Proof.Gen.InGateRefIdeal.Read
public import proofs.«01_k».proof.Defs

/-! The odd layer's gate projection: the reference, and the claim that the kernel computes what it does. -/

@[expose] public section

set_option maxRecDepth 16384

noncomputable section

namespace Cert.InGateIdeal

open Idealize.ShloMosaic Idealize.ShloMosaic.TcCoe Idealize.SL.Sem
open Cert.Rows Cert.InGateRefIdeal Cert.InGateRefIdeal.Read

section
variable (x0 : FVec Ideal S2x8192x2048 .f32) (x1 : FVec Ideal S2x256x2048 .f32) (x2 : FVec Ideal S2x6x2048 .f32) (x3 : FVec Ideal S6x2048 .f32)
  (x4 : FVec Ideal S2048 .f32) (x5 : FVec Ideal S2048x12416 .f32)

/-- The reference's rows are the layer's. -/
theorem ref_rows (b : Fin 2) (r : Fin 8448) (d : Fin 2048) :
    val_main_v46 (F := Ideal) x0 x1 x2 x3 x4 (ix3 b r d)
      = modulated (stream (fun i k => x1 (ix3 b i k)) (fun i k => x0 (ix3 b i k)) r) (fun k => x4 (ix1 k))
          (fun k => onCtx r.val (x3 (ix2 1 k)) (x2 (ix3 b 1 k))) (fun k => onCtx r.val (x3 (ix2 0 k)) (x2 (ix3 b 0 k))) d := by
  exact InEvenIdeal.ref_rows x0 x1 x2 x3 x4 b r d

/-- The reference's projection. -/
theorem ref_at (b : Fin 2) (r : Fin 8448) (l : Fin 128) :
    val_main_v48 (F := Ideal) x0 x1 x2 x3 x4 x5 (ix3 b r l)
      = ∑ d, modulated (stream (fun i k => x1 (ix3 b i k)) (fun i k => x0 (ix3 b i k)) r) (fun k => x4 (ix1 k))
          (fun k => onCtx r.val (x3 (ix2 1 k)) (x2 (ix3 b 1 k))) (fun k => onCtx r.val (x3 (ix2 0 k)) (x2 (ix3 b 0 k))) d * x5 (ix2 d ⟨12288 + l.val, by omega⟩) := by
  simp only [← ref_rows]
  unfold val_main_v48
  generalize val_main_v46 (F := Ideal) x0 x1 x2 x3 x4 = p
  pointwise [val_main_v47]

end

/-- The kernel's output array is the reference's result, of equal arguments. -/
theorem same (m : (ℓ : Loc InGateIdeal.nD InGateIdeal.τ InGateIdeal.sig) → Buf (Elt Ideal) ℓ) (c : Dev InGateIdeal.nD)
    (x0 : FVec Ideal S2x8192x2048 .f32) (x1 : FVec Ideal S2x256x2048 .f32) (x2 : FVec Ideal S2x6x2048 .f32) (x3 : FVec Ideal S6x2048 .f32)
    (x4 : FVec Ideal S2048 .f32) (x5 : FVec Ideal S2048x12416 .f32)
    (h0 : x0 = m ((c : Thread InGateIdeal.nD InGateIdeal.τ).loc InGateIdeal.main_arg0)) (h1 : x1 = m ((c : Thread InGateIdeal.nD InGateIdeal.τ).loc InGateIdeal.main_arg1))
    (h2 : x2 = m ((c : Thread InGateIdeal.nD InGateIdeal.τ).loc InGateIdeal.main_arg2)) (h3 : x3 = m ((c : Thread InGateIdeal.nD InGateIdeal.τ).loc InGateIdeal.main_arg3))
    (h4 : x4 = m ((c : Thread InGateIdeal.nD InGateIdeal.τ).loc InGateIdeal.main_arg4)) (h5 : x5 = m ((c : Thread InGateIdeal.nD InGateIdeal.τ).loc InGateIdeal.main_arg5)) :
    (InGateIdeal.Gen.dats m 0 c).arrAt 4 InGateIdeal.cfg0.N = val_main_v48 (F := Ideal) x0 x1 x2 x3 x4 x5 := by
  subst h0 h1 h2 h3 h4 h5
  rw [Layer.final]
  funext y
  obtain ⟨b, r, l, rfl⟩ : ∃ b r l, y = ix3 b r l := ⟨y 0, y 1, y 2, by funext k; fin_cases k <;> rfl⟩
  exact (ref_at _ _ _ _ _ _ b r l).symm

/-- The kernel computes what the reference computes. -/
theorem algebraic : Cert.algebraic_InGateIdeal_InGateRefIdeal := by
  intro m g m' g' _ hagree
  refine ⟨fun c => val_main_v48 (F := Ideal) (m' ((c.tc : Thread InGateRefIdeal.nD InGateRefIdeal.τ).loc InGateRefIdeal.main_arg0))
    (m' ((c.tc : Thread InGateRefIdeal.nD InGateRefIdeal.τ).loc InGateRefIdeal.main_arg1)) (m' ((c.tc : Thread InGateRefIdeal.nD InGateRefIdeal.τ).loc InGateRefIdeal.main_arg2))
    (m' ((c.tc : Thread InGateRefIdeal.nD InGateRefIdeal.τ).loc InGateRefIdeal.main_arg3)) (m' ((c.tc : Thread InGateRefIdeal.nD InGateRefIdeal.τ).loc InGateRefIdeal.main_arg4))
    (m' ((c.tc : Thread InGateRefIdeal.nD InGateRefIdeal.τ).loc InGateRefIdeal.main_arg5)), ?_, ?_⟩
  · refine (θ_run _ _ _).mono (fun r h c => ?_) (InGateIdeal.Value.run_blocks (F := Ideal) m g)
    obtain ⟨a0, a1, a2, a3, a4, a5⟩ := hagree c
    exact ⟨(h c).1.trans (same m c _ _ _ _ _ _ a0 a1 a2 a3 a4 a5), (h c).2⟩
  · exact InGateRefIdeal.Value.run (F := Ideal) m' g'

end Cert.InGateIdeal
end
-- ==== Proof.OutEvenValue.lean ====
module

public import proofs.«01_k».proof.Proof.Rows
public import proofs.«01_k».proof.Proof.Gen.OutEvenIdeal.Value
public import Idealize.ShloMosaic.Lib.Pipeline.ValueKit
public import Idealize.ShloMosaic.Lib.Claim

/-! The even layer's output projection and its residual: what each grid point computes, and the output array. -/

@[expose] public section

set_option maxRecDepth 16384

noncomputable section

namespace Cert.OutEvenIdeal.Layer

open Idealize.ShloMosaic Idealize.ShloMosaic.TcCoe Idealize.SL.Sem
open Cert.OutEvenIdeal Cert.OutEvenIdeal.Gen Cert.Rows

variable (m : (ℓ : Loc nD τ sig) → Buf (Elt Ideal) ℓ) (c : Dev nD)

/-- The windows' blocks at a grid point. -/
theorem idx : ∀ t : Fin cfg0.N, win0_0.index t = ![t.val / 22, t.val % 22, 0] ∧ win0_1.index t = ![t.val / 22, t.val % 22, 0]
    ∧ win0_2.index t = ![0, 0] ∧ win0_3.index t = ![t.val / 22, t.val % 22, 0] ∧ win0_4.index t = ![0, 0]
    ∧ win0_5.index t = ![t.val / 22, 0, 0, 0] ∧ win0_6.index t = ![t.val / 22, t.val % 22, 0] := (by decide +kernel : ∀ t : Fin grid0.N, _)

/-- A grid point's row tile. -/
theorem tile : ∀ t : Fin cfg0.N, (grid0.coords t 1).val = t.val % 22 := (by decide +kernel : ∀ t : Fin grid0.N, _)

/-- A grid point's rows: the stream's, plus the gate times the norm of the projected rows. -/
theorem rows_at (i : grid0.Coords) (a : FVec Ideal S1x384x1024 .bf16) (b : FVec Ideal S1x384x1024 .f32) (w : FVec Ideal S2048x2048 .bf16)
    (x : FVec Ideal S1x384x2048 .f32) (g : FVec Ideal S1x2048 .f32) (s0 s1 : FVec Ideal S1x1x1x2048 .f32) (r : Fin 384) (d : Fin 2048) :
    k0_pay1 (F := Ideal) (k0_pay2 x) (k0_pay3 a b w g) (k0_pay4 i) (k0_pay5 s0) s1 (ix3 0 r d)
      = x (ix3 0 r d) + onCtx ((i 1).val * 384 + r.val) (s0 (ix4 0 0 0 d)) (s1 (ix4 0 0 0 d))
          * rms (joined (fun k => a (ix3 0 r k)) (fun k => b (ix3 0 r k)) (fun k l => w (ix2 k l))) (fun k => g (ix2 0 k)) d := by
  have hi : (i 1).val < 22 := (i 1).isLt
  pointwise [k0_pay1, k0_pay2, k0_pay3, k0_pay4, k0_pay5]
  rw [select_row 384 (i 1).val r.val (by omega)]
  rfl

theorem stream_entry (b : Fin 2) (r : Fin 8448) (d : Fin 2048) :
    V m c main_v0 (ix3 b r d) = stream (fun i k => m ((c : Thread nD τ).loc main_arg4) (ix3 b i k)) (fun i k => m ((c : Thread nD τ).loc main_arg3) (ix3 b i k)) r d := by
  unfold V
  entry_read
  pointwise
  rfl

theorem mod_ctx_entry (b : Fin 2) (s : Fin 6) (d : Fin 2048) : V m c main_v6 (ix4 b 0 s d) = m ((c : Thread nD τ).loc main_arg7) (ix2 s d) := by
  unfold V
  entry_read
  pointwise

theorem mod_lat_entry (b : Fin 2) (s : Fin 6) (d : Fin 2048) : V m c main_v6 (ix4 b 1 s d) = m ((c : Thread nD τ).loc main_arg6) (ix3 b s d) := by
  unfold V
  entry_read
  pointwise

theorem first_entry (b : Fin 2) (r : Fin 8448) (d : Fin 1024) : V m c main_v1 (ix3 b r d) = m ((c : Thread nD τ).loc main_arg0) (ix3 b r d) := by
  unfold V
  entry_read
  pointwise

theorem second_entry (b : Fin 2) (r : Fin 8448) (d : Fin 1024) : V m c main_arg1 (ix3 b r d) = m ((c : Thread nD τ).loc main_arg1) (ix3 b r d) := by
  unfold V
  entry_read
  rfl

theorem weight_entry (d l : Fin 2048) : V m c main_v2 (ix2 d l) = m ((c : Thread nD τ).loc main_arg2) (ix2 d l) := by
  unfold V
  entry_read
  pointwise

theorem norm_entry (d : Fin 2048) : V m c main_v7 (ix2 0 d) = m ((c : Thread nD τ).loc main_arg5) (ix1 d) := by
  unfold V
  entry_read
  pointwise

/-- The batch of a grid point. -/
abbrev bat (t : Fin cfg0.N) : Fin 2 := ⟨t.val / 22, by have := lt_of_lt_of_eq t.isLt (show cfg0.N = 44 from N_0); omega⟩

/-- A row of a grid point's tile, in the stream. -/
abbrev row (t : Fin cfg0.N) (r : Fin 384) : Fin 8448 := ⟨t.val % 22 * 384 + r.val, by omega⟩

/-- The stream after the layer. -/
def out (b : Fin 2) (r : Fin 8448) (d : Fin 2048) : EReal :=
  stream (fun i k => m ((c : Thread nD τ).loc main_arg4) (ix3 b i k)) (fun i k => m ((c : Thread nD τ).loc main_arg3) (ix3 b i k)) r d
    + onCtx r.val (m ((c : Thread nD τ).loc main_arg7) (ix2 2 d)) (m ((c : Thread nD τ).loc main_arg6) (ix3 b 2 d))
      * rms (joined (fun k => m ((c : Thread nD τ).loc main_arg0) (ix3 b r k)) (fun k => m ((c : Thread nD τ).loc main_arg1) (ix3 b r k))
          (fun k l => m ((c : Thread nD τ).loc main_arg2) (ix2 k l))) (fun k => m ((c : Thread nD τ).loc main_arg5) (ix1 k)) d

theorem first_block (t : Fin cfg0.N) (r : Fin 384) (d : Fin 1024) : iblk m c 0 t (ix3 0 r d) = V m c main_v1 (ix3 (bat t) (row t r) d) := by
  blk_ext [iblk, idx t]

theorem second_block (t : Fin cfg0.N) (r : Fin 384) (d : Fin 1024) : iblk m c 1 t (ix3 0 r d) = V m c main_arg1 (ix3 (bat t) (row t r) d) := by
  blk_ext [iblk, idx t]

theorem weight_block (t : Fin cfg0.N) (d l : Fin 2048) : iblk m c 2 t (ix2 d l) = V m c main_v2 (ix2 d l) := by
  blk_ext [iblk, idx t]

theorem stream_block (t : Fin cfg0.N) (r : Fin 384) (d : Fin 2048) : iblk m c 3 t (ix3 0 r d) = V m c main_v0 (ix3 (bat t) (row t r) d) := by
  blk_ext [iblk, idx t]

theorem norm_block (t : Fin cfg0.N) (d : Fin 2048) : iblk m c 4 t (ix2 0 d) = V m c main_v7 (ix2 0 d) := by
  blk_ext [iblk, idx t]

theorem mod_block (t : Fin cfg0.N) (p : Fin 2) (s : Fin 6) (d : Fin 2048) : iblk m c 5 t (ix4 0 p s d) = V m c main_v6 (ix4 (bat t) p s d) := by
  blk_ext [iblk, idx t]

/-- A loaded row of the modulation's block. -/
theorem mod_load (x : FVec Ideal S1x2x6x2048 .f32) (p : Fin 2) (s : Fin 6) (inb : ∀ k, (![0, p.val, s.val, 0] : Fin 4 → ℕ) k + S1x1x1x2048.size k ≤ S1x2x6x2048.size k)
    (d : Fin 2048) : View.ld (Val := Elt Ideal) (e' := .f32) x (Rect.unit (s := S1x2x6x2048) ![0, p.val, s.val, 0] S1x1x1x2048.size inb) (ix4 0 0 0 d : S1x1x1x2048.Idx) = x (ix4 0 p s d) := by
  refine congrArg x (funext fun k => Fin.ext ?_)
  fin_cases k <;> simp [Rect.emb, ix4]

theorem joined_congr {a a' b b' : Fin 1024 → EReal} {w w' : Fin 2048 → Fin 2048 → EReal} (ha : ∀ k, a k = a' k) (hb : ∀ k, b k = b' k)
    (hw : ∀ k l, w k l = w' k l) : joined a b w = joined a' b' w' := by
  obtain rfl : a = a' := funext ha
  obtain rfl : b = b' := funext hb
  obtain rfl : w = w' := funext fun k => funext (hw k)
  rfl

set_option maxHeartbeats 2000000 in
/-- A grid point's output block. -/
theorem out_at (t : Fin cfg0.N) (r : Fin 384) (d : Fin 2048) :
    out0_6 (F := Ideal) (grid0.coords t) (iblk m c 0 t) (iblk m c 1 t) (iblk m c 2 t) (iblk m c 3 t) (iblk m c 4 t) (iblk m c 5 t) (ix3 0 r d)
      = out m c (bat t) (row t r) d := by
  unfold out0_6
  frame_out
  refine (rows_at (grid0.coords t) _ _ _ _ _ _ _ r d).trans ?_
  rw [tile]
  unfold out
  congr 1
  · exact (stream_block m c t r d).trans (stream_entry m c _ _ _)
  · congr 1
    · congr 1
      · exact (mod_load _ 0 2 _ _).trans ((mod_block m c t 0 2 d).trans (mod_ctx_entry m c _ _ _))
      · exact (mod_load _ 1 2 _ _).trans ((mod_block m c t 1 2 d).trans (mod_lat_entry m c _ _ _))
    · congr 1
      · exact joined_congr (fun k => (first_block m c t r k).trans (first_entry m c _ _ _)) (fun k => (second_block m c t r k).trans (second_entry m c _ _ _))
          (fun k l => (weight_block m c t k l).trans (weight_entry m c _ _))
      · funext k
        exact (norm_block m c t k).trans (norm_entry m c k)

/-- The output array. -/
def W (y : S2x8448x2048.Idx) : EReal := out m c (y 0) (y 1) (y 2)

theorem out_congr {b b' : Fin 2} {r r' : Fin 8448} {l l' : Fin 2048} (hb : b.val = b'.val) (hr : r.val = r'.val) (hl : l.val = l'.val) :
    out m c b r l = out m c b' r' l' := by
  obtain rfl := Fin.ext hb
  obtain rfl := Fin.ext hr
  obtain rfl := Fin.ext hl
  rfl

theorem final : (dats m 0 c).arrAt 6 cfg0.N = W m c := by
  refine (dats m 0 c).arrAt_eq_of_covers 6 _ (by decide +kernel) fun t _ y => ?_
  blk_simp
  rw [after0_6]
  obtain ⟨a, r, l, rfl⟩ : ∃ a r l, y = ix3 a r l := ⟨y 0, y 1, y 2, by funext k; fin_cases k <;> rfl⟩
  obtain rfl : a = 0 := Subsingleton.elim _ _
  obtain ⟨_, _, _, _, _, _, h6⟩ := idx t
  refine (out_at m c t r l).trans (out_congr m c ?_ ?_ ?_)
  · blk_simp [h6]
    rfl
  · blk_simp [h6]
  · blk_simp [h6]

end Cert.OutEvenIdeal.Layer
end
-- ==== Proof.OutEvenClaim.lean ====
module

public import proofs.«01_k».proof.Proof.OutEvenValue
public import proofs.«01_k».proof.Proof.Gen.OutEvenRefIdeal.Read
public import proofs.«01_k».proof.Defs

/-! The even layer's output projection and its residual: the reference, and the claim that the kernel computes what it does. -/

@[expose] public section

set_option maxRecDepth 16384

noncomputable section

namespace Cert.OutEvenIdeal

open Idealize.ShloMosaic Idealize.ShloMosaic.TcCoe Idealize.SL.Sem
open Cert.Rows Cert.OutEvenRefIdeal Cert.OutEvenRefIdeal.Read

section
variable (x0 : FVec Ideal S2x8448x1024 .f32) (x1 : FVec Ideal S2x8448x1024 .f32) (x2 : FVec Ideal S2048x2048 .f32) (x3 : FVec Ideal S2x8192x2048 .f32) (x4 : FVec Ideal S2x256x2048 .f32) (x5 : FVec Ideal S2048 .f32) (x6 : FVec Ideal S2x6x2048 .f32) (x7 : FVec Ideal S6x2048 .f32)

/-- The reference's projected rows. -/
theorem ref_dot (b : Fin 2) (r : Fin 8448) (d : Fin 2048) :
    val_main_v1 (F := Ideal) x0 x1 x2 (ix3 b r d) = joined (fun k => x0 (ix3 b r k)) (fun k => x1 (ix3 b r k)) (fun k l => x2 (ix2 k l)) d := by
  pointwise [val_main_v0, val_main_v1]
  try rfl

/-- The reference's normed rows. -/
theorem ref_norm (b : Fin 2) (r : Fin 8448) (d : Fin 2048) :
    val_main_v14 (F := Ideal) x0 x1 x2 x5 (ix3 b r d)
      = rms (joined (fun k => x0 (ix3 b r k)) (fun k => x1 (ix3 b r k)) (fun k l => x2 (ix2 k l))) (fun k => x5 (ix1 k)) d := by
  have e : (fun k => val_main_v1 (F := Ideal) x0 x1 x2 (ix3 b r k)) = joined (fun k => x0 (ix3 b r k)) (fun k => x1 (ix3 b r k)) (fun k l => x2 (ix2 k l)) :=
    funext fun k => ref_dot x0 x1 x2 b r k
  rw [← e]
  simp only [val_main_v2, val_main_v3, val_main_v4, val_main_v6, val_main_v8, val_main_v9, val_main_v10, val_main_v11, val_main_v14]
  generalize val_main_v1 (F := Ideal) x0 x1 x2 = p
  pointwise [val_main_v5, val_main_v7, val_main_v12, val_main_v13, val_main_cst, val_main_cst_0, val_main_cst_1]
  try rfl

/-- The reference's rows of the context. -/
theorem ref_ctx (b : Fin 2) (r : Fin 256) (d : Fin 2048) :
    val_main_v21 (F := Ideal) x0 x1 x2 x4 x5 x7 (ix3 b r d)
      = x4 (ix3 b r d) + x7 (ix2 2 d) * val_main_v14 (F := Ideal) x0 x1 x2 x5 (ix3 b ⟨r.val, by omega⟩ d) := by
  simp only [val_main_v21, val_main_v20, val_main_v17]
  generalize val_main_v14 (F := Ideal) x0 x1 x2 x5 = p
  pointwise [val_main_v15, val_main_v16, val_main_v18, val_main_v19]
  try rfl

/-- The reference's rows of the frames. -/
theorem ref_lat (b : Fin 2) (r : Fin 8192) (d : Fin 2048) :
    val_main_v26 (F := Ideal) x0 x1 x2 x3 x5 x6 (ix3 b r d)
      = x3 (ix3 b r d) + x6 (ix3 b 2 d) * val_main_v14 (F := Ideal) x0 x1 x2 x5 (ix3 b ⟨256 + r.val, by omega⟩ d) := by
  simp only [val_main_v26, val_main_v25, val_main_v23]
  generalize val_main_v14 (F := Ideal) x0 x1 x2 x5 = p
  pointwise [val_main_v22, val_main_v24]
  try rfl

/-- The reference's rows. -/
theorem ref_at (b : Fin 2) (r : Fin 8448) (d : Fin 2048) :
    val_main_v27 (F := Ideal) x0 x1 x2 x3 x4 x5 x6 x7 (ix3 b r d)
      = stream (fun i k => x4 (ix3 b i k)) (fun i k => x3 (ix3 b i k)) r d + onCtx r.val (x7 (ix2 2 d)) (x6 (ix3 b 2 d))
        * rms (joined (fun k => x0 (ix3 b r k)) (fun k => x1 (ix3 b r k)) (fun k l => x2 (ix2 k l))) (fun k => x5 (ix1 k)) d := by
  rw [← ref_norm]
  unfold stream onCtx
  by_cases h : r.val < 256
  · rw [dif_pos h, if_pos h]
    refine Eq.trans ?_ (ref_ctx x0 x1 x2 x4 x5 x7 b ⟨r.val, h⟩ d)
    unfold val_main_v27
    generalize val_main_v21 (F := Ideal) x0 x1 x2 x4 x5 x7 = p
    generalize val_main_v26 (F := Ideal) x0 x1 x2 x3 x5 x6 = q
    pointwise
    rw [dif_pos h]
  · rw [dif_neg h, if_neg h]
    have e : (⟨256 + (r.val - 256), by omega⟩ : Fin 8448) = r := Fin.ext (by show 256 + (r.val - 256) = r.val; omega)
    refine Eq.trans ?_ ((ref_lat x0 x1 x2 x3 x5 x6 b ⟨r.val - 256, by omega⟩ d).trans (congrArg (fun i => x3 (ix3 b ⟨r.val - 256, by omega⟩ d)
      + x6 (ix3 b 2 d) * val_main_v14 (F := Ideal) x0 x1 x2 x5 (ix3 b i d)) e))
    unfold val_main_v27
    generalize val_main_v21 (F := Ideal) x0 x1 x2 x4 x5 x7 = p
    generalize val_main_v26 (F := Ideal) x0 x1 x2 x3 x5 x6 = q
    pointwise
    rw [dif_neg h]

end

/-- The kernel's output array is the reference's result, of equal arguments. -/
theorem same (m : (ℓ : Loc OutEvenIdeal.nD OutEvenIdeal.τ OutEvenIdeal.sig) → Buf (Elt Ideal) ℓ) (c : Dev OutEvenIdeal.nD)
    (x0 : FVec Ideal S2x8448x1024 .f32) (x1 : FVec Ideal S2x8448x1024 .f32) (x2 : FVec Ideal S2048x2048 .f32) (x3 : FVec Ideal S2x8192x2048 .f32) (x4 : FVec Ideal S2x256x2048 .f32) (x5 : FVec Ideal S2048 .f32) (x6 : FVec Ideal S2x6x2048 .f32) (x7 : FVec Ideal S6x2048 .f32)
    (h0 : x0 = m ((c : Thread OutEvenIdeal.nD OutEvenIdeal.τ).loc OutEvenIdeal.main_arg0))
    (h1 : x1 = m ((c : Thread OutEvenIdeal.nD OutEvenIdeal.τ).loc OutEvenIdeal.main_arg1))
    (h2 : x2 = m ((c : Thread OutEvenIdeal.nD OutEvenIdeal.τ).loc OutEvenIdeal.main_arg2))
    (h3 : x3 = m ((c : Thread OutEvenIdeal.nD OutEvenIdeal.τ).loc OutEvenIdeal.main_arg3))
    (h4 : x4 = m ((c : Thread OutEvenIdeal.nD OutEvenIdeal.τ).loc OutEvenIdeal.main_arg4))
    (h5 : x5 = m ((c : Thread OutEvenIdeal.nD OutEvenIdeal.τ).loc OutEvenIdeal.main_arg5))
    (h6 : x6 = m ((c : Thread OutEvenIdeal.nD OutEvenIdeal.τ).loc OutEvenIdeal.main_arg6))
    (h7 : x7 = m ((c : Thread OutEvenIdeal.nD OutEvenIdeal.τ).loc OutEvenIdeal.main_arg7)) :
    (OutEvenIdeal.Gen.dats m 0 c).arrAt 6 OutEvenIdeal.cfg0.N = val_main_v27 (F := Ideal) x0 x1 x2 x3 x4 x5 x6 x7 := by
  subst h0 h1 h2 h3 h4 h5 h6 h7
  rw [Layer.final]
  funext y
  obtain ⟨b, r, l, rfl⟩ : ∃ b r l, y = ix3 b r l := ⟨y 0, y 1, y 2, by funext k; fin_cases k <;> rfl⟩
  exact (ref_at _ _ _ _ _ _ _ _ b r l).symm

/-- The kernel computes what the reference computes. -/
theorem algebraic : Cert.algebraic_OutEvenIdeal_OutEvenRefIdeal := by
  intro m g m' g' _ hagree
  refine ⟨fun c => val_main_v27 (F := Ideal) (m' ((c.tc : Thread OutEvenRefIdeal.nD OutEvenRefIdeal.τ).loc OutEvenRefIdeal.main_arg0))
    (m' ((c.tc : Thread OutEvenRefIdeal.nD OutEvenRefIdeal.τ).loc OutEvenRefIdeal.main_arg1))
    (m' ((c.tc : Thread OutEvenRefIdeal.nD OutEvenRefIdeal.τ).loc OutEvenRefIdeal.main_arg2))
    (m' ((c.tc : Thread OutEvenRefIdeal.nD OutEvenRefIdeal.τ).loc OutEvenRefIdeal.main_arg3))
    (m' ((c.tc : Thread OutEvenRefIdeal.nD OutEvenRefIdeal.τ).loc OutEvenRefIdeal.main_arg4))
    (m' ((c.tc : Thread OutEvenRefIdeal.nD OutEvenRefIdeal.τ).loc OutEvenRefIdeal.main_arg5))
    (m' ((c.tc : Thread OutEvenRefIdeal.nD OutEvenRefIdeal.τ).loc OutEvenRefIdeal.main_arg6))
    (m' ((c.tc : Thread OutEvenRefIdeal.nD OutEvenRefIdeal.τ).loc OutEvenRefIdeal.main_arg7)), ?_, ?_⟩
  · refine (θ_run _ _ _).mono (fun r h c => ?_) (OutEvenIdeal.Value.run_blocks (F := Ideal) m g)
    obtain ⟨a0, a1, a2, a3, a4, a5, a6, a7⟩ := hagree c
    exact ⟨(h c).1.trans (same m c _ _ _ _ _ _ _ _ a0 a1 a2 a3 a4 a5 a6 a7), (h c).2⟩
  · exact OutEvenRefIdeal.Value.run (F := Ideal) m' g'

end Cert.OutEvenIdeal
end
-- ==== Proof.OutOddPoint.lean ====
module

public import proofs.«01_k».proof.Proof.Rows
public import proofs.«01_k».proof.Proof.Gen.OutOddIdeal.Skeleton
public import Idealize.ShloMosaic.Lib.Pipeline.ValueKit

/-! The odd layer's output projection: one grid point's heads, and what it adds to the accumulator. -/

@[expose] public section

set_option maxRecDepth 16384

noncomputable section

namespace Cert.OutOddIdeal.Layer

open Idealize.ShloMosaic Idealize.ShloMosaic.TcCoe Idealize.SL.Sem
open Cert.OutOddIdeal Cert.OutOddIdeal.Gen Cert.Rows

/-! The eight heads of a grid point, each printed in pieces of its own. -/

section
variable (a b : FVec Ideal S1x384x128 .f32) (g : FVec Ideal S1x128 .f32) (z : FVec Ideal S1x384x128 .f32) (r : Fin 384) (j : Fin 128)

theorem head0 : k0_pay5 (F := Ideal) a b g z (ix2 r j)
    = headOut (fun i => a (ix3 0 r i) + b (ix3 0 r i)) (fun i => g (ix2 0 i)) (fun i => z (ix3 0 r i)) j := by
  pointwise [k0_pay5]
  rfl

theorem head1 : k0_pay8 (F := Ideal) (k0_pay6 a b) (k0_pay7 a b) g z (ix2 r j)
    = headOut (fun i => a (ix3 0 r i) + b (ix3 0 r i)) (fun i => g (ix2 0 i)) (fun i => z (ix3 0 r i)) j := by
  pointwise [k0_pay6, k0_pay7, k0_pay8]
  rfl

theorem head2 : k0_pay10 (F := Ideal) (k0_pay9 a b g) z (ix2 r j)
    = headOut (fun i => a (ix3 0 r i) + b (ix3 0 r i)) (fun i => g (ix2 0 i)) (fun i => z (ix3 0 r i)) j := by
  pointwise [k0_pay9, k0_pay10]
  rfl

theorem head3 : k0_pay11 (F := Ideal) a b g z (ix2 r j)
    = headOut (fun i => a (ix3 0 r i) + b (ix3 0 r i)) (fun i => g (ix2 0 i)) (fun i => z (ix3 0 r i)) j := by
  pointwise [k0_pay11]
  rfl

theorem head4 : k0_pay14 (F := Ideal) (k0_pay12 a b) (k0_pay13 a b) g z (ix2 r j)
    = headOut (fun i => a (ix3 0 r i) + b (ix3 0 r i)) (fun i => g (ix2 0 i)) (fun i => z (ix3 0 r i)) j := by
  pointwise [k0_pay12, k0_pay13, k0_pay14]
  rfl

theorem head5 : k0_pay18 (F := Ideal) (k0_pay15 a b g) (k0_pay16 z) (k0_pay17 z) (ix2 r j)
    = headOut (fun i => a (ix3 0 r i) + b (ix3 0 r i)) (fun i => g (ix2 0 i)) (fun i => z (ix3 0 r i)) j := by
  pointwise [k0_pay15, k0_pay16, k0_pay17, k0_pay18]
  rfl

theorem head6 : k0_pay19 (F := Ideal) a b g z (ix2 r j)
    = headOut (fun i => a (ix3 0 r i) + b (ix3 0 r i)) (fun i => g (ix2 0 i)) (fun i => z (ix3 0 r i)) j := by
  pointwise [k0_pay19]
  rfl

/-- The last head, as the accumulating product takes it. -/
theorem head7 : k0_pay20 (F := Ideal) a b (ix2 r j) * Ideal.rsqrt (k0_pay21 (F := Ideal) a b (ix2 r 0) + Ideal.ofBits .f32 0x358637BD#32) * g (ix2 0 j)
      * (z (ix3 0 r j) * Ideal.logistic (z (ix3 0 r j)))
    = headOut (fun i => a (ix3 0 r i) + b (ix3 0 r i)) (fun i => g (ix2 0 i)) (fun i => z (ix3 0 r i)) j := by
  pointwise [k0_pay20, k0_pay21]
  rfl

end

/-- The accumulating product: eight heads of 128 lanes meet 1024 rows of the weights. -/
theorem dot_at (p : Fin 8 → Fin 128 → EReal) (p0 p1 p2 p3 p4 p5 p6 : FVec Ideal S384x128 .bf16) (o : FVec Ideal S384x128 .f32) (q : FVec Ideal S384x1 .f32)
    (g : FVec Ideal S1x128 .f32) (z : FVec Ideal S1x384x128 .f32) (acc : FVec Ideal S384x2048 .f32) (w : FVec Ideal S1024x2048 .bf16) (r : Fin 384) (l : Fin 2048)
    (h0 : ∀ j, p0 (ix2 r j) = p 0 j) (h1 : ∀ j, p1 (ix2 r j) = p 1 j) (h2 : ∀ j, p2 (ix2 r j) = p 2 j) (h3 : ∀ j, p3 (ix2 r j) = p 3 j) (h4 : ∀ j, p4 (ix2 r j) = p 4 j) (h5 : ∀ j, p5 (ix2 r j) = p 5 j) (h6 : ∀ j, p6 (ix2 r j) = p 6 j)
    (h7 : ∀ j, o (ix2 r j) * Ideal.rsqrt (q (ix2 r 0) + Ideal.ofBits .f32 0x358637BD#32) * g (ix2 0 j) * (z (ix3 0 r j) * Ideal.logistic (z (ix3 0 r j))) = p 7 j) :
    k0_pay1 (F := Ideal) p0 p1 p2 p3 p4 p5 p6 o q g z acc w (ix2 r l)
      = acc (ix2 r l) + ∑ s : Fin 8, ∑ j : Fin 128, p s j * w (ix2 ⟨s.val * 128 + j.val, by omega⟩ l) := by
  pointwise [k0_pay1]
  refine congrArg (acc (ix2 r l) + ·) (Fin.sum_mul_add_congr (fun s j hl => ?_)).symm
  obtain ⟨s, hs⟩ := s
  interval_cases s <;> dsimp only
  · rw [dif_pos (by omega)]
    simp only [show 0 * 128 + j.val = j.val by omega]
    exact congrArg (· * _) (h0 j).symm
  · rw [dif_neg (by omega), dif_pos (by omega)]
    simp only [show 1 * 128 + j.val - 128 = j.val by omega]
    exact congrArg (· * _) (h1 j).symm
  · rw [dif_neg (by omega), dif_neg (by omega), dif_pos (by omega)]
    simp only [show 2 * 128 + j.val - 128 - 128 = j.val by omega]
    exact congrArg (· * _) (h2 j).symm
  · rw [dif_neg (by omega), dif_neg (by omega), dif_neg (by omega), dif_pos (by omega)]
    simp only [show 3 * 128 + j.val - 128 - 128 - 128 = j.val by omega]
    exact congrArg (· * _) (h3 j).symm
  · rw [dif_neg (by omega), dif_neg (by omega), dif_neg (by omega), dif_neg (by omega), dif_pos (by omega)]
    simp only [show 4 * 128 + j.val - 128 - 128 - 128 - 128 = j.val by omega]
    exact congrArg (· * _) (h4 j).symm
  · rw [dif_neg (by omega), dif_neg (by omega), dif_neg (by omega), dif_neg (by omega), dif_neg (by omega), dif_pos (by omega)]
    simp only [show 5 * 128 + j.val - 128 - 128 - 128 - 128 - 128 = j.val by omega]
    exact congrArg (· * _) (h5 j).symm
  · rw [dif_neg (by omega), dif_neg (by omega), dif_neg (by omega), dif_neg (by omega), dif_neg (by omega), dif_neg (by omega), dif_pos (by omega)]
    simp only [show 6 * 128 + j.val - 128 - 128 - 128 - 128 - 128 - 128 = j.val by omega]
    exact congrArg (· * _) (h6 j).symm
  · rw [dif_neg (by omega), dif_neg (by omega), dif_neg (by omega), dif_neg (by omega), dif_neg (by omega), dif_neg (by omega), dif_neg (by omega)]
    simp only [show 7 * 128 + j.val - 128 - 128 - 128 - 128 - 128 - 128 - 128 = j.val by omega]
    exact congrArg (· * _) (h7 j).symm

/-- Lanes `o` to `o + 128` of a block. -/
abbrev part (x : FVec Ideal S1x384x1024 .f32) (o : ℕ) (inb : ∀ k, (![0, 0, o] : Fin 3 → ℕ) k + S1x384x128.size k ≤ S1x384x1024.size k) : FVec Ideal S1x384x128 .f32 :=
  View.ld (Val := Elt Ideal) (e' := .f32) x (Rect.unit (s := S1x384x1024) ![0, 0, o] S1x384x128.size inb)

theorem part_at (x : FVec Ideal S1x384x1024 .f32) (o : ℕ) (ho : o + 128 ≤ 1024) (inb : ∀ k, (![0, 0, o] : Fin 3 → ℕ) k + S1x384x128.size k ≤ S1x384x1024.size k)
    (r : Fin 384) (j : Fin 128) : part x o inb (ix3 0 r j) = x (ix3 0 r ⟨o + j.val, by omega⟩) := by
  refine congrArg x (funext fun k => Fin.ext ?_)
  fin_cases k <;> simp [Rect.emb, ix3]

/-- One grid point adds its eight heads' products to the accumulator. -/
theorem step (x0 x1 x2 : FVec Ideal S1x384x1024 .f32) (g : FVec Ideal S1x128 .f32) (acc : FVec Ideal S384x2048 .f32) (w : FVec Ideal S1024x2048 .bf16)
    (r : Fin 384) (l : Fin 2048) :
    k0_pay1 (F := Ideal) (k0_pay5 (part x0 0 inb_S1x384x1024_S1x384x128_0_0_0) (part x1 0 inb_S1x384x1024_S1x384x128_0_0_0) g (part x2 0 inb_S1x384x1024_S1x384x128_0_0_0))
        (k0_pay8 (k0_pay6 (part x0 128 inb_S1x384x1024_S1x384x128_0_0_128) (part x1 128 inb_S1x384x1024_S1x384x128_0_0_128)) (k0_pay7 (part x0 128 inb_S1x384x1024_S1x384x128_0_0_128) (part x1 128 inb_S1x384x1024_S1x384x128_0_0_128)) g (part x2 128 inb_S1x384x1024_S1x384x128_0_0_128))
        (k0_pay10 (k0_pay9 (part x0 256 inb_S1x384x1024_S1x384x128_0_0_256) (part x1 256 inb_S1x384x1024_S1x384x128_0_0_256) g) (part x2 256 inb_S1x384x1024_S1x384x128_0_0_256))
        (k0_pay11 (part x0 384 inb_S1x384x1024_S1x384x128_0_0_384) (part x1 384 inb_S1x384x1024_S1x384x128_0_0_384) g (part x2 384 inb_S1x384x1024_S1x384x128_0_0_384))
        (k0_pay14 (k0_pay12 (part x0 512 inb_S1x384x1024_S1x384x128_0_0_512) (part x1 512 inb_S1x384x1024_S1x384x128_0_0_512)) (k0_pay13 (part x0 512 inb_S1x384x1024_S1x384x128_0_0_512) (part x1 512 inb_S1x384x1024_S1x384x128_0_0_512)) g (part x2 512 inb_S1x384x1024_S1x384x128_0_0_512))
        (k0_pay18 (k0_pay15 (part x0 640 inb_S1x384x1024_S1x384x128_0_0_640) (part x1 640 inb_S1x384x1024_S1x384x128_0_0_640) g) (k0_pay16 (part x2 640 inb_S1x384x1024_S1x384x128_0_0_640)) (k0_pay17 (part x2 640 inb_S1x384x1024_S1x384x128_0_0_640)))
        (k0_pay19 (part x0 768 inb_S1x384x1024_S1x384x128_0_0_768) (part x1 768 inb_S1x384x1024_S1x384x128_0_0_768) g (part x2 768 inb_S1x384x1024_S1x384x128_0_0_768))
        (k0_pay20 (part x0 896 inb_S1x384x1024_S1x384x128_0_0_896) (part x1 896 inb_S1x384x1024_S1x384x128_0_0_896)) (k0_pay21 (part x0 896 inb_S1x384x1024_S1x384x128_0_0_896) (part x1 896 inb_S1x384x1024_S1x384x128_0_0_896)) g (part x2 896 inb_S1x384x1024_S1x384x128_0_0_896) acc w (ix2 r l)
      = acc (ix2 r l) + ∑ s : Fin 8, ∑ j : Fin 128, headOut (fun i => x0 (ix3 0 r ⟨s.val * 128 + i.val, by omega⟩) + x1 (ix3 0 r ⟨s.val * 128 + i.val, by omega⟩))
          (fun i => g (ix2 0 i)) (fun i => x2 (ix3 0 r ⟨s.val * 128 + i.val, by omega⟩)) j * w (ix2 ⟨s.val * 128 + j.val, by omega⟩ l) := by
  refine dot_at (fun s j => headOut (fun i => x0 (ix3 0 r ⟨s.val * 128 + i.val, by omega⟩) + x1 (ix3 0 r ⟨s.val * 128 + i.val, by omega⟩))
          (fun i => g (ix2 0 i)) (fun i => x2 (ix3 0 r ⟨s.val * 128 + i.val, by omega⟩)) j) _ _ _ _ _ _ _ _ _ _ _ _ _ _ _ ?_ ?_ ?_ ?_ ?_ ?_ ?_ ?_
  · refine fun j => (head0 _ _ _ _ r j).trans (headOut_congr (fun i => ?_) (fun i => rfl) (fun i => ?_) j)
    · rw [part_at _ _ (by omega), part_at _ _ (by omega)]
      try (congr 4 <;> exact Fin.ext (by show 0 + i.val = 0 * 128 + i.val; omega))
    · rw [part_at _ _ (by omega)]
      try (congr 2 <;> exact Fin.ext (by show 0 + i.val = 0 * 128 + i.val; omega))
  · refine fun j => (head1 _ _ _ _ r j).trans (headOut_congr (fun i => ?_) (fun i => rfl) (fun i => ?_) j)
    · rw [part_at _ _ (by omega), part_at _ _ (by omega)]
      try (congr 4 <;> exact Fin.ext (by show 128 + i.val = 1 * 128 + i.val; omega))
    · rw [part_at _ _ (by omega)]
      try (congr 2 <;> exact Fin.ext (by show 128 + i.val = 1 * 128 + i.val; omega))
  · refine fun j => (head2 _ _ _ _ r j).trans (headOut_congr (fun i => ?_) (fun i => rfl) (fun i => ?_) j)
    · rw [part_at _ _ (by omega), part_at _ _ (by omega)]
      try (congr 4 <;> exact Fin.ext (by show 256 + i.val = 2 * 128 + i.val; omega))
    · rw [part_at _ _ (by omega)]
      try (congr 2 <;> exact Fin.ext (by show 256 + i.val = 2 * 128 + i.val; omega))
  · refine fun j => (head3 _ _ _ _ r j).trans (headOut_congr (fun i => ?_) (fun i => rfl) (fun i => ?_) j)
    · rw [part_at _ _ (by omega), part_at _ _ (by omega)]
      try (congr 4 <;> exact Fin.ext (by show 384 + i.val = 3 * 128 + i.val; omega))
    · rw [part_at _ _ (by omega)]
      try (congr 2 <;> exact Fin.ext (by show 384 + i.val = 3 * 128 + i.val; omega))
  · refine fun j => (head4 _ _ _ _ r j).trans (headOut_congr (fun i => ?_) (fun i => rfl) (fun i => ?_) j)
    · rw [part_at _ _ (by omega), part_at _ _ (by omega)]
      try (congr 4 <;> exact Fin.ext (by show 512 + i.val = 4 * 128 + i.val; omega))
    · rw [part_at _ _ (by omega)]
      try (congr 2 <;> exact Fin.ext (by show 512 + i.val = 4 * 128 + i.val; omega))
  · refine fun j => (head5 _ _ _ _ r j).trans (headOut_congr (fun i => ?_) (fun i => rfl) (fun i => ?_) j)
    · rw [part_at _ _ (by omega), part_at _ _ (by omega)]
      try (congr 4 <;> exact Fin.ext (by show 640 + i.val = 5 * 128 + i.val; omega))
    · rw [part_at _ _ (by omega)]
      try (congr 2 <;> exact Fin.ext (by show 640 + i.val = 5 * 128 + i.val; omega))
  · refine fun j => (head6 _ _ _ _ r j).trans (headOut_congr (fun i => ?_) (fun i => rfl) (fun i => ?_) j)
    · rw [part_at _ _ (by omega), part_at _ _ (by omega)]
      try (congr 4 <;> exact Fin.ext (by show 768 + i.val = 6 * 128 + i.val; omega))
    · rw [part_at _ _ (by omega)]
      try (congr 2 <;> exact Fin.ext (by show 768 + i.val = 6 * 128 + i.val; omega))
  · refine fun j => (head7 _ _ _ _ r j).trans (headOut_congr (fun i => ?_) (fun i => rfl) (fun i => ?_) j)
    · rw [part_at _ _ (by omega), part_at _ _ (by omega)]
      try (congr 4 <;> exact Fin.ext (by show 896 + i.val = 7 * 128 + i.val; omega))
    · rw [part_at _ _ (by omega)]
      try (congr 2 <;> exact Fin.ext (by show 896 + i.val = 7 * 128 + i.val; omega))

/-- A grid point's output rows: the stream's, plus the gate times the norm of the accumulated rows. -/
theorem rows_at (n : ℕ) (hn : n < 22) (x : FVec Ideal S1x384x2048 .f32) (acc : FVec Ideal S384x2048 .f32) (g : FVec Ideal S1x2048 .f32)
    (s0 s1 : FVec Ideal S1x1x1x2048 .f32) (r : Fin 384) (d : Fin 2048) :
    k0_pay2 (F := Ideal) (k0_pay3 (BitVec.ofNat 32 n) x acc g s0 s1) (ix3 0 r d)
      = x (ix3 0 r d) + onCtx (n * 384 + r.val) (s0 (ix4 0 0 0 d)) (s1 (ix4 0 0 0 d)) * rms (fun k => acc (ix2 r k)) (fun k => g (ix2 0 k)) d := by
  pointwise [k0_pay2, k0_pay3]
  rw [select_row 384 n r.val (by omega)]
  rfl

/-- The accumulator starts at zero. -/
theorem zero_at (r : Fin 384) (l : Fin 2048) : k0_pay4 (F := Ideal) (ix2 r l) = 0 := by
  pointwise [k0_pay4]

end Cert.OutOddIdeal.Layer
end
-- ==== Proof.OutOddValue.lean ====
module

public import proofs.«01_k».proof.Proof.OutOddPoint
public import proofs.«01_k».proof.Proof.Gen.OutOddIdeal.Value
public import Idealize.ShloMosaic.Lib.Pipeline.ValueKit
public import Idealize.ShloMosaic.Lib.Pipeline.ReadBack
public import Idealize.ShloMosaic.Lib.Claim

/-! The odd layer's output projection and its residual: what each grid point computes, and the output array. -/

@[expose] public section

set_option maxRecDepth 16384

noncomputable section

namespace Cert.OutOddIdeal.Layer

open Idealize.ShloMosaic Idealize.ShloMosaic.TcCoe Idealize.SL.Sem
open Cert.OutOddIdeal Cert.OutOddIdeal.Gen Cert.Rows

variable (m : (ℓ : Loc nD τ sig) → Buf (Elt Ideal) ℓ) (c : Dev nD)

/-- The windows' blocks at a grid point. -/
theorem idx : ∀ t : Fin cfg0.N, win0_0.index t = ![t.val / 88, t.val / 4 % 22, t.val % 4] ∧ win0_1.index t = ![t.val / 88, t.val / 4 % 22, t.val % 4]
    ∧ win0_2.index t = ![t.val / 88, t.val / 4 % 22, 8 + t.val % 4] ∧ win0_3.index t = ![0, 0] ∧ win0_4.index t = ![t.val % 4, 0]
    ∧ win0_5.index t = ![t.val / 88, t.val / 4 % 22, 0] ∧ win0_6.index t = ![0, 0]
    ∧ win0_7.index t = ![t.val / 88, 0, 0, 0] ∧ win0_8.index t = ![t.val / 88, t.val / 4 % 22, 0] := (by decide +kernel : ∀ t : Fin grid0.N, _)

/-- A grid point's row tile. -/
theorem tile : ∀ t : Fin cfg0.N, (grid0.coords t 1).val = t.val / 4 % 22 := (by decide +kernel : ∀ t : Fin grid0.N, _)

theorem stream_entry (b : Fin 2) (r : Fin 8448) (d : Fin 2048) :
    V m c main_v0 (ix3 b r d) = stream (fun i k => m ((c : Thread nD τ).loc main_arg6) (ix3 b i k)) (fun i k => m ((c : Thread nD τ).loc main_arg5) (ix3 b i k)) r d := by
  unfold V
  entry_read
  pointwise
  rfl

theorem mod_ctx_entry (b : Fin 2) (s : Fin 6) (d : Fin 2048) : V m c main_v5 (ix4 b 0 s d) = m ((c : Thread nD τ).loc main_arg9) (ix2 s d) := by
  unfold V
  entry_read
  pointwise

theorem mod_lat_entry (b : Fin 2) (s : Fin 6) (d : Fin 2048) : V m c main_v5 (ix4 b 1 s d) = m ((c : Thread nD τ).loc main_arg8) (ix3 b s d) := by
  unfold V
  entry_read
  pointwise

theorem first_entry (b : Fin 2) (r : Fin 8448) (d : Fin 4096) : V m c main_arg0 (ix3 b r d) = m ((c : Thread nD τ).loc main_arg0) (ix3 b r d) := by
  unfold V
  entry_read
  rfl

theorem second_entry (b : Fin 2) (r : Fin 8448) (d : Fin 4096) : V m c main_arg1 (ix3 b r d) = m ((c : Thread nD τ).loc main_arg1) (ix3 b r d) := by
  unfold V
  entry_read
  rfl

theorem gate_entry (b : Fin 2) (r : Fin 8448) (d : Fin 12288) : V m c main_arg2 (ix3 b r d) = m ((c : Thread nD τ).loc main_arg2) (ix3 b r d) := by
  unfold V
  entry_read
  rfl

theorem head_entry (d : Fin 128) : V m c main_v6 (ix2 0 d) = m ((c : Thread nD τ).loc main_arg3) (ix1 d) := by
  unfold V
  entry_read
  pointwise

theorem weight_entry (d : Fin 4096) (l : Fin 2048) : V m c main_v1 (ix2 d l) = m ((c : Thread nD τ).loc main_arg4) (ix2 d l) := by
  unfold V
  entry_read
  pointwise

theorem norm_entry (d : Fin 2048) : V m c main_v7 (ix2 0 d) = m ((c : Thread nD τ).loc main_arg7) (ix1 d) := by
  unfold V
  entry_read
  pointwise

/-- The batch of a grid point. -/
abbrev bat (t : Fin cfg0.N) : Fin 2 := ⟨t.val / 88, by have := lt_of_lt_of_eq t.isLt (show cfg0.N = 176 from N_0); omega⟩

/-- A row of a grid point's tile, in the stream. -/
abbrev row (t : Fin cfg0.N) (r : Fin 384) : Fin 8448 := ⟨t.val / 4 % 22 * 384 + r.val, by omega⟩

/-- A lane of a grid point's heads, among the 4096. -/
abbrev lane (t : Fin cfg0.N) (e : Fin 1024) : Fin 4096 := ⟨t.val % 4 * 1024 + e.val, by omega⟩

theorem first_block (t : Fin cfg0.N) (r : Fin 384) (e : Fin 1024) : iblk m c 0 t (ix3 0 r e) = V m c main_arg0 (ix3 (bat t) (row t r) (lane t e)) := by
  blk_ext [iblk, idx t]

theorem second_block (t : Fin cfg0.N) (r : Fin 384) (e : Fin 1024) : iblk m c 1 t (ix3 0 r e) = V m c main_arg1 (ix3 (bat t) (row t r) (lane t e)) := by
  blk_ext [iblk, idx t]

theorem gate_block (t : Fin cfg0.N) (r : Fin 384) (e : Fin 1024) :
    iblk m c 2 t (ix3 0 r e) = V m c main_arg2 (ix3 (bat t) (row t r) ⟨(8 + t.val % 4) * 1024 + e.val, by omega⟩) := by
  blk_ext [iblk, idx t]

theorem head_block (t : Fin cfg0.N) (d : Fin 128) : iblk m c 3 t (ix2 0 d) = V m c main_v6 (ix2 0 d) := by
  blk_ext [iblk, idx t]

theorem weight_block (t : Fin cfg0.N) (e : Fin 1024) (l : Fin 2048) : iblk m c 4 t (ix2 e l) = V m c main_v1 (ix2 (lane t e) l) := by
  blk_ext [iblk, idx t]

theorem stream_block (t : Fin cfg0.N) (r : Fin 384) (d : Fin 2048) : iblk m c 5 t (ix3 0 r d) = V m c main_v0 (ix3 (bat t) (row t r) d) := by
  blk_ext [iblk, idx t]

theorem norm_block (t : Fin cfg0.N) (d : Fin 2048) : iblk m c 6 t (ix2 0 d) = V m c main_v7 (ix2 0 d) := by
  blk_ext [iblk, idx t]

theorem mod_block (t : Fin cfg0.N) (p : Fin 2) (s : Fin 6) (d : Fin 2048) : iblk m c 7 t (ix4 0 p s d) = V m c main_v5 (ix4 (bat t) p s d) := by
  blk_ext [iblk, idx t]

/-- A loaded row of the modulation's block. -/
theorem mod_load (x : FVec Ideal S1x2x6x2048 .f32) (p : Fin 2) (s : Fin 6) (inb : ∀ k, (![0, p.val, s.val, 0] : Fin 4 → ℕ) k + S1x1x1x2048.size k ≤ S1x2x6x2048.size k)
    (d : Fin 2048) : View.ld (Val := Elt Ideal) (e' := .f32) x (Rect.unit (s := S1x2x6x2048) ![0, p.val, s.val, 0] S1x1x1x2048.size inb) (ix4 0 0 0 d : S1x1x1x2048.Idx) = x (ix4 0 p s d) := by
  refine congrArg x (funext fun k => Fin.ext ?_)
  fin_cases k <;> simp [Rect.emb, ix4]

/-- Lane `j` of head `h`. -/
abbrev at' (h : Fin 32) (j : Fin 128) : Fin 4096 := ⟨h.val * 128 + j.val, by omega⟩

/-- Two directions' outputs, added. -/
def both (p q : EReal) : EReal := p + q

/-- A head of a row: the two directions' outputs added, normalised and gated. -/
def head (b : Fin 2) (r : Fin 8448) (h : Fin 32) (j : Fin 128) : EReal :=
  headOut (fun i => both (m ((c : Thread nD τ).loc main_arg0) (ix3 b r (at' h i))) (m ((c : Thread nD τ).loc main_arg1) (ix3 b r (at' h i)))) (fun i => m ((c : Thread nD τ).loc main_arg3) (ix1 i))
    (fun i => m ((c : Thread nD τ).loc main_arg2) (ix3 b r ⟨8192 + (h.val * 128 + i.val), by omega⟩)) j

/-- A head's part of the projection. -/
def headDot (b : Fin 2) (r : Fin 8448) (l : Fin 2048) (h : Fin 32) : EReal := ∑ j, head m c b r h j * m ((c : Thread nD τ).loc main_arg4) (ix2 (at' h j) l)

/-- The projection: all heads. -/
def proj (b : Fin 2) (r : Fin 8448) (l : Fin 2048) : EReal := ∑ h, headDot m c b r l h

/-- The part of the projection that step `k` of a row tile adds. -/
def chunk (b : Fin 2) (r : Fin 8448) (l : Fin 2048) (k : ℕ) : EReal := ∑ s : Fin 8, headDot m c b r l ⟨k % 4 * 8 + s.val, by omega⟩

/-- The four steps add up to the projection. -/
theorem chunks (b : Fin 2) (r : Fin 8448) (l : Fin 2048) : ∑ k ∈ Finset.range 4, chunk m c b r l k = proj m c b r l := by
  rw [Finset.sum_range]
  exact Fin.sum_mul_add_congr (fun k s hl => congrArg (headDot m c b r l) (Fin.ext (by show k.val % 4 * 8 + s.val = k.val * 8 + s.val; omega)))

/-- A grid point's heads' products are its step's part of the projection. -/
theorem chunk_block (t : Fin cfg0.N) (r : Fin 384) (l : Fin 2048) (x0 x1 x2 : FVec Ideal S1x384x1024 .f32) (g : FVec Ideal S1x128 .f32) (w : FVec Ideal S1024x2048 .bf16)
    (h0 : x0 = iblk m c 0 t) (h1 : x1 = iblk m c 1 t) (h2 : x2 = iblk m c 2 t) (h3 : g = iblk m c 3 t) (h4 : w = iblk m c 4 t) :
    ∑ s : Fin 8, ∑ j : Fin 128, headOut (fun i => x0 (ix3 0 r ⟨s.val * 128 + i.val, by omega⟩) + x1 (ix3 0 r ⟨s.val * 128 + i.val, by omega⟩))
          (fun i => g (ix2 0 i)) (fun i => x2 (ix3 0 r ⟨s.val * 128 + i.val, by omega⟩)) j * w (ix2 ⟨s.val * 128 + j.val, by omega⟩ l)
      = chunk m c (bat t) (row t r) l (t.val % 4) := by
  unfold chunk headDot
  refine Finset.sum_congr rfl fun s _ => Finset.sum_congr rfl fun j _ => congrArg₂ (· * ·) ?_ ?_
  · unfold head
    refine headOut_congr (fun i => ?_) (fun i => ?_) (fun i => ?_) j
    · rw [h0, h1, first_block, second_block, first_entry, second_entry]
      have e : lane t ⟨s.val * 128 + i.val, by omega⟩ = at' ⟨t.val % 4 % 4 * 8 + s.val, by omega⟩ i :=
        Fin.ext (by show t.val % 4 * 1024 + (s.val * 128 + i.val) = (t.val % 4 % 4 * 8 + s.val) * 128 + i.val; omega)
      rw [e]
      rfl
    · rw [h3]
      exact (head_block m c t i).trans (head_entry m c i)
    · rw [h2, gate_block, gate_entry]
      exact congrArg (fun e => m ((c : Thread nD τ).loc main_arg2) (ix3 (bat t) (row t r) e))
        (Fin.ext (by show (8 + t.val % 4) * 1024 + (s.val * 128 + i.val) = 8192 + ((t.val % 4 % 4 * 8 + s.val) * 128 + i.val); omega))
  · rw [h4, weight_block, weight_entry]
    exact congrArg (fun e => m ((c : Thread nD τ).loc main_arg4) (ix2 e l))
      (Fin.ext (by show t.val % 4 * 1024 + (s.val * 128 + j.val) = (t.val % 4 % 4 * 8 + s.val) * 128 + j.val; omega))

set_option maxHeartbeats 4000000 in
/-- A row tile's first point leaves its step's part in the accumulator. -/
theorem acc_first (t : Fin cfg0.N) (h0 : t.val % 4 = 0) (r : Fin 384) (l : Fin 2048) :
    (outsAt0 m c t.val t.isLt).2 (ix2 r l) = chunk m c (bat t) (row t r) l 0 := by
  rw [outsAt0_A m c t h0 (by omega)]
  frame_out
  refine (step (iblk m c 0 t) (iblk m c 1 t) (iblk m c 2 t) (iblk m c 3 t) _ (iblk m c 4 t) r l).trans ?_
  rw [chunk_block m c t r l _ _ _ _ _ rfl rfl rfl rfl rfl, h0]
  refine (congrArg (· + _) (zero_at r l)).trans (zero_add _)

set_option maxHeartbeats 4000000 in
/-- A later point adds its step's part. -/
theorem acc_next (t : Fin cfg0.N) (h0 : ¬t.val % 4 = 0) (r : Fin 384) (l : Fin 2048) :
    (outsAt0 m c t.val t.isLt).2 (ix2 r l)
      = (outsAt0 m c (t.val - 1) (Nat.lt_of_le_of_lt (Nat.sub_le _ _) t.isLt)).2 (ix2 r l) + chunk m c (bat t) (row t r) l (t.val % 4) := by
  by_cases h1 : t.val % 4 = 3
  · rw [outsAt0_C m c t h0 h1]
    frame_out
    refine (step (iblk m c 0 t) (iblk m c 1 t) (iblk m c 2 t) (iblk m c 3 t) _ (iblk m c 4 t) r l).trans ?_
    rw [chunk_block m c t r l _ _ _ _ _ rfl rfl rfl rfl rfl]
    exact congrArg (· + _) (congrFun (Idealize.ShloMosaic.read_unread_whole cc0_scratch0 _ _) (ix2 r l))
  · rw [outsAt0_B m c t h0 h1]
    frame_out
    refine (step (iblk m c 0 t) (iblk m c 1 t) (iblk m c 2 t) (iblk m c 3 t) _ (iblk m c 4 t) r l).trans ?_
    rw [chunk_block m c t r l _ _ _ _ _ rfl rfl rfl rfl rfl]
    exact congrArg (· + _) (congrFun (Idealize.ShloMosaic.read_unread_whole cc0_scratch0 _ _) (ix2 r l))

/-- After a grid point the accumulator holds the parts of its tile's steps so far. -/
theorem acc : ∀ (n : ℕ) (hn : n < cfg0.N) (r : Fin 384) (l : Fin 2048),
    (outsAt0 m c n hn).2 (ix2 r l) = ∑ k ∈ Finset.range (n % 4 + 1), chunk m c (bat ⟨n, hn⟩) (row ⟨n, hn⟩ r) l k := by
  intro n
  induction n with
  | zero =>
    intro hn r l
    rw [show 0 % 4 + 1 = 1 from rfl, Finset.sum_range_one]
    exact acc_first m c ⟨0, hn⟩ rfl r l
  | succ n ih =>
    intro hn r l
    by_cases h0 : (n + 1) % 4 = 0
    · rw [h0, zero_add, Finset.sum_range_one]
      exact acc_first m c ⟨n + 1, hn⟩ h0 r l
    · refine (acc_next m c ⟨n + 1, hn⟩ h0 r l).trans ?_
      rw [Finset.sum_range_succ]
      refine congrArg (· + _) ((ih (Nat.lt_of_succ_lt hn) r l).trans ?_)
      rw [show bat ⟨n, Nat.lt_of_succ_lt hn⟩ = bat ⟨n + 1, hn⟩ from Fin.ext (by show n / 88 = (n + 1) / 88; omega),
        show row ⟨n, Nat.lt_of_succ_lt hn⟩ r = row ⟨n + 1, hn⟩ r from Fin.ext (by show n / 4 % 22 * 384 + r.val = (n + 1) / 4 % 22 * 384 + r.val; omega),
        show n % 4 + 1 = (n + 1) % 4 by omega]

/-- The stream after the layer. -/
def out (b : Fin 2) (r : Fin 8448) (d : Fin 2048) : EReal :=
  stream (fun i k => m ((c : Thread nD τ).loc main_arg6) (ix3 b i k)) (fun i k => m ((c : Thread nD τ).loc main_arg5) (ix3 b i k)) r d
    + onCtx r.val (m ((c : Thread nD τ).loc main_arg9) (ix2 2 d)) (m ((c : Thread nD τ).loc main_arg8) (ix3 b 2 d)) * rms (proj m c b r) (fun k => m ((c : Thread nD τ).loc main_arg7) (ix1 k)) d

set_option maxHeartbeats 4000000 in
/-- The output block of a row tile's last point. -/
theorem out_at (t : Fin cfg0.N) (h1 : t.val % 4 = 3) (r : Fin 384) (d : Fin 2048) :
    (outsAt0 m c t.val t.isLt).1 (ix3 0 r d) = out m c (bat t) (row t r) d := by
  have hacc : ∀ k, (outsAt0 m c t.val t.isLt).2 (ix2 r k) = proj m c (bat t) (row t r) k := fun k => by
    rw [acc m c t.val t.isLt r k, h1]
    exact chunks m c _ _ k
  rw [outsAt0_C m c t (by omega) h1] at hacc ⊢
  have key : ∀ (a : FVec Ideal S384x2048 .f32) (s0 s1 : FVec Ideal S1x1x1x2048 .f32), (∀ k, a (ix2 r k) = proj m c (bat t) (row t r) k) →
      (∀ k, s0 (ix4 0 0 0 k) = iblk m c 7 t (ix4 0 0 2 k)) → (∀ k, s1 (ix4 0 0 0 k) = iblk m c 7 t (ix4 0 1 2 k)) →
      k0_pay2 (F := Ideal) (k0_pay3 (BitVec.ofNat 32 (grid0.coords t 1).val) (iblk m c 5 t) a (iblk m c 6 t) s0 s1) (ix3 0 r d) = out m c (bat t) (row t r) d := by
    intro a s0 s1 ha hs0 hs1
    rw [tile t]
    refine (rows_at (t.val / 4 % 22) (by omega) _ _ _ s0 s1 r d).trans ?_
    unfold out
    congr 1
    · exact (stream_block m c t r d).trans (stream_entry m c _ _ _)
    · congr 1
      · rw [hs0, hs1, mod_block, mod_block, mod_ctx_entry, mod_lat_entry]
      · exact rms_congr ha (fun k => (norm_block m c t k).trans (norm_entry m c k)) d
  frame_out
  refine key _ _ _ (fun k => Eq.trans ?_ (hacc k)) (mod_load _ 0 2 _) (mod_load _ 1 2 _)
  frame_out

/-- The output array. -/
def W (y : S2x8448x2048.Idx) : EReal := out m c (y 0) (y 1) (y 2)

theorem out_congr {b b' : Fin 2} {r r' : Fin 8448} {l l' : Fin 2048} (hb : b.val = b'.val) (hr : r.val = r'.val) (hl : l.val = l'.val) :
    out m c b r l = out m c b' r' l' := by
  obtain rfl := Fin.ext hb
  obtain rfl := Fin.ext hr
  obtain rfl := Fin.ext hl
  rfl

theorem final : (dats m 0 c).arrAt 8 cfg0.N = W m c := by
  refine (dats m 0 c).arrAt_eq_of_covers 8 _ (by decide +kernel) fun t ht y => ?_
  have h1 := (flush0_8 t).mp ht
  blk_simp
  rw [after0_8]
  obtain ⟨a, r, l, rfl⟩ : ∃ a r l, y = ix3 a r l := ⟨y 0, y 1, y 2, by funext k; fin_cases k <;> rfl⟩
  obtain rfl : a = 0 := Subsingleton.elim _ _
  obtain ⟨_, _, _, _, _, _, _, _, h8⟩ := idx t
  refine (out_at m c t h1 r l).trans (out_congr m c ?_ ?_ ?_)
  · blk_simp [h8]
    rfl
  · blk_simp [h8]
  · blk_simp [h8]

end Cert.OutOddIdeal.Layer
end
-- ==== Proof.OutOddClaim.lean ====
module

public import proofs.«01_k».proof.Proof.OutOddValue
public import proofs.«01_k».proof.Proof.Gen.OutOddRefIdeal.Read
public import proofs.«01_k».proof.Defs

/-! The odd layer's output projection and its residual: the reference, and the claim that the kernel computes what it does. -/

@[expose] public section

set_option maxRecDepth 16384

noncomputable section

namespace Cert.OutOddIdeal

open Idealize.ShloMosaic Idealize.ShloMosaic.TcCoe Idealize.SL.Sem
open Cert.Rows Cert.OutOddRefIdeal Cert.OutOddRefIdeal.Read
open Cert.OutOddIdeal.Layer (at')

section
variable (x0 : FVec Ideal S2x8448x4096 .f32) (x1 : FVec Ideal S2x8448x4096 .f32) (x2 : FVec Ideal S2x8448x12288 .f32) (x3 : FVec Ideal S128 .f32) (x4 : FVec Ideal S4096x2048 .f32) (x5 : FVec Ideal S2x8192x2048 .f32) (x6 : FVec Ideal S2x256x2048 .f32) (x7 : FVec Ideal S2048 .f32) (x8 : FVec Ideal S2x6x2048 .f32) (x9 : FVec Ideal S6x2048 .f32)

/-- The reference's heads. -/
theorem ref_head (b : Fin 2) (r : Fin 8448) (h : Fin 32) (j : Fin 128) :
    val_main_v19 (F := Ideal) x0 x1 x2 x3 (ix4 b r h j)
      = headOut (fun i => x0 (ix3 b r (at' h i)) + x1 (ix3 b r (at' h i))) (fun i => x3 (ix1 i)) (fun i => x2 (ix3 b r ⟨8192 + (h.val * 128 + i.val), by omega⟩)) j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_cst_0, val_main_cst_1, val_main_call0_v0, val_main_call0_v1, val_main_call0_v2, val_main_call0_v3,
    val_main_call0_v4, val_main_call0_v5, val_main_call0_cst, val_main_call0_cst_0]
  rfl

/-- The reference's projection. -/
theorem ref_dot (b : Fin 2) (r : Fin 8448) (l : Fin 2048) :
    val_main_v21 (F := Ideal) x0 x1 x2 x3 x4 (ix3 b r l)
      = ∑ h : Fin 32, ∑ j : Fin 128, headOut (fun i => x0 (ix3 b r (at' h i)) + x1 (ix3 b r (at' h i))) (fun i => x3 (ix1 i)) (fun i => x2 (ix3 b r ⟨8192 + (h.val * 128 + i.val), by omega⟩)) j * x4 (ix2 (at' h j) l) := by
  simp only [← ref_head]
  simp only [val_main_v21, val_main_v20]
  generalize val_main_v19 (F := Ideal) x0 x1 x2 x3 = p
  pointwise
  refine (Fin.sum_mul_add_congr (fun s k hl => ?_)).symm
  have e1 : (s.val * 128 + k.val) / 128 = s.val := by omega
  have e2 : (s.val * 128 + k.val) % 128 = k.val := by omega
  simp only [e1, e2]

/-- The reference's normed rows. -/
theorem ref_norm (b : Fin 2) (r : Fin 8448) (d : Fin 2048) :
    val_main_v34 (F := Ideal) x0 x1 x2 x3 x4 x7 (ix3 b r d)
      = rms (fun l => ∑ h : Fin 32, ∑ j : Fin 128, headOut (fun i => x0 (ix3 b r (at' h i)) + x1 (ix3 b r (at' h i))) (fun i => x3 (ix1 i)) (fun i => x2 (ix3 b r ⟨8192 + (h.val * 128 + i.val), by omega⟩)) j * x4 (ix2 (at' h j) l)) (fun k => x7 (ix1 k)) d := by
  refine Eq.trans ?_ (rms_congr (ref_dot x0 x1 x2 x3 x4 b r) (fun _ => rfl) d)
  simp only [val_main_v22, val_main_v23, val_main_v24, val_main_v26, val_main_v28, val_main_v29, val_main_v30, val_main_v31, val_main_v34]
  generalize val_main_v21 (F := Ideal) x0 x1 x2 x3 x4 = p
  pointwise [val_main_v25, val_main_v27, val_main_v32, val_main_v33, val_main_cst_2, val_main_cst_3, val_main_cst_4]
  try rfl

/-- The reference's rows of the context. -/
theorem ref_ctx (b : Fin 2) (r : Fin 256) (d : Fin 2048) :
    val_main_v41 (F := Ideal) x0 x1 x2 x3 x4 x6 x7 x9 (ix3 b r d)
      = x6 (ix3 b r d) + x9 (ix2 2 d) * val_main_v34 (F := Ideal) x0 x1 x2 x3 x4 x7 (ix3 b ⟨r.val, by omega⟩ d) := by
  simp only [val_main_v41, val_main_v40, val_main_v37]
  generalize val_main_v34 (F := Ideal) x0 x1 x2 x3 x4 x7 = p
  pointwise [val_main_v35, val_main_v36, val_main_v38, val_main_v39]
  try rfl

/-- The reference's rows of the frames. -/
theorem ref_lat (b : Fin 2) (r : Fin 8192) (d : Fin 2048) :
    val_main_v46 (F := Ideal) x0 x1 x2 x3 x4 x5 x7 x8 (ix3 b r d)
      = x5 (ix3 b r d) + x8 (ix3 b 2 d) * val_main_v34 (F := Ideal) x0 x1 x2 x3 x4 x7 (ix3 b ⟨256 + r.val, by omega⟩ d) := by
  simp only [val_main_v46, val_main_v45, val_main_v43]
  generalize val_main_v34 (F := Ideal) x0 x1 x2 x3 x4 x7 = p
  pointwise [val_main_v42, val_main_v44]
  try rfl

/-- The reference's rows. -/
theorem ref_at (b : Fin 2) (r : Fin 8448) (d : Fin 2048) :
    val_main_v47 (F := Ideal) x0 x1 x2 x3 x4 x5 x6 x7 x8 x9 (ix3 b r d)
      = stream (fun i k => x6 (ix3 b i k)) (fun i k => x5 (ix3 b i k)) r d + onCtx r.val (x9 (ix2 2 d)) (x8 (ix3 b 2 d))
        * rms (fun l => ∑ h : Fin 32, ∑ j : Fin 128, headOut (fun i => x0 (ix3 b r (at' h i)) + x1 (ix3 b r (at' h i))) (fun i => x3 (ix1 i)) (fun i => x2 (ix3 b r ⟨8192 + (h.val * 128 + i.val), by omega⟩)) j * x4 (ix2 (at' h j) l)) (fun k => x7 (ix1 k)) d := by
  rw [← ref_norm]
  unfold stream onCtx
  by_cases h : r.val < 256
  · rw [dif_pos h, if_pos h]
    refine Eq.trans ?_ (ref_ctx x0 x1 x2 x3 x4 x6 x7 x9 b ⟨r.val, h⟩ d)
    unfold val_main_v47
    generalize val_main_v41 (F := Ideal) x0 x1 x2 x3 x4 x6 x7 x9 = p
    generalize val_main_v46 (F := Ideal) x0 x1 x2 x3 x4 x5 x7 x8 = q
    pointwise
    rw [dif_pos h]
  · rw [dif_neg h, if_neg h]
    have e : (⟨256 + (r.val - 256), by omega⟩ : Fin 8448) = r := Fin.ext (by show 256 + (r.val - 256) = r.val; omega)
    refine Eq.trans ?_ ((ref_lat x0 x1 x2 x3 x4 x5 x7 x8 b ⟨r.val - 256, by omega⟩ d).trans (congrArg (fun i => x5 (ix3 b ⟨r.val - 256, by omega⟩ d)
      + x8 (ix3 b 2 d) * val_main_v34 (F := Ideal) x0 x1 x2 x3 x4 x7 (ix3 b i d)) e))
    unfold val_main_v47
    generalize val_main_v41 (F := Ideal) x0 x1 x2 x3 x4 x6 x7 x9 = p
    generalize val_main_v46 (F := Ideal) x0 x1 x2 x3 x4 x5 x7 x8 = q
    pointwise
    rw [dif_neg h]

end

/-- The kernel's output array is the reference's result, of equal arguments. -/
theorem same (m : (ℓ : Loc OutOddIdeal.nD OutOddIdeal.τ OutOddIdeal.sig) → Buf (Elt Ideal) ℓ) (c : Dev OutOddIdeal.nD)
    (x0 : FVec Ideal S2x8448x4096 .f32) (x1 : FVec Ideal S2x8448x4096 .f32) (x2 : FVec Ideal S2x8448x12288 .f32) (x3 : FVec Ideal S128 .f32) (x4 : FVec Ideal S4096x2048 .f32) (x5 : FVec Ideal S2x8192x2048 .f32) (x6 : FVec Ideal S2x256x2048 .f32) (x7 : FVec Ideal S2048 .f32) (x8 : FVec Ideal S2x6x2048 .f32) (x9 : FVec Ideal S6x2048 .f32)
    (h0 : x0 = m ((c : Thread OutOddIdeal.nD OutOddIdeal.τ).loc OutOddIdeal.main_arg0))
    (h1 : x1 = m ((c : Thread OutOddIdeal.nD OutOddIdeal.τ).loc OutOddIdeal.main_arg1))
    (h2 : x2 = m ((c : Thread OutOddIdeal.nD OutOddIdeal.τ).loc OutOddIdeal.main_arg2))
    (h3 : x3 = m ((c : Thread OutOddIdeal.nD OutOddIdeal.τ).loc OutOddIdeal.main_arg3))
    (h4 : x4 = m ((c : Thread OutOddIdeal.nD OutOddIdeal.τ).loc OutOddIdeal.main_arg4))
    (h5 : x5 = m ((c : Thread OutOddIdeal.nD OutOddIdeal.τ).loc OutOddIdeal.main_arg5))
    (h6 : x6 = m ((c : Thread OutOddIdeal.nD OutOddIdeal.τ).loc OutOddIdeal.main_arg6))
    (h7 : x7 = m ((c : Thread OutOddIdeal.nD OutOddIdeal.τ).loc OutOddIdeal.main_arg7))
    (h8 : x8 = m ((c : Thread OutOddIdeal.nD OutOddIdeal.τ).loc OutOddIdeal.main_arg8))
    (h9 : x9 = m ((c : Thread OutOddIdeal.nD OutOddIdeal.τ).loc OutOddIdeal.main_arg9)) :
    (OutOddIdeal.Gen.dats m 0 c).arrAt 8 OutOddIdeal.cfg0.N = val_main_v47 (F := Ideal) x0 x1 x2 x3 x4 x5 x6 x7 x8 x9 := by
  subst h0 h1 h2 h3 h4 h5 h6 h7 h8 h9
  rw [Layer.final]
  funext y
  obtain ⟨b, r, l, rfl⟩ : ∃ b r l, y = ix3 b r l := ⟨y 0, y 1, y 2, by funext k; fin_cases k <;> rfl⟩
  exact (ref_at _ _ _ _ _ _ _ _ _ _ b r l).symm

/-- The kernel computes what the reference computes. -/
theorem algebraic : Cert.algebraic_OutOddIdeal_OutOddRefIdeal := by
  intro m g m' g' _ hagree
  refine ⟨fun c => val_main_v47 (F := Ideal) (m' ((c.tc : Thread OutOddRefIdeal.nD OutOddRefIdeal.τ).loc OutOddRefIdeal.main_arg0))
    (m' ((c.tc : Thread OutOddRefIdeal.nD OutOddRefIdeal.τ).loc OutOddRefIdeal.main_arg1))
    (m' ((c.tc : Thread OutOddRefIdeal.nD OutOddRefIdeal.τ).loc OutOddRefIdeal.main_arg2))
    (m' ((c.tc : Thread OutOddRefIdeal.nD OutOddRefIdeal.τ).loc OutOddRefIdeal.main_arg3))
    (m' ((c.tc : Thread OutOddRefIdeal.nD OutOddRefIdeal.τ).loc OutOddRefIdeal.main_arg4))
    (m' ((c.tc : Thread OutOddRefIdeal.nD OutOddRefIdeal.τ).loc OutOddRefIdeal.main_arg5))
    (m' ((c.tc : Thread OutOddRefIdeal.nD OutOddRefIdeal.τ).loc OutOddRefIdeal.main_arg6))
    (m' ((c.tc : Thread OutOddRefIdeal.nD OutOddRefIdeal.τ).loc OutOddRefIdeal.main_arg7))
    (m' ((c.tc : Thread OutOddRefIdeal.nD OutOddRefIdeal.τ).loc OutOddRefIdeal.main_arg8))
    (m' ((c.tc : Thread OutOddRefIdeal.nD OutOddRefIdeal.τ).loc OutOddRefIdeal.main_arg9)), ?_, ?_⟩
  · refine (θ_run _ _ _).mono (fun r h c => ?_) (OutOddIdeal.Value.run_blocks (F := Ideal) m g)
    obtain ⟨a0, a1, a2, a3, a4, a5, a6, a7, a8, a9⟩ := hagree c
    exact ⟨(h c).1.trans (same m c _ _ _ _ _ _ _ _ _ _ a0 a1 a2 a3 a4 a5 a6 a7 a8 a9), (h c).2⟩
  · exact OutOddRefIdeal.Value.run (F := Ideal) m' g'

end Cert.OutOddIdeal
end
-- ==== Proof.PostValue.lean ====
module

public import proofs.«01_k».proof.Proof.Rows
public import proofs.«01_k».proof.Proof.Gen.PostIdeal.Value
public import Idealize.ShloMosaic.Lib.Pipeline.ValueKit
public import Idealize.ShloMosaic.Lib.Claim

/-! The layer's last residual: what each grid point computes, and the output array. -/

@[expose] public section

set_option maxRecDepth 16384

noncomputable section

namespace Cert.PostIdeal.Layer

open Idealize.ShloMosaic Idealize.ShloMosaic.TcCoe Idealize.SL.Sem
open Cert.PostIdeal Cert.PostIdeal.Gen Cert.Rows

variable (m : (ℓ : Loc nD τ sig) → Buf (Elt Ideal) ℓ) (c : Dev nD)

/-- The windows' blocks at a grid point. -/
theorem idx : ∀ t : Fin cfg0.N, win0_0.index t = ![t.val / 33, t.val % 33, 0] ∧ win0_2.index t = ![t.val / 33, t.val % 33 - 1, 0]
    ∧ win0_3.index t = ![0, 0] ∧ win0_4.index t = ![t.val / 33, 0, 0, 0]
    ∧ win0_5.index t = ![t.val / 33, t.val % 33 - 1, 0] := (by decide +kernel : ∀ t : Fin grid0.N, _)

/-- A grid point's row tile. -/
theorem tile : ∀ t : Fin cfg0.N, (grid0.coords t 1).val = t.val % 33 := (by decide +kernel : ∀ t : Fin grid0.N, _)

/-- The context's tile is not written back. -/
theorem written : ∀ t : Fin cfg0.N, (cfg0.win 5).flush t = true → t.val % 33 ≠ 0 :=
  (by decide +kernel : ∀ t : Fin grid0.N, win0_5.flush t = true → t.val % 33 ≠ 0)

/-- A tile of the frames' rows is past the context. -/
theorem past (n : ℕ) (hn : n < 33) (h0 : n ≠ 0) : Scalar.cmpi .slt (Scalar.muli (BitVec.ofNat 32 n) 256#32) 256#32 = 0#1 := by
  have h : ∀ n : Fin 33, n.val ≠ 0 → Scalar.cmpi .slt (Scalar.muli (BitVec.ofNat 32 n.val) 256#32) 256#32 = 0#1 := by decide +kernel
  exact h ⟨n, hn⟩ h0

/-- A tile of the frames' rows: each row plus its gate times the norm of the experts' row. -/
theorem rows_at (i : grid0.Coords) (h0 : (i 1).val ≠ 0) (x y0 y : FVec Ideal S1x256x2048 .f32) (g : FVec Ideal S1x2048 .f32)
    (s0 s1 : FVec Ideal S1x1x1x2048 .f32) (r : Fin 256) (d : Fin 2048) :
    k0_pay1 (F := Ideal) (k0_pay2 x) (k0_pay3 i y0 y g) (k0_pay4 s0) (k0_pay5 s1) (k0_pay6 i) (ix3 0 r d)
      = x (ix3 0 r d) + s1 (ix4 0 0 0 d) * rms (fun k => y (ix3 0 r k)) (fun k => g (ix2 0 k)) d := by
  have hi : (i 1).val < 33 := (i 1).isLt
  pointwise [k0_pay1, k0_pay2, k0_pay3, k0_pay4, k0_pay5, k0_pay6]
  rw [select_row 256 (i 1).val r.val (by omega), past (i 1).val hi h0]
  unfold onCtx
  rw [if_neg (by omega)]
  rfl

/-- The stream's rows past the context are the frames'. -/
theorem stream_entry (b : Fin 2) (r : Fin 8448) (q : Fin 8192) (h : r.val = q.val + 256) (d : Fin 2048) :
    V m c main_v0 (ix3 b r d) = m ((c : Thread nD τ).loc main_arg0) (ix3 b q d) := by
  obtain rfl : r = ⟨q.val + 256, Nat.add_lt_add_right q.isLt 256⟩ := Fin.ext h
  have e : V m c main_v0 (ix3 b ⟨q.val + 256, Nat.add_lt_add_right q.isLt 256⟩ d)
      = stream (fun i k => m ((c : Thread nD τ).loc main_arg1) (ix3 b i k)) (fun i k => m ((c : Thread nD τ).loc main_arg0) (ix3 b i k))
        ⟨q.val + 256, Nat.add_lt_add_right q.isLt 256⟩ d := by
    unfold V
    entry_read
    pointwise
    rfl
  rw [e]
  unfold stream
  rw [dif_neg (by show ¬q.val + 256 < 256; omega)]
  exact congrArg (fun i => m ((c : Thread nD τ).loc main_arg0) (ix3 b i d)) (Fin.ext (Nat.add_sub_cancel q.val 256))

theorem mod_entry (b : Fin 2) (s : Fin 6) (d : Fin 2048) : V m c main_v4 (ix4 b 1 s d) = m ((c : Thread nD τ).loc main_arg4) (ix3 b s d) := by
  unfold V
  entry_read
  pointwise

theorem experts_entry (b : Fin 2) (r : Fin 8192) (d : Fin 2048) : V m c main_arg2 (ix3 b r d) = m ((c : Thread nD τ).loc main_arg2) (ix3 b r d) := by
  unfold V
  entry_read
  rfl

theorem norm_entry (d : Fin 2048) : V m c main_v5 (ix2 0 d) = m ((c : Thread nD τ).loc main_arg3) (ix1 d) := by
  unfold V
  entry_read
  pointwise

/-- The batch of a grid point. -/
abbrev bat (t : Fin cfg0.N) : Fin 2 := ⟨t.val / 33, by have := lt_of_lt_of_eq t.isLt (show cfg0.N = 66 from N_0); omega⟩

/-- A row of a grid point's tile, in the stream. -/
abbrev row (t : Fin cfg0.N) (r : Fin 256) : Fin 8448 := ⟨t.val % 33 * 256 + r.val, by omega⟩

/-- A row of a grid point's tile, among the frames. -/
abbrev frm (t : Fin cfg0.N) (r : Fin 256) : Fin 8192 := ⟨(t.val % 33 - 1) * 256 + r.val, by omega⟩

/-- A residual: `x` plus `v` gated by `s`. -/
def gated (x s v : EReal) : EReal := x + s * v

/-- The layer's last residual. -/
def out (b : Fin 2) (r : Fin 8192) (d : Fin 2048) : EReal :=
  gated (m ((c : Thread nD τ).loc main_arg0) (ix3 b r d)) (m ((c : Thread nD τ).loc main_arg4) (ix3 b 5 d))
    <| rms (fun k => m ((c : Thread nD τ).loc main_arg2) (ix3 b r k)) (fun k => m ((c : Thread nD τ).loc main_arg3) (ix1 k)) d

theorem stream_block (t : Fin cfg0.N) (r : Fin 256) (d : Fin 2048) : iblk m c 0 t (ix3 0 r d) = V m c main_v0 (ix3 (bat t) (row t r) d) := by
  blk_ext [iblk, idx t]

theorem experts_block (t : Fin cfg0.N) (r : Fin 256) (d : Fin 2048) : iblk m c 2 t (ix3 0 r d) = V m c main_arg2 (ix3 (bat t) (frm t r) d) := by
  blk_ext [iblk, idx t]

theorem norm_block (t : Fin cfg0.N) (d : Fin 2048) : iblk m c 3 t (ix2 0 d) = V m c main_v5 (ix2 0 d) := by
  blk_ext [iblk, idx t]

theorem mod_block (t : Fin cfg0.N) (p : Fin 2) (s : Fin 6) (d : Fin 2048) : iblk m c 4 t (ix4 0 p s d) = V m c main_v4 (ix4 (bat t) p s d) := by
  blk_ext [iblk, idx t]

/-- A loaded row of the modulation's block. -/
theorem mod_load (x : FVec Ideal S1x2x6x2048 .f32) (p : Fin 2) (s : Fin 6) (inb : ∀ k, (![0, p.val, s.val, 0] : Fin 4 → ℕ) k + S1x1x1x2048.size k ≤ S1x2x6x2048.size k)
    (d : Fin 2048) : View.ld (Val := Elt Ideal) (e' := .f32) x (Rect.unit (s := S1x2x6x2048) ![0, p.val, s.val, 0] S1x1x1x2048.size inb) (ix4 0 0 0 d : S1x1x1x2048.Idx) = x (ix4 0 p s d) := by
  refine congrArg x (funext fun k => Fin.ext ?_)
  fin_cases k <;> simp [Rect.emb, ix4]

set_option maxHeartbeats 2000000 in
/-- A grid point's output block, past the context's tile. -/
theorem out_at (t : Fin cfg0.N) (h0 : t.val % 33 ≠ 0) (r : Fin 256) (d : Fin 2048) :
    out0_5 (F := Ideal) (grid0.coords t) (iblk m c 0 t) (iblk m c 1 t) (iblk m c 2 t) (iblk m c 3 t) (iblk m c 4 t) (ix3 0 r d)
      = out m c (bat t) (frm t r) d := by
  unfold out0_5
  frame_out
  refine (rows_at (grid0.coords t) (by rw [tile]; exact h0) _ _ _ _ _ _ r d).trans ?_
  unfold out gated
  congr 1
  · exact (stream_block m c t r d).trans (stream_entry m c _ _ _ (by show t.val % 33 * 256 + r.val = (t.val % 33 - 1) * 256 + r.val + 256; omega) _)
  · congr 1
    · exact (mod_load _ 1 5 _ _).trans ((mod_block m c t 1 5 d).trans (mod_entry m c _ _ _))
    · congr 1 <;> funext k
      · exact (experts_block m c t r k).trans (experts_entry m c _ _ _)
      · exact (norm_block m c t k).trans (norm_entry m c k)

/-- The output array. -/
def W (y : S2x8192x2048.Idx) : EReal := out m c (y 0) (y 1) (y 2)

theorem out_congr {b b' : Fin 2} {r r' : Fin 8192} {l l' : Fin 2048} (hb : b.val = b'.val) (hr : r.val = r'.val) (hl : l.val = l'.val) :
    out m c b r l = out m c b' r' l' := by
  obtain rfl := Fin.ext hb
  obtain rfl := Fin.ext hr
  obtain rfl := Fin.ext hl
  rfl

theorem final : (dats m 0 c).arrAt 5 cfg0.N = W m c := by
  refine (dats m 0 c).arrAt_eq_of_covers 5 _ (by decide +kernel) fun t ht y => ?_
  have h0 := written t ht
  blk_simp
  rw [after0_5]
  obtain ⟨a, r, l, rfl⟩ : ∃ a r l, y = ix3 a r l := ⟨y 0, y 1, y 2, by funext k; fin_cases k <;> rfl⟩
  obtain rfl : a = 0 := Subsingleton.elim _ _
  obtain ⟨_, _, _, _, h5⟩ := idx t
  refine (out_at m c t h0 r l).trans (out_congr m c ?_ ?_ ?_)
  · blk_simp [h5]
    rfl
  · blk_simp [h5]
  · blk_simp [h5]

end Cert.PostIdeal.Layer
end
-- ==== Proof.PostClaim.lean ====
module

public import proofs.«01_k».proof.Proof.PostValue
public import proofs.«01_k».proof.Proof.Gen.PostRefIdeal.Read
public import proofs.«01_k».proof.Defs

/-! The layer's last residual: the reference, and the claim that the kernel computes what it does. -/

@[expose] public section

set_option maxRecDepth 16384

noncomputable section

namespace Cert.PostIdeal

open Idealize.ShloMosaic Idealize.ShloMosaic.TcCoe Idealize.SL.Sem
open Cert.Rows Cert.PostRefIdeal Cert.PostRefIdeal.Read

/-- The reference's rows. -/
theorem ref_at (x0 x2 : FVec Ideal S2x8192x2048 .f32) (x3 : FVec Ideal S2048 .f32) (x4 : FVec Ideal S2x6x2048 .f32)
    (b : Fin 2) (r : Fin 8192) (d : Fin 2048) :
    val_main_v16 (F := Ideal) x0 x2 x3 x4 (ix3 b r d)
      = x0 (ix3 b r d) + x4 (ix3 b 5 d) * rms (fun k => x2 (ix3 b r k)) (fun k => x3 (ix1 k)) d := by
  pointwise [val_main_v0, val_main_cst, val_main_v1, val_main_v2, val_main_cst_0, val_main_v3, val_main_v4, val_main_cst_1, val_main_v5, val_main_v6,
    val_main_v7, val_main_v8, val_main_v9, val_main_v10, val_main_v11, val_main_v12, val_main_v13, val_main_v14, val_main_v15, val_main_v16]
  try rfl

/-- The kernel's output array is the reference's result, of equal arguments. -/
theorem same (m : (ℓ : Loc PostIdeal.nD PostIdeal.τ PostIdeal.sig) → Buf (Elt Ideal) ℓ) (c : Dev PostIdeal.nD)
    (x0 x2 : FVec Ideal S2x8192x2048 .f32) (x3 : FVec Ideal S2048 .f32) (x4 : FVec Ideal S2x6x2048 .f32)
    (h0 : x0 = m ((c : Thread PostIdeal.nD PostIdeal.τ).loc PostIdeal.main_arg0)) (h2 : x2 = m ((c : Thread PostIdeal.nD PostIdeal.τ).loc PostIdeal.main_arg2))
    (h3 : x3 = m ((c : Thread PostIdeal.nD PostIdeal.τ).loc PostIdeal.main_arg3)) (h4 : x4 = m ((c : Thread PostIdeal.nD PostIdeal.τ).loc PostIdeal.main_arg4)) :
    (PostIdeal.Gen.dats m 0 c).arrAt 5 PostIdeal.cfg0.N = val_main_v16 (F := Ideal) x0 x2 x3 x4 := by
  subst h0 h2 h3 h4
  rw [Layer.final]
  funext y
  obtain ⟨b, r, l, rfl⟩ : ∃ b r l, y = ix3 b r l := ⟨y 0, y 1, y 2, by funext k; fin_cases k <;> rfl⟩
  exact (ref_at _ _ _ _ b r l).symm

/-- The kernel computes what the reference computes. -/
theorem algebraic : Cert.algebraic_PostIdeal_PostRefIdeal := by
  intro m g m' g' _ hagree
  refine ⟨fun c => val_main_v16 (F := Ideal) (m' ((c.tc : Thread PostRefIdeal.nD PostRefIdeal.τ).loc PostRefIdeal.main_arg0))
    (m' ((c.tc : Thread PostRefIdeal.nD PostRefIdeal.τ).loc PostRefIdeal.main_arg2))
    (m' ((c.tc : Thread PostRefIdeal.nD PostRefIdeal.τ).loc PostRefIdeal.main_arg3)) (m' ((c.tc : Thread PostRefIdeal.nD PostRefIdeal.τ).loc PostRefIdeal.main_arg4)), ?_, ?_⟩
  · refine (θ_run _ _ _).mono (fun r h c => ?_) (PostIdeal.Value.run_blocks (F := Ideal) m g)
    obtain ⟨a0, a1, a2, a3, a4, a5⟩ := hagree c
    exact ⟨(h c).1.trans (same m c _ _ _ _ a0 a2 a3 a4), (h c).2⟩
  · exact PostRefIdeal.Value.run (F := Ideal) m' g'

end Cert.PostIdeal
end
-- ==== Proof.RuleMath.lean ====
module

public import Idealize.ShloMosaic.Lib.Pointwise

/-! One chunk of one head of the delta rule, on the extended reals: the values the state corrects, the chunk's outputs and
the state it leaves. -/

@[expose] public section

noncomputable section

namespace Cert.Rule

open Idealize.ShloMosaic

section
variable (U W K Q : Fin 64 → Fin 128 → EReal) (A : Fin 64 → Fin 64 → EReal) (G : Fin 64 → EReal) (S : Fin 128 → Fin 128 → EReal)

/-- The new value of row `t`: its own, less what the state already holds for its key. -/
def fresh (t : Fin 64) (e : Fin 128) : EReal := U t e - ∑ d, W t d * S d e

/-- The chunk's outputs: what the state before it gives the decayed queries, and what its rows attend to. -/
def chunkOut (t : Fin 64) (e : Fin 128) : EReal :=
  ∑ d, Q t d * Ideal.exp (G t) * S d e + ∑ s, A t s * fresh U W S s e

/-- The state after the chunk, key lane first. -/
def chunkState (d e : Fin 128) : EReal :=
  S d e * Ideal.exp (G ⟨63, by omega⟩) + ∑ s, K s d * Ideal.exp (G ⟨63, by omega⟩ - G s) * fresh U W S s e

end

/-- A sum against the indicator of one lane is that lane. -/
theorem sum_pick (f : Fin 128 → EReal) (k : Fin 128) : ∑ l, f l * (if l = k then 1 else 0) = f k := by
  rw [Finset.sum_eq_single k (fun l _ hl => by rw [if_neg hl, mul_zero]) (fun h => absurd (Finset.mem_univ k) h), if_pos rfl, mul_one]

/-- Head `h` of head group `g`, among the gate columns' lanes. -/
abbrev gateLane (g : Fin 2) (h : Fin 16) : Fin 128 := ⟨64 + 16 * g.val + h.val, by omega⟩

end Cert.Rule

end
-- ==== Proof.RuleBlock.lean ====
module

public import proofs.«01_k».proof.Proof.Gen.DeltaIdeal.Skeleton
public import proofs.«01_k».proof.Proof.RuleMath
public import Idealize.ShloMosaic.Lib.Pointwise

/-! One chunk of one head of the delta rule, as the kernel computes it, read at an index. -/

@[expose] public section

set_option maxRecDepth 16384

noncomputable section

namespace Cert.Rule

open Idealize.ShloMosaic Idealize.SL.Sem
open Cert.DeltaIdeal Cert.DeltaIdeal.Gen

variable {F : FTy → Type} [FloatOps F]

/-- A head's decays: the lane of the gates' block with the number `n`. -/
def laneT (n : BitVec 32) (g : Vec F S1x64x128 .f32) : FVec F S64x1 .f32 :=
  shapeCast S64x1 (multiReduction .add [1] S64
    (mulf (shapeCast S64x128 g shapeCasts_S1x64x128_S64x128)
      (broadcastTo S64x128 (sitofp .f32 (extui 32 (cmpi .eq (iota .tc S1x128 32 [1] iota_S1x128_d1_w32) (broadcast S1x128 n)) natLt_1_32)) broadcasts_S1x128_S64x128))
    0x00000000#32 reduces_S64x128_S64 (.inl rfl) rfl) shapeCasts_S64_S64x1

/-- The state against the keys' rows and the decayed queries' rows, one over the other. -/
def bothT (n : BitVec 32) (g : Vec F S1x64x128 .f32) (w q : Vec F S1x64x128 .bf16) (st : Vec F S1x128x128 .f32) : FVec F S128x128 .f32 :=
  matmul dot_S128x128_S128x128_S128x128_1_0_0_1_n_n none
    (concatenate S128x128 0 [⟨S64x128, shapeCast S64x128 w shapeCasts_S1x64x128_S64x128⟩,
      ⟨S64x128, truncf .bf16 (mulf (extf .f32 (shapeCast S64x128 q shapeCasts_S1x64x128_S64x128) bitsLt_bf16_f32)
        (broadcastTo S64x128 (exp (laneT n g)) broadcasts_S64x1_S64x128)) bitsLt_bf16_f32⟩] concatenates_S64x128_S64x128_S128x128_d0)
    (truncf .bf16 (shapeCast S128x128 st shapeCasts_S1x128x128_S128x128) bitsLt_bf16_f32) (constant S128x128 .f32 0x00000000#32)

/-- A chunk's new values. -/
def freshT (n : BitVec 32) (g : Vec F S1x64x128 .f32) (u w q : Vec F S1x64x128 .bf16) (st : Vec F S1x128x128 .f32) : FVec F S64x128 .bf16 :=
  truncf .bf16 (subf (extf .f32 (shapeCast S64x128 u shapeCasts_S1x64x128_S64x128) bitsLt_bf16_f32)
    (extractStridedSlice S64x128 ![0, 0] (bothT n g w q st) slices_S128x128_o0_0_S64x128)) bitsLt_bf16_f32

/-- One chunk of one head: its rows of the output. -/
def outT (n : BitVec 32) (g : Vec F S1x64x128 .f32) (u w q : Vec F S1x64x128 .bf16) (a : Vec F S1x64x64 .bf16) (st : Vec F S1x128x128 .f32) : FVec F S1x64x128 .f32 :=
  shapeCast S1x64x128 (addf (extractStridedSlice S64x128 ![64, 0] (bothT n g w q st) slices_S128x128_o64_0_S64x128)
    (matmul dot_S64x64_S64x128_S64x128_1_0_0_1_n_n none (shapeCast S64x64 a shapeCasts_S1x64x64_S64x64) (freshT n g u w q st) (constant S64x128 .f32 0x00000000#32)))
    shapeCasts_S64x128_S1x64x128

/-- One chunk of one head: the recurrent state after it. -/
def stateT (n : BitVec 32) (g : Vec F S1x64x128 .f32) (u w q k : Vec F S1x64x128 .bf16) (st : Vec F S1x128x128 .f32) : FVec F S1x128x128 .f32 :=
  let last := extractStridedSlice S1x1 ![63, 0] (laneT n g) slices_S64x1_o63_0_S1x1
  shapeCast S1x128x128 (addf
    (mulf (shapeCast S128x128 st shapeCasts_S1x128x128_S128x128) (broadcastTo S128x128 (exp last) broadcasts_S1x1_S128x128))
    (matmul dot_S128x64_S64x128_S128x128_1_0_0_1_n_n none
      (truncf .bf16 (transpose S128x64 [1, 0] (mulf (extf .f32 (shapeCast S64x128 k shapeCasts_S1x64x128_S64x128) bitsLt_bf16_f32)
        (broadcastTo S64x128 (exp (subf (broadcastTo S64x1 last broadcasts_S1x1_S64x1) (laneT n g))) broadcasts_S64x1_S64x128)) transposes_S64x128_p1_0_S128x64) bitsLt_bf16_f32)
      (freshT n g u w q st) (constant S128x128 .f32 0x00000000#32)))
    shapeCasts_S128x128_S1x128x128

/-! ## Read at an index -/

/-- Head `h`'s lane of head group `g`, as the kernel counts it. -/
def laneWord (g : Fin 2) (h : Fin 16) : BitVec 32 :=
  Scalar.addi 64#32 (Scalar.addi (Scalar.muli (BitVec.ofNat 32 g.val) 16#32) (BitVec.ofNat 32 h.val))

theorem laneWord_eq : ∀ (g : Fin 2) (h : Fin 16) (l : Fin 128),
    IntOp.cmpi CmpIPredicate.eq (BitVec.ofNat 32 l.val) (laneWord g h) = if l = gateLane g h then 1#1 else 0#1 := by decide +kernel

/-- A one-bit word, widened and read as a number. -/
theorem bit_word (p : Prop) [Decidable p] :
    FloatOps.sitofp (F := Ideal) FTy.f32 (BitVec.setWidth 32 (if p then 1#1 else 0#1)) = (if p then 1 else 0 : EReal) := by
  by_cases h : p <;> simp [h, FloatOps.sitofp]

section
variable {grp : Fin 2} {h : Fin 16} {g : FVec Ideal S1x64x128 .f32} {u w q k : FVec Ideal S1x64x128 .bf16} {a : FVec Ideal S1x64x64 .bf16} {st : FVec Ideal S1x128x128 .f32}
  {U W K Q : Fin 64 → Fin 128 → EReal} {A : Fin 64 → Fin 64 → EReal} {G : Fin 64 → EReal} {S : Fin 128 → Fin 128 → EReal}

/-- The picked lane at an index. -/
theorem laneT_apply (hg : ∀ t, g (ix3 0 t (gateLane grp h)) = G t) (t : Fin 64) (j : Fin 1) :
    laneT (F := Ideal) (laneWord grp h) g (ix2 t j) = G t := by
  pointwise [laneT]
  simp only [laneWord_eq, bit_word]
  rw [sum_pick, hg]

/-- The state against the keys' rows. -/
theorem bothT_low (hg : ∀ t, g (ix3 0 t (gateLane grp h)) = G t) (hw : ∀ t d, w (ix3 0 t d) = W t d) (hst : ∀ d e, st (ix3 0 d e) = S d e) (t : Fin 64) (e : Fin 128) :
    bothT (F := Ideal) (laneWord grp h) g w q st (ix2 ⟨t.val, by omega⟩ e) = ∑ d, W t d * S d e := by
  pointwise [bothT]
  refine Finset.sum_congr rfl fun d _ => ?_
  rw [← hw t d, ← hst d e]

/-- The state against the decayed queries' rows. -/
theorem bothT_high (hg : ∀ t, g (ix3 0 t (gateLane grp h)) = G t) (hq : ∀ t d, q (ix3 0 t d) = Q t d) (hst : ∀ d e, st (ix3 0 d e) = S d e) (t : Fin 64) (e : Fin 128) :
    bothT (F := Ideal) (laneWord grp h) g w q st (ix2 ⟨64 + t.val, by omega⟩ e) = ∑ d, Q t d * Ideal.exp (G t) * S d e := by
  pointwise [bothT]
  refine Finset.sum_congr rfl fun d _ => ?_
  rw [← hq t d, ← hst d e, ← laneT_apply hg t 0]

/-- The new values at an index. -/
theorem freshT_apply (hg : ∀ t, g (ix3 0 t (gateLane grp h)) = G t) (hu : ∀ t e, u (ix3 0 t e) = U t e) (hw : ∀ t d, w (ix3 0 t d) = W t d)
    (hst : ∀ d e, st (ix3 0 d e) = S d e) (t : Fin 64) (e : Fin 128) :
    freshT (F := Ideal) (laneWord grp h) g u w q st (ix2 t e) = fresh U W S t e := by
  pointwise [freshT]
  unfold fresh
  rw [← bothT_low (q := q) hg hw hst t e, ← hu t e]

/-- One chunk of one head, at an index: its rows of the output. -/
theorem outT_apply (hg : ∀ t, g (ix3 0 t (gateLane grp h)) = G t) (hu : ∀ t e, u (ix3 0 t e) = U t e) (hw : ∀ t d, w (ix3 0 t d) = W t d)
    (hq : ∀ t d, q (ix3 0 t d) = Q t d) (ha : ∀ t s, a (ix3 0 t s) = A t s) (hst : ∀ d e, st (ix3 0 d e) = S d e) (t : Fin 64) (e : Fin 128) :
    outT (F := Ideal) (laneWord grp h) g u w q a st (ix3 0 t e) = chunkOut U W Q A G S t e := by
  pointwise [outT]
  unfold chunkOut
  have hf := freshT_apply (q := q) hg hu hw hst
  rw [← bothT_high (w := w) hg hq hst t e]
  congr 1
  refine Finset.sum_congr rfl fun s _ => ?_
  rw [← hf s e, ← ha t s]

/-- One chunk of one head, at an index: the recurrent state after it. -/
theorem stateT_apply (hg : ∀ t, g (ix3 0 t (gateLane grp h)) = G t) (hu : ∀ t e, u (ix3 0 t e) = U t e) (hw : ∀ t d, w (ix3 0 t d) = W t d)
    (hk : ∀ t d, k (ix3 0 t d) = K t d) (hst : ∀ d e, st (ix3 0 d e) = S d e) (d e : Fin 128) :
    stateT (F := Ideal) (laneWord grp h) g u w q k st (ix3 0 d e) = chunkState U W K G S d e := by
  pointwise [stateT]
  unfold chunkState
  have hf := freshT_apply (q := q) hg hu hw hst
  have hl := laneT_apply hg
  rw [← hst d e, ← hl ⟨63, by omega⟩ 0]
  congr 1
  refine Finset.sum_congr rfl fun s _ => ?_
  rw [← hf s e, ← hk s d, ← hl s 0]
  rfl

end

end Cert.Rule
end
-- ==== Proof.RulePoint.lean ====
module

public import proofs.«01_k».proof.Proof.RuleBlock
public import proofs.«01_k».proof.Proof.Gen.DeltaIdeal.Frame
public import Idealize.ShloMosaic.Lib.Pipeline.ValueKit
public import Idealize.ShloMosaic.Lib.Pipeline.ReadBack

/-! One grid point of the delta rule's scan: four chunks of sixteen heads, each head's state passed from chunk to chunk. -/

@[expose] public section

set_option maxRecDepth 16384

noncomputable section

namespace Cert.Rule

open Idealize.ShloMosaic Idealize.ShloMosaic.TcCoe Idealize.SL.Sem
open Cert.DeltaIdeal Cert.DeltaIdeal.Gen

/-- Row `t` of chunk `c` of a super-chunk. -/
abbrev row (c : Fin 4) (t : Fin 64) : Fin 256 := ⟨64 * c.val + t.val, by omega⟩

/-- A head's values of chunk `c`, of a super-chunk's block. -/
def uOf (x : FVec Ideal S1x256x4096 .bf16) (c : Fin 4) (h : Fin 16) (t : Fin 64) (e : Fin 128) : EReal :=
  x (ix3 0 (row c t) ⟨256 * h.val + e.val, by omega⟩)

/-- A head's correcting keys, which lie beside its values. -/
def wOf (x : FVec Ideal S1x256x4096 .bf16) (c : Fin 4) (h : Fin 16) (t : Fin 64) (e : Fin 128) : EReal :=
  x (ix3 0 (row c t) ⟨256 * h.val + 128 + e.val, by omega⟩)

/-- A head's queries or keys: two heads share one. -/
def qOf (x : FVec Ideal S1x256x1024 .bf16) (c : Fin 4) (h : Fin 16) (t : Fin 64) (d : Fin 128) : EReal :=
  x (ix3 0 (row c t) ⟨128 * (h.val / 2) + d.val, by omega⟩)

/-- A head's attention within chunk `c`. -/
def aOf (x : FVec Ideal S1x256x1024 .bf16) (c : Fin 4) (h : Fin 16) (t s : Fin 64) : EReal :=
  x (ix3 0 (row c t) ⟨64 * h.val + s.val, by omega⟩)

/-- A head's decays of chunk `c`. -/
def gOf (x : FVec Ideal S1x256x128 .f32) (g : Fin 2) (c : Fin 4) (h : Fin 16) (t : Fin 64) : EReal :=
  x (ix3 0 (row c t) (gateLane g h))

/-- A head's state before chunk `n` of the super-chunk, from the state `s` before its first. -/
def chain (x0 : FVec Ideal S1x256x4096 .bf16) (x3 : FVec Ideal S1x256x1024 .bf16) (x4 : FVec Ideal S1x256x128 .f32) (g : Fin 2)
    (s : Fin 16 → Fin 128 → Fin 128 → EReal) (h : Fin 16) : ℕ → Fin 128 → Fin 128 → EReal
  | 0 => s h
  | n + 1 => chunkState (uOf x0 (Fin.ofNat 4 n) h) (wOf x0 (Fin.ofNat 4 n) h) (qOf x3 (Fin.ofNat 4 n) h) (gOf x4 g (Fin.ofNat 4 n) h) (chain x0 x3 x4 g s h n)

/-- The head group of a grid point. -/
abbrev grp (i : grid0.Coords) : Fin 2 := ⟨(i 1).val, (i 1).isLt⟩

/-- A load of a rectangle of unit strides reads the block at the offset index. -/
theorem load_at {S : Shape} {e : EltTy} (m : Memref sig .tc .vmem S e) (hm : m.IsWhole) (x : Vec Ideal S e) (r : Rect S) (i : r.shape.Idx) :
    View.readAt (Elt Ideal) m.view r.toLoadRect (hm.unread x) i = x (r.emb i) := by
  rw [View.readAt_eq_ld, hm.read_unread]
  rfl

/-- A head's values, loaded. -/
theorem load_u (m : Memref sig .tc .vmem S1x256x4096 .bf16) (hm : m.IsWhole) (x : FVec Ideal S1x256x4096 .bf16) (c : Fin 4) (h : Fin 16) (r o : ℕ) (hr : r = 64 * c.val) (ho : o = 256 * h.val)
    (inb : ∀ k, (![0, r, o] : Fin 3 → ℕ) k + S1x64x128.size k ≤ S1x256x4096.size k) (t : Fin 64) (d : Fin 128) :
    View.readAt (Elt Ideal) m.view (Rect.unit (s := S1x256x4096) ![0, r, o] S1x64x128.size inb).toLoadRect (hm.unread x) (ix3 (0 : Fin 1) t d : S1x64x128.Idx) = uOf x c h t d := by
  subst ho hr
  rw [load_at]
  unfold uOf
  blk_ext

/-- A head's correcting keys, loaded. -/
theorem load_w (m : Memref sig .tc .vmem S1x256x4096 .bf16) (hm : m.IsWhole) (x : FVec Ideal S1x256x4096 .bf16) (c : Fin 4) (h : Fin 16) (r o : ℕ) (hr : r = 64 * c.val) (ho : o = 256 * h.val + 128)
    (inb : ∀ k, (![0, r, o] : Fin 3 → ℕ) k + S1x64x128.size k ≤ S1x256x4096.size k) (t : Fin 64) (d : Fin 128) :
    View.readAt (Elt Ideal) m.view (Rect.unit (s := S1x256x4096) ![0, r, o] S1x64x128.size inb).toLoadRect (hm.unread x) (ix3 (0 : Fin 1) t d : S1x64x128.Idx) = wOf x c h t d := by
  subst ho hr
  rw [load_at]
  unfold wOf
  blk_ext

/-- A head's queries or keys, loaded. -/
theorem load_q (m : Memref sig .tc .vmem S1x256x1024 .bf16) (hm : m.IsWhole) (x : FVec Ideal S1x256x1024 .bf16) (c : Fin 4) (h : Fin 16) (r o : ℕ) (hr : r = 64 * c.val) (ho : o = 128 * (h.val / 2))
    (inb : ∀ k, (![0, r, o] : Fin 3 → ℕ) k + S1x64x128.size k ≤ S1x256x1024.size k) (t : Fin 64) (d : Fin 128) :
    View.readAt (Elt Ideal) m.view (Rect.unit (s := S1x256x1024) ![0, r, o] S1x64x128.size inb).toLoadRect (hm.unread x) (ix3 (0 : Fin 1) t d : S1x64x128.Idx) = qOf x c h t d := by
  subst ho hr
  rw [load_at]
  unfold qOf
  blk_ext

/-- A head's attention, loaded. -/
theorem load_a (m : Memref sig .tc .vmem S1x256x1024 .bf16) (hm : m.IsWhole) (x : FVec Ideal S1x256x1024 .bf16) (c : Fin 4) (h : Fin 16) (r o : ℕ) (hr : r = 64 * c.val) (ho : o = 64 * h.val)
    (inb : ∀ k, (![0, r, o] : Fin 3 → ℕ) k + S1x64x64.size k ≤ S1x256x1024.size k) (t s : Fin 64) :
    View.readAt (Elt Ideal) m.view (Rect.unit (s := S1x256x1024) ![0, r, o] S1x64x64.size inb).toLoadRect (hm.unread x) (ix3 (0 : Fin 1) t s : S1x64x64.Idx) = aOf x c h t s := by
  subst ho hr
  rw [load_at]
  unfold aOf
  blk_ext

/-- A head's decays, loaded with the other heads'. -/
theorem load_g (m : Memref sig .tc .vmem S1x256x128 .f32) (hm : m.IsWhole) (x : FVec Ideal S1x256x128 .f32) (g : Fin 2) (c : Fin 4) (h : Fin 16) (r : ℕ) (hr : r = 64 * c.val)
    (inb : ∀ k, (![0, r, 0] : Fin 3 → ℕ) k + S1x64x128.size k ≤ S1x256x128.size k) (t : Fin 64) :
    View.readAt (Elt Ideal) m.view (Rect.unit (s := S1x256x128) ![0, r, 0] S1x64x128.size inb).toLoadRect (hm.unread x) (ix3 (0 : Fin 1) t (gateLane g h) : S1x64x128.Idx) = gOf x g c h t := by
  subst hr
  rw [load_at]
  unfold gOf
  blk_ext

/-- A head's state, loaded from the carried one. -/
theorem load_state (m : Memref sig .tc .vmem S16x128x128 .f32) (hm : m.IsWhole) (x : FVec Ideal S16x128x128 .f32) (h : Fin 16) (o : ℕ) (ho : o = h.val)
    (inb : ∀ k, (![o, 0, 0] : Fin 3 → ℕ) k + S1x128x128.size k ≤ S16x128x128.size k) (e d : Fin 128) :
    View.readAt (Elt Ideal) m.view (Rect.unit (s := S16x128x128) ![o, 0, 0] S1x128x128.size inb).toLoadRect (hm.unread x) (ix3 (0 : Fin 1) e d : S1x128x128.Idx) = x (ix3 h e d) := by
  subst ho
  rw [load_at]
  blk_ext

/-- What a point leaves in its block of the output: row `64 c + t`, lane `128 h + e` is chunk `c`'s output of head `h`. -/
def pointOut (x0 : FVec Ideal S1x256x4096 .bf16) (x1 x2 x3 : FVec Ideal S1x256x1024 .bf16) (x4 : FVec Ideal S1x256x128 .f32) (g : Fin 2)
    (s : Fin 16 → Fin 128 → Fin 128 → EReal) (y : S1x256x2048.Idx) : EReal :=
  let c : Fin 4 := ⟨(y 1).val / 64, by have := (y 1).isLt; change (y 1).val < 256 at this; omega⟩
  let h : Fin 16 := ⟨(y 2).val / 128, by have := (y 2).isLt; change (y 2).val < 2048 at this; omega⟩
  chunkOut (uOf x0 c h) (wOf x0 c h) (qOf x2 c h) (aOf x1 c h) (gOf x4 g c h) (chain x0 x3 x4 g s h c.val) ⟨(y 1).val % 64, by omega⟩ ⟨(y 2).val % 128, by omega⟩

section
variable {arg3 : Memref sig .tc .vmem S1x256x4096 .bf16} (harg3 : arg3.IsWhole) {arg4 arg5 arg6 : Memref sig .tc .vmem S1x256x1024 .bf16}
  (harg4 : arg4.IsWhole) (harg5 : arg5.IsWhole) (harg6 : arg6.IsWhole) {arg7 : Memref sig .tc .vmem S1x256x128 .f32} (harg7 : arg7.IsWhole)
  (x0 : FVec Ideal S1x256x4096 .bf16) (x1 x2 x3 : FVec Ideal S1x256x1024 .bf16) (x4 : FVec Ideal S1x256x128 .f32)
  {s : Fin 16 → Fin 128 → Fin 128 → EReal} (i : grid0.Coords) (h : Fin 16) (c : Fin 4) {n : BitVec 32} (hn : n = laneWord (grp i) h)
  {r ou ow oq ok oa od : ℕ} (hr : r = 64 * c.val) (hou : ou = 256 * h.val) (how : ow = 256 * h.val + 128) (hok : ok = 128 * (h.val / 2))
  (hoq : oq = 128 * (h.val / 2)) (hoa : oa = 64 * h.val)
  {iu : ∀ k, (![0, r, ou] : Fin 3 → ℕ) k + S1x64x128.size k ≤ S1x256x4096.size k}
  {iw : ∀ k, (![0, r, ow] : Fin 3 → ℕ) k + S1x64x128.size k ≤ S1x256x4096.size k}
  {iq : ∀ k, (![0, r, oq] : Fin 3 → ℕ) k + S1x64x128.size k ≤ S1x256x1024.size k}
  {ik : ∀ k, (![0, r, ok] : Fin 3 → ℕ) k + S1x64x128.size k ≤ S1x256x1024.size k}
  {ia : ∀ k, (![0, r, oa] : Fin 3 → ℕ) k + S1x64x64.size k ≤ S1x256x1024.size k}
  {ig : ∀ k, (![0, r, 0] : Fin 3 → ℕ) k + S1x64x128.size k ≤ S1x256x128.size k} {st : FVec Ideal S1x128x128 .f32}

include hn hr hou how hok in
/-- A chunk's store into the carried state, when the state it loaded is the chain's. -/
theorem state_next {q : FVec Ideal S1x64x128 .bf16} (hst : ∀ d e, st (ix3 0 d e) = chain x0 x3 x4 (grp i) s h c.val d e) {T : FVec Ideal S1x128x128 .f32}
    (hT : T = stateT (F := Ideal) n (View.readAt (Elt Ideal) arg7.view (Rect.unit (s := S1x256x128) ![0, r, 0] S1x64x128.size ig).toLoadRect (harg7.unread x4))
      (View.readAt (Elt Ideal) arg3.view (Rect.unit (s := S1x256x4096) ![0, r, ou] S1x64x128.size iu).toLoadRect (harg3.unread x0))
      (View.readAt (Elt Ideal) arg3.view (Rect.unit (s := S1x256x4096) ![0, r, ow] S1x64x128.size iw).toLoadRect (harg3.unread x0)) q
      (View.readAt (Elt Ideal) arg6.view (Rect.unit (s := S1x256x1024) ![0, r, ok] S1x64x128.size ik).toLoadRect (harg6.unread x3)) st) (d e : Fin 128) :
    T (ix3 0 d e) = chain x0 x3 x4 (grp i) s h (c.val + 1) d e := by
  subst hT
  subst hn
  refine (stateT_apply (load_g _ harg7 x4 (grp i) c h r hr ig) (load_u _ harg3 x0 c h r ou hr hou iu) (load_w _ harg3 x0 c h r ow hr how iw)
    (load_q _ harg6 x3 c h r ok hr hok ik) hst d e).trans ?_
  have e1 : Fin.ofNat 4 c.val = c := Fin.ext (Nat.mod_eq_of_lt c.isLt)
  show _ = chunkState (uOf x0 (Fin.ofNat 4 c.val) h) (wOf x0 (Fin.ofNat 4 c.val) h) (qOf x3 (Fin.ofNat 4 c.val) h) (gOf x4 (grp i) (Fin.ofNat 4 c.val) h)
    (chain x0 x3 x4 (grp i) s h c.val) d e
  rw [e1]

include hn hr hou how hoq hoa in
/-- A chunk's store into the output's block is a block of `pointOut`, when the state it loaded is the chain's. -/
theorem piece_out (hod : od = 128 * h.val) (hst : ∀ d e, st (ix3 0 d e) = chain x0 x3 x4 (grp i) s h c.val d e)
    {io : ∀ k, (![0, r, od] : Fin 3 → ℕ) k + S1x64x128.size k ≤ S1x256x2048.size k} {T : FVec Ideal S1x64x128 .f32}
    (hT : T = outT (F := Ideal) n (View.readAt (Elt Ideal) arg7.view (Rect.unit (s := S1x256x128) ![0, r, 0] S1x64x128.size ig).toLoadRect (harg7.unread x4))
      (View.readAt (Elt Ideal) arg3.view (Rect.unit (s := S1x256x4096) ![0, r, ou] S1x64x128.size iu).toLoadRect (harg3.unread x0))
      (View.readAt (Elt Ideal) arg3.view (Rect.unit (s := S1x256x4096) ![0, r, ow] S1x64x128.size iw).toLoadRect (harg3.unread x0))
      (View.readAt (Elt Ideal) arg5.view (Rect.unit (s := S1x256x1024) ![0, r, oq] S1x64x128.size iq).toLoadRect (harg5.unread x2))
      (View.readAt (Elt Ideal) arg4.view (Rect.unit (s := S1x256x1024) ![0, r, oa] S1x64x64.size ia).toLoadRect (harg4.unread x1)) st) (x : S1x64x128.Idx) :
    T x = pointOut x0 x1 x2 x3 x4 (grp i) s ((Rect.unit (s := S1x256x2048) ![0, r, od] S1x64x128.size io).emb x) := by
  subst hT
  subst hn
  obtain ⟨a, t, e, rfl⟩ : ∃ a t e, x = ix3 a t e := ⟨x 0, x 1, x 2, by funext k; fin_cases k <;> rfl⟩
  obtain rfl : a = 0 := Subsingleton.elim _ _
  refine (outT_apply (load_g _ harg7 x4 (grp i) c h r hr ig) (load_u _ harg3 x0 c h r ou hr hou iu) (load_w _ harg3 x0 c h r ow hr how iw)
    (load_q _ harg5 x2 c h r oq hr hoq iq) (load_a _ harg4 x1 c h r oa hr hoa ia) hst t e).trans ?_
  have e1 : (((Rect.unit (s := S1x256x2048) ![0, r, od] S1x64x128.size io).emb (ix3 0 t e)) 1).val = 64 * c.val + t.val := by
    blk_simp
    omega
  have e2 : (((Rect.unit (s := S1x256x2048) ![0, r, od] S1x64x128.size io).emb (ix3 0 t e)) 2).val = 128 * h.val + e.val := by
    blk_simp
    omega
  unfold pointOut
  simp only [e1, e2]
  have h1 : (64 * c.val + t.val) / 64 = c.val := by omega
  have h2 : (64 * c.val + t.val) % 64 = t.val := by omega
  have h3 : (128 * h.val + e.val) / 128 = h.val := by omega
  have h4 : (128 * h.val + e.val) % 128 = e.val := by omega
  simp only [h1, h2, h3, h4]

end

/-- The carried state read at a head is the stores' list loaded through the head's rectangle. -/
theorem canon_head (L : List (View.Piece (Elt Ideal) S16x128x128 .f32)) (h : Fin 16) (o : ℕ) (ho : o = h.val)
    (inb : ∀ k, (![o, 0, 0] : Fin 3 → ℕ) k + S1x128x128.size k ≤ S16x128x128.size k) (e d : Fin 128) :
    View.canon L (ix3 h e d) = VS0_0.readCov L (Rect.unit (s := S16x128x128) ![o, 0, 0] S1x128x128.size inb).toLoadRect (ix3 (0 : Fin 1) e d : S1x128x128.Idx) := by
  subst ho
  rw [View.readCov_eq_canon']
  show _ = View.canon L _
  congr 1
  funext k
  fin_cases k <;> (apply Fin.ext; simp [Rect.unit])

/-- Store `n` of a list of stores into the output's block holds its block of `f`. -/
def Holds (f : S1x256x2048.Idx → EReal) (L : List (View.Piece (Elt Ideal) S1x256x2048 .f32)) (n : ℕ) : Prop :=
  ∃ p, L[n]? = some p ∧ ∀ x, p.2 x = f (p.1.emb x)

/-- When each of a list's stores holds its block, all do. -/
theorem all_hold {f : S1x256x2048.Idx → EReal} {L : List (View.Piece (Elt Ideal) S1x256x2048 .f32)} {k : ℕ} (hl : L.length = k) (hh : ∀ n : Fin k, Holds f L n.val) :
    ∀ p ∈ L, ∀ x, p.2 x = f (p.1.emb x) := by
  intro p hp
  obtain ⟨n, hn, rfl⟩ := List.getElem_of_mem hp
  obtain ⟨q, hq, h⟩ := hh ⟨n, hl ▸ hn⟩
  rw [List.getElem?_eq_getElem hn] at hq
  cases hq
  exact h

end Cert.Rule

end
-- ==== Proof.RuleWhole.lean ====
module

public import proofs.«01_k».proof.Proof.RuleMath

/-! The whole delta rule: 132 chunks of each batch and head, one after another, from a zero state. -/

@[expose] public section

noncomputable section

namespace Cert.Rule

open Idealize.ShloMosaic

section
variable (UW : Fin 2 → Fin 8448 → Fin 8192 → EReal) (KD : Fin 2 → Fin 8448 → Fin 2048 → EReal)
  (QKV : Fin 2 → Fin 8448 → Fin 8192 → EReal) (GC : Fin 2 → Fin 8448 → Fin 128 → EReal)

/-- A head's values of chunk `n`. -/
def uG (b : Fin 2) (n : Fin 132) (h : Fin 32) (t : Fin 64) (e : Fin 128) : EReal :=
  UW b ⟨64 * n.val + t.val, by omega⟩ ⟨256 * h.val + e.val, by omega⟩

/-- A head's correcting keys of chunk `n`. -/
def wG (b : Fin 2) (n : Fin 132) (h : Fin 32) (t : Fin 64) (e : Fin 128) : EReal :=
  UW b ⟨64 * n.val + t.val, by omega⟩ ⟨256 * h.val + 128 + e.val, by omega⟩

/-- A head's queries of chunk `n`. -/
def qG (b : Fin 2) (n : Fin 132) (h : Fin 32) (t : Fin 64) (d : Fin 128) : EReal :=
  QKV b ⟨64 * n.val + t.val, by omega⟩ ⟨128 * (h.val / 2) + d.val, by omega⟩

/-- A head's keys of chunk `n`. -/
def kG (b : Fin 2) (n : Fin 132) (h : Fin 32) (t : Fin 64) (d : Fin 128) : EReal :=
  QKV b ⟨64 * n.val + t.val, by omega⟩ ⟨2048 + 128 * (h.val / 2) + d.val, by omega⟩

/-- A head's attention within chunk `n`. -/
def aG (b : Fin 2) (n : Fin 132) (h : Fin 32) (t s : Fin 64) : EReal :=
  KD b ⟨64 * n.val + t.val, by omega⟩ ⟨64 * h.val + s.val, by omega⟩

/-- A head's decays of chunk `n`. -/
def gG (b : Fin 2) (n : Fin 132) (h : Fin 32) (t : Fin 64) : EReal :=
  GC b ⟨64 * n.val + t.val, by omega⟩ ⟨64 + h.val, by omega⟩

/-- A head's state before chunk `n`, key lane first: zero before the first chunk. -/
def stateG (b : Fin 2) (h : Fin 32) : ℕ → Fin 128 → Fin 128 → EReal
  | 0 => fun _ _ => 0
  | n + 1 => chunkState (uG UW b (Fin.ofNat 132 n) h) (wG UW b (Fin.ofNat 132 n) h) (kG QKV b (Fin.ofNat 132 n) h) (gG GC b (Fin.ofNat 132 n) h) (stateG b h n)

/-- The outputs of chunk `n` of a head. -/
def outC (b : Fin 2) (h : Fin 32) (n : Fin 132) (t : Fin 64) (e : Fin 128) : EReal :=
  chunkOut (uG UW b n h) (wG UW b n h) (qG QKV b n h) (aG KD b n h) (gG GC b n h) (stateG UW QKV GC b h n.val) t e

/-- The whole output: row `64 n + t`, lane `128 h + e` is chunk `n`'s output of head `h`. -/
def outG (b : Fin 2) (r : Fin 8448) (l : Fin 4096) : EReal :=
  outC UW KD QKV GC b ⟨l.val / 128, by omega⟩ ⟨r.val / 64, by omega⟩ ⟨r.val % 64, by omega⟩ ⟨l.val % 128, by omega⟩

end

end Cert.Rule

end
-- ==== Proof.RuleEntry.lean ====
module

public import proofs.«01_k».proof.Proof.RulePoint
public import proofs.«01_k».proof.Proof.RuleWhole
public import Idealize.ShloMosaic.Lib.Claim

/-! The blocks a grid point of the delta rule's scan reads, as pieces of the arrays the launch finds. -/

@[expose] public section

set_option maxRecDepth 16384

noncomputable section

namespace Cert.Rule

open Idealize.ShloMosaic Idealize.ShloMosaic.TcCoe Idealize.SL.Sem
open Cert.DeltaIdeal Cert.DeltaIdeal.Gen

variable (m : (ℓ : Loc nD τ sig) → Buf (Elt Ideal) ℓ) (c : Dev nD)

/-- The windows' blocks at a grid point. -/
theorem idx : ∀ t : Fin cfg0.N, win0_0.index t = ![t.val / 66, t.val % 33, t.val / 33 % 2] ∧ win0_1.index t = ![t.val / 66, t.val % 33, t.val / 33 % 2]
    ∧ win0_2.index t = ![t.val / 66, t.val % 33, t.val / 33 % 2] ∧ win0_3.index t = ![t.val / 66, t.val % 33, 2 + t.val / 33 % 2] ∧ win0_4.index t = ![t.val / 66, t.val % 33, 0]
    ∧ win0_5.index t = ![t.val / 66, t.val % 33, t.val / 33 % 2] := (by decide +kernel : ∀ t : Fin grid0.N, _)

/-- The head group a grid point's second coordinate counts. -/
theorem coord : ∀ t : Fin cfg0.N, (grid0.coords t 1).val = t.val / 33 % 2 := (by decide +kernel : ∀ t : Fin grid0.N, _)

/-- The values and correcting keys the launch finds. -/
def uw (b : Fin 2) (r : Fin 8448) (l : Fin 8192) : EReal := m ((c : Thread nD τ).loc main_arg0) (ix3 b r l)

/-- The attention the launch finds. -/
def kd (b : Fin 2) (r : Fin 8448) (l : Fin 2048) : EReal := m ((c : Thread nD τ).loc main_arg1) (ix3 b r l)

/-- The queries, keys and values the launch finds. -/
def qkv (b : Fin 2) (r : Fin 8448) (l : Fin 8192) : EReal := m ((c : Thread nD τ).loc main_arg2) (ix3 b r l)

/-- The gate columns the launch finds. -/
def gc (b : Fin 2) (r : Fin 8448) (l : Fin 128) : EReal := m ((c : Thread nD τ).loc main_arg3) (ix3 b r l)

theorem uw_entry (b : Fin 2) (r : Fin 8448) (l : Fin 8192) : V m c main_v0 (ix3 b r l) = uw m c b r l := by
  unfold V
  entry_read
  pointwise
  rfl

theorem kd_entry (b : Fin 2) (r : Fin 8448) (l : Fin 2048) : V m c main_v1 (ix3 b r l) = kd m c b r l := by
  unfold V
  entry_read
  pointwise
  rfl

theorem qkv_entry (b : Fin 2) (r : Fin 8448) (l : Fin 8192) : V m c main_v2 (ix3 b r l) = qkv m c b r l := by
  unfold V
  entry_read
  pointwise
  rfl

/-- The batch of a grid point. -/
abbrev bat (t : Fin cfg0.N) : Fin 2 := ⟨t.val / 66, by have := lt_of_lt_of_eq t.isLt (show cfg0.N = 132 from N_0); omega⟩

/-- The number of a grid point's chunk. -/
abbrev chk (t : Fin cfg0.N) (k : Fin 4) : Fin 132 := ⟨4 * (t.val % 33) + k.val, by omega⟩

/-- A head of a grid point, among all. -/
abbrev head (t : Fin cfg0.N) (h : Fin 16) : Fin 32 := ⟨16 * (t.val / 33 % 2) + h.val, by omega⟩

/-- A row of a grid point's chunk, among all. -/
abbrev rowG (t : Fin cfg0.N) (k : Fin 4) (r : Fin 64) : Fin 8448 := ⟨64 * (chk t k).val + r.val, by omega⟩

theorem u_in (t : Fin cfg0.N) (k : Fin 4) (h : Fin 16) : uOf (iblk m c 0 t) k h = uG (uw m c) (bat t) (chk t k) (head t h) := by
  funext r e
  unfold uOf uG
  rw [← uw_entry]
  blk_ext [iblk, idx t]

theorem w_in (t : Fin cfg0.N) (k : Fin 4) (h : Fin 16) : wOf (iblk m c 0 t) k h = wG (uw m c) (bat t) (chk t k) (head t h) := by
  funext r e
  unfold wOf wG
  rw [← uw_entry]
  blk_ext [iblk, idx t]

theorem a_in (t : Fin cfg0.N) (k : Fin 4) (h : Fin 16) : aOf (iblk m c 1 t) k h = aG (kd m c) (bat t) (chk t k) (head t h) := by
  funext r e
  unfold aOf aG
  rw [← kd_entry]
  blk_ext [iblk, idx t]

theorem q_in (t : Fin cfg0.N) (k : Fin 4) (h : Fin 16) : qOf (iblk m c 2 t) k h = qG (qkv m c) (bat t) (chk t k) (head t h) := by
  funext r e
  unfold qOf qG
  rw [← qkv_entry]
  blk_ext [iblk, idx t]

theorem k_in (t : Fin cfg0.N) (k : Fin 4) (h : Fin 16) : qOf (iblk m c 3 t) k h = kG (qkv m c) (bat t) (chk t k) (head t h) := by
  funext r e
  unfold qOf kG
  rw [← qkv_entry]
  blk_ext [iblk, idx t]

theorem g_in (t : Fin cfg0.N) (k : Fin 4) (h : Fin 16) : gOf (iblk m c 4 t) (grp (grid0.coords t)) k h = gG (gc m c) (bat t) (chk t k) (head t h) := by
  funext r
  unfold gOf gG gc
  have e := coord t
  blk_ext [iblk, V, idx t]

end Cert.Rule

end
-- ==== Proof.RuleFirst.lean ====
module

public import proofs.«01_k».proof.Proof.Gen.DeltaIdeal.Frame
public import proofs.«01_k».proof.Proof.RulePoint

/-! A grid point of the delta rule's scan at the first super-chunk of a batch and head group: what its chunks read as each head's state is `chain`, from zero,
and what it stores into its output block is `pointOut`. -/

@[expose] public section

set_option maxRecDepth 16384
set_option maxHeartbeats 400000

noncomputable section

namespace Cert.Rule.First

open Idealize.ShloMosaic Idealize.ShloMosaic.TcCoe Idealize.SL.Sem
open Cert.DeltaIdeal Cert.DeltaIdeal.Gen Cert.DeltaIdeal.Gen.kernelRun0_A

section

variable (c : Dev nD) (i : grid0.Coords) (arg3 : Memref sig .tc .vmem S1x256x4096 .bf16) (harg3 : arg3.IsWhole)
  (arg5 : Memref sig .tc .vmem S1x256x1024 .bf16) (harg5 : arg5.IsWhole) (arg6 : Memref sig .tc .vmem S1x256x1024 .bf16) (harg6 : arg6.IsWhole)
  (arg7 : Memref sig .tc .vmem S1x256x128 .f32) (harg7 : arg7.IsWhole) (arg9 : Memref sig .tc .vmem S16x128x128 .f32) (harg9 : arg9.IsWhole)
  (x0 : FVec Ideal S1x256x4096 .bf16) (x2 x3 : FVec Ideal S1x256x1024 .bf16) (x4 : FVec Ideal S1x256x128 .f32)

include c i arg3 harg3 arg5 harg5 arg6 harg6 arg7 harg7 arg9 harg9 x0 x2 x3 x4

/-- Head 0's state before chunk 0. -/
theorem s0_0 (d e : Fin 128) : sl.v23 (F := Ideal) c arg9 (ix3 (0 : Fin 1) d e : S1x128x128.Idx) = chain x0 x3 x4 (grp i) (fun _ _ _ => 0) 0 0 d e := by
  unfold sl.v23 sl.HS0_1
  rw [View.readCov_fill _ _ _ _ _ (by decide)]
  show k0_pay2 (F := Ideal) _ = 0
  pointwise [k0_pay2]

/-- Head 1's state before chunk 0. -/
theorem s0_1 (d e : Fin 128) : sl.v50 (F := Ideal) c arg9 (ix3 (0 : Fin 1) d e : S1x128x128.Idx) = chain x0 x3 x4 (grp i) (fun _ _ _ => 0) 1 0 d e := by
  unfold sl.v50 sl.HS0_1
  rw [View.readCov_fill _ _ _ _ _ (by decide)]
  show k0_pay2 (F := Ideal) _ = 0
  pointwise [k0_pay2]

/-- Head 2's state before chunk 0. -/
theorem s0_2 (d e : Fin 128) : sl.v77 (F := Ideal) c arg9 (ix3 (0 : Fin 1) d e : S1x128x128.Idx) = chain x0 x3 x4 (grp i) (fun _ _ _ => 0) 2 0 d e := by
  unfold sl.v77 sl.HS0_1
  rw [View.readCov_fill _ _ _ _ _ (by decide)]
  show k0_pay2 (F := Ideal) _ = 0
  pointwise [k0_pay2]

/-- Head 3's state before chunk 0. -/
theorem s0_3 (d e : Fin 128) : sl.v104 (F := Ideal) c arg9 (ix3 (0 : Fin 1) d e : S1x128x128.Idx) = chain x0 x3 x4 (grp i) (fun _ _ _ => 0) 3 0 d e := by
  unfold sl.v104 sl.HS0_1
  rw [View.readCov_fill _ _ _ _ _ (by decide)]
  show k0_pay2 (F := Ideal) _ = 0
  pointwise [k0_pay2]

/-- Head 4's state before chunk 0. -/
theorem s0_4 (d e : Fin 128) : sl.v131 (F := Ideal) c arg9 (ix3 (0 : Fin 1) d e : S1x128x128.Idx) = chain x0 x3 x4 (grp i) (fun _ _ _ => 0) 4 0 d e := by
  unfold sl.v131 sl.HS0_1
  rw [View.readCov_fill _ _ _ _ _ (by decide)]
  show k0_pay2 (F := Ideal) _ = 0
  pointwise [k0_pay2]

/-- Head 5's state before chunk 0. -/
theorem s0_5 (d e : Fin 128) : sl.v158 (F := Ideal) c arg9 (ix3 (0 : Fin 1) d e : S1x128x128.Idx) = chain x0 x3 x4 (grp i) (fun _ _ _ => 0) 5 0 d e := by
  unfold sl.v158 sl.HS0_1
  rw [View.readCov_fill _ _ _ _ _ (by decide)]
  show k0_pay2 (F := Ideal) _ = 0
  pointwise [k0_pay2]

/-- Head 6's state before chunk 0. -/
theorem s0_6 (d e : Fin 128) : sl.v185 (F := Ideal) c arg9 (ix3 (0 : Fin 1) d e : S1x128x128.Idx) = chain x0 x3 x4 (grp i) (fun _ _ _ => 0) 6 0 d e := by
  unfold sl.v185 sl.HS0_1
  rw [View.readCov_fill _ _ _ _ _ (by decide)]
  show k0_pay2 (F := Ideal) _ = 0
  pointwise [k0_pay2]

/-- Head 7's state before chunk 0. -/
theorem s0_7 (d e : Fin 128) : sl.v212 (F := Ideal) c arg9 (ix3 (0 : Fin 1) d e : S1x128x128.Idx) = chain x0 x3 x4 (grp i) (fun _ _ _ => 0) 7 0 d e := by
  unfold sl.v212 sl.HS0_1
  rw [View.readCov_fill _ _ _ _ _ (by decide)]
  show k0_pay2 (F := Ideal) _ = 0
  pointwise [k0_pay2]

/-- Head 8's state before chunk 0. -/
theorem s0_8 (d e : Fin 128) : sl.v239 (F := Ideal) c arg9 (ix3 (0 : Fin 1) d e : S1x128x128.Idx) = chain x0 x3 x4 (grp i) (fun _ _ _ => 0) 8 0 d e := by
  unfold sl.v239 sl.HS0_1
  rw [View.readCov_fill _ _ _ _ _ (by decide)]
  show k0_pay2 (F := Ideal) _ = 0
  pointwise [k0_pay2]

/-- Head 9's state before chunk 0. -/
theorem s0_9 (d e : Fin 128) : sl.v266 (F := Ideal) c arg9 (ix3 (0 : Fin 1) d e : S1x128x128.Idx) = chain x0 x3 x4 (grp i) (fun _ _ _ => 0) 9 0 d e := by
  unfold sl.v266 sl.HS0_1
  rw [View.readCov_fill _ _ _ _ _ (by decide)]
  show k0_pay2 (F := Ideal) _ = 0
  pointwise [k0_pay2]

/-- Head 10's state before chunk 0. -/
theorem s0_10 (d e : Fin 128) : sl.v293 (F := Ideal) c arg9 (ix3 (0 : Fin 1) d e : S1x128x128.Idx) = chain x0 x3 x4 (grp i) (fun _ _ _ => 0) 10 0 d e := by
  unfold sl.v293 sl.HS0_1
  rw [View.readCov_fill _ _ _ _ _ (by decide)]
  show k0_pay2 (F := Ideal) _ = 0
  pointwise [k0_pay2]

/-- Head 11's state before chunk 0. -/
theorem s0_11 (d e : Fin 128) : sl.v320 (F := Ideal) c arg9 (ix3 (0 : Fin 1) d e : S1x128x128.Idx) = chain x0 x3 x4 (grp i) (fun _ _ _ => 0) 11 0 d e := by
  unfold sl.v320 sl.HS0_1
  rw [View.readCov_fill _ _ _ _ _ (by decide)]
  show k0_pay2 (F := Ideal) _ = 0
  pointwise [k0_pay2]

/-- Head 12's state before chunk 0. -/
theorem s0_12 (d e : Fin 128) : sl.v347 (F := Ideal) c arg9 (ix3 (0 : Fin 1) d e : S1x128x128.Idx) = chain x0 x3 x4 (grp i) (fun _ _ _ => 0) 12 0 d e := by
  unfold sl.v347 sl.HS0_1
  rw [View.readCov_fill _ _ _ _ _ (by decide)]
  show k0_pay2 (F := Ideal) _ = 0
  pointwise [k0_pay2]

/-- Head 13's state before chunk 0. -/
theorem s0_13 (d e : Fin 128) : sl.v374 (F := Ideal) c arg9 (ix3 (0 : Fin 1) d e : S1x128x128.Idx) = chain x0 x3 x4 (grp i) (fun _ _ _ => 0) 13 0 d e := by
  unfold sl.v374 sl.HS0_1
  rw [View.readCov_fill _ _ _ _ _ (by decide)]
  show k0_pay2 (F := Ideal) _ = 0
  pointwise [k0_pay2]

/-- Head 14's state before chunk 0. -/
theorem s0_14 (d e : Fin 128) : sl.v401 (F := Ideal) c arg9 (ix3 (0 : Fin 1) d e : S1x128x128.Idx) = chain x0 x3 x4 (grp i) (fun _ _ _ => 0) 14 0 d e := by
  unfold sl.v401 sl.HS0_1
  rw [View.readCov_fill _ _ _ _ _ (by decide)]
  show k0_pay2 (F := Ideal) _ = 0
  pointwise [k0_pay2]

/-- Head 15's state before chunk 0. -/
theorem s0_15 (d e : Fin 128) : sl.v428 (F := Ideal) c arg9 (ix3 (0 : Fin 1) d e : S1x128x128.Idx) = chain x0 x3 x4 (grp i) (fun _ _ _ => 0) 15 0 d e := by
  unfold sl.v428 sl.HS0_1
  rw [View.readCov_fill _ _ _ _ _ (by decide)]
  show k0_pay2 (F := Ideal) _ = 0
  pointwise [k0_pay2]

/-- Head 0's state before chunk 1. -/
theorem s1_0 (d e : Fin 128) : sl.v969 (F := Ideal) c i arg3 harg3 arg5 harg5 arg6 harg6 arg7 harg7 arg9 x0 x2 x3 x4 (ix3 (0 : Fin 1) d e : S1x128x128.Idx) = chain x0 x3 x4 (grp i) (fun _ _ _ => 0) 0 1 d e := by
  unfold sl.v969 sl.HS0_17
  iterate 15 rw [View.readCov_skip _ _ _ _ _ (by decide)]
  rw [View.readCov_cons_toLoadRect]
  exact state_next harg3 harg6 harg7 x0 x3 x4 i 0 0 rfl rfl rfl rfl rfl (s0_0 c i arg3 harg3 arg5 harg5 arg6 harg6 arg7 harg7 arg9 harg9 x0 x2 x3 x4) rfl d e (s := fun _ _ _ => 0)

/-- Head 1's state before chunk 1. -/
theorem s1_1 (d e : Fin 128) : sl.v996 (F := Ideal) c i arg3 harg3 arg5 harg5 arg6 harg6 arg7 harg7 arg9 x0 x2 x3 x4 (ix3 (0 : Fin 1) d e : S1x128x128.Idx) = chain x0 x3 x4 (grp i) (fun _ _ _ => 0) 1 1 d e := by
  unfold sl.v996 sl.HS0_17
  iterate 14 rw [View.readCov_skip _ _ _ _ _ (by decide)]
  rw [View.readCov_cons_toLoadRect]
  exact state_next harg3 harg6 harg7 x0 x3 x4 i 1 0 rfl rfl rfl rfl rfl (s0_1 c i arg3 harg3 arg5 harg5 arg6 harg6 arg7 harg7 arg9 harg9 x0 x2 x3 x4) rfl d e (s := fun _ _ _ => 0)

/-- Head 2's state before chunk 1. -/
theorem s1_2 (d e : Fin 128) : sl.v1023 (F := Ideal) c i arg3 harg3 arg5 harg5 arg6 harg6 arg7 harg7 arg9 x0 x2 x3 x4 (ix3 (0 : Fin 1) d e : S1x128x128.Idx) = chain x0 x3 x4 (grp i) (fun _ _ _ => 0) 2 1 d e := by
  unfold sl.v1023 sl.HS0_17
  iterate 13 rw [View.readCov_skip _ _ _ _ _ (by decide)]
  rw [View.readCov_cons_toLoadRect]
  exact state_next harg3 harg6 harg7 x0 x3 x4 i 2 0 rfl rfl rfl rfl rfl (s0_2 c i arg3 harg3 arg5 harg5 arg6 harg6 arg7 harg7 arg9 harg9 x0 x2 x3 x4) rfl d e (s := fun _ _ _ => 0)

/-- Head 3's state before chunk 1. -/
theorem s1_3 (d e : Fin 128) : sl.v1050 (F := Ideal) c i arg3 harg3 arg5 harg5 arg6 harg6 arg7 harg7 arg9 x0 x2 x3 x4 (ix3 (0 : Fin 1) d e : S1x128x128.Idx) = chain x0 x3 x4 (grp i) (fun _ _ _ => 0) 3 1 d e := by
  unfold sl.v1050 sl.HS0_17
  iterate 12 rw [View.readCov_skip _ _ _ _ _ (by decide)]
  rw [View.readCov_cons_toLoadRect]
  exact state_next harg3 harg6 harg7 x0 x3 x4 i 3 0 rfl rfl rfl rfl rfl (s0_3 c i arg3 harg3 arg5 harg5 arg6 harg6 arg7 harg7 arg9 harg9 x0 x2 x3 x4) rfl d e (s := fun _ _ _ => 0)

/-- Head 4's state before chunk 1. -/
theorem s1_4 (d e : Fin 128) : sl.v1077 (F := Ideal) c i arg3 harg3 arg5 harg5 arg6 harg6 arg7 harg7 arg9 x0 x2 x3 x4 (ix3 (0 : Fin 1) d e : S1x128x128.Idx) = chain x0 x3 x4 (grp i) (fun _ _ _ => 0) 4 1 d e := by
  unfold sl.v1077 sl.HS0_17
  iterate 11 rw [View.readCov_skip _ _ _ _ _ (by decide)]
  rw [View.readCov_cons_toLoadRect]
  exact state_next harg3 harg6 harg7 x0 x3 x4 i 4 0 rfl rfl rfl rfl rfl (s0_4 c i arg3 harg3 arg5 harg5 arg6 harg6 arg7 harg7 arg9 harg9 x0 x2 x3 x4) rfl d e (s := fun _ _ _ => 0)

/-- Head 5's state before chunk 1. -/
theorem s1_5 (d e : Fin 128) : sl.v1104 (F := Ideal) c i arg3 harg3 arg5 harg5 arg6 harg6 arg7 harg7 arg9 x0 x2 x3 x4 (ix3 (0 : Fin 1) d e : S1x128x128.Idx) = chain x0 x3 x4 (grp i) (fun _ _ _ => 0) 5 1 d e := by
  unfold sl.v1104 sl.HS0_17
  iterate 10 rw [View.readCov_skip _ _ _ _ _ (by decide)]
  rw [View.readCov_cons_toLoadRect]
  exact state_next harg3 harg6 harg7 x0 x3 x4 i 5 0 rfl rfl rfl rfl rfl (s0_5 c i arg3 harg3 arg5 harg5 arg6 harg6 arg7 harg7 arg9 harg9 x0 x2 x3 x4) rfl d e (s := fun _ _ _ => 0)

/-- Head 6's state before chunk 1. -/
theorem s1_6 (d e : Fin 128) : sl.v1131 (F := Ideal) c i arg3 harg3 arg5 harg5 arg6 harg6 arg7 harg7 arg9 x0 x2 x3 x4 (ix3 (0 : Fin 1) d e : S1x128x128.Idx) = chain x0 x3 x4 (grp i) (fun _ _ _ => 0) 6 1 d e := by
  unfold sl.v1131 sl.HS0_17
  iterate 9 rw [View.readCov_skip _ _ _ _ _ (by decide)]
  rw [View.readCov_cons_toLoadRect]
  exact state_next harg3 harg6 harg7 x0 x3 x4 i 6 0 rfl rfl rfl rfl rfl (s0_6 c i arg3 harg3 arg5 harg5 arg6 harg6 arg7 harg7 arg9 harg9 x0 x2 x3 x4) rfl d e (s := fun _ _ _ => 0)

/-- Head 7's state before chunk 1. -/
theorem s1_7 (d e : Fin 128) : sl.v1158 (F := Ideal) c i arg3 harg3 arg5 harg5 arg6 harg6 arg7 harg7 arg9 x0 x2 x3 x4 (ix3 (0 : Fin 1) d e : S1x128x128.Idx) = chain x0 x3 x4 (grp i) (fun _ _ _ => 0) 7 1 d e := by
  unfold sl.v1158 sl.HS0_17
  iterate 8 rw [View.readCov_skip _ _ _ _ _ (by decide)]
  rw [View.readCov_cons_toLoadRect]
  exact state_next harg3 harg6 harg7 x0 x3 x4 i 7 0 rfl rfl rfl rfl rfl (s0_7 c i arg3 harg3 arg5 harg5 arg6 harg6 arg7 harg7 arg9 harg9 x0 x2 x3 x4) rfl d e (s := fun _ _ _ => 0)

/-- Head 8's state before chunk 1. -/
theorem s1_8 (d e : Fin 128) : sl.v1185 (F := Ideal) c i arg3 harg3 arg5 harg5 arg6 harg6 arg7 harg7 arg9 x0 x2 x3 x4 (ix3 (0 : Fin 1) d e : S1x128x128.Idx) = chain x0 x3 x4 (grp i) (fun _ _ _ => 0) 8 1 d e := by
  unfold sl.v1185 sl.HS0_17
  iterate 7 rw [View.readCov_skip _ _ _ _ _ (by decide)]
  rw [View.readCov_cons_toLoadRect]
  exact state_next harg3 harg6 harg7 x0 x3 x4 i 8 0 rfl rfl rfl rfl rfl (s0_8 c i arg3 harg3 arg5 harg5 arg6 harg6 arg7 harg7 arg9 harg9 x0 x2 x3 x4) rfl d e (s := fun _ _ _ => 0)

/-- Head 9's state before chunk 1. -/
theorem s1_9 (d e : Fin 128) : sl.v1212 (F := Ideal) c i arg3 harg3 arg5 harg5 arg6 harg6 arg7 harg7 arg9 x0 x2 x3 x4 (ix3 (0 : Fin 1) d e : S1x128x128.Idx) = chain x0 x3 x4 (grp i) (fun _ _ _ => 0) 9 1 d e := by
  unfold sl.v1212 sl.HS0_17
  iterate 6 rw [View.readCov_skip _ _ _ _ _ (by decide)]
  rw [View.readCov_cons_toLoadRect]
  exact state_next harg3 harg6 harg7 x0 x3 x4 i 9 0 rfl rfl rfl rfl rfl (s0_9 c i arg3 harg3 arg5 harg5 arg6 harg6 arg7 harg7 arg9 harg9 x0 x2 x3 x4) rfl d e (s := fun _ _ _ => 0)

/-- Head 10's state before chunk 1. -/
theorem s1_10 (d e : Fin 128) : sl.v1239 (F := Ideal) c i arg3 harg3 arg5 harg5 arg6 harg6 arg7 harg7 arg9 x0 x2 x3 x4 (ix3 (0 : Fin 1) d e : S1x128x128.Idx) = chain x0 x3 x4 (grp i) (fun _ _ _ => 0) 10 1 d e := by
  unfold sl.v1239 sl.HS0_17
  iterate 5 rw [View.readCov_skip _ _ _ _ _ (by decide)]
  rw [View.readCov_cons_toLoadRect]
  exact state_next harg3 harg6 harg7 x0 x3 x4 i 10 0 rfl rfl rfl rfl rfl (s0_10 c i arg3 harg3 arg5 harg5 arg6 harg6 arg7 harg7 arg9 harg9 x0 x2 x3 x4) rfl d e (s := fun _ _ _ => 0)

/-- Head 11's state before chunk 1. -/
theorem s1_11 (d e : Fin 128) : sl.v1266 (F := Ideal) c i arg3 harg3 arg5 harg5 arg6 harg6 arg7 harg7 arg9 x0 x2 x3 x4 (ix3 (0 : Fin 1) d e : S1x128x128.Idx) = chain x0 x3 x4 (grp i) (fun _ _ _ => 0) 11 1 d e := by
  unfold sl.v1266 sl.HS0_17
  iterate 4 rw [View.readCov_skip _ _ _ _ _ (by decide)]
  rw [View.readCov_cons_toLoadRect]
  exact state_next harg3 harg6 harg7 x0 x3 x4 i 11 0 rfl rfl rfl rfl rfl (s0_11 c i arg3 harg3 arg5 harg5 arg6 harg6 arg7 harg7 arg9 harg9 x0 x2 x3 x4) rfl d e (s := fun _ _ _ => 0)

/-- Head 12's state before chunk 1. -/
theorem s1_12 (d e : Fin 128) : sl.v1293 (F := Ideal) c i arg3 harg3 arg5 harg5 arg6 harg6 arg7 harg7 arg9 x0 x2 x3 x4 (ix3 (0 : Fin 1) d e : S1x128x128.Idx) = chain x0 x3 x4 (grp i) (fun _ _ _ => 0) 12 1 d e := by
  unfold sl.v1293 sl.HS0_17
  iterate 3 rw [View.readCov_skip _ _ _ _ _ (by decide)]
  rw [View.readCov_cons_toLoadRect]
  exact state_next harg3 harg6 harg7 x0 x3 x4 i 12 0 rfl rfl rfl rfl rfl (s0_12 c i arg3 harg3 arg5 harg5 arg6 harg6 arg7 harg7 arg9 harg9 x0 x2 x3 x4) rfl d e (s := fun _ _ _ => 0)

/-- Head 13's state before chunk 1. -/
theorem s1_13 (d e : Fin 128) : sl.v1320 (F := Ideal) c i arg3 harg3 arg5 harg5 arg6 harg6 arg7 harg7 arg9 x0 x2 x3 x4 (ix3 (0 : Fin 1) d e : S1x128x128.Idx) = chain x0 x3 x4 (grp i) (fun _ _ _ => 0) 13 1 d e := by
  unfold sl.v1320 sl.HS0_17
  iterate 2 rw [View.readCov_skip _ _ _ _ _ (by decide)]
  rw [View.readCov_cons_toLoadRect]
  exact state_next harg3 harg6 harg7 x0 x3 x4 i 13 0 rfl rfl rfl rfl rfl (s0_13 c i arg3 harg3 arg5 harg5 arg6 harg6 arg7 harg7 arg9 harg9 x0 x2 x3 x4) rfl d e (s := fun _ _ _ => 0)

/-- Head 14's state before chunk 1. -/
theorem s1_14 (d e : Fin 128) : sl.v1347 (F := Ideal) c i arg3 harg3 arg5 harg5 arg6 harg6 arg7 harg7 arg9 x0 x2 x3 x4 (ix3 (0 : Fin 1) d e : S1x128x128.Idx) = chain x0 x3 x4 (grp i) (fun _ _ _ => 0) 14 1 d e := by
  unfold sl.v1347 sl.HS0_17
  iterate 1 rw [View.readCov_skip _ _ _ _ _ (by decide)]
  rw [View.readCov_cons_toLoadRect]
  exact state_next harg3 harg6 harg7 x0 x3 x4 i 14 0 rfl rfl rfl rfl rfl (s0_14 c i arg3 harg3 arg5 harg5 arg6 harg6 arg7 harg7 arg9 harg9 x0 x2 x3 x4) rfl d e (s := fun _ _ _ => 0)

/-- Head 15's state before chunk 1. -/
theorem s1_15 (d e : Fin 128) : sl.v1374 (F := Ideal) c i arg3 harg3 arg5 harg5 arg6 harg6 arg7 harg7 arg9 x0 x2 x3 x4 (ix3 (0 : Fin 1) d e : S1x128x128.Idx) = chain x0 x3 x4 (grp i) (fun _ _ _ => 0) 15 1 d e := by
  unfold sl.v1374 sl.HS0_17
  rw [View.readCov_cons_toLoadRect]
  exact state_next harg3 harg6 harg7 x0 x3 x4 i 15 0 rfl rfl rfl rfl rfl (s0_15 c i arg3 harg3 arg5 harg5 arg6 harg6 arg7 harg7 arg9 harg9 x0 x2 x3 x4) rfl d e (s := fun _ _ _ => 0)

/-- Head 0's state before chunk 2. -/
theorem s2_0 (d e : Fin 128) : sl.v1915 (F := Ideal) c i arg3 harg3 arg5 harg5 arg6 harg6 arg7 harg7 arg9 x0 x2 x3 x4 (ix3 (0 : Fin 1) d e : S1x128x128.Idx) = chain x0 x3 x4 (grp i) (fun _ _ _ => 0) 0 2 d e := by
  unfold sl.v1915 sl.HS0_33
  iterate 15 rw [View.readCov_skip _ _ _ _ _ (by decide)]
  rw [View.readCov_cons_toLoadRect]
  exact state_next harg3 harg6 harg7 x0 x3 x4 i 0 1 rfl rfl rfl rfl rfl (s1_0 c i arg3 harg3 arg5 harg5 arg6 harg6 arg7 harg7 arg9 harg9 x0 x2 x3 x4) rfl d e (s := fun _ _ _ => 0)

/-- Head 1's state before chunk 2. -/
theorem s2_1 (d e : Fin 128) : sl.v1942 (F := Ideal) c i arg3 harg3 arg5 harg5 arg6 harg6 arg7 harg7 arg9 x0 x2 x3 x4 (ix3 (0 : Fin 1) d e : S1x128x128.Idx) = chain x0 x3 x4 (grp i) (fun _ _ _ => 0) 1 2 d e := by
  unfold sl.v1942 sl.HS0_33
  iterate 14 rw [View.readCov_skip _ _ _ _ _ (by decide)]
  rw [View.readCov_cons_toLoadRect]
  exact state_next harg3 harg6 harg7 x0 x3 x4 i 1 1 rfl rfl rfl rfl rfl (s1_1 c i arg3 harg3 arg5 harg5 arg6 harg6 arg7 harg7 arg9 harg9 x0 x2 x3 x4) rfl d e (s := fun _ _ _ => 0)

/-- Head 2's state before chunk 2. -/
theorem s2_2 (d e : Fin 128) : sl.v1969 (F := Ideal) c i arg3 harg3 arg5 harg5 arg6 harg6 arg7 harg7 arg9 x0 x2 x3 x4 (ix3 (0 : Fin 1) d e : S1x128x128.Idx) = chain x0 x3 x4 (grp i) (fun _ _ _ => 0) 2 2 d e := by
  unfold sl.v1969 sl.HS0_33
  iterate 13 rw [View.readCov_skip _ _ _ _ _ (by decide)]
  rw [View.readCov_cons_toLoadRect]
  exact state_next harg3 harg6 harg7 x0 x3 x4 i 2 1 rfl rfl rfl rfl rfl (s1_2 c i arg3 harg3 arg5 harg5 arg6 harg6 arg7 harg7 arg9 harg9 x0 x2 x3 x4) rfl d e (s := fun _ _ _ => 0)

/-- Head 3's state before chunk 2. -/
theorem s2_3 (d e : Fin 128) : sl.v1996 (F := Ideal) c i arg3 harg3 arg5 harg5 arg6 harg6 arg7 harg7 arg9 x0 x2 x3 x4 (ix3 (0 : Fin 1) d e : S1x128x128.Idx) = chain x0 x3 x4 (grp i) (fun _ _ _ => 0) 3 2 d e := by
  unfold sl.v1996 sl.HS0_33
  iterate 12 rw [View.readCov_skip _ _ _ _ _ (by decide)]
  rw [View.readCov_cons_toLoadRect]
  exact state_next harg3 harg6 harg7 x0 x3 x4 i 3 1 rfl rfl rfl rfl rfl (s1_3 c i arg3 harg3 arg5 harg5 arg6 harg6 arg7 harg7 arg9 harg9 x0 x2 x3 x4) rfl d e (s := fun _ _ _ => 0)

/-- Head 4's state before chunk 2. -/
theorem s2_4 (d e : Fin 128) : sl.v2023 (F := Ideal) c i arg3 harg3 arg5 harg5 arg6 harg6 arg7 harg7 arg9 x0 x2 x3 x4 (ix3 (0 : Fin 1) d e : S1x128x128.Idx) = chain x0 x3 x4 (grp i) (fun _ _ _ => 0) 4 2 d e := by
  unfold sl.v2023 sl.HS0_33
  iterate 11 rw [View.readCov_skip _ _ _ _ _ (by decide)]
  rw [View.readCov_cons_toLoadRect]
  exact state_next harg3 harg6 harg7 x0 x3 x4 i 4 1 rfl rfl rfl rfl rfl (s1_4 c i arg3 harg3 arg5 harg5 arg6 harg6 arg7 harg7 arg9 harg9 x0 x2 x3 x4) rfl d e (s := fun _ _ _ => 0)

/-- Head 5's state before chunk 2. -/
theorem s2_5 (d e : Fin 128) : sl.v2050 (F := Ideal) c i arg3 harg3 arg5 harg5 arg6 harg6 arg7 harg7 arg9 x0 x2 x3 x4 (ix3 (0 : Fin 1) d e : S1x128x128.Idx) = chain x0 x3 x4 (grp i) (fun _ _ _ => 0) 5 2 d e := by
  unfold sl.v2050 sl.HS0_33
  iterate 10 rw [View.readCov_skip _ _ _ _ _ (by decide)]
  rw [View.readCov_cons_toLoadRect]
  exact state_next harg3 harg6 harg7 x0 x3 x4 i 5 1 rfl rfl rfl rfl rfl (s1_5 c i arg3 harg3 arg5 harg5 arg6 harg6 arg7 harg7 arg9 harg9 x0 x2 x3 x4) rfl d e (s := fun _ _ _ => 0)

/-- Head 6's state before chunk 2. -/
theorem s2_6 (d e : Fin 128) : sl.v2077 (F := Ideal) c i arg3 harg3 arg5 harg5 arg6 harg6 arg7 harg7 arg9 x0 x2 x3 x4 (ix3 (0 : Fin 1) d e : S1x128x128.Idx) = chain x0 x3 x4 (grp i) (fun _ _ _ => 0) 6 2 d e := by
  unfold sl.v2077 sl.HS0_33
  iterate 9 rw [View.readCov_skip _ _ _ _ _ (by decide)]
  rw [View.readCov_cons_toLoadRect]
  exact state_next harg3 harg6 harg7 x0 x3 x4 i 6 1 rfl rfl rfl rfl rfl (s1_6 c i arg3 harg3 arg5 harg5 arg6 harg6 arg7 harg7 arg9 harg9 x0 x2 x3 x4) rfl d e (s := fun _ _ _ => 0)

/-- Head 7's state before chunk 2. -/
theorem s2_7 (d e : Fin 128) : sl.v2104 (F := Ideal) c i arg3 harg3 arg5 harg5 arg6 harg6 arg7 harg7 arg9 x0 x2 x3 x4 (ix3 (0 : Fin 1) d e : S1x128x128.Idx) = chain x0 x3 x4 (grp i) (fun _ _ _ => 0) 7 2 d e := by
  unfold sl.v2104 sl.HS0_33
  iterate 8 rw [View.readCov_skip _ _ _ _ _ (by decide)]
  rw [View.readCov_cons_toLoadRect]
  have hs := s1_7 c i arg3 harg3 arg5 harg5 arg6 harg6 arg7 harg7 arg9 harg9 x0 x2 x3 x4
  refine state_next harg3 harg6 harg7 x0 x3 x4 i 7 1 (n := laneWord (grp i) 7) rfl rfl rfl rfl rfl (s := fun _ _ _ => 0) hs ?_ d e (iu := inb_S1x256x4096_S1x64x128_0_64_1792) (iw := inb_S1x256x4096_S1x64x128_0_64_1920)
    (ig := inb_S1x256x128_S1x64x128_0_64_0) (ik := inb_S1x256x1024_S1x64x128_0_64_384)
    (q := View.readAt (Elt Ideal) arg5.view (Rect.unit (s := S1x256x1024) ![0, 64, 384] S1x64x128.size inb_S1x256x1024_S1x64x128_0_64_384).toLoadRect (harg5.unread x2))
  rfl

/-- Head 8's state before chunk 2. -/
theorem s2_8 (d e : Fin 128) : sl.v2131 (F := Ideal) c i arg3 harg3 arg5 harg5 arg6 harg6 arg7 harg7 arg9 x0 x2 x3 x4 (ix3 (0 : Fin 1) d e : S1x128x128.Idx) = chain x0 x3 x4 (grp i) (fun _ _ _ => 0) 8 2 d e := by
  unfold sl.v2131 sl.HS0_33
  iterate 7 rw [View.readCov_skip _ _ _ _ _ (by decide)]
  rw [View.readCov_cons_toLoadRect]
  exact state_next harg3 harg6 harg7 x0 x3 x4 i 8 1 rfl rfl rfl rfl rfl (s1_8 c i arg3 harg3 arg5 harg5 arg6 harg6 arg7 harg7 arg9 harg9 x0 x2 x3 x4) rfl d e (s := fun _ _ _ => 0)

/-- Head 9's state before chunk 2. -/
theorem s2_9 (d e : Fin 128) : sl.v2158 (F := Ideal) c i arg3 harg3 arg5 harg5 arg6 harg6 arg7 harg7 arg9 x0 x2 x3 x4 (ix3 (0 : Fin 1) d e : S1x128x128.Idx) = chain x0 x3 x4 (grp i) (fun _ _ _ => 0) 9 2 d e := by
  unfold sl.v2158 sl.HS0_33
  iterate 6 rw [View.readCov_skip _ _ _ _ _ (by decide)]
  rw [View.readCov_cons_toLoadRect]
  exact state_next harg3 harg6 harg7 x0 x3 x4 i 9 1 rfl rfl rfl rfl rfl (s1_9 c i arg3 harg3 arg5 harg5 arg6 harg6 arg7 harg7 arg9 harg9 x0 x2 x3 x4) rfl d e (s := fun _ _ _ => 0)

/-- Head 10's state before chunk 2. -/
theorem s2_10 (d e : Fin 128) : sl.v2185 (F := Ideal) c i arg3 harg3 arg5 harg5 arg6 harg6 arg7 harg7 arg9 x0 x2 x3 x4 (ix3 (0 : Fin 1) d e : S1x128x128.Idx) = chain x0 x3 x4 (grp i) (fun _ _ _ => 0) 10 2 d e := by
  unfold sl.v2185 sl.HS0_33
  iterate 5 rw [View.readCov_skip _ _ _ _ _ (by decide)]
  rw [View.readCov_cons_toLoadRect]
  exact state_next harg3 harg6 harg7 x0 x3 x4 i 10 1 rfl rfl rfl rfl rfl (s1_10 c i arg3 harg3 arg5 harg5 arg6 harg6 arg7 harg7 arg9 harg9 x0 x2 x3 x4) rfl d e (s := fun _ _ _ => 0)

/-- Head 11's state before chunk 2. -/
theorem s2_11 (d e : Fin 128) : sl.v2212 (F := Ideal) c i arg3 harg3 arg5 harg5 arg6 harg6 arg7 harg7 arg9 x0 x2 x3 x4 (ix3 (0 : Fin 1) d e : S1x128x128.Idx) = chain x0 x3 x4 (grp i) (fun _ _ _ => 0) 11 2 d e := by
  unfold sl.v2212 sl.HS0_33
  iterate 4 rw [View.readCov_skip _ _ _ _ _ (by decide)]
  rw [View.readCov_cons_toLoadRect]
  exact state_next harg3 harg6 harg7 x0 x3 x4 i 11 1 rfl rfl rfl rfl rfl (s1_11 c i arg3 harg3 arg5 harg5 arg6 harg6 arg7 harg7 arg9 harg9 x0 x2 x3 x4) rfl d e (s := fun _ _ _ => 0)

/-- Head 12's state before chunk 2. -/
theorem s2_12 (d e : Fin 128) : sl.v2239 (F := Ideal) c i arg3 harg3 arg5 harg5 arg6 harg6 arg7 harg7 arg9 x0 x2 x3 x4 (ix3 (0 : Fin 1) d e : S1x128x128.Idx) = chain x0 x3 x4 (grp i) (fun _ _ _ => 0) 12 2 d e := by
  unfold sl.v2239 sl.HS0_33
  iterate 3 rw [View.readCov_skip _ _ _ _ _ (by decide)]
  rw [View.readCov_cons_toLoadRect]
  exact state_next harg3 harg6 harg7 x0 x3 x4 i 12 1 rfl rfl rfl rfl rfl (s1_12 c i arg3 harg3 arg5 harg5 arg6 harg6 arg7 harg7 arg9 harg9 x0 x2 x3 x4) rfl d e (s := fun _ _ _ => 0)

/-- Head 13's state before chunk 2. -/
theorem s2_13 (d e : Fin 128) : sl.v2266 (F := Ideal) c i arg3 harg3 arg5 harg5 arg6 harg6 arg7 harg7 arg9 x0 x2 x3 x4 (ix3 (0 : Fin 1) d e : S1x128x128.Idx) = chain x0 x3 x4 (grp i) (fun _ _ _ => 0) 13 2 d e := by
  unfold sl.v2266 sl.HS0_33
  iterate 2 rw [View.readCov_skip _ _ _ _ _ (by decide)]
  rw [View.readCov_cons_toLoadRect]
  exact state_next harg3 harg6 harg7 x0 x3 x4 i 13 1 rfl rfl rfl rfl rfl (s1_13 c i arg3 harg3 arg5 harg5 arg6 harg6 arg7 harg7 arg9 harg9 x0 x2 x3 x4) rfl d e (s := fun _ _ _ => 0)

/-- Head 14's state before chunk 2. -/
theorem s2_14 (d e : Fin 128) : sl.v2293 (F := Ideal) c i arg3 harg3 arg5 harg5 arg6 harg6 arg7 harg7 arg9 x0 x2 x3 x4 (ix3 (0 : Fin 1) d e : S1x128x128.Idx) = chain x0 x3 x4 (grp i) (fun _ _ _ => 0) 14 2 d e := by
  unfold sl.v2293 sl.HS0_33
  iterate 1 rw [View.readCov_skip _ _ _ _ _ (by decide)]
  rw [View.readCov_cons_toLoadRect]
  exact state_next harg3 harg6 harg7 x0 x3 x4 i 14 1 rfl rfl rfl rfl rfl (s1_14 c i arg3 harg3 arg5 harg5 arg6 harg6 arg7 harg7 arg9 harg9 x0 x2 x3 x4) rfl d e (s := fun _ _ _ => 0)

/-- Head 15's state before chunk 2. -/
theorem s2_15 (d e : Fin 128) : sl.v2320 (F := Ideal) c i arg3 harg3 arg5 harg5 arg6 harg6 arg7 harg7 arg9 x0 x2 x3 x4 (ix3 (0 : Fin 1) d e : S1x128x128.Idx) = chain x0 x3 x4 (grp i) (fun _ _ _ => 0) 15 2 d e := by
  unfold sl.v2320 sl.HS0_33
  rw [View.readCov_cons_toLoadRect]
  exact state_next harg3 harg6 harg7 x0 x3 x4 i 15 1 rfl rfl rfl rfl rfl (s1_15 c i arg3 harg3 arg5 harg5 arg6 harg6 arg7 harg7 arg9 harg9 x0 x2 x3 x4) rfl d e (s := fun _ _ _ => 0)

/-- Head 0's state before chunk 3. -/
theorem s3_0 (d e : Fin 128) : sl.v2861 (F := Ideal) c i arg3 harg3 arg5 harg5 arg6 harg6 arg7 harg7 arg9 x0 x2 x3 x4 (ix3 (0 : Fin 1) d e : S1x128x128.Idx) = chain x0 x3 x4 (grp i) (fun _ _ _ => 0) 0 3 d e := by
  unfold sl.v2861 sl.HS0_49 sl.HS0_41
  iterate 15 rw [View.readCov_skip _ _ _ _ _ (by decide)]
  rw [View.readCov_cons_toLoadRect]
  exact state_next harg3 harg6 harg7 x0 x3 x4 i 0 2 rfl rfl rfl rfl rfl (s2_0 c i arg3 harg3 arg5 harg5 arg6 harg6 arg7 harg7 arg9 harg9 x0 x2 x3 x4) rfl d e (s := fun _ _ _ => 0)

/-- Head 1's state before chunk 3. -/
theorem s3_1 (d e : Fin 128) : sl.v2888 (F := Ideal) c i arg3 harg3 arg5 harg5 arg6 harg6 arg7 harg7 arg9 x0 x2 x3 x4 (ix3 (0 : Fin 1) d e : S1x128x128.Idx) = chain x0 x3 x4 (grp i) (fun _ _ _ => 0) 1 3 d e := by
  unfold sl.v2888 sl.HS0_49 sl.HS0_41
  iterate 14 rw [View.readCov_skip _ _ _ _ _ (by decide)]
  rw [View.readCov_cons_toLoadRect]
  exact state_next harg3 harg6 harg7 x0 x3 x4 i 1 2 rfl rfl rfl rfl rfl (s2_1 c i arg3 harg3 arg5 harg5 arg6 harg6 arg7 harg7 arg9 harg9 x0 x2 x3 x4) rfl d e (s := fun _ _ _ => 0)

/-- Head 2's state before chunk 3. -/
theorem s3_2 (d e : Fin 128) : sl.v2915 (F := Ideal) c i arg3 harg3 arg5 harg5 arg6 harg6 arg7 harg7 arg9 x0 x2 x3 x4 (ix3 (0 : Fin 1) d e : S1x128x128.Idx) = chain x0 x3 x4 (grp i) (fun _ _ _ => 0) 2 3 d e := by
  unfold sl.v2915 sl.HS0_49 sl.HS0_41
  iterate 13 rw [View.readCov_skip _ _ _ _ _ (by decide)]
  rw [View.readCov_cons_toLoadRect]
  exact state_next harg3 harg6 harg7 x0 x3 x4 i 2 2 rfl rfl rfl rfl rfl (s2_2 c i arg3 harg3 arg5 harg5 arg6 harg6 arg7 harg7 arg9 harg9 x0 x2 x3 x4) rfl d e (s := fun _ _ _ => 0)

/-- Head 3's state before chunk 3. -/
theorem s3_3 (d e : Fin 128) : sl.v2942 (F := Ideal) c i arg3 harg3 arg5 harg5 arg6 harg6 arg7 harg7 arg9 x0 x2 x3 x4 (ix3 (0 : Fin 1) d e : S1x128x128.Idx) = chain x0 x3 x4 (grp i) (fun _ _ _ => 0) 3 3 d e := by
  unfold sl.v2942 sl.HS0_49 sl.HS0_41
  iterate 12 rw [View.readCov_skip _ _ _ _ _ (by decide)]
  rw [View.readCov_cons_toLoadRect]
  exact state_next harg3 harg6 harg7 x0 x3 x4 i 3 2 rfl rfl rfl rfl rfl (s2_3 c i arg3 harg3 arg5 harg5 arg6 harg6 arg7 harg7 arg9 harg9 x0 x2 x3 x4) rfl d e (s := fun _ _ _ => 0)

/-- Head 4's state before chunk 3. -/
theorem s3_4 (d e : Fin 128) : sl.v2969 (F := Ideal) c i arg3 harg3 arg5 harg5 arg6 harg6 arg7 harg7 arg9 x0 x2 x3 x4 (ix3 (0 : Fin 1) d e : S1x128x128.Idx) = chain x0 x3 x4 (grp i) (fun _ _ _ => 0) 4 3 d e := by
  unfold sl.v2969 sl.HS0_49 sl.HS0_41
  iterate 11 rw [View.readCov_skip _ _ _ _ _ (by decide)]
  rw [View.readCov_cons_toLoadRect]
  exact state_next harg3 harg6 harg7 x0 x3 x4 i 4 2 rfl rfl rfl rfl rfl (s2_4 c i arg3 harg3 arg5 harg5 arg6 harg6 arg7 harg7 arg9 harg9 x0 x2 x3 x4) rfl d e (s := fun _ _ _ => 0)

/-- Head 5's state before chunk 3. -/
theorem s3_5 (d e : Fin 128) : sl.v2996 (F := Ideal) c i arg3 harg3 arg5 harg5 arg6 harg6 arg7 harg7 arg9 x0 x2 x3 x4 (ix3 (0 : Fin 1) d e : S1x128x128.Idx) = chain x0 x3 x4 (grp i) (fun _ _ _ => 0) 5 3 d e := by
  unfold sl.v2996 sl.HS0_49 sl.HS0_41
  iterate 10 rw [View.readCov_skip _ _ _ _ _ (by decide)]
  rw [View.readCov_cons_toLoadRect]
  exact state_next harg3 harg6 harg7 x0 x3 x4 i 5 2 rfl rfl rfl rfl rfl (s2_5 c i arg3 harg3 arg5 harg5 arg6 harg6 arg7 harg7 arg9 harg9 x0 x2 x3 x4) rfl d e (s := fun _ _ _ => 0)

/-- Head 6's state before chunk 3. -/
theorem s3_6 (d e : Fin 128) : sl.v3023 (F := Ideal) c i arg3 harg3 arg5 harg5 arg6 harg6 arg7 harg7 arg9 x0 x2 x3 x4 (ix3 (0 : Fin 1) d e : S1x128x128.Idx) = chain x0 x3 x4 (grp i) (fun _ _ _ => 0) 6 3 d e := by
  unfold sl.v3023 sl.HS0_49 sl.HS0_41
  iterate 9 rw [View.readCov_skip _ _ _ _ _ (by decide)]
  rw [View.readCov_cons_toLoadRect]
  exact state_next harg3 harg6 harg7 x0 x3 x4 i 6 2 rfl rfl rfl rfl rfl (s2_6 c i arg3 harg3 arg5 harg5 arg6 harg6 arg7 harg7 arg9 harg9 x0 x2 x3 x4) rfl d e (s := fun _ _ _ => 0)

/-- Head 7's state before chunk 3. -/
theorem s3_7 (d e : Fin 128) : sl.v3050 (F := Ideal) c i arg3 harg3 arg5 harg5 arg6 harg6 arg7 harg7 arg9 x0 x2 x3 x4 (ix3 (0 : Fin 1) d e : S1x128x128.Idx) = chain x0 x3 x4 (grp i) (fun _ _ _ => 0) 7 3 d e := by
  unfold sl.v3050 sl.HS0_49 sl.HS0_41
  iterate 8 rw [View.readCov_skip _ _ _ _ _ (by decide)]
  rw [View.readCov_cons_toLoadRect]
  exact state_next harg3 harg6 harg7 x0 x3 x4 i 7 2 rfl rfl rfl rfl rfl (s2_7 c i arg3 harg3 arg5 harg5 arg6 harg6 arg7 harg7 arg9 harg9 x0 x2 x3 x4) rfl d e (s := fun _ _ _ => 0)

/-- Head 8's state before chunk 3. -/
theorem s3_8 (d e : Fin 128) : sl.v3077 (F := Ideal) c i arg3 harg3 arg5 harg5 arg6 harg6 arg7 harg7 arg9 x0 x2 x3 x4 (ix3 (0 : Fin 1) d e : S1x128x128.Idx) = chain x0 x3 x4 (grp i) (fun _ _ _ => 0) 8 3 d e := by
  unfold sl.v3077 sl.HS0_49 sl.HS0_41
  iterate 7 rw [View.readCov_skip _ _ _ _ _ (by decide)]
  rw [View.readCov_cons_toLoadRect]
  exact state_next harg3 harg6 harg7 x0 x3 x4 i 8 2 rfl rfl rfl rfl rfl (s2_8 c i arg3 harg3 arg5 harg5 arg6 harg6 arg7 harg7 arg9 harg9 x0 x2 x3 x4) rfl d e (s := fun _ _ _ => 0)

/-- Head 9's state before chunk 3. -/
theorem s3_9 (d e : Fin 128) : sl.v3104 (F := Ideal) c i arg3 harg3 arg5 harg5 arg6 harg6 arg7 harg7 arg9 x0 x2 x3 x4 (ix3 (0 : Fin 1) d e : S1x128x128.Idx) = chain x0 x3 x4 (grp i) (fun _ _ _ => 0) 9 3 d e := by
  unfold sl.v3104 sl.HS0_49 sl.HS0_41
  iterate 6 rw [View.readCov_skip _ _ _ _ _ (by decide)]
  rw [View.readCov_cons_toLoadRect]
  exact state_next harg3 harg6 harg7 x0 x3 x4 i 9 2 rfl rfl rfl rfl rfl (s2_9 c i arg3 harg3 arg5 harg5 arg6 harg6 arg7 harg7 arg9 harg9 x0 x2 x3 x4) rfl d e (s := fun _ _ _ => 0)

/-- Head 10's state before chunk 3. -/
theorem s3_10 (d e : Fin 128) : sl.v3131 (F := Ideal) c i arg3 harg3 arg5 harg5 arg6 harg6 arg7 harg7 arg9 x0 x2 x3 x4 (ix3 (0 : Fin 1) d e : S1x128x128.Idx) = chain x0 x3 x4 (grp i) (fun _ _ _ => 0) 10 3 d e := by
  unfold sl.v3131 sl.HS0_49 sl.HS0_41
  iterate 5 rw [View.readCov_skip _ _ _ _ _ (by decide)]
  rw [View.readCov_cons_toLoadRect]
  exact state_next harg3 harg6 harg7 x0 x3 x4 i 10 2 rfl rfl rfl rfl rfl (s2_10 c i arg3 harg3 arg5 harg5 arg6 harg6 arg7 harg7 arg9 harg9 x0 x2 x3 x4) rfl d e (s := fun _ _ _ => 0)

/-- Head 11's state before chunk 3. -/
theorem s3_11 (d e : Fin 128) : sl.v3158 (F := Ideal) c i arg3 harg3 arg5 harg5 arg6 harg6 arg7 harg7 arg9 x0 x2 x3 x4 (ix3 (0 : Fin 1) d e : S1x128x128.Idx) = chain x0 x3 x4 (grp i) (fun _ _ _ => 0) 11 3 d e := by
  unfold sl.v3158 sl.HS0_49 sl.HS0_41
  iterate 4 rw [View.readCov_skip _ _ _ _ _ (by decide)]
  rw [View.readCov_cons_toLoadRect]
  exact state_next harg3 harg6 harg7 x0 x3 x4 i 11 2 rfl rfl rfl rfl rfl (s2_11 c i arg3 harg3 arg5 harg5 arg6 harg6 arg7 harg7 arg9 harg9 x0 x2 x3 x4) rfl d e (s := fun _ _ _ => 0)

/-- Head 12's state before chunk 3. -/
theorem s3_12 (d e : Fin 128) : sl.v3185 (F := Ideal) c i arg3 harg3 arg5 harg5 arg6 harg6 arg7 harg7 arg9 x0 x2 x3 x4 (ix3 (0 : Fin 1) d e : S1x128x128.Idx) = chain x0 x3 x4 (grp i) (fun _ _ _ => 0) 12 3 d e := by
  unfold sl.v3185 sl.HS0_49 sl.HS0_41
  iterate 3 rw [View.readCov_skip _ _ _ _ _ (by decide)]
  rw [View.readCov_cons_toLoadRect]
  exact state_next harg3 harg6 harg7 x0 x3 x4 i 12 2 rfl rfl rfl rfl rfl (s2_12 c i arg3 harg3 arg5 harg5 arg6 harg6 arg7 harg7 arg9 harg9 x0 x2 x3 x4) rfl d e (s := fun _ _ _ => 0)

/-- Head 13's state before chunk 3. -/
theorem s3_13 (d e : Fin 128) : sl.v3212 (F := Ideal) c i arg3 harg3 arg5 harg5 arg6 harg6 arg7 harg7 arg9 x0 x2 x3 x4 (ix3 (0 : Fin 1) d e : S1x128x128.Idx) = chain x0 x3 x4 (grp i) (fun _ _ _ => 0) 13 3 d e := by
  unfold sl.v3212 sl.HS0_49 sl.HS0_41
  iterate 2 rw [View.readCov_skip _ _ _ _ _ (by decide)]
  rw [View.readCov_cons_toLoadRect]
  exact state_next harg3 harg6 harg7 x0 x3 x4 i 13 2 rfl rfl rfl rfl rfl (s2_13 c i arg3 harg3 arg5 harg5 arg6 harg6 arg7 harg7 arg9 harg9 x0 x2 x3 x4) rfl d e (s := fun _ _ _ => 0)

/-- Head 14's state before chunk 3. -/
theorem s3_14 (d e : Fin 128) : sl.v3239 (F := Ideal) c i arg3 harg3 arg5 harg5 arg6 harg6 arg7 harg7 arg9 x0 x2 x3 x4 (ix3 (0 : Fin 1) d e : S1x128x128.Idx) = chain x0 x3 x4 (grp i) (fun _ _ _ => 0) 14 3 d e := by
  unfold sl.v3239 sl.HS0_49 sl.HS0_41
  iterate 1 rw [View.readCov_skip _ _ _ _ _ (by decide)]
  rw [View.readCov_cons_toLoadRect]
  exact state_next harg3 harg6 harg7 x0 x3 x4 i 14 2 rfl rfl rfl rfl rfl (s2_14 c i arg3 harg3 arg5 harg5 arg6 harg6 arg7 harg7 arg9 harg9 x0 x2 x3 x4) rfl d e (s := fun _ _ _ => 0)

/-- Head 15's state before chunk 3. -/
theorem s3_15 (d e : Fin 128) : sl.v3266 (F := Ideal) c i arg3 harg3 arg5 harg5 arg6 harg6 arg7 harg7 arg9 x0 x2 x3 x4 (ix3 (0 : Fin 1) d e : S1x128x128.Idx) = chain x0 x3 x4 (grp i) (fun _ _ _ => 0) 15 3 d e := by
  unfold sl.v3266 sl.HS0_49 sl.HS0_41
  rw [View.readCov_cons_toLoadRect]
  exact state_next harg3 harg6 harg7 x0 x3 x4 i 15 2 rfl rfl rfl rfl rfl (s2_15 c i arg3 harg3 arg5 harg5 arg6 harg6 arg7 harg7 arg9 harg9 x0 x2 x3 x4) rfl d e (s := fun _ _ _ => 0)

end

variable (c : Dev nD) (i : grid0.Coords) (arg3 : Memref sig .tc .vmem S1x256x4096 .bf16) (harg3 : arg3.IsWhole) (arg4 : Memref sig .tc .vmem S1x256x1024 .bf16) (harg4 : arg4.IsWhole)
  (arg5 : Memref sig .tc .vmem S1x256x1024 .bf16) (harg5 : arg5.IsWhole) (arg6 : Memref sig .tc .vmem S1x256x1024 .bf16) (harg6 : arg6.IsWhole)
  (arg7 : Memref sig .tc .vmem S1x256x128 .f32) (harg7 : arg7.IsWhole) (arg9 : Memref sig .tc .vmem S16x128x128 .f32) (harg9 : arg9.IsWhole)
  (x0 : FVec Ideal S1x256x4096 .bf16) (x1 x2 x3 : FVec Ideal S1x256x1024 .bf16) (x4 : FVec Ideal S1x256x128 .f32)

  (arg8 : Memref sig .tc .vmem S1x256x2048 .f32) (harg8 : arg8.IsWhole) (hc0 : cond0_0 i)

/-- The stores into the output's block, last first. -/
abbrev stores := (kernelRun0_A (F := Ideal) c i arg3 harg3 arg4 harg4 arg5 harg5 arg6 harg6 arg7 harg7 arg8 harg8 arg9 harg9 hc0 x0 x1 x2 x3 x4).1

include c i arg3 harg3 arg4 harg4 arg5 harg5 arg6 harg6 arg7 harg7 arg9 harg9 x0 x1 x2 x3 x4 arg8 harg8 hc0

/-- The store of head 0's chunk 0. -/
theorem p0_0 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 63 := by
  refine ⟨_, rfl, fun x => ?_⟩
  exact piece_out harg3 harg4 harg5 harg7 x0 x1 x2 x3 x4 i 0 0 rfl rfl rfl rfl rfl rfl rfl (s0_0 c i arg3 harg3 arg5 harg5 arg6 harg6 arg7 harg7 arg9 harg9 x0 x2 x3 x4) rfl x (io := inb_S1x256x2048_S1x64x128_0_0_0)

/-- The store of head 1's chunk 0. -/
theorem p0_1 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 62 := by
  refine ⟨_, rfl, fun x => ?_⟩
  exact piece_out harg3 harg4 harg5 harg7 x0 x1 x2 x3 x4 i 1 0 rfl rfl rfl rfl rfl rfl rfl (s0_1 c i arg3 harg3 arg5 harg5 arg6 harg6 arg7 harg7 arg9 harg9 x0 x2 x3 x4) rfl x (io := inb_S1x256x2048_S1x64x128_0_0_128)

/-- The store of head 2's chunk 0. -/
theorem p0_2 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 61 := by
  refine ⟨_, rfl, fun x => ?_⟩
  exact piece_out harg3 harg4 harg5 harg7 x0 x1 x2 x3 x4 i 2 0 rfl rfl rfl rfl rfl rfl rfl (s0_2 c i arg3 harg3 arg5 harg5 arg6 harg6 arg7 harg7 arg9 harg9 x0 x2 x3 x4) rfl x (io := inb_S1x256x2048_S1x64x128_0_0_256)

/-- The store of head 3's chunk 0. -/
theorem p0_3 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 60 := by
  refine ⟨_, rfl, fun x => ?_⟩
  exact piece_out harg3 harg4 harg5 harg7 x0 x1 x2 x3 x4 i 3 0 rfl rfl rfl rfl rfl rfl rfl (s0_3 c i arg3 harg3 arg5 harg5 arg6 harg6 arg7 harg7 arg9 harg9 x0 x2 x3 x4) rfl x (io := inb_S1x256x2048_S1x64x128_0_0_384)

/-- The store of head 4's chunk 0. -/
theorem p0_4 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 59 := by
  refine ⟨_, rfl, fun x => ?_⟩
  exact piece_out harg3 harg4 harg5 harg7 x0 x1 x2 x3 x4 i 4 0 rfl rfl rfl rfl rfl rfl rfl (s0_4 c i arg3 harg3 arg5 harg5 arg6 harg6 arg7 harg7 arg9 harg9 x0 x2 x3 x4) rfl x (io := inb_S1x256x2048_S1x64x128_0_0_512)

/-- The store of head 5's chunk 0. -/
theorem p0_5 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 58 := by
  refine ⟨_, rfl, fun x => ?_⟩
  exact piece_out harg3 harg4 harg5 harg7 x0 x1 x2 x3 x4 i 5 0 rfl rfl rfl rfl rfl rfl rfl (s0_5 c i arg3 harg3 arg5 harg5 arg6 harg6 arg7 harg7 arg9 harg9 x0 x2 x3 x4) rfl x (io := inb_S1x256x2048_S1x64x128_0_0_640)

/-- The store of head 6's chunk 0. -/
theorem p0_6 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 57 := by
  refine ⟨_, rfl, fun x => ?_⟩
  exact piece_out harg3 harg4 harg5 harg7 x0 x1 x2 x3 x4 i 6 0 rfl rfl rfl rfl rfl rfl rfl (s0_6 c i arg3 harg3 arg5 harg5 arg6 harg6 arg7 harg7 arg9 harg9 x0 x2 x3 x4) rfl x (io := inb_S1x256x2048_S1x64x128_0_0_768)

/-- The store of head 7's chunk 0. -/
theorem p0_7 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 56 := by
  refine ⟨_, rfl, fun x => ?_⟩
  exact piece_out harg3 harg4 harg5 harg7 x0 x1 x2 x3 x4 i 7 0 rfl rfl rfl rfl rfl rfl rfl (s0_7 c i arg3 harg3 arg5 harg5 arg6 harg6 arg7 harg7 arg9 harg9 x0 x2 x3 x4) rfl x (io := inb_S1x256x2048_S1x64x128_0_0_896)

/-- The store of head 8's chunk 0. -/
theorem p0_8 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 55 := by
  refine ⟨_, rfl, fun x => ?_⟩
  exact piece_out harg3 harg4 harg5 harg7 x0 x1 x2 x3 x4 i 8 0 rfl rfl rfl rfl rfl rfl rfl (s0_8 c i arg3 harg3 arg5 harg5 arg6 harg6 arg7 harg7 arg9 harg9 x0 x2 x3 x4) rfl x (io := inb_S1x256x2048_S1x64x128_0_0_1024)

/-- The store of head 9's chunk 0. -/
theorem p0_9 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 54 := by
  refine ⟨_, rfl, fun x => ?_⟩
  exact piece_out harg3 harg4 harg5 harg7 x0 x1 x2 x3 x4 i 9 0 rfl rfl rfl rfl rfl rfl rfl (s0_9 c i arg3 harg3 arg5 harg5 arg6 harg6 arg7 harg7 arg9 harg9 x0 x2 x3 x4) rfl x (io := inb_S1x256x2048_S1x64x128_0_0_1152)

/-- The store of head 10's chunk 0. -/
theorem p0_10 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 53 := by
  refine ⟨_, rfl, fun x => ?_⟩
  exact piece_out harg3 harg4 harg5 harg7 x0 x1 x2 x3 x4 i 10 0 rfl rfl rfl rfl rfl rfl rfl (s0_10 c i arg3 harg3 arg5 harg5 arg6 harg6 arg7 harg7 arg9 harg9 x0 x2 x3 x4) rfl x (io := inb_S1x256x2048_S1x64x128_0_0_1280)

/-- The store of head 11's chunk 0. -/
theorem p0_11 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 52 := by
  refine ⟨_, rfl, fun x => ?_⟩
  exact piece_out harg3 harg4 harg5 harg7 x0 x1 x2 x3 x4 i 11 0 rfl rfl rfl rfl rfl rfl rfl (s0_11 c i arg3 harg3 arg5 harg5 arg6 harg6 arg7 harg7 arg9 harg9 x0 x2 x3 x4) rfl x (io := inb_S1x256x2048_S1x64x128_0_0_1408)

/-- The store of head 12's chunk 0. -/
theorem p0_12 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 51 := by
  refine ⟨_, rfl, fun x => ?_⟩
  exact piece_out harg3 harg4 harg5 harg7 x0 x1 x2 x3 x4 i 12 0 rfl rfl rfl rfl rfl rfl rfl (s0_12 c i arg3 harg3 arg5 harg5 arg6 harg6 arg7 harg7 arg9 harg9 x0 x2 x3 x4) rfl x (io := inb_S1x256x2048_S1x64x128_0_0_1536)

/-- The store of head 13's chunk 0. -/
theorem p0_13 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 50 := by
  refine ⟨_, rfl, fun x => ?_⟩
  exact piece_out harg3 harg4 harg5 harg7 x0 x1 x2 x3 x4 i 13 0 rfl rfl rfl rfl rfl rfl rfl (s0_13 c i arg3 harg3 arg5 harg5 arg6 harg6 arg7 harg7 arg9 harg9 x0 x2 x3 x4) rfl x (io := inb_S1x256x2048_S1x64x128_0_0_1664)

/-- The store of head 14's chunk 0. -/
theorem p0_14 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 49 := by
  refine ⟨_, rfl, fun x => ?_⟩
  exact piece_out harg3 harg4 harg5 harg7 x0 x1 x2 x3 x4 i 14 0 rfl rfl rfl rfl rfl rfl rfl (s0_14 c i arg3 harg3 arg5 harg5 arg6 harg6 arg7 harg7 arg9 harg9 x0 x2 x3 x4) rfl x (io := inb_S1x256x2048_S1x64x128_0_0_1792)

/-- The store of head 15's chunk 0. -/
theorem p0_15 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 48 := by
  refine ⟨_, rfl, fun x => ?_⟩
  exact piece_out harg3 harg4 harg5 harg7 x0 x1 x2 x3 x4 i 15 0 rfl rfl rfl rfl rfl rfl rfl (s0_15 c i arg3 harg3 arg5 harg5 arg6 harg6 arg7 harg7 arg9 harg9 x0 x2 x3 x4) rfl x (io := inb_S1x256x2048_S1x64x128_0_0_1920)

/-- The store of head 0's chunk 1. -/
theorem p1_0 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 47 := by
  refine ⟨_, rfl, fun x => ?_⟩
  exact piece_out harg3 harg4 harg5 harg7 x0 x1 x2 x3 x4 i 0 1 rfl rfl rfl rfl rfl rfl rfl (s1_0 c i arg3 harg3 arg5 harg5 arg6 harg6 arg7 harg7 arg9 harg9 x0 x2 x3 x4) rfl x (io := inb_S1x256x2048_S1x64x128_0_64_0)

/-- The store of head 1's chunk 1. -/
theorem p1_1 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 46 := by
  refine ⟨_, rfl, fun x => ?_⟩
  exact piece_out harg3 harg4 harg5 harg7 x0 x1 x2 x3 x4 i 1 1 rfl rfl rfl rfl rfl rfl rfl (s1_1 c i arg3 harg3 arg5 harg5 arg6 harg6 arg7 harg7 arg9 harg9 x0 x2 x3 x4) rfl x (io := inb_S1x256x2048_S1x64x128_0_64_128)

/-- The store of head 2's chunk 1. -/
theorem p1_2 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 45 := by
  refine ⟨_, rfl, fun x => ?_⟩
  exact piece_out harg3 harg4 harg5 harg7 x0 x1 x2 x3 x4 i 2 1 rfl rfl rfl rfl rfl rfl rfl (s1_2 c i arg3 harg3 arg5 harg5 arg6 harg6 arg7 harg7 arg9 harg9 x0 x2 x3 x4) rfl x (io := inb_S1x256x2048_S1x64x128_0_64_256)

/-- The store of head 3's chunk 1. -/
theorem p1_3 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 44 := by
  refine ⟨_, rfl, fun x => ?_⟩
  exact piece_out harg3 harg4 harg5 harg7 x0 x1 x2 x3 x4 i 3 1 rfl rfl rfl rfl rfl rfl rfl (s1_3 c i arg3 harg3 arg5 harg5 arg6 harg6 arg7 harg7 arg9 harg9 x0 x2 x3 x4) rfl x (io := inb_S1x256x2048_S1x64x128_0_64_384)

/-- The store of head 4's chunk 1. -/
theorem p1_4 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 43 := by
  refine ⟨_, rfl, fun x => ?_⟩
  exact piece_out harg3 harg4 harg5 harg7 x0 x1 x2 x3 x4 i 4 1 rfl rfl rfl rfl rfl rfl rfl (s1_4 c i arg3 harg3 arg5 harg5 arg6 harg6 arg7 harg7 arg9 harg9 x0 x2 x3 x4) rfl x (io := inb_S1x256x2048_S1x64x128_0_64_512)

/-- The store of head 5's chunk 1. -/
theorem p1_5 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 42 := by
  refine ⟨_, rfl, fun x => ?_⟩
  exact piece_out harg3 harg4 harg5 harg7 x0 x1 x2 x3 x4 i 5 1 rfl rfl rfl rfl rfl rfl rfl (s1_5 c i arg3 harg3 arg5 harg5 arg6 harg6 arg7 harg7 arg9 harg9 x0 x2 x3 x4) rfl x (io := inb_S1x256x2048_S1x64x128_0_64_640)

/-- The store of head 6's chunk 1. -/
theorem p1_6 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 41 := by
  refine ⟨_, rfl, fun x => ?_⟩
  exact piece_out harg3 harg4 harg5 harg7 x0 x1 x2 x3 x4 i 6 1 rfl rfl rfl rfl rfl rfl rfl (s1_6 c i arg3 harg3 arg5 harg5 arg6 harg6 arg7 harg7 arg9 harg9 x0 x2 x3 x4) rfl x (io := inb_S1x256x2048_S1x64x128_0_64_768)

/-- The store of head 7's chunk 1. -/
theorem p1_7 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 40 := by
  refine ⟨_, rfl, fun x => ?_⟩
  exact piece_out harg3 harg4 harg5 harg7 x0 x1 x2 x3 x4 i 7 1 rfl rfl rfl rfl rfl rfl rfl (s1_7 c i arg3 harg3 arg5 harg5 arg6 harg6 arg7 harg7 arg9 harg9 x0 x2 x3 x4) rfl x (io := inb_S1x256x2048_S1x64x128_0_64_896)

/-- The store of head 8's chunk 1. -/
theorem p1_8 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 39 := by
  refine ⟨_, rfl, fun x => ?_⟩
  exact piece_out harg3 harg4 harg5 harg7 x0 x1 x2 x3 x4 i 8 1 rfl rfl rfl rfl rfl rfl rfl (s1_8 c i arg3 harg3 arg5 harg5 arg6 harg6 arg7 harg7 arg9 harg9 x0 x2 x3 x4) rfl x (io := inb_S1x256x2048_S1x64x128_0_64_1024)

/-- The store of head 9's chunk 1. -/
theorem p1_9 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 38 := by
  refine ⟨_, rfl, fun x => ?_⟩
  exact piece_out harg3 harg4 harg5 harg7 x0 x1 x2 x3 x4 i 9 1 rfl rfl rfl rfl rfl rfl rfl (s1_9 c i arg3 harg3 arg5 harg5 arg6 harg6 arg7 harg7 arg9 harg9 x0 x2 x3 x4) rfl x (io := inb_S1x256x2048_S1x64x128_0_64_1152)

/-- The store of head 10's chunk 1. -/
theorem p1_10 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 37 := by
  refine ⟨_, rfl, fun x => ?_⟩
  exact piece_out harg3 harg4 harg5 harg7 x0 x1 x2 x3 x4 i 10 1 rfl rfl rfl rfl rfl rfl rfl (s1_10 c i arg3 harg3 arg5 harg5 arg6 harg6 arg7 harg7 arg9 harg9 x0 x2 x3 x4) rfl x (io := inb_S1x256x2048_S1x64x128_0_64_1280)

/-- The store of head 11's chunk 1. -/
theorem p1_11 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 36 := by
  refine ⟨_, rfl, fun x => ?_⟩
  exact piece_out harg3 harg4 harg5 harg7 x0 x1 x2 x3 x4 i 11 1 rfl rfl rfl rfl rfl rfl rfl (s1_11 c i arg3 harg3 arg5 harg5 arg6 harg6 arg7 harg7 arg9 harg9 x0 x2 x3 x4) rfl x (io := inb_S1x256x2048_S1x64x128_0_64_1408)

/-- The store of head 12's chunk 1. -/
theorem p1_12 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 35 := by
  refine ⟨_, rfl, fun x => ?_⟩
  exact piece_out harg3 harg4 harg5 harg7 x0 x1 x2 x3 x4 i 12 1 rfl rfl rfl rfl rfl rfl rfl (s1_12 c i arg3 harg3 arg5 harg5 arg6 harg6 arg7 harg7 arg9 harg9 x0 x2 x3 x4) rfl x (io := inb_S1x256x2048_S1x64x128_0_64_1536)

/-- The store of head 13's chunk 1. -/
theorem p1_13 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 34 := by
  refine ⟨_, rfl, fun x => ?_⟩
  exact piece_out harg3 harg4 harg5 harg7 x0 x1 x2 x3 x4 i 13 1 rfl rfl rfl rfl rfl rfl rfl (s1_13 c i arg3 harg3 arg5 harg5 arg6 harg6 arg7 harg7 arg9 harg9 x0 x2 x3 x4) rfl x (io := inb_S1x256x2048_S1x64x128_0_64_1664)

/-- The store of head 14's chunk 1. -/
theorem p1_14 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 33 := by
  refine ⟨_, rfl, fun x => ?_⟩
  exact piece_out harg3 harg4 harg5 harg7 x0 x1 x2 x3 x4 i 14 1 rfl rfl rfl rfl rfl rfl rfl (s1_14 c i arg3 harg3 arg5 harg5 arg6 harg6 arg7 harg7 arg9 harg9 x0 x2 x3 x4) rfl x (io := inb_S1x256x2048_S1x64x128_0_64_1792)

/-- The store of head 15's chunk 1. -/
theorem p1_15 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 32 := by
  refine ⟨_, rfl, fun x => ?_⟩
  exact piece_out harg3 harg4 harg5 harg7 x0 x1 x2 x3 x4 i 15 1 rfl rfl rfl rfl rfl rfl rfl (s1_15 c i arg3 harg3 arg5 harg5 arg6 harg6 arg7 harg7 arg9 harg9 x0 x2 x3 x4) rfl x (io := inb_S1x256x2048_S1x64x128_0_64_1920)

/-- The store of head 0's chunk 2. -/
theorem p2_0 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 31 := by
  refine ⟨_, rfl, fun x => ?_⟩
  exact piece_out harg3 harg4 harg5 harg7 x0 x1 x2 x3 x4 i 0 2 rfl rfl rfl rfl rfl rfl rfl (s2_0 c i arg3 harg3 arg5 harg5 arg6 harg6 arg7 harg7 arg9 harg9 x0 x2 x3 x4) rfl x (io := inb_S1x256x2048_S1x64x128_0_128_0)

/-- The store of head 1's chunk 2. -/
theorem p2_1 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 30 := by
  refine ⟨_, rfl, fun x => ?_⟩
  exact piece_out harg3 harg4 harg5 harg7 x0 x1 x2 x3 x4 i 1 2 rfl rfl rfl rfl rfl rfl rfl (s2_1 c i arg3 harg3 arg5 harg5 arg6 harg6 arg7 harg7 arg9 harg9 x0 x2 x3 x4) rfl x (io := inb_S1x256x2048_S1x64x128_0_128_128)

/-- The store of head 2's chunk 2. -/
theorem p2_2 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 29 := by
  refine ⟨_, rfl, fun x => ?_⟩
  exact piece_out harg3 harg4 harg5 harg7 x0 x1 x2 x3 x4 i 2 2 rfl rfl rfl rfl rfl rfl rfl (s2_2 c i arg3 harg3 arg5 harg5 arg6 harg6 arg7 harg7 arg9 harg9 x0 x2 x3 x4) rfl x (io := inb_S1x256x2048_S1x64x128_0_128_256)

/-- The store of head 3's chunk 2. -/
theorem p2_3 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 28 := by
  refine ⟨_, rfl, fun x => ?_⟩
  exact piece_out harg3 harg4 harg5 harg7 x0 x1 x2 x3 x4 i 3 2 rfl rfl rfl rfl rfl rfl rfl (s2_3 c i arg3 harg3 arg5 harg5 arg6 harg6 arg7 harg7 arg9 harg9 x0 x2 x3 x4) rfl x (io := inb_S1x256x2048_S1x64x128_0_128_384)

/-- The store of head 4's chunk 2. -/
theorem p2_4 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 27 := by
  refine ⟨_, rfl, fun x => ?_⟩
  exact piece_out harg3 harg4 harg5 harg7 x0 x1 x2 x3 x4 i 4 2 rfl rfl rfl rfl rfl rfl rfl (s2_4 c i arg3 harg3 arg5 harg5 arg6 harg6 arg7 harg7 arg9 harg9 x0 x2 x3 x4) rfl x (io := inb_S1x256x2048_S1x64x128_0_128_512)

/-- The store of head 5's chunk 2. -/
theorem p2_5 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 26 := by
  refine ⟨_, rfl, fun x => ?_⟩
  exact piece_out harg3 harg4 harg5 harg7 x0 x1 x2 x3 x4 i 5 2 rfl rfl rfl rfl rfl rfl rfl (s2_5 c i arg3 harg3 arg5 harg5 arg6 harg6 arg7 harg7 arg9 harg9 x0 x2 x3 x4) rfl x (io := inb_S1x256x2048_S1x64x128_0_128_640)

/-- The store of head 6's chunk 2. -/
theorem p2_6 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 25 := by
  refine ⟨_, rfl, fun x => ?_⟩
  exact piece_out harg3 harg4 harg5 harg7 x0 x1 x2 x3 x4 i 6 2 rfl rfl rfl rfl rfl rfl rfl (s2_6 c i arg3 harg3 arg5 harg5 arg6 harg6 arg7 harg7 arg9 harg9 x0 x2 x3 x4) rfl x (io := inb_S1x256x2048_S1x64x128_0_128_768)

/-- The store of head 7's chunk 2. -/
theorem p2_7 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 24 := by
  refine ⟨_, rfl, fun x => ?_⟩
  exact piece_out harg3 harg4 harg5 harg7 x0 x1 x2 x3 x4 i 7 2 rfl rfl rfl rfl rfl rfl rfl (s2_7 c i arg3 harg3 arg5 harg5 arg6 harg6 arg7 harg7 arg9 harg9 x0 x2 x3 x4) rfl x (io := inb_S1x256x2048_S1x64x128_0_128_896)

/-- The store of head 8's chunk 2. -/
theorem p2_8 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 23 := by
  refine ⟨_, rfl, fun x => ?_⟩
  exact piece_out harg3 harg4 harg5 harg7 x0 x1 x2 x3 x4 i 8 2 rfl rfl rfl rfl rfl rfl rfl (s2_8 c i arg3 harg3 arg5 harg5 arg6 harg6 arg7 harg7 arg9 harg9 x0 x2 x3 x4) rfl x (io := inb_S1x256x2048_S1x64x128_0_128_1024)

/-- The store of head 9's chunk 2. -/
theorem p2_9 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 22 := by
  refine ⟨_, rfl, fun x => ?_⟩
  exact piece_out harg3 harg4 harg5 harg7 x0 x1 x2 x3 x4 i 9 2 rfl rfl rfl rfl rfl rfl rfl (s2_9 c i arg3 harg3 arg5 harg5 arg6 harg6 arg7 harg7 arg9 harg9 x0 x2 x3 x4) rfl x (io := inb_S1x256x2048_S1x64x128_0_128_1152)

/-- The store of head 10's chunk 2. -/
theorem p2_10 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 21 := by
  refine ⟨_, rfl, fun x => ?_⟩
  exact piece_out harg3 harg4 harg5 harg7 x0 x1 x2 x3 x4 i 10 2 rfl rfl rfl rfl rfl rfl rfl (s2_10 c i arg3 harg3 arg5 harg5 arg6 harg6 arg7 harg7 arg9 harg9 x0 x2 x3 x4) rfl x (io := inb_S1x256x2048_S1x64x128_0_128_1280)

/-- The store of head 11's chunk 2. -/
theorem p2_11 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 20 := by
  refine ⟨_, rfl, fun x => ?_⟩
  exact piece_out harg3 harg4 harg5 harg7 x0 x1 x2 x3 x4 i 11 2 rfl rfl rfl rfl rfl rfl rfl (s2_11 c i arg3 harg3 arg5 harg5 arg6 harg6 arg7 harg7 arg9 harg9 x0 x2 x3 x4) rfl x (io := inb_S1x256x2048_S1x64x128_0_128_1408)

/-- The store of head 12's chunk 2. -/
theorem p2_12 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 19 := by
  refine ⟨_, rfl, fun x => ?_⟩
  exact piece_out harg3 harg4 harg5 harg7 x0 x1 x2 x3 x4 i 12 2 rfl rfl rfl rfl rfl rfl rfl (s2_12 c i arg3 harg3 arg5 harg5 arg6 harg6 arg7 harg7 arg9 harg9 x0 x2 x3 x4) rfl x (io := inb_S1x256x2048_S1x64x128_0_128_1536)

/-- The store of head 13's chunk 2. -/
theorem p2_13 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 18 := by
  refine ⟨_, rfl, fun x => ?_⟩
  exact piece_out harg3 harg4 harg5 harg7 x0 x1 x2 x3 x4 i 13 2 rfl rfl rfl rfl rfl rfl rfl (s2_13 c i arg3 harg3 arg5 harg5 arg6 harg6 arg7 harg7 arg9 harg9 x0 x2 x3 x4) rfl x (io := inb_S1x256x2048_S1x64x128_0_128_1664)

/-- The store of head 14's chunk 2. -/
theorem p2_14 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 17 := by
  refine ⟨_, rfl, fun x => ?_⟩
  exact piece_out harg3 harg4 harg5 harg7 x0 x1 x2 x3 x4 i 14 2 rfl rfl rfl rfl rfl rfl rfl (s2_14 c i arg3 harg3 arg5 harg5 arg6 harg6 arg7 harg7 arg9 harg9 x0 x2 x3 x4) rfl x (io := inb_S1x256x2048_S1x64x128_0_128_1792)

/-- The store of head 15's chunk 2. -/
theorem p2_15 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 16 := by
  refine ⟨_, rfl, fun x => ?_⟩
  exact piece_out harg3 harg4 harg5 harg7 x0 x1 x2 x3 x4 i 15 2 rfl rfl rfl rfl rfl rfl rfl (s2_15 c i arg3 harg3 arg5 harg5 arg6 harg6 arg7 harg7 arg9 harg9 x0 x2 x3 x4) rfl x (io := inb_S1x256x2048_S1x64x128_0_128_1920)

/-- The store of head 0's chunk 3. -/
theorem p3_0 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 15 := by
  refine ⟨_, rfl, fun x => ?_⟩
  exact piece_out harg3 harg4 harg5 harg7 x0 x1 x2 x3 x4 i 0 3 rfl rfl rfl rfl rfl rfl rfl (s3_0 c i arg3 harg3 arg5 harg5 arg6 harg6 arg7 harg7 arg9 harg9 x0 x2 x3 x4) rfl x (io := inb_S1x256x2048_S1x64x128_0_192_0)

/-- The store of head 1's chunk 3. -/
theorem p3_1 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 14 := by
  refine ⟨_, rfl, fun x => ?_⟩
  exact piece_out harg3 harg4 harg5 harg7 x0 x1 x2 x3 x4 i 1 3 rfl rfl rfl rfl rfl rfl rfl (s3_1 c i arg3 harg3 arg5 harg5 arg6 harg6 arg7 harg7 arg9 harg9 x0 x2 x3 x4) rfl x (io := inb_S1x256x2048_S1x64x128_0_192_128)

/-- The store of head 2's chunk 3. -/
theorem p3_2 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 13 := by
  refine ⟨_, rfl, fun x => ?_⟩
  exact piece_out harg3 harg4 harg5 harg7 x0 x1 x2 x3 x4 i 2 3 rfl rfl rfl rfl rfl rfl rfl (s3_2 c i arg3 harg3 arg5 harg5 arg6 harg6 arg7 harg7 arg9 harg9 x0 x2 x3 x4) rfl x (io := inb_S1x256x2048_S1x64x128_0_192_256)

/-- The store of head 3's chunk 3. -/
theorem p3_3 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 12 := by
  refine ⟨_, rfl, fun x => ?_⟩
  exact piece_out harg3 harg4 harg5 harg7 x0 x1 x2 x3 x4 i 3 3 rfl rfl rfl rfl rfl rfl rfl (s3_3 c i arg3 harg3 arg5 harg5 arg6 harg6 arg7 harg7 arg9 harg9 x0 x2 x3 x4) rfl x (io := inb_S1x256x2048_S1x64x128_0_192_384)

/-- The store of head 4's chunk 3. -/
theorem p3_4 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 11 := by
  refine ⟨_, rfl, fun x => ?_⟩
  exact piece_out harg3 harg4 harg5 harg7 x0 x1 x2 x3 x4 i 4 3 rfl rfl rfl rfl rfl rfl rfl (s3_4 c i arg3 harg3 arg5 harg5 arg6 harg6 arg7 harg7 arg9 harg9 x0 x2 x3 x4) rfl x (io := inb_S1x256x2048_S1x64x128_0_192_512)

/-- The store of head 5's chunk 3. -/
theorem p3_5 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 10 := by
  refine ⟨_, rfl, fun x => ?_⟩
  exact piece_out harg3 harg4 harg5 harg7 x0 x1 x2 x3 x4 i 5 3 rfl rfl rfl rfl rfl rfl rfl (s3_5 c i arg3 harg3 arg5 harg5 arg6 harg6 arg7 harg7 arg9 harg9 x0 x2 x3 x4) rfl x (io := inb_S1x256x2048_S1x64x128_0_192_640)

/-- The store of head 6's chunk 3. -/
theorem p3_6 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 9 := by
  refine ⟨_, rfl, fun x => ?_⟩
  exact piece_out harg3 harg4 harg5 harg7 x0 x1 x2 x3 x4 i 6 3 rfl rfl rfl rfl rfl rfl rfl (s3_6 c i arg3 harg3 arg5 harg5 arg6 harg6 arg7 harg7 arg9 harg9 x0 x2 x3 x4) rfl x (io := inb_S1x256x2048_S1x64x128_0_192_768)

/-- The store of head 7's chunk 3. -/
theorem p3_7 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 8 := by
  refine ⟨_, rfl, fun x => ?_⟩
  exact piece_out harg3 harg4 harg5 harg7 x0 x1 x2 x3 x4 i 7 3 rfl rfl rfl rfl rfl rfl rfl (s3_7 c i arg3 harg3 arg5 harg5 arg6 harg6 arg7 harg7 arg9 harg9 x0 x2 x3 x4) rfl x (io := inb_S1x256x2048_S1x64x128_0_192_896)

/-- The store of head 8's chunk 3. -/
theorem p3_8 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 7 := by
  refine ⟨_, rfl, fun x => ?_⟩
  exact piece_out harg3 harg4 harg5 harg7 x0 x1 x2 x3 x4 i 8 3 rfl rfl rfl rfl rfl rfl rfl (s3_8 c i arg3 harg3 arg5 harg5 arg6 harg6 arg7 harg7 arg9 harg9 x0 x2 x3 x4) rfl x (io := inb_S1x256x2048_S1x64x128_0_192_1024)

/-- The store of head 9's chunk 3. -/
theorem p3_9 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 6 := by
  refine ⟨_, rfl, fun x => ?_⟩
  exact piece_out harg3 harg4 harg5 harg7 x0 x1 x2 x3 x4 i 9 3 rfl rfl rfl rfl rfl rfl rfl (s3_9 c i arg3 harg3 arg5 harg5 arg6 harg6 arg7 harg7 arg9 harg9 x0 x2 x3 x4) rfl x (io := inb_S1x256x2048_S1x64x128_0_192_1152)

/-- The store of head 10's chunk 3. -/
theorem p3_10 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 5 := by
  refine ⟨_, rfl, fun x => ?_⟩
  exact piece_out harg3 harg4 harg5 harg7 x0 x1 x2 x3 x4 i 10 3 rfl rfl rfl rfl rfl rfl rfl (s3_10 c i arg3 harg3 arg5 harg5 arg6 harg6 arg7 harg7 arg9 harg9 x0 x2 x3 x4) rfl x (io := inb_S1x256x2048_S1x64x128_0_192_1280)

/-- The store of head 11's chunk 3. -/
theorem p3_11 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 4 := by
  refine ⟨_, rfl, fun x => ?_⟩
  exact piece_out harg3 harg4 harg5 harg7 x0 x1 x2 x3 x4 i 11 3 rfl rfl rfl rfl rfl rfl rfl (s3_11 c i arg3 harg3 arg5 harg5 arg6 harg6 arg7 harg7 arg9 harg9 x0 x2 x3 x4) rfl x (io := inb_S1x256x2048_S1x64x128_0_192_1408)

/-- The store of head 12's chunk 3. -/
theorem p3_12 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 3 := by
  refine ⟨_, rfl, fun x => ?_⟩
  exact piece_out harg3 harg4 harg5 harg7 x0 x1 x2 x3 x4 i 12 3 rfl rfl rfl rfl rfl rfl rfl (s3_12 c i arg3 harg3 arg5 harg5 arg6 harg6 arg7 harg7 arg9 harg9 x0 x2 x3 x4) rfl x (io := inb_S1x256x2048_S1x64x128_0_192_1536)

/-- The store of head 13's chunk 3. -/
theorem p3_13 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 2 := by
  refine ⟨_, rfl, fun x => ?_⟩
  exact piece_out harg3 harg4 harg5 harg7 x0 x1 x2 x3 x4 i 13 3 rfl rfl rfl rfl rfl rfl rfl (s3_13 c i arg3 harg3 arg5 harg5 arg6 harg6 arg7 harg7 arg9 harg9 x0 x2 x3 x4) rfl x (io := inb_S1x256x2048_S1x64x128_0_192_1664)

/-- The store of head 14's chunk 3. -/
theorem p3_14 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 1 := by
  refine ⟨_, rfl, fun x => ?_⟩
  exact piece_out harg3 harg4 harg5 harg7 x0 x1 x2 x3 x4 i 14 3 rfl rfl rfl rfl rfl rfl rfl (s3_14 c i arg3 harg3 arg5 harg5 arg6 harg6 arg7 harg7 arg9 harg9 x0 x2 x3 x4) rfl x (io := inb_S1x256x2048_S1x64x128_0_192_1792)

/-- The store of head 15's chunk 3. -/
theorem p3_15 : Holds (pointOut x0 x1 x2 x3 x4 (grp i) (fun _ _ _ => 0)) (stores c i arg3 harg3 arg4 harg4 arg5 harg5 arg6 harg6 arg7 harg7 arg9 harg9 x0 x1 x2 x3 x4 arg8 harg8 hc0) 0 := by
  refine ⟨_, rfl, fun x => ?_⟩
  exact piece_out harg3 harg4 harg5 harg7 x0 x1 x2 x3 x4 i 15 3 rfl rfl rfl rfl rfl rfl rfl (s3_15 c i arg3 harg3 arg5 harg5 arg6 harg6 arg7 harg7 arg9 harg9 x0 x2 x3 x4) rfl x (io := inb_S1x256x2048_S1x64x128_0_192_1920)

/-- Every store into the output's block is one chunk's output of one head. -/
theorem pieces : ∀ p ∈ stores c i arg3 harg3 arg4 harg4 arg5 harg5 arg6 harg6 arg7 harg7 arg9 harg9 x0 x1 x2 x3 x4 arg8 harg8 hc0, ∀ x, p.2 x = pointOut x0 x1 x2 x3 x4 (grp i) (fun _ _ _ => 0) (p.1.emb x) := by
  refine all_hold (k := 64) rfl fun n => ?_
  fin_cases n
  · exact p3_15 c i arg3 harg3 arg4 harg4 arg5 harg5 arg6 harg6 arg7 harg7 arg9 harg9 x0 x1 x2 x3 x4 arg8 harg8 hc0
  · exact p3_14 c i arg3 harg3 arg4 harg4 arg5 harg5 arg6 harg6 arg7 harg7 arg9 harg9 x0 x1 x2 x3 x4 arg8 harg8 hc0
  · exact p3_13 c i arg3 harg3 arg4 harg4 arg5 harg5 arg6 harg6 arg7 harg7 arg9 harg9 x0 x1 x2 x3 x4 arg8 harg8 hc0
  · exact p3_12 c i arg3 harg3 arg4 harg4 arg5 harg5 arg6 harg6 arg7 harg7 arg9 harg9 x0 x1 x2 x3 x4 arg8 harg8 hc0
  · exact p3_11 c i arg3 harg3 arg4 harg4 arg5 harg5 arg6 harg6 arg7 harg7 arg9 harg9 x0 x1 x2 x3 x4 arg8 harg8 hc0
  · exact p3_10 c i arg3 harg3 arg4 harg4 arg5 harg5 arg6 harg6 arg7 harg7 arg9 harg9 x0 x1 x2 x3 x4 arg8 harg8 hc0
  · exact p3_9 c i arg3 harg3 arg4 harg4 arg5 harg5 arg6 harg6 arg7 harg7 arg9 harg9 x0 x1 x2 x3 x4 arg8 harg8 hc0
  · exact p3_8 c i arg3 harg3 arg4 harg4 arg5 harg5 arg6 harg6 arg7 harg7 arg9 harg9 x0 x1 x2 x3 x4 arg8 harg8 hc0
  · exact p3_7 c i arg3 harg3 arg4 harg4 arg5 harg5 arg6 harg6 arg7 harg7 arg9 harg9 x0 x1 x2 x3 x4 arg8 harg8 hc0
  · exact p3_6 c i arg3 harg3 arg4 harg4 arg5 harg5 arg6 harg6 arg7 harg7 arg9 harg9 x0 x1 x2 x3 x4 arg8 harg8 hc0
  · exact p3_5 c i arg3 harg3 arg4 harg4 arg5 harg5 arg6 harg6 arg7 harg7 arg9 harg9 x0 x1 x2 x3 x4 arg8 harg8 hc0
  · exact p3_4 c i arg3 harg3 arg4 harg4 arg5 harg5 arg6 harg6 arg7 harg7 arg9 harg9 x0 x1 x2 x3 x4 arg8 harg8 hc0
  · exact p3_3 c i arg3 harg3 arg4 harg4 arg5 harg5 arg6 harg6 arg7 harg7 arg9 harg9 x0 x1 x2 x3 x4 arg8 harg8 hc0
  · exact p3_2 c i arg3 harg3 arg4 harg4 arg5 harg5 arg6 harg6 arg7 harg7 arg9 harg9 x0 x1 x2 x3 x4 arg8 harg8 hc0
  · exact p3_1 c i arg3 harg3 arg4 harg4 arg5 harg5 arg6 harg6 arg7 harg7 arg9 harg9 x0 x1 x2 x3 x4 arg8 harg8 hc0
  · exact p3_0 c i arg3 harg3 arg4 harg4 arg5 harg5 arg6 harg6 arg7 harg7 arg9 harg9 x0 x1 x2 x3 x4 arg8 harg8 hc0
  · exact p2_15 c i arg3 harg3 arg4 harg4 arg5 harg5 arg6 harg6 arg7 harg7 arg9 harg9 x0 x1 x2 x3 x4 arg8 harg8 hc0
  · exact p2_14 c i arg3 harg3 arg4 harg4 arg5 harg5 arg6 harg6 arg7 harg7 arg9 harg9 x0 x1 x2 x3 x4 arg8 harg8 hc0
  · exact p2_13 c i arg3 harg3 arg4 harg4 arg5 harg5 arg6 harg6 arg7 harg7 arg9 harg9 x0 x1 x2 x3 x4 arg8 harg8 hc0
  · exact p2_12 c i arg3 harg3 arg4 harg4 arg5 harg5 arg6 harg6 arg7 harg7 arg9 harg9 x0 x1 x2 x3 x4 arg8 harg8 hc0
  · exact p2_11 c i arg3 harg3 arg4 harg4 arg5 harg5 arg6 harg6 arg7 harg7 arg9 harg9 x0 x1 x2 x3 x4 arg8 harg8 hc0
  · exact p2_10 c i arg3 harg3 arg4 harg4 arg5 harg5 arg6 harg6 arg7 harg7 arg9 harg9 x0 x1 x2 x3 x4 arg8 harg8 hc0
  · exact p2_9 c i arg3 harg3 arg4 harg4 arg5 harg5 arg6 harg6 arg7 harg7 arg9 harg9 x0 x1 x2 x3 x4 arg8 harg8 hc0
  · exact p2_8 c i arg3 harg3 arg4 harg4 arg5 harg5 arg6 harg6 arg7 harg7 arg9 harg9 x0 x1 x2 x3 x4 arg8 harg8 hc0
  · exact p2_7 c i arg3 harg3 arg4 harg4 arg5 harg5 arg6 harg6 arg7 harg7 arg9 harg9 x0 x1 x2 x3 x4 arg8 harg8 hc0
  · exact p2_6 c i arg3 harg3 arg4 harg4 arg5 harg5 arg6 harg6 arg7 harg7 arg9 harg9 x0 x1 x2 x3 x4 arg8 harg8 hc0
  · exact p2_5 c i arg3 harg3 arg4 harg4 arg5 harg5 arg6 harg6 arg7 harg7 arg9 harg9 x0 x1 x2 x3 x4 arg8 harg8 hc0
  · exact p2_4 c i arg3 harg3 arg4 harg4 arg5 harg5 arg6 harg6 arg7 harg7 arg9 harg9 x0 x1 x2 x3 x4 arg8 harg8 hc0
  · exact p2_3 c i arg3 harg3 arg4 harg4 arg5 harg5 arg6 harg6 arg7 harg7 arg9 harg9 x0 x1 x2 x3 x4 arg8 harg8 hc0
  · exact p2_2 c i arg3 harg3 arg4 harg4 arg5 harg5 arg6 harg6 arg7 harg7 arg9 harg9 x0 x1 x2 x3 x4 arg8 harg8 hc0
  · exact p2_1 c i arg3 harg3 arg4 harg4 arg5 harg5 arg6 harg6 arg7 harg7 arg9 harg9 x0 x1 x2 x3 x4 arg8 harg8 hc0
  · exact p2_0 c i arg3 harg3 arg4 harg4 arg5 harg5 arg6 harg6 arg7 harg7 arg9 harg9 x0 x1 x2 x3 x4 arg8 harg8 hc0
  · exact p1_15 c i arg3 harg3 arg4 harg4 arg5 harg5 arg6 harg6 arg7 harg7 arg9 harg9 x0 x1 x2 x3 x4 arg8 harg8 hc0
  · exact p1_14 c i arg3 harg3 arg4 harg4 arg5 harg5 arg6 harg6 arg7 harg7 arg9 harg9 x0 x1 x2 x3 x4 arg8 harg8 hc0
  · exact p1_13 c i arg3 harg3 arg4 harg4 arg5 harg5 arg6 harg6 arg7 harg7 arg9 harg9 x0 x1 x2 x3 x4 arg8 harg8 hc0
  · exact p1_12 c i arg3 harg3 arg4 harg4 arg5 harg5 arg6 harg6 arg7 harg7 arg9 harg9 x0 x1 x2 x3 x4 arg8 harg8 hc0
  · exact p1_11 c i arg3 harg3 arg4 harg4 arg5 harg5 arg6 harg6 arg7 harg7 arg9 harg9 x0 x1 x2 x3 x4 arg8 harg8 hc0
  · exact p1_10 c i arg3 harg3 arg4 harg4 arg5 harg5 arg6 harg6 arg7 harg7 arg9 harg9 x0 x1 x2 x3 x4 arg8 harg8 hc0
  · exact p1_9 c i arg3 harg3 arg4 harg4 arg5 harg5 arg6 harg6 arg7 harg7 arg9 harg9 x0 x1 x2 x3 x4 arg8 harg8 hc0
  · exact p1_8 c i arg3 harg3 arg4 harg4 arg5 harg5 arg6 harg6 arg7 harg7 arg9 harg9 x0 x1 x2 x3 x4 arg8 harg8 hc0
  · exact p1_7 c i arg3 harg3 arg4 harg4 arg5 harg5 arg6 harg6 arg7 harg7 arg9 harg9 x0 x1 x2 x3 x4 arg8 harg8 hc0
  · exact p1_6 c i arg3 harg3 arg4 harg4 arg5 harg5 arg6 harg6 arg7 harg7 arg9 harg9 x0 x1 x2 x3 x4 arg8 harg8 hc0
  · exact p1_5 c i arg3 harg3 arg4 harg4 arg5 harg5 arg6 harg6 arg7 harg7 arg9 harg9 x0 x1 x2 x3 x4 arg8 harg8 hc0
  · exact p1_4 c i arg3 harg3 arg4 harg4 arg5 harg5 arg6 harg6 arg7 harg7 arg9 harg9 x0 x1 x2 x3 x4 arg8 harg8 hc0
  · exact p1_3 c i arg3 harg3 arg4 harg4 arg5 harg5 arg6 harg6 arg7 harg7 arg9 harg9 x0 x1 x2 x3 x4 arg8 harg8 hc0
  · exact p1_2 c i arg3 harg3 arg4 harg4 arg5 harg5 arg6 harg6 arg7 harg7 arg9 harg9 x0 x1 x2 x3 x4 arg8 harg8 hc0
  · exact p1_1 c i arg3 harg3 arg4 harg4 arg5 harg5 arg6 harg6 arg7 harg7 arg9 harg9 x0 x1 x2 x3 x4 arg8 harg8 hc0
  · exact p1_0 c i arg3 harg3 arg4 harg4 arg5 harg5 arg6 harg6 arg7 harg7 arg9 harg9 x0 x1 x2 x3 x4 arg8 harg8 hc0
  · exact p0_15 c i arg3 harg3 arg4 harg4 arg5 harg5 arg6 harg6 arg7 harg7 arg9 harg9 x0 x1 x2 x3 x4 arg8 harg8 hc0
  · exact p0_14 c i arg3 harg3 arg4 harg4 arg5 harg5 arg6 harg6 arg7 harg7 arg9 harg9 x0 x1 x2 x3 x4 arg8 harg8 hc0
  · exact p0_13 c i arg3 harg3 arg4 harg4 arg5 harg5 arg6 harg6 arg7 harg7 arg9 harg9 x0 x1 x2 x3 x4 arg8 harg8 hc0
  · exact p0_12 c i arg3 harg3 arg4 harg4 arg5 harg5 arg6 harg6 arg7 harg7 arg9 harg9 x0 x1 x2 x3 x4 arg8 harg8 hc0
  · exact p0_11 c i arg3 harg3 arg4 harg4 arg5 harg5 arg6 harg6 arg7 harg7 arg9 harg9 x0 x1 x2 x3 x4 arg8 harg8 hc0
  · exact p0_10 c i arg3 harg3 arg4 harg4 arg5 harg5 arg6 harg6 arg7 harg7 arg9 harg9 x0 x1 x2 x3 x4 arg8 harg8 hc0
  · exact p0_9 c i arg3 harg3 arg4 harg4 arg5 harg5 arg6 harg6 arg7 harg7 arg9 harg9 x0 x1 x2 x3 x4 arg8 harg8 hc0
  · exact p0_8 c i arg3 harg3 arg4 harg4 arg5 harg5 arg6 harg6 arg7 harg7 arg9 harg9 x0 x1 x2 x3 x4 arg8 harg8 hc0
  · exact p0_7 c i arg3 harg3 arg4 harg4 arg5 harg5 arg6 harg6 arg7 harg7 arg9 harg9 x0 x1 x2 x3 x4 arg8 harg8 hc0
  · exact p0_6 c i arg3 harg3 arg4 harg4 arg5 harg5 arg6 harg6 arg7 harg7 arg9 harg9 x0 x1 x2 x3 x4 arg8 harg8 hc0
  · exact p0_5 c i arg3 harg3 arg4 harg4 arg5 harg5 arg6 harg6 arg7 harg7 arg9 harg9 x0 x1 x2 x3 x4 arg8 harg8 hc0
  · exact p0_4 c i arg3 harg3 arg4 harg4 arg5 harg5 arg6 harg6 arg7 harg7 arg9 harg9 x0 x1 x2 x3 x4 arg8 harg8 hc0
  · exact p0_3 c i arg3 harg3 arg4 harg4 arg5 harg5 arg6 harg6 arg7 harg7 arg9 harg9 x0 x1 x2 x3 x4 arg8 harg8 hc0
  · exact p0_2 c i arg3 harg3 arg4 harg4 arg5 harg5 arg6 harg6 arg7 harg7 arg9 harg9 x0 x1 x2 x3 x4 arg8 harg8 hc0
  · exact p0_1 c i arg3 harg3 arg4 harg4 arg5 harg5 arg6 harg6 arg7 harg7 arg9 harg9 x0 x1 x2 x3 x4 arg8 harg8 hc0
  · exact p0_0 c i arg3 harg3 arg4 harg4 arg5 harg5 arg6 harg6 arg7 harg7 arg9 harg9 x0 x1 x2 x3 x4 arg8 harg8 hc0

/-- What the point leaves in the output's block. -/
theorem out_eq : out0_A_5 (F := Ideal) c i arg3 harg3 arg4 harg4 arg5 harg5 arg6 harg6 arg7 harg7 arg8 harg8 arg9 harg9 hc0 x0 x1 x2 x3 x4 = pointOut x0 x1 x2 x3 x4 (grp i) (fun _ _ _ => 0) := by
  unfold out0_A_5
  rw [View.read_writes_junk_eq_canon]
  funext y
  exact View.canon_apply_of_pieces _ _ (pieces c i arg3 harg3 arg4 harg4 arg5 harg5 arg6 harg6 arg7 harg7 arg9 harg9 x0 x1 x2 x3 x4 arg8 harg8 hc0) y (cover0_A_5 (F := Ideal) c i arg3 harg3 arg4 harg4 arg5 harg5 arg6 harg6 arg7 harg7 arg8 harg8 arg9 harg9 hc0 x0 x1 x2 x3 x4 y)

/-- Head 0's state after the point. -/
theorem s4_0 (d e : Fin 128) : sout0_A_0 (F := Ideal) c i arg3 harg3 arg4 harg4 arg5 harg5 arg6 harg6 arg7 harg7 arg8 harg8 arg9 harg9 hc0 x0 x1 x2 x3 x4 (ix3 0 d e) = chain x0 x3 x4 (grp i) (fun _ _ _ => 0) 0 4 d e := by
  unfold sout0_A_0
  rw [View.read_writes_junk_eq_canon, canon_head _ 0 0 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 15 rw [View.readCov_skip _ _ _ _ _ (by decide)]
  rw [View.readCov_cons_toLoadRect]
  exact state_next harg3 harg6 harg7 x0 x3 x4 i 0 3 rfl rfl rfl rfl rfl (s3_0 c i arg3 harg3 arg5 harg5 arg6 harg6 arg7 harg7 arg9 harg9 x0 x2 x3 x4) rfl d e (s := fun _ _ _ => 0)

/-- Head 1's state after the point. -/
theorem s4_1 (d e : Fin 128) : sout0_A_0 (F := Ideal) c i arg3 harg3 arg4 harg4 arg5 harg5 arg6 harg6 arg7 harg7 arg8 harg8 arg9 harg9 hc0 x0 x1 x2 x3 x4 (ix3 1 d e) = chain x0 x3 x4 (grp i) (fun _ _ _ => 0) 1 4 d e := by
  unfold sout0_A_0
  rw [View.read_writes_junk_eq_canon, canon_head _ 1 1 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 14 rw [View.readCov_skip _ _ _ _ _ (by decide)]
  rw [View.readCov_cons_toLoadRect]
  exact state_next harg3 harg6 harg7 x0 x3 x4 i 1 3 rfl rfl rfl rfl rfl (s3_1 c i arg3 harg3 arg5 harg5 arg6 harg6 arg7 harg7 arg9 harg9 x0 x2 x3 x4) rfl d e (s := fun _ _ _ => 0)

/-- Head 2's state after the point. -/
theorem s4_2 (d e : Fin 128) : sout0_A_0 (F := Ideal) c i arg3 harg3 arg4 harg4 arg5 harg5 arg6 harg6 arg7 harg7 arg8 harg8 arg9 harg9 hc0 x0 x1 x2 x3 x4 (ix3 2 d e) = chain x0 x3 x4 (grp i) (fun _ _ _ => 0) 2 4 d e := by
  unfold sout0_A_0
  rw [View.read_writes_junk_eq_canon, canon_head _ 2 2 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 13 rw [View.readCov_skip _ _ _ _ _ (by decide)]
  rw [View.readCov_cons_toLoadRect]
  exact state_next harg3 harg6 harg7 x0 x3 x4 i 2 3 rfl rfl rfl rfl rfl (s3_2 c i arg3 harg3 arg5 harg5 arg6 harg6 arg7 harg7 arg9 harg9 x0 x2 x3 x4) rfl d e (s := fun _ _ _ => 0)

/-- Head 3's state after the point. -/
theorem s4_3 (d e : Fin 128) : sout0_A_0 (F := Ideal) c i arg3 harg3 arg4 harg4 arg5 harg5 arg6 harg6 arg7 harg7 arg8 harg8 arg9 harg9 hc0 x0 x1 x2 x3 x4 (ix3 3 d e) = chain x0 x3 x4 (grp i) (fun _ _ _ => 0) 3 4 d e := by
  unfold sout0_A_0
  rw [View.read_writes_junk_eq_canon, canon_head _ 3 3 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 12 rw [View.readCov_skip _ _ _ _ _ (by decide)]
  rw [View.readCov_cons_toLoadRect]
  exact state_next harg3 harg6 harg7 x0 x3 x4 i 3 3 rfl rfl rfl rfl rfl (s3_3 c i arg3 harg3 arg5 harg5 arg6 harg6 arg7 harg7 arg9 harg9 x0 x2 x3 x4) rfl d e (s := fun _ _ _ => 0)

/-- Head 4's state after the point. -/
theorem s4_4 (d e : Fin 128) : sout0_A_0 (F := Ideal) c i arg3 harg3 arg4 harg4 arg5 harg5 arg6 harg6 arg7 harg7 arg8 harg8 arg9 harg9 hc0 x0 x1 x2 x3 x4 (ix3 4 d e) = chain x0 x3 x4 (grp i) (fun _ _ _ => 0) 4 4 d e := by
  unfold sout0_A_0
  rw [View.read_writes_junk_eq_canon, canon_head _ 4 4 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 11 rw [View.readCov_skip _ _ _ _ _ (by decide)]
  rw [View.readCov_cons_toLoadRect]
  exact state_next harg3 harg6 harg7 x0 x3 x4 i 4 3 rfl rfl rfl rfl rfl (s3_4 c i arg3 harg3 arg5 harg5 arg6 harg6 arg7 harg7 arg9 harg9 x0 x2 x3 x4) rfl d e (s := fun _ _ _ => 0)

/-- Head 5's state after the point. -/
theorem s4_5 (d e : Fin 128) : sout0_A_0 (F := Ideal) c i arg3 harg3 arg4 harg4 arg5 harg5 arg6 harg6 arg7 harg7 arg8 harg8 arg9 harg9 hc0 x0 x1 x2 x3 x4 (ix3 5 d e) = chain x0 x3 x4 (grp i) (fun _ _ _ => 0) 5 4 d e := by
  unfold sout0_A_0
  rw [View.read_writes_junk_eq_canon, canon_head _ 5 5 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 10 rw [View.readCov_skip _ _ _ _ _ (by decide)]
  rw [View.readCov_cons_toLoadRect]
  exact state_next harg3 harg6 harg7 x0 x3 x4 i 5 3 rfl rfl rfl rfl rfl (s3_5 c i arg3 harg3 arg5 harg5 arg6 harg6 arg7 harg7 arg9 harg9 x0 x2 x3 x4) rfl d e (s := fun _ _ _ => 0)

/-- Head 6's state after the point. -/
theorem s4_6 (d e : Fin 128) : sout0_A_0 (F := Ideal) c i arg3 harg3 arg4 harg4 arg5 harg5 arg6 harg6 arg7 harg7 arg8 harg8 arg9 harg9 hc0 x0 x1 x2 x3 x4 (ix3 6 d e) = chain x0 x3 x4 (grp i) (fun _ _ _ => 0) 6 4 d e := by
  unfold sout0_A_0
  rw [View.read_writes_junk_eq_canon, canon_head _ 6 6 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 9 rw [View.readCov_skip _ _ _ _ _ (by decide)]
  rw [View.readCov_cons_toLoadRect]
  exact state_next harg3 harg6 harg7 x0 x3 x4 i 6 3 rfl rfl rfl rfl rfl (s3_6 c i arg3 harg3 arg5 harg5 arg6 harg6 arg7 harg7 arg9 harg9 x0 x2 x3 x4) rfl d e (s := fun _ _ _ => 0)

/-- Head 7's state after the point. -/
theorem s4_7 (d e : Fin 128) : sout0_A_0 (F := Ideal) c i arg3 harg3 arg4 harg4 arg5 harg5 arg6 harg6 arg7 harg7 arg8 harg8 arg9 harg9 hc0 x0 x1 x2 x3 x4 (ix3 7 d e) = chain x0 x3 x4 (grp i) (fun _ _ _ => 0) 7 4 d e := by
  unfold sout0_A_0
  rw [View.read_writes_junk_eq_canon, canon_head _ 7 7 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 8 rw [View.readCov_skip _ _ _ _ _ (by decide)]
  rw [View.readCov_cons_toLoadRect]
  exact state_next harg3 harg6 harg7 x0 x3 x4 i 7 3 rfl rfl rfl rfl rfl (s3_7 c i arg3 harg3 arg5 harg5 arg6 harg6 arg7 harg7 arg9 harg9 x0 x2 x3 x4) rfl d e (s := fun _ _ _ => 0)

/-- Head 8's state after the point. -/
theorem s4_8 (d e : Fin 128) : sout0_A_0 (F := Ideal) c i arg3 harg3 arg4 harg4 arg5 harg5 arg6 harg6 arg7 harg7 arg8 harg8 arg9 harg9 hc0 x0 x1 x2 x3 x4 (ix3 8 d e) = chain x0 x3 x4 (grp i) (fun _ _ _ => 0) 8 4 d e := by
  unfold sout0_A_0
  rw [View.read_writes_junk_eq_canon, canon_head _ 8 8 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: _) _ _ = _
  iterate 7 rw [View.readCov_skip _ _ _ _ _ (by decide)]
  rw [View.readCov_cons_toLoadRect]
  exact state_next harg3 harg6 harg7 x0 x3 x4 i 8 3 rfl rfl rfl rfl rfl (s3_8 c i arg3 harg3 arg5 harg5 arg6 harg6 arg7 harg7 arg9 harg9 x0 x2 x3 x4) rfl d e (s := fun _ _ _ => 0)

/-- Head 9's state after the point. -/
theorem s4_9 (d e : Fin 128) : sout0_A_0 (F := Ideal) c i arg3 harg3 arg4 harg4 arg5 harg5 arg6 harg6 arg7 harg7 arg8 harg8 arg9 harg9 hc0 x0 x1 x2 x3 x4 (ix3 9 d e) = chain x0 x3 x4 (grp i) (fun _ _ _ => 0) 9 4 d e := by
  unfold sout0_A_0
  rw [View.read_writes_junk_eq_canon, canon_head _ 9 9 rfl (by decide)]
  show View.readCov VS0_0 (⟨_, _⟩ :: ⟨_, _⟩ :: ⟨_, _⟩ :: ⟨_, _⟩ :: ⟨_, _⟩ :: ⟨_, _⟩ :: ⟨_, _⟩ :: _) _ _ = _
  iterate 6 rw [View.readCov_skip _ _ _ _ _ (by decide)]
  rw [View.readCov_cons_toLoadRect]
  exact state_next harg3 harg6 harg7 x0 x3 x4 i 9 3 rfl rfl rfl rfl rfl (s3_9 c i arg3 harg3 arg5 harg5 arg6 harg6 arg7 harg7 arg9 harg9 x0 x2 x3 x4) rfl d e (s := fun _ _ _ => 0)

/-- Head 10's state after the point. -/
theorem s4_10 (d e : Fin 128) : sout0_A_0 (F := Ideal) c i arg3 harg3 arg4 harg4 arg5 harg5 arg6 harg6 arg7 harg7 arg8 harg8 arg9 harg9 hc0 x0 x1 x2 x3 x4 (ix3 10 d e) = chain x0 x3 x4 (grp i) (fun _ _ _ => 0) 10 4 d e := by
  unfold sout0_A_0
  rw [View.read_writes_junk_eq_canon, canon_head _ 10 10 rfl (by decide)]
  show View.readCov VS0_0 (⟨_, _⟩ :: ⟨_, _⟩ :: ⟨_, _⟩ :: ⟨_, _⟩ :: ⟨_, _⟩ :: ⟨_, _⟩ :: _) _ _ = _
  iterate 5 rw [View.readCov_skip _ _ _ _ _ (by decide)]
  rw [View.readCov_cons_toLoadRect]
  exact state_next harg3 harg6 harg7 x0 x3 x4 i 10 3 rfl rfl rfl rfl rfl (s3_10 c i arg3 harg3 arg5 harg5 arg6 harg6 arg7 harg7 arg9 harg9 x0 x2 x3 x4) rfl d e (s := fun _ _ _ => 0)

/-- Head 11's state after the point. -/
theorem s4_11 (d e : Fin 128) : sout0_A_0 (F := Ideal) c i arg3 harg3 arg4 harg4 arg5 harg5 arg6 harg6 arg7 harg7 arg8 harg8 arg9 harg9 hc0 x0 x1 x2 x3 x4 (ix3 11 d e) = chain x0 x3 x4 (grp i) (fun _ _ _ => 0) 11 4 d e := by
  unfold sout0_A_0
  rw [View.read_writes_junk_eq_canon, canon_head _ 11 11 rfl (by decide)]
  show View.readCov VS0_0 (⟨_, _⟩ :: ⟨_, _⟩ :: ⟨_, _⟩ :: ⟨_, _⟩ :: ⟨_, _⟩ :: _) _ _ = _
  iterate 4 rw [View.readCov_skip _ _ _ _ _ (by decide)]
  rw [View.readCov_cons_toLoadRect]
  exact state_next harg3 harg6 harg7 x0 x3 x4 i 11 3 rfl rfl rfl rfl rfl (s3_11 c i arg3 harg3 arg5 harg5 arg6 harg6 arg7 harg7 arg9 harg9 x0 x2 x3 x4) rfl d e (s := fun _ _ _ => 0)

/-- Head 12's state after the point. -/
theorem s4_12 (d e : Fin 128) : sout0_A_0 (F := Ideal) c i arg3 harg3 arg4 harg4 arg5 harg5 arg6 harg6 arg7 harg7 arg8 harg8 arg9 harg9 hc0 x0 x1 x2 x3 x4 (ix3 12 d e) = chain x0 x3 x4 (grp i) (fun _ _ _ => 0) 12 4 d e := by
  unfold sout0_A_0
  rw [View.read_writes_junk_eq_canon, canon_head _ 12 12 rfl (by decide)]
  show View.readCov VS0_0 (⟨_, _⟩ :: ⟨_, _⟩ :: ⟨_, _⟩ :: ⟨_, _⟩ :: _) _ _ = _
  iterate 3 rw [View.readCov_skip _ _ _ _ _ (by decide)]
  rw [View.readCov_cons_toLoadRect]
  exact state_next harg3 harg6 harg7 x0 x3 x4 i 12 3 rfl rfl rfl rfl rfl (s3_12 c i arg3 harg3 arg5 harg5 arg6 harg6 arg7 harg7 arg9 harg9 x0 x2 x3 x4) rfl d e (s := fun _ _ _ => 0)

/-- Head 13's state after the point. -/
theorem s4_13 (d e : Fin 128) : sout0_A_0 (F := Ideal) c i arg3 harg3 arg4 harg4 arg5 harg5 arg6 harg6 arg7 harg7 arg8 harg8 arg9 harg9 hc0 x0 x1 x2 x3 x4 (ix3 13 d e) = chain x0 x3 x4 (grp i) (fun _ _ _ => 0) 13 4 d e := by
  unfold sout0_A_0
  rw [View.read_writes_junk_eq_canon, canon_head _ 13 13 rfl (by decide)]
  show View.readCov VS0_0 (⟨_, _⟩ :: ⟨_, _⟩ :: ⟨_, _⟩ :: _) _ _ = _
  iterate 2 rw [View.readCov_skip _ _ _ _ _ (by decide)]
  rw [View.readCov_cons_toLoadRect]
  exact state_next harg3 harg6 harg7 x0 x3 x4 i 13 3 rfl rfl rfl rfl rfl (s3_13 c i arg3 harg3 arg5 harg5 arg6 harg6 arg7 harg7 arg9 harg9 x0 x2 x3 x4) rfl d e (s := fun _ _ _ => 0)

/-- Head 14's state after the point. -/
theorem s4_14 (d e : Fin 128) : sout0_A_0 (F := Ideal) c i arg3 harg3 arg4 harg4 arg5 harg5 arg6 harg6 arg7 harg7 arg8 harg8 arg9 harg9 hc0 x0 x1 x2 x3 x4 (ix3 14 d e) = chain x0 x3 x4 (grp i) (fun _ _ _ => 0) 14 4 d e := by
  unfold sout0_A_0
  rw [View.read_writes_junk_eq_canon, canon_head _ 14 14 rfl (by decide)]
  show View.readCov VS0_0 (⟨_, _⟩ :: ⟨_, _⟩ :: _) _ _ = _
  iterate 1 rw [View.readCov_skip _ _ _ _ _ (by decide)]
  rw [View.readCov_cons_toLoadRect]
  exact state_next harg3 harg6 harg7 x0 x3 x4 i 14 3 rfl rfl rfl rfl rfl (s3_14 c i arg3 harg3 arg5 harg5 arg6 harg6 arg7 harg7 arg9 harg9 x0 x2 x3 x4) rfl d e (s := fun _ _ _ => 0)

/-- Head 15's state after the point. -/
theorem s4_15 (d e : Fin 128) : sout0_A_0 (F := Ideal) c i arg3 harg3 arg4 harg4 arg5 harg5 arg6 harg6 arg7 harg7 arg8 harg8 arg9 harg9 hc0 x0 x1 x2 x3 x4 (ix3 15 d e) = chain x0 x3 x4 (grp i) (fun _ _ _ => 0) 15 4 d e := by
  unfold sout0_A_0
  rw [View.read_writes_junk_eq_canon, canon_head _ 15 15 rfl (by decide)]
  show View.readCov VS0_0 (⟨_, _⟩ :: _) _ _ = _
  rw [View.readCov_cons_toLoadRect]
  exact state_next harg3 harg6 harg7 x0 x3 x4 i 15 3 rfl rfl rfl rfl rfl (s3_15 c i arg3 harg3 arg5 harg5 arg6 harg6 arg7 harg7 arg9 harg9 x0 x2 x3 x4) rfl d e (s := fun _ _ _ => 0)

/-- What the point leaves in the carried state. -/
theorem state_eq (h : Fin 16) (d e : Fin 128) : sout0_A_0 (F := Ideal) c i arg3 harg3 arg4 harg4 arg5 harg5 arg6 harg6 arg7 harg7 arg8 harg8 arg9 harg9 hc0 x0 x1 x2 x3 x4 (ix3 h d e) = chain x0 x3 x4 (grp i) (fun _ _ _ => 0) h 4 d e := by
  fin_cases h
  · exact s4_0 c i arg3 harg3 arg4 harg4 arg5 harg5 arg6 harg6 arg7 harg7 arg9 harg9 x0 x1 x2 x3 x4 arg8 harg8 hc0 d e
  · exact s4_1 c i arg3 harg3 arg4 harg4 arg5 harg5 arg6 harg6 arg7 harg7 arg9 harg9 x0 x1 x2 x3 x4 arg8 harg8 hc0 d e
  · exact s4_2 c i arg3 harg3 arg4 harg4 arg5 harg5 arg6 harg6 arg7 harg7 arg9 harg9 x0 x1 x2 x3 x4 arg8 harg8 hc0 d e
  · exact s4_3 c i arg3 harg3 arg4 harg4 arg5 harg5 arg6 harg6 arg7 harg7 arg9 harg9 x0 x1 x2 x3 x4 arg8 harg8 hc0 d e
  · exact s4_4 c i arg3 harg3 arg4 harg4 arg5 harg5 arg6 harg6 arg7 harg7 arg9 harg9 x0 x1 x2 x3 x4 arg8 harg8 hc0 d e
  · exact s4_5 c i arg3 harg3 arg4 harg4 arg5 harg5 arg6 harg6 arg7 harg7 arg9 harg9 x0 x1 x2 x3 x4 arg8 harg8 hc0 d e
  · exact s4_6 c i arg3 harg3 arg4 harg4 arg5 harg5 arg6 harg6 arg7 harg7 arg9 harg9 x0 x1 x2 x3 x4 arg8 harg8 hc0 d e
  · exact s4_7 c i arg3 harg3 arg4 harg4 arg5 harg5 arg6 harg6 arg7 harg7 arg9 harg9 x0 x1 x2 x3 x4 arg8 harg8 hc0 d e
  · exact s4_8 c i arg3 harg3 arg4 harg4 arg5 harg5 arg6 harg6 arg7 harg7 arg9 harg9 x0 x1 x2 x3 x4 arg8 harg8 hc0 d e
  · exact s4_9 c i arg3 harg3 arg4 harg4 arg5 harg5 arg6 harg6 arg7 harg7 arg9 harg9 x0 x1 x2 x3 x4 arg8 harg8 hc0 d e
  · exact s4_10 c i arg3 harg3 arg4 harg4 arg5 harg5 arg6 harg6 arg7 harg7 arg9 harg9 x0 x1 x2 x3 x4 arg8 harg8 hc0 d e
  · exact s4_11 c i arg3 harg3 arg4 harg4 arg5 harg5 arg6 harg6 arg7 harg7 arg9 harg9 x0 x1 x2 x3 x4 arg8 harg8 hc0 d e
  · exact s4_12 c i arg3 harg3 arg4 harg4 arg5 harg5 arg6 harg6 arg7 harg7 arg9 harg9 x0 x1 x2 x3 x4 arg8 harg8 hc0 d e
  · exact s4_13 c i arg3 harg3 arg4 harg4 arg5 harg5 arg6 harg6 arg7 harg7 arg9 harg9 x0 x1 x2 x3 x4 arg8 harg8 hc0 d e
  · exact s4_14 c i arg3 harg3 arg4 harg4 arg5 harg5 arg6 harg6 arg7 harg7 arg9 harg9 x0 x1 x2 x3 x4 arg8 harg8 hc0 d e
  · exact s4_15 c i arg3 harg3 arg4 harg4 arg5 harg5 arg6 harg6 arg7 harg7 arg9 harg9 x0 x1 x2 x3 x4 arg8 harg8 hc0 d e

end Cert.Rule.First

end
-- ==== Proof.RuleLater.lean ====
module

public import proofs.«01_k».proof.Proof.Gen.DeltaIdeal.Frame
public import proofs.«01_k».proof.Proof.RulePoint

/-! A grid point of the delta rule's scan after the first super-chunk of a batch and head group: what its chunks read as each head's state is `chain`, from the carried state,
and what it stores into its output block is `pointOut`. -/

@[expose] public section

set_option maxRecDepth 16384
set_option maxHeartbeats 400000

noncomputable section

namespace Cert.Rule.Later

open Idealize.ShloMosaic Idealize.ShloMosaic.TcCoe Idealize.SL.Sem
open Cert.DeltaIdeal Cert.DeltaIdeal.Gen Cert.DeltaIdeal.Gen.kernelRun0_B

section

variable (c : Dev nD) (i : grid0.Coords) (arg3 : Memref sig .tc .vmem S1x256x4096 .bf16) (harg3 : arg3.IsWhole)
  (arg5 : Memref sig .tc .vmem S1x256x1024 .bf16) (harg5 : arg5.IsWhole) (arg6 : Memref sig .tc .vmem S1x256x1024 .bf16) (harg6 : arg6.IsWhole)
  (arg7 : Memref sig .tc .vmem S1x256x128 .f32) (harg7 : arg7.IsWhole) (arg9 : Memref sig .tc .vmem S16x128x128 .f32) (harg9 : arg9.IsWhole)
  (x0 : FVec Ideal S1x256x4096 .bf16) (x2 x3 : FVec Ideal S1x256x1024 .bf16) (x4 : FVec Ideal S1x256x128 .f32)
  (xs0 : FVec Ideal S16x128x128 .f32)

include c i arg3 harg3 arg5 harg5 arg6 harg6 arg7 harg7 arg9 harg9 x0 x2 x3 x4 xs0

/-- Head 0's state before chunk 1. -/
theorem s1_0 (d e : Fin 128) : sl.v969 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 0 1 d e := by
  unfold sl.v969 sl.HS0_16
  iterate 15 rw [View.readCov_skip _ _ _ _ _ (by decide)]
  rw [View.readCov_cons_toLoadRect]
  exact state_next harg3 harg6 harg7 x0 x3 x4 i 0 0 rfl rfl rfl rfl rfl (load_state _ harg9 xs0 0 0 rfl _) rfl d e (s := fun h d e => xs0 (ix3 h d e))

/-- Head 1's state before chunk 1. -/
theorem s1_1 (d e : Fin 128) : sl.v996 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 1 1 d e := by
  unfold sl.v996 sl.HS0_16
  iterate 14 rw [View.readCov_skip _ _ _ _ _ (by decide)]
  rw [View.readCov_cons_toLoadRect]
  exact state_next harg3 harg6 harg7 x0 x3 x4 i 1 0 rfl rfl rfl rfl rfl (load_state _ harg9 xs0 1 1 rfl _) rfl d e (s := fun h d e => xs0 (ix3 h d e))

/-- Head 2's state before chunk 1. -/
theorem s1_2 (d e : Fin 128) : sl.v1023 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 2 1 d e := by
  unfold sl.v1023 sl.HS0_16
  iterate 13 rw [View.readCov_skip _ _ _ _ _ (by decide)]
  rw [View.readCov_cons_toLoadRect]
  exact state_next harg3 harg6 harg7 x0 x3 x4 i 2 0 rfl rfl rfl rfl rfl (load_state _ harg9 xs0 2 2 rfl _) rfl d e (s := fun h d e => xs0 (ix3 h d e))

/-- Head 3's state before chunk 1. -/
theorem s1_3 (d e : Fin 128) : sl.v1050 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 3 1 d e := by
  unfold sl.v1050 sl.HS0_16
  iterate 12 rw [View.readCov_skip _ _ _ _ _ (by decide)]
  rw [View.readCov_cons_toLoadRect]
  exact state_next harg3 harg6 harg7 x0 x3 x4 i 3 0 rfl rfl rfl rfl rfl (load_state _ harg9 xs0 3 3 rfl _) rfl d e (s := fun h d e => xs0 (ix3 h d e))

/-- Head 4's state before chunk 1. -/
theorem s1_4 (d e : Fin 128) : sl.v1077 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 4 1 d e := by
  unfold sl.v1077 sl.HS0_16
  iterate 11 rw [View.readCov_skip _ _ _ _ _ (by decide)]
  rw [View.readCov_cons_toLoadRect]
  exact state_next harg3 harg6 harg7 x0 x3 x4 i 4 0 rfl rfl rfl rfl rfl (load_state _ harg9 xs0 4 4 rfl _) rfl d e (s := fun h d e => xs0 (ix3 h d e))

/-- Head 5's state before chunk 1. -/
theorem s1_5 (d e : Fin 128) : sl.v1104 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 5 1 d e := by
  unfold sl.v1104 sl.HS0_16
  iterate 10 rw [View.readCov_skip _ _ _ _ _ (by decide)]
  rw [View.readCov_cons_toLoadRect]
  exact state_next harg3 harg6 harg7 x0 x3 x4 i 5 0 rfl rfl rfl rfl rfl (load_state _ harg9 xs0 5 5 rfl _) rfl d e (s := fun h d e => xs0 (ix3 h d e))

/-- Head 6's state before chunk 1. -/
theorem s1_6 (d e : Fin 128) : sl.v1131 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 6 1 d e := by
  unfold sl.v1131 sl.HS0_16
  iterate 9 rw [View.readCov_skip _ _ _ _ _ (by decide)]
  rw [View.readCov_cons_toLoadRect]
  exact state_next harg3 harg6 harg7 x0 x3 x4 i 6 0 rfl rfl rfl rfl rfl (load_state _ harg9 xs0 6 6 rfl _) rfl d e (s := fun h d e => xs0 (ix3 h d e))

/-- Head 7's state before chunk 1. -/
theorem s1_7 (d e : Fin 128) : sl.v1158 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 7 1 d e := by
  unfold sl.v1158 sl.HS0_16
  iterate 8 rw [View.readCov_skip _ _ _ _ _ (by decide)]
  rw [View.readCov_cons_toLoadRect]
  exact state_next harg3 harg6 harg7 x0 x3 x4 i 7 0 rfl rfl rfl rfl rfl (load_state _ harg9 xs0 7 7 rfl _) rfl d e (s := fun h d e => xs0 (ix3 h d e))

/-- Head 8's state before chunk 1. -/
theorem s1_8 (d e : Fin 128) : sl.v1185 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 8 1 d e := by
  unfold sl.v1185 sl.HS0_16
  iterate 7 rw [View.readCov_skip _ _ _ _ _ (by decide)]
  rw [View.readCov_cons_toLoadRect]
  exact state_next harg3 harg6 harg7 x0 x3 x4 i 8 0 rfl rfl rfl rfl rfl (load_state _ harg9 xs0 8 8 rfl _) rfl d e (s := fun h d e => xs0 (ix3 h d e))

/-- Head 9's state before chunk 1. -/
theorem s1_9 (d e : Fin 128) : sl.v1212 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 9 1 d e := by
  unfold sl.v1212 sl.HS0_16
  iterate 6 rw [View.readCov_skip _ _ _ _ _ (by decide)]
  rw [View.readCov_cons_toLoadRect]
  exact state_next harg3 harg6 harg7 x0 x3 x4 i 9 0 rfl rfl rfl rfl rfl (load_state _ harg9 xs0 9 9 rfl _) rfl d e (s := fun h d e => xs0 (ix3 h d e))

/-- Head 10's state before chunk 1. -/
theorem s1_10 (d e : Fin 128) : sl.v1239 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 10 1 d e := by
  unfold sl.v1239 sl.HS0_16
  iterate 5 rw [View.readCov_skip _ _ _ _ _ (by decide)]
  rw [View.readCov_cons_toLoadRect]
  exact state_next harg3 harg6 harg7 x0 x3 x4 i 10 0 rfl rfl rfl rfl rfl (load_state _ harg9 xs0 10 10 rfl _) rfl d e (s := fun h d e => xs0 (ix3 h d e))

/-- Head 11's state before chunk 1. -/
theorem s1_11 (d e : Fin 128) : sl.v1266 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 11 1 d e := by
  unfold sl.v1266 sl.HS0_16
  iterate 4 rw [View.readCov_skip _ _ _ _ _ (by decide)]
  rw [View.readCov_cons_toLoadRect]
  exact state_next harg3 harg6 harg7 x0 x3 x4 i 11 0 rfl rfl rfl rfl rfl (load_state _ harg9 xs0 11 11 rfl _) rfl d e (s := fun h d e => xs0 (ix3 h d e))

/-- Head 12's state before chunk 1. -/
theorem s1_12 (d e : Fin 128) : sl.v1293 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 12 1 d e := by
  unfold sl.v1293 sl.HS0_16
  iterate 3 rw [View.readCov_skip _ _ _ _ _ (by decide)]
  rw [View.readCov_cons_toLoadRect]
  exact state_next harg3 harg6 harg7 x0 x3 x4 i 12 0 rfl rfl rfl rfl rfl (load_state _ harg9 xs0 12 12 rfl _) rfl d e (s := fun h d e => xs0 (ix3 h d e))

/-- Head 13's state before chunk 1. -/
theorem s1_13 (d e : Fin 128) : sl.v1320 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 13 1 d e := by
  unfold sl.v1320 sl.HS0_16
  iterate 2 rw [View.readCov_skip _ _ _ _ _ (by decide)]
  rw [View.readCov_cons_toLoadRect]
  exact state_next harg3 harg6 harg7 x0 x3 x4 i 13 0 rfl rfl rfl rfl rfl (load_state _ harg9 xs0 13 13 rfl _) rfl d e (s := fun h d e => xs0 (ix3 h d e))

/-- Head 14's state before chunk 1. -/
theorem s1_14 (d e : Fin 128) : sl.v1347 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 14 1 d e := by
  unfold sl.v1347 sl.HS0_16
  iterate 1 rw [View.readCov_skip _ _ _ _ _ (by decide)]
  rw [View.readCov_cons_toLoadRect]
  exact state_next harg3 harg6 harg7 x0 x3 x4 i 14 0 rfl rfl rfl rfl rfl (load_state _ harg9 xs0 14 14 rfl _) rfl d e (s := fun h d e => xs0 (ix3 h d e))

/-- Head 15's state before chunk 1. -/
theorem s1_15 (d e : Fin 128) : sl.v1374 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 15 1 d e := by
  unfold sl.v1374 sl.HS0_16
  rw [View.readCov_cons_toLoadRect]
  exact state_next harg3 harg6 harg7 x0 x3 x4 i 15 0 rfl rfl rfl rfl rfl (load_state _ harg9 xs0 15 15 rfl _) rfl d e (s := fun h d e => xs0 (ix3 h d e))

/-- Head 0's state before chunk 2. -/
theorem s2_0 (d e : Fin 128) : sl.v1915 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 0 2 d e := by
  unfold sl.v1915 sl.HS0_32
  iterate 15 rw [View.readCov_skip _ _ _ _ _ (by decide)]
  rw [View.readCov_cons_toLoadRect]
  exact state_next harg3 harg6 harg7 x0 x3 x4 i 0 1 rfl rfl rfl rfl rfl (s1_0 c i arg3 harg3 arg5 harg5 arg6 harg6 arg7 harg7 arg9 harg9 x0 x2 x3 x4 xs0) rfl d e (s := fun h d e => xs0 (ix3 h d e))

/-- Head 1's state before chunk 2. -/
theorem s2_1 (d e : Fin 128) : sl.v1942 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 1 2 d e := by
  unfold sl.v1942 sl.HS0_32
  iterate 14 rw [View.readCov_skip _ _ _ _ _ (by decide)]
  rw [View.readCov_cons_toLoadRect]
  exact state_next harg3 harg6 harg7 x0 x3 x4 i 1 1 rfl rfl rfl rfl rfl (s1_1 c i arg3 harg3 arg5 harg5 arg6 harg6 arg7 harg7 arg9 harg9 x0 x2 x3 x4 xs0) rfl d e (s := fun h d e => xs0 (ix3 h d e))

/-- Head 2's state before chunk 2. -/
theorem s2_2 (d e : Fin 128) : sl.v1969 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 2 2 d e := by
  unfold sl.v1969 sl.HS0_32
  iterate 13 rw [View.readCov_skip _ _ _ _ _ (by decide)]
  rw [View.readCov_cons_toLoadRect]
  exact state_next harg3 harg6 harg7 x0 x3 x4 i 2 1 rfl rfl rfl rfl rfl (s1_2 c i arg3 harg3 arg5 harg5 arg6 harg6 arg7 harg7 arg9 harg9 x0 x2 x3 x4 xs0) rfl d e (s := fun h d e => xs0 (ix3 h d e))

/-- Head 3's state before chunk 2. -/
theorem s2_3 (d e : Fin 128) : sl.v1996 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 3 2 d e := by
  unfold sl.v1996 sl.HS0_32
  iterate 12 rw [View.readCov_skip _ _ _ _ _ (by decide)]
  rw [View.readCov_cons_toLoadRect]
  exact state_next harg3 harg6 harg7 x0 x3 x4 i 3 1 rfl rfl rfl rfl rfl (s1_3 c i arg3 harg3 arg5 harg5 arg6 harg6 arg7 harg7 arg9 harg9 x0 x2 x3 x4 xs0) rfl d e (s := fun h d e => xs0 (ix3 h d e))

/-- Head 4's state before chunk 2. -/
theorem s2_4 (d e : Fin 128) : sl.v2023 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 4 2 d e := by
  unfold sl.v2023 sl.HS0_32
  iterate 11 rw [View.readCov_skip _ _ _ _ _ (by decide)]
  rw [View.readCov_cons_toLoadRect]
  exact state_next harg3 harg6 harg7 x0 x3 x4 i 4 1 rfl rfl rfl rfl rfl (s1_4 c i arg3 harg3 arg5 harg5 arg6 harg6 arg7 harg7 arg9 harg9 x0 x2 x3 x4 xs0) rfl d e (s := fun h d e => xs0 (ix3 h d e))

/-- Head 5's state before chunk 2. -/
theorem s2_5 (d e : Fin 128) : sl.v2050 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 5 2 d e := by
  unfold sl.v2050 sl.HS0_32
  iterate 10 rw [View.readCov_skip _ _ _ _ _ (by decide)]
  rw [View.readCov_cons_toLoadRect]
  exact state_next harg3 harg6 harg7 x0 x3 x4 i 5 1 rfl rfl rfl rfl rfl (s1_5 c i arg3 harg3 arg5 harg5 arg6 harg6 arg7 harg7 arg9 harg9 x0 x2 x3 x4 xs0) rfl d e (s := fun h d e => xs0 (ix3 h d e))

/-- Head 6's state before chunk 2. -/
theorem s2_6 (d e : Fin 128) : sl.v2077 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 6 2 d e := by
  unfold sl.v2077 sl.HS0_32
  iterate 9 rw [View.readCov_skip _ _ _ _ _ (by decide)]
  rw [View.readCov_cons_toLoadRect]
  exact state_next harg3 harg6 harg7 x0 x3 x4 i 6 1 rfl rfl rfl rfl rfl (s1_6 c i arg3 harg3 arg5 harg5 arg6 harg6 arg7 harg7 arg9 harg9 x0 x2 x3 x4 xs0) rfl d e (s := fun h d e => xs0 (ix3 h d e))

/-- Head 7's state before chunk 2. -/
theorem s2_7 (d e : Fin 128) : sl.v2104 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 7 2 d e := by
  unfold sl.v2104 sl.HS0_32
  iterate 8 rw [View.readCov_skip _ _ _ _ _ (by decide)]
  rw [View.readCov_cons_toLoadRect]
  have hs := s1_7 c i arg3 harg3 arg5 harg5 arg6 harg6 arg7 harg7 arg9 harg9 x0 x2 x3 x4 xs0
  refine state_next harg3 harg6 harg7 x0 x3 x4 i 7 1 (n := laneWord (grp i) 7) rfl rfl rfl rfl rfl (s := fun h d e => xs0 (ix3 h d e)) hs ?_ d e (iu := inb_S1x256x4096_S1x64x128_0_64_1792) (iw := inb_S1x256x4096_S1x64x128_0_64_1920)
    (ig := inb_S1x256x128_S1x64x128_0_64_0) (ik := inb_S1x256x1024_S1x64x128_0_64_384)
    (q := View.readAt (Elt Ideal) arg5.view (Rect.unit (s := S1x256x1024) ![0, 64, 384] S1x64x128.size inb_S1x256x1024_S1x64x128_0_64_384).toLoadRect (harg5.unread x2))
  rfl

/-- Head 8's state before chunk 2. -/
theorem s2_8 (d e : Fin 128) : sl.v2131 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 8 2 d e := by
  unfold sl.v2131 sl.HS0_32
  iterate 7 rw [View.readCov_skip _ _ _ _ _ (by decide)]
  rw [View.readCov_cons_toLoadRect]
  exact state_next harg3 harg6 harg7 x0 x3 x4 i 8 1 rfl rfl rfl rfl rfl (s1_8 c i arg3 harg3 arg5 harg5 arg6 harg6 arg7 harg7 arg9 harg9 x0 x2 x3 x4 xs0) rfl d e (s := fun h d e => xs0 (ix3 h d e))

/-- Head 9's state before chunk 2. -/
theorem s2_9 (d e : Fin 128) : sl.v2158 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 9 2 d e := by
  unfold sl.v2158 sl.HS0_32
  iterate 6 rw [View.readCov_skip _ _ _ _ _ (by decide)]
  rw [View.readCov_cons_toLoadRect]
  exact state_next harg3 harg6 harg7 x0 x3 x4 i 9 1 rfl rfl rfl rfl rfl (s1_9 c i arg3 harg3 arg5 harg5 arg6 harg6 arg7 harg7 arg9 harg9 x0 x2 x3 x4 xs0) rfl d e (s := fun h d e => xs0 (ix3 h d e))

/-- Head 10's state before chunk 2. -/
theorem s2_10 (d e : Fin 128) : sl.v2185 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 10 2 d e := by
  unfold sl.v2185 sl.HS0_32
  iterate 5 rw [View.readCov_skip _ _ _ _ _ (by decide)]
  rw [View.readCov_cons_toLoadRect]
  exact state_next harg3 harg6 harg7 x0 x3 x4 i 10 1 rfl rfl rfl rfl rfl (s1_10 c i arg3 harg3 arg5 harg5 arg6 harg6 arg7 harg7 arg9 harg9 x0 x2 x3 x4 xs0) rfl d e (s := fun h d e => xs0 (ix3 h d e))

/-- Head 11's state before chunk 2. -/
theorem s2_11 (d e : Fin 128) : sl.v2212 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 11 2 d e := by
  unfold sl.v2212 sl.HS0_32
  iterate 4 rw [View.readCov_skip _ _ _ _ _ (by decide)]
  rw [View.readCov_cons_toLoadRect]
  exact state_next harg3 harg6 harg7 x0 x3 x4 i 11 1 rfl rfl rfl rfl rfl (s1_11 c i arg3 harg3 arg5 harg5 arg6 harg6 arg7 harg7 arg9 harg9 x0 x2 x3 x4 xs0) rfl d e (s := fun h d e => xs0 (ix3 h d e))

/-- Head 12's state before chunk 2. -/
theorem s2_12 (d e : Fin 128) : sl.v2239 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 12 2 d e := by
  unfold sl.v2239 sl.HS0_32
  iterate 3 rw [View.readCov_skip _ _ _ _ _ (by decide)]
  rw [View.readCov_cons_toLoadRect]
  exact state_next harg3 harg6 harg7 x0 x3 x4 i 12 1 rfl rfl rfl rfl rfl (s1_12 c i arg3 harg3 arg5 harg5 arg6 harg6 arg7 harg7 arg9 harg9 x0 x2 x3 x4 xs0) rfl d e (s := fun h d e => xs0 (ix3 h d e))

/-- Head 13's state before chunk 2. -/
theorem s2_13 (d e : Fin 128) : sl.v2266 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 13 2 d e := by
  unfold sl.v2266 sl.HS0_32
  iterate 2 rw [View.readCov_skip _ _ _ _ _ (by decide)]
  rw [View.readCov_cons_toLoadRect]
  exact state_next harg3 harg6 harg7 x0 x3 x4 i 13 1 rfl rfl rfl rfl rfl (s1_13 c i arg3 harg3 arg5 harg5 arg6 harg6 arg7 harg7 arg9 harg9 x0 x2 x3 x4 xs0) rfl d e (s := fun h d e => xs0 (ix3 h d e))

/-- Head 14's state before chunk 2. -/
theorem s2_14 (d e : Fin 128) : sl.v2293 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 14 2 d e := by
  unfold sl.v2293 sl.HS0_32
  iterate 1 rw [View.readCov_skip _ _ _ _ _ (by decide)]
  rw [View.readCov_cons_toLoadRect]
  exact state_next harg3 harg6 harg7 x0 x3 x4 i 14 1 rfl rfl rfl rfl rfl (s1_14 c i arg3 harg3 arg5 harg5 arg6 harg6 arg7 harg7 arg9 harg9 x0 x2 x3 x4 xs0) rfl d e (s := fun h d e => xs0 (ix3 h d e))

/-- Head 15's state before chunk 2. -/
theorem s2_15 (d e : Fin 128) : sl.v2320 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 15 2 d e := by
  unfold sl.v2320 sl.HS0_32
  rw [View.readCov_cons_toLoadRect]
  exact state_next harg3 harg6 harg7 x0 x3 x4 i 15 1 rfl rfl rfl rfl rfl (s1_15 c i arg3 harg3 arg5 harg5 arg6 harg6 arg7 harg7 arg9 harg9 x0 x2 x3 x4 xs0) rfl d e (s := fun h d e => xs0 (ix3 h d e))

/-- Head 0's state before chunk 3. -/
theorem s3_0 (d e : Fin 128) : sl.v2861 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 0 3 d e := by
  unfold sl.v2861 sl.HS0_48 sl.HS0_40
  iterate 15 rw [View.readCov_skip _ _ _ _ _ (by decide)]
  rw [View.readCov_cons_toLoadRect]
  exact state_next harg3 harg6 harg7 x0 x3 x4 i 0 2 rfl rfl rfl rfl rfl (s2_0 c i arg3 harg3 arg5 harg5 arg6 harg6 arg7 harg7 arg9 harg9 x0 x2 x3 x4 xs0) rfl d e (s := fun h d e => xs0 (ix3 h d e))

/-- Head 1's state before chunk 3. -/
theorem s3_1 (d e : Fin 128) : sl.v2888 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 1 3 d e := by
  unfold sl.v2888 sl.HS0_48 sl.HS0_40
  iterate 14 rw [View.readCov_skip _ _ _ _ _ (by decide)]
  rw [View.readCov_cons_toLoadRect]
  exact state_next harg3 harg6 harg7 x0 x3 x4 i 1 2 rfl rfl rfl rfl rfl (s2_1 c i arg3 harg3 arg5 harg5 arg6 harg6 arg7 harg7 arg9 harg9 x0 x2 x3 x4 xs0) rfl d e (s := fun h d e => xs0 (ix3 h d e))

/-- Head 2's state before chunk 3. -/
theorem s3_2 (d e : Fin 128) : sl.v2915 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 2 3 d e := by
  unfold sl.v2915 sl.HS0_48 sl.HS0_40
  iterate 13 rw [View.readCov_skip _ _ _ _ _ (by decide)]
  rw [View.readCov_cons_toLoadRect]
  exact state_next harg3 harg6 harg7 x0 x3 x4 i 2 2 rfl rfl rfl rfl rfl (s2_2 c i arg3 harg3 arg5 harg5 arg6 harg6 arg7 harg7 arg9 harg9 x0 x2 x3 x4 xs0) rfl d e (s := fun h d e => xs0 (ix3 h d e))

/-- Head 3's state before chunk 3. -/
theorem s3_3 (d e : Fin 128) : sl.v2942 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 3 3 d e := by
  unfold sl.v2942 sl.HS0_48 sl.HS0_40
  iterate 12 rw [View.readCov_skip _ _ _ _ _ (by decide)]
  rw [View.readCov_cons_toLoadRect]
  exact state_next harg3 harg6 harg7 x0 x3 x4 i 3 2 rfl rfl rfl rfl rfl (s2_3 c i arg3 harg3 arg5 harg5 arg6 harg6 arg7 harg7 arg9 harg9 x0 x2 x3 x4 xs0) rfl d e (s := fun h d e => xs0 (ix3 h d e))

/-- Head 4's state before chunk 3. -/
theorem s3_4 (d e : Fin 128) : sl.v2969 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 4 3 d e := by
  unfold sl.v2969 sl.HS0_48 sl.HS0_40
  iterate 11 rw [View.readCov_skip _ _ _ _ _ (by decide)]
  rw [View.readCov_cons_toLoadRect]
  exact state_next harg3 harg6 harg7 x0 x3 x4 i 4 2 rfl rfl rfl rfl rfl (s2_4 c i arg3 harg3 arg5 harg5 arg6 harg6 arg7 harg7 arg9 harg9 x0 x2 x3 x4 xs0) rfl d e (s := fun h d e => xs0 (ix3 h d e))

/-- Head 5's state before chunk 3. -/
theorem s3_5 (d e : Fin 128) : sl.v2996 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 5 3 d e := by
  unfold sl.v2996 sl.HS0_48 sl.HS0_40
  iterate 10 rw [View.readCov_skip _ _ _ _ _ (by decide)]
  rw [View.readCov_cons_toLoadRect]
  exact state_next harg3 harg6 harg7 x0 x3 x4 i 5 2 rfl rfl rfl rfl rfl (s2_5 c i arg3 harg3 arg5 harg5 arg6 harg6 arg7 harg7 arg9 harg9 x0 x2 x3 x4 xs0) rfl d e (s := fun h d e => xs0 (ix3 h d e))

/-- Head 6's state before chunk 3. -/
theorem s3_6 (d e : Fin 128) : sl.v3023 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 6 3 d e := by
  unfold sl.v3023 sl.HS0_48 sl.HS0_40
  iterate 9 rw [View.readCov_skip _ _ _ _ _ (by decide)]
  rw [View.readCov_cons_toLoadRect]
  exact state_next harg3 harg6 harg7 x0 x3 x4 i 6 2 rfl rfl rfl rfl rfl (s2_6 c i arg3 harg3 arg5 harg5 arg6 harg6 arg7 harg7 arg9 harg9 x0 x2 x3 x4 xs0) rfl d e (s := fun h d e => xs0 (ix3 h d e))

/-- Head 7's state before chunk 3. -/
theorem s3_7 (d e : Fin 128) : sl.v3050 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 7 3 d e := by
  unfold sl.v3050 sl.HS0_48 sl.HS0_40
  iterate 8 rw [View.readCov_skip _ _ _ _ _ (by decide)]
  rw [View.readCov_cons_toLoadRect]
  exact state_next harg3 harg6 harg7 x0 x3 x4 i 7 2 rfl rfl rfl rfl rfl (s2_7 c i arg3 harg3 arg5 harg5 arg6 harg6 arg7 harg7 arg9 harg9 x0 x2 x3 x4 xs0) rfl d e (s := fun h d e => xs0 (ix3 h d e))

/-- Head 8's state before chunk 3. -/
theorem s3_8 (d e : Fin 128) : sl.v3077 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 8 3 d e := by
  unfold sl.v3077 sl.HS0_48 sl.HS0_40
  iterate 7 rw [View.readCov_skip _ _ _ _ _ (by decide)]
  rw [View.readCov_cons_toLoadRect]
  exact state_next harg3 harg6 harg7 x0 x3 x4 i 8 2 rfl rfl rfl rfl rfl (s2_8 c i arg3 harg3 arg5 harg5 arg6 harg6 arg7 harg7 arg9 harg9 x0 x2 x3 x4 xs0) rfl d e (s := fun h d e => xs0 (ix3 h d e))

/-- Head 9's state before chunk 3. -/
theorem s3_9 (d e : Fin 128) : sl.v3104 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 9 3 d e := by
  unfold sl.v3104 sl.HS0_48 sl.HS0_40
  iterate 6 rw [View.readCov_skip _ _ _ _ _ (by decide)]
  rw [View.readCov_cons_toLoadRect]
  exact state_next harg3 harg6 harg7 x0 x3 x4 i 9 2 rfl rfl rfl rfl rfl (s2_9 c i arg3 harg3 arg5 harg5 arg6 harg6 arg7 harg7 arg9 harg9 x0 x2 x3 x4 xs0) rfl d e (s := fun h d e => xs0 (ix3 h d e))

/-- Head 10's state before chunk 3. -/
theorem s3_10 (d e : Fin 128) : sl.v3131 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 10 3 d e := by
  unfold sl.v3131 sl.HS0_48 sl.HS0_40
  iterate 5 rw [View.readCov_skip _ _ _ _ _ (by decide)]
  rw [View.readCov_cons_toLoadRect]
  exact state_next harg3 harg6 harg7 x0 x3 x4 i 10 2 rfl rfl rfl rfl rfl (s2_10 c i arg3 harg3 arg5 harg5 arg6 harg6 arg7 harg7 arg9 harg9 x0 x2 x3 x4 xs0) rfl d e (s := fun h d e => xs0 (ix3 h d e))

/-- Head 11's state before chunk 3. -/
theorem s3_11 (d e : Fin 128) : sl.v3158 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 11 3 d e := by
  unfold sl.v3158 sl.HS0_48 sl.HS0_40
  iterate 4 rw [View.readCov_skip _ _ _ _ _ (by decide)]
  rw [View.readCov_cons_toLoadRect]
  exact state_next harg3 harg6 harg7 x0 x3 x4 i 11 2 rfl rfl rfl rfl rfl (s2_11 c i arg3 harg3 arg5 harg5 arg6 harg6 arg7 harg7 arg9 harg9 x0 x2 x3 x4 xs0) rfl d e (s := fun h d e => xs0 (ix3 h d e))

/-- Head 12's state before chunk 3. -/
theorem s3_12 (d e : Fin 128) : sl.v3185 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 12 3 d e := by
  unfold sl.v3185 sl.HS0_48 sl.HS0_40
  iterate 3 rw [View.readCov_skip _ _ _ _ _ (by decide)]
  rw [View.readCov_cons_toLoadRect]
  exact state_next harg3 harg6 harg7 x0 x3 x4 i 12 2 rfl rfl rfl rfl rfl (s2_12 c i arg3 harg3 arg5 harg5 arg6 harg6 arg7 harg7 arg9 harg9 x0 x2 x3 x4 xs0) rfl d e (s := fun h d e => xs0 (ix3 h d e))

/-- Head 13's state before chunk 3. -/
theorem s3_13 (d e : Fin 128) : sl.v3212 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 13 3 d e := by
  unfold sl.v3212 sl.HS0_48 sl.HS0_40
  iterate 2 rw [View.readCov_skip _ _ _ _ _ (by decide)]
  rw [View.readCov_cons_toLoadRect]
  exact state_next harg3 harg6 harg7 x0 x3 x4 i 13 2 rfl rfl rfl rfl rfl (s2_13 c i arg3 harg3 arg5 harg5 arg6 harg6 arg7 harg7 arg9 harg9 x0 x2 x3 x4 xs0) rfl d e (s := fun h d e => xs0 (ix3 h d e))

/-- Head 14's state before chunk 3. -/
theorem s3_14 (d e : Fin 128) : sl.v3239 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 14 3 d e := by
  unfold sl.v3239 sl.HS0_48 sl.HS0_40
  iterate 1 rw [View.readCov_skip _ _ _ _ _ (by decide)]
  rw [View.readCov_cons_toLoadRect]
  exact state_next harg3 harg6 harg7 x0 x3 x4 i 14 2 rfl rfl rfl rfl rfl (s2_14 c i arg3 harg3 arg5 harg5 arg6 harg6 arg7 harg7 arg9 harg9 x0 x2 x3 x4 xs0) rfl d e (s := fun h d e => xs0 (ix3 h d e))

/-- Head 15's state before chunk 3. -/
theorem s3_15 (d e : Fin 128) : sl.v3266 (F := Ideal) c i arg3 harg3 arg5 harg5 arg6 harg6 arg7 harg7 arg9 harg9 x0 x2 x3 x4 xs0 (ix3 (0 : Fin 1) d e : S1x128x128.Idx) = chain x0 x3 x4 (grp i) (fun h d e => xs0 (ix3 h d e)) 15 3 d e := by
  unfold sl.v3266 sl.HS0_48 sl.HS0_40
  rw [View.readCov_cons_toLoadRect]
  exact state_next harg3 harg6 harg7 x0 x3 x4 i 15 2 rfl rfl rfl rfl rfl (s2_15 c i arg3 harg3 arg5 harg5 arg6 harg6 arg7 harg7 arg9 harg9 x0 x2 x3 x4 xs0) rfl d e (s := fun h d e => xs0 (ix3 h d e))

end

variable (c : Dev nD) (i : grid0.Coords) (arg3 : Memref sig .tc .vmem S1x256x4096 .bf16) (harg3 : arg3.IsWhole) (arg4 : Memref sig .tc .vmem S1x256x1024 .bf16) (harg4 : arg4.IsWhole)
  (arg5 : Memref sig .tc .vmem S1x256x1024 .bf16) (harg5 : arg5.IsWhole) (arg6 : Memref sig .tc .vmem S1x256x1024 .bf16) (harg6 : arg6.IsWhole)
  (arg7 : Memref sig .tc .vmem S1x256x128 .f32) (harg7 : arg7.IsWhole) (arg9 : Memref sig .tc .vmem S16x128x128 .f32) (harg9 : arg9.IsWhole)
  (x0 : FVec Ideal S1x256x4096 .bf16) (x1 x2 x3 : FVec Ideal S1x256x1024 .bf16) (x4 : FVec Ideal S1x256x128 .f32)
  (xs0 : FVec Ideal S16x128x128 .f32)
  (arg8 : Memref sig .tc .vmem S1x256x2048 .f32) (harg8 : arg8.IsWhole) (hc0 : ¬cond0_0 i)

/-- The stores into the output's block, last first. -/
abbrev stores := (kernelRun0_B (F := Ideal) c i arg3 harg3 arg4 harg4 arg5 harg5 arg6 harg6 arg7 harg7 arg8 harg8 arg9 harg9 hc0 x0 x1 x2 x3 x4 xs0).1

include c i arg3 harg3 arg4 harg4 arg5 harg5 arg6 harg6 arg7 harg7 arg9 harg9 x0 x1 x2 x3 x4 xs0 arg8 harg8 hc0

/-- The store of head 0's chunk 0. -/
theorem p0_0 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 63 := by
  refine ⟨_, rfl, fun x => ?_⟩
  exact piece_out harg3 harg4 harg5 harg7 x0 x1 x2 x3 x4 i 0 0 rfl rfl rfl rfl rfl rfl rfl (load_state _ harg9 xs0 0 0 rfl _) rfl x (io := inb_S1x256x2048_S1x64x128_0_0_0)

/-- The store of head 1's chunk 0. -/
theorem p0_1 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 62 := by
  refine ⟨_, rfl, fun x => ?_⟩
  exact piece_out harg3 harg4 harg5 harg7 x0 x1 x2 x3 x4 i 1 0 rfl rfl rfl rfl rfl rfl rfl (load_state _ harg9 xs0 1 1 rfl _) rfl x (io := inb_S1x256x2048_S1x64x128_0_0_128)

/-- The store of head 2's chunk 0. -/
theorem p0_2 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 61 := by
  refine ⟨_, rfl, fun x => ?_⟩
  exact piece_out harg3 harg4 harg5 harg7 x0 x1 x2 x3 x4 i 2 0 rfl rfl rfl rfl rfl rfl rfl (load_state _ harg9 xs0 2 2 rfl _) rfl x (io := inb_S1x256x2048_S1x64x128_0_0_256)

/-- The store of head 3's chunk 0. -/
theorem p0_3 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 60 := by
  refine ⟨_, rfl, fun x => ?_⟩
  exact piece_out harg3 harg4 harg5 harg7 x0 x1 x2 x3 x4 i 3 0 rfl rfl rfl rfl rfl rfl rfl (load_state _ harg9 xs0 3 3 rfl _) rfl x (io := inb_S1x256x2048_S1x64x128_0_0_384)

/-- The store of head 4's chunk 0. -/
theorem p0_4 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 59 := by
  refine ⟨_, rfl, fun x => ?_⟩
  exact piece_out harg3 harg4 harg5 harg7 x0 x1 x2 x3 x4 i 4 0 rfl rfl rfl rfl rfl rfl rfl (load_state _ harg9 xs0 4 4 rfl _) rfl x (io := inb_S1x256x2048_S1x64x128_0_0_512)

/-- The store of head 5's chunk 0. -/
theorem p0_5 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 58 := by
  refine ⟨_, rfl, fun x => ?_⟩
  exact piece_out harg3 harg4 harg5 harg7 x0 x1 x2 x3 x4 i 5 0 rfl rfl rfl rfl rfl rfl rfl (load_state _ harg9 xs0 5 5 rfl _) rfl x (io := inb_S1x256x2048_S1x64x128_0_0_640)

/-- The store of head 6's chunk 0. -/
theorem p0_6 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 57 := by
  have hs := load_state arg9 harg9 xs0 6 6 rfl inb_S16x128x128_S1x128x128_6_0_0
  refine ⟨_, rfl, ?_⟩
  refine fun x => piece_out harg3 harg4 harg5 harg7 x0 x1 x2 x3 x4 i 6 0 (n := laneWord (grp i) 6) rfl rfl rfl rfl rfl rfl rfl (s := fun h d e => xs0 (ix3 h d e)) hs ?_ x
    (iu := inb_S1x256x4096_S1x64x128_0_0_1536) (iw := inb_S1x256x4096_S1x64x128_0_0_1664)
    (ig := inb_S1x256x128_S1x64x128_0_0_0) (ia := inb_S1x256x1024_S1x64x64_0_0_384) (iq := inb_S1x256x1024_S1x64x128_0_0_384)
    (io := inb_S1x256x2048_S1x64x128_0_0_768)
  rfl

/-- The store of head 7's chunk 0. -/
theorem p0_7 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 56 := by
  refine ⟨_, rfl, fun x => ?_⟩
  exact piece_out harg3 harg4 harg5 harg7 x0 x1 x2 x3 x4 i 7 0 rfl rfl rfl rfl rfl rfl rfl (load_state _ harg9 xs0 7 7 rfl _) rfl x (io := inb_S1x256x2048_S1x64x128_0_0_896)

/-- The store of head 8's chunk 0. -/
theorem p0_8 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 55 := by
  refine ⟨_, rfl, fun x => ?_⟩
  exact piece_out harg3 harg4 harg5 harg7 x0 x1 x2 x3 x4 i 8 0 rfl rfl rfl rfl rfl rfl rfl (load_state _ harg9 xs0 8 8 rfl _) rfl x (io := inb_S1x256x2048_S1x64x128_0_0_1024)

/-- The store of head 9's chunk 0. -/
theorem p0_9 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 54 := by
  have hs := load_state arg9 harg9 xs0 9 9 rfl inb_S16x128x128_S1x128x128_9_0_0
  refine ⟨_, rfl, ?_⟩
  refine fun x => piece_out harg3 harg4 harg5 harg7 x0 x1 x2 x3 x4 i 9 0 (n := laneWord (grp i) 9) rfl rfl rfl rfl rfl rfl rfl (s := fun h d e => xs0 (ix3 h d e)) hs ?_ x
    (iu := inb_S1x256x4096_S1x64x128_0_0_2304) (iw := inb_S1x256x4096_S1x64x128_0_0_2432)
    (ig := inb_S1x256x128_S1x64x128_0_0_0) (ia := inb_S1x256x1024_S1x64x64_0_0_576) (iq := inb_S1x256x1024_S1x64x128_0_0_512)
    (io := inb_S1x256x2048_S1x64x128_0_0_1152)
  rfl

/-- The store of head 10's chunk 0. -/
theorem p0_10 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 53 := by
  refine ⟨_, rfl, fun x => ?_⟩
  exact piece_out harg3 harg4 harg5 harg7 x0 x1 x2 x3 x4 i 10 0 rfl rfl rfl rfl rfl rfl rfl (load_state _ harg9 xs0 10 10 rfl _) rfl x (io := inb_S1x256x2048_S1x64x128_0_0_1280)

/-- The store of head 11's chunk 0. -/
theorem p0_11 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 52 := by
  refine ⟨_, rfl, fun x => ?_⟩
  exact piece_out harg3 harg4 harg5 harg7 x0 x1 x2 x3 x4 i 11 0 rfl rfl rfl rfl rfl rfl rfl (load_state _ harg9 xs0 11 11 rfl _) rfl x (io := inb_S1x256x2048_S1x64x128_0_0_1408)

/-- The store of head 12's chunk 0. -/
theorem p0_12 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 51 := by
  have hs := load_state arg9 harg9 xs0 12 12 rfl inb_S16x128x128_S1x128x128_12_0_0
  refine ⟨_, rfl, ?_⟩
  refine fun x => piece_out harg3 harg4 harg5 harg7 x0 x1 x2 x3 x4 i 12 0 (n := laneWord (grp i) 12) rfl rfl rfl rfl rfl rfl rfl (s := fun h d e => xs0 (ix3 h d e)) hs ?_ x
    (iu := inb_S1x256x4096_S1x64x128_0_0_3072) (iw := inb_S1x256x4096_S1x64x128_0_0_3200)
    (ig := inb_S1x256x128_S1x64x128_0_0_0) (ia := inb_S1x256x1024_S1x64x64_0_0_768) (iq := inb_S1x256x1024_S1x64x128_0_0_768)
    (io := inb_S1x256x2048_S1x64x128_0_0_1536)
  rfl

/-- The store of head 13's chunk 0. -/
theorem p0_13 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 50 := by
  refine ⟨_, rfl, fun x => ?_⟩
  exact piece_out harg3 harg4 harg5 harg7 x0 x1 x2 x3 x4 i 13 0 rfl rfl rfl rfl rfl rfl rfl (load_state _ harg9 xs0 13 13 rfl _) rfl x (io := inb_S1x256x2048_S1x64x128_0_0_1664)

/-- The store of head 14's chunk 0. -/
theorem p0_14 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 49 := by
  refine ⟨_, rfl, fun x => ?_⟩
  exact piece_out harg3 harg4 harg5 harg7 x0 x1 x2 x3 x4 i 14 0 rfl rfl rfl rfl rfl rfl rfl (load_state _ harg9 xs0 14 14 rfl _) rfl x (io := inb_S1x256x2048_S1x64x128_0_0_1792)

/-- The store of head 15's chunk 0. -/
theorem p0_15 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 48 := by
  refine ⟨_, rfl, fun x => ?_⟩
  exact piece_out harg3 harg4 harg5 harg7 x0 x1 x2 x3 x4 i 15 0 rfl rfl rfl rfl rfl rfl rfl (load_state _ harg9 xs0 15 15 rfl _) rfl x (io := inb_S1x256x2048_S1x64x128_0_0_1920)

/-- The store of head 0's chunk 1. -/
theorem p1_0 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 47 := by
  refine ⟨_, rfl, fun x => ?_⟩
  exact piece_out harg3 harg4 harg5 harg7 x0 x1 x2 x3 x4 i 0 1 rfl rfl rfl rfl rfl rfl rfl (s1_0 c i arg3 harg3 arg5 harg5 arg6 harg6 arg7 harg7 arg9 harg9 x0 x2 x3 x4 xs0) rfl x (io := inb_S1x256x2048_S1x64x128_0_64_0)

/-- The store of head 1's chunk 1. -/
theorem p1_1 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 46 := by
  refine ⟨_, rfl, fun x => ?_⟩
  exact piece_out harg3 harg4 harg5 harg7 x0 x1 x2 x3 x4 i 1 1 rfl rfl rfl rfl rfl rfl rfl (s1_1 c i arg3 harg3 arg5 harg5 arg6 harg6 arg7 harg7 arg9 harg9 x0 x2 x3 x4 xs0) rfl x (io := inb_S1x256x2048_S1x64x128_0_64_128)

/-- The store of head 2's chunk 1. -/
theorem p1_2 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 45 := by
  refine ⟨_, rfl, fun x => ?_⟩
  exact piece_out harg3 harg4 harg5 harg7 x0 x1 x2 x3 x4 i 2 1 rfl rfl rfl rfl rfl rfl rfl (s1_2 c i arg3 harg3 arg5 harg5 arg6 harg6 arg7 harg7 arg9 harg9 x0 x2 x3 x4 xs0) rfl x (io := inb_S1x256x2048_S1x64x128_0_64_256)

/-- The store of head 3's chunk 1. -/
theorem p1_3 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 44 := by
  refine ⟨_, rfl, fun x => ?_⟩
  exact piece_out harg3 harg4 harg5 harg7 x0 x1 x2 x3 x4 i 3 1 rfl rfl rfl rfl rfl rfl rfl (s1_3 c i arg3 harg3 arg5 harg5 arg6 harg6 arg7 harg7 arg9 harg9 x0 x2 x3 x4 xs0) rfl x (io := inb_S1x256x2048_S1x64x128_0_64_384)

/-- The store of head 4's chunk 1. -/
theorem p1_4 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 43 := by
  refine ⟨_, rfl, fun x => ?_⟩
  exact piece_out harg3 harg4 harg5 harg7 x0 x1 x2 x3 x4 i 4 1 rfl rfl rfl rfl rfl rfl rfl (s1_4 c i arg3 harg3 arg5 harg5 arg6 harg6 arg7 harg7 arg9 harg9 x0 x2 x3 x4 xs0) rfl x (io := inb_S1x256x2048_S1x64x128_0_64_512)

/-- The store of head 5's chunk 1. -/
theorem p1_5 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 42 := by
  refine ⟨_, rfl, fun x => ?_⟩
  exact piece_out harg3 harg4 harg5 harg7 x0 x1 x2 x3 x4 i 5 1 rfl rfl rfl rfl rfl rfl rfl (s1_5 c i arg3 harg3 arg5 harg5 arg6 harg6 arg7 harg7 arg9 harg9 x0 x2 x3 x4 xs0) rfl x (io := inb_S1x256x2048_S1x64x128_0_64_640)

/-- The store of head 6's chunk 1. -/
theorem p1_6 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 41 := by
  refine ⟨_, rfl, fun x => ?_⟩
  exact piece_out harg3 harg4 harg5 harg7 x0 x1 x2 x3 x4 i 6 1 rfl rfl rfl rfl rfl rfl rfl (s1_6 c i arg3 harg3 arg5 harg5 arg6 harg6 arg7 harg7 arg9 harg9 x0 x2 x3 x4 xs0) rfl x (io := inb_S1x256x2048_S1x64x128_0_64_768)

/-- The store of head 7's chunk 1. -/
theorem p1_7 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 40 := by
  refine ⟨_, rfl, fun x => ?_⟩
  exact piece_out harg3 harg4 harg5 harg7 x0 x1 x2 x3 x4 i 7 1 rfl rfl rfl rfl rfl rfl rfl (s1_7 c i arg3 harg3 arg5 harg5 arg6 harg6 arg7 harg7 arg9 harg9 x0 x2 x3 x4 xs0) rfl x (io := inb_S1x256x2048_S1x64x128_0_64_896)

/-- The store of head 8's chunk 1. -/
theorem p1_8 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 39 := by
  refine ⟨_, rfl, fun x => ?_⟩
  exact piece_out harg3 harg4 harg5 harg7 x0 x1 x2 x3 x4 i 8 1 rfl rfl rfl rfl rfl rfl rfl (s1_8 c i arg3 harg3 arg5 harg5 arg6 harg6 arg7 harg7 arg9 harg9 x0 x2 x3 x4 xs0) rfl x (io := inb_S1x256x2048_S1x64x128_0_64_1024)

/-- The store of head 9's chunk 1. -/
theorem p1_9 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 38 := by
  refine ⟨_, rfl, fun x => ?_⟩
  exact piece_out harg3 harg4 harg5 harg7 x0 x1 x2 x3 x4 i 9 1 rfl rfl rfl rfl rfl rfl rfl (s1_9 c i arg3 harg3 arg5 harg5 arg6 harg6 arg7 harg7 arg9 harg9 x0 x2 x3 x4 xs0) rfl x (io := inb_S1x256x2048_S1x64x128_0_64_1152)

/-- The store of head 10's chunk 1. -/
theorem p1_10 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 37 := by
  refine ⟨_, rfl, fun x => ?_⟩
  exact piece_out harg3 harg4 harg5 harg7 x0 x1 x2 x3 x4 i 10 1 rfl rfl rfl rfl rfl rfl rfl (s1_10 c i arg3 harg3 arg5 harg5 arg6 harg6 arg7 harg7 arg9 harg9 x0 x2 x3 x4 xs0) rfl x (io := inb_S1x256x2048_S1x64x128_0_64_1280)

/-- The store of head 11's chunk 1. -/
theorem p1_11 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 36 := by
  refine ⟨_, rfl, fun x => ?_⟩
  exact piece_out harg3 harg4 harg5 harg7 x0 x1 x2 x3 x4 i 11 1 rfl rfl rfl rfl rfl rfl rfl (s1_11 c i arg3 harg3 arg5 harg5 arg6 harg6 arg7 harg7 arg9 harg9 x0 x2 x3 x4 xs0) rfl x (io := inb_S1x256x2048_S1x64x128_0_64_1408)

/-- The store of head 12's chunk 1. -/
theorem p1_12 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 35 := by
  refine ⟨_, rfl, fun x => ?_⟩
  exact piece_out harg3 harg4 harg5 harg7 x0 x1 x2 x3 x4 i 12 1 rfl rfl rfl rfl rfl rfl rfl (s1_12 c i arg3 harg3 arg5 harg5 arg6 harg6 arg7 harg7 arg9 harg9 x0 x2 x3 x4 xs0) rfl x (io := inb_S1x256x2048_S1x64x128_0_64_1536)

/-- The store of head 13's chunk 1. -/
theorem p1_13 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 34 := by
  refine ⟨_, rfl, fun x => ?_⟩
  exact piece_out harg3 harg4 harg5 harg7 x0 x1 x2 x3 x4 i 13 1 rfl rfl rfl rfl rfl rfl rfl (s1_13 c i arg3 harg3 arg5 harg5 arg6 harg6 arg7 harg7 arg9 harg9 x0 x2 x3 x4 xs0) rfl x (io := inb_S1x256x2048_S1x64x128_0_64_1664)

/-- The store of head 14's chunk 1. -/
theorem p1_14 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 33 := by
  refine ⟨_, rfl, fun x => ?_⟩
  exact piece_out harg3 harg4 harg5 harg7 x0 x1 x2 x3 x4 i 14 1 rfl rfl rfl rfl rfl rfl rfl (s1_14 c i arg3 harg3 arg5 harg5 arg6 harg6 arg7 harg7 arg9 harg9 x0 x2 x3 x4 xs0) rfl x (io := inb_S1x256x2048_S1x64x128_0_64_1792)

/-- The store of head 15's chunk 1. -/
theorem p1_15 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 32 := by
  refine ⟨_, rfl, fun x => ?_⟩
  exact piece_out harg3 harg4 harg5 harg7 x0 x1 x2 x3 x4 i 15 1 rfl rfl rfl rfl rfl rfl rfl (s1_15 c i arg3 harg3 arg5 harg5 arg6 harg6 arg7 harg7 arg9 harg9 x0 x2 x3 x4 xs0) rfl x (io := inb_S1x256x2048_S1x64x128_0_64_1920)

/-- The store of head 0's chunk 2. -/
theorem p2_0 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 31 := by
  refine ⟨_, rfl, fun x => ?_⟩
  exact piece_out harg3 harg4 harg5 harg7 x0 x1 x2 x3 x4 i 0 2 rfl rfl rfl rfl rfl rfl rfl (s2_0 c i arg3 harg3 arg5 harg5 arg6 harg6 arg7 harg7 arg9 harg9 x0 x2 x3 x4 xs0) rfl x (io := inb_S1x256x2048_S1x64x128_0_128_0)

/-- The store of head 1's chunk 2. -/
theorem p2_1 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 30 := by
  refine ⟨_, rfl, fun x => ?_⟩
  exact piece_out harg3 harg4 harg5 harg7 x0 x1 x2 x3 x4 i 1 2 rfl rfl rfl rfl rfl rfl rfl (s2_1 c i arg3 harg3 arg5 harg5 arg6 harg6 arg7 harg7 arg9 harg9 x0 x2 x3 x4 xs0) rfl x (io := inb_S1x256x2048_S1x64x128_0_128_128)

/-- The store of head 2's chunk 2. -/
theorem p2_2 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 29 := by
  refine ⟨_, rfl, fun x => ?_⟩
  exact piece_out harg3 harg4 harg5 harg7 x0 x1 x2 x3 x4 i 2 2 rfl rfl rfl rfl rfl rfl rfl (s2_2 c i arg3 harg3 arg5 harg5 arg6 harg6 arg7 harg7 arg9 harg9 x0 x2 x3 x4 xs0) rfl x (io := inb_S1x256x2048_S1x64x128_0_128_256)

/-- The store of head 3's chunk 2. -/
theorem p2_3 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 28 := by
  refine ⟨_, rfl, fun x => ?_⟩
  exact piece_out harg3 harg4 harg5 harg7 x0 x1 x2 x3 x4 i 3 2 rfl rfl rfl rfl rfl rfl rfl (s2_3 c i arg3 harg3 arg5 harg5 arg6 harg6 arg7 harg7 arg9 harg9 x0 x2 x3 x4 xs0) rfl x (io := inb_S1x256x2048_S1x64x128_0_128_384)

/-- The store of head 4's chunk 2. -/
theorem p2_4 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 27 := by
  refine ⟨_, rfl, fun x => ?_⟩
  exact piece_out harg3 harg4 harg5 harg7 x0 x1 x2 x3 x4 i 4 2 rfl rfl rfl rfl rfl rfl rfl (s2_4 c i arg3 harg3 arg5 harg5 arg6 harg6 arg7 harg7 arg9 harg9 x0 x2 x3 x4 xs0) rfl x (io := inb_S1x256x2048_S1x64x128_0_128_512)

/-- The store of head 5's chunk 2. -/
theorem p2_5 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 26 := by
  refine ⟨_, rfl, fun x => ?_⟩
  exact piece_out harg3 harg4 harg5 harg7 x0 x1 x2 x3 x4 i 5 2 rfl rfl rfl rfl rfl rfl rfl (s2_5 c i arg3 harg3 arg5 harg5 arg6 harg6 arg7 harg7 arg9 harg9 x0 x2 x3 x4 xs0) rfl x (io := inb_S1x256x2048_S1x64x128_0_128_640)

/-- The store of head 6's chunk 2. -/
theorem p2_6 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 25 := by
  refine ⟨_, rfl, fun x => ?_⟩
  exact piece_out harg3 harg4 harg5 harg7 x0 x1 x2 x3 x4 i 6 2 rfl rfl rfl rfl rfl rfl rfl (s2_6 c i arg3 harg3 arg5 harg5 arg6 harg6 arg7 harg7 arg9 harg9 x0 x2 x3 x4 xs0) rfl x (io := inb_S1x256x2048_S1x64x128_0_128_768)

/-- The store of head 7's chunk 2. -/
theorem p2_7 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 24 := by
  refine ⟨_, rfl, fun x => ?_⟩
  exact piece_out harg3 harg4 harg5 harg7 x0 x1 x2 x3 x4 i 7 2 rfl rfl rfl rfl rfl rfl rfl (s2_7 c i arg3 harg3 arg5 harg5 arg6 harg6 arg7 harg7 arg9 harg9 x0 x2 x3 x4 xs0) rfl x (io := inb_S1x256x2048_S1x64x128_0_128_896)

/-- The store of head 8's chunk 2. -/
theorem p2_8 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 23 := by
  refine ⟨_, rfl, fun x => ?_⟩
  exact piece_out harg3 harg4 harg5 harg7 x0 x1 x2 x3 x4 i 8 2 rfl rfl rfl rfl rfl rfl rfl (s2_8 c i arg3 harg3 arg5 harg5 arg6 harg6 arg7 harg7 arg9 harg9 x0 x2 x3 x4 xs0) rfl x (io := inb_S1x256x2048_S1x64x128_0_128_1024)

/-- The store of head 9's chunk 2. -/
theorem p2_9 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 22 := by
  refine ⟨_, rfl, fun x => ?_⟩
  exact piece_out harg3 harg4 harg5 harg7 x0 x1 x2 x3 x4 i 9 2 rfl rfl rfl rfl rfl rfl rfl (s2_9 c i arg3 harg3 arg5 harg5 arg6 harg6 arg7 harg7 arg9 harg9 x0 x2 x3 x4 xs0) rfl x (io := inb_S1x256x2048_S1x64x128_0_128_1152)

/-- The store of head 10's chunk 2. -/
theorem p2_10 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 21 := by
  refine ⟨_, rfl, fun x => ?_⟩
  exact piece_out harg3 harg4 harg5 harg7 x0 x1 x2 x3 x4 i 10 2 rfl rfl rfl rfl rfl rfl rfl (s2_10 c i arg3 harg3 arg5 harg5 arg6 harg6 arg7 harg7 arg9 harg9 x0 x2 x3 x4 xs0) rfl x (io := inb_S1x256x2048_S1x64x128_0_128_1280)

/-- The store of head 11's chunk 2. -/
theorem p2_11 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 20 := by
  refine ⟨_, rfl, fun x => ?_⟩
  exact piece_out harg3 harg4 harg5 harg7 x0 x1 x2 x3 x4 i 11 2 rfl rfl rfl rfl rfl rfl rfl (s2_11 c i arg3 harg3 arg5 harg5 arg6 harg6 arg7 harg7 arg9 harg9 x0 x2 x3 x4 xs0) rfl x (io := inb_S1x256x2048_S1x64x128_0_128_1408)

/-- The store of head 12's chunk 2. -/
theorem p2_12 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 19 := by
  refine ⟨_, rfl, fun x => ?_⟩
  exact piece_out harg3 harg4 harg5 harg7 x0 x1 x2 x3 x4 i 12 2 rfl rfl rfl rfl rfl rfl rfl (s2_12 c i arg3 harg3 arg5 harg5 arg6 harg6 arg7 harg7 arg9 harg9 x0 x2 x3 x4 xs0) rfl x (io := inb_S1x256x2048_S1x64x128_0_128_1536)

/-- The store of head 13's chunk 2. -/
theorem p2_13 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 18 := by
  refine ⟨_, rfl, fun x => ?_⟩
  exact piece_out harg3 harg4 harg5 harg7 x0 x1 x2 x3 x4 i 13 2 rfl rfl rfl rfl rfl rfl rfl (s2_13 c i arg3 harg3 arg5 harg5 arg6 harg6 arg7 harg7 arg9 harg9 x0 x2 x3 x4 xs0) rfl x (io := inb_S1x256x2048_S1x64x128_0_128_1664)

/-- The store of head 14's chunk 2. -/
theorem p2_14 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 17 := by
  refine ⟨_, rfl, fun x => ?_⟩
  exact piece_out harg3 harg4 harg5 harg7 x0 x1 x2 x3 x4 i 14 2 rfl rfl rfl rfl rfl rfl rfl (s2_14 c i arg3 harg3 arg5 harg5 arg6 harg6 arg7 harg7 arg9 harg9 x0 x2 x3 x4 xs0) rfl x (io := inb_S1x256x2048_S1x64x128_0_128_1792)

/-- The store of head 15's chunk 2. -/
theorem p2_15 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 16 := by
  refine ⟨_, rfl, fun x => ?_⟩
  exact piece_out harg3 harg4 harg5 harg7 x0 x1 x2 x3 x4 i 15 2 rfl rfl rfl rfl rfl rfl rfl (s2_15 c i arg3 harg3 arg5 harg5 arg6 harg6 arg7 harg7 arg9 harg9 x0 x2 x3 x4 xs0) rfl x (io := inb_S1x256x2048_S1x64x128_0_128_1920)

/-- The store of head 0's chunk 3. -/
theorem p3_0 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 15 := by
  refine ⟨_, rfl, fun x => ?_⟩
  exact piece_out harg3 harg4 harg5 harg7 x0 x1 x2 x3 x4 i 0 3 rfl rfl rfl rfl rfl rfl rfl (s3_0 c i arg3 harg3 arg5 harg5 arg6 harg6 arg7 harg7 arg9 harg9 x0 x2 x3 x4 xs0) rfl x (io := inb_S1x256x2048_S1x64x128_0_192_0)

/-- The store of head 1's chunk 3. -/
theorem p3_1 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 14 := by
  refine ⟨_, rfl, fun x => ?_⟩
  exact piece_out harg3 harg4 harg5 harg7 x0 x1 x2 x3 x4 i 1 3 rfl rfl rfl rfl rfl rfl rfl (s3_1 c i arg3 harg3 arg5 harg5 arg6 harg6 arg7 harg7 arg9 harg9 x0 x2 x3 x4 xs0) rfl x (io := inb_S1x256x2048_S1x64x128_0_192_128)

/-- The store of head 2's chunk 3. -/
theorem p3_2 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 13 := by
  refine ⟨_, rfl, fun x => ?_⟩
  exact piece_out harg3 harg4 harg5 harg7 x0 x1 x2 x3 x4 i 2 3 rfl rfl rfl rfl rfl rfl rfl (s3_2 c i arg3 harg3 arg5 harg5 arg6 harg6 arg7 harg7 arg9 harg9 x0 x2 x3 x4 xs0) rfl x (io := inb_S1x256x2048_S1x64x128_0_192_256)

/-- The store of head 3's chunk 3. -/
theorem p3_3 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 12 := by
  refine ⟨_, rfl, fun x => ?_⟩
  exact piece_out harg3 harg4 harg5 harg7 x0 x1 x2 x3 x4 i 3 3 rfl rfl rfl rfl rfl rfl rfl (s3_3 c i arg3 harg3 arg5 harg5 arg6 harg6 arg7 harg7 arg9 harg9 x0 x2 x3 x4 xs0) rfl x (io := inb_S1x256x2048_S1x64x128_0_192_384)

/-- The store of head 4's chunk 3. -/
theorem p3_4 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 11 := by
  refine ⟨_, rfl, fun x => ?_⟩
  exact piece_out harg3 harg4 harg5 harg7 x0 x1 x2 x3 x4 i 4 3 rfl rfl rfl rfl rfl rfl rfl (s3_4 c i arg3 harg3 arg5 harg5 arg6 harg6 arg7 harg7 arg9 harg9 x0 x2 x3 x4 xs0) rfl x (io := inb_S1x256x2048_S1x64x128_0_192_512)

/-- The store of head 5's chunk 3. -/
theorem p3_5 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 10 := by
  refine ⟨_, rfl, fun x => ?_⟩
  exact piece_out harg3 harg4 harg5 harg7 x0 x1 x2 x3 x4 i 5 3 rfl rfl rfl rfl rfl rfl rfl (s3_5 c i arg3 harg3 arg5 harg5 arg6 harg6 arg7 harg7 arg9 harg9 x0 x2 x3 x4 xs0) rfl x (io := inb_S1x256x2048_S1x64x128_0_192_640)

/-- The store of head 6's chunk 3. -/
theorem p3_6 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 9 := by
  refine ⟨_, rfl, fun x => ?_⟩
  exact piece_out harg3 harg4 harg5 harg7 x0 x1 x2 x3 x4 i 6 3 rfl rfl rfl rfl rfl rfl rfl (s3_6 c i arg3 harg3 arg5 harg5 arg6 harg6 arg7 harg7 arg9 harg9 x0 x2 x3 x4 xs0) rfl x (io := inb_S1x256x2048_S1x64x128_0_192_768)

/-- The store of head 7's chunk 3. -/
theorem p3_7 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 8 := by
  refine ⟨_, rfl, fun x => ?_⟩
  exact piece_out harg3 harg4 harg5 harg7 x0 x1 x2 x3 x4 i 7 3 rfl rfl rfl rfl rfl rfl rfl (s3_7 c i arg3 harg3 arg5 harg5 arg6 harg6 arg7 harg7 arg9 harg9 x0 x2 x3 x4 xs0) rfl x (io := inb_S1x256x2048_S1x64x128_0_192_896)

/-- The store of head 8's chunk 3. -/
theorem p3_8 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 7 := by
  refine ⟨_, rfl, fun x => ?_⟩
  exact piece_out harg3 harg4 harg5 harg7 x0 x1 x2 x3 x4 i 8 3 rfl rfl rfl rfl rfl rfl rfl (s3_8 c i arg3 harg3 arg5 harg5 arg6 harg6 arg7 harg7 arg9 harg9 x0 x2 x3 x4 xs0) rfl x (io := inb_S1x256x2048_S1x64x128_0_192_1024)

/-- The store of head 9's chunk 3. -/
theorem p3_9 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 6 := by
  refine ⟨_, rfl, fun x => ?_⟩
  exact piece_out harg3 harg4 harg5 harg7 x0 x1 x2 x3 x4 i 9 3 rfl rfl rfl rfl rfl rfl rfl (s3_9 c i arg3 harg3 arg5 harg5 arg6 harg6 arg7 harg7 arg9 harg9 x0 x2 x3 x4 xs0) rfl x (io := inb_S1x256x2048_S1x64x128_0_192_1152)

/-- The store of head 10's chunk 3. -/
theorem p3_10 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 5 := by
  refine ⟨_, rfl, fun x => ?_⟩
  exact piece_out harg3 harg4 harg5 harg7 x0 x1 x2 x3 x4 i 10 3 rfl rfl rfl rfl rfl rfl rfl (s3_10 c i arg3 harg3 arg5 harg5 arg6 harg6 arg7 harg7 arg9 harg9 x0 x2 x3 x4 xs0) rfl x (io := inb_S1x256x2048_S1x64x128_0_192_1280)

/-- The store of head 11's chunk 3. -/
theorem p3_11 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 4 := by
  refine ⟨_, rfl, fun x => ?_⟩
  exact piece_out harg3 harg4 harg5 harg7 x0 x1 x2 x3 x4 i 11 3 rfl rfl rfl rfl rfl rfl rfl (s3_11 c i arg3 harg3 arg5 harg5 arg6 harg6 arg7 harg7 arg9 harg9 x0 x2 x3 x4 xs0) rfl x (io := inb_S1x256x2048_S1x64x128_0_192_1408)

/-- The store of head 12's chunk 3. -/
theorem p3_12 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 3 := by
  refine ⟨_, rfl, fun x => ?_⟩
  exact piece_out harg3 harg4 harg5 harg7 x0 x1 x2 x3 x4 i 12 3 rfl rfl rfl rfl rfl rfl rfl (s3_12 c i arg3 harg3 arg5 harg5 arg6 harg6 arg7 harg7 arg9 harg9 x0 x2 x3 x4 xs0) rfl x (io := inb_S1x256x2048_S1x64x128_0_192_1536)

/-- The store of head 13's chunk 3. -/
theorem p3_13 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 2 := by
  refine ⟨_, rfl, fun x => ?_⟩
  exact piece_out harg3 harg4 harg5 harg7 x0 x1 x2 x3 x4 i 13 3 rfl rfl rfl rfl rfl rfl rfl (s3_13 c i arg3 harg3 arg5 harg5 arg6 harg6 arg7 harg7 arg9 harg9 x0 x2 x3 x4 xs0) rfl x (io := inb_S1x256x2048_S1x64x128_0_192_1664)

/-- The store of head 14's chunk 3. -/
theorem p3_14 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 1 := by
  refine ⟨_, rfl, fun x => ?_⟩
  exact piece_out harg3 harg4 harg5 harg7 x0 x1 x2 x3 x4 i 14 3 rfl rfl rfl rfl rfl rfl rfl (s3_14 c i arg3 harg3 arg5 harg5 arg6 harg6 arg7 harg7 arg9 harg9 x0 x2 x3 x4 xs0) rfl x (io := inb_S1x256x2048_S1x64x128_0_192_1792)

/-- The store of head 15's chunk 3. -/
theorem p3_15 : Holds (pointOut x0 x1 x2 x3 x4 (grp i) (fun h d e => xs0 (ix3 h d e))) (stores c i arg3 harg3 arg4 harg4 arg5 harg5 arg6 harg6 arg7 harg7 arg9 harg9 x0 x1 x2 x3 x4 xs0 arg8 harg8 hc0) 0 := by
  refine ⟨_, rfl, fun x => ?_⟩
  exact piece_out harg3 harg4 harg5 harg7 x0 x1 x2 x3 x4 i 15 3 rfl rfl rfl rfl rfl rfl rfl (s3_15 c i arg3 harg3 arg5 harg5 arg6 harg6 arg7 harg7 arg9 harg9 x0 x2 x3 x4 xs0) rfl x (io := inb_S1x256x2048_S1x64x128_0_192_1920)

/-- Every store into the output's block is one chunk's output of one head. -/
theorem pieces : ∀ p ∈ stores c i arg3 harg3 arg4 harg4 arg5 harg5 arg6 harg6 arg7 harg7 arg9 harg9 x0 x1 x2 x3 x4 xs0 arg8 harg8 hc0, ∀ x, p.2 x = pointOut x0 x1 x2 x3 x4 (grp i) (fun h d e => xs0 (ix3 h d e)) (p.1.emb x) := by
  refine all_hold (k := 64) rfl fun n => ?_
  fin_cases n
  · exact p3_15 c i arg3 harg3 arg4 harg4 arg5 harg5 arg6 harg6 arg7 harg7 arg9 harg9 x0 x1 x2 x3 x4 xs0 arg8 harg8 hc0
  · exact p3_14 c i arg3 harg3 arg4 harg4 arg5 harg5 arg6 harg6 arg7 harg7 arg9 harg9 x0 x1 x2 x3 x4 xs0 arg8 harg8 hc0
  · exact p3_13 c i arg3 harg3 arg4 harg4 arg5 harg5 arg6 harg6 arg7 harg7 arg9 harg9 x0 x1 x2 x3 x4 xs0 arg8 harg8 hc0
  · exact p3_12 c i arg3 harg3 arg4 harg4 arg5 harg5 arg6 harg6 arg7 harg7 arg9 harg9 x0 x1 x2 x3 x4 xs0 arg8 harg8 hc0
  · exact p3_11 c i arg3 harg3 arg4 harg4 arg5 harg5 arg6 harg6 arg7 harg7 arg9 harg9 x0 x1 x2 x3 x4 xs0 arg8 harg8 hc0
  · exact p3_10 c i arg3 harg3 arg4 harg4 arg5 harg5 arg6 harg6 arg7 harg7 arg9 harg9 x0 x1 x2 x3 x4 xs0 arg8 harg8 hc0
  · exact p3_9 c i arg3 harg3 arg4 harg4 arg5 harg5 arg6 harg6 arg7 harg7 arg9 harg9 x0 x1 x2 x3 x4 xs0 arg8 harg8 hc0
  · exact p3_8 c i arg3 harg3 arg4 harg4 arg5 harg5 arg6 harg6 arg7 harg7 arg9 harg9 x0 x1 x2 x3 x4 xs0 arg8 harg8 hc0
  · exact p3_7 c i arg3 harg3 arg4 harg4 arg5 harg5 arg6 harg6 arg7 harg7 arg9 harg9 x0 x1 x2 x3 x4 xs0 arg8 harg8 hc0
  · exact p3_6 c i arg3 harg3 arg4 harg4 arg5 harg5 arg6 harg6 arg7 harg7 arg9 harg9 x0 x1 x2 x3 x4 xs0 arg8 harg8 hc0
  · exact p3_5 c i arg3 harg3 arg4 harg4 arg5 harg5 arg6 harg6 arg7 harg7 arg9 harg9 x0 x1 x2 x3 x4 xs0 arg8 harg8 hc0
  · exact p3_4 c i arg3 harg3 arg4 harg4 arg5 harg5 arg6 harg6 arg7 harg7 arg9 harg9 x0 x1 x2 x3 x4 xs0 arg8 harg8 hc0
  · exact p3_3 c i arg3 harg3 arg4 harg4 arg5 harg5 arg6 harg6 arg7 harg7 arg9 harg9 x0 x1 x2 x3 x4 xs0 arg8 harg8 hc0
  · exact p3_2 c i arg3 harg3 arg4 harg4 arg5 harg5 arg6 harg6 arg7 harg7 arg9 harg9 x0 x1 x2 x3 x4 xs0 arg8 harg8 hc0
  · exact p3_1 c i arg3 harg3 arg4 harg4 arg5 harg5 arg6 harg6 arg7 harg7 arg9 harg9 x0 x1 x2 x3 x4 xs0 arg8 harg8 hc0
  · exact p3_0 c i arg3 harg3 arg4 harg4 arg5 harg5 arg6 harg6 arg7 harg7 arg9 harg9 x0 x1 x2 x3 x4 xs0 arg8 harg8 hc0
  · exact p2_15 c i arg3 harg3 arg4 harg4 arg5 harg5 arg6 harg6 arg7 harg7 arg9 harg9 x0 x1 x2 x3 x4 xs0 arg8 harg8 hc0
  · exact p2_14 c i arg3 harg3 arg4 harg4 arg5 harg5 arg6 harg6 arg7 harg7 arg9 harg9 x0 x1 x2 x3 x4 xs0 arg8 harg8 hc0
  · exact p2_13 c i arg3 harg3 arg4 harg4 arg5 harg5 arg6 harg6 arg7 harg7 arg9 harg9 x0 x1 x2 x3 x4 xs0 arg8 harg8 hc0
  · exact p2_12 c i arg3 harg3 arg4 harg4 arg5 harg5 arg6 harg6 arg7 harg7 arg9 harg9 x0 x1 x2 x3 x4 xs0 arg8 harg8 hc0
  · exact p2_11 c i arg3 harg3 arg4 harg4 arg5 harg5 arg6 harg6 arg7 harg7 arg9 harg9 x0 x1 x2 x3 x4 xs0 arg8 harg8 hc0
  · exact p2_10 c i arg3 harg3 arg4 harg4 arg5 harg5 arg6 harg6 arg7 harg7 arg9 harg9 x0 x1 x2 x3 x4 xs0 arg8 harg8 hc0
  · exact p2_9 c i arg3 harg3 arg4 harg4 arg5 harg5 arg6 harg6 arg7 harg7 arg9 harg9 x0 x1 x2 x3 x4 xs0 arg8 harg8 hc0
  · exact p2_8 c i arg3 harg3 arg4 harg4 arg5 harg5 arg6 harg6 arg7 harg7 arg9 harg9 x0 x1 x2 x3 x4 xs0 arg8 harg8 hc0
  · exact p2_7 c i arg3 harg3 arg4 harg4 arg5 harg5 arg6 harg6 arg7 harg7 arg9 harg9 x0 x1 x2 x3 x4 xs0 arg8 harg8 hc0
  · exact p2_6 c i arg3 harg3 arg4 harg4 arg5 harg5 arg6 harg6 arg7 harg7 arg9 harg9 x0 x1 x2 x3 x4 xs0 arg8 harg8 hc0
  · exact p2_5 c i arg3 harg3 arg4 harg4 arg5 harg5 arg6 harg6 arg7 harg7 arg9 harg9 x0 x1 x2 x3 x4 xs0 arg8 harg8 hc0
  · exact p2_4 c i arg3 harg3 arg4 harg4 arg5 harg5 arg6 harg6 arg7 harg7 arg9 harg9 x0 x1 x2 x3 x4 xs0 arg8 harg8 hc0
  · exact p2_3 c i arg3 harg3 arg4 harg4 arg5 harg5 arg6 harg6 arg7 harg7 arg9 harg9 x0 x1 x2 x3 x4 xs0 arg8 harg8 hc0
  · exact p2_2 c i arg3 harg3 arg4 harg4 arg5 harg5 arg6 harg6 arg7 harg7 arg9 harg9 x0 x1 x2 x3 x4 xs0 arg8 harg8 hc0
  · exact p2_1 c i arg3 harg3 arg4 harg4 arg5 harg5 arg6 harg6 arg7 harg7 arg9 harg9 x0 x1 x2 x3 x4 xs0 arg8 harg8 hc0
  · exact p2_0 c i arg3 harg3 arg4 harg4 arg5 harg5 arg6 harg6 arg7 harg7 arg9 harg9 x0 x1 x2 x3 x4 xs0 arg8 harg8 hc0
  · exact p1_15 c i arg3 harg3 arg4 harg4 arg5 harg5 arg6 harg6 arg7 harg7 arg9 harg9 x0 x1 x2 x3 x4 xs0 arg8 harg8 hc0
  · exact p1_14 c i arg3 harg3 arg4 harg4 arg5 harg5 arg6 harg6 arg7 harg7 arg9 harg9 x0 x1 x2 x3 x4 xs0 arg8 harg8 hc0
  · exact p1_13 c i arg3 harg3 arg4 harg4 arg5 harg5 arg6 harg6 arg7 harg7 arg9 harg9 x0 x1 x2 x3 x4 xs0 arg8 harg8 hc0
  · exact p1_12 c i arg3 harg3 arg4 harg4 arg5 harg5 arg6 harg6 arg7 harg7 arg9 harg9 x0 x1 x2 x3 x4 xs0 arg8 harg8 hc0
  · exact p1_11 c i arg3 harg3 arg4 harg4 arg5 harg5 arg6 harg6 arg7 harg7 arg9 harg9 x0 x1 x2 x3 x4 xs0 arg8 harg8 hc0
  · exact p1_10 c i arg3 harg3 arg4 harg4 arg5 harg5 arg6 harg6 arg7 harg7 arg9 harg9 x0 x1 x2 x3 x4 xs0 arg8 harg8 hc0
  · exact p1_9 c i arg3 harg3 arg4 harg4 arg5 harg5 arg6 harg6 arg7 harg7 arg9 harg9 x0 x1 x2 x3 x4 xs0 arg8 harg8 hc0
  · exact p1_8 c i arg3 harg3 arg4 harg4 arg5 harg5 arg6 harg6 arg7 harg7 arg9 harg9 x0 x1 x2 x3 x4 xs0 arg8 harg8 hc0
  · exact p1_7 c i arg3 harg3 arg4 harg4 arg5 harg5 arg6 harg6 arg7 harg7 arg9 harg9 x0 x1 x2 x3 x4 xs0 arg8 harg8 hc0
  · exact p1_6 c i arg3 harg3 arg4 harg4 arg5 harg5 arg6 harg6 arg7 harg7 arg9 harg9 x0 x1 x2 x3 x4 xs0 arg8 harg8 hc0
  · exact p1_5 c i arg3 harg3 arg4 harg4 arg5 harg5 arg6 harg6 arg7 harg7 arg9 harg9 x0 x1 x2 x3 x4 xs0 arg8 harg8 hc0
  · exact p1_4 c i arg3 harg3 arg4 harg4 arg5 harg5 arg6 harg6 arg7 harg7 arg9 harg9 x0 x1 x2 x3 x4 xs0 arg8 harg8 hc0
  · exact p1_3 c i arg3 harg3 arg4 harg4 arg5 harg5 arg6 harg6 arg7 harg7 arg9 harg9 x0 x1 x2 x3 x4 xs0 arg8 harg8 hc0
  · exact p1_2 c i arg3 harg3 arg4 harg4 arg5 harg5 arg6 harg6 arg7 harg7 arg9 harg9 x0 x1 x2 x3 x4 xs0 arg8 harg8 hc0
  · exact p1_1 c i arg3 harg3 arg4 harg4 arg5 harg5 arg6 harg6 arg7 harg7 arg9 harg9 x0 x1 x2 x3 x4 xs0 arg8 harg8 hc0
  · exact p1_0 c i arg3 harg3 arg4 harg4 arg5 harg5 arg6 harg6 arg7 harg7 arg9 harg9 x0 x1 x2 x3 x4 xs0 arg8 harg8 hc0
  · exact p0_15 c i arg3 harg3 arg4 harg4 arg5 harg5 arg6 harg6 arg7 harg7 arg9 harg9 x0 x1 x2 x3 x4 xs0 arg8 harg8 hc0
  · exact p0_14 c i arg3 harg3 arg4 harg4 arg5 harg5 arg6 harg6 arg7 harg7 arg9 harg9 x0 x1 x2 x3 x4 xs0 arg8 harg8 hc0
  · exact p0_13 c i arg3 harg3 arg4 harg4 arg5 harg5 arg6 harg6 arg7 harg7 arg9 harg9 x0 x1 x2 x3 x4 xs0 arg8 harg8 hc0
  · exact p0_12 c i arg3 harg3 arg4 harg4 arg5 harg5 arg6 harg6 arg7 harg7 arg9 harg9 x0 x1 x2 x3 x4 xs0 arg8 harg8 hc0
  · exact p0_11 c i arg3 harg3 arg4 harg4 arg5 harg5 arg6 harg6 arg7 harg7 arg9 harg9 x0 x1 x2 x3 x4 xs0 arg8 harg8 hc0
  · exact p0_10 c i arg3 harg3 arg4 harg4 arg5 harg5 arg6 harg6 arg7 harg7 arg9 harg9 x0 x1 x2 x3 x4 xs0 arg8 harg8 hc0
  · exact p0_9 c i arg3 harg3 arg4 harg4 arg5 harg5 arg6 harg6 arg7 harg7 arg9 harg9 x0 x1 x2 x3 x4 xs0 arg8 harg8 hc0
  · exact p0_8 c i arg3 harg3 arg4 harg4 arg5 harg5 arg6 harg6 arg7 harg7 arg9 harg9 x0 x1 x2 x3 x4 xs0 arg8 harg8 hc0
  · exact p0_7 c i arg3 harg3 arg4 harg4 arg5 harg5 arg6 harg6 arg7 harg7 arg9 harg9 x0 x1 x2 x3 x4 xs0 arg8 harg8 hc0
  · exact p0_6 c i arg3 harg3 arg4 harg4 arg5 harg5 arg6 harg6 arg7 harg7 arg9 harg9 x0 x1 x2 x3 x4 xs0 arg8 harg8 hc0
  · exact p0_5 c i arg3 harg3 arg4 harg4 arg5 harg5 arg6 harg6 arg7 harg7 arg9 harg9 x0 x1 x2 x3 x4 xs0 arg8 harg8 hc0
  · exact p0_4 c i arg3 harg3 arg4 harg4 arg5 harg5 arg6 harg6 arg7 harg7 arg9 harg9 x0 x1 x2 x3 x4 xs0 arg8 harg8 hc0
  · exact p0_3 c i arg3 harg3 arg4 harg4 arg5 harg5 arg6 harg6 arg7 harg7 arg9 harg9 x0 x1 x2 x3 x4 xs0 arg8 harg8 hc0
  · exact p0_2 c i arg3 harg3 arg4 harg4 arg5 harg5 arg6 harg6 arg7 harg7 arg9 harg9 x0 x1 x2 x3 x4 xs0 arg8 harg8 hc0
  · exact p0_1 c i arg3 harg3 arg4 harg4 arg5 harg5 arg6 harg6 arg7 harg7 arg9 harg9 x0 x1 x2 x3 x4 xs0 arg8 harg8 hc0
  · exact p0_0 c i arg3 harg3 arg4 harg4 arg5 harg5 arg6 harg6 arg7 harg7 arg9 harg9 x0 x1 x2 x3 x4 xs0 arg8 harg8 hc0

/-- What the point leaves in the output's block. -/
theorem out_eq : out0_B_5 (F := Ideal) c i arg3 harg3 arg4 harg4 arg5 harg5 arg6 harg6 arg7 harg7 arg8 harg8 arg9 harg9 hc0 x0 x1 x2 x3 x4 xs0 = pointOut x0 x1 x2 x3 x4 (grp i) (fun h d e => xs0 (ix3 h d e)) := by
  unfold out0_B_5
  rw [View.read_writes_junk_eq_canon]
  funext y
  exact View.canon_apply_of_pieces _ _ (pieces c i arg3 harg3 arg4 harg4 arg5 harg5 arg6 harg6 arg7 harg7 arg9 harg9 x0 x1 x2 x3 x4 xs0 arg8 harg8 hc0) y (cover0_B_5 (F := Ideal) c i arg3 harg3 arg4 harg4 arg5 harg5 arg6 harg6 arg7 harg7 arg8 harg8 arg9 harg9 hc0 x0 x1 x2 x3 x4 xs0 y)

/-- Head 0's state after the point. -/
theorem s4_0 (d e : Fin 128) : sout0_B_0 (F := Ideal) c i arg3 harg3 arg4 harg4 arg5 harg5 arg6 harg6 arg7 harg7 arg8 harg8 arg9 harg9 hc0 x0 x1 x2 x3 x4 xs0 (ix3 0 d e) = chain x0 x3 x4 (grp i) (fun h d e => xs0 (ix3 h d e)) 0 4 d e := by
  unfold sout0_B_0
  rw [View.read_writes_junk_eq_canon, canon_head _ 0 0 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 15 rw [View.readCov_skip _ _ _ _ _ (by decide)]
  rw [View.readCov_cons_toLoadRect]
  exact state_next harg3 harg6 harg7 x0 x3 x4 i 0 3 rfl rfl rfl rfl rfl (s3_0 c i arg3 harg3 arg5 harg5 arg6 harg6 arg7 harg7 arg9 harg9 x0 x2 x3 x4 xs0) rfl d e (s := fun h d e => xs0 (ix3 h d e))

/-- Head 1's state after the point. -/
theorem s4_1 (d e : Fin 128) : sout0_B_0 (F := Ideal) c i arg3 harg3 arg4 harg4 arg5 harg5 arg6 harg6 arg7 harg7 arg8 harg8 arg9 harg9 hc0 x0 x1 x2 x3 x4 xs0 (ix3 1 d e) = chain x0 x3 x4 (grp i) (fun h d e => xs0 (ix3 h d e)) 1 4 d e := by
  unfold sout0_B_0
  rw [View.read_writes_junk_eq_canon, canon_head _ 1 1 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 14 rw [View.readCov_skip _ _ _ _ _ (by decide)]
  rw [View.readCov_cons_toLoadRect]
  exact state_next harg3 harg6 harg7 x0 x3 x4 i 1 3 rfl rfl rfl rfl rfl (s3_1 c i arg3 harg3 arg5 harg5 arg6 harg6 arg7 harg7 arg9 harg9 x0 x2 x3 x4 xs0) rfl d e (s := fun h d e => xs0 (ix3 h d e))

/-- Head 2's state after the point. -/
theorem s4_2 (d e : Fin 128) : sout0_B_0 (F := Ideal) c i arg3 harg3 arg4 harg4 arg5 harg5 arg6 harg6 arg7 harg7 arg8 harg8 arg9 harg9 hc0 x0 x1 x2 x3 x4 xs0 (ix3 2 d e) = chain x0 x3 x4 (grp i) (fun h d e => xs0 (ix3 h d e)) 2 4 d e := by
  unfold sout0_B_0
  rw [View.read_writes_junk_eq_canon, canon_head _ 2 2 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 13 rw [View.readCov_skip _ _ _ _ _ (by decide)]
  rw [View.readCov_cons_toLoadRect]
  exact state_next harg3 harg6 harg7 x0 x3 x4 i 2 3 rfl rfl rfl rfl rfl (s3_2 c i arg3 harg3 arg5 harg5 arg6 harg6 arg7 harg7 arg9 harg9 x0 x2 x3 x4 xs0) rfl d e (s := fun h d e => xs0 (ix3 h d e))

/-- Head 3's state after the point. -/
theorem s4_3 (d e : Fin 128) : sout0_B_0 (F := Ideal) c i arg3 harg3 arg4 harg4 arg5 harg5 arg6 harg6 arg7 harg7 arg8 harg8 arg9 harg9 hc0 x0 x1 x2 x3 x4 xs0 (ix3 3 d e) = chain x0 x3 x4 (grp i) (fun h d e => xs0 (ix3 h d e)) 3 4 d e := by
  unfold sout0_B_0
  rw [View.read_writes_junk_eq_canon, canon_head _ 3 3 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 12 rw [View.readCov_skip _ _ _ _ _ (by decide)]
  rw [View.readCov_cons_toLoadRect]
  exact state_next harg3 harg6 harg7 x0 x3 x4 i 3 3 rfl rfl rfl rfl rfl (s3_3 c i arg3 harg3 arg5 harg5 arg6 harg6 arg7 harg7 arg9 harg9 x0 x2 x3 x4 xs0) rfl d e (s := fun h d e => xs0 (ix3 h d e))

/-- Head 4's state after the point. -/
theorem s4_4 (d e : Fin 128) : sout0_B_0 (F := Ideal) c i arg3 harg3 arg4 harg4 arg5 harg5 arg6 harg6 arg7 harg7 arg8 harg8 arg9 harg9 hc0 x0 x1 x2 x3 x4 xs0 (ix3 4 d e) = chain x0 x3 x4 (grp i) (fun h d e => xs0 (ix3 h d e)) 4 4 d e := by
  unfold sout0_B_0
  rw [View.read_writes_junk_eq_canon, canon_head _ 4 4 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 11 rw [View.readCov_skip _ _ _ _ _ (by decide)]
  rw [View.readCov_cons_toLoadRect]
  exact state_next harg3 harg6 harg7 x0 x3 x4 i 4 3 rfl rfl rfl rfl rfl (s3_4 c i arg3 harg3 arg5 harg5 arg6 harg6 arg7 harg7 arg9 harg9 x0 x2 x3 x4 xs0) rfl d e (s := fun h d e => xs0 (ix3 h d e))

/-- Head 5's state after the point. -/
theorem s4_5 (d e : Fin 128) : sout0_B_0 (F := Ideal) c i arg3 harg3 arg4 harg4 arg5 harg5 arg6 harg6 arg7 harg7 arg8 harg8 arg9 harg9 hc0 x0 x1 x2 x3 x4 xs0 (ix3 5 d e) = chain x0 x3 x4 (grp i) (fun h d e => xs0 (ix3 h d e)) 5 4 d e := by
  unfold sout0_B_0
  rw [View.read_writes_junk_eq_canon, canon_head _ 5 5 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 10 rw [View.readCov_skip _ _ _ _ _ (by decide)]
  rw [View.readCov_cons_toLoadRect]
  exact state_next harg3 harg6 harg7 x0 x3 x4 i 5 3 rfl rfl rfl rfl rfl (s3_5 c i arg3 harg3 arg5 harg5 arg6 harg6 arg7 harg7 arg9 harg9 x0 x2 x3 x4 xs0) rfl d e (s := fun h d e => xs0 (ix3 h d e))

/-- Head 6's state after the point. -/
theorem s4_6 (d e : Fin 128) : sout0_B_0 (F := Ideal) c i arg3 harg3 arg4 harg4 arg5 harg5 arg6 harg6 arg7 harg7 arg8 harg8 arg9 harg9 hc0 x0 x1 x2 x3 x4 xs0 (ix3 6 d e) = chain x0 x3 x4 (grp i) (fun h d e => xs0 (ix3 h d e)) 6 4 d e := by
  unfold sout0_B_0
  rw [View.read_writes_junk_eq_canon, canon_head _ 6 6 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 9 rw [View.readCov_skip _ _ _ _ _ (by decide)]
  rw [View.readCov_cons_toLoadRect]
  exact state_next harg3 harg6 harg7 x0 x3 x4 i 6 3 rfl rfl rfl rfl rfl (s3_6 c i arg3 harg3 arg5 harg5 arg6 harg6 arg7 harg7 arg9 harg9 x0 x2 x3 x4 xs0) rfl d e (s := fun h d e => xs0 (ix3 h d e))

/-- Head 7's state after the point. -/
theorem s4_7 (d e : Fin 128) : sout0_B_0 (F := Ideal) c i arg3 harg3 arg4 harg4 arg5 harg5 arg6 harg6 arg7 harg7 arg8 harg8 arg9 harg9 hc0 x0 x1 x2 x3 x4 xs0 (ix3 7 d e) = chain x0 x3 x4 (grp i) (fun h d e => xs0 (ix3 h d e)) 7 4 d e := by
  unfold sout0_B_0
  rw [View.read_writes_junk_eq_canon, canon_head _ 7 7 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: ⟨_, _⟩ :: _) _ _ = _
  iterate 8 rw [View.readCov_skip _ _ _ _ _ (by decide)]
  rw [View.readCov_cons_toLoadRect]
  exact state_next harg3 harg6 harg7 x0 x3 x4 i 7 3 rfl rfl rfl rfl rfl (s3_7 c i arg3 harg3 arg5 harg5 arg6 harg6 arg7 harg7 arg9 harg9 x0 x2 x3 x4 xs0) rfl d e (s := fun h d e => xs0 (ix3 h d e))

/-- Head 8's state after the point. -/
theorem s4_8 (d e : Fin 128) : sout0_B_0 (F := Ideal) c i arg3 harg3 arg4 harg4 arg5 harg5 arg6 harg6 arg7 harg7 arg8 harg8 arg9 harg9 hc0 x0 x1 x2 x3 x4 xs0 (ix3 8 d e) = chain x0 x3 x4 (grp i) (fun h d e => xs0 (ix3 h d e)) 8 4 d e := by
  unfold sout0_B_0
  rw [View.read_writes_junk_eq_canon, canon_head _ 8 8 rfl (by decide)]
  show View.readCov VS0_0 (⟨_, _⟩ :: ⟨_, _⟩ :: ⟨_, _⟩ :: ⟨_, _⟩ :: ⟨_, _⟩ :: ⟨_, _⟩ :: ⟨_, _⟩ :: ⟨_, _⟩ :: _) _ _ = _
  iterate 7 rw [View.readCov_skip _ _ _ _ _ (by decide)]
  rw [View.readCov_cons_toLoadRect]
  exact state_next harg3 harg6 harg7 x0 x3 x4 i 8 3 rfl rfl rfl rfl rfl (s3_8 c i arg3 harg3 arg5 harg5 arg6 harg6 arg7 harg7 arg9 harg9 x0 x2 x3 x4 xs0) rfl d e (s := fun h d e => xs0 (ix3 h d e))

/-- Head 9's state after the point. -/
theorem s4_9 (d e : Fin 128) : sout0_B_0 (F := Ideal) c i arg3 harg3 arg4 harg4 arg5 harg5 arg6 harg6 arg7 harg7 arg8 harg8 arg9 harg9 hc0 x0 x1 x2 x3 x4 xs0 (ix3 9 d e) = chain x0 x3 x4 (grp i) (fun h d e => xs0 (ix3 h d e)) 9 4 d e := by
  unfold sout0_B_0
  rw [View.read_writes_junk_eq_canon, canon_head _ 9 9 rfl (by decide)]
  show View.readCov VS0_0 (⟨_, _⟩ :: ⟨_, _⟩ :: ⟨_, _⟩ :: ⟨_, _⟩ :: ⟨_, _⟩ :: ⟨_, _⟩ :: ⟨_, _⟩ :: _) _ _ = _
  iterate 6 rw [View.readCov_skip _ _ _ _ _ (by decide)]
  rw [View.readCov_cons_toLoadRect]
  exact state_next harg3 harg6 harg7 x0 x3 x4 i 9 3 rfl rfl rfl rfl rfl (s3_9 c i arg3 harg3 arg5 harg5 arg6 harg6 arg7 harg7 arg9 harg9 x0 x2 x3 x4 xs0) rfl d e (s := fun h d e => xs0 (ix3 h d e))

/-- Head 10's state after the point. -/
theorem s4_10 (d e : Fin 128) : sout0_B_0 (F := Ideal) c i arg3 harg3 arg4 harg4 arg5 harg5 arg6 harg6 arg7 harg7 arg8 harg8 arg9 harg9 hc0 x0 x1 x2 x3 x4 xs0 (ix3 10 d e) = chain x0 x3 x4 (grp i) (fun h d e => xs0 (ix3 h d e)) 10 4 d e := by
  unfold sout0_B_0
  rw [View.read_writes_junk_eq_canon, canon_head _ 10 10 rfl (by decide)]
  show View.readCov VS0_0 (⟨_, _⟩ :: ⟨_, _⟩ :: ⟨_, _⟩ :: ⟨_, _⟩ :: ⟨_, _⟩ :: ⟨_, _⟩ :: _) _ _ = _
  iterate 5 rw [View.readCov_skip _ _ _ _ _ (by decide)]
  rw [View.readCov_cons_toLoadRect]
  exact state_next harg3 harg6 harg7 x0 x3 x4 i 10 3 rfl rfl rfl rfl rfl (s3_10 c i arg3 harg3 arg5 harg5 arg6 harg6 arg7 harg7 arg9 harg9 x0 x2 x3 x4 xs0) rfl d e (s := fun h d e => xs0 (ix3 h d e))

/-- Head 11's state after the point. -/
theorem s4_11 (d e : Fin 128) : sout0_B_0 (F := Ideal) c i arg3 harg3 arg4 harg4 arg5 harg5 arg6 harg6 arg7 harg7 arg8 harg8 arg9 harg9 hc0 x0 x1 x2 x3 x4 xs0 (ix3 11 d e) = chain x0 x3 x4 (grp i) (fun h d e => xs0 (ix3 h d e)) 11 4 d e := by
  unfold sout0_B_0
  rw [View.read_writes_junk_eq_canon, canon_head _ 11 11 rfl (by decide)]
  show View.readCov VS0_0 (⟨_, _⟩ :: ⟨_, _⟩ :: ⟨_, _⟩ :: ⟨_, _⟩ :: ⟨_, _⟩ :: _) _ _ = _
  iterate 4 rw [View.readCov_skip _ _ _ _ _ (by decide)]
  rw [View.readCov_cons_toLoadRect]
  exact state_next harg3 harg6 harg7 x0 x3 x4 i 11 3 rfl rfl rfl rfl rfl (s3_11 c i arg3 harg3 arg5 harg5 arg6 harg6 arg7 harg7 arg9 harg9 x0 x2 x3 x4 xs0) rfl d e (s := fun h d e => xs0 (ix3 h d e))

/-- Head 12's state after the point. -/
theorem s4_12 (d e : Fin 128) : sout0_B_0 (F := Ideal) c i arg3 harg3 arg4 harg4 arg5 harg5 arg6 harg6 arg7 harg7 arg8 harg8 arg9 harg9 hc0 x0 x1 x2 x3 x4 xs0 (ix3 12 d e) = chain x0 x3 x4 (grp i) (fun h d e => xs0 (ix3 h d e)) 12 4 d e := by
  unfold sout0_B_0
  rw [View.read_writes_junk_eq_canon, canon_head _ 12 12 rfl (by decide)]
  show View.readCov VS0_0 (⟨_, _⟩ :: ⟨_, _⟩ :: ⟨_, _⟩ :: ⟨_, _⟩ :: _) _ _ = _
  iterate 3 rw [View.readCov_skip _ _ _ _ _ (by decide)]
  rw [View.readCov_cons_toLoadRect]
  exact state_next harg3 harg6 harg7 x0 x3 x4 i 12 3 rfl rfl rfl rfl rfl (s3_12 c i arg3 harg3 arg5 harg5 arg6 harg6 arg7 harg7 arg9 harg9 x0 x2 x3 x4 xs0) rfl d e (s := fun h d e => xs0 (ix3 h d e))

/-- Head 13's state after the point. -/
theorem s4_13 (d e : Fin 128) : sout0_B_0 (F := Ideal) c i arg3 harg3 arg4 harg4 arg5 harg5 arg6 harg6 arg7 harg7 arg8 harg8 arg9 harg9 hc0 x0 x1 x2 x3 x4 xs0 (ix3 13 d e) = chain x0 x3 x4 (grp i) (fun h d e => xs0 (ix3 h d e)) 13 4 d e := by
  unfold sout0_B_0
  rw [View.read_writes_junk_eq_canon, canon_head _ 13 13 rfl (by decide)]
  show View.readCov VS0_0 (⟨_, _⟩ :: ⟨_, _⟩ :: ⟨_, _⟩ :: _) _ _ = _
  iterate 2 rw [View.readCov_skip _ _ _ _ _ (by decide)]
  rw [View.readCov_cons_toLoadRect]
  exact state_next harg3 harg6 harg7 x0 x3 x4 i 13 3 rfl rfl rfl rfl rfl (s3_13 c i arg3 harg3 arg5 harg5 arg6 harg6 arg7 harg7 arg9 harg9 x0 x2 x3 x4 xs0) rfl d e (s := fun h d e => xs0 (ix3 h d e))

/-- Head 14's state after the point. -/
theorem s4_14 (d e : Fin 128) : sout0_B_0 (F := Ideal) c i arg3 harg3 arg4 harg4 arg5 harg5 arg6 harg6 arg7 harg7 arg8 harg8 arg9 harg9 hc0 x0 x1 x2 x3 x4 xs0 (ix3 14 d e) = chain x0 x3 x4 (grp i) (fun h d e => xs0 (ix3 h d e)) 14 4 d e := by
  unfold sout0_B_0
  rw [View.read_writes_junk_eq_canon, canon_head _ 14 14 rfl (by decide)]
  show View.readCov VS0_0 (⟨_, _⟩ :: ⟨_, _⟩ :: _) _ _ = _
  iterate 1 rw [View.readCov_skip _ _ _ _ _ (by decide)]
  rw [View.readCov_cons_toLoadRect]
  exact state_next harg3 harg6 harg7 x0 x3 x4 i 14 3 rfl rfl rfl rfl rfl (s3_14 c i arg3 harg3 arg5 harg5 arg6 harg6 arg7 harg7 arg9 harg9 x0 x2 x3 x4 xs0) rfl d e (s := fun h d e => xs0 (ix3 h d e))

/-- Head 15's state after the point. -/
theorem s4_15 (d e : Fin 128) : sout0_B_0 (F := Ideal) c i arg3 harg3 arg4 harg4 arg5 harg5 arg6 harg6 arg7 harg7 arg8 harg8 arg9 harg9 hc0 x0 x1 x2 x3 x4 xs0 (ix3 15 d e) = chain x0 x3 x4 (grp i) (fun h d e => xs0 (ix3 h d e)) 15 4 d e := by
  unfold sout0_B_0
  rw [View.read_writes_junk_eq_canon, canon_head _ 15 15 rfl (by decide)]
  show View.readCov VS0_0 (⟨_, _⟩ :: _) _ _ = _
  rw [View.readCov_cons_toLoadRect]
  exact state_next harg3 harg6 harg7 x0 x3 x4 i 15 3 rfl rfl rfl rfl rfl (s3_15 c i arg3 harg3 arg5 harg5 arg6 harg6 arg7 harg7 arg9 harg9 x0 x2 x3 x4 xs0) rfl d e (s := fun h d e => xs0 (ix3 h d e))

/-- What the point leaves in the carried state. -/
theorem state_eq (h : Fin 16) (d e : Fin 128) : sout0_B_0 (F := Ideal) c i arg3 harg3 arg4 harg4 arg5 harg5 arg6 harg6 arg7 harg7 arg8 harg8 arg9 harg9 hc0 x0 x1 x2 x3 x4 xs0 (ix3 h d e) = chain x0 x3 x4 (grp i) (fun h d e => xs0 (ix3 h d e)) h 4 d e := by
  fin_cases h
  · exact s4_0 c i arg3 harg3 arg4 harg4 arg5 harg5 arg6 harg6 arg7 harg7 arg9 harg9 x0 x1 x2 x3 x4 xs0 arg8 harg8 hc0 d e
  · exact s4_1 c i arg3 harg3 arg4 harg4 arg5 harg5 arg6 harg6 arg7 harg7 arg9 harg9 x0 x1 x2 x3 x4 xs0 arg8 harg8 hc0 d e
  · exact s4_2 c i arg3 harg3 arg4 harg4 arg5 harg5 arg6 harg6 arg7 harg7 arg9 harg9 x0 x1 x2 x3 x4 xs0 arg8 harg8 hc0 d e
  · exact s4_3 c i arg3 harg3 arg4 harg4 arg5 harg5 arg6 harg6 arg7 harg7 arg9 harg9 x0 x1 x2 x3 x4 xs0 arg8 harg8 hc0 d e
  · exact s4_4 c i arg3 harg3 arg4 harg4 arg5 harg5 arg6 harg6 arg7 harg7 arg9 harg9 x0 x1 x2 x3 x4 xs0 arg8 harg8 hc0 d e
  · exact s4_5 c i arg3 harg3 arg4 harg4 arg5 harg5 arg6 harg6 arg7 harg7 arg9 harg9 x0 x1 x2 x3 x4 xs0 arg8 harg8 hc0 d e
  · exact s4_6 c i arg3 harg3 arg4 harg4 arg5 harg5 arg6 harg6 arg7 harg7 arg9 harg9 x0 x1 x2 x3 x4 xs0 arg8 harg8 hc0 d e
  · exact s4_7 c i arg3 harg3 arg4 harg4 arg5 harg5 arg6 harg6 arg7 harg7 arg9 harg9 x0 x1 x2 x3 x4 xs0 arg8 harg8 hc0 d e
  · exact s4_8 c i arg3 harg3 arg4 harg4 arg5 harg5 arg6 harg6 arg7 harg7 arg9 harg9 x0 x1 x2 x3 x4 xs0 arg8 harg8 hc0 d e
  · exact s4_9 c i arg3 harg3 arg4 harg4 arg5 harg5 arg6 harg6 arg7 harg7 arg9 harg9 x0 x1 x2 x3 x4 xs0 arg8 harg8 hc0 d e
  · exact s4_10 c i arg3 harg3 arg4 harg4 arg5 harg5 arg6 harg6 arg7 harg7 arg9 harg9 x0 x1 x2 x3 x4 xs0 arg8 harg8 hc0 d e
  · exact s4_11 c i arg3 harg3 arg4 harg4 arg5 harg5 arg6 harg6 arg7 harg7 arg9 harg9 x0 x1 x2 x3 x4 xs0 arg8 harg8 hc0 d e
  · exact s4_12 c i arg3 harg3 arg4 harg4 arg5 harg5 arg6 harg6 arg7 harg7 arg9 harg9 x0 x1 x2 x3 x4 xs0 arg8 harg8 hc0 d e
  · exact s4_13 c i arg3 harg3 arg4 harg4 arg5 harg5 arg6 harg6 arg7 harg7 arg9 harg9 x0 x1 x2 x3 x4 xs0 arg8 harg8 hc0 d e
  · exact s4_14 c i arg3 harg3 arg4 harg4 arg5 harg5 arg6 harg6 arg7 harg7 arg9 harg9 x0 x1 x2 x3 x4 xs0 arg8 harg8 hc0 d e
  · exact s4_15 c i arg3 harg3 arg4 harg4 arg5 harg5 arg6 harg6 arg7 harg7 arg9 harg9 x0 x1 x2 x3 x4 xs0 arg8 harg8 hc0 d e

end Cert.Rule.Later

end
-- ==== Proof.RuleFinal.lean ====
module

public import proofs.«01_k».proof.Proof.RuleEntry
public import proofs.«01_k».proof.Proof.RuleFirst
public import proofs.«01_k».proof.Proof.RuleLater
public import proofs.«01_k».proof.Proof.Gen.DeltaIdeal.Value

/-! The grid of the delta rule's scan: along the 33 points of a batch and head group the carried state is the recurrence's,
so the output array is the recurrence's. -/

@[expose] public section

set_option maxRecDepth 16384

noncomputable section

namespace Cert.Rule

open Idealize.ShloMosaic Idealize.ShloMosaic.TcCoe Idealize.SL.Sem
open Cert.DeltaIdeal Cert.DeltaIdeal.Gen

variable (m : (ℓ : Loc nD τ sig) → Buf (Elt Ideal) ℓ) (c : Dev nD)

/-- The recurrence's state of the arrays the launch finds. -/
abbrev stateM := stateG (uw m c) (qkv m c) (gc m c)

/-- The recurrence's output of the arrays the launch finds. -/
abbrev outM := outG (uw m c) (kd m c) (qkv m c) (gc m c)

/-- Within a grid point the heads' states are the recurrence's, when they are before its first chunk. -/
theorem chain_eq (t : Fin cfg0.N) (h : Fin 16) (s : Fin 16 → Fin 128 → Fin 128 → EReal)
    (hs : s h = stateM m c (bat t) (head t h) (4 * (t.val % 33))) :
    ∀ k ≤ 4, chain (iblk m c 0 t) (iblk m c 3 t) (iblk m c 4 t) (grp (grid0.coords t)) s h k = stateM m c (bat t) (head t h) (4 * (t.val % 33) + k)
  | 0, _ => hs
  | k + 1, hk => by
    have e : (Fin.ofNat 132 (4 * (t.val % 33) + k)) = chk t (Fin.ofNat 4 k) := by
      apply Fin.ext
      show (4 * (t.val % 33) + k) % 132 = 4 * (t.val % 33) + k % 4
      omega
    rw [← Nat.add_assoc]
    show chunkState _ _ _ _ (chain _ _ _ _ s h k) = chunkState _ _ _ _ (stateG _ _ _ _ (head t h) (4 * (t.val % 33) + k))
    rw [chain_eq t h s hs k (by omega), u_in, w_in, k_in, g_in, e]

set_option maxHeartbeats 2000000 in
/-- What a first point leaves in its output block. -/
theorem out_first (t : Fin cfg0.N) (h0 : t.val % 33 = 0) :
    (outsAt0 m c t.val t.isLt).1 = pointOut (iblk m c 0 t) (iblk m c 1 t) (iblk m c 2 t) (iblk m c 3 t) (iblk m c 4 t) (grp (grid0.coords t)) (fun _ _ _ => 0) := by
  rw [outsAt0_A m c t h0]
  exact First.out_eq c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) (iblk m c 4 t) (ms0_5 t) (hs0_5 t) ((hcond0_0 t).mpr h0)

set_option maxHeartbeats 2000000 in
/-- What a later point leaves in its output block. -/
theorem out_later (t : Fin cfg0.N) (h0 : ¬ t.val % 33 = 0) :
    (outsAt0 m c t.val t.isLt).1 = pointOut (iblk m c 0 t) (iblk m c 1 t) (iblk m c 2 t) (iblk m c 3 t) (iblk m c 4 t) (grp (grid0.coords t))
      (fun h d e => (outsAt0 m c (t.val - 1) (Nat.lt_of_le_of_lt (Nat.sub_le _ _) t.isLt)).2 (ix3 h d e)) := by
  rw [outsAt0_B m c t h0]
  exact Later.out_eq c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) (iblk m c 4 t) (outsAt0 m c (t.val - 1) (Nat.lt_of_le_of_lt (Nat.sub_le _ _) t.isLt)).2
    (ms0_5 t) (hs0_5 t) (fun h => h0 ((hcond0_0 t).mp h))

set_option maxHeartbeats 2000000 in
/-- What a first point leaves in the carried state. -/
theorem state_first (t : Fin cfg0.N) (h0 : t.val % 33 = 0) (h : Fin 16) (d e : Fin 128) :
    (outsAt0 m c t.val t.isLt).2 (ix3 h d e) = chain (iblk m c 0 t) (iblk m c 3 t) (iblk m c 4 t) (grp (grid0.coords t)) (fun _ _ _ => 0) h 4 d e := by
  rw [outsAt0_A m c t h0]
  exact First.state_eq c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) (iblk m c 4 t) (ms0_5 t) (hs0_5 t) ((hcond0_0 t).mpr h0) h d e

set_option maxHeartbeats 2000000 in
/-- What a later point leaves in the carried state. -/
theorem state_later (t : Fin cfg0.N) (h0 : ¬ t.val % 33 = 0) (h : Fin 16) (d e : Fin 128) :
    (outsAt0 m c t.val t.isLt).2 (ix3 h d e) = chain (iblk m c 0 t) (iblk m c 3 t) (iblk m c 4 t) (grp (grid0.coords t))
      (fun h d e => (outsAt0 m c (t.val - 1) (Nat.lt_of_le_of_lt (Nat.sub_le _ _) t.isLt)).2 (ix3 h d e)) h 4 d e := by
  rw [outsAt0_B m c t h0]
  exact Later.state_eq c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) (iblk m c 4 t) (outsAt0 m c (t.val - 1) (Nat.lt_of_le_of_lt (Nat.sub_le _ _) t.isLt)).2
    (ms0_5 t) (hs0_5 t) (fun h => h0 ((hcond0_0 t).mp h)) h d e

/-- After a grid point the carried state is the recurrence's after the point's four chunks. -/
theorem carried : ∀ (n : ℕ) (hn : n < cfg0.N) (h : Fin 16) (d e : Fin 128),
    (outsAt0 m c n hn).2 (ix3 h d e) = stateM m c (bat ⟨n, hn⟩) (head ⟨n, hn⟩ h) (4 * (n % 33) + 4) d e := by
  intro n
  induction n with
  | zero =>
    intro hn h d e
    refine (state_first m c ⟨0, hn⟩ rfl h d e).trans ?_
    rw [chain_eq m c ⟨0, hn⟩ h _ rfl 4 le_rfl]
  | succ n ih =>
    intro hn h d e
    by_cases h0 : (n + 1) % 33 = 0
    · refine (state_first m c ⟨n + 1, hn⟩ h0 h d e).trans ?_
      rw [chain_eq m c ⟨n + 1, hn⟩ h _ (by rw [show (⟨n + 1, hn⟩ : Fin cfg0.N).val = n + 1 from rfl, h0]; rfl) 4 le_rfl]
    · refine (state_later m c ⟨n + 1, hn⟩ h0 h d e).trans ?_
      rw [chain_eq m c ⟨n + 1, hn⟩ h _ ?_ 4 le_rfl]
      funext d e
      refine (ih (Nat.lt_of_succ_lt hn) h d e).trans ?_
      rw [show bat ⟨n, Nat.lt_of_succ_lt hn⟩ = bat ⟨n + 1, hn⟩ from Fin.ext (by show n / 66 = (n + 1) / 66; omega),
        show head ⟨n, Nat.lt_of_succ_lt hn⟩ h = head ⟨n + 1, hn⟩ h from Fin.ext (by show 16 * (n / 33 % 2) + h.val = 16 * ((n + 1) / 33 % 2) + h.val; omega),
        show 4 * (n % 33) + 4 = 4 * ((n + 1) % 33) from by omega]

/-- What a point leaves in its output block, when its heads' states are the recurrence's. -/
theorem block_eq (t : Fin cfg0.N) (s : Fin 16 → Fin 128 → Fin 128 → EReal)
    (hs : ∀ h, s h = stateM m c (bat t) (head t h) (4 * (t.val % 33))) (r : Fin 256) (l : Fin 2048) :
    pointOut (iblk m c 0 t) (iblk m c 1 t) (iblk m c 2 t) (iblk m c 3 t) (iblk m c 4 t) (grp (grid0.coords t)) s (ix3 0 r l)
      = outM m c (bat t) ⟨256 * (t.val % 33) + r.val, by omega⟩ ⟨2048 * (t.val / 33 % 2) + l.val, by omega⟩ := by
  have e : (⟨(256 * (t.val % 33) + r.val) / 64, by omega⟩ : Fin 132) = chk t ⟨r.val / 64, by omega⟩ := Fin.ext (by show (256 * (t.val % 33) + r.val) / 64 = 4 * (t.val % 33) + r.val / 64; omega)
  have e' : (⟨(256 * (t.val % 33) + r.val) % 64, by omega⟩ : Fin 64) = ⟨r.val % 64, by omega⟩ := Fin.ext (by show (256 * (t.val % 33) + r.val) % 64 = r.val % 64; omega)
  have e2 : (⟨(2048 * (t.val / 33 % 2) + l.val) / 128, by omega⟩ : Fin 32) = head t ⟨l.val / 128, by omega⟩ := Fin.ext (by show (2048 * (t.val / 33 % 2) + l.val) / 128 = 16 * (t.val / 33 % 2) + l.val / 128; omega)
  have e3 : (⟨(2048 * (t.val / 33 % 2) + l.val) % 128, by omega⟩ : Fin 128) = ⟨l.val % 128, by omega⟩ := Fin.ext (by show (2048 * (t.val / 33 % 2) + l.val) % 128 = l.val % 128; omega)
  unfold outM outG outC
  rw [e, e', e2, e3]
  show chunkOut _ _ _ _ _ (chain _ _ _ _ s ⟨l.val / 128, _⟩ (r.val / 64)) _ _ = _
  rw [chain_eq m c t _ s (hs _) (r.val / 64) (by omega)]
  rw [← u_in, ← w_in, ← q_in, ← a_in, ← g_in]
  rfl

/-- The state a later point finds. -/
theorem found (t : Fin cfg0.N) (h0 : ¬ t.val % 33 = 0) (h : Fin 16) :
    (fun d e => (outsAt0 m c (t.val - 1) (Nat.lt_of_le_of_lt (Nat.sub_le _ _) t.isLt)).2 (ix3 h d e)) = stateM m c (bat t) (head t h) (4 * (t.val % 33)) := by
  funext d e
  rw [carried]
  rw [show bat ⟨t.val - 1, Nat.lt_of_le_of_lt (Nat.sub_le _ _) t.isLt⟩ = bat t from Fin.ext (by show (t.val - 1) / 66 = t.val / 66; omega),
    show head ⟨t.val - 1, Nat.lt_of_le_of_lt (Nat.sub_le _ _) t.isLt⟩ h = head t h from Fin.ext (by show 16 * ((t.val - 1) / 33 % 2) + h.val = 16 * (t.val / 33 % 2) + h.val; omega),
    show 4 * ((t.val - 1) % 33) + 4 = 4 * (t.val % 33) from by omega]

/-- What a point leaves in its output block. -/
theorem out_at (t : Fin cfg0.N) (r : Fin 256) (l : Fin 2048) :
    (outsAt0 m c t.val t.isLt).1 (ix3 0 r l) = outM m c (bat t) ⟨256 * (t.val % 33) + r.val, by omega⟩ ⟨2048 * (t.val / 33 % 2) + l.val, by omega⟩ := by
  by_cases h0 : t.val % 33 = 0
  · rw [out_first m c t h0]
    exact block_eq m c t _ (fun h => by rw [h0]; rfl) r l
  · rw [out_later m c t h0]
    exact block_eq m c t _ (found m c t h0) r l

/-- The recurrence's output, as an array. -/
def outW (y : S2x8448x4096.Idx) : EReal := outM m c (y 0) (y 1) (y 2)

/-- The kernel's output array is the recurrence's output. -/
theorem final : (dats m 0 c).arrAt 5 cfg0.N = outW m c := by
  refine (dats m 0 c).arrAt_eq_of_covers 5 _ (by decide +kernel) fun t _ y => ?_
  blk_simp
  rw [after0_5]
  obtain ⟨a, r, l, rfl⟩ : ∃ a r l, y = ix3 a r l := ⟨y 0, y 1, y 2, by funext k; fin_cases k <;> rfl⟩
  obtain rfl : a = 0 := Subsingleton.elim _ _
  refine (out_at m c t r l).trans ?_
  unfold outW
  obtain ⟨_, _, _, _, _, h5⟩ := idx t
  congr 1 <;> (apply Fin.ext; blk_simp [h5])
  · show t.val / 66 = t.val / 66 + 0
    rfl
  · show 256 * (t.val % 33) + r.val = t.val % 33 * 256 + r.val
    omega
  · show 2048 * (t.val / 33 % 2) + l.val = t.val / 33 % 2 * 2048 + l.val
    omega

end Cert.Rule

end
-- ==== Proof.RuleRef.lean ====
module

public import proofs.«01_k».proof.Proof.RuleWhole
public import proofs.«01_k».proof.Proof.Gen.DeltaRefIdeal.Step
public import Idealize.ShloMosaic.Lib.Pipeline.ValueKit

/-! The reference's arrays before its loop, read at an index: each head's chunks of values, keys, queries and attention,
the queries and keys with their decays. -/

@[expose] public section

set_option maxRecDepth 16384

noncomputable section

namespace Cert.RuleRef

open Idealize.ShloMosaic Idealize.ShloMosaic.TcCoe Idealize.SL.Sem
open Cert.DeltaRefIdeal Cert.DeltaRefIdeal.Step Cert.Rule

variable (a0 : FVec Ideal S2x8448x8192 .f32) (a1 : FVec Ideal S2x8448x2048 .f32) (a2 : FVec Ideal S2x8448x8192 .f32) (a3 : FVec Ideal S2x8448x128 .f32)

/-- The values and correcting keys by batch, row and column. -/
def UW (b : Fin 2) (r : Fin 8448) (l : Fin 8192) : EReal := a0 (ix3 b r l)

/-- The attention by batch, row and column. -/
def KD (b : Fin 2) (r : Fin 8448) (l : Fin 2048) : EReal := a1 (ix3 b r l)

/-- The queries, keys and values by batch, row and column. -/
def QKV (b : Fin 2) (r : Fin 8448) (l : Fin 8192) : EReal := a2 (ix3 b r l)

/-- The gate columns by batch, row and column. -/
def GC (b : Fin 2) (r : Fin 8448) (l : Fin 128) : EReal := a3 (ix3 b r l)

theorem u_at (n : Fin 132) (b : Fin 2) (h : Fin 32) (t : Fin 64) (e : Fin 128) :
    A_main_v39 (F := Ideal) a0 a1 a2 a3 (ix5 n b h t e) = uG (UW a0) b n h t e := by
  pointwise [A_main_v39, A_main_v15, A_main_v14, A_main_v13, A_main_v8, uG, UW]
  congr! 3 <;> omega

theorem w_at (n : Fin 132) (b : Fin 2) (h : Fin 32) (t : Fin 64) (e : Fin 128) :
    A_main_v40 (F := Ideal) a0 a1 a2 a3 (ix5 n b h t e) = wG (UW a0) b n h t e := by
  pointwise [A_main_v40, A_main_v18, A_main_v17, A_main_v16, A_main_v8, wG, UW]
  congr! 3 <;> omega

theorem att_at (n : Fin 132) (b : Fin 2) (h : Fin 32) (t s : Fin 64) :
    A_main_v41 (F := Ideal) a0 a1 a2 a3 (ix5 n b h t s) = aG (KD a1) b n h t s := by
  pointwise [A_main_v41, A_main_v21, A_main_v20, A_main_v19, aG, KD]
  congr! 3 <;> omega

theorem g_at (b : Fin 2) (h : Fin 32) (n : Fin 132) (t : Fin 64) :
    A_main_v24 (F := Ideal) a0 a1 a2 a3 (ix4 b h n t) = gG (GC a3) b n h t := by
  pointwise [A_main_v24, A_main_v23, A_main_v22, gG, GC]
  congr! 3 <;> omega

theorem q_at (b : Fin 2) (h : Fin 32) (n : Fin 132) (t : Fin 64) (d : Fin 128) :
    A_main_v10 (F := Ideal) a0 a1 a2 a3 (ix5 b h n t d) = qG (QKV a2) b n h t d := by
  pointwise [A_main_v10, A_main_v9, A_main_v3, A_main_v2, A_main_v1, A_main_v0, qG, QKV]
  congr! 3 <;> omega

theorem k_at (b : Fin 2) (h : Fin 32) (n : Fin 132) (t : Fin 64) (d : Fin 128) :
    A_main_v12 (F := Ideal) a0 a1 a2 a3 (ix5 b h n t d) = kG (QKV a2) b n h t d := by
  pointwise [A_main_v12, A_main_v11, A_main_v7, A_main_v6, A_main_v5, A_main_v4, kG, QKV]
  congr! 3 <;> omega

theorem query_at (n : Fin 132) (b : Fin 2) (h : Fin 32) (t : Fin 64) (d : Fin 128) :
    A_main_v42 (F := Ideal) a0 a1 a2 a3 (ix5 n b h t d) = qG (QKV a2) b n h t d * Ideal.exp (gG (GC a3) b n h t) := by
  pointwise [A_main_v42, A_main_v28, A_main_v27, A_main_v26, A_main_v25, g_at, q_at]

theorem key_at (n : Fin 132) (b : Fin 2) (h : Fin 32) (t : Fin 64) (d : Fin 128) :
    A_main_v43 (F := Ideal) a0 a1 a2 a3 (ix5 n b h t d)
      = kG (QKV a2) b n h t d * Ideal.exp (gG (GC a3) b n h ⟨63, by omega⟩ - gG (GC a3) b n h t) := by
  pointwise [A_main_v43, A_main_v35, A_main_v34, A_main_v33, A_main_v32, A_main_v31, A_main_v30, A_main_v29, g_at, k_at]

theorem last_at (n : Fin 132) (b : Fin 2) (h : Fin 32) :
    A_main_v44 (F := Ideal) a0 a1 a2 a3 (ix3 n b h) = Ideal.exp (gG (GC a3) b n h ⟨63, by omega⟩) := by
  pointwise [A_main_v44, A_main_v38, A_main_v37, A_main_v36, g_at]

/-- The sequence of the loop's states. -/
def it : ℕ → State Ideal
  | 0 => init (F := Ideal) a0 a1 a2 a3
  | n + 1 => step n (it n)

/-- The loop keeps the arrays it reads its trips' operands from. -/
theorem it_const (n : ℕ) : (it a0 a1 a2 a3 n).main_v47_0 = A_main_v39 a0 a1 a2 a3 ∧ (it a0 a1 a2 a3 n).main_v47_1 = A_main_v40 a0 a1 a2 a3
    ∧ (it a0 a1 a2 a3 n).main_v47_2 = A_main_v41 a0 a1 a2 a3 ∧ (it a0 a1 a2 a3 n).main_v47_3 = A_main_v42 a0 a1 a2 a3
    ∧ (it a0 a1 a2 a3 n).main_v47_4 = A_main_v43 a0 a1 a2 a3 ∧ (it a0 a1 a2 a3 n).main_v47_5 = A_main_v44 a0 a1 a2 a3 := by
  induction n with
  | zero => exact ⟨rfl, rfl, rfl, rfl, rfl, rfl⟩
  | succ n ih => exact ih

end Cert.RuleRef

end
-- ==== Proof.RuleLoop.lean ====
module

public import proofs.«01_k».proof.Proof.RuleRef
public import Idealize.ShloMosaic.Lib.DynamicIndex

/-! The reference's loop of the delta rule: each trip's new state and outputs, and the result it ends with. -/

@[expose] public section

set_option maxRecDepth 16384

noncomputable section

namespace Cert.RuleRef

open Idealize.ShloMosaic Idealize.ShloMosaic.TcCoe Idealize.SL.Sem
open Cert.DeltaRefIdeal Cert.DeltaRefIdeal.Step Cert.Rule

/-- A trip's number, read as the loop's counter. -/
theorem count (n : Fin 132) : (BitVec.ofNat 32 n.val).toInt = (n.val : Int) := toInt_ofNat_of_lt (by omega)

/-- A trip's starts in an array of five axes. -/
theorem starts5 (n : Fin 132) (i : S_.Idx) : (fun k : Fin 5 => ((![(constantI S_ 32 (BitVec.ofNat 32 n.val)), constantI S_ 32 0#32, constantI S_ 32 0#32, constantI S_ 32 0#32, constantI S_ 32 0#32] : Fin 5 → IVec S_ 32) k i).toInt)
    = fun a => ((![n.val, 0, 0, 0, 0] : Fin 5 → ℕ) a : Int) := by
  funext k
  fin_cases k
  · exact count n
  all_goals rfl

/-- A trip's starts in an array of three axes. -/
theorem starts3 (n : Fin 132) (i : S_.Idx) : (fun k : Fin 3 => ((![(constantI S_ 32 (BitVec.ofNat 32 n.val)), constantI S_ 32 0#32, constantI S_ 32 0#32] : Fin 3 → IVec S_ 32) k i).toInt)
    = fun a => ((![n.val, 0, 0] : Fin 3 → ℕ) a : Int) := by
  funext k
  fin_cases k
  · exact count n
  all_goals rfl

section
variable {A B : ℕ}

theorem fits5 (n : Fin 132) : (⟨5, ![132, 2, 32, A, B]⟩ : Shape).Slices ![n.val, 0, 0, 0, 0] ⟨5, ![1, 2, 32, A, B]⟩ := by
  refine ⟨rfl, fun a => ?_⟩
  fin_cases a
  · show n.val + 1 ≤ 132
    omega
  · show 0 + 2 ≤ 2
    omega
  · show 0 + 32 ≤ 32
    omega
  · show 0 + A ≤ A
    omega
  · show 0 + B ≤ B
    omega

/-- A block of the trip's number read off an array of five axes. -/
theorem slice5 (x : (⟨5, ![132, 2, 32, A, B]⟩ : Shape).Idx → EReal) (n : Fin 132) (hf : (⟨5, ![132, 2, 32, A, B]⟩ : Shape).Slices (fun _ => 0) ⟨5, ![1, 2, 32, A, B]⟩)
    (b : Fin 2) (h : Fin 32) (i : Fin A) (j : Fin B) :
    Host.dynamicSlice ⟨5, ![1, 2, 32, A, B]⟩ x (fun a => ((![n.val, 0, 0, 0, 0] : Fin 5 → ℕ) a : Int)) hf (ix5 0 b h i j) = x (ix5 n b h i j) := by
  rw [Host.dynamicSlice_eq_extractStridedSlice _ x _ ![n.val, 0, 0, 0, 0] hf (fits5 n) (fun _ => rfl)]
  pointwise
  congr 1
  funext a
  apply Fin.ext
  fin_cases a
  · rfl
  all_goals exact Nat.zero_add _

theorem fits3 (n : Fin 132) : (⟨3, ![132, 2, 32]⟩ : Shape).Slices ![n.val, 0, 0] ⟨3, ![1, 2, 32]⟩ := by
  refine ⟨rfl, fun a => ?_⟩
  fin_cases a
  · show n.val + 1 ≤ 132
    omega
  · show 0 + 2 ≤ 2
    omega
  · show 0 + 32 ≤ 32
    omega

/-- A block of the trip's number read off an array of three axes. -/
theorem slice3 (x : (⟨3, ![132, 2, 32]⟩ : Shape).Idx → EReal) (n : Fin 132) (hf : (⟨3, ![132, 2, 32]⟩ : Shape).Slices (fun _ => 0) ⟨3, ![1, 2, 32]⟩)
    (b : Fin 2) (h : Fin 32) :
    Host.dynamicSlice ⟨3, ![1, 2, 32]⟩ x (fun a => ((![n.val, 0, 0] : Fin 3 → ℕ) a : Int)) hf (ix3 0 b h) = x (ix3 n b h) := by
  rw [Host.dynamicSlice_eq_extractStridedSlice _ x _ ![n.val, 0, 0] hf (fits3 n) (fun _ => rfl)]
  pointwise

/-- A block of the trip's number written into an array of five axes. -/
theorem update5 (x : (⟨5, ![132, 2, 32, A, B]⟩ : Shape).Idx → EReal) (u : (⟨5, ![1, 2, 32, A, B]⟩ : Shape).Idx → EReal) (n : Fin 132) (hf : (⟨5, ![132, 2, 32, A, B]⟩ : Shape).Slices (fun _ => 0) ⟨5, ![1, 2, 32, A, B]⟩)
    (n' : Fin 132) (b : Fin 2) (h : Fin 32) (i : Fin A) (j : Fin B) :
    Host.dynamicUpdateSlice x u (fun a => ((![n.val, 0, 0, 0, 0] : Fin 5 → ℕ) a : Int)) hf (ix5 n' b h i j) = if n' = n then u (ix5 0 b h i j) else x (ix5 n' b h i j) := by
  rw [Host.dynamicUpdateSlice_eq_updateSlice x u _ hf ![n.val, 0, 0, 0, 0] (fun a => by have := (fits5 (A := A) (B := B) n).2 a; omega) (fits5 n)]
  pointwise
  by_cases hn : n' = n
  · subst hn
    rw [if_pos rfl, dif_pos ⟨le_refl _, Nat.lt_succ_self _⟩]
    congr 1
    funext a
    apply Fin.ext
    fin_cases a
    · exact Nat.sub_self n'.val
    all_goals rfl
  · rw [if_neg hn, dif_neg (fun h => hn (Fin.ext (by omega)))]

end

section
variable (n : Fin 132) (s : State Ideal)

/-- The trip's block of values. -/
theorem trip_u (b : Fin 2) (h : Fin 32) (i : Fin 64) (j : Fin 128) : b5 (F := Ideal) n.val s (ix4 b h i j) = s.main_v47_0 (ix5 n b h i j) := by
  have e : b4 (F := Ideal) n.val s (ix5 0 b h i j) = s.main_v47_0 (ix5 n b h i j) := by
    unfold b4 b0 b1 b2 b3
    rw [starts5]
    exact slice5 s.main_v47_0 n _ b h i j
  pointwise [b5, e]

/-- The trip's block of correcting keys. -/
theorem trip_w (b : Fin 2) (h : Fin 32) (i : Fin 64) (j : Fin 128) : b11 (F := Ideal) n.val s (ix4 b h i j) = s.main_v47_1 (ix5 n b h i j) := by
  have e : b10 (F := Ideal) n.val s (ix5 0 b h i j) = s.main_v47_1 (ix5 n b h i j) := by
    unfold b10 b6 b7 b8 b9
    rw [starts5]
    exact slice5 s.main_v47_1 n _ b h i j
  pointwise [b11, e]

/-- The trip's block of attention. -/
theorem trip_a (b : Fin 2) (h : Fin 32) (i : Fin 64) (j : Fin 64) : b17 (F := Ideal) n.val s (ix4 b h i j) = s.main_v47_2 (ix5 n b h i j) := by
  have e : b16 (F := Ideal) n.val s (ix5 0 b h i j) = s.main_v47_2 (ix5 n b h i j) := by
    unfold b16 b12 b13 b14 b15
    rw [starts5]
    exact slice5 s.main_v47_2 n _ b h i j
  pointwise [b17, e]

/-- The trip's block of decayed queries. -/
theorem trip_q (b : Fin 2) (h : Fin 32) (i : Fin 64) (j : Fin 128) : b23 (F := Ideal) n.val s (ix4 b h i j) = s.main_v47_3 (ix5 n b h i j) := by
  have e : b22 (F := Ideal) n.val s (ix5 0 b h i j) = s.main_v47_3 (ix5 n b h i j) := by
    unfold b22 b18 b19 b20 b21
    rw [starts5]
    exact slice5 s.main_v47_3 n _ b h i j
  pointwise [b23, e]

/-- The trip's block of decayed keys. -/
theorem trip_k (b : Fin 2) (h : Fin 32) (i : Fin 64) (j : Fin 128) : b29 (F := Ideal) n.val s (ix4 b h i j) = s.main_v47_4 (ix5 n b h i j) := by
  have e : b28 (F := Ideal) n.val s (ix5 0 b h i j) = s.main_v47_4 (ix5 n b h i j) := by
    unfold b28 b24 b25 b26 b27
    rw [starts5]
    exact slice5 s.main_v47_4 n _ b h i j
  pointwise [b29, e]

/-- The trip's last decays. -/
theorem trip_g (b : Fin 2) (h : Fin 32) : b33 (F := Ideal) n.val s (ix2 b h) = s.main_v47_5 (ix3 n b h) := by
  have e : b32 (F := Ideal) n.val s (ix3 0 b h) = s.main_v47_5 (ix3 n b h) := by
    unfold b32 b30 b31
    rw [starts3]
    exact slice3 s.main_v47_5 n _ b h
  pointwise [b33, e]

/-- The trip's new values. -/
theorem trip_new (b : Fin 2) (h : Fin 32) (t : Fin 64) (e : Fin 128) : b35 (F := Ideal) n.val s (ix4 b h t e)
    = s.main_v47_0 (ix5 n b h t e) - ∑ d : Fin 128, s.main_v47_1 (ix5 n b h t d) * s.main_v47_7 (ix4 b h d e) := by
  pointwise [b35, b34, trip_u, trip_w]

/-- A trip's new state. -/
theorem state_step (b : Fin 2) (h : Fin 32) (d e : Fin 128) : b43 (F := Ideal) n.val s (ix4 b h d e)
    = s.main_v47_7 (ix4 b h d e) * s.main_v47_5 (ix3 n b h)
      + ∑ t : Fin 64, s.main_v47_4 (ix5 n b h t d) * (s.main_v47_0 (ix5 n b h t e) - ∑ d : Fin 128, s.main_v47_1 (ix5 n b h t d) * s.main_v47_7 (ix4 b h d e)) := by
  pointwise [b43, b42, b41, b40, b39, trip_g, trip_k, trip_new]

/-- A trip's outputs, written at the trip's number. -/
theorem out_step (n' : Fin 132) (b : Fin 2) (h : Fin 32) (t : Fin 64) (e : Fin 128) : b49 (F := Ideal) n.val s (ix5 n' b h t e)
    = if n' = n then ∑ d : Fin 128, s.main_v47_3 (ix5 n b h t d) * s.main_v47_7 (ix4 b h d e)
        + ∑ r : Fin 64, s.main_v47_2 (ix5 n b h t r) * (s.main_v47_0 (ix5 n b h r e) - ∑ d : Fin 128, s.main_v47_1 (ix5 n b h r d) * s.main_v47_7 (ix4 b h d e))
      else s.main_v47_8 (ix5 n' b h t e) := by
  have h44 : b44 (F := Ideal) n.val s (ix5 0 b h t e) = ∑ d : Fin 128, s.main_v47_3 (ix5 n b h t d) * s.main_v47_7 (ix4 b h d e)
        + ∑ r : Fin 64, s.main_v47_2 (ix5 n b h t r) * (s.main_v47_0 (ix5 n b h r e) - ∑ d : Fin 128, s.main_v47_1 (ix5 n b h r d) * s.main_v47_7 (ix4 b h d e)) := by
    pointwise [b44, b38, b37, b36, trip_q, trip_a, trip_new]
  rw [← h44]
  unfold b49 b45 b46 b47 b48
  rw [starts5]
  exact update5 s.main_v47_8 (b44 (F := Ideal) n.val s) n _ n' b h t e

end

/-- The result of a last state. -/
theorem result_at (s : State Ideal) (b : Fin 2) (r : Fin 8448) (l : Fin 4096) :
    R_main_v49 (F := Ideal) s (ix3 b r l)
      = s.main_v47_8 (ix5 ⟨r.val / 64, by omega⟩ b ⟨l.val / 128, by omega⟩ ⟨r.val % 64, by omega⟩ ⟨l.val % 128, by omega⟩) := by
  pointwise [R_main_v49]

end Cert.RuleRef

end
-- ==== Proof.RuleRefRun.lean ====
module

public import proofs.«01_k».proof.Proof.Gen.DeltaRefIdeal.Run
public import proofs.«01_k».proof.Proof.Gen.DeltaRefIdeal.Step

/-! The run of the delta rule's reference as its chunk step iterated: the loop's valuation holds, before trip `j`, the `j`-th
state of the sequence that starts at `init` of the arguments and goes on by `step`. -/

@[expose] public section

noncomputable section

namespace Cert.RuleRef

open Idealize.ShloMosaic Idealize.ShloMosaic.TcCoe Idealize.SL.Sem Idealize.ShloMosaic.StableHlo
open Cert.DeltaRefIdeal Cert.DeltaRefIdeal.Gen Cert.DeltaRefIdeal.Value
open Cert.DeltaRefIdeal.Step

variable {F : FTy → Type} [FloatOps F]

/-- The state a valuation of the loop's buffers holds. -/
def held (W : Valuation τ sig (Elt F)) : State F where
  main_v47_7 := W (Proc.devRef .tc main_v47_7)
  main_v47_8 := W (Proc.devRef .tc main_v47_8)
  main_v47_0 := W (Proc.devRef .tc main_v47_0)
  main_v47_1 := W (Proc.devRef .tc main_v47_1)
  main_v47_2 := W (Proc.devRef .tc main_v47_2)
  main_v47_3 := W (Proc.devRef .tc main_v47_3)
  main_v47_4 := W (Proc.devRef .tc main_v47_4)
  main_v47_5 := W (Proc.devRef .tc main_v47_5)

/-- The valuation's counter holds the trip's number. -/
def Counts (W : Valuation τ sig (Elt F)) (j : ℕ) : Prop :=
  W (Proc.devRef .tc main_v47_6) = constantI S_ 32 (BitVec.ofNat 32 j)

variable {W : Valuation τ sig (Elt F)} {j : ℕ}

set_option maxRecDepth 8192 in
/-- One trip's new recurrent state is the step's. -/
theorem step_state (h : Counts W j) : Value.step_main_v47_7 W = b43 j (held W) := by
  unfold Counts at h
  unfold Value.step_main_v47_7 res_main_while0b_v57 b43 b42 b41 b40 b39 b35 b34 b33 b32 b29 b28 b11 b10 b5 b4 b0 b1 b2 b3 b6 b7 b8 b9 b24 b25 b26 b27 b30 b31 held
  rw [h]
  rfl

set_option maxRecDepth 8192 in
/-- One trip's outputs, with its chunk written, are the step's. -/
theorem step_out (h : Counts W j) : Value.step_main_v47_8 W = b49 j (held W) := by
  unfold Counts at h
  unfold Value.step_main_v47_8 res_main_while0b_v57 b49 b44 b38 b37 b36 b35 b34 b23 b22 b17 b16 b11 b10 b5 b4 b0 b1 b2 b3 b6 b7 b8 b9 b12 b13 b14 b15 b18 b19 b20 b21 b45 b46 b47 b48 held
  rw [h]
  rfl

/-- One trip's counter is the next number. -/
theorem step_count (h : Counts W j) : step_main_v47_6 W = constantI S_ 32 (BitVec.ofNat 32 (j + 1)) := by
  unfold Counts at h
  unfold step_main_v47_6
  rw [h]
  funext i
  show BitVec.ofNat 32 j + 1#32 = BitVec.ofNat 32 (j + 1)
  simp only [BitVec.ofNat_add]

/-- One trip makes `step` of the held state, and counts on. -/
theorem held_step (h : Counts W j) : held (STEP W) = step j (held W) ∧ Counts (STEP W) (j + 1) := by
  refine ⟨?_, (STEP_main_v47_6 W).trans (step_count h)⟩
  unfold step
  rw [← step_state h, ← step_out h]
  unfold held
  rw [STEP_main_v47_0, STEP_main_v47_1, STEP_main_v47_2, STEP_main_v47_3, STEP_main_v47_4, STEP_main_v47_5, STEP_main_v47_7, STEP_main_v47_8]

variable (m : (ℓ : Loc nD τ sig) → Buf (Elt F) ℓ) (c : Dev nD)

/-- The state the first trip starts from. -/
abbrev initState : State F :=
  init (m ((c.tc : Thread nD τ).loc main_arg0)) (m ((c.tc : Thread nD τ).loc main_arg1)) (m ((c.tc : Thread nD τ).loc main_arg2)) (m ((c.tc : Thread nD τ).loc main_arg3))

set_option maxRecDepth 65536 in
set_option maxHeartbeats 600000 in
/-- The loop is entered at the initial state, counter zero. -/
theorem entry : held (entryContents preI m c) = initState m c ∧ Counts (entryContents preI m c) 0 := by
  constructor
  · unfold held initState init
    congr 1 <;> (simp only [entryContents, afterL_cons, afterL_nil]; after_reads_simp) <;> rfl
  · unfold Counts
    (simp only [entryContents, afterL_cons, afterL_nil]; after_reads_simp) <;> rfl

/-- Before trip `k` the loop holds the `k`-th state. -/
theorem held_iter (it : ℕ → State F) (h0 : it 0 = initState m c) (hs : ∀ n, it (n + 1) = step n (it n)) :
    ∀ k, held (STEP^[k] (entryContents preI m c)) = it k ∧ Counts (STEP^[k] (entryContents preI m c)) k
  | 0 => h0 ▸ entry m c
  | k + 1 => by
    have ih := held_iter it h0 hs k
    have h := held_step ih.2
    rw [Function.iterate_succ_apply', hs k, ← ih.1]
    exact h

/-- The result, read off the loop's last valuation, is read off its state. -/
theorem out_held (W : Valuation τ sig (Elt F)) : out_main_v49 W = R_main_v49 (held W) := by
  unfold out_main_v49 R_main_v49 held
  rfl

/-- Every execution of the reference ends with its result read off the last state of the sequence. -/
theorem run_iter (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v49) = R_main_v49 (it c 132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2⟩
    rw [out_held, (held_iter m c (it c) (h0 c) (hs c) 132).1]) (Cert.DeltaRefIdeal.Value.run m ρ)

end Cert.RuleRef

end
-- ==== Proof.DeltaClaim.lean ====
module

public import proofs.«01_k».proof.Proof.RuleFinal
public import proofs.«01_k».proof.Proof.RuleLoop
public import proofs.«01_k».proof.Proof.RuleRefRun
public import proofs.«01_k».proof.Defs
public import Idealize.ShloMosaic.Lib.Claim

/-! The reference's result is the delta rule's output, so the kernel's output array is the reference's. -/

@[expose] public section

set_option maxRecDepth 16384

noncomputable section

namespace Cert.RuleRef

open Idealize.ShloMosaic Idealize.ShloMosaic.TcCoe Idealize.SL.Sem
open Cert.DeltaRefIdeal Cert.DeltaRefIdeal.Step Cert.Rule

variable (a0 : FVec Ideal S2x8448x8192 .f32) (a1 : FVec Ideal S2x8448x2048 .f32) (a2 : FVec Ideal S2x8448x8192 .f32) (a3 : FVec Ideal S2x8448x128 .f32)

/-- Before trip `n` the loop's state is the recurrence's. -/
theorem state_at : ∀ n ≤ 132, ∀ (b : Fin 2) (h : Fin 32) (d e : Fin 128),
    (it a0 a1 a2 a3 n).main_v47_7 (ix4 b h d e) = stateG (UW a0) (QKV a2) (GC a3) b h n d e
  | 0, _, b, h, d, e => by
    show K_main_v45 (F := Ideal) (ix4 b h d e) = 0
    pointwise [K_main_v45, K_main_cst]
  | n + 1, hn, b, h, d, e => by
    obtain ⟨c0, c1, _, _, c4, c5⟩ := it_const a0 a1 a2 a3 n
    show b43 (F := Ideal) n (it a0 a1 a2 a3 n) (ix4 b h d e) = _
    refine (state_step ⟨n, by omega⟩ (it a0 a1 a2 a3 n) b h d e).trans ?_
    rw [c0, c1, c4, c5]
    simp only [state_at n (by omega), last_at, key_at, u_at, w_at]
    show _ = chunkState _ _ _ _ _ d e
    have en : Fin.ofNat 132 n = ⟨n, by omega⟩ := Fin.ext (Nat.mod_eq_of_lt (by omega))
    rw [en]
    rfl

/-- After the trips before `n` their outputs are written. -/
theorem out_at : ∀ n ≤ 132, ∀ (k : Fin 132), k.val < n → ∀ (b : Fin 2) (h : Fin 32) (t : Fin 64) (e : Fin 128),
    (it a0 a1 a2 a3 n).main_v47_8 (ix5 k b h t e) = outC (UW a0) (KD a1) (QKV a2) (GC a3) b h k t e
  | 0, _, k, hk, _, _, _, _ => absurd hk (Nat.not_lt_zero _)
  | n + 1, hn, k, hk, b, h, t, e => by
    obtain ⟨c0, c1, c2, c3, _, _⟩ := it_const a0 a1 a2 a3 n
    show b49 (F := Ideal) n (it a0 a1 a2 a3 n) (ix5 k b h t e) = _
    refine (out_step ⟨n, by omega⟩ (it a0 a1 a2 a3 n) k b h t e).trans ?_
    by_cases hkn : k = ⟨n, by omega⟩
    · rw [if_pos hkn, c0, c1, c2, c3, hkn]
      simp only [query_at, att_at, u_at, w_at, state_at a0 a1 a2 a3 n (by omega)]
      rfl
    · rw [if_neg hkn]
      exact out_at n (by omega) k (by
        have : k.val ≠ n := fun h => hkn (Fin.ext h)
        omega) b h t e

/-- The reference's result is the recurrence's output. -/
theorem result (b : Fin 2) (r : Fin 8448) (l : Fin 4096) :
    R_main_v49 (F := Ideal) (it a0 a1 a2 a3 132) (ix3 b r l) = outG (UW a0) (KD a1) (QKV a2) (GC a3) b r l := by
  rw [result_at, out_at a0 a1 a2 a3 132 le_rfl _ (by show r.val / 64 < 132; omega)]
  rfl

end Cert.RuleRef

namespace Cert.Rule

open Idealize.ShloMosaic Idealize.ShloMosaic.TcCoe Idealize.SL.Sem

/-- The kernel's output array is the reference's result, of equal arguments. -/
theorem same (m : (ℓ : Loc DeltaIdeal.nD DeltaIdeal.τ DeltaIdeal.sig) → Buf (Elt Ideal) ℓ) (c : Dev DeltaIdeal.nD)
    (a0 : FVec Ideal DeltaRefIdeal.S2x8448x8192 .f32) (a1 : FVec Ideal DeltaRefIdeal.S2x8448x2048 .f32)
    (a2 : FVec Ideal DeltaRefIdeal.S2x8448x8192 .f32) (a3 : FVec Ideal DeltaRefIdeal.S2x8448x128 .f32)
    (h0 : m ((c : Thread DeltaIdeal.nD DeltaIdeal.τ).loc DeltaIdeal.main_arg0) = a0)
    (h1 : m ((c : Thread DeltaIdeal.nD DeltaIdeal.τ).loc DeltaIdeal.main_arg1) = a1)
    (h2 : m ((c : Thread DeltaIdeal.nD DeltaIdeal.τ).loc DeltaIdeal.main_arg2) = a2)
    (h3 : m ((c : Thread DeltaIdeal.nD DeltaIdeal.τ).loc DeltaIdeal.main_arg3) = a3) :
    (DeltaIdeal.Gen.dats m 0 c).arrAt 5 DeltaIdeal.cfg0.N = DeltaRefIdeal.Step.R_main_v49 (F := Ideal) (RuleRef.it a0 a1 a2 a3 132) := by
  subst h0 h1 h2 h3
  rw [final]
  funext y
  obtain ⟨b, r, l, rfl⟩ : ∃ b r l, y = ix3 b r l := ⟨y 0, y 1, y 2, by funext k; fin_cases k <;> rfl⟩
  exact (RuleRef.result _ _ _ _ b r l).symm

end Cert.Rule

namespace Cert.DeltaIdeal

open Idealize.ShloMosaic Idealize.ShloMosaic.TcCoe Idealize.SL.Sem

/-- The delta rule's kernel computes what its reference computes. -/
theorem algebraic : Cert.algebraic_DeltaIdeal_DeltaRefIdeal := by
  intro m g m' g' _ hagree
  refine ⟨fun c => DeltaRefIdeal.Step.R_main_v49 (F := Ideal) (RuleRef.it (m' ((c.tc : Thread DeltaRefIdeal.nD DeltaRefIdeal.τ).loc DeltaRefIdeal.main_arg0))
    (m' ((c.tc : Thread DeltaRefIdeal.nD DeltaRefIdeal.τ).loc DeltaRefIdeal.main_arg1)) (m' ((c.tc : Thread DeltaRefIdeal.nD DeltaRefIdeal.τ).loc DeltaRefIdeal.main_arg2))
    (m' ((c.tc : Thread DeltaRefIdeal.nD DeltaRefIdeal.τ).loc DeltaRefIdeal.main_arg3)) 132), ?_, ?_⟩
  · refine (θ_run _ _ _).mono (fun r h c => ?_) (DeltaIdeal.Value.run_blocks (F := Ideal) m g)
    obtain ⟨h0, h'⟩ := h c
    obtain ⟨e0, e1, e2, e3⟩ := hagree c
    exact ⟨h0.trans (Rule.same m c _ _ _ _ e0.symm e1.symm e2.symm e3.symm), h'⟩
  · exact RuleRef.run_iter m' g' (fun c => RuleRef.it _ _ _ _) (fun _ => rfl) (fun _ _ => rfl)

end Cert.DeltaIdeal

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.InEven.Frame
public import proofs.«01_k».proof.Proof.Gen.InEvenIdeal.Frame
public import proofs.«01_k».proof.Proof.Gen.InEvenIdeal.Value
public import proofs.«01_k».proof.Proof.Gen.InOdd.Frame
public import proofs.«01_k».proof.Proof.Gen.InOddIdeal.Frame
public import proofs.«01_k».proof.Proof.Gen.InOddIdeal.Value
public import proofs.«01_k».proof.Proof.Gen.InGate.Frame
public import proofs.«01_k».proof.Proof.Gen.InGateIdeal.Frame
public import proofs.«01_k».proof.Proof.Gen.InGateIdeal.Value
public import proofs.«01_k».proof.Proof.Gen.OutEven.Frame
public import proofs.«01_k».proof.Proof.Gen.OutEvenIdeal.Frame
public import proofs.«01_k».proof.Proof.Gen.OutEvenIdeal.Value
public import proofs.«01_k».proof.Proof.Gen.OutOdd.Frame
public import proofs.«01_k».proof.Proof.Gen.OutOddIdeal.Frame
public import proofs.«01_k».proof.Proof.Gen.OutOddIdeal.Value
public import proofs.«01_k».proof.Proof.Gen.Post.Frame
public import proofs.«01_k».proof.Proof.Gen.PostIdeal.Frame
public import proofs.«01_k».proof.Proof.Gen.PostIdeal.Value
public import proofs.«01_k».proof.Proof.Gen.Delta.Frame
public import proofs.«01_k».proof.Proof.Gen.DeltaIdeal.Frame
public import proofs.«01_k».proof.Proof.Gen.DeltaIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.InEvenRefIdeal.Run
public import proofs.«01_k».proof.Proof.Gen.InEvenRefIdeal.Read
public import proofs.«01_k».proof.Proof.Gen.InOddRefIdeal.Run
public import proofs.«01_k».proof.Proof.Gen.InOddRefIdeal.Read
public import proofs.«01_k».proof.Proof.Gen.InGateRefIdeal.Run
public import proofs.«01_k».proof.Proof.Gen.InGateRefIdeal.Read
public import proofs.«01_k».proof.Proof.Gen.OutEvenRefIdeal.Run
public import proofs.«01_k».proof.Proof.Gen.OutEvenRefIdeal.Read
public import proofs.«01_k».proof.Proof.Gen.OutOddRefIdeal.Run
public import proofs.«01_k».proof.Proof.Gen.OutOddRefIdeal.Read
public import proofs.«01_k».proof.Proof.Gen.PostRefIdeal.Run
public import proofs.«01_k».proof.Proof.Gen.PostRefIdeal.Read
public import proofs.«01_k».proof.Proof.Gen.DeltaRefIdeal.Run
public import proofs.«01_k».proof.Proof.Gen.DeltaRefIdeal.Step
public import proofs.«01_k».proof.Proof.Gen.DeltaRefIdeal
public import proofs.«01_k».proof.Proof.ScanClaim
public import proofs.«01_k».proof.Proof.InEvenClaim
public import proofs.«01_k».proof.Proof.InOddClaim
public import proofs.«01_k».proof.Proof.InGateClaim
public import proofs.«01_k».proof.Proof.OutEvenClaim
public import proofs.«01_k».proof.Proof.OutOddClaim
public import proofs.«01_k».proof.Proof.PostClaim
public import proofs.«01_k».proof.Proof.DeltaClaim
public import Idealize.ShloMosaic.Adequacy
public import Idealize.ShloMosaic.Init

/-! The certificate: the frames and the value claims of the programs, put together. -/

@[expose] public section

noncomputable section

namespace Cert.Proof

open Idealize.ShloMosaic Idealize.SL.Sem

/-- The reference of `Kernel` terminates, leaves its arguments unchanged and declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of `InEven` terminates, leaves its arguments unchanged and declares no semaphore. -/
theorem frame_InEvenRefIdeal : Cert.quiescent_InEvenRefIdeal := fun m ρ _ =>
  (θ_run Cert.InEvenRefIdeal.defs _ _).mono (fun r h => ⟨fun c => (h c).2, sem_eq_zero_of_no_sems (by decide) r.2⟩)
    (Cert.InEvenRefIdeal.Value.run (F := Ideal) m ρ)

/-- The reference of `InOdd` terminates, leaves its arguments unchanged and declares no semaphore. -/
theorem frame_InOddRefIdeal : Cert.quiescent_InOddRefIdeal := fun m ρ _ =>
  (θ_run Cert.InOddRefIdeal.defs _ _).mono (fun r h => ⟨fun c => (h c).2, sem_eq_zero_of_no_sems (by decide) r.2⟩)
    (Cert.InOddRefIdeal.Value.run (F := Ideal) m ρ)

/-- The reference of `InGate` terminates, leaves its arguments unchanged and declares no semaphore. -/
theorem frame_InGateRefIdeal : Cert.quiescent_InGateRefIdeal := fun m ρ _ =>
  (θ_run Cert.InGateRefIdeal.defs _ _).mono (fun r h => ⟨fun c => (h c).2, sem_eq_zero_of_no_sems (by decide) r.2⟩)
    (Cert.InGateRefIdeal.Value.run (F := Ideal) m ρ)

/-- The reference of `OutEven` terminates, leaves its arguments unchanged and declares no semaphore. -/
theorem frame_OutEvenRefIdeal : Cert.quiescent_OutEvenRefIdeal := fun m ρ _ =>
  (θ_run Cert.OutEvenRefIdeal.defs _ _).mono (fun r h => ⟨fun c => (h c).2, sem_eq_zero_of_no_sems (by decide) r.2⟩)
    (Cert.OutEvenRefIdeal.Value.run (F := Ideal) m ρ)

/-- The reference of `OutOdd` terminates, leaves its arguments unchanged and declares no semaphore. -/
theorem frame_OutOddRefIdeal : Cert.quiescent_OutOddRefIdeal := fun m ρ _ =>
  (θ_run Cert.OutOddRefIdeal.defs _ _).mono (fun r h => ⟨fun c => (h c).2, sem_eq_zero_of_no_sems (by decide) r.2⟩)
    (Cert.OutOddRefIdeal.Value.run (F := Ideal) m ρ)

/-- The reference of `Post` terminates, leaves its arguments unchanged and declares no semaphore. -/
theorem frame_PostRefIdeal : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- The reference of `Delta` terminates, leaves its arguments unchanged and declares no semaphore. -/
theorem frame_DeltaRefIdeal : Cert.quiescent_DeltaRefIdeal := fun m ρ _ =>
  (θ_run Cert.DeltaRefIdeal.defs _ _).mono (fun r h => ⟨fun c => (h c).2, sem_eq_zero_of_no_sems (by decide) r.2⟩)
    (Cert.DeltaRefIdeal.Value.run (F := Ideal) m ρ)

/-- Every claim of the certificate. -/
theorem claim : Cert.Claim :=
  ⟨Cert.Kernel.Gen.facts,
    Cert.KernelIdeal.Gen.facts,
    Cert.ReferenceIdeal.Gen.facts,
    Cert.InEven.Gen.facts,
    Cert.InEvenIdeal.Gen.facts,
    Cert.InEvenRefIdeal.Gen.facts,
    Cert.InOdd.Gen.facts,
    Cert.InOddIdeal.Gen.facts,
    Cert.InOddRefIdeal.Gen.facts,
    Cert.InGate.Gen.facts,
    Cert.InGateIdeal.Gen.facts,
    Cert.InGateRefIdeal.Gen.facts,
    Cert.OutEven.Gen.facts,
    Cert.OutEvenIdeal.Gen.facts,
    Cert.OutEvenRefIdeal.Gen.facts,
    Cert.OutOdd.Gen.facts,
    Cert.OutOddIdeal.Gen.facts,
    Cert.OutOddRefIdeal.Gen.facts,
    Cert.Post.Gen.facts,
    Cert.PostIdeal.Gen.facts,
    Cert.PostRefIdeal.Gen.facts,
    Cert.Delta.Gen.facts,
    Cert.DeltaIdeal.Gen.facts,
    Cert.DeltaRefIdeal.Gen.facts,
    fun m ρ _ => Cert.Kernel.Gen.frame m ρ,
    fun m ρ _ => Cert.KernelIdeal.Gen.frame m ρ,
    frame_ReferenceIdeal,
    fun m ρ _ => Cert.InEven.Gen.frame m ρ,
    fun m ρ _ => Cert.InEvenIdeal.Gen.frame m ρ,
    frame_InEvenRefIdeal,
    fun m ρ _ => Cert.InOdd.Gen.frame m ρ,
    fun m ρ _ => Cert.InOddIdeal.Gen.frame m ρ,
    frame_InOddRefIdeal,
    fun m ρ _ => Cert.InGate.Gen.frame m ρ,
    fun m ρ _ => Cert.InGateIdeal.Gen.frame m ρ,
    frame_InGateRefIdeal,
    fun m ρ _ => Cert.OutEven.Gen.frame m ρ,
    fun m ρ _ => Cert.OutEvenIdeal.Gen.frame m ρ,
    frame_OutEvenRefIdeal,
    fun m ρ _ => Cert.OutOdd.Gen.frame m ρ,
    fun m ρ _ => Cert.OutOddIdeal.Gen.frame m ρ,
    frame_OutOddRefIdeal,
    fun m ρ _ => Cert.Post.Gen.frame m ρ,
    fun m ρ _ => Cert.PostIdeal.Gen.frame m ρ,
    frame_PostRefIdeal,
    fun m ρ _ => Cert.Delta.Gen.frame m ρ,
    fun m ρ _ => Cert.DeltaIdeal.Gen.frame m ρ,
    frame_DeltaRefIdeal,
    trivial,
    Cert.Scan.algebraic,
    trivial,
    Cert.InEvenIdeal.algebraic,
    trivial,
    Cert.InOddIdeal.algebraic,
    trivial,
    Cert.InGateIdeal.algebraic,
    trivial,
    Cert.OutEvenIdeal.algebraic,
    trivial,
    Cert.OutOddIdeal.algebraic,
    trivial,
    Cert.PostIdeal.algebraic,
    trivial,
    Cert.DeltaIdeal.algebraic⟩

end Cert.Proof

end
